-- ==== Defs.lean ====
def Pre_Flash (m : (ℓ : Loc Cert.Flash.nD Cert.Flash.τ Cert.Flash.sig) → Buf (Elt Bits) ℓ) : Prop :=
  True

def Pre_FlashIdeal (m : (ℓ : Loc Cert.FlashIdeal.nD Cert.FlashIdeal.τ Cert.FlashIdeal.sig) → Buf (Elt Ideal) ℓ) : Prop :=
  True

def Pre_FlashIdeal_finite [hPre_finite : Cert.Pre_finite.Facts] (m : (ℓ : Loc Cert.FlashIdeal.nD Cert.FlashIdeal.τ Cert.FlashIdeal.sig) → Buf (Elt Ideal) ℓ) : Prop :=
  ∀ c : Dev Cert.FlashIdeal.nD,
    (Cert.Pre_finite.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2))) = (fun _ => 1#1)

def Pre_AttentionIdeal (m : (ℓ : Loc Cert.AttentionIdeal.nD Cert.AttentionIdeal.τ Cert.AttentionIdeal.sig) → Buf (Elt Ideal) ℓ) : Prop :=
  True

def Pre_AttentionIdeal_finite [hPre_finite : Cert.Pre_finite.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_routed [hPre_routed : Cert.Pre_routed.Facts] (m : (ℓ : Loc Cert.MoeIdeal.nD Cert.MoeIdeal.τ Cert.MoeIdeal.sig) → Buf (Elt Ideal) ℓ) : Prop :=
  ∀ c : Dev Cert.MoeIdeal.nD,
    (Cert.Pre_routed.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_routed [hPre_routed : Cert.Pre_routed.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_routed.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))) = (fun _ => 1#1)

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjRefIdeal (m : (ℓ : Loc Cert.KvProjRefIdeal.nD Cert.KvProjRefIdeal.τ Cert.KvProjRefIdeal.sig) → Buf (Elt Ideal) ℓ) : Prop :=
  True

def Pre_LogForget (m : (ℓ : Loc Cert.LogForget.nD Cert.LogForget.τ Cert.LogForget.sig) → Buf (Elt Bits) ℓ) : Prop :=
  True

def Pre_LogForgetIdeal (m : (ℓ : Loc Cert.LogForgetIdeal.nD Cert.LogForgetIdeal.τ Cert.LogForgetIdeal.sig) → Buf (Elt Ideal) ℓ) : Prop :=
  True

def Pre_LogForgetRefIdeal (m : (ℓ : Loc Cert.LogForgetRefIdeal.nD Cert.LogForgetRefIdeal.τ Cert.LogForgetRefIdeal.sig) → Buf (Elt Ideal) ℓ) : Prop :=
  True

def Pre_QProj (m : (ℓ : Loc Cert.QProj.nD Cert.QProj.τ Cert.QProj.sig) → Buf (Elt Bits) ℓ) : Prop :=
  True

def Pre_QProjIdeal (m : (ℓ : Loc Cert.QProjIdeal.nD Cert.QProjIdeal.τ Cert.QProjIdeal.sig) → Buf (Elt Ideal) ℓ) : Prop :=
  True

def Pre_QProjRefIdeal (m : (ℓ : Loc Cert.QProjRefIdeal.nD Cert.QProjRefIdeal.τ Cert.QProjRefIdeal.sig) → Buf (Elt Ideal) ℓ) : Prop :=
  True

def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjRefIdeal (m : (ℓ : Loc Cert.OProjRefIdeal.nD Cert.OProjRefIdeal.τ Cert.OProjRefIdeal.sig) → Buf (Elt Ideal) ℓ) : Prop :=
  True

def Pre_KvSample (m : (ℓ : Loc Cert.KvSample.nD Cert.KvSample.τ Cert.KvSample.sig) → Buf (Elt Bits) ℓ) : Prop :=
  True

def Pre_KvSampleIdeal (m : (ℓ : Loc Cert.KvSampleIdeal.nD Cert.KvSampleIdeal.τ Cert.KvSampleIdeal.sig) → Buf (Elt Ideal) ℓ) : Prop :=
  True

def Pre_KvSampleRefIdeal (m : (ℓ : Loc Cert.KvSampleRefIdeal.nD Cert.KvSampleRefIdeal.τ Cert.KvSampleRefIdeal.sig) → Buf (Elt Ideal) ℓ) : Prop :=
  True

def Pre_ForgetSample (m : (ℓ : Loc Cert.ForgetSample.nD Cert.ForgetSample.τ Cert.ForgetSample.sig) → Buf (Elt Bits) ℓ) : Prop :=
  True

def Pre_ForgetSampleIdeal (m : (ℓ : Loc Cert.ForgetSampleIdeal.nD Cert.ForgetSampleIdeal.τ Cert.ForgetSampleIdeal.sig) → Buf (Elt Ideal) ℓ) : Prop :=
  True

def Pre_ForgetSampleRefIdeal (m : (ℓ : Loc Cert.ForgetSampleRefIdeal.nD Cert.ForgetSampleRefIdeal.τ Cert.ForgetSampleRefIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def Pre_MixSample (m : (ℓ : Loc Cert.MixSample.nD Cert.MixSample.τ Cert.MixSample.sig) → Buf (Elt Bits) ℓ) : Prop :=
  True

def Pre_MixSampleIdeal (m : (ℓ : Loc Cert.MixSampleIdeal.nD Cert.MixSampleIdeal.τ Cert.MixSampleIdeal.sig) → Buf (Elt Ideal) ℓ) : Prop :=
  True

def Pre_MixSampleRefIdeal (m : (ℓ : Loc Cert.MixSampleRefIdeal.nD Cert.MixSampleRefIdeal.τ Cert.MixSampleRefIdeal.sig) → Buf (Elt Ideal) ℓ) : Prop :=
  True

def quiescent_Flash [hFlash : Cert.Flash.Facts] : Prop :=
  ∀ (m : (ℓ : Loc Cert.Flash.nD Cert.Flash.τ Cert.Flash.sig) → Buf (Elt Bits) ℓ) (g : Dev Cert.Flash.nD → PrngReg), Pre_Flash m →
    θ_run (Cert.Flash.defs (F := Bits)) (onTc (τ := Cert.Flash.τ) (Cert.Flash.main (F := Bits))) ⟨m, fun _ => 0, g⟩ (fun r => (∀ c : Dev Cert.Flash.nD,
      r.2.mem ((c.tc : Thread Cert.Flash.nD Cert.Flash.τ).loc Cert.Flash.main_arg0) = m ((c.tc : Thread Cert.Flash.nD Cert.Flash.τ).loc Cert.Flash.main_arg0)
      ∧ r.2.mem ((c.tc : Thread Cert.Flash.nD Cert.Flash.τ).loc Cert.Flash.main_arg1) = m ((c.tc : Thread Cert.Flash.nD Cert.Flash.τ).loc Cert.Flash.main_arg1)
      ∧ r.2.mem ((c.tc : Thread Cert.Flash.nD Cert.Flash.τ).loc Cert.Flash.main_arg2) = m ((c.tc : Thread Cert.Flash.nD Cert.Flash.τ).loc Cert.Flash.main_arg2))
      ∧ r.2.sem = fun _ => 0)

def quiescent_FlashIdeal [hFlashIdeal : Cert.FlashIdeal.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ r.2.sem = fun _ => 0)

def quiescent_FlashIdeal_pre_finite [hFlashIdeal : Cert.FlashIdeal.Facts] [hPre_finite : Cert.Pre_finite.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal_finite m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionIdeal_pre_finite [hAttentionIdeal : Cert.AttentionIdeal.Facts] [hPre_finite : Cert.Pre_finite.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeIdeal_pre_routed [hMoeIdeal : Cert.MoeIdeal.Facts] [hPre_routed : Cert.Pre_routed.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_routed m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_MoeRefIdeal_pre_routed [hMoeRefIdeal : Cert.MoeRefIdeal.Facts] [hPre_routed : Cert.Pre_routed.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_routed m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1)
      ∧ r.2.mem ((c.tc : Thread Cert.KvProj.nD Cert.KvProj.τ).loc Cert.KvProj.main_arg2) = m ((c.tc : Thread Cert.KvProj.nD Cert.KvProj.τ).loc Cert.KvProj.main_arg2)
      ∧ r.2.mem ((c.tc : Thread Cert.KvProj.nD Cert.KvProj.τ).loc Cert.KvProj.main_arg3) = m ((c.tc : Thread Cert.KvProj.nD Cert.KvProj.τ).loc Cert.KvProj.main_arg3))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
      ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2)
      ∧ r.2.mem ((c.tc : Thread Cert.KvProjIdeal.nD Cert.KvProjIdeal.τ).loc Cert.KvProjIdeal.main_arg3) = m ((c.tc : Thread Cert.KvProjIdeal.nD Cert.KvProjIdeal.τ).loc Cert.KvProjIdeal.main_arg3))
      ∧ r.2.sem = fun _ => 0)

def quiescent_KvProjRefIdeal [hKvProjRefIdeal : Cert.KvProjRefIdeal.Facts] : Prop :=
  ∀ (m : (ℓ : Loc Cert.KvProjRefIdeal.nD Cert.KvProjRefIdeal.τ Cert.KvProjRefIdeal.sig) → Buf (Elt Ideal) ℓ) (g : Dev Cert.KvProjRefIdeal.nD → PrngReg), Pre_KvProjRefIdeal m →
    θ_run (Cert.KvProjRefIdeal.defs (F := Ideal)) (onTc (τ := Cert.KvProjRefIdeal.τ) (Cert.KvProjRefIdeal.main (F := Ideal))) ⟨m, fun _ => 0, g⟩ (fun r => (∀ c : Dev Cert.KvProjRefIdeal.nD,
      r.2.mem ((c.tc : Thread Cert.KvProjRefIdeal.nD Cert.KvProjRefIdeal.τ).loc Cert.KvProjRefIdeal.main_arg0) = m ((c.tc : Thread Cert.KvProjRefIdeal.nD Cert.KvProjRefIdeal.τ).loc Cert.KvProjRefIdeal.main_arg0)
      ∧ r.2.mem ((c.tc : Thread Cert.KvProjRefIdeal.nD Cert.KvProjRefIdeal.τ).loc Cert.KvProjRefIdeal.main_arg1) = m ((c.tc : Thread Cert.KvProjRefIdeal.nD Cert.KvProjRefIdeal.τ).loc Cert.KvProjRefIdeal.main_arg1)
      ∧ r.2.mem ((c.tc : Thread Cert.KvProjRefIdeal.nD Cert.KvProjRefIdeal.τ).loc Cert.KvProjRefIdeal.main_arg2) = m ((c.tc : Thread Cert.KvProjRefIdeal.nD Cert.KvProjRefIdeal.τ).loc Cert.KvProjRefIdeal.main_arg2)
      ∧ r.2.mem ((c.tc : Thread Cert.KvProjRefIdeal.nD Cert.KvProjRefIdeal.τ).loc Cert.KvProjRefIdeal.main_arg3) = m ((c.tc : Thread Cert.KvProjRefIdeal.nD Cert.KvProjRefIdeal.τ).loc Cert.KvProjRefIdeal.main_arg3))
      ∧ r.2.sem = fun _ => 0)

def quiescent_LogForget [hLogForget : Cert.LogForget.Facts] : Prop :=
  ∀ (m : (ℓ : Loc Cert.LogForget.nD Cert.LogForget.τ Cert.LogForget.sig) → Buf (Elt Bits) ℓ) (g : Dev Cert.LogForget.nD → PrngReg), Pre_LogForget m →
    θ_run (Cert.LogForget.defs (F := Bits)) (onTc (τ := Cert.LogForget.τ) (Cert.LogForget.main (F := Bits))) ⟨m, fun _ => 0, g⟩ (fun r => (∀ c : Dev Cert.LogForget.nD,
      r.2.mem ((c.tc : Thread Cert.LogForget.nD Cert.LogForget.τ).loc Cert.LogForget.main_arg0) = m ((c.tc : Thread Cert.LogForget.nD Cert.LogForget.τ).loc Cert.LogForget.main_arg0)
      ∧ r.2.mem ((c.tc : Thread Cert.LogForget.nD Cert.LogForget.τ).loc Cert.LogForget.main_arg1) = m ((c.tc : Thread Cert.LogForget.nD Cert.LogForget.τ).loc Cert.LogForget.main_arg1)
      ∧ r.2.mem ((c.tc : Thread Cert.LogForget.nD Cert.LogForget.τ).loc Cert.LogForget.main_arg2) = m ((c.tc : Thread Cert.LogForget.nD Cert.LogForget.τ).loc Cert.LogForget.main_arg2)
      ∧ r.2.mem ((c.tc : Thread Cert.LogForget.nD Cert.LogForget.τ).loc Cert.LogForget.main_arg3) = m ((c.tc : Thread Cert.LogForget.nD Cert.LogForget.τ).loc Cert.LogForget.main_arg3))
      ∧ r.2.sem = fun _ => 0)

def quiescent_LogForgetIdeal [hLogForgetIdeal : Cert.LogForgetIdeal.Facts] : Prop :=
  ∀ (m : (ℓ : Loc Cert.LogForgetIdeal.nD Cert.LogForgetIdeal.τ Cert.LogForgetIdeal.sig) → Buf (Elt Ideal) ℓ) (g : Dev Cert.LogForgetIdeal.nD → PrngReg), Pre_LogForgetIdeal m →
    θ_run (Cert.LogForgetIdeal.defs (F := Ideal)) (onTc (τ := Cert.LogForgetIdeal.τ) (Cert.LogForgetIdeal.main (F := Ideal))) ⟨m, fun _ => 0, g⟩ (fun r => (∀ c : Dev Cert.LogForgetIdeal.nD,
      r.2.mem ((c.tc : Thread Cert.LogForgetIdeal.nD Cert.LogForgetIdeal.τ).loc Cert.LogForgetIdeal.main_arg0) = m ((c.tc : Thread Cert.LogForgetIdeal.nD Cert.LogForgetIdeal.τ).loc Cert.LogForgetIdeal.main_arg0)
      ∧ r.2.mem ((c.tc : Thread Cert.LogForgetIdeal.nD Cert.LogForgetIdeal.τ).loc Cert.LogForgetIdeal.main_arg1) = m ((c.tc : Thread Cert.LogForgetIdeal.nD Cert.LogForgetIdeal.τ).loc Cert.LogForgetIdeal.main_arg1)
      ∧ r.2.mem ((c.tc : Thread Cert.LogForgetIdeal.nD Cert.LogForgetIdeal.τ).loc Cert.LogForgetIdeal.main_arg2) = m ((c.tc : Thread Cert.LogForgetIdeal.nD Cert.LogForgetIdeal.τ).loc Cert.LogForgetIdeal.main_arg2)
      ∧ r.2.mem ((c.tc : Thread Cert.LogForgetIdeal.nD Cert.LogForgetIdeal.τ).loc Cert.LogForgetIdeal.main_arg3) = m ((c.tc : Thread Cert.LogForgetIdeal.nD Cert.LogForgetIdeal.τ).loc Cert.LogForgetIdeal.main_arg3))
      ∧ r.2.sem = fun _ => 0)

def quiescent_LogForgetRefIdeal [hLogForgetRefIdeal : Cert.LogForgetRefIdeal.Facts] : Prop :=
  ∀ (m : (ℓ : Loc Cert.LogForgetRefIdeal.nD Cert.LogForgetRefIdeal.τ Cert.LogForgetRefIdeal.sig) → Buf (Elt Ideal) ℓ) (g : Dev Cert.LogForgetRefIdeal.nD → PrngReg), Pre_LogForgetRefIdeal m →
    θ_run (Cert.LogForgetRefIdeal.defs (F := Ideal)) (onTc (τ := Cert.LogForgetRefIdeal.τ) (Cert.LogForgetRefIdeal.main (F := Ideal))) ⟨m, fun _ => 0, g⟩ (fun r => (∀ c : Dev Cert.LogForgetRefIdeal.nD,
      r.2.mem ((c.tc : Thread Cert.LogForgetRefIdeal.nD Cert.LogForgetRefIdeal.τ).loc Cert.LogForgetRefIdeal.main_arg0) = m ((c.tc : Thread Cert.LogForgetRefIdeal.nD Cert.LogForgetRefIdeal.τ).loc Cert.LogForgetRefIdeal.main_arg0)
      ∧ r.2.mem ((c.tc : Thread Cert.LogForgetRefIdeal.nD Cert.LogForgetRefIdeal.τ).loc Cert.LogForgetRefIdeal.main_arg1) = m ((c.tc : Thread Cert.LogForgetRefIdeal.nD Cert.LogForgetRefIdeal.τ).loc Cert.LogForgetRefIdeal.main_arg1)
      ∧ r.2.mem ((c.tc : Thread Cert.LogForgetRefIdeal.nD Cert.LogForgetRefIdeal.τ).loc Cert.LogForgetRefIdeal.main_arg2) = m ((c.tc : Thread Cert.LogForgetRefIdeal.nD Cert.LogForgetRefIdeal.τ).loc Cert.LogForgetRefIdeal.main_arg2)
      ∧ r.2.mem ((c.tc : Thread Cert.LogForgetRefIdeal.nD Cert.LogForgetRefIdeal.τ).loc Cert.LogForgetRefIdeal.main_arg3) = m ((c.tc : Thread Cert.LogForgetRefIdeal.nD Cert.LogForgetRefIdeal.τ).loc Cert.LogForgetRefIdeal.main_arg3))
      ∧ r.2.sem = fun _ => 0)

def quiescent_QProj [hQProj : Cert.QProj.Facts] : Prop :=
  ∀ (m : (ℓ : Loc Cert.QProj.nD Cert.QProj.τ Cert.QProj.sig) → Buf (Elt Bits) ℓ) (g : Dev Cert.QProj.nD → PrngReg), Pre_QProj m →
    θ_run (Cert.QProj.defs (F := Bits)) (onTc (τ := Cert.QProj.τ) (Cert.QProj.main (F := Bits))) ⟨m, fun _ => 0, g⟩ (fun r => (∀ c : Dev Cert.QProj.nD,
      r.2.mem ((c.tc : Thread Cert.QProj.nD Cert.QProj.τ).loc Cert.QProj.main_arg0) = m ((c.tc : Thread Cert.QProj.nD Cert.QProj.τ).loc Cert.QProj.main_arg0)
      ∧ r.2.mem ((c.tc : Thread Cert.QProj.nD Cert.QProj.τ).loc Cert.QProj.main_arg1) = m ((c.tc : Thread Cert.QProj.nD Cert.QProj.τ).loc Cert.QProj.main_arg1)
      ∧ r.2.mem ((c.tc : Thread Cert.QProj.nD Cert.QProj.τ).loc Cert.QProj.main_arg2) = m ((c.tc : Thread Cert.QProj.nD Cert.QProj.τ).loc Cert.QProj.main_arg2)
      ∧ r.2.mem ((c.tc : Thread Cert.QProj.nD Cert.QProj.τ).loc Cert.QProj.main_arg3) = m ((c.tc : Thread Cert.QProj.nD Cert.QProj.τ).loc Cert.QProj.main_arg3))
      ∧ r.2.sem = fun _ => 0)

def quiescent_QProjIdeal [hQProjIdeal : Cert.QProjIdeal.Facts] : Prop :=
  ∀ (m : (ℓ : Loc Cert.QProjIdeal.nD Cert.QProjIdeal.τ Cert.QProjIdeal.sig) → Buf (Elt Ideal) ℓ) (g : Dev Cert.QProjIdeal.nD → PrngReg), Pre_QProjIdeal m →
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
      ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2)
      ∧ r.2.mem ((c.tc : Thread Cert.QProjIdeal.nD Cert.QProjIdeal.τ).loc Cert.QProjIdeal.main_arg3) = m ((c.tc : Thread Cert.QProjIdeal.nD Cert.QProjIdeal.τ).loc Cert.QProjIdeal.main_arg3))
      ∧ r.2.sem = fun _ => 0)

def quiescent_QProjRefIdeal [hQProjRefIdeal : Cert.QProjRefIdeal.Facts] : Prop :=
  ∀ (m : (ℓ : Loc Cert.QProjRefIdeal.nD Cert.QProjRefIdeal.τ Cert.QProjRefIdeal.sig) → Buf (Elt Ideal) ℓ) (g : Dev Cert.QProjRefIdeal.nD → PrngReg), Pre_QProjRefIdeal m →
    θ_run (Cert.QProjRefIdeal.defs (F := Ideal)) (onTc (τ := Cert.QProjRefIdeal.τ) (Cert.QProjRefIdeal.main (F := Ideal))) ⟨m, fun _ => 0, g⟩ (fun r => (∀ c : Dev Cert.QProjRefIdeal.nD,
      r.2.mem ((c.tc : Thread Cert.QProjRefIdeal.nD Cert.QProjRefIdeal.τ).loc Cert.QProjRefIdeal.main_arg0) = m ((c.tc : Thread Cert.QProjRefIdeal.nD Cert.QProjRefIdeal.τ).loc Cert.QProjRefIdeal.main_arg0)
      ∧ r.2.mem ((c.tc : Thread Cert.QProjRefIdeal.nD Cert.QProjRefIdeal.τ).loc Cert.QProjRefIdeal.main_arg1) = m ((c.tc : Thread Cert.QProjRefIdeal.nD Cert.QProjRefIdeal.τ).loc Cert.QProjRefIdeal.main_arg1)
      ∧ r.2.mem ((c.tc : Thread Cert.QProjRefIdeal.nD Cert.QProjRefIdeal.τ).loc Cert.QProjRefIdeal.main_arg2) = m ((c.tc : Thread Cert.QProjRefIdeal.nD Cert.QProjRefIdeal.τ).loc Cert.QProjRefIdeal.main_arg2)
      ∧ r.2.mem ((c.tc : Thread Cert.QProjRefIdeal.nD Cert.QProjRefIdeal.τ).loc Cert.QProjRefIdeal.main_arg3) = m ((c.tc : Thread Cert.QProjRefIdeal.nD Cert.QProjRefIdeal.τ).loc Cert.QProjRefIdeal.main_arg3))
      ∧ r.2.sem = fun _ => 0)

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1)
      ∧ r.2.mem ((c.tc : Thread Cert.OProj.nD Cert.OProj.τ).loc Cert.OProj.main_arg2) = m ((c.tc : Thread Cert.OProj.nD Cert.OProj.τ).loc Cert.OProj.main_arg2))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2))
      ∧ r.2.sem = fun _ => 0)

def quiescent_OProjRefIdeal [hOProjRefIdeal : Cert.OProjRefIdeal.Facts] : Prop :=
  ∀ (m : (ℓ : Loc Cert.OProjRefIdeal.nD Cert.OProjRefIdeal.τ Cert.OProjRefIdeal.sig) → Buf (Elt Ideal) ℓ) (g : Dev Cert.OProjRefIdeal.nD → PrngReg), Pre_OProjRefIdeal m →
    θ_run (Cert.OProjRefIdeal.defs (F := Ideal)) (onTc (τ := Cert.OProjRefIdeal.τ) (Cert.OProjRefIdeal.main (F := Ideal))) ⟨m, fun _ => 0, g⟩ (fun r => (∀ c : Dev Cert.OProjRefIdeal.nD,
      r.2.mem ((c.tc : Thread Cert.OProjRefIdeal.nD Cert.OProjRefIdeal.τ).loc Cert.OProjRefIdeal.main_arg0) = m ((c.tc : Thread Cert.OProjRefIdeal.nD Cert.OProjRefIdeal.τ).loc Cert.OProjRefIdeal.main_arg0)
      ∧ r.2.mem ((c.tc : Thread Cert.OProjRefIdeal.nD Cert.OProjRefIdeal.τ).loc Cert.OProjRefIdeal.main_arg1) = m ((c.tc : Thread Cert.OProjRefIdeal.nD Cert.OProjRefIdeal.τ).loc Cert.OProjRefIdeal.main_arg1)
      ∧ r.2.mem ((c.tc : Thread Cert.OProjRefIdeal.nD Cert.OProjRefIdeal.τ).loc Cert.OProjRefIdeal.main_arg2) = m ((c.tc : Thread Cert.OProjRefIdeal.nD Cert.OProjRefIdeal.τ).loc Cert.OProjRefIdeal.main_arg2))
      ∧ r.2.sem = fun _ => 0)

def quiescent_KvSample [hKvSample : Cert.KvSample.Facts] : Prop :=
  ∀ (m : (ℓ : Loc Cert.KvSample.nD Cert.KvSample.τ Cert.KvSample.sig) → Buf (Elt Bits) ℓ) (g : Dev Cert.KvSample.nD → PrngReg), Pre_KvSample m →
    θ_run (Cert.KvSample.defs (F := Bits)) (onTc (τ := Cert.KvSample.τ) (Cert.KvSample.main (F := Bits))) ⟨m, fun _ => 0, g⟩ (fun r => (∀ c : Dev Cert.KvSample.nD,
      r.2.mem ((c.tc : Thread Cert.KvSample.nD Cert.KvSample.τ).loc Cert.KvSample.main_arg0) = m ((c.tc : Thread Cert.KvSample.nD Cert.KvSample.τ).loc Cert.KvSample.main_arg0)
      ∧ r.2.mem ((c.tc : Thread Cert.KvSample.nD Cert.KvSample.τ).loc Cert.KvSample.main_arg1) = m ((c.tc : Thread Cert.KvSample.nD Cert.KvSample.τ).loc Cert.KvSample.main_arg1)
      ∧ r.2.mem ((c.tc : Thread Cert.KvSample.nD Cert.KvSample.τ).loc Cert.KvSample.main_arg2) = m ((c.tc : Thread Cert.KvSample.nD Cert.KvSample.τ).loc Cert.KvSample.main_arg2)
      ∧ r.2.mem ((c.tc : Thread Cert.KvSample.nD Cert.KvSample.τ).loc Cert.KvSample.main_arg3) = m ((c.tc : Thread Cert.KvSample.nD Cert.KvSample.τ).loc Cert.KvSample.main_arg3))
      ∧ r.2.sem = fun _ => 0)

def quiescent_KvSampleIdeal [hKvSampleIdeal : Cert.KvSampleIdeal.Facts] : Prop :=
  ∀ (m : (ℓ : Loc Cert.KvSampleIdeal.nD Cert.KvSampleIdeal.τ Cert.KvSampleIdeal.sig) → Buf (Elt Ideal) ℓ) (g : Dev Cert.KvSampleIdeal.nD → PrngReg), Pre_KvSampleIdeal m →
    θ_run (Cert.KvSampleIdeal.defs (F := Ideal)) (onTc (τ := Cert.KvSampleIdeal.τ) (Cert.KvSampleIdeal.main (F := Ideal))) ⟨m, fun _ => 0, g⟩ (fun r => (∀ c : Dev Cert.KvSampleIdeal.nD,
      r.2.mem ((c.tc : Thread Cert.KvSampleIdeal.nD Cert.KvSampleIdeal.τ).loc Cert.KvSampleIdeal.main_arg0) = m ((c.tc : Thread Cert.KvSampleIdeal.nD Cert.KvSampleIdeal.τ).loc Cert.KvSampleIdeal.main_arg0)
      ∧ r.2.mem ((c.tc : Thread Cert.KvSampleIdeal.nD Cert.KvSampleIdeal.τ).loc Cert.KvSampleIdeal.main_arg1) = m ((c.tc : Thread Cert.KvSampleIdeal.nD Cert.KvSampleIdeal.τ).loc Cert.KvSampleIdeal.main_arg1)
      ∧ r.2.mem ((c.tc : Thread Cert.KvSampleIdeal.nD Cert.KvSampleIdeal.τ).loc Cert.KvSampleIdeal.main_arg2) = m ((c.tc : Thread Cert.KvSampleIdeal.nD Cert.KvSampleIdeal.τ).loc Cert.KvSampleIdeal.main_arg2)
      ∧ r.2.mem ((c.tc : Thread Cert.KvSampleIdeal.nD Cert.KvSampleIdeal.τ).loc Cert.KvSampleIdeal.main_arg3) = m ((c.tc : Thread Cert.KvSampleIdeal.nD Cert.KvSampleIdeal.τ).loc Cert.KvSampleIdeal.main_arg3))
      ∧ r.2.sem = fun _ => 0)

def quiescent_KvSampleRefIdeal [hKvSampleRefIdeal : Cert.KvSampleRefIdeal.Facts] : Prop :=
  ∀ (m : (ℓ : Loc Cert.KvSampleRefIdeal.nD Cert.KvSampleRefIdeal.τ Cert.KvSampleRefIdeal.sig) → Buf (Elt Ideal) ℓ) (g : Dev Cert.KvSampleRefIdeal.nD → PrngReg), Pre_KvSampleRefIdeal m →
    θ_run (Cert.KvSampleRefIdeal.defs (F := Ideal)) (onTc (τ := Cert.KvSampleRefIdeal.τ) (Cert.KvSampleRefIdeal.main (F := Ideal))) ⟨m, fun _ => 0, g⟩ (fun r => (∀ c : Dev Cert.KvSampleRefIdeal.nD,
      r.2.mem ((c.tc : Thread Cert.KvSampleRefIdeal.nD Cert.KvSampleRefIdeal.τ).loc Cert.KvSampleRefIdeal.main_arg0) = m ((c.tc : Thread Cert.KvSampleRefIdeal.nD Cert.KvSampleRefIdeal.τ).loc Cert.KvSampleRefIdeal.main_arg0)
      ∧ r.2.mem ((c.tc : Thread Cert.KvSampleRefIdeal.nD Cert.KvSampleRefIdeal.τ).loc Cert.KvSampleRefIdeal.main_arg1) = m ((c.tc : Thread Cert.KvSampleRefIdeal.nD Cert.KvSampleRefIdeal.τ).loc Cert.KvSampleRefIdeal.main_arg1)
      ∧ r.2.mem ((c.tc : Thread Cert.KvSampleRefIdeal.nD Cert.KvSampleRefIdeal.τ).loc Cert.KvSampleRefIdeal.main_arg2) = m ((c.tc : Thread Cert.KvSampleRefIdeal.nD Cert.KvSampleRefIdeal.τ).loc Cert.KvSampleRefIdeal.main_arg2)
      ∧ r.2.mem ((c.tc : Thread Cert.KvSampleRefIdeal.nD Cert.KvSampleRefIdeal.τ).loc Cert.KvSampleRefIdeal.main_arg3) = m ((c.tc : Thread Cert.KvSampleRefIdeal.nD Cert.KvSampleRefIdeal.τ).loc Cert.KvSampleRefIdeal.main_arg3))
      ∧ r.2.sem = fun _ => 0)

def quiescent_ForgetSample [hForgetSample : Cert.ForgetSample.Facts] : Prop :=
  ∀ (m : (ℓ : Loc Cert.ForgetSample.nD Cert.ForgetSample.τ Cert.ForgetSample.sig) → Buf (Elt Bits) ℓ) (g : Dev Cert.ForgetSample.nD → PrngReg), Pre_ForgetSample m →
    θ_run (Cert.ForgetSample.defs (F := Bits)) (onTc (τ := Cert.ForgetSample.τ) (Cert.ForgetSample.main (F := Bits))) ⟨m, fun _ => 0, g⟩ (fun r => (∀ c : Dev Cert.ForgetSample.nD,
      r.2.mem ((c.tc : Thread Cert.ForgetSample.nD Cert.ForgetSample.τ).loc Cert.ForgetSample.main_arg0) = m ((c.tc : Thread Cert.ForgetSample.nD Cert.ForgetSample.τ).loc Cert.ForgetSample.main_arg0)
      ∧ r.2.mem ((c.tc : Thread Cert.ForgetSample.nD Cert.ForgetSample.τ).loc Cert.ForgetSample.main_arg1) = m ((c.tc : Thread Cert.ForgetSample.nD Cert.ForgetSample.τ).loc Cert.ForgetSample.main_arg1)
      ∧ r.2.mem ((c.tc : Thread Cert.ForgetSample.nD Cert.ForgetSample.τ).loc Cert.ForgetSample.main_arg2) = m ((c.tc : Thread Cert.ForgetSample.nD Cert.ForgetSample.τ).loc Cert.ForgetSample.main_arg2)
      ∧ r.2.mem ((c.tc : Thread Cert.ForgetSample.nD Cert.ForgetSample.τ).loc Cert.ForgetSample.main_arg3) = m ((c.tc : Thread Cert.ForgetSample.nD Cert.ForgetSample.τ).loc Cert.ForgetSample.main_arg3))
      ∧ r.2.sem = fun _ => 0)

def quiescent_ForgetSampleIdeal [hForgetSampleIdeal : Cert.ForgetSampleIdeal.Facts] : Prop :=
  ∀ (m : (ℓ : Loc Cert.ForgetSampleIdeal.nD Cert.ForgetSampleIdeal.τ Cert.ForgetSampleIdeal.sig) → Buf (Elt Ideal) ℓ) (g : Dev Cert.ForgetSampleIdeal.nD → PrngReg), Pre_ForgetSampleIdeal m →
    θ_run (Cert.ForgetSampleIdeal.defs (F := Ideal)) (onTc (τ := Cert.ForgetSampleIdeal.τ) (Cert.ForgetSampleIdeal.main (F := Ideal))) ⟨m, fun _ => 0, g⟩ (fun r => (∀ c : Dev Cert.ForgetSampleIdeal.nD,
      r.2.mem ((c.tc : Thread Cert.ForgetSampleIdeal.nD Cert.ForgetSampleIdeal.τ).loc Cert.ForgetSampleIdeal.main_arg0) = m ((c.tc : Thread Cert.ForgetSampleIdeal.nD Cert.ForgetSampleIdeal.τ).loc Cert.ForgetSampleIdeal.main_arg0)
      ∧ r.2.mem ((c.tc : Thread Cert.ForgetSampleIdeal.nD Cert.ForgetSampleIdeal.τ).loc Cert.ForgetSampleIdeal.main_arg1) = m ((c.tc : Thread Cert.ForgetSampleIdeal.nD Cert.ForgetSampleIdeal.τ).loc Cert.ForgetSampleIdeal.main_arg1)
      ∧ r.2.mem ((c.tc : Thread Cert.ForgetSampleIdeal.nD Cert.ForgetSampleIdeal.τ).loc Cert.ForgetSampleIdeal.main_arg2) = m ((c.tc : Thread Cert.ForgetSampleIdeal.nD Cert.ForgetSampleIdeal.τ).loc Cert.ForgetSampleIdeal.main_arg2)
      ∧ r.2.mem ((c.tc : Thread Cert.ForgetSampleIdeal.nD Cert.ForgetSampleIdeal.τ).loc Cert.ForgetSampleIdeal.main_arg3) = m ((c.tc : Thread Cert.ForgetSampleIdeal.nD Cert.ForgetSampleIdeal.τ).loc Cert.ForgetSampleIdeal.main_arg3))
      ∧ r.2.sem = fun _ => 0)

def quiescent_ForgetSampleRefIdeal [hForgetSampleRefIdeal : Cert.ForgetSampleRefIdeal.Facts] : Prop :=
  ∀ (m : (ℓ : Loc Cert.ForgetSampleRefIdeal.nD Cert.ForgetSampleRefIdeal.τ Cert.ForgetSampleRefIdeal.sig) → Buf (Elt Ideal) ℓ) (g : Dev Cert.ForgetSampleRefIdeal.nD → PrngReg), Pre_ForgetSampleRefIdeal m →
    θ_run (Cert.ForgetSampleRefIdeal.defs (F := Ideal)) (onTc (τ := Cert.ForgetSampleRefIdeal.τ) (Cert.ForgetSampleRefIdeal.main (F := Ideal))) ⟨m, fun _ => 0, g⟩ (fun r => (∀ c : Dev Cert.ForgetSampleRefIdeal.nD,
      r.2.mem ((c.tc : Thread Cert.ForgetSampleRefIdeal.nD Cert.ForgetSampleRefIdeal.τ).loc Cert.ForgetSampleRefIdeal.main_arg0) = m ((c.tc : Thread Cert.ForgetSampleRefIdeal.nD Cert.ForgetSampleRefIdeal.τ).loc Cert.ForgetSampleRefIdeal.main_arg0)
      ∧ r.2.mem ((c.tc : Thread Cert.ForgetSampleRefIdeal.nD Cert.ForgetSampleRefIdeal.τ).loc Cert.ForgetSampleRefIdeal.main_arg1) = m ((c.tc : Thread Cert.ForgetSampleRefIdeal.nD Cert.ForgetSampleRefIdeal.τ).loc Cert.ForgetSampleRefIdeal.main_arg1)
      ∧ r.2.mem ((c.tc : Thread Cert.ForgetSampleRefIdeal.nD Cert.ForgetSampleRefIdeal.τ).loc Cert.ForgetSampleRefIdeal.main_arg2) = m ((c.tc : Thread Cert.ForgetSampleRefIdeal.nD Cert.ForgetSampleRefIdeal.τ).loc Cert.ForgetSampleRefIdeal.main_arg2)
      ∧ r.2.mem ((c.tc : Thread Cert.ForgetSampleRefIdeal.nD Cert.ForgetSampleRefIdeal.τ).loc Cert.ForgetSampleRefIdeal.main_arg3) = m ((c.tc : Thread Cert.ForgetSampleRefIdeal.nD Cert.ForgetSampleRefIdeal.τ).loc Cert.ForgetSampleRefIdeal.main_arg3))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9))
      ∧ r.2.sem = fun _ => 0)

def quiescent_MixSample [hMixSample : Cert.MixSample.Facts] : Prop :=
  ∀ (m : (ℓ : Loc Cert.MixSample.nD Cert.MixSample.τ Cert.MixSample.sig) → Buf (Elt Bits) ℓ) (g : Dev Cert.MixSample.nD → PrngReg), Pre_MixSample m →
    θ_run (Cert.MixSample.defs (F := Bits)) (onTc (τ := Cert.MixSample.τ) (Cert.MixSample.main (F := Bits))) ⟨m, fun _ => 0, g⟩ (fun r => (∀ c : Dev Cert.MixSample.nD,
      r.2.mem ((c.tc : Thread Cert.MixSample.nD Cert.MixSample.τ).loc Cert.MixSample.main_arg0) = m ((c.tc : Thread Cert.MixSample.nD Cert.MixSample.τ).loc Cert.MixSample.main_arg0)
      ∧ r.2.mem ((c.tc : Thread Cert.MixSample.nD Cert.MixSample.τ).loc Cert.MixSample.main_arg1) = m ((c.tc : Thread Cert.MixSample.nD Cert.MixSample.τ).loc Cert.MixSample.main_arg1)
      ∧ r.2.mem ((c.tc : Thread Cert.MixSample.nD Cert.MixSample.τ).loc Cert.MixSample.main_arg2) = m ((c.tc : Thread Cert.MixSample.nD Cert.MixSample.τ).loc Cert.MixSample.main_arg2)
      ∧ r.2.mem ((c.tc : Thread Cert.MixSample.nD Cert.MixSample.τ).loc Cert.MixSample.main_arg3) = m ((c.tc : Thread Cert.MixSample.nD Cert.MixSample.τ).loc Cert.MixSample.main_arg3)
      ∧ r.2.mem ((c.tc : Thread Cert.MixSample.nD Cert.MixSample.τ).loc Cert.MixSample.main_arg4) = m ((c.tc : Thread Cert.MixSample.nD Cert.MixSample.τ).loc Cert.MixSample.main_arg4)
      ∧ r.2.mem ((c.tc : Thread Cert.MixSample.nD Cert.MixSample.τ).loc Cert.MixSample.main_arg5) = m ((c.tc : Thread Cert.MixSample.nD Cert.MixSample.τ).loc Cert.MixSample.main_arg5)
      ∧ r.2.mem ((c.tc : Thread Cert.MixSample.nD Cert.MixSample.τ).loc Cert.MixSample.main_arg6) = m ((c.tc : Thread Cert.MixSample.nD Cert.MixSample.τ).loc Cert.MixSample.main_arg6)
      ∧ r.2.mem ((c.tc : Thread Cert.MixSample.nD Cert.MixSample.τ).loc Cert.MixSample.main_arg7) = m ((c.tc : Thread Cert.MixSample.nD Cert.MixSample.τ).loc Cert.MixSample.main_arg7)
      ∧ r.2.mem ((c.tc : Thread Cert.MixSample.nD Cert.MixSample.τ).loc Cert.MixSample.main_arg8) = m ((c.tc : Thread Cert.MixSample.nD Cert.MixSample.τ).loc Cert.MixSample.main_arg8)
      ∧ r.2.mem ((c.tc : Thread Cert.MixSample.nD Cert.MixSample.τ).loc Cert.MixSample.main_arg9) = m ((c.tc : Thread Cert.MixSample.nD Cert.MixSample.τ).loc Cert.MixSample.main_arg9))
      ∧ r.2.sem = fun _ => 0)

def quiescent_MixSampleIdeal [hMixSampleIdeal : Cert.MixSampleIdeal.Facts] : Prop :=
  ∀ (m : (ℓ : Loc Cert.MixSampleIdeal.nD Cert.MixSampleIdeal.τ Cert.MixSampleIdeal.sig) → Buf (Elt Ideal) ℓ) (g : Dev Cert.MixSampleIdeal.nD → PrngReg), Pre_MixSampleIdeal m →
    θ_run (Cert.MixSampleIdeal.defs (F := Ideal)) (onTc (τ := Cert.MixSampleIdeal.τ) (Cert.MixSampleIdeal.main (F := Ideal))) ⟨m, fun _ => 0, g⟩ (fun r => (∀ c : Dev Cert.MixSampleIdeal.nD,
      r.2.mem ((c.tc : Thread Cert.MixSampleIdeal.nD Cert.MixSampleIdeal.τ).loc Cert.MixSampleIdeal.main_arg0) = m ((c.tc : Thread Cert.MixSampleIdeal.nD Cert.MixSampleIdeal.τ).loc Cert.MixSampleIdeal.main_arg0)
      ∧ r.2.mem ((c.tc : Thread Cert.MixSampleIdeal.nD Cert.MixSampleIdeal.τ).loc Cert.MixSampleIdeal.main_arg1) = m ((c.tc : Thread Cert.MixSampleIdeal.nD Cert.MixSampleIdeal.τ).loc Cert.MixSampleIdeal.main_arg1)
      ∧ r.2.mem ((c.tc : Thread Cert.MixSampleIdeal.nD Cert.MixSampleIdeal.τ).loc Cert.MixSampleIdeal.main_arg2) = m ((c.tc : Thread Cert.MixSampleIdeal.nD Cert.MixSampleIdeal.τ).loc Cert.MixSampleIdeal.main_arg2)
      ∧ r.2.mem ((c.tc : Thread Cert.MixSampleIdeal.nD Cert.MixSampleIdeal.τ).loc Cert.MixSampleIdeal.main_arg3) = m ((c.tc : Thread Cert.MixSampleIdeal.nD Cert.MixSampleIdeal.τ).loc Cert.MixSampleIdeal.main_arg3)
      ∧ r.2.mem ((c.tc : Thread Cert.MixSampleIdeal.nD Cert.MixSampleIdeal.τ).loc Cert.MixSampleIdeal.main_arg4) = m ((c.tc : Thread Cert.MixSampleIdeal.nD Cert.MixSampleIdeal.τ).loc Cert.MixSampleIdeal.main_arg4)
      ∧ r.2.mem ((c.tc : Thread Cert.MixSampleIdeal.nD Cert.MixSampleIdeal.τ).loc Cert.MixSampleIdeal.main_arg5) = m ((c.tc : Thread Cert.MixSampleIdeal.nD Cert.MixSampleIdeal.τ).loc Cert.MixSampleIdeal.main_arg5)
      ∧ r.2.mem ((c.tc : Thread Cert.MixSampleIdeal.nD Cert.MixSampleIdeal.τ).loc Cert.MixSampleIdeal.main_arg6) = m ((c.tc : Thread Cert.MixSampleIdeal.nD Cert.MixSampleIdeal.τ).loc Cert.MixSampleIdeal.main_arg6)
      ∧ r.2.mem ((c.tc : Thread Cert.MixSampleIdeal.nD Cert.MixSampleIdeal.τ).loc Cert.MixSampleIdeal.main_arg7) = m ((c.tc : Thread Cert.MixSampleIdeal.nD Cert.MixSampleIdeal.τ).loc Cert.MixSampleIdeal.main_arg7)
      ∧ r.2.mem ((c.tc : Thread Cert.MixSampleIdeal.nD Cert.MixSampleIdeal.τ).loc Cert.MixSampleIdeal.main_arg8) = m ((c.tc : Thread Cert.MixSampleIdeal.nD Cert.MixSampleIdeal.τ).loc Cert.MixSampleIdeal.main_arg8)
      ∧ r.2.mem ((c.tc : Thread Cert.MixSampleIdeal.nD Cert.MixSampleIdeal.τ).loc Cert.MixSampleIdeal.main_arg9) = m ((c.tc : Thread Cert.MixSampleIdeal.nD Cert.MixSampleIdeal.τ).loc Cert.MixSampleIdeal.main_arg9))
      ∧ r.2.sem = fun _ => 0)

def quiescent_MixSampleRefIdeal [hMixSampleRefIdeal : Cert.MixSampleRefIdeal.Facts] : Prop :=
  ∀ (m : (ℓ : Loc Cert.MixSampleRefIdeal.nD Cert.MixSampleRefIdeal.τ Cert.MixSampleRefIdeal.sig) → Buf (Elt Ideal) ℓ) (g : Dev Cert.MixSampleRefIdeal.nD → PrngReg), Pre_MixSampleRefIdeal m →
    θ_run (Cert.MixSampleRefIdeal.defs (F := Ideal)) (onTc (τ := Cert.MixSampleRefIdeal.τ) (Cert.MixSampleRefIdeal.main (F := Ideal))) ⟨m, fun _ => 0, g⟩ (fun r => (∀ c : Dev Cert.MixSampleRefIdeal.nD,
      r.2.mem ((c.tc : Thread Cert.MixSampleRefIdeal.nD Cert.MixSampleRefIdeal.τ).loc Cert.MixSampleRefIdeal.main_arg0) = m ((c.tc : Thread Cert.MixSampleRefIdeal.nD Cert.MixSampleRefIdeal.τ).loc Cert.MixSampleRefIdeal.main_arg0)
      ∧ r.2.mem ((c.tc : Thread Cert.MixSampleRefIdeal.nD Cert.MixSampleRefIdeal.τ).loc Cert.MixSampleRefIdeal.main_arg1) = m ((c.tc : Thread Cert.MixSampleRefIdeal.nD Cert.MixSampleRefIdeal.τ).loc Cert.MixSampleRefIdeal.main_arg1)
      ∧ r.2.mem ((c.tc : Thread Cert.MixSampleRefIdeal.nD Cert.MixSampleRefIdeal.τ).loc Cert.MixSampleRefIdeal.main_arg2) = m ((c.tc : Thread Cert.MixSampleRefIdeal.nD Cert.MixSampleRefIdeal.τ).loc Cert.MixSampleRefIdeal.main_arg2)
      ∧ r.2.mem ((c.tc : Thread Cert.MixSampleRefIdeal.nD Cert.MixSampleRefIdeal.τ).loc Cert.MixSampleRefIdeal.main_arg3) = m ((c.tc : Thread Cert.MixSampleRefIdeal.nD Cert.MixSampleRefIdeal.τ).loc Cert.MixSampleRefIdeal.main_arg3)
      ∧ r.2.mem ((c.tc : Thread Cert.MixSampleRefIdeal.nD Cert.MixSampleRefIdeal.τ).loc Cert.MixSampleRefIdeal.main_arg4) = m ((c.tc : Thread Cert.MixSampleRefIdeal.nD Cert.MixSampleRefIdeal.τ).loc Cert.MixSampleRefIdeal.main_arg4)
      ∧ r.2.mem ((c.tc : Thread Cert.MixSampleRefIdeal.nD Cert.MixSampleRefIdeal.τ).loc Cert.MixSampleRefIdeal.main_arg5) = m ((c.tc : Thread Cert.MixSampleRefIdeal.nD Cert.MixSampleRefIdeal.τ).loc Cert.MixSampleRefIdeal.main_arg5)
      ∧ r.2.mem ((c.tc : Thread Cert.MixSampleRefIdeal.nD Cert.MixSampleRefIdeal.τ).loc Cert.MixSampleRefIdeal.main_arg6) = m ((c.tc : Thread Cert.MixSampleRefIdeal.nD Cert.MixSampleRefIdeal.τ).loc Cert.MixSampleRefIdeal.main_arg6)
      ∧ r.2.mem ((c.tc : Thread Cert.MixSampleRefIdeal.nD Cert.MixSampleRefIdeal.τ).loc Cert.MixSampleRefIdeal.main_arg7) = m ((c.tc : Thread Cert.MixSampleRefIdeal.nD Cert.MixSampleRefIdeal.τ).loc Cert.MixSampleRefIdeal.main_arg7)
      ∧ r.2.mem ((c.tc : Thread Cert.MixSampleRefIdeal.nD Cert.MixSampleRefIdeal.τ).loc Cert.MixSampleRefIdeal.main_arg8) = m ((c.tc : Thread Cert.MixSampleRefIdeal.nD Cert.MixSampleRefIdeal.τ).loc Cert.MixSampleRefIdeal.main_arg8)
      ∧ r.2.mem ((c.tc : Thread Cert.MixSampleRefIdeal.nD Cert.MixSampleRefIdeal.τ).loc Cert.MixSampleRefIdeal.main_arg9) = m ((c.tc : Thread Cert.MixSampleRefIdeal.nD Cert.MixSampleRefIdeal.τ).loc Cert.MixSampleRefIdeal.main_arg9))
      ∧ r.2.sem = fun _ => 0)

def preserves_Flash_FlashIdeal : Prop :=
  True

def algebraic_FlashIdeal_AttentionIdeal_pre_finite [hFlashIdeal : Cert.FlashIdeal.Facts] [hAttentionIdeal : Cert.AttentionIdeal.Facts] [hPre_finite : Cert.Pre_finite.Facts] : Prop :=
  ∀ (m : (ℓ : Loc Cert.FlashIdeal.nD Cert.FlashIdeal.τ Cert.FlashIdeal.sig) → Buf (Elt Ideal) ℓ) (g : Dev Cert.FlashIdeal.nD → PrngReg)
    (m' : (ℓ : Loc Cert.AttentionIdeal.nD Cert.AttentionIdeal.τ Cert.AttentionIdeal.sig) → Buf (Elt Ideal) ℓ) (g' : Dev Cert.AttentionIdeal.nD → PrngReg), Pre_FlashIdeal_finite m →
    (∀ c : Dev Cert.FlashIdeal.nD,
      m' ((c.tc : Thread Cert.AttentionIdeal.nD Cert.AttentionIdeal.τ).loc Cert.AttentionIdeal.main_arg0) = m ((c.tc : Thread Cert.FlashIdeal.nD Cert.FlashIdeal.τ).loc Cert.FlashIdeal.main_arg0)
      ∧ m' ((c.tc : Thread Cert.AttentionIdeal.nD Cert.AttentionIdeal.τ).loc Cert.AttentionIdeal.main_arg1) = m ((c.tc : Thread Cert.FlashIdeal.nD Cert.FlashIdeal.τ).loc Cert.FlashIdeal.main_arg1)
      ∧ m' ((c.tc : Thread Cert.AttentionIdeal.nD Cert.AttentionIdeal.τ).loc Cert.AttentionIdeal.main_arg2) = m ((c.tc : Thread Cert.FlashIdeal.nD Cert.FlashIdeal.τ).loc Cert.FlashIdeal.main_arg2)) →
    ∃ (v0 : (c : Dev Cert.FlashIdeal.nD) → Buf (Elt Ideal) ((c.tc : Thread Cert.FlashIdeal.nD Cert.FlashIdeal.τ).loc Cert.FlashIdeal.main_v0)),
      θ_run (Cert.FlashIdeal.defs (F := Ideal)) (onTc (τ := Cert.FlashIdeal.τ) (Cert.FlashIdeal.main (F := Ideal))) ⟨m, fun _ => 0, g⟩ (fun r => ∀ c : Dev Cert.FlashIdeal.nD,
          r.2.mem ((c.tc : Thread Cert.FlashIdeal.nD Cert.FlashIdeal.τ).loc Cert.FlashIdeal.main_v0) = v0 c
          ∧ r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
          ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
          ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2))
      ∧ θ_run (Cert.AttentionIdeal.defs (F := Ideal)) (onTc (τ := Cert.AttentionIdeal.τ) (Cert.AttentionIdeal.main (F := Ideal))) ⟨m', fun _ => 0, g'⟩ (fun r => ∀ c : Dev Cert.AttentionIdeal.nD,
          r.2.mem ((c.tc : Thread Cert.AttentionIdeal.nD Cert.AttentionIdeal.τ).loc Cert.AttentionIdeal.main_v41) = v0 c
          ∧ r.2.mem ((c.tc : Thread Cert.AttentionIdeal.nD Cert.AttentionIdeal.τ).loc Cert.AttentionIdeal.main_arg0) = m' ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m' ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m' ((c.tc : Thread Cert.AttentionIdeal.nD Cert.AttentionIdeal.τ).loc Cert.AttentionIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v15) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Moe_MoeIdeal : Prop :=
  True

def algebraic_MoeIdeal_MoeRefIdeal_pre_routed [hMoeIdeal : Cert.MoeIdeal.Facts] [hMoeRefIdeal : Cert.MoeRefIdeal.Facts] [hPre_routed : Cert.Pre_routed.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_routed m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v10)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v10) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v13) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5))

def preserves_KvProj_KvProjIdeal : Prop :=
  True

def algebraic_KvProjIdeal_KvProjRefIdeal [hKvProjIdeal : Cert.KvProjIdeal.Facts] [hKvProjRefIdeal : Cert.KvProjRefIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjRefIdeal.nD Cert.KvProjRefIdeal.τ Cert.KvProjRefIdeal.sig) → Buf (Elt Ideal) ℓ) (g' : Dev Cert.KvProjRefIdeal.nD → PrngReg), Pre_KvProjIdeal m →
    (∀ c : Dev Cert.KvProjIdeal.nD,
      m' ((c.tc : Thread Cert.KvProjRefIdeal.nD Cert.KvProjRefIdeal.τ).loc Cert.KvProjRefIdeal.main_arg0) = m ((c.tc : Thread Cert.KvProjIdeal.nD Cert.KvProjIdeal.τ).loc Cert.KvProjIdeal.main_arg0)
      ∧ m' ((c.tc : Thread Cert.KvProjRefIdeal.nD Cert.KvProjRefIdeal.τ).loc Cert.KvProjRefIdeal.main_arg1) = m ((c.tc : Thread Cert.KvProjIdeal.nD Cert.KvProjIdeal.τ).loc Cert.KvProjIdeal.main_arg1)
      ∧ m' ((c.tc : Thread Cert.KvProjRefIdeal.nD Cert.KvProjRefIdeal.τ).loc Cert.KvProjRefIdeal.main_arg2) = m ((c.tc : Thread Cert.KvProjIdeal.nD Cert.KvProjIdeal.τ).loc Cert.KvProjIdeal.main_arg2)
      ∧ m' ((c.tc : Thread Cert.KvProjRefIdeal.nD Cert.KvProjRefIdeal.τ).loc Cert.KvProjRefIdeal.main_arg3) = m ((c.tc : Thread Cert.KvProjIdeal.nD Cert.KvProjIdeal.τ).loc Cert.KvProjIdeal.main_arg3)) →
    ∃ (v0 : (c : Dev Cert.KvProjIdeal.nD) → Buf (Elt Ideal) ((c.tc : Thread Cert.KvProjIdeal.nD Cert.KvProjIdeal.τ).loc Cert.KvProjIdeal.main_v2_0)) (v1 : (c : Dev Cert.KvProjIdeal.nD) → Buf (Elt Ideal) ((c.tc : Thread Cert.KvProjIdeal.nD Cert.KvProjIdeal.τ).loc Cert.KvProjIdeal.main_v2_1)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v2_0) = v0 c
          ∧ r.2.mem ((c.tc : Thread Cert.KvProjIdeal.nD Cert.KvProjIdeal.τ).loc Cert.KvProjIdeal.main_v2_1) = v1 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
          ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2)
          ∧ r.2.mem ((c.tc : Thread Cert.KvProjIdeal.nD Cert.KvProjIdeal.τ).loc Cert.KvProjIdeal.main_arg3) = m ((c.tc : Thread Cert.KvProjIdeal.nD Cert.KvProjIdeal.τ).loc Cert.KvProjIdeal.main_arg3))
      ∧ θ_run (Cert.KvProjRefIdeal.defs (F := Ideal)) (onTc (τ := Cert.KvProjRefIdeal.τ) (Cert.KvProjRefIdeal.main (F := Ideal))) ⟨m', fun _ => 0, g'⟩ (fun r => ∀ c : Dev Cert.KvProjRefIdeal.nD,
          r.2.mem ((c.tc : Thread Cert.KvProjRefIdeal.nD Cert.KvProjRefIdeal.τ).loc Cert.KvProjRefIdeal.main_v32) = v0 c
          ∧ r.2.mem ((c.tc : Thread Cert.KvProjRefIdeal.nD Cert.KvProjRefIdeal.τ).loc Cert.KvProjRefIdeal.main_v33) = v1 c
          ∧ r.2.mem ((c.tc : Thread Cert.KvProjRefIdeal.nD Cert.KvProjRefIdeal.τ).loc Cert.KvProjRefIdeal.main_arg0) = m' ((c.tc : Thread Cert.KvProjRefIdeal.nD Cert.KvProjRefIdeal.τ).loc Cert.KvProjRefIdeal.main_arg0)
          ∧ r.2.mem ((c.tc : Thread Cert.KvProjRefIdeal.nD Cert.KvProjRefIdeal.τ).loc Cert.KvProjRefIdeal.main_arg1) = m' ((c.tc : Thread Cert.KvProjRefIdeal.nD Cert.KvProjRefIdeal.τ).loc Cert.KvProjRefIdeal.main_arg1)
          ∧ r.2.mem ((c.tc : Thread Cert.KvProjRefIdeal.nD Cert.KvProjRefIdeal.τ).loc Cert.KvProjRefIdeal.main_arg2) = m' ((c.tc : Thread Cert.KvProjRefIdeal.nD Cert.KvProjRefIdeal.τ).loc Cert.KvProjRefIdeal.main_arg2)
          ∧ r.2.mem ((c.tc : Thread Cert.KvProjRefIdeal.nD Cert.KvProjRefIdeal.τ).loc Cert.KvProjRefIdeal.main_arg3) = m' ((c.tc : Thread Cert.KvProjRefIdeal.nD Cert.KvProjRefIdeal.τ).loc Cert.KvProjRefIdeal.main_arg3))

def preserves_LogForget_LogForgetIdeal : Prop :=
  True

def algebraic_LogForgetIdeal_LogForgetRefIdeal [hLogForgetIdeal : Cert.LogForgetIdeal.Facts] [hLogForgetRefIdeal : Cert.LogForgetRefIdeal.Facts] : Prop :=
  ∀ (m : (ℓ : Loc Cert.LogForgetIdeal.nD Cert.LogForgetIdeal.τ Cert.LogForgetIdeal.sig) → Buf (Elt Ideal) ℓ) (g : Dev Cert.LogForgetIdeal.nD → PrngReg)
    (m' : (ℓ : Loc Cert.LogForgetRefIdeal.nD Cert.LogForgetRefIdeal.τ Cert.LogForgetRefIdeal.sig) → Buf (Elt Ideal) ℓ) (g' : Dev Cert.LogForgetRefIdeal.nD → PrngReg), Pre_LogForgetIdeal m →
    (∀ c : Dev Cert.LogForgetIdeal.nD,
      m' ((c.tc : Thread Cert.LogForgetRefIdeal.nD Cert.LogForgetRefIdeal.τ).loc Cert.LogForgetRefIdeal.main_arg0) = m ((c.tc : Thread Cert.LogForgetIdeal.nD Cert.LogForgetIdeal.τ).loc Cert.LogForgetIdeal.main_arg0)
      ∧ m' ((c.tc : Thread Cert.LogForgetRefIdeal.nD Cert.LogForgetRefIdeal.τ).loc Cert.LogForgetRefIdeal.main_arg1) = m ((c.tc : Thread Cert.LogForgetIdeal.nD Cert.LogForgetIdeal.τ).loc Cert.LogForgetIdeal.main_arg1)
      ∧ m' ((c.tc : Thread Cert.LogForgetRefIdeal.nD Cert.LogForgetRefIdeal.τ).loc Cert.LogForgetRefIdeal.main_arg2) = m ((c.tc : Thread Cert.LogForgetIdeal.nD Cert.LogForgetIdeal.τ).loc Cert.LogForgetIdeal.main_arg2)
      ∧ m' ((c.tc : Thread Cert.LogForgetRefIdeal.nD Cert.LogForgetRefIdeal.τ).loc Cert.LogForgetRefIdeal.main_arg3) = m ((c.tc : Thread Cert.LogForgetIdeal.nD Cert.LogForgetIdeal.τ).loc Cert.LogForgetIdeal.main_arg3)) →
    ∃ (v0 : (c : Dev Cert.LogForgetIdeal.nD) → Buf (Elt Ideal) ((c.tc : Thread Cert.LogForgetIdeal.nD Cert.LogForgetIdeal.τ).loc Cert.LogForgetIdeal.main_v7_0)),
      θ_run (Cert.LogForgetIdeal.defs (F := Ideal)) (onTc (τ := Cert.LogForgetIdeal.τ) (Cert.LogForgetIdeal.main (F := Ideal))) ⟨m, fun _ => 0, g⟩ (fun r => ∀ c : Dev Cert.LogForgetIdeal.nD,
          r.2.mem ((c.tc : Thread Cert.LogForgetIdeal.nD Cert.LogForgetIdeal.τ).loc Cert.LogForgetIdeal.main_v7_0) = v0 c
          ∧ r.2.mem ((c.tc : Thread Cert.LogForgetIdeal.nD Cert.LogForgetIdeal.τ).loc Cert.LogForgetIdeal.main_arg0) = m ((c.tc : Thread Cert.LogForgetIdeal.nD Cert.LogForgetIdeal.τ).loc Cert.LogForgetIdeal.main_arg0)
          ∧ r.2.mem ((c.tc : Thread Cert.LogForgetIdeal.nD Cert.LogForgetIdeal.τ).loc Cert.LogForgetIdeal.main_arg1) = m ((c.tc : Thread Cert.LogForgetIdeal.nD Cert.LogForgetIdeal.τ).loc Cert.LogForgetIdeal.main_arg1)
          ∧ r.2.mem ((c.tc : Thread Cert.LogForgetIdeal.nD Cert.LogForgetIdeal.τ).loc Cert.LogForgetIdeal.main_arg2) = m ((c.tc : Thread Cert.LogForgetIdeal.nD Cert.LogForgetIdeal.τ).loc Cert.LogForgetIdeal.main_arg2)
          ∧ r.2.mem ((c.tc : Thread Cert.LogForgetIdeal.nD Cert.LogForgetIdeal.τ).loc Cert.LogForgetIdeal.main_arg3) = m ((c.tc : Thread Cert.LogForgetIdeal.nD Cert.LogForgetIdeal.τ).loc Cert.LogForgetIdeal.main_arg3))
      ∧ θ_run (Cert.LogForgetRefIdeal.defs (F := Ideal)) (onTc (τ := Cert.LogForgetRefIdeal.τ) (Cert.LogForgetRefIdeal.main (F := Ideal))) ⟨m', fun _ => 0, g'⟩ (fun r => ∀ c : Dev Cert.LogForgetRefIdeal.nD,
          r.2.mem ((c.tc : Thread Cert.LogForgetRefIdeal.nD Cert.LogForgetRefIdeal.τ).loc Cert.LogForgetRefIdeal.main_v18) = v0 c
          ∧ r.2.mem ((c.tc : Thread Cert.LogForgetRefIdeal.nD Cert.LogForgetRefIdeal.τ).loc Cert.LogForgetRefIdeal.main_arg0) = m' ((c.tc : Thread Cert.LogForgetRefIdeal.nD Cert.LogForgetRefIdeal.τ).loc Cert.LogForgetRefIdeal.main_arg0)
          ∧ r.2.mem ((c.tc : Thread Cert.LogForgetRefIdeal.nD Cert.LogForgetRefIdeal.τ).loc Cert.LogForgetRefIdeal.main_arg1) = m' ((c.tc : Thread Cert.LogForgetRefIdeal.nD Cert.LogForgetRefIdeal.τ).loc Cert.LogForgetRefIdeal.main_arg1)
          ∧ r.2.mem ((c.tc : Thread Cert.LogForgetRefIdeal.nD Cert.LogForgetRefIdeal.τ).loc Cert.LogForgetRefIdeal.main_arg2) = m' ((c.tc : Thread Cert.LogForgetRefIdeal.nD Cert.LogForgetRefIdeal.τ).loc Cert.LogForgetRefIdeal.main_arg2)
          ∧ r.2.mem ((c.tc : Thread Cert.LogForgetRefIdeal.nD Cert.LogForgetRefIdeal.τ).loc Cert.LogForgetRefIdeal.main_arg3) = m' ((c.tc : Thread Cert.LogForgetRefIdeal.nD Cert.LogForgetRefIdeal.τ).loc Cert.LogForgetRefIdeal.main_arg3))

def preserves_QProj_QProjIdeal : Prop :=
  True

def algebraic_QProjIdeal_QProjRefIdeal [hQProjIdeal : Cert.QProjIdeal.Facts] [hQProjRefIdeal : Cert.QProjRefIdeal.Facts] : Prop :=
  ∀ (m : (ℓ : Loc Cert.QProjIdeal.nD Cert.QProjIdeal.τ Cert.QProjIdeal.sig) → Buf (Elt Ideal) ℓ) (g : Dev Cert.QProjIdeal.nD → PrngReg)
    (m' : (ℓ : Loc Cert.QProjRefIdeal.nD Cert.QProjRefIdeal.τ Cert.QProjRefIdeal.sig) → Buf (Elt Ideal) ℓ) (g' : Dev Cert.QProjRefIdeal.nD → PrngReg), Pre_QProjIdeal m →
    (∀ c : Dev Cert.QProjIdeal.nD,
      m' ((c.tc : Thread Cert.QProjRefIdeal.nD Cert.QProjRefIdeal.τ).loc Cert.QProjRefIdeal.main_arg0) = m ((c.tc : Thread Cert.QProjIdeal.nD Cert.QProjIdeal.τ).loc Cert.QProjIdeal.main_arg0)
      ∧ m' ((c.tc : Thread Cert.QProjRefIdeal.nD Cert.QProjRefIdeal.τ).loc Cert.QProjRefIdeal.main_arg1) = m ((c.tc : Thread Cert.QProjIdeal.nD Cert.QProjIdeal.τ).loc Cert.QProjIdeal.main_arg1)
      ∧ m' ((c.tc : Thread Cert.QProjRefIdeal.nD Cert.QProjRefIdeal.τ).loc Cert.QProjRefIdeal.main_arg2) = m ((c.tc : Thread Cert.QProjIdeal.nD Cert.QProjIdeal.τ).loc Cert.QProjIdeal.main_arg2)
      ∧ m' ((c.tc : Thread Cert.QProjRefIdeal.nD Cert.QProjRefIdeal.τ).loc Cert.QProjRefIdeal.main_arg3) = m ((c.tc : Thread Cert.QProjIdeal.nD Cert.QProjIdeal.τ).loc Cert.QProjIdeal.main_arg3)) →
    ∃ (v0 : (c : Dev Cert.QProjIdeal.nD) → Buf (Elt Ideal) ((c.tc : Thread Cert.QProjIdeal.nD Cert.QProjIdeal.τ).loc Cert.QProjIdeal.main_v2)),
      θ_run (Cert.QProjIdeal.defs (F := Ideal)) (onTc (τ := Cert.QProjIdeal.τ) (Cert.QProjIdeal.main (F := Ideal))) ⟨m, fun _ => 0, g⟩ (fun r => ∀ c : Dev Cert.QProjIdeal.nD,
          r.2.mem ((c.tc : Thread Cert.QProjIdeal.nD Cert.QProjIdeal.τ).loc Cert.QProjIdeal.main_v2) = v0 c
          ∧ r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
          ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
          ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2)
          ∧ r.2.mem ((c.tc : Thread Cert.QProjIdeal.nD Cert.QProjIdeal.τ).loc Cert.QProjIdeal.main_arg3) = m ((c.tc : Thread Cert.QProjIdeal.nD Cert.QProjIdeal.τ).loc Cert.QProjIdeal.main_arg3))
      ∧ θ_run (Cert.QProjRefIdeal.defs (F := Ideal)) (onTc (τ := Cert.QProjRefIdeal.τ) (Cert.QProjRefIdeal.main (F := Ideal))) ⟨m', fun _ => 0, g'⟩ (fun r => ∀ c : Dev Cert.QProjRefIdeal.nD,
          r.2.mem ((c.tc : Thread Cert.QProjRefIdeal.nD Cert.QProjRefIdeal.τ).loc Cert.QProjRefIdeal.main_v32) = v0 c
          ∧ r.2.mem ((c.tc : Thread Cert.QProjRefIdeal.nD Cert.QProjRefIdeal.τ).loc Cert.QProjRefIdeal.main_arg0) = m' ((c.tc : Thread Cert.QProjRefIdeal.nD Cert.QProjRefIdeal.τ).loc Cert.QProjRefIdeal.main_arg0)
          ∧ r.2.mem ((c.tc : Thread Cert.QProjRefIdeal.nD Cert.QProjRefIdeal.τ).loc Cert.QProjRefIdeal.main_arg1) = m' ((c.tc : Thread Cert.QProjRefIdeal.nD Cert.QProjRefIdeal.τ).loc Cert.QProjRefIdeal.main_arg1)
          ∧ r.2.mem ((c.tc : Thread Cert.QProjRefIdeal.nD Cert.QProjRefIdeal.τ).loc Cert.QProjRefIdeal.main_arg2) = m' ((c.tc : Thread Cert.QProjRefIdeal.nD Cert.QProjRefIdeal.τ).loc Cert.QProjRefIdeal.main_arg2)
          ∧ r.2.mem ((c.tc : Thread Cert.QProjRefIdeal.nD Cert.QProjRefIdeal.τ).loc Cert.QProjRefIdeal.main_arg3) = m' ((c.tc : Thread Cert.QProjRefIdeal.nD Cert.QProjRefIdeal.τ).loc Cert.QProjRefIdeal.main_arg3))

def preserves_OProj_OProjIdeal : Prop :=
  True

def algebraic_OProjIdeal_OProjRefIdeal [hOProjIdeal : Cert.OProjIdeal.Facts] [hOProjRefIdeal : Cert.OProjRefIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjRefIdeal.nD Cert.OProjRefIdeal.τ Cert.OProjRefIdeal.sig) → Buf (Elt Ideal) ℓ) (g' : Dev Cert.OProjRefIdeal.nD → PrngReg), Pre_OProjIdeal m →
    (∀ c : Dev Cert.OProjIdeal.nD,
      m' ((c.tc : Thread Cert.OProjRefIdeal.nD Cert.OProjRefIdeal.τ).loc Cert.OProjRefIdeal.main_arg0) = m ((c.tc : Thread Cert.OProjIdeal.nD Cert.OProjIdeal.τ).loc Cert.OProjIdeal.main_arg0)
      ∧ m' ((c.tc : Thread Cert.OProjRefIdeal.nD Cert.OProjRefIdeal.τ).loc Cert.OProjRefIdeal.main_arg1) = m ((c.tc : Thread Cert.OProjIdeal.nD Cert.OProjIdeal.τ).loc Cert.OProjIdeal.main_arg1)
      ∧ m' ((c.tc : Thread Cert.OProjRefIdeal.nD Cert.OProjRefIdeal.τ).loc Cert.OProjRefIdeal.main_arg2) = m ((c.tc : Thread Cert.OProjIdeal.nD Cert.OProjIdeal.τ).loc Cert.OProjIdeal.main_arg2)) →
    ∃ (v0 : (c : Dev Cert.OProjIdeal.nD) → Buf (Elt Ideal) ((c.tc : Thread Cert.OProjIdeal.nD Cert.OProjIdeal.τ).loc Cert.OProjIdeal.main_v0)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v0) = v0 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
          ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2))
      ∧ θ_run (Cert.OProjRefIdeal.defs (F := Ideal)) (onTc (τ := Cert.OProjRefIdeal.τ) (Cert.OProjRefIdeal.main (F := Ideal))) ⟨m', fun _ => 0, g'⟩ (fun r => ∀ c : Dev Cert.OProjRefIdeal.nD,
          r.2.mem ((c.tc : Thread Cert.OProjRefIdeal.nD Cert.OProjRefIdeal.τ).loc Cert.OProjRefIdeal.main_v3) = v0 c
          ∧ r.2.mem ((c.tc : Thread Cert.OProjRefIdeal.nD Cert.OProjRefIdeal.τ).loc Cert.OProjRefIdeal.main_arg0) = m' ((c.tc : Thread Cert.OProjRefIdeal.nD Cert.OProjRefIdeal.τ).loc Cert.OProjRefIdeal.main_arg0)
          ∧ r.2.mem ((c.tc : Thread Cert.OProjRefIdeal.nD Cert.OProjRefIdeal.τ).loc Cert.OProjRefIdeal.main_arg1) = m' ((c.tc : Thread Cert.OProjRefIdeal.nD Cert.OProjRefIdeal.τ).loc Cert.OProjRefIdeal.main_arg1)
          ∧ r.2.mem ((c.tc : Thread Cert.OProjRefIdeal.nD Cert.OProjRefIdeal.τ).loc Cert.OProjRefIdeal.main_arg2) = m' ((c.tc : Thread Cert.OProjRefIdeal.nD Cert.OProjRefIdeal.τ).loc Cert.OProjRefIdeal.main_arg2))

def preserves_KvSample_KvSampleIdeal : Prop :=
  True

def algebraic_KvSampleIdeal_KvSampleRefIdeal [hKvSampleIdeal : Cert.KvSampleIdeal.Facts] [hKvSampleRefIdeal : Cert.KvSampleRefIdeal.Facts] : Prop :=
  ∀ (m : (ℓ : Loc Cert.KvSampleIdeal.nD Cert.KvSampleIdeal.τ Cert.KvSampleIdeal.sig) → Buf (Elt Ideal) ℓ) (g : Dev Cert.KvSampleIdeal.nD → PrngReg)
    (m' : (ℓ : Loc Cert.KvSampleRefIdeal.nD Cert.KvSampleRefIdeal.τ Cert.KvSampleRefIdeal.sig) → Buf (Elt Ideal) ℓ) (g' : Dev Cert.KvSampleRefIdeal.nD → PrngReg), Pre_KvSampleIdeal m →
    (∀ c : Dev Cert.KvSampleIdeal.nD,
      m' ((c.tc : Thread Cert.KvSampleRefIdeal.nD Cert.KvSampleRefIdeal.τ).loc Cert.KvSampleRefIdeal.main_arg0) = m ((c.tc : Thread Cert.KvSampleIdeal.nD Cert.KvSampleIdeal.τ).loc Cert.KvSampleIdeal.main_arg0)
      ∧ m' ((c.tc : Thread Cert.KvSampleRefIdeal.nD Cert.KvSampleRefIdeal.τ).loc Cert.KvSampleRefIdeal.main_arg1) = m ((c.tc : Thread Cert.KvSampleIdeal.nD Cert.KvSampleIdeal.τ).loc Cert.KvSampleIdeal.main_arg1)
      ∧ m' ((c.tc : Thread Cert.KvSampleRefIdeal.nD Cert.KvSampleRefIdeal.τ).loc Cert.KvSampleRefIdeal.main_arg2) = m ((c.tc : Thread Cert.KvSampleIdeal.nD Cert.KvSampleIdeal.τ).loc Cert.KvSampleIdeal.main_arg2)
      ∧ m' ((c.tc : Thread Cert.KvSampleRefIdeal.nD Cert.KvSampleRefIdeal.τ).loc Cert.KvSampleRefIdeal.main_arg3) = m ((c.tc : Thread Cert.KvSampleIdeal.nD Cert.KvSampleIdeal.τ).loc Cert.KvSampleIdeal.main_arg3)) →
    ∃ (v0 : (c : Dev Cert.KvSampleIdeal.nD) → Buf (Elt Ideal) ((c.tc : Thread Cert.KvSampleIdeal.nD Cert.KvSampleIdeal.τ).loc Cert.KvSampleIdeal.main_v2)),
      θ_run (Cert.KvSampleIdeal.defs (F := Ideal)) (onTc (τ := Cert.KvSampleIdeal.τ) (Cert.KvSampleIdeal.main (F := Ideal))) ⟨m, fun _ => 0, g⟩ (fun r => ∀ c : Dev Cert.KvSampleIdeal.nD,
          r.2.mem ((c.tc : Thread Cert.KvSampleIdeal.nD Cert.KvSampleIdeal.τ).loc Cert.KvSampleIdeal.main_v2) = v0 c
          ∧ r.2.mem ((c.tc : Thread Cert.KvSampleIdeal.nD Cert.KvSampleIdeal.τ).loc Cert.KvSampleIdeal.main_arg0) = m ((c.tc : Thread Cert.KvSampleIdeal.nD Cert.KvSampleIdeal.τ).loc Cert.KvSampleIdeal.main_arg0)
          ∧ r.2.mem ((c.tc : Thread Cert.KvSampleIdeal.nD Cert.KvSampleIdeal.τ).loc Cert.KvSampleIdeal.main_arg1) = m ((c.tc : Thread Cert.KvSampleIdeal.nD Cert.KvSampleIdeal.τ).loc Cert.KvSampleIdeal.main_arg1)
          ∧ r.2.mem ((c.tc : Thread Cert.KvSampleIdeal.nD Cert.KvSampleIdeal.τ).loc Cert.KvSampleIdeal.main_arg2) = m ((c.tc : Thread Cert.KvSampleIdeal.nD Cert.KvSampleIdeal.τ).loc Cert.KvSampleIdeal.main_arg2)
          ∧ r.2.mem ((c.tc : Thread Cert.KvSampleIdeal.nD Cert.KvSampleIdeal.τ).loc Cert.KvSampleIdeal.main_arg3) = m ((c.tc : Thread Cert.KvSampleIdeal.nD Cert.KvSampleIdeal.τ).loc Cert.KvSampleIdeal.main_arg3))
      ∧ θ_run (Cert.KvSampleRefIdeal.defs (F := Ideal)) (onTc (τ := Cert.KvSampleRefIdeal.τ) (Cert.KvSampleRefIdeal.main (F := Ideal))) ⟨m', fun _ => 0, g'⟩ (fun r => ∀ c : Dev Cert.KvSampleRefIdeal.nD,
          r.2.mem ((c.tc : Thread Cert.KvSampleRefIdeal.nD Cert.KvSampleRefIdeal.τ).loc Cert.KvSampleRefIdeal.main_v32) = v0 c
          ∧ r.2.mem ((c.tc : Thread Cert.KvSampleRefIdeal.nD Cert.KvSampleRefIdeal.τ).loc Cert.KvSampleRefIdeal.main_arg0) = m' ((c.tc : Thread Cert.KvSampleRefIdeal.nD Cert.KvSampleRefIdeal.τ).loc Cert.KvSampleRefIdeal.main_arg0)
          ∧ r.2.mem ((c.tc : Thread Cert.KvSampleRefIdeal.nD Cert.KvSampleRefIdeal.τ).loc Cert.KvSampleRefIdeal.main_arg1) = m' ((c.tc : Thread Cert.KvSampleRefIdeal.nD Cert.KvSampleRefIdeal.τ).loc Cert.KvSampleRefIdeal.main_arg1)
          ∧ r.2.mem ((c.tc : Thread Cert.KvSampleRefIdeal.nD Cert.KvSampleRefIdeal.τ).loc Cert.KvSampleRefIdeal.main_arg2) = m' ((c.tc : Thread Cert.KvSampleRefIdeal.nD Cert.KvSampleRefIdeal.τ).loc Cert.KvSampleRefIdeal.main_arg2)
          ∧ r.2.mem ((c.tc : Thread Cert.KvSampleRefIdeal.nD Cert.KvSampleRefIdeal.τ).loc Cert.KvSampleRefIdeal.main_arg3) = m' ((c.tc : Thread Cert.KvSampleRefIdeal.nD Cert.KvSampleRefIdeal.τ).loc Cert.KvSampleRefIdeal.main_arg3))

def preserves_ForgetSample_ForgetSampleIdeal : Prop :=
  True

def algebraic_ForgetSampleIdeal_ForgetSampleRefIdeal [hForgetSampleIdeal : Cert.ForgetSampleIdeal.Facts] [hForgetSampleRefIdeal : Cert.ForgetSampleRefIdeal.Facts] : Prop :=
  ∀ (m : (ℓ : Loc Cert.ForgetSampleIdeal.nD Cert.ForgetSampleIdeal.τ Cert.ForgetSampleIdeal.sig) → Buf (Elt Ideal) ℓ) (g : Dev Cert.ForgetSampleIdeal.nD → PrngReg)
    (m' : (ℓ : Loc Cert.ForgetSampleRefIdeal.nD Cert.ForgetSampleRefIdeal.τ Cert.ForgetSampleRefIdeal.sig) → Buf (Elt Ideal) ℓ) (g' : Dev Cert.ForgetSampleRefIdeal.nD → PrngReg), Pre_ForgetSampleIdeal m →
    (∀ c : Dev Cert.ForgetSampleIdeal.nD,
      m' ((c.tc : Thread Cert.ForgetSampleRefIdeal.nD Cert.ForgetSampleRefIdeal.τ).loc Cert.ForgetSampleRefIdeal.main_arg0) = m ((c.tc : Thread Cert.ForgetSampleIdeal.nD Cert.ForgetSampleIdeal.τ).loc Cert.ForgetSampleIdeal.main_arg0)
      ∧ m' ((c.tc : Thread Cert.ForgetSampleRefIdeal.nD Cert.ForgetSampleRefIdeal.τ).loc Cert.ForgetSampleRefIdeal.main_arg1) = m ((c.tc : Thread Cert.ForgetSampleIdeal.nD Cert.ForgetSampleIdeal.τ).loc Cert.ForgetSampleIdeal.main_arg1)
      ∧ m' ((c.tc : Thread Cert.ForgetSampleRefIdeal.nD Cert.ForgetSampleRefIdeal.τ).loc Cert.ForgetSampleRefIdeal.main_arg2) = m ((c.tc : Thread Cert.ForgetSampleIdeal.nD Cert.ForgetSampleIdeal.τ).loc Cert.ForgetSampleIdeal.main_arg2)
      ∧ m' ((c.tc : Thread Cert.ForgetSampleRefIdeal.nD Cert.ForgetSampleRefIdeal.τ).loc Cert.ForgetSampleRefIdeal.main_arg3) = m ((c.tc : Thread Cert.ForgetSampleIdeal.nD Cert.ForgetSampleIdeal.τ).loc Cert.ForgetSampleIdeal.main_arg3)) →
    ∃ (v0 : (c : Dev Cert.ForgetSampleIdeal.nD) → Buf (Elt Ideal) ((c.tc : Thread Cert.ForgetSampleIdeal.nD Cert.ForgetSampleIdeal.τ).loc Cert.ForgetSampleIdeal.main_v5)),
      θ_run (Cert.ForgetSampleIdeal.defs (F := Ideal)) (onTc (τ := Cert.ForgetSampleIdeal.τ) (Cert.ForgetSampleIdeal.main (F := Ideal))) ⟨m, fun _ => 0, g⟩ (fun r => ∀ c : Dev Cert.ForgetSampleIdeal.nD,
          r.2.mem ((c.tc : Thread Cert.ForgetSampleIdeal.nD Cert.ForgetSampleIdeal.τ).loc Cert.ForgetSampleIdeal.main_v5) = v0 c
          ∧ r.2.mem ((c.tc : Thread Cert.ForgetSampleIdeal.nD Cert.ForgetSampleIdeal.τ).loc Cert.ForgetSampleIdeal.main_arg0) = m ((c.tc : Thread Cert.ForgetSampleIdeal.nD Cert.ForgetSampleIdeal.τ).loc Cert.ForgetSampleIdeal.main_arg0)
          ∧ r.2.mem ((c.tc : Thread Cert.ForgetSampleIdeal.nD Cert.ForgetSampleIdeal.τ).loc Cert.ForgetSampleIdeal.main_arg1) = m ((c.tc : Thread Cert.ForgetSampleIdeal.nD Cert.ForgetSampleIdeal.τ).loc Cert.ForgetSampleIdeal.main_arg1)
          ∧ r.2.mem ((c.tc : Thread Cert.ForgetSampleIdeal.nD Cert.ForgetSampleIdeal.τ).loc Cert.ForgetSampleIdeal.main_arg2) = m ((c.tc : Thread Cert.ForgetSampleIdeal.nD Cert.ForgetSampleIdeal.τ).loc Cert.ForgetSampleIdeal.main_arg2)
          ∧ r.2.mem ((c.tc : Thread Cert.ForgetSampleIdeal.nD Cert.ForgetSampleIdeal.τ).loc Cert.ForgetSampleIdeal.main_arg3) = m ((c.tc : Thread Cert.ForgetSampleIdeal.nD Cert.ForgetSampleIdeal.τ).loc Cert.ForgetSampleIdeal.main_arg3))
      ∧ θ_run (Cert.ForgetSampleRefIdeal.defs (F := Ideal)) (onTc (τ := Cert.ForgetSampleRefIdeal.τ) (Cert.ForgetSampleRefIdeal.main (F := Ideal))) ⟨m', fun _ => 0, g'⟩ (fun r => ∀ c : Dev Cert.ForgetSampleRefIdeal.nD,
          r.2.mem ((c.tc : Thread Cert.ForgetSampleRefIdeal.nD Cert.ForgetSampleRefIdeal.τ).loc Cert.ForgetSampleRefIdeal.main_v18) = v0 c
          ∧ r.2.mem ((c.tc : Thread Cert.ForgetSampleRefIdeal.nD Cert.ForgetSampleRefIdeal.τ).loc Cert.ForgetSampleRefIdeal.main_arg0) = m' ((c.tc : Thread Cert.ForgetSampleRefIdeal.nD Cert.ForgetSampleRefIdeal.τ).loc Cert.ForgetSampleRefIdeal.main_arg0)
          ∧ r.2.mem ((c.tc : Thread Cert.ForgetSampleRefIdeal.nD Cert.ForgetSampleRefIdeal.τ).loc Cert.ForgetSampleRefIdeal.main_arg1) = m' ((c.tc : Thread Cert.ForgetSampleRefIdeal.nD Cert.ForgetSampleRefIdeal.τ).loc Cert.ForgetSampleRefIdeal.main_arg1)
          ∧ r.2.mem ((c.tc : Thread Cert.ForgetSampleRefIdeal.nD Cert.ForgetSampleRefIdeal.τ).loc Cert.ForgetSampleRefIdeal.main_arg2) = m' ((c.tc : Thread Cert.ForgetSampleRefIdeal.nD Cert.ForgetSampleRefIdeal.τ).loc Cert.ForgetSampleRefIdeal.main_arg2)
          ∧ r.2.mem ((c.tc : Thread Cert.ForgetSampleRefIdeal.nD Cert.ForgetSampleRefIdeal.τ).loc Cert.ForgetSampleRefIdeal.main_arg3) = m' ((c.tc : Thread Cert.ForgetSampleRefIdeal.nD Cert.ForgetSampleRefIdeal.τ).loc Cert.ForgetSampleRefIdeal.main_arg3))

def preserves_Mixer_MixerIdeal : Prop :=
  True

def algebraic_MixerIdeal_MixerRefIdeal [hMixerIdeal : Cert.MixerIdeal.Facts] [hMixerRefIdeal : Cert.MixerRefIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)
      ∧ m' ((c.tc : Thread Cert.MixerRefIdeal.nD Cert.MixerRefIdeal.τ).loc Cert.MixerRefIdeal.main_arg8) = m ((c.tc : Thread Cert.MixerIdeal.nD Cert.MixerIdeal.τ).loc Cert.MixerIdeal.main_arg8)
      ∧ m' ((c.tc : Thread Cert.MixerRefIdeal.nD Cert.MixerRefIdeal.τ).loc Cert.MixerRefIdeal.main_arg9) = m ((c.tc : Thread Cert.MixerIdeal.nD Cert.MixerIdeal.τ).loc Cert.MixerIdeal.main_arg9)) →
    ∃ (v0 : (c : Dev Cert.MixerIdeal.nD) → Buf (Elt Ideal) ((c.tc : Thread Cert.MixerIdeal.nD Cert.MixerIdeal.τ).loc Cert.MixerIdeal.main_v30_2)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v30_2) = v0 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v3) = v0 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7)
          ∧ r.2.mem ((c.tc : Thread Cert.MixerRefIdeal.nD Cert.MixerRefIdeal.τ).loc Cert.MixerRefIdeal.main_arg8) = m' ((c.tc : Thread Cert.MixerRefIdeal.nD Cert.MixerRefIdeal.τ).loc Cert.MixerRefIdeal.main_arg8)
          ∧ r.2.mem ((c.tc : Thread Cert.MixerRefIdeal.nD Cert.MixerRefIdeal.τ).loc Cert.MixerRefIdeal.main_arg9) = m' ((c.tc : Thread Cert.MixerRefIdeal.nD Cert.MixerRefIdeal.τ).loc Cert.MixerRefIdeal.main_arg9))

def preserves_MixSample_MixSampleIdeal : Prop :=
  True

def algebraic_MixSampleIdeal_MixSampleRefIdeal [hMixSampleIdeal : Cert.MixSampleIdeal.Facts] [hMixSampleRefIdeal : Cert.MixSampleRefIdeal.Facts] : Prop :=
  ∀ (m : (ℓ : Loc Cert.MixSampleIdeal.nD Cert.MixSampleIdeal.τ Cert.MixSampleIdeal.sig) → Buf (Elt Ideal) ℓ) (g : Dev Cert.MixSampleIdeal.nD → PrngReg)
    (m' : (ℓ : Loc Cert.MixSampleRefIdeal.nD Cert.MixSampleRefIdeal.τ Cert.MixSampleRefIdeal.sig) → Buf (Elt Ideal) ℓ) (g' : Dev Cert.MixSampleRefIdeal.nD → PrngReg), Pre_MixSampleIdeal m →
    (∀ c : Dev Cert.MixSampleIdeal.nD,
      m' ((c.tc : Thread Cert.MixSampleRefIdeal.nD Cert.MixSampleRefIdeal.τ).loc Cert.MixSampleRefIdeal.main_arg0) = m ((c.tc : Thread Cert.MixSampleIdeal.nD Cert.MixSampleIdeal.τ).loc Cert.MixSampleIdeal.main_arg0)
      ∧ m' ((c.tc : Thread Cert.MixSampleRefIdeal.nD Cert.MixSampleRefIdeal.τ).loc Cert.MixSampleRefIdeal.main_arg1) = m ((c.tc : Thread Cert.MixSampleIdeal.nD Cert.MixSampleIdeal.τ).loc Cert.MixSampleIdeal.main_arg1)
      ∧ m' ((c.tc : Thread Cert.MixSampleRefIdeal.nD Cert.MixSampleRefIdeal.τ).loc Cert.MixSampleRefIdeal.main_arg2) = m ((c.tc : Thread Cert.MixSampleIdeal.nD Cert.MixSampleIdeal.τ).loc Cert.MixSampleIdeal.main_arg2)
      ∧ m' ((c.tc : Thread Cert.MixSampleRefIdeal.nD Cert.MixSampleRefIdeal.τ).loc Cert.MixSampleRefIdeal.main_arg3) = m ((c.tc : Thread Cert.MixSampleIdeal.nD Cert.MixSampleIdeal.τ).loc Cert.MixSampleIdeal.main_arg3)
      ∧ m' ((c.tc : Thread Cert.MixSampleRefIdeal.nD Cert.MixSampleRefIdeal.τ).loc Cert.MixSampleRefIdeal.main_arg4) = m ((c.tc : Thread Cert.MixSampleIdeal.nD Cert.MixSampleIdeal.τ).loc Cert.MixSampleIdeal.main_arg4)
      ∧ m' ((c.tc : Thread Cert.MixSampleRefIdeal.nD Cert.MixSampleRefIdeal.τ).loc Cert.MixSampleRefIdeal.main_arg5) = m ((c.tc : Thread Cert.MixSampleIdeal.nD Cert.MixSampleIdeal.τ).loc Cert.MixSampleIdeal.main_arg5)
      ∧ m' ((c.tc : Thread Cert.MixSampleRefIdeal.nD Cert.MixSampleRefIdeal.τ).loc Cert.MixSampleRefIdeal.main_arg6) = m ((c.tc : Thread Cert.MixSampleIdeal.nD Cert.MixSampleIdeal.τ).loc Cert.MixSampleIdeal.main_arg6)
      ∧ m' ((c.tc : Thread Cert.MixSampleRefIdeal.nD Cert.MixSampleRefIdeal.τ).loc Cert.MixSampleRefIdeal.main_arg7) = m ((c.tc : Thread Cert.MixSampleIdeal.nD Cert.MixSampleIdeal.τ).loc Cert.MixSampleIdeal.main_arg7)
      ∧ m' ((c.tc : Thread Cert.MixSampleRefIdeal.nD Cert.MixSampleRefIdeal.τ).loc Cert.MixSampleRefIdeal.main_arg8) = m ((c.tc : Thread Cert.MixSampleIdeal.nD Cert.MixSampleIdeal.τ).loc Cert.MixSampleIdeal.main_arg8)
      ∧ m' ((c.tc : Thread Cert.MixSampleRefIdeal.nD Cert.MixSampleRefIdeal.τ).loc Cert.MixSampleRefIdeal.main_arg9) = m ((c.tc : Thread Cert.MixSampleIdeal.nD Cert.MixSampleIdeal.τ).loc Cert.MixSampleIdeal.main_arg9)) →
    ∃ (v0 : (c : Dev Cert.MixSampleIdeal.nD) → Buf (Elt Ideal) ((c.tc : Thread Cert.MixSampleIdeal.nD Cert.MixSampleIdeal.τ).loc Cert.MixSampleIdeal.main_v29_2)),
      θ_run (Cert.MixSampleIdeal.defs (F := Ideal)) (onTc (τ := Cert.MixSampleIdeal.τ) (Cert.MixSampleIdeal.main (F := Ideal))) ⟨m, fun _ => 0, g⟩ (fun r => ∀ c : Dev Cert.MixSampleIdeal.nD,
          r.2.mem ((c.tc : Thread Cert.MixSampleIdeal.nD Cert.MixSampleIdeal.τ).loc Cert.MixSampleIdeal.main_v29_2) = v0 c
          ∧ r.2.mem ((c.tc : Thread Cert.MixSampleIdeal.nD Cert.MixSampleIdeal.τ).loc Cert.MixSampleIdeal.main_arg0) = m ((c.tc : Thread Cert.MixSampleIdeal.nD Cert.MixSampleIdeal.τ).loc Cert.MixSampleIdeal.main_arg0)
          ∧ r.2.mem ((c.tc : Thread Cert.MixSampleIdeal.nD Cert.MixSampleIdeal.τ).loc Cert.MixSampleIdeal.main_arg1) = m ((c.tc : Thread Cert.MixSampleIdeal.nD Cert.MixSampleIdeal.τ).loc Cert.MixSampleIdeal.main_arg1)
          ∧ r.2.mem ((c.tc : Thread Cert.MixSampleIdeal.nD Cert.MixSampleIdeal.τ).loc Cert.MixSampleIdeal.main_arg2) = m ((c.tc : Thread Cert.MixSampleIdeal.nD Cert.MixSampleIdeal.τ).loc Cert.MixSampleIdeal.main_arg2)
          ∧ r.2.mem ((c.tc : Thread Cert.MixSampleIdeal.nD Cert.MixSampleIdeal.τ).loc Cert.MixSampleIdeal.main_arg3) = m ((c.tc : Thread Cert.MixSampleIdeal.nD Cert.MixSampleIdeal.τ).loc Cert.MixSampleIdeal.main_arg3)
          ∧ r.2.mem ((c.tc : Thread Cert.MixSampleIdeal.nD Cert.MixSampleIdeal.τ).loc Cert.MixSampleIdeal.main_arg4) = m ((c.tc : Thread Cert.MixSampleIdeal.nD Cert.MixSampleIdeal.τ).loc Cert.MixSampleIdeal.main_arg4)
          ∧ r.2.mem ((c.tc : Thread Cert.MixSampleIdeal.nD Cert.MixSampleIdeal.τ).loc Cert.MixSampleIdeal.main_arg5) = m ((c.tc : Thread Cert.MixSampleIdeal.nD Cert.MixSampleIdeal.τ).loc Cert.MixSampleIdeal.main_arg5)
          ∧ r.2.mem ((c.tc : Thread Cert.MixSampleIdeal.nD Cert.MixSampleIdeal.τ).loc Cert.MixSampleIdeal.main_arg6) = m ((c.tc : Thread Cert.MixSampleIdeal.nD Cert.MixSampleIdeal.τ).loc Cert.MixSampleIdeal.main_arg6)
          ∧ r.2.mem ((c.tc : Thread Cert.MixSampleIdeal.nD Cert.MixSampleIdeal.τ).loc Cert.MixSampleIdeal.main_arg7) = m ((c.tc : Thread Cert.MixSampleIdeal.nD Cert.MixSampleIdeal.τ).loc Cert.MixSampleIdeal.main_arg7)
          ∧ r.2.mem ((c.tc : Thread Cert.MixSampleIdeal.nD Cert.MixSampleIdeal.τ).loc Cert.MixSampleIdeal.main_arg8) = m ((c.tc : Thread Cert.MixSampleIdeal.nD Cert.MixSampleIdeal.τ).loc Cert.MixSampleIdeal.main_arg8)
          ∧ r.2.mem ((c.tc : Thread Cert.MixSampleIdeal.nD Cert.MixSampleIdeal.τ).loc Cert.MixSampleIdeal.main_arg9) = m ((c.tc : Thread Cert.MixSampleIdeal.nD Cert.MixSampleIdeal.τ).loc Cert.MixSampleIdeal.main_arg9))
      ∧ θ_run (Cert.MixSampleRefIdeal.defs (F := Ideal)) (onTc (τ := Cert.MixSampleRefIdeal.τ) (Cert.MixSampleRefIdeal.main (F := Ideal))) ⟨m', fun _ => 0, g'⟩ (fun r => ∀ c : Dev Cert.MixSampleRefIdeal.nD,
          r.2.mem ((c.tc : Thread Cert.MixSampleRefIdeal.nD Cert.MixSampleRefIdeal.τ).loc Cert.MixSampleRefIdeal.main_v3) = v0 c
          ∧ r.2.mem ((c.tc : Thread Cert.MixSampleRefIdeal.nD Cert.MixSampleRefIdeal.τ).loc Cert.MixSampleRefIdeal.main_arg0) = m' ((c.tc : Thread Cert.MixSampleRefIdeal.nD Cert.MixSampleRefIdeal.τ).loc Cert.MixSampleRefIdeal.main_arg0)
          ∧ r.2.mem ((c.tc : Thread Cert.MixSampleRefIdeal.nD Cert.MixSampleRefIdeal.τ).loc Cert.MixSampleRefIdeal.main_arg1) = m' ((c.tc : Thread Cert.MixSampleRefIdeal.nD Cert.MixSampleRefIdeal.τ).loc Cert.MixSampleRefIdeal.main_arg1)
          ∧ r.2.mem ((c.tc : Thread Cert.MixSampleRefIdeal.nD Cert.MixSampleRefIdeal.τ).loc Cert.MixSampleRefIdeal.main_arg2) = m' ((c.tc : Thread Cert.MixSampleRefIdeal.nD Cert.MixSampleRefIdeal.τ).loc Cert.MixSampleRefIdeal.main_arg2)
          ∧ r.2.mem ((c.tc : Thread Cert.MixSampleRefIdeal.nD Cert.MixSampleRefIdeal.τ).loc Cert.MixSampleRefIdeal.main_arg3) = m' ((c.tc : Thread Cert.MixSampleRefIdeal.nD Cert.MixSampleRefIdeal.τ).loc Cert.MixSampleRefIdeal.main_arg3)
          ∧ r.2.mem ((c.tc : Thread Cert.MixSampleRefIdeal.nD Cert.MixSampleRefIdeal.τ).loc Cert.MixSampleRefIdeal.main_arg4) = m' ((c.tc : Thread Cert.MixSampleRefIdeal.nD Cert.MixSampleRefIdeal.τ).loc Cert.MixSampleRefIdeal.main_arg4)
          ∧ r.2.mem ((c.tc : Thread Cert.MixSampleRefIdeal.nD Cert.MixSampleRefIdeal.τ).loc Cert.MixSampleRefIdeal.main_arg5) = m' ((c.tc : Thread Cert.MixSampleRefIdeal.nD Cert.MixSampleRefIdeal.τ).loc Cert.MixSampleRefIdeal.main_arg5)
          ∧ r.2.mem ((c.tc : Thread Cert.MixSampleRefIdeal.nD Cert.MixSampleRefIdeal.τ).loc Cert.MixSampleRefIdeal.main_arg6) = m' ((c.tc : Thread Cert.MixSampleRefIdeal.nD Cert.MixSampleRefIdeal.τ).loc Cert.MixSampleRefIdeal.main_arg6)
          ∧ r.2.mem ((c.tc : Thread Cert.MixSampleRefIdeal.nD Cert.MixSampleRefIdeal.τ).loc Cert.MixSampleRefIdeal.main_arg7) = m' ((c.tc : Thread Cert.MixSampleRefIdeal.nD Cert.MixSampleRefIdeal.τ).loc Cert.MixSampleRefIdeal.main_arg7)
          ∧ r.2.mem ((c.tc : Thread Cert.MixSampleRefIdeal.nD Cert.MixSampleRefIdeal.τ).loc Cert.MixSampleRefIdeal.main_arg8) = m' ((c.tc : Thread Cert.MixSampleRefIdeal.nD Cert.MixSampleRefIdeal.τ).loc Cert.MixSampleRefIdeal.main_arg8)
          ∧ r.2.mem ((c.tc : Thread Cert.MixSampleRefIdeal.nD Cert.MixSampleRefIdeal.τ).loc Cert.MixSampleRefIdeal.main_arg9) = m' ((c.tc : Thread Cert.MixSampleRefIdeal.nD Cert.MixSampleRefIdeal.τ).loc Cert.MixSampleRefIdeal.main_arg9))

def Claim : Prop :=
  ∃ (hFlash : Cert.Flash.Facts) (hFlashIdeal : Cert.FlashIdeal.Facts) (hAttentionIdeal : Cert.AttentionIdeal.Facts) (hOutProj : Cert.OutProj.Facts) (hOutProjIdeal : Cert.OutProjIdeal.Facts) (hOutProjRefIdeal : Cert.OutProjRefIdeal.Facts) (hInProj : Cert.InProj.Facts) (hInProjIdeal : Cert.InProjIdeal.Facts) (hInProjRefIdeal : Cert.InProjRefIdeal.Facts) (hMoe : Cert.Moe.Facts) (hMoeIdeal : Cert.MoeIdeal.Facts) (hMoeRefIdeal : Cert.MoeRefIdeal.Facts) (hKvProj : Cert.KvProj.Facts) (hKvProjIdeal : Cert.KvProjIdeal.Facts) (hKvProjRefIdeal : Cert.KvProjRefIdeal.Facts) (hLogForget : Cert.LogForget.Facts) (hLogForgetIdeal : Cert.LogForgetIdeal.Facts) (hLogForgetRefIdeal : Cert.LogForgetRefIdeal.Facts) (hQProj : Cert.QProj.Facts) (hQProjIdeal : Cert.QProjIdeal.Facts) (hQProjRefIdeal : Cert.QProjRefIdeal.Facts) (hOProj : Cert.OProj.Facts) (hOProjIdeal : Cert.OProjIdeal.Facts) (hOProjRefIdeal : Cert.OProjRefIdeal.Facts) (hKvSample : Cert.KvSample.Facts) (hKvSampleIdeal : Cert.KvSampleIdeal.Facts) (hKvSampleRefIdeal : Cert.KvSampleRefIdeal.Facts) (hForgetSample : Cert.ForgetSample.Facts) (hForgetSampleIdeal : Cert.ForgetSampleIdeal.Facts) (hForgetSampleRefIdeal : Cert.ForgetSampleRefIdeal.Facts) (hMixer : Cert.Mixer.Facts) (hMixerIdeal : Cert.MixerIdeal.Facts) (hMixerRefIdeal : Cert.MixerRefIdeal.Facts) (hMixSample : Cert.MixSample.Facts) (hMixSampleIdeal : Cert.MixSampleIdeal.Facts) (hMixSampleRefIdeal : Cert.MixSampleRefIdeal.Facts) (hPre_finite : Cert.Pre_finite.Facts) (hPre_routed : Cert.Pre_routed.Facts),
    quiescent_Flash (hFlash := hFlash)
    ∧ quiescent_FlashIdeal (hFlashIdeal := hFlashIdeal)
    ∧ quiescent_FlashIdeal_pre_finite (hFlashIdeal := hFlashIdeal) (hPre_finite := hPre_finite)
    ∧ quiescent_AttentionIdeal (hAttentionIdeal := hAttentionIdeal)
    ∧ quiescent_AttentionIdeal_pre_finite (hAttentionIdeal := hAttentionIdeal) (hPre_finite := hPre_finite)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InProj (hInProj := hInProj)
    ∧ quiescent_InProjIdeal (hInProjIdeal := hInProjIdeal)
    ∧ quiescent_InProjRefIdeal (hInProjRefIdeal := hInProjRefIdeal)
    ∧ quiescent_Moe (hMoe := hMoe)
    ∧ quiescent_MoeIdeal (hMoeIdeal := hMoeIdeal)
    ∧ quiescent_MoeIdeal_pre_routed (hMoeIdeal := hMoeIdeal) (hPre_routed := hPre_routed)
    ∧ quiescent_MoeRefIdeal (hMoeRefIdeal := hMoeRefIdeal)
    ∧ quiescent_MoeRefIdeal_pre_routed (hMoeRefIdeal := hMoeRefIdeal) (hPre_routed := hPre_routed)
    ∧ quiescent_KvProj (hKvProj := hKvProj)
    ∧ quiescent_KvProjIdeal (hKvProjIdeal := hKvProjIdeal)
    ∧ quiescent_KvProjRefIdeal (hKvProjRefIdeal := hKvProjRefIdeal)
    ∧ quiescent_LogForget (hLogForget := hLogForget)
    ∧ quiescent_LogForgetIdeal (hLogForgetIdeal := hLogForgetIdeal)
    ∧ quiescent_LogForgetRefIdeal (hLogForgetRefIdeal := hLogForgetRefIdeal)
    ∧ quiescent_QProj (hQProj := hQProj)
    ∧ quiescent_QProjIdeal (hQProjIdeal := hQProjIdeal)
    ∧ quiescent_QProjRefIdeal (hQProjRefIdeal := hQProjRefIdeal)
    ∧ quiescent_OProj (hOProj := hOProj)
    ∧ quiescent_OProjIdeal (hOProjIdeal := hOProjIdeal)
    ∧ quiescent_OProjRefIdeal (hOProjRefIdeal := hOProjRefIdeal)
    ∧ quiescent_KvSample (hKvSample := hKvSample)
    ∧ quiescent_KvSampleIdeal (hKvSampleIdeal := hKvSampleIdeal)
    ∧ quiescent_KvSampleRefIdeal (hKvSampleRefIdeal := hKvSampleRefIdeal)
    ∧ quiescent_ForgetSample (hForgetSample := hForgetSample)
    ∧ quiescent_ForgetSampleIdeal (hForgetSampleIdeal := hForgetSampleIdeal)
    ∧ quiescent_ForgetSampleRefIdeal (hForgetSampleRefIdeal := hForgetSampleRefIdeal)
    ∧ quiescent_Mixer (hMixer := hMixer)
    ∧ quiescent_MixerIdeal (hMixerIdeal := hMixerIdeal)
    ∧ quiescent_MixerRefIdeal (hMixerRefIdeal := hMixerRefIdeal)
    ∧ quiescent_MixSample (hMixSample := hMixSample)
    ∧ quiescent_MixSampleIdeal (hMixSampleIdeal := hMixSampleIdeal)
    ∧ quiescent_MixSampleRefIdeal (hMixSampleRefIdeal := hMixSampleRefIdeal)
    ∧ preserves_Flash_FlashIdeal
    ∧ algebraic_FlashIdeal_AttentionIdeal_pre_finite (hFlashIdeal := hFlashIdeal) (hAttentionIdeal := hAttentionIdeal) (hPre_finite := hPre_finite)
    ∧ preserves_OutProj_OutProjIdeal
    ∧ algebraic_OutProjIdeal_OutProjRefIdeal (hOutProjIdeal := hOutProjIdeal) (hOutProjRefIdeal := hOutProjRefIdeal)
    ∧ preserves_InProj_InProjIdeal
    ∧ algebraic_InProjIdeal_InProjRefIdeal (hInProjIdeal := hInProjIdeal) (hInProjRefIdeal := hInProjRefIdeal)
    ∧ preserves_Moe_MoeIdeal
    ∧ algebraic_MoeIdeal_MoeRefIdeal_pre_routed (hMoeIdeal := hMoeIdeal) (hMoeRefIdeal := hMoeRefIdeal) (hPre_routed := hPre_routed)
    ∧ preserves_KvProj_KvProjIdeal
    ∧ algebraic_KvProjIdeal_KvProjRefIdeal (hKvProjIdeal := hKvProjIdeal) (hKvProjRefIdeal := hKvProjRefIdeal)
    ∧ preserves_LogForget_LogForgetIdeal
    ∧ algebraic_LogForgetIdeal_LogForgetRefIdeal (hLogForgetIdeal := hLogForgetIdeal) (hLogForgetRefIdeal := hLogForgetRefIdeal)
    ∧ preserves_QProj_QProjIdeal
    ∧ algebraic_QProjIdeal_QProjRefIdeal (hQProjIdeal := hQProjIdeal) (hQProjRefIdeal := hQProjRefIdeal)
    ∧ preserves_OProj_OProjIdeal
    ∧ algebraic_OProjIdeal_OProjRefIdeal (hOProjIdeal := hOProjIdeal) (hOProjRefIdeal := hOProjRefIdeal)
    ∧ preserves_KvSample_KvSampleIdeal
    ∧ algebraic_KvSampleIdeal_KvSampleRefIdeal (hKvSampleIdeal := hKvSampleIdeal) (hKvSampleRefIdeal := hKvSampleRefIdeal)
    ∧ preserves_ForgetSample_ForgetSampleIdeal
    ∧ algebraic_ForgetSampleIdeal_ForgetSampleRefIdeal (hForgetSampleIdeal := hForgetSampleIdeal) (hForgetSampleRefIdeal := hForgetSampleRefIdeal)
    ∧ preserves_Mixer_MixerIdeal
    ∧ algebraic_MixerIdeal_MixerRefIdeal (hMixerIdeal := hMixerIdeal) (hMixerRefIdeal := hMixerRefIdeal)
    ∧ preserves_MixSample_MixSampleIdeal
    ∧ algebraic_MixSampleIdeal_MixSampleRefIdeal (hMixSampleIdeal := hMixSampleIdeal) (hMixSampleRefIdeal := hMixSampleRefIdeal)
-- ==== Pre_finite.lean ====
abbrev S8192x2048 : Shape := ⟨2, ![8192, 2048]⟩
abbrev S8192x4096 : Shape := ⟨2, ![8192, 4096]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  slices_S8192x4096_S8192x2048_0_0 : S8192x4096.Slices ![0, 0] S8192x2048

variable [Facts]

def fn {F : FTy → Type} [FloatOps F] (main_arg0 : FVec F S8192x2048 .bf16) (main_arg1 : FVec F S8192x4096 .bf16) (main_arg2 : FVec F S8192x2048 .bf16) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S8192x2048 .bf16 := (extractStridedSlice S8192x2048 ![0, 0] · slices_S8192x4096_S8192x2048_0_0) main_arg1
  let main_v6 : FVec F S8192x2048 .f32 := (extf .f32 · bitsLt_bf16_f32) main_v5
  let main_v7 : FVec F S8192x2048 .f32 := Host.absf main_v6
  let main_cst_0 : FVec F S_ .f32 := constant S_ .f32 0x7F800000#32
  let main_v8 : FVec F S8192x2048 .f32 := broadcastInDim S8192x2048 ![] bcast_S_S8192x2048 main_cst_0
  let main_v9 : IVec S8192x2048 1 := cmpf .olt main_v7 main_v8
  let main_c_1 : IVec S_ 1 := constantI S_ 1 1#1
  let main_v10 : IVec S_ 1 := (fun x v => Host.reduce IntOp.andi x v reducesTo_S8192x2048_S_d0_1 h_S_) main_v9 main_c_1
  let main_v11 : IVec S_ 1 := andi main_v4 main_v10
  let main_v12 : FVec F S8192x2048 .f32 := (extf .f32 · bitsLt_bf16_f32) main_arg2
  let main_v13 : FVec F S8192x2048 .f32 := Host.absf main_v12
  let main_cst_2 : FVec F S_ .f32 := constant S_ .f32 0x7F800000#32
  let main_v14 : FVec F S8192x2048 .f32 := broadcastInDim S8192x2048 ![] bcast_S_S8192x2048 main_cst_2
  let main_v15 : IVec S8192x2048 1 := cmpf .olt main_v13 main_v14
  let main_c_3 : IVec S_ 1 := constantI S_ 1 1#1
  let main_v16 : IVec S_ 1 := (fun x v => Host.reduce IntOp.andi x v reducesTo_S8192x2048_S_d0_1 h_S_) main_v15 main_c_3
  let main_v17 : IVec S_ 1 := andi main_v11 main_v16
  main_v17
-- ==== Pre_routed.lean ====
abbrev S8192x2048 : Shape := ⟨2, ![8192, 2048]⟩
abbrev S8192x128 : Shape := ⟨2, ![8192, 128]⟩
abbrev S16x2048x512 : Shape := ⟨3, ![16, 2048, 512]⟩
abbrev S16x512x2048 : Shape := ⟨3, ![16, 512, 2048]⟩
abbrev S8192x1 : Shape := ⟨2, ![8192, 1]⟩
abbrev S_ : Shape := ⟨0, ![]⟩
abbrev S8192x4 : Shape := ⟨2, ![8192, 4]⟩

class Facts : Prop where
  slices_S8192x128_S8192x1_0_16 : S8192x128.Slices ![0, 16] S8192x1
  bcast_S_S8192x1 : S_.BroadcastsInDim S8192x1 (![] : Fin 0 → Fin S8192x1.rank)
  reducesTo_S8192x1_S_d0_1 : S8192x1.ReducesTo [0, 1] S_
  h_S_ : 0 < S_.numel
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  bcast_S_S8192x128 : S_.BroadcastsInDim S8192x128 (![] : Fin 0 → Fin S8192x128.rank)
  reducesTo_S8192x128_S_d0_1 : S8192x128.ReducesTo [0, 1] S_
  bcast_S_S16x2048x512 : S_.BroadcastsInDim S16x2048x512 (![] : Fin 0 → Fin S16x2048x512.rank)
  reducesTo_S16x2048x512_S_d0_1_2 : S16x2048x512.ReducesTo [0, 1, 2] S_
  bcast_S_S16x512x2048 : S_.BroadcastsInDim S16x512x2048 (![] : Fin 0 → Fin S16x512x2048.rank)
  reducesTo_S16x512x2048_S_d0_1_2 : S16x512x2048.ReducesTo [0, 1, 2] S_
  slices_S8192x128_S8192x4_0_0 : S8192x128.Slices ![0, 0] S8192x4
  bcast_S_S8192x4 : S_.BroadcastsInDim S8192x4 (![] : Fin 0 → Fin S8192x4.rank)
  bcast_S8192x1_S8192x4_0_1 : S8192x1.BroadcastsInDim S8192x4 (![0, 1] : Fin 2 → Fin S8192x4.rank)
  reducesTo_S8192x4_S_d0_1 : S8192x4.ReducesTo [0, 1] S_
  slices_S8192x128_S8192x4_0_4 : S8192x128.Slices ![0, 4] S8192x4
  slices_S8192x128_S8192x4_0_8 : S8192x128.Slices ![0, 8] S8192x4
  slices_S8192x128_S8192x4_0_12 : S8192x128.Slices ![0, 12] S8192x4

variable [Facts]

def fn_part4 {F : FTy → Type} [FloatOps F] (main_v0 : FVec F S8192x1 .f32) (main_v68 : IVec S_ 1) (main_v69 : FVec F S8192x4 .f32) (main_v70 : FVec F S8192x4 .f32) : IVec S_ 1 :=
  let main_v71 : IVec S8192x4 1 := cmpf .oeq main_v69 main_v70
  let main_cst_23 : FVec F S_ .f32 := constant S_ .f32 0x40400000#32
  let main_v72 : FVec F S8192x1 .f32 := broadcastInDim S8192x1 ![] bcast_S_S8192x1 main_cst_23
  let main_v73 : IVec S8192x1 1 := cmpf .oeq main_v0 main_v72
  let main_v74 : IVec S8192x4 1 := broadcastInDim S8192x4 ![0, 1] bcast_S8192x1_S8192x4_0_1 main_v73
  let main_v75 : IVec S8192x4 1 := ori main_v71 main_v74
  let main_c_24 : IVec S_ 1 := constantI S_ 1 1#1
  let main_v76 : IVec S_ 1 := (fun x v => Host.reduce IntOp.andi x v reducesTo_S8192x4_S_d0_1 h_S_) main_v75 main_c_24
  let main_v77 : IVec S_ 1 := andi main_v68 main_v76
  main_v77

def fn_part3 {F : FTy → Type} [FloatOps F] (main_arg1 : FVec F S8192x128 .f32) (main_v0 : FVec F S8192x1 .f32) (main_v50 : IVec S_ 1) (main_v51 : FVec F S8192x4 .f32) (main_v52 : FVec F S8192x4 .f32) : IVec S_ 1 :=
  let main_v53 : IVec S8192x4 1 := cmpf .oeq main_v51 main_v52
  let main_cst_17 : FVec F S_ .f32 := constant S_ .f32 0x3F800000#32
  let main_v54 : FVec F S8192x1 .f32 := broadcastInDim S8192x1 ![] bcast_S_S8192x1 main_cst_17
  let main_v55 : IVec S8192x1 1 := cmpf .oeq main_v0 main_v54
  let main_v56 : IVec S8192x4 1 := broadcastInDim S8192x4 ![0, 1] bcast_S8192x1_S8192x4_0_1 main_v55
  let main_v57 : IVec S8192x4 1 := ori main_v53 main_v56
  let main_c_18 : IVec S_ 1 := constantI S_ 1 1#1
  let main_v58 : IVec S_ 1 := (fun x v => Host.reduce IntOp.andi x v reducesTo_S8192x4_S_d0_1 h_S_) main_v57 main_c_18
  let main_v59 : IVec S_ 1 := andi main_v50 main_v58
  let main_v60 : FVec F S8192x4 .f32 := (extractStridedSlice S8192x4 ![0, 8] · slices_S8192x128_S8192x4_0_8) main_arg1
  let main_cst_19 : FVec F S_ .f32 := constant S_ .f32 0x00000000#32
  let main_v61 : FVec F S8192x4 .f32 := broadcastInDim S8192x4 ![] bcast_S_S8192x4 main_cst_19
  let main_v62 : IVec S8192x4 1 := cmpf .oeq main_v60 main_v61
  let main_cst_20 : FVec F S_ .f32 := constant S_ .f32 0x40000000#32
  let main_v63 : FVec F S8192x1 .f32 := broadcastInDim S8192x1 ![] bcast_S_S8192x1 main_cst_20
  let main_v64 : IVec S8192x1 1 := cmpf .oeq main_v0 main_v63
  let main_v65 : IVec S8192x4 1 := broadcastInDim S8192x4 ![0, 1] bcast_S8192x1_S8192x4_0_1 main_v64
  let main_v66 : IVec S8192x4 1 := ori main_v62 main_v65
  let main_c_21 : IVec S_ 1 := constantI S_ 1 1#1
  let main_v67 : IVec S_ 1 := (fun x v => Host.reduce IntOp.andi x v reducesTo_S8192x4_S_d0_1 h_S_) main_v66 main_c_21
  let main_v68 : IVec S_ 1 := andi main_v59 main_v67
  let main_v69 : FVec F S8192x4 .f32 := (extractStridedSlice S8192x4 ![0, 12] · slices_S8192x128_S8192x4_0_12) main_arg1
  let main_cst_22 : FVec F S_ .f32 := constant S_ .f32 0x00000000#32
  let main_v70 : FVec F S8192x4 .f32 := broadcastInDim S8192x4 ![] bcast_S_S8192x4 main_cst_22
  fn_part4 (F := F) main_v0 main_v68 main_v69 main_v70

def fn_part2 {F : FTy → Type} [FloatOps F] (main_arg1 : FVec F S8192x128 .f32) (main_arg5 : FVec F S16x512x2048 .bf16) (main_v0 : FVec F S8192x1 .f32) (main_v12 : IVec S_ 1) (main_v34 : IVec S_ 1) : IVec S_ 1 :=
  let main_v35 : FVec F S16x512x2048 .f32 := (extf .f32 · bitsLt_bf16_f32) main_arg5
  let main_v36 : FVec F S16x512x2048 .f32 := Host.absf main_v35
  let main_cst_11 : FVec F S_ .f32 := constant S_ .f32 0x7F800000#32
  let main_v37 : FVec F S16x512x2048 .f32 := broadcastInDim S16x512x2048 ![] bcast_S_S16x512x2048 main_cst_11
  let main_v38 : IVec S16x512x2048 1 := cmpf .olt main_v36 main_v37
  let main_c_12 : IVec S_ 1 := constantI S_ 1 1#1
  let main_v39 : IVec S_ 1 := (fun x v => Host.reduce IntOp.andi x v reducesTo_S16x512x2048_S_d0_1_2 h_S_) main_v38 main_c_12
  let main_v40 : IVec S_ 1 := andi main_v34 main_v39
  let main_v41 : IVec S_ 1 := andi main_v40 main_v12
  let main_v42 : FVec F S8192x4 .f32 := (extractStridedSlice S8192x4 ![0, 0] · slices_S8192x128_S8192x4_0_0) main_arg1
  let main_cst_13 : FVec F S_ .f32 := constant S_ .f32 0x00000000#32
  let main_v43 : FVec F S8192x4 .f32 := broadcastInDim S8192x4 ![] bcast_S_S8192x4 main_cst_13
  let main_v44 : IVec S8192x4 1 := cmpf .oeq main_v42 main_v43
  let main_cst_14 : FVec F S_ .f32 := constant S_ .f32 0x00000000#32
  let main_v45 : FVec F S8192x1 .f32 := broadcastInDim S8192x1 ![] bcast_S_S8192x1 main_cst_14
  let main_v46 : IVec S8192x1 1 := cmpf .oeq main_v0 main_v45
  let main_v47 : IVec S8192x4 1 := broadcastInDim S8192x4 ![0, 1] bcast_S8192x1_S8192x4_0_1 main_v46
  let main_v48 : IVec S8192x4 1 := ori main_v44 main_v47
  let main_c_15 : IVec S_ 1 := constantI S_ 1 1#1
  let main_v49 : IVec S_ 1 := (fun x v => Host.reduce IntOp.andi x v reducesTo_S8192x4_S_d0_1 h_S_) main_v48 main_c_15
  let main_v50 : IVec S_ 1 := andi main_v41 main_v49
  let main_v51 : FVec F S8192x4 .f32 := (extractStridedSlice S8192x4 ![0, 4] · slices_S8192x128_S8192x4_0_4) main_arg1
  let main_cst_16 : FVec F S_ .f32 := constant S_ .f32 0x00000000#32
  let main_v52 : FVec F S8192x4 .f32 := broadcastInDim S8192x4 ![] bcast_S_S8192x4 main_cst_16
  fn_part3 (F := F) main_arg1 main_v0 main_v50 main_v51 main_v52

def fn_part1 {F : FTy → Type} [FloatOps F] (main_arg1 : FVec F S8192x128 .f32) (main_arg3 : FVec F S16x2048x512 .bf16) (main_arg4 : FVec F S16x2048x512 .bf16) (main_arg5 : FVec F S16x512x2048 .bf16) (main_v0 : FVec F S8192x1 .f32) (main_v12 : IVec S_ 1) (main_v16 : IVec S8192x2048 1) (main_c_4 : IVec S_ 1) : IVec S_ 1 :=
  let main_v17 : IVec S_ 1 := (fun x v => Host.reduce IntOp.andi x v reducesTo_S8192x2048_S_d0_1 h_S_) main_v16 main_c_4
  let main_v18 : FVec F S8192x128 .f32 := Host.absf main_arg1
  let main_cst_5 : FVec F S_ .f32 := constant S_ .f32 0x7F800000#32
  let main_v19 : FVec F S8192x128 .f32 := broadcastInDim S8192x128 ![] bcast_S_S8192x128 main_cst_5
  let main_v20 : IVec S8192x128 1 := cmpf .olt main_v18 main_v19
  let main_c_6 : IVec S_ 1 := constantI S_ 1 1#1
  let main_v21 : IVec S_ 1 := (fun x v => Host.reduce IntOp.andi x v reducesTo_S8192x128_S_d0_1 h_S_) main_v20 main_c_6
  let main_v22 : IVec S_ 1 := andi main_v17 main_v21
  let main_v23 : FVec F S16x2048x512 .f32 := (extf .f32 · bitsLt_bf16_f32) main_arg3
  let main_v24 : FVec F S16x2048x512 .f32 := Host.absf main_v23
  let main_cst_7 : FVec F S_ .f32 := constant S_ .f32 0x7F800000#32
  let main_v25 : FVec F S16x2048x512 .f32 := broadcastInDim S16x2048x512 ![] bcast_S_S16x2048x512 main_cst_7
  let main_v26 : IVec S16x2048x512 1 := cmpf .olt main_v24 main_v25
  let main_c_8 : IVec S_ 1 := constantI S_ 1 1#1
  let main_v27 : IVec S_ 1 := (fun x v => Host.reduce IntOp.andi x v reducesTo_S16x2048x512_S_d0_1_2 h_S_) main_v26 main_c_8
  let main_v28 : IVec S_ 1 := andi main_v22 main_v27
  let main_v29 : FVec F S16x2048x512 .f32 := (extf .f32 · bitsLt_bf16_f32) main_arg4
  let main_v30 : FVec F S16x2048x512 .f32 := Host.absf main_v29
  let main_cst_9 : FVec F S_ .f32 := constant S_ .f32 0x7F800000#32
  let main_v31 : FVec F S16x2048x512 .f32 := broadcastInDim S16x2048x512 ![] bcast_S_S16x2048x512 main_cst_9
  let main_v32 : IVec S16x2048x512 1 := cmpf .olt main_v30 main_v31
  let main_c_10 : IVec S_ 1 := constantI S_ 1 1#1
  let main_v33 : IVec S_ 1 := (fun x v => Host.reduce IntOp.andi x v reducesTo_S16x2048x512_S_d0_1_2 h_S_) main_v32 main_c_10
  let main_v34 : IVec S_ 1 := andi main_v28 main_v33
  fn_part2 (F := F) main_arg1 main_arg5 main_v0 main_v12 main_v34

def fn {F : FTy → Type} [FloatOps F] (main_arg0 : FVec F S8192x2048 .bf16) (main_arg1 : FVec F S8192x128 .f32) (main_arg2 : FVec F S8192x2048 .f32) (main_arg3 : FVec F S16x2048x512 .bf16) (main_arg4 : FVec F S16x2048x512 .bf16) (main_arg5 : FVec F S16x512x2048 .bf16) : IVec S_ 1 :=
  let main_v0 : FVec F S8192x1 .f32 := (extractStridedSlice S8192x1 ![0, 16] · slices_S8192x128_S8192x1_0_16) main_arg1
  let main_cst : FVec F S_ .f32 := constant S_ .f32 0x00000000#32
  let main_v1 : FVec F S8192x1 .f32 := broadcastInDim S8192x1 ![] bcast_S_S8192x1 main_cst
  let main_v2 : IVec S8192x1 1 := cmpf .oeq main_v0 main_v1
  let main_cst_0 : FVec F S_ .f32 := constant S_ .f32 0x3F800000#32
  let main_v3 : FVec F S8192x1 .f32 := broadcastInDim S8192x1 ![] bcast_S_S8192x1 main_cst_0
  let main_v4 : IVec S8192x1 1 := cmpf .oeq main_v0 main_v3
  let main_v5 : IVec S8192x1 1 := ori main_v2 main_v4
  let main_cst_1 : FVec F S_ .f32 := constant S_ .f32 0x40000000#32
  let main_v6 : FVec F S8192x1 .f32 := broadcastInDim S8192x1 ![] bcast_S_S8192x1 main_cst_1
  let main_v7 : IVec S8192x1 1 := cmpf .oeq main_v0 main_v6
  let main_v8 : IVec S8192x1 1 := ori main_v5 main_v7
  let main_cst_2 : FVec F S_ .f32 := constant S_ .f32 0x40400000#32
  let main_v9 : FVec F S8192x1 .f32 := broadcastInDim S8192x1 ![] bcast_S_S8192x1 main_cst_2
  let main_v10 : IVec S8192x1 1 := cmpf .oeq main_v0 main_v9
  let main_v11 : IVec S8192x1 1 := ori main_v8 main_v10
  let main_c : IVec S_ 1 := constantI S_ 1 1#1
  let main_v12 : IVec S_ 1 := (fun x v => Host.reduce IntOp.andi x v reducesTo_S8192x1_S_d0_1 h_S_) main_v11 main_c
  let main_v13 : FVec F S8192x2048 .f32 := (extf .f32 · bitsLt_bf16_f32) main_arg0
  let main_v14 : FVec F S8192x2048 .f32 := Host.absf main_v13
  let main_cst_3 : FVec F S_ .f32 := constant S_ .f32 0x7F800000#32
  let main_v15 : FVec F S8192x2048 .f32 := broadcastInDim S8192x2048 ![] bcast_S_S8192x2048 main_cst_3
  let main_v16 : IVec S8192x2048 1 := cmpf .olt main_v14 main_v15
  let main_c_4 : IVec S_ 1 := constantI S_ 1 1#1
  fn_part1 (F := F) main_arg1 main_arg3 main_arg4 main_arg5 main_v0 main_v12 main_v16 main_c_4
-- ==== Flash.lean ====
abbrev S8192x2048 : Shape := ⟨2, ![8192, 2048]⟩
abbrev S8192x4096 : Shape := ⟨2, ![8192, 4096]⟩
abbrev S512x256 : Shape := ⟨2, ![512, 256]⟩
abbrev S8192x256 : Shape := ⟨2, ![8192, 256]⟩
abbrev S2x16x128x512 : Shape := ⟨4, ![2, 16, 128, 512]⟩
abbrev S2x1x512 : Shape := ⟨3, ![2, 1, 512]⟩
abbrev S2x128x512 : Shape := ⟨3, ![2, 128, 512]⟩
abbrev S512x128 : Shape := ⟨2, ![512, 128]⟩
abbrev S128x512 : Shape := ⟨2, ![128, 512]⟩
abbrev S1x1x128x512 : Shape := ⟨4, ![1, 1, 128, 512]⟩
abbrev S512x512 : Shape := ⟨2, ![512, 512]⟩
abbrev S512 : Shape := ⟨1, ![512]⟩
abbrev S1x512 : Shape := ⟨2, ![1, 512]⟩
abbrev S1x1x512 : Shape := ⟨3, ![1, 1, 512]⟩
abbrev S1x128x512 : Shape := ⟨3, ![1, 128, 512]⟩

abbrev nBuf : Space → Nat
  | .hbm => 4
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S8192x2048, .bf16⟩
  | .hbm, ⟨3, _⟩ => ⟨S8192x2048, .bf16⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S8192x256, .bf16⟩
  | .local _ .vmem, ⟨4, _⟩ => ⟨S8192x256, .bf16⟩
  | .local _ .vmem, ⟨5, _⟩ => ⟨S8192x256, .bf16⟩
  | .local _ .vmem, ⟨6, _⟩ => ⟨S8192x256, .bf16⟩
  | .local _ .vmem, ⟨7, _⟩ => ⟨S8192x256, .bf16⟩
  | .local _ .vmem, ⟨8, _⟩ => ⟨S512x256, .bf16⟩
  | .local _ .vmem, ⟨9, _⟩ => ⟨S512x256, .bf16⟩
  | .local _ .vmem, ⟨10, _⟩ => ⟨S2x16x128x512, .bf16⟩
  | .local _ .vmem, ⟨11, _⟩ => ⟨S2x1x512, .f32⟩
  | .local _ .vmem, ⟨12, _⟩ => ⟨S2x1x512, .f32⟩
  | .local _ .vmem, ⟨13, _⟩ => ⟨S2x128x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c0_i32_4 : BitVec 32 := 0#32
  let v14 : BitVec 32 := Scalar.addi arg1 c0_i32_4
  let c512_i32 : BitVec 32 := 512#32
  let v15 : BitVec 32 := Scalar.muli v14 c512_i32
  v15
def k0_off1 (i : grid0.Coords) : Fin 2 → Nat :=
  let arg1 : BitVec 32 := BitVec.ofNat 32 (i 1).val
  let c0_i32_4 : BitVec 32 := 0#32
  let v14 : BitVec 32 := Scalar.addi arg1 c0_i32_4
  let c512_i32 : BitVec 32 := 512#32
  let v15 : BitVec 32 := Scalar.muli v14 c512_i32
  let v16 : BitVec 32 := v15
  let v17 : Index := Scalar.indexCast v16
  let c0_5 : Index := 0#32
  ![v17.toNat, 0]
def k0_off2 (i : grid0.Coords) : Fin 4 → Nat :=
  let c0_13 : Index := 0#32
  let arg1 : BitVec 32 := BitVec.ofNat 32 (i 1).val
  let c0_i32_12 : BitVec 32 := 0#32
  let v37 : BitVec 32 := Scalar.addi arg1 c0_i32_12
  let v38 : Index := Scalar.indexCast v37
  let c0_14 : Index := 0#32
  let c0_15 : Index := 0#32
  ![0, v38.toNat, 0, 0]
def k0_mult2 (i : grid0.Coords) : BitVec 32 :=
  let arg1 : BitVec 32 := BitVec.ofNat 32 (i 1).val
  let c0_i32_27 : BitVec 32 := 0#32
  let v54 : BitVec 32 := Scalar.addi arg1 c0_i32_27
  let c512_i32_28 : BitVec 32 := 512#32
  let v55 : BitVec 32 := Scalar.muli v54 c512_i32_28
  v55
def k0_off3 (i : grid0.Coords) : Fin 2 → Nat :=
  let arg1 : BitVec 32 := BitVec.ofNat 32 (i 1).val
  let c0_i32_27 : BitVec 32 := 0#32
  let v54 : BitVec 32 := Scalar.addi arg1 c0_i32_27
  let c512_i32_28 : BitVec 32 := 512#32
  let v55 : BitVec 32 := Scalar.muli v54 c512_i32_28
  let v56 : BitVec 32 := v55
  let v57 : Index := Scalar.indexCast v56
  let c128_29 : Index := 128#32
  ![v57.toNat, 128]
def k0_off4 (i : grid0.Coords) : Fin 4 → Nat :=
  let c1 : Index := 1#32
  let arg1 : BitVec 32 := BitVec.ofNat 32 (i 1).val
  let c0_i32_36 : BitVec 32 := 0#32
  let v77 : BitVec 32 := Scalar.addi arg1 c0_i32_36
  let v78 : Index := Scalar.indexCast v77
  let c0_37 : Index := 0#32
  let c0_38 : Index := 0#32
  ![1, v78.toNat, 0, 0]
@[reducible] def k0_t1_loop (i : grid0.Coords) : Scf.Loop 32 :=
  let c0_i32_56 : BitVec 32 := 0#32
  let arg1 : BitVec 32 := BitVec.ofNat 32 (i 1).val
  let c0_i32_50 : BitVec 32 := 0#32
  let v95 : BitVec 1 := Scalar.cmpi .sgt arg1 c0_i32_50
  let v96 : BitVec 32 := Scalar.extui v95
  let c0_i32_51 : BitVec 32 := 0#32
  let v97 : BitVec 1 := Scalar.cmpi .slt arg1 c0_i32_51
  let v98 : BitVec 32 := Scalar.extui v97
  let v99 : BitVec 32 := Scalar.subi v96 v98
  let c2_i32 : BitVec 32 := 2#32
  let c0_i32_52 : BitVec 32 := 0#32
  let v100 : BitVec 1 := Scalar.cmpi .sgt c2_i32 c0_i32_52
  let v101 : BitVec 32 := Scalar.extui v100
  let c0_i32_53 : BitVec 32 := 0#32
  let v102 : BitVec 1 := Scalar.cmpi .slt c2_i32 c0_i32_53
  let v103 : BitVec 32 := Scalar.extui v102
  let v104 : BitVec 32 := Scalar.subi v101 v103
  let v105 : BitVec 1 := Scalar.cmpi .ne v99 v104
  let v106 : BitVec 32 := Scalar.remsi arg1 c2_i32
  let c0_i32_54 : BitVec 32 := 0#32
  let v107 : BitVec 1 := Scalar.cmpi .ne v106 c0_i32_54
  let v108 : BitVec 1 := Scalar.andi v105 v107
  let v94 : BitVec 32 := Scalar.divsi arg1 c2_i32
  let c1_i32 : BitVec 32 := 1#32
  let v109 : BitVec 32 := Scalar.subi v94 c1_i32
  let v110 : BitVec 32 := Scalar.select v108 v109 v94
  let v111 : BitVec 32 := Scalar.subi v110 c0_i32_56
  let c1_i32_57 : BitVec 32 := 1#32
  let v113 : BitVec 32 := Scalar.divsi v111 c1_i32_57
  let v114 : BitVec 32 := Scalar.muli v113 c1_i32_57
  let v115 : BitVec 32 := Scalar.addi c0_i32_56 v114
  let c1_i32_58 : BitVec 32 := 1#32
  ⟨c0_i32_56, v115, c1_i32_58⟩
def k0_mult3 (i : grid0.Coords) (k0_t1 : Fin (k0_t1_loop i).trips) : BitVec 32 :=
  let c2_i32_84 : BitVec 32 := 2#32
  let c0_i32_56 : BitVec 32 := 0#32
  let c1_i32_58 : BitVec 32 := 1#32
  let arg11 : BitVec 32 := Scf.iv c0_i32_56 c1_i32_58 k0_t1
  let v147 : BitVec 32 := Scalar.muli c2_i32_84 arg11
  let c0_i32_85 : BitVec 32 := 0#32
  let v148 : BitVec 32 := Scalar.addi v147 c0_i32_85
  let c512_i32_86 : BitVec 32 := 512#32
  let v149 : BitVec 32 := Scalar.muli v148 c512_i32_86
  v149
def k0_off5 (i : grid0.Coords) (k0_t1 : Fin (k0_t1_loop i).trips) (c0_i32_85 : BitVec 32) : Fin 2 → Nat :=
  let c2_i32_84 : BitVec 32 := 2#32
  let c0_i32_56 : BitVec 32 := 0#32
  let c1_i32_58 : BitVec 32 := 1#32
  let arg11 : BitVec 32 := Scf.iv c0_i32_56 c1_i32_58 k0_t1
  let v147 : BitVec 32 := Scalar.muli c2_i32_84 arg11
  let v148 : BitVec 32 := Scalar.addi v147 c0_i32_85
  let c512_i32_86 : BitVec 32 := 512#32
  let v149 : BitVec 32 := Scalar.muli v148 c512_i32_86
  let v150 : BitVec 32 := v149
  let v151 : Index := Scalar.indexCast v150
  let c0_87 : Index := 0#32
  ![v151.toNat, 0]
def k0_mult4 (i : grid0.Coords) (k0_t1 : Fin (k0_t1_loop i).trips) : BitVec 32 :=
  let c2_i32_84 : BitVec 32 := 2#32
  let c0_i32_56 : BitVec 32 := 0#32
  let c1_i32_58 : BitVec 32 := 1#32
  let arg11 : BitVec 32 := Scf.iv c0_i32_56 c1_i32_58 k0_t1
  let v147 : BitVec 32 := Scalar.muli c2_i32_84 arg11
  let c1_i32_90 : BitVec 32 := 1#32
  let v157 : BitVec 32 := Scalar.addi v147 c1_i32_90
  let c512_i32_91 : BitVec 32 := 512#32
  let v158 : BitVec 32 := Scalar.muli v157 c512_i32_91
  v158
def k0_off6 (i : grid0.Coords) (k0_t1 : Fin (k0_t1_loop i).trips) (c0_i32_103 : BitVec 32) : Fin 4 → Nat :=
  let c0_104 : Index := 0#32
  let c2_i32_84 : BitVec 32 := 2#32
  let c0_i32_56 : BitVec 32 := 0#32
  let c1_i32_58 : BitVec 32 := 1#32
  let arg11 : BitVec 32 := Scf.iv c0_i32_56 c1_i32_58 k0_t1
  let v147 : BitVec 32 := Scalar.muli c2_i32_84 arg11
  let v189 : BitVec 32 := Scalar.addi v147 c0_i32_103
  let v190 : Index := Scalar.indexCast v189
  let c0_105 : Index := 0#32
  let c0_106 : Index := 0#32
  ![0, v190.toNat, 0, 0]
def k0_mult5 (i : grid0.Coords) (k0_t1 : Fin (k0_t1_loop i).trips) : BitVec 32 :=
  let c2_i32_84 : BitVec 32 := 2#32
  let c0_i32_56 : BitVec 32 := 0#32
  let c1_i32_58 : BitVec 32 := 1#32
  let arg11 : BitVec 32 := Scf.iv c0_i32_56 c1_i32_58 k0_t1
  let v147 : BitVec 32 := Scalar.muli c2_i32_84 arg11
  let c0_i32_129 : BitVec 32 := 0#32
  let v222 : BitVec 32 := Scalar.addi v147 c0_i32_129
  let c512_i32_130 : BitVec 32 := 512#32
  let v223 : BitVec 32 := Scalar.muli v222 c512_i32_130
  v223
def k0_off7 (i : grid0.Coords) (k0_t1 : Fin (k0_t1_loop i).trips) (c0_i32_129 : BitVec 32) : Fin 2 → Nat :=
  let c2_i32_84 : BitVec 32 := 2#32
  let c0_i32_56 : BitVec 32 := 0#32
  let c1_i32_58 : BitVec 32 := 1#32
  let arg11 : BitVec 32 := Scf.iv c0_i32_56 c1_i32_58 k0_t1
  let v147 : BitVec 32 := Scalar.muli c2_i32_84 arg11
  let v222 : BitVec 32 := Scalar.addi v147 c0_i32_129
  let c512_i32_130 : BitVec 32 := 512#32
  let v223 : BitVec 32 := Scalar.muli v222 c512_i32_130
  let v224 : BitVec 32 := v223
  let v225 : Index := Scalar.indexCast v224
  let c128_131 : Index := 128#32
  ![v225.toNat, 128]
def k0_mult6 (i : grid0.Coords) (k0_t1 : Fin (k0_t1_loop i).trips) : BitVec 32 :=
  let c2_i32_84 : BitVec 32 := 2#32
  let c0_i32_56 : BitVec 32 := 0#32
  let c1_i32_58 : BitVec 32 := 1#32
  let arg11 : BitVec 32 := Scf.iv c0_i32_56 c1_i32_58 k0_t1
  let v147 : BitVec 32 := Scalar.muli c2_i32_84 arg11
  let c1_i32_134 : BitVec 32 := 1#32
  let v231 : BitVec 32 := Scalar.addi v147 c1_i32_134
  let c512_i32_135 : BitVec 32 := 512#32
  let v232 : BitVec 32 := Scalar.muli v231 c512_i32_135
  v232
def k0_off8 (i : grid0.Coords) (k0_t1 : Fin (k0_t1_loop i).trips) (c0_i32_147 : BitVec 32) : Fin 4 → Nat :=
  let c1_148 : Index := 1#32
  let c2_i32_84 : BitVec 32 := 2#32
  let c0_i32_56 : BitVec 32 := 0#32
  let c1_i32_58 : BitVec 32 := 1#32
  let arg11 : BitVec 32 := Scf.iv c0_i32_56 c1_i32_58 k0_t1
  let v147 : BitVec 32 := Scalar.muli c2_i32_84 arg11
  let v263 : BitVec 32 := Scalar.addi v147 c0_i32_147
  let v264 : Index := Scalar.indexCast v263
  let c0_149 : Index := 0#32
  let c0_150 : Index := 0#32
  ![1, v264.toNat, 0, 0]
@[reducible] def k0_t2_loop (i : grid0.Coords) : Scf.Loop 32 :=
  let c0_i32_56 : BitVec 32 := 0#32
  let arg1 : BitVec 32 := BitVec.ofNat 32 (i 1).val
  let c0_i32_50 : BitVec 32 := 0#32
  let v95 : BitVec 1 := Scalar.cmpi .sgt arg1 c0_i32_50
  let v96 : BitVec 32 := Scalar.extui v95
  let c0_i32_51 : BitVec 32 := 0#32
  let v97 : BitVec 1 := Scalar.cmpi .slt arg1 c0_i32_51
  let v98 : BitVec 32 := Scalar.extui v97
  let v99 : BitVec 32 := Scalar.subi v96 v98
  let c2_i32 : BitVec 32 := 2#32
  let c0_i32_52 : BitVec 32 := 0#32
  let v100 : BitVec 1 := Scalar.cmpi .sgt c2_i32 c0_i32_52
  let v101 : BitVec 32 := Scalar.extui v100
  let c0_i32_53 : BitVec 32 := 0#32
  let v102 : BitVec 1 := Scalar.cmpi .slt c2_i32 c0_i32_53
  let v103 : BitVec 32 := Scalar.extui v102
  let v104 : BitVec 32 := Scalar.subi v101 v103
  let v105 : BitVec 1 := Scalar.cmpi .ne v99 v104
  let v106 : BitVec 32 := Scalar.remsi arg1 c2_i32
  let c0_i32_54 : BitVec 32 := 0#32
  let v107 : BitVec 1 := Scalar.cmpi .ne v106 c0_i32_54
  let v108 : BitVec 1 := Scalar.andi v105 v107
  let v94 : BitVec 32 := Scalar.divsi arg1 c2_i32
  let c1_i32 : BitVec 32 := 1#32
  let v109 : BitVec 32 := Scalar.subi v94 c1_i32
  let v110 : BitVec 32 := Scalar.select v108 v109 v94
  let v111 : BitVec 32 := Scalar.subi v110 c0_i32_56
  let c1_i32_57 : BitVec 32 := 1#32
  let v113 : BitVec 32 := Scalar.divsi v111 c1_i32_57
  let v114 : BitVec 32 := Scalar.muli v113 c1_i32_57
  let v115 : BitVec 32 := Scalar.addi c0_i32_56 v114
  let v112 : BitVec 32 := Scalar.addi c0_i32_56 v111
  let c1_i32_59 : BitVec 32 := 1#32
  ⟨v115, v112, c1_i32_59⟩
def k0_mult7 (i : grid0.Coords) (k0_t2 : Fin (k0_t2_loop i).trips) : BitVec 32 :=
  let c2_i32_84 : BitVec 32 := 2#32
  let c0_i32_56 : BitVec 32 := 0#32
  let arg1 : BitVec 32 := BitVec.ofNat 32 (i 1).val
  let c0_i32_50 : BitVec 32 := 0#32
  let v95 : BitVec 1 := Scalar.cmpi .sgt arg1 c0_i32_50
  let v96 : BitVec 32 := Scalar.extui v95
  let c0_i32_51 : BitVec 32 := 0#32
  let v97 : BitVec 1 := Scalar.cmpi .slt arg1 c0_i32_51
  let v98 : BitVec 32 := Scalar.extui v97
  let v99 : BitVec 32 := Scalar.subi v96 v98
  let c2_i32 : BitVec 32 := 2#32
  let c0_i32_52 : BitVec 32 := 0#32
  let v100 : BitVec 1 := Scalar.cmpi .sgt c2_i32 c0_i32_52
  let v101 : BitVec 32 := Scalar.extui v100
  let c0_i32_53 : BitVec 32 := 0#32
  let v102 : BitVec 1 := Scalar.cmpi .slt c2_i32 c0_i32_53
  let v103 : BitVec 32 := Scalar.extui v102
  let v104 : BitVec 32 := Scalar.subi v101 v103
  let v105 : BitVec 1 := Scalar.cmpi .ne v99 v104
  let v106 : BitVec 32 := Scalar.remsi arg1 c2_i32
  let c0_i32_54 : BitVec 32 := 0#32
  let v107 : BitVec 1 := Scalar.cmpi .ne v106 c0_i32_54
  let v108 : BitVec 1 := Scalar.andi v105 v107
  let v94 : BitVec 32 := Scalar.divsi arg1 c2_i32
  let c1_i32 : BitVec 32 := 1#32
  let v109 : BitVec 32 := Scalar.subi v94 c1_i32
  let v110 : BitVec 32 := Scalar.select v108 v109 v94
  let v111 : BitVec 32 := Scalar.subi v110 c0_i32_56
  let c1_i32_57 : BitVec 32 := 1#32
  let v113 : BitVec 32 := Scalar.divsi v111 c1_i32_57
  let v114 : BitVec 32 := Scalar.muli v113 c1_i32_57
  let v115 : BitVec 32 := Scalar.addi c0_i32_56 v114
  let c1_i32_59 : BitVec 32 := 1#32
  let arg11 : BitVec 32 := Scf.iv v115 c1_i32_59 k0_t2
  let v147 : BitVec 32 := Scalar.muli c2_i32_84 arg11
  let c0_i32_85 : BitVec 32 := 0#32
  let v148 : BitVec 32 := Scalar.addi v147 c0_i32_85
  let c512_i32_86 : BitVec 32 := 512#32
  let v149 : BitVec 32 := Scalar.muli v148 c512_i32_86
  v149
def k0_off9 (i : grid0.Coords) (k0_t2 : Fin (k0_t2_loop i).trips) (c0_i32_85 : BitVec 32) : Fin 2 → Nat :=
  let c2_i32_84 : BitVec 32 := 2#32
  let c0_i32_56 : BitVec 32 := 0#32
  let arg1 : BitVec 32 := BitVec.ofNat 32 (i 1).val
  let c0_i32_50 : BitVec 32 := 0#32
  let v95 : BitVec 1 := Scalar.cmpi .sgt arg1 c0_i32_50
  let v96 : BitVec 32 := Scalar.extui v95
  let c0_i32_51 : BitVec 32 := 0#32
  let v97 : BitVec 1 := Scalar.cmpi .slt arg1 c0_i32_51
  let v98 : BitVec 32 := Scalar.extui v97
  let v99 : BitVec 32 := Scalar.subi v96 v98
  let c2_i32 : BitVec 32 := 2#32
  let c0_i32_52 : BitVec 32 := 0#32
  let v100 : BitVec 1 := Scalar.cmpi .sgt c2_i32 c0_i32_52
  let v101 : BitVec 32 := Scalar.extui v100
  let c0_i32_53 : BitVec 32 := 0#32
  let v102 : BitVec 1 := Scalar.cmpi .slt c2_i32 c0_i32_53
  let v103 : BitVec 32 := Scalar.extui v102
  let v104 : BitVec 32 := Scalar.subi v101 v103
  let v105 : BitVec 1 := Scalar.cmpi .ne v99 v104
  let v106 : BitVec 32 := Scalar.remsi arg1 c2_i32
  let c0_i32_54 : BitVec 32 := 0#32
  let v107 : BitVec 1 := Scalar.cmpi .ne v106 c0_i32_54
  let v108 : BitVec 1 := Scalar.andi v105 v107
  let v94 : BitVec 32 := Scalar.divsi arg1 c2_i32
  let c1_i32 : BitVec 32 := 1#32
  let v109 : BitVec 32 := Scalar.subi v94 c1_i32
  let v110 : BitVec 32 := Scalar.select v108 v109 v94
  let v111 : BitVec 32 := Scalar.subi v110 c0_i32_56
  let c1_i32_57 : BitVec 32 := 1#32
  let v113 : BitVec 32 := Scalar.divsi v111 c1_i32_57
  let v114 : BitVec 32 := Scalar.muli v113 c1_i32_57
  let v115 : BitVec 32 := Scalar.addi c0_i32_56 v114
  let c1_i32_59 : BitVec 32 := 1#32
  let arg11 : BitVec 32 := Scf.iv v115 c1_i32_59 k0_t2
  let v147 : BitVec 32 := Scalar.muli c2_i32_84 arg11
  let v148 : BitVec 32 := Scalar.addi v147 c0_i32_85
  let c512_i32_86 : BitVec 32 := 512#32
  let v149 : BitVec 32 := Scalar.muli v148 c512_i32_86
  let v150 : BitVec 32 := v149
  let v151 : Index := Scalar.indexCast v150
  let c0_87 : Index := 0#32
  ![v151.toNat, 0]
def k0_mult8 (i : grid0.Coords) (k0_t2 : Fin (k0_t2_loop i).trips) : BitVec 32 :=
  let c2_i32_84 : BitVec 32 := 2#32
  let c0_i32_56 : BitVec 32 := 0#32
  let arg1 : BitVec 32 := BitVec.ofNat 32 (i 1).val
  let c0_i32_50 : BitVec 32 := 0#32
  let v95 : BitVec 1 := Scalar.cmpi .sgt arg1 c0_i32_50
  let v96 : BitVec 32 := Scalar.extui v95
  let c0_i32_51 : BitVec 32 := 0#32
  let v97 : BitVec 1 := Scalar.cmpi .slt arg1 c0_i32_51
  let v98 : BitVec 32 := Scalar.extui v97
  let v99 : BitVec 32 := Scalar.subi v96 v98
  let c2_i32 : BitVec 32 := 2#32
  let c0_i32_52 : BitVec 32 := 0#32
  let v100 : BitVec 1 := Scalar.cmpi .sgt c2_i32 c0_i32_52
  let v101 : BitVec 32 := Scalar.extui v100
  let c0_i32_53 : BitVec 32 := 0#32
  let v102 : BitVec 1 := Scalar.cmpi .slt c2_i32 c0_i32_53
  let v103 : BitVec 32 := Scalar.extui v102
  let v104 : BitVec 32 := Scalar.subi v101 v103
  let v105 : BitVec 1 := Scalar.cmpi .ne v99 v104
  let v106 : BitVec 32 := Scalar.remsi arg1 c2_i32
  let c0_i32_54 : BitVec 32 := 0#32
  let v107 : BitVec 1 := Scalar.cmpi .ne v106 c0_i32_54
  let v108 : BitVec 1 := Scalar.andi v105 v107
  let v94 : BitVec 32 := Scalar.divsi arg1 c2_i32
  let c1_i32 : BitVec 32 := 1#32
  let v109 : BitVec 32 := Scalar.subi v94 c1_i32
  let v110 : BitVec 32 := Scalar.select v108 v109 v94
  let v111 : BitVec 32 := Scalar.subi v110 c0_i32_56
  let c1_i32_57 : BitVec 32 := 1#32
  let v113 : BitVec 32 := Scalar.divsi v111 c1_i32_57
  let v114 : BitVec 32 := Scalar.muli v113 c1_i32_57
  let v115 : BitVec 32 := Scalar.addi c0_i32_56 v114
  let c1_i32_59 : BitVec 32 := 1#32
  let arg11 : BitVec 32 := Scf.iv v115 c1_i32_59 k0_t2
  let v147 : BitVec 32 := Scalar.muli c2_i32_84 arg11
  let c1_i32_90 : BitVec 32 := 1#32
  let v157 : BitVec 32 := Scalar.addi v147 c1_i32_90
  let c512_i32_91 : BitVec 32 := 512#32
  let v158 : BitVec 32 := Scalar.muli v157 c512_i32_91
  v158
def k0_off10 (i : grid0.Coords) (k0_t2 : Fin (k0_t2_loop i).trips) (c0_i32_103 : BitVec 32) : Fin 4 → Nat :=
  let c0_104 : Index := 0#32
  let c2_i32_84 : BitVec 32 := 2#32
  let c0_i32_56 : BitVec 32 := 0#32
  let arg1 : BitVec 32 := BitVec.ofNat 32 (i 1).val
  let c0_i32_50 : BitVec 32 := 0#32
  let v95 : BitVec 1 := Scalar.cmpi .sgt arg1 c0_i32_50
  let v96 : BitVec 32 := Scalar.extui v95
  let c0_i32_51 : BitVec 32 := 0#32
  let v97 : BitVec 1 := Scalar.cmpi .slt arg1 c0_i32_51
  let v98 : BitVec 32 := Scalar.extui v97
  let v99 : BitVec 32 := Scalar.subi v96 v98
  let c2_i32 : BitVec 32 := 2#32
  let c0_i32_52 : BitVec 32 := 0#32
  let v100 : BitVec 1 := Scalar.cmpi .sgt c2_i32 c0_i32_52
  let v101 : BitVec 32 := Scalar.extui v100
  let c0_i32_53 : BitVec 32 := 0#32
  let v102 : BitVec 1 := Scalar.cmpi .slt c2_i32 c0_i32_53
  let v103 : BitVec 32 := Scalar.extui v102
  let v104 : BitVec 32 := Scalar.subi v101 v103
  let v105 : BitVec 1 := Scalar.cmpi .ne v99 v104
  let v106 : BitVec 32 := Scalar.remsi arg1 c2_i32
  let c0_i32_54 : BitVec 32 := 0#32
  let v107 : BitVec 1 := Scalar.cmpi .ne v106 c0_i32_54
  let v108 : BitVec 1 := Scalar.andi v105 v107
  let v94 : BitVec 32 := Scalar.divsi arg1 c2_i32
  let c1_i32 : BitVec 32 := 1#32
  let v109 : BitVec 32 := Scalar.subi v94 c1_i32
  let v110 : BitVec 32 := Scalar.select v108 v109 v94
  let v111 : BitVec 32 := Scalar.subi v110 c0_i32_56
  let c1_i32_57 : BitVec 32 := 1#32
  let v113 : BitVec 32 := Scalar.divsi v111 c1_i32_57
  let v114 : BitVec 32 := Scalar.muli v113 c1_i32_57
  let v115 : BitVec 32 := Scalar.addi c0_i32_56 v114
  let c1_i32_59 : BitVec 32 := 1#32
  let arg11 : BitVec 32 := Scf.iv v115 c1_i32_59 k0_t2
  let v147 : BitVec 32 := Scalar.muli c2_i32_84 arg11
  let v189 : BitVec 32 := Scalar.addi v147 c0_i32_103
  let v190 : Index := Scalar.indexCast v189
  let c0_105 : Index := 0#32
  let c0_106 : Index := 0#32
  ![0, v190.toNat, 0, 0]
def k0_mult9 (i : grid0.Coords) (k0_t2 : Fin (k0_t2_loop i).trips) : BitVec 32 :=
  let c2_i32_84 : BitVec 32 := 2#32
  let c0_i32_56 : BitVec 32 := 0#32
  let arg1 : BitVec 32 := BitVec.ofNat 32 (i 1).val
  let c0_i32_50 : BitVec 32 := 0#32
  let v95 : BitVec 1 := Scalar.cmpi .sgt arg1 c0_i32_50
  let v96 : BitVec 32 := Scalar.extui v95
  let c0_i32_51 : BitVec 32 := 0#32
  let v97 : BitVec 1 := Scalar.cmpi .slt arg1 c0_i32_51
  let v98 : BitVec 32 := Scalar.extui v97
  let v99 : BitVec 32 := Scalar.subi v96 v98
  let c2_i32 : BitVec 32 := 2#32
  let c0_i32_52 : BitVec 32 := 0#32
  let v100 : BitVec 1 := Scalar.cmpi .sgt c2_i32 c0_i32_52
  let v101 : BitVec 32 := Scalar.extui v100
  let c0_i32_53 : BitVec 32 := 0#32
  let v102 : BitVec 1 := Scalar.cmpi .slt c2_i32 c0_i32_53
  let v103 : BitVec 32 := Scalar.extui v102
  let v104 : BitVec 32 := Scalar.subi v101 v103
  let v105 : BitVec 1 := Scalar.cmpi .ne v99 v104
  let v106 : BitVec 32 := Scalar.remsi arg1 c2_i32
  let c0_i32_54 : BitVec 32 := 0#32
  let v107 : BitVec 1 := Scalar.cmpi .ne v106 c0_i32_54
  let v108 : BitVec 1 := Scalar.andi v105 v107
  let v94 : BitVec 32 := Scalar.divsi arg1 c2_i32
  let c1_i32 : BitVec 32 := 1#32
  let v109 : BitVec 32 := Scalar.subi v94 c1_i32
  let v110 : BitVec 32 := Scalar.select v108 v109 v94
  let v111 : BitVec 32 := Scalar.subi v110 c0_i32_56
  let c1_i32_57 : BitVec 32 := 1#32
  let v113 : BitVec 32 := Scalar.divsi v111 c1_i32_57
  let v114 : BitVec 32 := Scalar.muli v113 c1_i32_57
  let v115 : BitVec 32 := Scalar.addi c0_i32_56 v114
  let c1_i32_59 : BitVec 32 := 1#32
  let arg11 : BitVec 32 := Scf.iv v115 c1_i32_59 k0_t2
  let v147 : BitVec 32 := Scalar.muli c2_i32_84 arg11
  let c0_i32_129 : BitVec 32 := 0#32
  let v222 : BitVec 32 := Scalar.addi v147 c0_i32_129
  let c512_i32_130 : BitVec 32 := 512#32
  let v223 : BitVec 32 := Scalar.muli v222 c512_i32_130
  v223
def k0_off11 (i : grid0.Coords) (k0_t2 : Fin (k0_t2_loop i).trips) (c0_i32_129 : BitVec 32) : Fin 2 → Nat :=
  let c2_i32_84 : BitVec 32 := 2#32
  let c0_i32_56 : BitVec 32 := 0#32
  let arg1 : BitVec 32 := BitVec.ofNat 32 (i 1).val
  let c0_i32_50 : BitVec 32 := 0#32
  let v95 : BitVec 1 := Scalar.cmpi .sgt arg1 c0_i32_50
  let v96 : BitVec 32 := Scalar.extui v95
  let c0_i32_51 : BitVec 32 := 0#32
  let v97 : BitVec 1 := Scalar.cmpi .slt arg1 c0_i32_51
  let v98 : BitVec 32 := Scalar.extui v97
  let v99 : BitVec 32 := Scalar.subi v96 v98
  let c2_i32 : BitVec 32 := 2#32
  let c0_i32_52 : BitVec 32 := 0#32
  let v100 : BitVec 1 := Scalar.cmpi .sgt c2_i32 c0_i32_52
  let v101 : BitVec 32 := Scalar.extui v100
  let c0_i32_53 : BitVec 32 := 0#32
  let v102 : BitVec 1 := Scalar.cmpi .slt c2_i32 c0_i32_53
  let v103 : BitVec 32 := Scalar.extui v102
  let v104 : BitVec 32 := Scalar.subi v101 v103
  let v105 : BitVec 1 := Scalar.cmpi .ne v99 v104
  let v106 : BitVec 32 := Scalar.remsi arg1 c2_i32
  let c0_i32_54 : BitVec 32 := 0#32
  let v107 : BitVec 1 := Scalar.cmpi .ne v106 c0_i32_54
  let v108 : BitVec 1 := Scalar.andi v105 v107
  let v94 : BitVec 32 := Scalar.divsi arg1 c2_i32
  let c1_i32 : BitVec 32 := 1#32
  let v109 : BitVec 32 := Scalar.subi v94 c1_i32
  let v110 : BitVec 32 := Scalar.select v108 v109 v94
  let v111 : BitVec 32 := Scalar.subi v110 c0_i32_56
  let c1_i32_57 : BitVec 32 := 1#32
  let v113 : BitVec 32 := Scalar.divsi v111 c1_i32_57
  let v114 : BitVec 32 := Scalar.muli v113 c1_i32_57
  let v115 : BitVec 32 := Scalar.addi c0_i32_56 v114
  let c1_i32_59 : BitVec 32 := 1#32
  let arg11 : BitVec 32 := Scf.iv v115 c1_i32_59 k0_t2
  let v147 : BitVec 32 := Scalar.muli c2_i32_84 arg11
  let v222 : BitVec 32 := Scalar.addi v147 c0_i32_129
  let c512_i32_130 : BitVec 32 := 512#32
  let v223 : BitVec 32 := Scalar.muli v222 c512_i32_130
  let v224 : BitVec 32 := v223
  let v225 : Index := Scalar.indexCast v224
  let c128_131 : Index := 128#32
  ![v225.toNat, 128]
def k0_mult10 (i : grid0.Coords) (k0_t2 : Fin (k0_t2_loop i).trips) : BitVec 32 :=
  let c2_i32_84 : BitVec 32 := 2#32
  let c0_i32_56 : BitVec 32 := 0#32
  let arg1 : BitVec 32 := BitVec.ofNat 32 (i 1).val
  let c0_i32_50 : BitVec 32 := 0#32
  let v95 : BitVec 1 := Scalar.cmpi .sgt arg1 c0_i32_50
  let v96 : BitVec 32 := Scalar.extui v95
  let c0_i32_51 : BitVec 32 := 0#32
  let v97 : BitVec 1 := Scalar.cmpi .slt arg1 c0_i32_51
  let v98 : BitVec 32 := Scalar.extui v97
  let v99 : BitVec 32 := Scalar.subi v96 v98
  let c2_i32 : BitVec 32 := 2#32
  let c0_i32_52 : BitVec 32 := 0#32
  let v100 : BitVec 1 := Scalar.cmpi .sgt c2_i32 c0_i32_52
  let v101 : BitVec 32 := Scalar.extui v100
  let c0_i32_53 : BitVec 32 := 0#32
  let v102 : BitVec 1 := Scalar.cmpi .slt c2_i32 c0_i32_53
  let v103 : BitVec 32 := Scalar.extui v102
  let v104 : BitVec 32 := Scalar.subi v101 v103
  let v105 : BitVec 1 := Scalar.cmpi .ne v99 v104
  let v106 : BitVec 32 := Scalar.remsi arg1 c2_i32
  let c0_i32_54 : BitVec 32 := 0#32
  let v107 : BitVec 1 := Scalar.cmpi .ne v106 c0_i32_54
  let v108 : BitVec 1 := Scalar.andi v105 v107
  let v94 : BitVec 32 := Scalar.divsi arg1 c2_i32
  let c1_i32 : BitVec 32 := 1#32
  let v109 : BitVec 32 := Scalar.subi v94 c1_i32
  let v110 : BitVec 32 := Scalar.select v108 v109 v94
  let v111 : BitVec 32 := Scalar.subi v110 c0_i32_56
  let c1_i32_57 : BitVec 32 := 1#32
  let v113 : BitVec 32 := Scalar.divsi v111 c1_i32_57
  let v114 : BitVec 32 := Scalar.muli v113 c1_i32_57
  let v115 : BitVec 32 := Scalar.addi c0_i32_56 v114
  let c1_i32_59 : BitVec 32 := 1#32
  let arg11 : BitVec 32 := Scf.iv v115 c1_i32_59 k0_t2
  let v147 : BitVec 32 := Scalar.muli c2_i32_84 arg11
  let c1_i32_134 : BitVec 32 := 1#32
  let v231 : BitVec 32 := Scalar.addi v147 c1_i32_134
  let c512_i32_135 : BitVec 32 := 512#32
  let v232 : BitVec 32 := Scalar.muli v231 c512_i32_135
  v232
def k0_off12 (i : grid0.Coords) (k0_t2 : Fin (k0_t2_loop i).trips) (c0_i32_147 : BitVec 32) : Fin 4 → Nat :=
  let c1_148 : Index := 1#32
  let c2_i32_84 : BitVec 32 := 2#32
  let c0_i32_56 : BitVec 32 := 0#32
  let arg1 : BitVec 32 := BitVec.ofNat 32 (i 1).val
  let c0_i32_50 : BitVec 32 := 0#32
  let v95 : BitVec 1 := Scalar.cmpi .sgt arg1 c0_i32_50
  let v96 : BitVec 32 := Scalar.extui v95
  let c0_i32_51 : BitVec 32 := 0#32
  let v97 : BitVec 1 := Scalar.cmpi .slt arg1 c0_i32_51
  let v98 : BitVec 32 := Scalar.extui v97
  let v99 : BitVec 32 := Scalar.subi v96 v98
  let c2_i32 : BitVec 32 := 2#32
  let c0_i32_52 : BitVec 32 := 0#32
  let v100 : BitVec 1 := Scalar.cmpi .sgt c2_i32 c0_i32_52
  let v101 : BitVec 32 := Scalar.extui v100
  let c0_i32_53 : BitVec 32 := 0#32
  let v102 : BitVec 1 := Scalar.cmpi .slt c2_i32 c0_i32_53
  let v103 : BitVec 32 := Scalar.extui v102
  let v104 : BitVec 32 := Scalar.subi v101 v103
  let v105 : BitVec 1 := Scalar.cmpi .ne v99 v104
  let v106 : BitVec 32 := Scalar.remsi arg1 c2_i32
  let c0_i32_54 : BitVec 32 := 0#32
  let v107 : BitVec 1 := Scalar.cmpi .ne v106 c0_i32_54
  let v108 : BitVec 1 := Scalar.andi v105 v107
  let v94 : BitVec 32 := Scalar.divsi arg1 c2_i32
  let c1_i32 : BitVec 32 := 1#32
  let v109 : BitVec 32 := Scalar.subi v94 c1_i32
  let v110 : BitVec 32 := Scalar.select v108 v109 v94
  let v111 : BitVec 32 := Scalar.subi v110 c0_i32_56
  let c1_i32_57 : BitVec 32 := 1#32
  let v113 : BitVec 32 := Scalar.divsi v111 c1_i32_57
  let v114 : BitVec 32 := Scalar.muli v113 c1_i32_57
  let v115 : BitVec 32 := Scalar.addi c0_i32_56 v114
  let c1_i32_59 : BitVec 32 := 1#32
  let arg11 : BitVec 32 := Scf.iv v115 c1_i32_59 k0_t2
  let v147 : BitVec 32 := Scalar.muli c2_i32_84 arg11
  let v263 : BitVec 32 := Scalar.addi v147 c0_i32_147
  let v264 : Index := Scalar.indexCast v263
  let c0_149 : Index := 0#32
  let c0_150 : Index := 0#32
  ![1, v264.toNat, 0, 0]
def k0_cond2 (i : grid0.Coords) : BitVec 1 :=
  let arg1 : BitVec 32 := BitVec.ofNat 32 (i 1).val
  let c2_i32_60 : BitVec 32 := 2#32
  let c0_i32_61 : BitVec 32 := 0#32
  let v116 : BitVec 1 := Scalar.cmpi .eq c2_i32_60 c0_i32_61
  let c1_i32_62 : BitVec 32 := 1#32
  let v117 : BitVec 32 := Scalar.select v116 c1_i32_62 c2_i32_60
  let v118 : BitVec 32 := Scalar.remsi arg1 v117
  let c0_i32_64 : BitVec 32 := 0#32
  let v120 : BitVec 1 := Scalar.cmpi .slt v118 c0_i32_64
  let c0_i32_65 : BitVec 32 := 0#32
  let v121 : BitVec 1 := Scalar.cmpi .slt v117 c0_i32_65
  let v122 : BitVec 1 := Scalar.xori v120 v121
  let c0_i32_63 : BitVec 32 := 0#32
  let v119 : BitVec 1 := Scalar.cmpi .ne v118 c0_i32_63
  let v123 : BitVec 1 := Scalar.andi v122 v119
  let v124 : BitVec 32 := Scalar.addi v118 v117
  let v125 : BitVec 32 := Scalar.select v123 v124 v118
  let c1_i32_66 : BitVec 32 := 1#32
  let v126 : BitVec 1 := Scalar.cmpi .eq v125 c1_i32_66
  let v127 : BitVec 32 := Scalar.extui v126
  let c0_i32_67 : BitVec 32 := 0#32
  let v128 : BitVec 1 := Scalar.cmpi .ne v127 c0_i32_67
  v128

def k0_mult11 (i : grid0.Coords) : BitVec 32 :=
  let arg1 : BitVec 32 := BitVec.ofNat 32 (i 1).val
  let c1_i32_84 : BitVec 32 := 1#32
  let v147 : BitVec 32 := Scalar.subi arg1 c1_i32_84
  let c0_i32_85 : BitVec 32 := 0#32
  let v148 : BitVec 32 := Scalar.addi v147 c0_i32_85
  let c512_i32_86 : BitVec 32 := 512#32
  let v149 : BitVec 32 := Scalar.muli v148 c512_i32_86
  v149
def k0_off13 (i : grid0.Coords) : Fin 2 → Nat :=
  let arg1 : BitVec 32 := BitVec.ofNat 32 (i 1).val
  let c1_i32_84 : BitVec 32 := 1#32
  let v147 : BitVec 32 := Scalar.subi arg1 c1_i32_84
  let c0_i32_85 : BitVec 32 := 0#32
  let v148 : BitVec 32 := Scalar.addi v147 c0_i32_85
  let c512_i32_86 : BitVec 32 := 512#32
  let v149 : BitVec 32 := Scalar.muli v148 c512_i32_86
  let v150 : BitVec 32 := v149
  let v151 : Index := Scalar.indexCast v150
  let c0_87 : Index := 0#32
  ![v151.toNat, 0]
def k0_off14 (i : grid0.Coords) : Fin 4 → Nat :=
  let c0_97 : Index := 0#32
  let arg1 : BitVec 32 := BitVec.ofNat 32 (i 1).val
  let c1_i32_84 : BitVec 32 := 1#32
  let v147 : BitVec 32 := Scalar.subi arg1 c1_i32_84
  let c0_i32_96 : BitVec 32 := 0#32
  let v171 : BitVec 32 := Scalar.addi v147 c0_i32_96
  let v172 : Index := Scalar.indexCast v171
  let c0_98 : Index := 0#32
  let c0_99 : Index := 0#32
  ![0, v172.toNat, 0, 0]
def k0_mult12 (i : grid0.Coords) : BitVec 32 :=
  let arg1 : BitVec 32 := BitVec.ofNat 32 (i 1).val
  let c1_i32_84 : BitVec 32 := 1#32
  let v147 : BitVec 32 := Scalar.subi arg1 c1_i32_84
  let c0_i32_117 : BitVec 32 := 0#32
  let v197 : BitVec 32 := Scalar.addi v147 c0_i32_117
  let c512_i32_118 : BitVec 32 := 512#32
  let v198 : BitVec 32 := Scalar.muli v197 c512_i32_118
  v198
def k0_off15 (i : grid0.Coords) : Fin 2 → Nat :=
  let arg1 : BitVec 32 := BitVec.ofNat 32 (i 1).val
  let c1_i32_84 : BitVec 32 := 1#32
  let v147 : BitVec 32 := Scalar.subi arg1 c1_i32_84
  let c0_i32_117 : BitVec 32 := 0#32
  let v197 : BitVec 32 := Scalar.addi v147 c0_i32_117
  let c512_i32_118 : BitVec 32 := 512#32
  let v198 : BitVec 32 := Scalar.muli v197 c512_i32_118
  let v199 : BitVec 32 := v198
  let v200 : Index := Scalar.indexCast v199
  let c128_119 : Index := 128#32
  ![v200.toNat, 128]
def k0_off16 (i : grid0.Coords) : Fin 4 → Nat :=
  let c1_129 : Index := 1#32
  let arg1 : BitVec 32 := BitVec.ofNat 32 (i 1).val
  let c1_i32_84 : BitVec 32 := 1#32
  let v147 : BitVec 32 := Scalar.subi arg1 c1_i32_84
  let c0_i32_128 : BitVec 32 := 0#32
  let v220 : BitVec 32 := Scalar.addi v147 c0_i32_128
  let v221 : Index := Scalar.indexCast v220
  let c0_130 : Index := 0#32
  let c0_131 : Index := 0#32
  ![1, v221.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttentionIdeal.lean ====
abbrev S8192x2048 : Shape := ⟨2, ![8192, 2048]⟩
abbrev S8192x4096 : Shape := ⟨2, ![8192, 4096]⟩
abbrev S8192x16x128 : Shape := ⟨3, ![8192, 16, 128]⟩
abbrev S8192x16x3 : Shape := ⟨3, ![8192, 16, 3]⟩
abbrev S_ : Shape := ⟨0, ![]⟩
abbrev S8192x16 : Shape := ⟨2, ![8192, 16]⟩
abbrev S16x8192x8192 : Shape := ⟨3, ![16, 8192, 8192]⟩
abbrev S16x8192 : Shape := ⟨2, ![16, 8192]⟩
abbrev S16x1x8192 : Shape := ⟨3, ![16, 1, 8192]⟩
abbrev S8192 : Shape := ⟨1, ![8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S16x8192x1 : Shape := ⟨3, ![16, 8192, 1]⟩
abbrev S16x128x8192 : Shape := ⟨3, ![16, 128, 8192]⟩

abbrev nBuf : Space → Nat
  | .hbm => 54
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S8192x2048, .bf16⟩
  | .hbm, ⟨3, _⟩ => ⟨S8192x2048, .f32⟩
  | .hbm, ⟨4, _⟩ => ⟨S8192x16x128, .f32⟩
  | .hbm, ⟨5, _⟩ => ⟨S8192x2048, .bf16⟩
  | .hbm, ⟨6, _⟩ => ⟨S8192x2048, .f32⟩
  | .hbm, ⟨7, _⟩ => ⟨S8192x16x128, .f32⟩
  | .hbm, ⟨8, _⟩ => ⟨S8192x2048, .bf16⟩
  | .hbm, ⟨9, _⟩ => ⟨S8192x2048, .f32⟩
  | .hbm, ⟨10, _⟩ => ⟨S8192x16x128, .f32⟩
  | .hbm, ⟨11, _⟩ => ⟨S8192x2048, .f32⟩
  | .hbm, ⟨12, _⟩ => ⟨S8192x16x128, .f32⟩
  | .hbm, ⟨13, _⟩ => ⟨S8192x16x3, .f32⟩
  | .hbm, ⟨14, _⟩ => ⟨S_, .f32⟩
  | .hbm, ⟨15, _⟩ => ⟨S8192x16, .f32⟩
  | .hbm, ⟨16, _⟩ => ⟨S16x8192x8192, .f32⟩
  | .hbm, ⟨17, _⟩ => ⟨S16x8192, .f32⟩
  | .hbm, ⟨18, _⟩ => ⟨S16x1x8192, .f32⟩
  | .hbm, ⟨19, _⟩ => ⟨S16x8192x8192, .f32⟩
  | .hbm, ⟨20, _⟩ => ⟨S16x8192x8192, .f32⟩
  | .hbm, ⟨21, _⟩ => ⟨S_, .f32⟩
  | .hbm, ⟨22, _⟩ => ⟨S_, .f32⟩
  | .hbm, ⟨23, _⟩ => ⟨S16x8192x8192, .f32⟩
  | .hbm, ⟨24, _⟩ => ⟨S16x8192x8192, .f32⟩
  | .hbm, ⟨25, _⟩ => ⟨S8192, .i32⟩
  | .hbm, ⟨26, _⟩ => ⟨S1x1x8192, .i32⟩
  | .hbm, ⟨27, _⟩ => ⟨S1x8192x1, .i32⟩
  | .hbm, ⟨28, _⟩ => ⟨S1x8192x8192, .i32⟩
  | .hbm, ⟨29, _⟩ => ⟨S1x8192x8192, .i32⟩
  | .hbm, ⟨30, _⟩ => ⟨S1x8192x8192, .i1⟩
  | .hbm, ⟨31, _⟩ => ⟨S_, .f32⟩
  | .hbm, ⟨32, _⟩ => ⟨S_, .f32⟩
  | .hbm, ⟨33, _⟩ => ⟨S16x8192x8192, .i1⟩
  | .hbm, ⟨34, _⟩ => ⟨S16x8192x8192, .f32⟩
  | .hbm, ⟨35, _⟩ => ⟨S16x8192x8192, .f32⟩
  | .hbm, ⟨36, _⟩ => ⟨S_, .f32⟩
  | .hbm, ⟨37, _⟩ => ⟨S16x8192, .f32⟩
  | .hbm, ⟨38, _⟩ => ⟨S_, .f32⟩
  | .hbm, ⟨39, _⟩ => ⟨S16x8192, .f32⟩
  | .hbm, ⟨40, _⟩ => ⟨S16x8192, .f32⟩
  | .hbm, ⟨41, _⟩ => ⟨S16x8192x1, .f32⟩
  | .hbm, ⟨42, _⟩ => ⟨S16x8192x8192, .f32⟩
  | .hbm, ⟨43, _⟩ => ⟨S16x8192x8192, .f32⟩
  | .hbm, ⟨44, _⟩ => ⟨S16x8192x8192, .f32⟩
  | .hbm, ⟨45, _⟩ => ⟨S_, .f32⟩
  | .hbm, ⟨46, _⟩ => ⟨S16x8192, .f32⟩
  | .hbm, ⟨47, _⟩ => ⟨S16x8192x1, .f32⟩
  | .hbm, ⟨48, _⟩ => ⟨S16x8192x8192, .f32⟩
  | .hbm, ⟨49, _⟩ => ⟨S16x8192x8192, .f32⟩
  | .hbm, ⟨50, _⟩ => ⟨S16x128x8192, .f32⟩
  | .hbm, ⟨51, _⟩ => ⟨S8192x16x128, .f32⟩
  | .hbm, ⟨52, _⟩ => ⟨S8192x2048, .f32⟩
  | .hbm, ⟨53, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_1 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== OutProj.lean ====
abbrev S8192x4096 : Shape := ⟨2, ![8192, 4096]⟩
abbrev S4096x2048 : Shape := ⟨2, ![4096, 2048]⟩
abbrev S8192x2048 : Shape := ⟨2, ![8192, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .f32⟩
  | .hbm, ⟨3, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .f32⟩
  | .hbm, ⟨3, _⟩ => ⟨S8192x4096, .f32⟩
  | .hbm, ⟨4, _⟩ => ⟨S4096x2048, .f32⟩
  | .hbm, ⟨5, _⟩ => ⟨S8192x2048, .f32⟩
  | .hbm, ⟨6, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InProj.lean ====
abbrev S8192x2048 : Shape := ⟨2, ![8192, 2048]⟩
abbrev S2048 : Shape := ⟨1, ![2048]⟩
abbrev S2048x10304 : Shape := ⟨2, ![2048, 10304]⟩
abbrev S1x2048 : Shape := ⟨2, ![1, 2048]⟩
abbrev S8192x10240 : Shape := ⟨2, ![8192, 10240]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x10304, .bf16⟩
  | .hbm, ⟨3, _⟩ => ⟨S1x2048, .f32⟩
  | .hbm, ⟨4, _⟩ => ⟨S8192x10240, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S8192x2048 : Shape := ⟨2, ![8192, 2048]⟩
abbrev S2048 : Shape := ⟨1, ![2048]⟩
abbrev S2048x10304 : Shape := ⟨2, ![2048, 10304]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048x10240 : Shape := ⟨2, ![2048, 10240]⟩
abbrev S8192x10240 : Shape := ⟨2, ![8192, 10240]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x10304, .bf16⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S2048x10240, .bf16⟩
  | .hbm, ⟨20, _⟩ => ⟨S2048x10240, .f32⟩
  | .hbm, ⟨21, _⟩ => ⟨S8192x10240, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Moe.lean ====
abbrev S8192x2048 : Shape := ⟨2, ![8192, 2048]⟩
abbrev S8192x128 : Shape := ⟨2, ![8192, 128]⟩
abbrev S16x2048x512 : Shape := ⟨3, ![16, 2048, 512]⟩
abbrev S16x512x2048 : Shape := ⟨3, ![16, 512, 2048]⟩
abbrev S_ : Shape := ⟨0, ![]⟩
abbrev S512x512 : Shape := ⟨2, ![512, 512]⟩
abbrev S128x128 : Shape := ⟨2, ![128, 128]⟩
abbrev S512x2048 : Shape := ⟨2, ![512, 2048]⟩
abbrev S512x128 : Shape := ⟨2, ![512, 128]⟩
abbrev S1x2048x512 : Shape := ⟨3, ![1, 2048, 512]⟩
abbrev S1x512x2048 : Shape := ⟨3, ![1, 512, 2048]⟩
abbrev S8 : Shape := ⟨1, ![8]⟩
abbrev S512x1 : Shape := ⟨2, ![512, 1]⟩
abbrev S128 : Shape := ⟨1, ![128]⟩
abbrev S1x128 : Shape := ⟨2, ![1, 128]⟩
abbrev S512 : Shape := ⟨1, ![512]⟩
abbrev S128x512 : Shape := ⟨2, ![128, 512]⟩
abbrev S1x512 : Shape := ⟨2, ![1, 512]⟩
abbrev S1x1x128 : Shape := ⟨3, ![1, 1, 128]⟩
abbrev S1 : Shape := ⟨1, ![1]⟩
abbrev S1x1x1 : Shape := ⟨3, ![1, 1, 1]⟩
abbrev S128x2048 : Shape := ⟨2, ![128, 2048]⟩
abbrev S128x1 : Shape := ⟨2, ![128, 1]⟩
abbrev S2048x512 : Shape := ⟨2, ![2048, 512]⟩

abbrev nBuf : Space → Nat
  | .hbm => 36
  | .vmem => 21
  | .smem => 1
  | _ => 0

abbrev bufTy : (tb : Table) → Fin (tcTables nBuf tb) → BufTy
  | .hbm, ⟨0, _⟩ => ⟨S8192x2048, .bf16⟩
  | .hbm, ⟨1, _⟩ => ⟨S8192x128, .f32⟩
  | .hbm, ⟨2, _⟩ => ⟨S8192x2048, .f32⟩
  | .hbm, ⟨3, _⟩ => ⟨S16x2048x512, .bf16⟩
  | .hbm, ⟨4, _⟩ => ⟨S16x2048x512, .bf16⟩
  | .hbm, ⟨5, _⟩ => ⟨S16x512x2048, .bf16⟩
  | .hbm, ⟨6, _⟩ => ⟨S_, .bf16⟩
  | .hbm, ⟨7, _⟩ => ⟨S512x512, .bf16⟩
  | .hbm, ⟨8, _⟩ => ⟨S512x512, .i32⟩
  | .hbm, ⟨9, _⟩ => ⟨S_, .i32⟩
  | .hbm, ⟨10, _⟩ => ⟨S512x512, .i32⟩
  | .hbm, ⟨11, _⟩ => ⟨S512x512, .i32⟩
  | .hbm, ⟨12, _⟩ => ⟨S512x512, .i32⟩
  | .hbm, ⟨13, _⟩ => ⟨S512x512, .i1⟩
  | .hbm, ⟨14, _⟩ => ⟨S_, .bf16⟩
  | .hbm, ⟨15, _⟩ => ⟨S512x512, .bf16⟩
  | .hbm, ⟨16, _⟩ => ⟨S512x512, .bf16⟩
  | .hbm, ⟨17, _⟩ => ⟨S_, .bf16⟩
  | .hbm, ⟨18, _⟩ => ⟨S128x128, .bf16⟩
  | .hbm, ⟨19, _⟩ => ⟨S128x128, .i32⟩
  | .hbm, ⟨20, _⟩ => ⟨S_, .i32⟩
  | .hbm, ⟨21, _⟩ => ⟨S128x128, .i32⟩
  | .hbm, ⟨22, _⟩ => ⟨S128x128, .i32⟩
  | .hbm, ⟨23, _⟩ => ⟨S128x128, .i32⟩
  | .hbm, ⟨24, _⟩ => ⟨S128x128, .i1⟩
  | .hbm, ⟨25, _⟩ => ⟨S_, .bf16⟩
  | .hbm, ⟨26, _⟩ => ⟨S128x128, .bf16⟩
  | .hbm, ⟨27, _⟩ => ⟨S128x128, .bf16⟩
  | .hbm, ⟨28, _⟩ => ⟨S128x128, .i32⟩
  | .hbm, ⟨29, _⟩ => ⟨S128x128, .i32⟩
  | .hbm, ⟨30, _⟩ => ⟨S_, .i32⟩
  | .hbm, ⟨31, _⟩ => ⟨S128x128, .i32⟩
  | .hbm, ⟨32, _⟩ => ⟨S128x128, .i32⟩
  | .hbm, ⟨33, _⟩ => ⟨S128x128, .i1⟩
  | .hbm, ⟨34, _⟩ => ⟨S128x128, .bf16⟩
  | .hbm, ⟨35, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x128, .f32⟩
  | .local _ .vmem, ⟨3, _⟩ => ⟨S512x128, .f32⟩
  | .local _ .vmem, ⟨4, _⟩ => ⟨S512x2048, .f32⟩
  | .local _ .vmem, ⟨5, _⟩ => ⟨S512x2048, .f32⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x512x2048, .bf16⟩
  | .local _ .vmem, ⟨11, _⟩ => ⟨S1x512x2048, .bf16⟩
  | .local _ .vmem, ⟨12, _⟩ => ⟨S512x512, .bf16⟩
  | .local _ .vmem, ⟨13, _⟩ => ⟨S128x128, .bf16⟩
  | .local _ .vmem, ⟨14, _⟩ => ⟨S128x128, .bf16⟩
  | .local _ .vmem, ⟨15, _⟩ => ⟨S512x2048, .f32⟩
  | .local _ .vmem, ⟨16, _⟩ => ⟨S512x2048, .f32⟩
  | .local _ .vmem, ⟨17, _⟩ => ⟨S512x2048, .bf16⟩
  | .local _ .vmem, ⟨18, _⟩ => ⟨S512x128, .f32⟩
  | .local _ .vmem, ⟨19, _⟩ => ⟨S512x2048, .f32⟩
  | .local _ .vmem, ⟨20, _⟩ => ⟨S512x512, .bf16⟩
  | .local _ .smem, ⟨0, _⟩ => ⟨S8, .i32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_cst : Ref sig .tc := ⟨.hbm, 14, rfl⟩
abbrev main_call0_v5 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_call1_v0 : Ref sig .tc := ⟨.hbm, 19, rfl⟩
abbrev main_call1_c : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_cst : Ref sig .tc := ⟨.hbm, 25, rfl⟩
abbrev main_call1_v5 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_c : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![16, 16], ![false, false]⟩

def k0_off1 (i : grid0.Coords) : Fin 1 → Nat :=
  let arg1 : BitVec 32 := BitVec.ofNat 32 (i 1).val
  let c0_i32_1 : BitVec 32 := 0#32
  let v5 : BitVec 1 := Scalar.cmpi .sgt arg1 c0_i32_1
  let v6 : BitVec 32 := Scalar.extui v5
  let c0_i32_2 : BitVec 32 := 0#32
  let v7 : BitVec 1 := Scalar.cmpi .slt arg1 c0_i32_2
  let v8 : BitVec 32 := Scalar.extui v7
  let v9 : BitVec 32 := Scalar.subi v6 v8
  let c4_i32 : BitVec 32 := 4#32
  let c0_i32_3 : BitVec 32 := 0#32
  let v10 : BitVec 1 := Scalar.cmpi .sgt c4_i32 c0_i32_3
  let v11 : BitVec 32 := Scalar.extui v10
  let c0_i32_4 : BitVec 32 := 0#32
  let v12 : BitVec 1 := Scalar.cmpi .slt c4_i32 c0_i32_4
  let v13 : BitVec 32 := Scalar.extui v12
  let v14 : BitVec 32 := Scalar.subi v11 v13
  let v15 : BitVec 1 := Scalar.cmpi .ne v9 v14
  let v16 : BitVec 32 := Scalar.remsi arg1 c4_i32
  let c0_i32_5 : BitVec 32 := 0#32
  let v17 : BitVec 1 := Scalar.cmpi .ne v16 c0_i32_5
  let v18 : BitVec 1 := Scalar.andi v15 v17
  let v4 : BitVec 32 := Scalar.divsi arg1 c4_i32
  let c1_i32 : BitVec 32 := 1#32
  let v19 : BitVec 32 := Scalar.subi v4 c1_i32
  let v20 : BitVec 32 := Scalar.select v18 v19 v4
  let v21 : Index := Scalar.indexCast v20
  ![v21.toNat]
def k0_off2 (i : grid0.Coords) : Fin 1 → Nat :=
  let c4_i32_6 : BitVec 32 := 4#32
  let arg1 : BitVec 32 := BitVec.ofNat 32 (i 1).val
  let c0_i32_1 : BitVec 32 := 0#32
  let v5 : BitVec 1 := Scalar.cmpi .sgt arg1 c0_i32_1
  let v6 : BitVec 32 := Scalar.extui v5
  let c0_i32_2 : BitVec 32 := 0#32
  let v7 : BitVec 1 := Scalar.cmpi .slt arg1 c0_i32_2
  let v8 : BitVec 32 := Scalar.extui v7
  let v9 : BitVec 32 := Scalar.subi v6 v8
  let c4_i32 : BitVec 32 := 4#32
  let c0_i32_3 : BitVec 32 := 0#32
  let v10 : BitVec 1 := Scalar.cmpi .sgt c4_i32 c0_i32_3
  let v11 : BitVec 32 := Scalar.extui v10
  let c0_i32_4 : BitVec 32 := 0#32
  let v12 : BitVec 1 := Scalar.cmpi .slt c4_i32 c0_i32_4
  let v13 : BitVec 32 := Scalar.extui v12
  let v14 : BitVec 32 := Scalar.subi v11 v13
  let v15 : BitVec 1 := Scalar.cmpi .ne v9 v14
  let v16 : BitVec 32 := Scalar.remsi arg1 c4_i32
  let c0_i32_5 : BitVec 32 := 0#32
  let v17 : BitVec 1 := Scalar.cmpi .ne v16 c0_i32_5
  let v18 : BitVec 1 := Scalar.andi v15 v17
  let v4 : BitVec 32 := Scalar.divsi arg1 c4_i32
  let c1_i32 : BitVec 32 := 1#32
  let v19 : BitVec 32 := Scalar.subi v4 c1_i32
  let v20 : BitVec 32 := Scalar.select v18 v19 v4
  let v23 : BitVec 32 := Scalar.addi c4_i32_6 v20
  let v24 : Index := Scalar.indexCast v23
  ![v24.toNat]
def k0_cond6 (i : grid0.Coords) : BitVec 1 :=
  let arg1 : BitVec 32 := BitVec.ofNat 32 (i 1).val
  let c15_i32 : BitVec 32 := 15#32
  let v47 : BitVec 1 := Scalar.cmpi .eq arg1 c15_i32
  let v48 : BitVec 32 := Scalar.extui v47
  let c0_i32_15 : BitVec 32 := 0#32
  let v49 : BitVec 1 := Scalar.cmpi .ne v48 c0_i32_15
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== MoeRefIdeal.lean ====
abbrev S8192x2048 : Shape := ⟨2, ![8192, 2048]⟩
abbrev S8192x128 : Shape := ⟨2, ![8192, 128]⟩
abbrev S16x2048x512 : Shape := ⟨3, ![16, 2048, 512]⟩
abbrev S16x512x2048 : Shape := ⟨3, ![16, 512, 2048]⟩
abbrev S8192x16x512 : Shape := ⟨3, ![8192, 16, 512]⟩
abbrev S_ : Shape := ⟨0, ![]⟩
abbrev S8192x16 : Shape := ⟨2, ![8192, 16]⟩
abbrev S8192x16x1 : Shape := ⟨3, ![8192, 16, 1]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x128, .f32⟩
  | .hbm, ⟨2, _⟩ => ⟨S8192x2048, .f32⟩
  | .hbm, ⟨3, _⟩ => ⟨S16x2048x512, .bf16⟩
  | .hbm, ⟨4, _⟩ => ⟨S16x2048x512, .bf16⟩
  | .hbm, ⟨5, _⟩ => ⟨S16x512x2048, .bf16⟩
  | .hbm, ⟨6, _⟩ => ⟨S8192x2048, .f32⟩
  | .hbm, ⟨7, _⟩ => ⟨S16x2048x512, .f32⟩
  | .hbm, ⟨8, _⟩ => ⟨S8192x16x512, .f32⟩
  | .hbm, ⟨9, _⟩ => ⟨S8192x16x512, .f32⟩
  | .hbm, ⟨10, _⟩ => ⟨S8192x16x512, .f32⟩
  | .hbm, ⟨11, _⟩ => ⟨S_, .f32⟩
  | .hbm, ⟨12, _⟩ => ⟨S8192x16x512, .f32⟩
  | .hbm, ⟨13, _⟩ => ⟨S8192x16x512, .f32⟩
  | .hbm, ⟨14, _⟩ => ⟨S_, .f32⟩
  | .hbm, ⟨15, _⟩ => ⟨S8192x16x512, .f32⟩
  | .hbm, ⟨16, _⟩ => ⟨S8192x16x512, .f32⟩
  | .hbm, ⟨17, _⟩ => ⟨S8192x16x512, .f32⟩
  | .hbm, ⟨18, _⟩ => ⟨S16x2048x512, .f32⟩
  | .hbm, ⟨19, _⟩ => ⟨S8192x16x512, .f32⟩
  | .hbm, ⟨20, _⟩ => ⟨S8192x16x512, .f32⟩
  | .hbm, ⟨21, _⟩ => ⟨S8192x16, .f32⟩
  | .hbm, ⟨22, _⟩ => ⟨S8192x16x1, .f32⟩
  | .hbm, ⟨23, _⟩ => ⟨S8192x16x512, .f32⟩
  | .hbm, ⟨24, _⟩ => ⟨S8192x16x512, .f32⟩
  | .hbm, ⟨25, _⟩ => ⟨S16x512x2048, .f32⟩
  | .hbm, ⟨26, _⟩ => ⟨S8192x2048, .f32⟩
  | .hbm, ⟨27, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩

abbrev nD : Nat := 1
abbrev τ : Topo := Topo.v7x

variable {F : FTy → Type} [FloatOps F]
-- ==== KvProj.lean ====
abbrev S8192x2048 : Shape := ⟨2, ![8192, 2048]⟩
abbrev S2048 : Shape := ⟨1, ![2048]⟩
abbrev S2048x4096 : Shape := ⟨2, ![2048, 4096]⟩
abbrev S128 : Shape := ⟨1, ![128]⟩
abbrev S1x2048 : Shape := ⟨2, ![1, 2048]⟩
abbrev S1x128 : Shape := ⟨2, ![1, 128]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩
abbrev S1024x128 : Shape := ⟨2, ![1024, 128]⟩

abbrev nBuf : Space → Nat
  | .hbm => 8
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4096, .bf16⟩
  | .hbm, ⟨3, _⟩ => ⟨S128, .f32⟩
  | .hbm, ⟨4, _⟩ => ⟨S1x2048, .f32⟩
  | .hbm, ⟨5, _⟩ => ⟨S1x128, .f32⟩
  | .hbm, ⟨6, _⟩ => ⟨S8192x4096, .f32⟩
  | .hbm, ⟨7, _⟩ => ⟨S8192x4096, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1x128, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c2_i32 : BitVec 32 := 2#32
  let v6 : BitVec 1 := Scalar.cmpi .slt arg1 c2_i32
  let v7 : BitVec 32 := Scalar.extui v6
  let c0_i32_4 : BitVec 32 := 0#32
  let v8 : BitVec 1 := Scalar.cmpi .ne v7 c0_i32_4
  v8

def k0_cond3 (i : grid0.Coords) : BitVec 1 :=
  let arg1 : BitVec 32 := BitVec.ofNat 32 (i 1).val
  let c2_i32_5 : BitVec 32 := 2#32
  let v9 : BitVec 1 := Scalar.cmpi .sge arg1 c2_i32_5
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KvProjRefIdeal.lean ====
abbrev S8192x2048 : Shape := ⟨2, ![8192, 2048]⟩
abbrev S2048 : Shape := ⟨1, ![2048]⟩
abbrev S2048x4096 : Shape := ⟨2, ![2048, 4096]⟩
abbrev S128 : Shape := ⟨1, ![128]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x4096 : Shape := ⟨2, ![8192, 4096]⟩
abbrev S8192x16x128 : Shape := ⟨3, ![8192, 16, 128]⟩
abbrev S8192x16 : Shape := ⟨2, ![8192, 16]⟩
abbrev S8192x16x1 : Shape := ⟨3, ![8192, 16, 1]⟩
abbrev S1x1x128 : Shape := ⟨3, ![1, 1, 128]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4096, .bf16⟩
  | .hbm, ⟨3, _⟩ => ⟨S128, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S2048x4096, .f32⟩
  | .hbm, ⟨21, _⟩ => ⟨S8192x4096, .f32⟩
  | .hbm, ⟨22, _⟩ => ⟨S8192x2048, .f32⟩
  | .hbm, ⟨23, _⟩ => ⟨S8192x16x128, .f32⟩
  | .hbm, ⟨24, _⟩ => ⟨S8192x16x128, .f32⟩
  | .hbm, ⟨25, _⟩ => ⟨S_, .f32⟩
  | .hbm, ⟨26, _⟩ => ⟨S8192x16, .f32⟩
  | .hbm, ⟨27, _⟩ => ⟨S8192x16x1, .f32⟩
  | .hbm, ⟨28, _⟩ => ⟨S_, .f32⟩
  | .hbm, ⟨29, _⟩ => ⟨S8192x16x1, .f32⟩
  | .hbm, ⟨30, _⟩ => ⟨S8192x16x1, .f32⟩
  | .hbm, ⟨31, _⟩ => ⟨S_, .f32⟩
  | .hbm, ⟨32, _⟩ => ⟨S8192x16x1, .f32⟩
  | .hbm, ⟨33, _⟩ => ⟨S8192x16x1, .f32⟩
  | .hbm, ⟨34, _⟩ => ⟨S8192x16x1, .f32⟩
  | .hbm, ⟨35, _⟩ => ⟨S8192x16x128, .f32⟩
  | .hbm, ⟨36, _⟩ => ⟨S8192x16x128, .f32⟩
  | .hbm, ⟨37, _⟩ => ⟨S1x1x128, .f32⟩
  | .hbm, ⟨38, _⟩ => ⟨S8192x16x128, .f32⟩
  | .hbm, ⟨39, _⟩ => ⟨S8192x16x128, .f32⟩
  | .hbm, ⟨40, _⟩ => ⟨S8192x2048, .f32⟩
  | .hbm, ⟨41, _⟩ => ⟨S8192x2048, .f32⟩
  | .hbm, ⟨42, _⟩ => ⟨S8192x4096, .f32⟩
  | .hbm, ⟨43, _⟩ => ⟨S8192x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== LogForget.lean ====
abbrev S8192x2048 : Shape := ⟨2, ![8192, 2048]⟩
abbrev S2048 : Shape := ⟨1, ![2048]⟩
abbrev S2048x16 : Shape := ⟨2, ![2048, 16]⟩
abbrev S16 : Shape := ⟨1, ![16]⟩
abbrev S_ : Shape := ⟨0, ![]⟩
abbrev S2048x128 : Shape := ⟨2, ![2048, 128]⟩
abbrev S128 : Shape := ⟨1, ![128]⟩
abbrev S1x128 : Shape := ⟨2, ![1, 128]⟩
abbrev S1x2048 : Shape := ⟨2, ![1, 2048]⟩
abbrev S512x512 : Shape := ⟨2, ![512, 512]⟩
abbrev S8192x128 : Shape := ⟨2, ![8192, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩

abbrev nBuf : Space → Nat
  | .hbm => 26
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x16, .f32⟩
  | .hbm, ⟨3, _⟩ => ⟨S16, .f32⟩
  | .hbm, ⟨4, _⟩ => ⟨S_, .i32⟩
  | .hbm, ⟨5, _⟩ => ⟨S_, .f32⟩
  | .hbm, ⟨6, _⟩ => ⟨S2048x128, .f32⟩
  | .hbm, ⟨7, _⟩ => ⟨S2048x128, .bf16⟩
  | .hbm, ⟨8, _⟩ => ⟨S_, .i32⟩
  | .hbm, ⟨9, _⟩ => ⟨S_, .f32⟩
  | .hbm, ⟨10, _⟩ => ⟨S128, .f32⟩
  | .hbm, ⟨11, _⟩ => ⟨S1x128, .f32⟩
  | .hbm, ⟨12, _⟩ => ⟨S1x2048, .f32⟩
  | .hbm, ⟨13, _⟩ => ⟨S_, .bf16⟩
  | .hbm, ⟨14, _⟩ => ⟨S512x512, .bf16⟩
  | .hbm, ⟨15, _⟩ => ⟨S512x512, .i32⟩
  | .hbm, ⟨16, _⟩ => ⟨S_, .i32⟩
  | .hbm, ⟨17, _⟩ => ⟨S512x512, .i32⟩
  | .hbm, ⟨18, _⟩ => ⟨S512x512, .i32⟩
  | .hbm, ⟨19, _⟩ => ⟨S512x512, .i32⟩
  | .hbm, ⟨20, _⟩ => ⟨S512x512, .i1⟩
  | .hbm, ⟨21, _⟩ => ⟨S_, .bf16⟩
  | .hbm, ⟨22, _⟩ => ⟨S512x512, .bf16⟩
  | .hbm, ⟨23, _⟩ => ⟨S512x512, .bf16⟩
  | .hbm, ⟨24, _⟩ => ⟨S8192x128, .f32⟩
  | .hbm, ⟨25, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x128, .bf16⟩
  | .local _ .vmem, ⟨4, _⟩ => ⟨S1x128, .f32⟩
  | .local _ .vmem, ⟨5, _⟩ => ⟨S512x512, .bf16⟩
  | .local _ .vmem, ⟨6, _⟩ => ⟨S512x128, .f32⟩
  | .local _ .vmem, ⟨7, _⟩ => ⟨S512x128, .f32⟩
  | .local _ .vmem, ⟨8, _⟩ => ⟨S512x2048, .bf16⟩
  | .local _ .vmem, ⟨9, _⟩ => ⟨S512x2048, .bf16⟩
  | .local _ .vmem, ⟨10, _⟩ => ⟨S1x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_call2_v0 : Ref sig .tc := ⟨.hbm, 15, rfl⟩
abbrev main_call2_c : Ref sig .tc := ⟨.hbm, 16, rfl⟩
abbrev main_call2_v1 : Ref sig .tc := ⟨.hbm, 17, rfl⟩
abbrev main_call2_v2 : Ref sig .tc := ⟨.hbm, 18, rfl⟩
abbrev main_call2_v3 : Ref sig .tc := ⟨.hbm, 19, rfl⟩
abbrev main_call2_v4 : Ref sig .tc := ⟨.hbm, 20, rfl⟩
abbrev main_call2_cst : Ref sig .tc := ⟨.hbm, 21, rfl⟩
abbrev main_call2_v5 : Ref sig .tc := ⟨.hbm, 22, rfl⟩
abbrev main_v6 : Ref sig .tc := ⟨.hbm, 23, rfl⟩
abbrev main_v7_0 : Ref sig .tc := ⟨.hbm, 24, rfl⟩
abbrev main_v7_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LogForgetRefIdeal.lean ====
abbrev S8192x2048 : Shape := ⟨2, ![8192, 2048]⟩
abbrev S2048 : Shape := ⟨1, ![2048]⟩
abbrev S2048x16 : Shape := ⟨2, ![2048, 16]⟩
abbrev S16 : Shape := ⟨1, ![16]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x16 : Shape := ⟨2, ![8192, 16]⟩
abbrev S1x16 : Shape := ⟨2, ![1, 16]⟩
abbrev S8192x128 : Shape := ⟨2, ![8192, 128]⟩

abbrev nBuf : Space → Nat
  | .hbm => 43
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x16, .f32⟩
  | .hbm, ⟨3, _⟩ => ⟨S16, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x16, .f32⟩
  | .hbm, ⟨21, _⟩ => ⟨S1x16, .f32⟩
  | .hbm, ⟨22, _⟩ => ⟨S8192x16, .f32⟩
  | .hbm, ⟨23, _⟩ => ⟨S8192x16, .f32⟩
  | .hbm, ⟨24, _⟩ => ⟨S_, .i32⟩
  | .hbm, ⟨25, _⟩ => ⟨S_, .f32⟩
  | .hbm, ⟨26, _⟩ => ⟨S8192x128, .f32⟩
  | .hbm, ⟨27, _⟩ => ⟨S8192x128, .f32⟩
  | .hbm, ⟨28, _⟩ => ⟨S_, .f32⟩
  | .hbm, ⟨29, _⟩ => ⟨S8192x128, .f32⟩
  | .hbm, ⟨30, _⟩ => ⟨S8192x128, .f32⟩
  | .hbm, ⟨31, _⟩ => ⟨S8192x128, .f32⟩
  | .hbm, ⟨32, _⟩ => ⟨S8192x128, .f32⟩
  | .hbm, ⟨33, _⟩ => ⟨S8192x128, .i1⟩
  | .hbm, ⟨34, _⟩ => ⟨S8192x128, .f32⟩
  | .hbm, ⟨35, _⟩ => ⟨S8192x128, .f32⟩
  | .hbm, ⟨36, _⟩ => ⟨S8192x128, .f32⟩
  | .hbm, ⟨37, _⟩ => ⟨S8192x128, .f32⟩
  | .hbm, ⟨38, _⟩ => ⟨S8192x128, .f32⟩
  | .hbm, ⟨39, _⟩ => ⟨S8192x128, .f32⟩
  | .hbm, ⟨40, _⟩ => ⟨S8192x128, .f32⟩
  | .hbm, ⟨41, _⟩ => ⟨S8192x128, .f32⟩
  | .hbm, ⟨42, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_call0_v0 : Ref sig .tc := ⟨.hbm, 25, rfl⟩
abbrev main_v17 : Ref sig .tc := ⟨.hbm, 26, rfl⟩
abbrev main_call1_v0 : Ref sig .tc := ⟨.hbm, 27, rfl⟩
abbrev main_call1_call0_cst : Ref sig .tc := ⟨.hbm, 28, rfl⟩
abbrev main_call1_call0_v0 : Ref sig .tc := ⟨.hbm, 29, rfl⟩
abbrev main_call1_call0_v1 : Ref sig .tc := ⟨.hbm, 30, rfl⟩
abbrev main_call1_call0_v2 : Ref sig .tc := ⟨.hbm, 31, rfl⟩
abbrev main_call1_call0_v3 : Ref sig .tc := ⟨.hbm, 32, rfl⟩
abbrev main_call1_call0_v4 : Ref sig .tc := ⟨.hbm, 33, rfl⟩
abbrev main_call1_call0_v5 : Ref sig .tc := ⟨.hbm, 34, rfl⟩
abbrev main_call1_call0_v6 : Ref sig .tc := ⟨.hbm, 35, rfl⟩
abbrev main_call1_call0_v7 : Ref sig .tc := ⟨.hbm, 36, rfl⟩
abbrev main_call1_call0_v8 : Ref sig .tc := ⟨.hbm, 37, rfl⟩
abbrev main_call1_call0_v9 : Ref sig .tc := ⟨.hbm, 38, rfl⟩
abbrev main_call1_call0_v10 : Ref sig .tc := ⟨.hbm, 39, rfl⟩
abbrev main_call1_call0_v11 : Ref sig .tc := ⟨.hbm, 40, rfl⟩
abbrev main_call1_v1 : Ref sig .tc := ⟨.hbm, 41, rfl⟩
abbrev main_v18 : Ref sig .tc := ⟨.hbm, 42, rfl⟩

abbrev nD : Nat := 1
abbrev τ : Topo := Topo.v7x

variable {F : FTy → Type} [FloatOps F]
-- ==== QProj.lean ====
abbrev S8192x2048 : Shape := ⟨2, ![8192, 2048]⟩
abbrev S2048 : Shape := ⟨1, ![2048]⟩
abbrev S2048x2048 : Shape := ⟨2, ![2048, 2048]⟩
abbrev S128 : Shape := ⟨1, ![128]⟩
abbrev S1x2048 : Shape := ⟨2, ![1, 2048]⟩
abbrev S1x128 : Shape := ⟨2, ![1, 128]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩
abbrev S1024x128 : Shape := ⟨2, ![1024, 128]⟩

abbrev nBuf : Space → Nat
  | .hbm => 7
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2048, .bf16⟩
  | .hbm, ⟨3, _⟩ => ⟨S128, .f32⟩
  | .hbm, ⟨4, _⟩ => ⟨S1x2048, .f32⟩
  | .hbm, ⟨5, _⟩ => ⟨S1x128, .f32⟩
  | .hbm, ⟨6, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1x128, .f32⟩
  | .local _ .vmem, ⟨6, _⟩ => ⟨S1024x1024, .bf16⟩
  | .local _ .vmem, ⟨7, _⟩ => ⟨S1024x1024, .bf16⟩
  | .local _ .vmem, ⟨8, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c2_i32 : BitVec 32 := 2#32
  let v6 : BitVec 1 := Scalar.cmpi .slt arg1 c2_i32
  let v7 : BitVec 32 := Scalar.extui v6
  let c0_i32_4 : BitVec 32 := 0#32
  let v8 : BitVec 1 := Scalar.cmpi .ne v7 c0_i32_4
  v8

def k0_cond3 (i : grid0.Coords) : BitVec 1 :=
  let arg1 : BitVec 32 := BitVec.ofNat 32 (i 1).val
  let c2_i32_5 : BitVec 32 := 2#32
  let v9 : BitVec 1 := Scalar.cmpi .sge arg1 c2_i32_5
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QProjRefIdeal.lean ====
abbrev S8192x2048 : Shape := ⟨2, ![8192, 2048]⟩
abbrev S2048 : Shape := ⟨1, ![2048]⟩
abbrev S2048x2048 : Shape := ⟨2, ![2048, 2048]⟩
abbrev S128 : Shape := ⟨1, ![128]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x16x128 : Shape := ⟨3, ![8192, 16, 128]⟩
abbrev S8192x16 : Shape := ⟨2, ![8192, 16]⟩
abbrev S8192x16x1 : Shape := ⟨3, ![8192, 16, 1]⟩
abbrev S1x1x128 : Shape := ⟨3, ![1, 1, 128]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2048, .bf16⟩
  | .hbm, ⟨3, _⟩ => ⟨S128, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S2048x2048, .f32⟩
  | .hbm, ⟨21, _⟩ => ⟨S8192x2048, .f32⟩
  | .hbm, ⟨22, _⟩ => ⟨S8192x16x128, .f32⟩
  | .hbm, ⟨23, _⟩ => ⟨S8192x16x128, .f32⟩
  | .hbm, ⟨24, _⟩ => ⟨S_, .f32⟩
  | .hbm, ⟨25, _⟩ => ⟨S8192x16, .f32⟩
  | .hbm, ⟨26, _⟩ => ⟨S8192x16x1, .f32⟩
  | .hbm, ⟨27, _⟩ => ⟨S_, .f32⟩
  | .hbm, ⟨28, _⟩ => ⟨S8192x16x1, .f32⟩
  | .hbm, ⟨29, _⟩ => ⟨S8192x16x1, .f32⟩
  | .hbm, ⟨30, _⟩ => ⟨S_, .f32⟩
  | .hbm, ⟨31, _⟩ => ⟨S8192x16x1, .f32⟩
  | .hbm, ⟨32, _⟩ => ⟨S8192x16x1, .f32⟩
  | .hbm, ⟨33, _⟩ => ⟨S8192x16x1, .f32⟩
  | .hbm, ⟨34, _⟩ => ⟨S8192x16x128, .f32⟩
  | .hbm, ⟨35, _⟩ => ⟨S8192x16x128, .f32⟩
  | .hbm, ⟨36, _⟩ => ⟨S1x1x128, .f32⟩
  | .hbm, ⟨37, _⟩ => ⟨S8192x16x128, .f32⟩
  | .hbm, ⟨38, _⟩ => ⟨S8192x16x128, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== OProj.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OProjRefIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KvSample.lean ====
abbrev S256x2048 : Shape := ⟨2, ![256, 2048]⟩
abbrev S2048 : Shape := ⟨1, ![2048]⟩
abbrev S2048x4096 : Shape := ⟨2, ![2048, 4096]⟩
abbrev S128 : Shape := ⟨1, ![128]⟩
abbrev S1x2048 : Shape := ⟨2, ![1, 2048]⟩
abbrev S1x128 : Shape := ⟨2, ![1, 128]⟩
abbrev S256x4096 : Shape := ⟨2, ![256, 4096]⟩
abbrev S2048x512 : Shape := ⟨2, ![2048, 512]⟩
abbrev S256x512 : Shape := ⟨2, ![256, 512]⟩
abbrev S256 : Shape := ⟨1, ![256]⟩
abbrev S256x1 : Shape := ⟨2, ![256, 1]⟩
abbrev S256x128 : Shape := ⟨2, ![256, 128]⟩

abbrev nBuf : Space → Nat
  | .hbm => 7
  | .vmem => 8
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S2048x4096, .bf16⟩
  | .hbm, ⟨3, _⟩ => ⟨S128, .f32⟩
  | .hbm, ⟨4, _⟩ => ⟨S1x2048, .f32⟩
  | .hbm, ⟨5, _⟩ => ⟨S1x128, .f32⟩
  | .hbm, ⟨6, _⟩ => ⟨S256x4096, .f32⟩
  | .local _ .vmem, ⟨0, _⟩ => ⟨S256x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S1x128, .f32⟩
  | .local _ .vmem, ⟨5, _⟩ => ⟨S256x512, .f32⟩
  | .local _ .vmem, ⟨6, _⟩ => ⟨S256x512, .f32⟩
  | .local _ .vmem, ⟨7, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c4_i32 : BitVec 32 := 4#32
  let v6 : BitVec 1 := Scalar.cmpi .slt arg1 c4_i32
  let v7 : BitVec 32 := Scalar.extui v6
  let c0_i32_4 : BitVec 32 := 0#32
  let v8 : BitVec 1 := Scalar.cmpi .ne v7 c0_i32_4
  v8

def k0_cond3 (i : grid0.Coords) : BitVec 1 :=
  let arg1 : BitVec 32 := BitVec.ofNat 32 (i 1).val
  let c4_i32_5 : BitVec 32 := 4#32
  let v9 : BitVec 1 := Scalar.cmpi .sge arg1 c4_i32_5
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KvSampleRefIdeal.lean ====
abbrev S256x2048 : Shape := ⟨2, ![256, 2048]⟩
abbrev S2048 : Shape := ⟨1, ![2048]⟩
abbrev S2048x4096 : Shape := ⟨2, ![2048, 4096]⟩
abbrev S128 : Shape := ⟨1, ![128]⟩
abbrev S_ : Shape := ⟨0, ![]⟩
abbrev S256 : Shape := ⟨1, ![256]⟩
abbrev S256x1 : Shape := ⟨2, ![256, 1]⟩
abbrev S1x2048 : Shape := ⟨2, ![1, 2048]⟩
abbrev S256x4096 : Shape := ⟨2, ![256, 4096]⟩
abbrev S256x16x128 : Shape := ⟨3, ![256, 16, 128]⟩
abbrev S256x16 : Shape := ⟨2, ![256, 16]⟩
abbrev S256x16x1 : Shape := ⟨3, ![256, 16, 1]⟩
abbrev S1x1x128 : Shape := ⟨3, ![1, 1, 128]⟩

abbrev nBuf : Space → Nat
  | .hbm => 43
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S2048x4096, .bf16⟩
  | .hbm, ⟨3, _⟩ => ⟨S128, .f32⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x2048, .f32⟩
  | .hbm, ⟨16, _⟩ => ⟨S256x2048, .f32⟩
  | .hbm, ⟨17, _⟩ => ⟨S1x2048, .f32⟩
  | .hbm, ⟨18, _⟩ => ⟨S256x2048, .f32⟩
  | .hbm, ⟨19, _⟩ => ⟨S256x2048, .f32⟩
  | .hbm, ⟨20, _⟩ => ⟨S2048x4096, .f32⟩
  | .hbm, ⟨21, _⟩ => ⟨S256x4096, .f32⟩
  | .hbm, ⟨22, _⟩ => ⟨S256x2048, .f32⟩
  | .hbm, ⟨23, _⟩ => ⟨S256x16x128, .f32⟩
  | .hbm, ⟨24, _⟩ => ⟨S256x16x128, .f32⟩
  | .hbm, ⟨25, _⟩ => ⟨S_, .f32⟩
  | .hbm, ⟨26, _⟩ => ⟨S256x16, .f32⟩
  | .hbm, ⟨27, _⟩ => ⟨S256x16x1, .f32⟩
  | .hbm, ⟨28, _⟩ => ⟨S_, .f32⟩
  | .hbm, ⟨29, _⟩ => ⟨S256x16x1, .f32⟩
  | .hbm, ⟨30, _⟩ => ⟨S256x16x1, .f32⟩
  | .hbm, ⟨31, _⟩ => ⟨S_, .f32⟩
  | .hbm, ⟨32, _⟩ => ⟨S256x16x1, .f32⟩
  | .hbm, ⟨33, _⟩ => ⟨S256x16x1, .f32⟩
  | .hbm, ⟨34, _⟩ => ⟨S256x16x1, .f32⟩
  | .hbm, ⟨35, _⟩ => ⟨S256x16x128, .f32⟩
  | .hbm, ⟨36, _⟩ => ⟨S256x16x128, .f32⟩
  | .hbm, ⟨37, _⟩ => ⟨S1x1x128, .f32⟩
  | .hbm, ⟨38, _⟩ => ⟨S256x16x128, .f32⟩
  | .hbm, ⟨39, _⟩ => ⟨S256x16x128, .f32⟩
  | .hbm, ⟨40, _⟩ => ⟨S256x2048, .f32⟩
  | .hbm, ⟨41, _⟩ => ⟨S256x2048, .f32⟩
  | .hbm, ⟨42, _⟩ => ⟨S256x4096, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== ForgetSample.lean ====
abbrev S256x2048 : Shape := ⟨2, ![256, 2048]⟩
abbrev S2048 : Shape := ⟨1, ![2048]⟩
abbrev S2048x16 : Shape := ⟨2, ![2048, 16]⟩
abbrev S16 : Shape := ⟨1, ![16]⟩
abbrev S_ : Shape := ⟨0, ![]⟩
abbrev S2048x128 : Shape := ⟨2, ![2048, 128]⟩
abbrev S128 : Shape := ⟨1, ![128]⟩
abbrev S1x128 : Shape := ⟨2, ![1, 128]⟩
abbrev S1x2048 : Shape := ⟨2, ![1, 2048]⟩
abbrev S256x128 : Shape := ⟨2, ![256, 128]⟩
abbrev S256 : Shape := ⟨1, ![256]⟩
abbrev S256x1 : Shape := ⟨2, ![256, 1]⟩

abbrev nBuf : Space → Nat
  | .hbm => 14
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S2048x16, .f32⟩
  | .hbm, ⟨3, _⟩ => ⟨S16, .f32⟩
  | .hbm, ⟨4, _⟩ => ⟨S_, .i32⟩
  | .hbm, ⟨5, _⟩ => ⟨S_, .f32⟩
  | .hbm, ⟨6, _⟩ => ⟨S2048x128, .f32⟩
  | .hbm, ⟨7, _⟩ => ⟨S2048x128, .bf16⟩
  | .hbm, ⟨8, _⟩ => ⟨S_, .i32⟩
  | .hbm, ⟨9, _⟩ => ⟨S_, .f32⟩
  | .hbm, ⟨10, _⟩ => ⟨S128, .f32⟩
  | .hbm, ⟨11, _⟩ => ⟨S1x128, .f32⟩
  | .hbm, ⟨12, _⟩ => ⟨S1x2048, .f32⟩
  | .hbm, ⟨13, _⟩ => ⟨S256x128, .f32⟩
  | .local _ .vmem, ⟨0, _⟩ => ⟨S256x2048, .f32⟩
  | .local _ .vmem, ⟨1, _⟩ => ⟨S1x2048, .f32⟩
  | .local _ .vmem, ⟨2, _⟩ => ⟨S2048x128, .bf16⟩
  | .local _ .vmem, ⟨3, _⟩ => ⟨S1x128, .f32⟩
  | .local _ .vmem, ⟨4, _⟩ => ⟨S256x128, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== ForgetSampleRefIdeal.lean ====
abbrev S256x2048 : Shape := ⟨2, ![256, 2048]⟩
abbrev S2048 : Shape := ⟨1, ![2048]⟩
abbrev S2048x16 : Shape := ⟨2, ![2048, 16]⟩
abbrev S16 : Shape := ⟨1, ![16]⟩
abbrev S_ : Shape := ⟨0, ![]⟩
abbrev S256 : Shape := ⟨1, ![256]⟩
abbrev S256x1 : Shape := ⟨2, ![256, 1]⟩
abbrev S1x2048 : Shape := ⟨2, ![1, 2048]⟩
abbrev S256x16 : Shape := ⟨2, ![256, 16]⟩
abbrev S1x16 : Shape := ⟨2, ![1, 16]⟩
abbrev S256x128 : Shape := ⟨2, ![256, 128]⟩

abbrev nBuf : Space → Nat
  | .hbm => 43
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S2048x16, .f32⟩
  | .hbm, ⟨3, _⟩ => ⟨S16, .f32⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x2048, .f32⟩
  | .hbm, ⟨16, _⟩ => ⟨S256x2048, .f32⟩
  | .hbm, ⟨17, _⟩ => ⟨S1x2048, .f32⟩
  | .hbm, ⟨18, _⟩ => ⟨S256x2048, .f32⟩
  | .hbm, ⟨19, _⟩ => ⟨S256x2048, .f32⟩
  | .hbm, ⟨20, _⟩ => ⟨S256x16, .f32⟩
  | .hbm, ⟨21, _⟩ => ⟨S1x16, .f32⟩
  | .hbm, ⟨22, _⟩ => ⟨S256x16, .f32⟩
  | .hbm, ⟨23, _⟩ => ⟨S256x16, .f32⟩
  | .hbm, ⟨24, _⟩ => ⟨S_, .i32⟩
  | .hbm, ⟨25, _⟩ => ⟨S_, .f32⟩
  | .hbm, ⟨26, _⟩ => ⟨S256x128, .f32⟩
  | .hbm, ⟨27, _⟩ => ⟨S256x128, .f32⟩
  | .hbm, ⟨28, _⟩ => ⟨S_, .f32⟩
  | .hbm, ⟨29, _⟩ => ⟨S256x128, .f32⟩
  | .hbm, ⟨30, _⟩ => ⟨S256x128, .f32⟩
  | .hbm, ⟨31, _⟩ => ⟨S256x128, .f32⟩
  | .hbm, ⟨32, _⟩ => ⟨S256x128, .f32⟩
  | .hbm, ⟨33, _⟩ => ⟨S256x128, .i1⟩
  | .hbm, ⟨34, _⟩ => ⟨S256x128, .f32⟩
  | .hbm, ⟨35, _⟩ => ⟨S256x128, .f32⟩
  | .hbm, ⟨36, _⟩ => ⟨S256x128, .f32⟩
  | .hbm, ⟨37, _⟩ => ⟨S256x128, .f32⟩
  | .hbm, ⟨38, _⟩ => ⟨S256x128, .f32⟩
  | .hbm, ⟨39, _⟩ => ⟨S256x128, .f32⟩
  | .hbm, ⟨40, _⟩ => ⟨S256x128, .f32⟩
  | .hbm, ⟨41, _⟩ => ⟨S256x128, .f32⟩
  | .hbm, ⟨42, _⟩ => ⟨S256x128, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_call0_v0 : Ref sig .tc := ⟨.hbm, 25, rfl⟩
abbrev main_v17 : Ref sig .tc := ⟨.hbm, 26, rfl⟩
abbrev main_call1_v0 : Ref sig .tc := ⟨.hbm, 27, rfl⟩
abbrev main_call1_call0_cst : Ref sig .tc := ⟨.hbm, 28, rfl⟩
abbrev main_call1_call0_v0 : Ref sig .tc := ⟨.hbm, 29, rfl⟩
abbrev main_call1_call0_v1 : Ref sig .tc := ⟨.hbm, 30, rfl⟩
abbrev main_call1_call0_v2 : Ref sig .tc := ⟨.hbm, 31, rfl⟩
abbrev main_call1_call0_v3 : Ref sig .tc := ⟨.hbm, 32, rfl⟩
abbrev main_call1_call0_v4 : Ref sig .tc := ⟨.hbm, 33, rfl⟩
abbrev main_call1_call0_v5 : Ref sig .tc := ⟨.hbm, 34, rfl⟩
abbrev main_call1_call0_v6 : Ref sig .tc := ⟨.hbm, 35, rfl⟩
abbrev main_call1_call0_v7 : Ref sig .tc := ⟨.hbm, 36, rfl⟩
abbrev main_call1_call0_v8 : Ref sig .tc := ⟨.hbm, 37, rfl⟩
abbrev main_call1_call0_v9 : Ref sig .tc := ⟨.hbm, 38, rfl⟩
abbrev main_call1_call0_v10 : Ref sig .tc := ⟨.hbm, 39, rfl⟩
abbrev main_call1_call0_v11 : Ref sig .tc := ⟨.hbm, 40, rfl⟩
abbrev main_call1_v1 : Ref sig .tc := ⟨.hbm, 41, rfl⟩
abbrev main_v18 : Ref sig .tc := ⟨.hbm, 42, rfl⟩

abbrev nD : Nat := 1
abbrev τ : Topo := Topo.v7x

variable {F : FTy → Type} [FloatOps F]
-- ==== Mixer.lean ====
abbrev S8192x10240 : Shape := ⟨2, ![8192, 10240]⟩
abbrev S8192x128 : Shape := ⟨2, ![8192, 128]⟩
abbrev S1x3x6144 : Shape := ⟨3, ![1, 3, 6144]⟩
abbrev S1x64x64x128 : Shape := ⟨4, ![1, 64, 64, 128]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S_ : Shape := ⟨0, ![]⟩
abbrev S1x5x6144 : Shape := ⟨3, ![1, 5, 6144]⟩
abbrev S1x8x6144 : Shape := ⟨3, ![1, 8, 6144]⟩
abbrev S1x4096x128 : Shape := ⟨3, ![1, 4096, 128]⟩
abbrev S1x128x4096 : Shape := ⟨3, ![1, 128, 4096]⟩
abbrev S128 : Shape := ⟨1, ![128]⟩
abbrev S128x1 : Shape := ⟨2, ![128, 1]⟩
abbrev S1x4096 : Shape := ⟨2, ![1, 4096]⟩
abbrev S128x4096 : Shape := ⟨2, ![128, 4096]⟩
abbrev S128x128 : Shape := ⟨2, ![128, 128]⟩
abbrev S64x64 : Shape := ⟨2, ![64, 64]⟩
abbrev S1x6144 : Shape := ⟨2, ![1, 6144]⟩
abbrev S1x128 : Shape := ⟨2, ![1, 128]⟩
abbrev S8192x4096 : Shape := ⟨2, ![8192, 4096]⟩
abbrev S128x1024 : Shape := ⟨2, ![128, 1024]⟩
abbrev S136x6144 : Shape := ⟨2, ![136, 6144]⟩
abbrev S128x6144 : Shape := ⟨2, ![128, 6144]⟩
abbrev S8x6144 : Shape := ⟨2, ![8, 6144]⟩
abbrev S128x512 : Shape := ⟨2, ![128, 512]⟩
abbrev S1x512 : Shape := ⟨2, ![1, 512]⟩

abbrev nBuf : Space → Nat
  | .hbm => 75
  | .vmem => 29
  | .smem => 0
  | _ => 0

abbrev bufTy : (tb : Table) → Fin (tcTables nBuf tb) → BufTy
  | .hbm, ⟨0, _⟩ => ⟨S8192x10240, .f32⟩
  | .hbm, ⟨1, _⟩ => ⟨S8192x128, .f32⟩
  | .hbm, ⟨2, _⟩ => ⟨S1x3x6144, .f32⟩
  | .hbm, ⟨3, _⟩ => ⟨S1x64x64x128, .f32⟩
  | .hbm, ⟨4, _⟩ => ⟨S4x6144, .f32⟩
  | .hbm, ⟨5, _⟩ => ⟨S6144, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S4096, .f32⟩
  | .hbm, ⟨10, _⟩ => ⟨S_, .f32⟩
  | .hbm, ⟨11, _⟩ => ⟨S1x5x6144, .f32⟩
  | .hbm, ⟨12, _⟩ => ⟨S1x8x6144, .f32⟩
  | .hbm, ⟨13, _⟩ => ⟨S1x4096x128, .f32⟩
  | .hbm, ⟨14, _⟩ => ⟨S1x128x4096, .f32⟩
  | .hbm, ⟨15, _⟩ => ⟨S4096, .i32⟩
  | .hbm, ⟨16, _⟩ => ⟨S_, .i32⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S4096, .i32⟩
  | .hbm, ⟨25, _⟩ => ⟨S4096, .i32⟩
  | .hbm, ⟨26, _⟩ => ⟨S_, .i32⟩
  | .hbm, ⟨27, _⟩ => ⟨S4096, .i32⟩
  | .hbm, ⟨28, _⟩ => ⟨S4096, .i1⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S128, .i32⟩
  | .hbm, ⟨35, _⟩ => ⟨S128x1, .i32⟩
  | .hbm, ⟨36, _⟩ => ⟨S1x4096, .i32⟩
  | .hbm, ⟨37, _⟩ => ⟨S128x4096, .i32⟩
  | .hbm, ⟨38, _⟩ => ⟨S128x4096, .i32⟩
  | .hbm, ⟨39, _⟩ => ⟨S128x4096, .i1⟩
  | .hbm, ⟨40, _⟩ => ⟨S128x4096, .bf16⟩
  | .hbm, ⟨41, _⟩ => ⟨S_, .bf16⟩
  | .hbm, ⟨42, _⟩ => ⟨S128x128, .bf16⟩
  | .hbm, ⟨43, _⟩ => ⟨S128x128, .i32⟩
  | .hbm, ⟨44, _⟩ => ⟨S_, .i32⟩
  | .hbm, ⟨45, _⟩ => ⟨S128x128, .i32⟩
  | .hbm, ⟨46, _⟩ => ⟨S128x128, .i32⟩
  | .hbm, ⟨47, _⟩ => ⟨S128x128, .i32⟩
  | .hbm, ⟨48, _⟩ => ⟨S128x128, .i1⟩
  | .hbm, ⟨49, _⟩ => ⟨S_, .bf16⟩
  | .hbm, ⟨50, _⟩ => ⟨S128x128, .bf16⟩
  | .hbm, ⟨51, _⟩ => ⟨S128x128, .bf16⟩
  | .hbm, ⟨52, _⟩ => ⟨S128x128, .i32⟩
  | .hbm, ⟨53, _⟩ => ⟨S128x128, .i32⟩
  | .hbm, ⟨54, _⟩ => ⟨S_, .i32⟩
  | .hbm, ⟨55, _⟩ => ⟨S128x128, .i32⟩
  | .hbm, ⟨56, _⟩ => ⟨S128x128, .i32⟩
  | .hbm, ⟨57, _⟩ => ⟨S128x128, .i1⟩
  | .hbm, ⟨58, _⟩ => ⟨S128x128, .bf16⟩
  | .hbm, ⟨59, _⟩ => ⟨S64x64, .f32⟩
  | .hbm, ⟨60, _⟩ => ⟨S4096, .f32⟩
  | .hbm, ⟨61, _⟩ => ⟨S1x4096, .f32⟩
  | .hbm, ⟨62, _⟩ => ⟨S1x6144, .f32⟩
  | .hbm, ⟨63, _⟩ => ⟨S_, .i32⟩
  | .hbm, ⟨64, _⟩ => ⟨S_, .f32⟩
  | .hbm, ⟨65, _⟩ => ⟨S128, .f32⟩
  | .hbm, ⟨66, _⟩ => ⟨S1x128, .f32⟩
  | .hbm, ⟨67, _⟩ => ⟨S_, .i32⟩
  | .hbm, ⟨68, _⟩ => ⟨S_, .f32⟩
  | .hbm, ⟨69, _⟩ => ⟨S128, .f32⟩
  | .hbm, ⟨70, _⟩ => ⟨S1x128, .f32⟩
  | .hbm, ⟨71, _⟩ => ⟨S1x4096, .f32⟩
  | .hbm, ⟨72, _⟩ => ⟨S8192x4096, .bf16⟩
  | .hbm, ⟨73, _⟩ => ⟨S1x128x4096, .f32⟩
  | .hbm, ⟨74, _⟩ => ⟨S1x8x6144, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x128, .f32⟩
  | .local _ .vmem, ⟨9, _⟩ => ⟨S128x128, .f32⟩
  | .local _ .vmem, ⟨10, _⟩ => ⟨S1x8x6144, .f32⟩
  | .local _ .vmem, ⟨11, _⟩ => ⟨S1x128x4096, .f32⟩
  | .local _ .vmem, ⟨12, _⟩ => ⟨S4x6144, .f32⟩
  | .local _ .vmem, ⟨13, _⟩ => ⟨S1x6144, .f32⟩
  | .local _ .vmem, ⟨14, _⟩ => ⟨S1x128, .f32⟩
  | .local _ .vmem, ⟨15, _⟩ => ⟨S1x128, .f32⟩
  | .local _ .vmem, ⟨16, _⟩ => ⟨S1x4096, .f32⟩
  | .local _ .vmem, ⟨17, _⟩ => ⟨S1x4096, .f32⟩
  | .local _ .vmem, ⟨18, _⟩ => ⟨S128x4096, .bf16⟩
  | .local _ .vmem, ⟨19, _⟩ => ⟨S128x128, .bf16⟩
  | .local _ .vmem, ⟨20, _⟩ => ⟨S128x128, .bf16⟩
  | .local _ .vmem, ⟨21, _⟩ => ⟨S128x4096, .bf16⟩
  | .local _ .vmem, ⟨22, _⟩ => ⟨S128x4096, .bf16⟩
  | .local _ .vmem, ⟨23, _⟩ => ⟨S1x128x4096, .f32⟩
  | .local _ .vmem, ⟨24, _⟩ => ⟨S1x8x6144, .f32⟩
  | .local _ .vmem, ⟨25, _⟩ => ⟨S136x6144, .f32⟩
  | .local _ .vmem, ⟨26, _⟩ => ⟨S128x6144, .f32⟩
  | .local _ .vmem, ⟨27, _⟩ => ⟨S128x4096, .f32⟩
  | .local _ .vmem, ⟨28, _⟩ => ⟨S128x4096, .f32⟩
  | _, _ => ⟨S8192x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst_0 : Ref sig .tc := ⟨.hbm, 41, rfl⟩
abbrev main_v13 : Ref sig .tc := ⟨.hbm, 42, rfl⟩
abbrev main_call1_v0 : Ref sig .tc := ⟨.hbm, 43, rfl⟩
abbrev main_call1_c : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_cst : Ref sig .tc := ⟨.hbm, 49, rfl⟩
abbrev main_call1_v5 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_c_1 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_c_2 : Ref sig .tc := ⟨.hbm, 63, rfl⟩
abbrev main_call2_v0 : Ref sig .tc := ⟨.hbm, 64, rfl⟩
abbrev main_v25 : Ref sig .tc := ⟨.hbm, 65, rfl⟩
abbrev main_v26 : Ref sig .tc := ⟨.hbm, 66, rfl⟩
abbrev main_c_3 : Ref sig .tc := ⟨.hbm, 67, rfl⟩
abbrev main_call3_v0 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30_0 : Ref sig .tc := ⟨.hbm, 72, rfl⟩
abbrev main_v30_1 : Ref sig .tc := ⟨.hbm, 73, rfl⟩
abbrev main_v30_2 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg18_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22
abbrev cc0_sem17_0 : DmaSem sig := 23
abbrev cc0_sem18_0 : DmaSem sig := 24

abbrev nD : Nat := 1
abbrev τ : Topo := Topo.v7x

variable {F : FTy → Type} [FloatOps F]

abbrev grid0 : Pipeline.Grid := ⟨2, ![1, 64], ![false, false]⟩

def k0_cond2 (i : grid0.Coords) : BitVec 1 :=
  let arg1 : BitVec 32 := BitVec.ofNat 32 (i 1).val
  let c63_i32 : BitVec 32 := 63#32
  let v1787 : BitVec 1 := Scalar.cmpi .eq arg1 c63_i32
  let v1788 : BitVec 32 := Scalar.extui v1787
  let c0_i32_559 : BitVec 32 := 0#32
  let v1789 : BitVec 1 := Scalar.cmpi .ne v1788 c0_i32_559
  v1789

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c8_i32 : BitVec 32 := 8#32
  let c0_i32 : BitVec 32 := 0#32
  ![v1.toNat, c8_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c9_i32 : BitVec 32 := 9#32
  let c0_i32 : BitVec 32 := 0#32
  ![v1.toNat, c9_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x8x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x128x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S4x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x4096 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S128x4096 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 1 → Memref sig .tc .vmem S1x128x4096 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, false]

abbrev stage0_18 : Fin 1 → Memref sig .tc .vmem S1x8x6144 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true, false]
-- ==== MixerRefIdeal.lean ====
abbrev S8192x10240 : Shape := ⟨2, ![8192, 10240]⟩
abbrev S8192x128 : Shape := ⟨2, ![8192, 128]⟩
abbrev S1x3x6144 : Shape := ⟨3, ![1, 3, 6144]⟩
abbrev S1x64x64x128 : Shape := ⟨4, ![1, 64, 64, 128]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S8192x6144 : Shape := ⟨2, ![8192, 6144]⟩
abbrev S1x8192x6144 : Shape := ⟨3, ![1, 8192, 6144]⟩
abbrev S1x8195x6144 : Shape := ⟨3, ![1, 8195, 6144]⟩
abbrev S1x8x6144 : Shape := ⟨3, ![1, 8, 6144]⟩

abbrev nBuf : Space → Nat
  | .hbm => 14
  | .vmem => 0
  | .smem => 0
  | _ => 0

abbrev bufTy : (tb : Table) → Fin (tcTables nBuf tb) → BufTy
  | .hbm, ⟨0, _⟩ => ⟨S8192x10240, .f32⟩
  | .hbm, ⟨1, _⟩ => ⟨S8192x128, .f32⟩
  | .hbm, ⟨2, _⟩ => ⟨S1x3x6144, .f32⟩
  | .hbm, ⟨3, _⟩ => ⟨S1x64x64x128, .f32⟩
  | .hbm, ⟨4, _⟩ => ⟨S4x6144, .f32⟩
  | .hbm, ⟨5, _⟩ => ⟨S6144, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S4096, .f32⟩
  | .hbm, ⟨10, _⟩ => ⟨S8192x6144, .f32⟩
  | .hbm, ⟨11, _⟩ => ⟨S1x8192x6144, .f32⟩
  | .hbm, ⟨12, _⟩ => ⟨S1x8195x6144, .f32⟩
  | .hbm, ⟨13, _⟩ => ⟨S1x8x6144, .f32⟩
  | _, _ => ⟨S8192x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩

abbrev nD : Nat := 1
abbrev τ : Topo := Topo.v7x

variable {F : FTy → Type} [FloatOps F]
-- ==== MixSample.lean ====
abbrev S256x10240 : Shape := ⟨2, ![256, 10240]⟩
abbrev S256x128 : Shape := ⟨2, ![256, 128]⟩
abbrev S32x3x6144 : Shape := ⟨3, ![32, 3, 6144]⟩
abbrev S32x64x64x128 : Shape := ⟨4, ![32, 64, 64, 128]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S_ : Shape := ⟨0, ![]⟩
abbrev S32x5x6144 : Shape := ⟨3, ![32, 5, 6144]⟩
abbrev S32x8x6144 : Shape := ⟨3, ![32, 8, 6144]⟩
abbrev S32x4096x128 : Shape := ⟨3, ![32, 4096, 128]⟩
abbrev S128 : Shape := ⟨1, ![128]⟩
abbrev S128x1 : Shape := ⟨2, ![128, 1]⟩
abbrev S1x4096 : Shape := ⟨2, ![1, 4096]⟩
abbrev S128x4096 : Shape := ⟨2, ![128, 4096]⟩
abbrev S8x8 : Shape := ⟨2, ![8, 8]⟩
abbrev S128x128 : Shape := ⟨2, ![128, 128]⟩
abbrev S64x64 : Shape := ⟨2, ![64, 64]⟩
abbrev S1x6144 : Shape := ⟨2, ![1, 6144]⟩
abbrev S1x128 : Shape := ⟨2, ![1, 128]⟩
abbrev S256x4096 : Shape := ⟨2, ![256, 4096]⟩
abbrev S8x4096 : Shape := ⟨2, ![8, 4096]⟩
abbrev S8x1024 : Shape := ⟨2, ![8, 1024]⟩
abbrev S8x128 : Shape := ⟨2, ![8, 128]⟩
abbrev S1x8x6144 : Shape := ⟨3, ![1, 8, 6144]⟩
abbrev S1x4096x128 : Shape := ⟨3, ![1, 4096, 128]⟩
abbrev S16x6144 : Shape := ⟨2, ![16, 6144]⟩
abbrev S8x6144 : Shape := ⟨2, ![8, 6144]⟩
abbrev S4096x128 : Shape := ⟨2, ![4096, 128]⟩
abbrev S128x8 : Shape := ⟨2, ![128, 8]⟩
abbrev S8x1 : Shape := ⟨2, ![8, 1]⟩
abbrev S1x8 : Shape := ⟨2, ![1, 8]⟩
abbrev S8x512 : Shape := ⟨2, ![8, 512]⟩
abbrev S512x128 : Shape := ⟨2, ![512, 128]⟩
abbrev S1x512 : Shape := ⟨2, ![1, 512]⟩
abbrev S8 : Shape := ⟨1, ![8]⟩

abbrev nBuf : Space → Nat
  | .hbm => 74
  | .vmem => 33
  | .smem => 0
  | _ => 0

abbrev bufTy : (tb : Table) → Fin (tcTables nBuf tb) → BufTy
  | .hbm, ⟨0, _⟩ => ⟨S256x10240, .f32⟩
  | .hbm, ⟨1, _⟩ => ⟨S256x128, .f32⟩
  | .hbm, ⟨2, _⟩ => ⟨S32x3x6144, .f32⟩
  | .hbm, ⟨3, _⟩ => ⟨S32x64x64x128, .f32⟩
  | .hbm, ⟨4, _⟩ => ⟨S4x6144, .f32⟩
  | .hbm, ⟨5, _⟩ => ⟨S6144, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S4096, .f32⟩
  | .hbm, ⟨10, _⟩ => ⟨S_, .f32⟩
  | .hbm, ⟨11, _⟩ => ⟨S32x5x6144, .f32⟩
  | .hbm, ⟨12, _⟩ => ⟨S32x8x6144, .f32⟩
  | .hbm, ⟨13, _⟩ => ⟨S32x4096x128, .f32⟩
  | .hbm, ⟨14, _⟩ => ⟨S4096, .i32⟩
  | .hbm, ⟨15, _⟩ => ⟨S_, .i32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S4096, .i32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S4096, .i1⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S128, .i32⟩
  | .hbm, ⟨34, _⟩ => ⟨S128x1, .i32⟩
  | .hbm, ⟨35, _⟩ => ⟨S1x4096, .i32⟩
  | .hbm, ⟨36, _⟩ => ⟨S128x4096, .i32⟩
  | .hbm, ⟨37, _⟩ => ⟨S128x4096, .i32⟩
  | .hbm, ⟨38, _⟩ => ⟨S128x4096, .i1⟩
  | .hbm, ⟨39, _⟩ => ⟨S128x4096, .bf16⟩
  | .hbm, ⟨40, _⟩ => ⟨S_, .bf16⟩
  | .hbm, ⟨41, _⟩ => ⟨S8x8, .bf16⟩
  | .hbm, ⟨42, _⟩ => ⟨S8x8, .i32⟩
  | .hbm, ⟨43, _⟩ => ⟨S_, .i32⟩
  | .hbm, ⟨44, _⟩ => ⟨S8x8, .i32⟩
  | .hbm, ⟨45, _⟩ => ⟨S8x8, .i32⟩
  | .hbm, ⟨46, _⟩ => ⟨S8x8, .i32⟩
  | .hbm, ⟨47, _⟩ => ⟨S8x8, .i1⟩
  | .hbm, ⟨48, _⟩ => ⟨S_, .bf16⟩
  | .hbm, ⟨49, _⟩ => ⟨S8x8, .bf16⟩
  | .hbm, ⟨50, _⟩ => ⟨S8x8, .bf16⟩
  | .hbm, ⟨51, _⟩ => ⟨S128x128, .i32⟩
  | .hbm, ⟨52, _⟩ => ⟨S128x128, .i32⟩
  | .hbm, ⟨53, _⟩ => ⟨S_, .i32⟩
  | .hbm, ⟨54, _⟩ => ⟨S128x128, .i32⟩
  | .hbm, ⟨55, _⟩ => ⟨S128x128, .i32⟩
  | .hbm, ⟨56, _⟩ => ⟨S128x128, .i1⟩
  | .hbm, ⟨57, _⟩ => ⟨S128x128, .bf16⟩
  | .hbm, ⟨58, _⟩ => ⟨S64x64, .f32⟩
  | .hbm, ⟨59, _⟩ => ⟨S4096, .f32⟩
  | .hbm, ⟨60, _⟩ => ⟨S1x4096, .f32⟩
  | .hbm, ⟨61, _⟩ => ⟨S1x6144, .f32⟩
  | .hbm, ⟨62, _⟩ => ⟨S_, .i32⟩
  | .hbm, ⟨63, _⟩ => ⟨S_, .f32⟩
  | .hbm, ⟨64, _⟩ => ⟨S128, .f32⟩
  | .hbm, ⟨65, _⟩ => ⟨S1x128, .f32⟩
  | .hbm, ⟨66, _⟩ => ⟨S_, .i32⟩
  | .hbm, ⟨67, _⟩ => ⟨S_, .f32⟩
  | .hbm, ⟨68, _⟩ => ⟨S128, .f32⟩
  | .hbm, ⟨69, _⟩ => ⟨S1x128, .f32⟩
  | .hbm, ⟨70, _⟩ => ⟨S1x4096, .f32⟩
  | .hbm, ⟨71, _⟩ => ⟨S256x4096, .f32⟩
  | .hbm, ⟨72, _⟩ => ⟨S32x4096x128, .f32⟩
  | .hbm, ⟨73, _⟩ => ⟨S32x8x6144, .f32⟩
  | .local _ .vmem, ⟨0, _⟩ => ⟨S8x4096, .f32⟩
  | .local _ .vmem, ⟨1, _⟩ => ⟨S8x4096, .f32⟩
  | .local _ .vmem, ⟨2, _⟩ => ⟨S8x4096, .f32⟩
  | .local _ .vmem, ⟨3, _⟩ => ⟨S8x4096, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x128, .f32⟩
  | .local _ .vmem, ⟨9, _⟩ => ⟨S8x128, .f32⟩
  | .local _ .vmem, ⟨10, _⟩ => ⟨S1x8x6144, .f32⟩
  | .local _ .vmem, ⟨11, _⟩ => ⟨S1x8x6144, .f32⟩
  | .local _ .vmem, ⟨12, _⟩ => ⟨S1x4096x128, .f32⟩
  | .local _ .vmem, ⟨13, _⟩ => ⟨S1x4096x128, .f32⟩
  | .local _ .vmem, ⟨14, _⟩ => ⟨S4x6144, .f32⟩
  | .local _ .vmem, ⟨15, _⟩ => ⟨S1x6144, .f32⟩
  | .local _ .vmem, ⟨16, _⟩ => ⟨S1x128, .f32⟩
  | .local _ .vmem, ⟨17, _⟩ => ⟨S1x128, .f32⟩
  | .local _ .vmem, ⟨18, _⟩ => ⟨S1x4096, .f32⟩
  | .local _ .vmem, ⟨19, _⟩ => ⟨S1x4096, .f32⟩
  | .local _ .vmem, ⟨20, _⟩ => ⟨S128x4096, .bf16⟩
  | .local _ .vmem, ⟨21, _⟩ => ⟨S8x8, .bf16⟩
  | .local _ .vmem, ⟨22, _⟩ => ⟨S128x128, .bf16⟩
  | .local _ .vmem, ⟨23, _⟩ => ⟨S8x4096, .f32⟩
  | .local _ .vmem, ⟨24, _⟩ => ⟨S8x4096, .f32⟩
  | .local _ .vmem, ⟨25, _⟩ => ⟨S1x4096x128, .f32⟩
  | .local _ .vmem, ⟨26, _⟩ => ⟨S1x4096x128, .f32⟩
  | .local _ .vmem, ⟨27, _⟩ => ⟨S1x8x6144, .f32⟩
  | .local _ .vmem, ⟨28, _⟩ => ⟨S1x8x6144, .f32⟩
  | .local _ .vmem, ⟨29, _⟩ => ⟨S16x6144, .f32⟩
  | .local _ .vmem, ⟨30, _⟩ => ⟨S8x6144, .f32⟩
  | .local _ .vmem, ⟨31, _⟩ => ⟨S8x4096, .f32⟩
  | .local _ .vmem, ⟨32, _⟩ => ⟨S4096x128, .f32⟩
  | _, _ => ⟨S256x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_0 : Ref sig .tc := ⟨.hbm, 40, rfl⟩
abbrev main_v12 : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_cst : Ref sig .tc := ⟨.hbm, 48, rfl⟩
abbrev main_call1_v5 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_c_1 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_c_2 : Ref sig .tc := ⟨.hbm, 62, rfl⟩
abbrev main_call2_v0 : Ref sig .tc := ⟨.hbm, 63, rfl⟩
abbrev main_v24 : Ref sig .tc := ⟨.hbm, 64, rfl⟩
abbrev main_v25 : Ref sig .tc := ⟨.hbm, 65, rfl⟩
abbrev main_c_3 : Ref sig .tc := ⟨.hbm, 66, rfl⟩
abbrev main_call3_v0 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29_0 : Ref sig .tc := ⟨.hbm, 71, rfl⟩
abbrev main_v29_1 : Ref sig .tc := ⟨.hbm, 72, rfl⟩
abbrev main_v29_2 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_783 : BitVec 32 := 0#32
  let v2843 : BitVec 1 := Scalar.cmpi .eq arg1 c0_i32_783
  let v2844 : BitVec 32 := Scalar.extui v2843
  let c0_i32_784 : BitVec 32 := 0#32
  let v2845 : BitVec 1 := Scalar.cmpi .ne v2844 c0_i32_784
  v2845

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c8_i32 : BitVec 32 := 8#32
  let c0_i32 : BitVec 32 := 0#32
  ![v1.toNat, c8_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c9_i32 : BitVec 32 := 9#32
  let c0_i32 : BitVec 32 := 0#32
  ![v1.toNat, c9_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S4x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x4096 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S8x8 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S8x4096 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x4096x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x8x6144 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== MixSampleRefIdeal.lean ====
abbrev S256x10240 : Shape := ⟨2, ![256, 10240]⟩
abbrev S256x128 : Shape := ⟨2, ![256, 128]⟩
abbrev S32x3x6144 : Shape := ⟨3, ![32, 3, 6144]⟩
abbrev S32x64x64x128 : Shape := ⟨4, ![32, 64, 64, 128]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S32x8x10240 : Shape := ⟨3, ![32, 8, 10240]⟩
abbrev S32x8x6144 : Shape := ⟨3, ![32, 8, 6144]⟩
abbrev S32x11x6144 : Shape := ⟨3, ![32, 11, 6144]⟩

abbrev nBuf : Space → Nat
  | .hbm => 14
  | .vmem => 0
  | .smem => 0
  | _ => 0

abbrev bufTy : (tb : Table) → Fin (tcTables nBuf tb) → BufTy
  | .hbm, ⟨0, _⟩ => ⟨S256x10240, .f32⟩
  | .hbm, ⟨1, _⟩ => ⟨S256x128, .f32⟩
  | .hbm, ⟨2, _⟩ => ⟨S32x3x6144, .f32⟩
  | .hbm, ⟨3, _⟩ => ⟨S32x64x64x128, .f32⟩
  | .hbm, ⟨4, _⟩ => ⟨S4x6144, .f32⟩
  | .hbm, ⟨5, _⟩ => ⟨S6144, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S4096, .f32⟩
  | .hbm, ⟨10, _⟩ => ⟨S32x8x10240, .f32⟩
  | .hbm, ⟨11, _⟩ => ⟨S32x8x6144, .f32⟩
  | .hbm, ⟨12, _⟩ => ⟨S32x11x6144, .f32⟩
  | .hbm, ⟨13, _⟩ => ⟨S32x8x6144, .f32⟩
  | _, _ => ⟨S256x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩

abbrev nD : Nat := 1
abbrev τ : Topo := Topo.v7x

variable {F : FTy → Type} [FloatOps F]
-- ==== Proof.Idx.lean ====
module

public import proofs.«01_k».proof.Proof.Gen.FlashIdeal.Value
public import Idealize.ShloMosaic.Lib.Pipeline.ValueKit

@[expose] public section

set_option maxRecDepth 16384

noncomputable section

/-! # Where the loads of the attention body fall -/

open Idealize.ShloMosaic Idealize.ShloMosaic.TcCoe Idealize.SL.Sem

namespace Cert.FlashIdeal.Body

open Cert.FlashIdeal Cert.FlashIdeal.Gen

/-- The paired loop runs once for every two blocks before the diagonal one. -/
theorem trips1 : ∀ i : grid0.Coords, (k0_t1_loop i).trips = (i 1).val / 2 := by decide +kernel

/-- The remainder loop never runs. -/
theorem trips2 : ∀ i : grid0.Coords, (k0_t2_loop i).trips = 0 := by decide +kernel

theorem off5_0 : ∀ (i : grid0.Coords) (k : Fin (k0_t1_loop i).trips), k0_off5 i k 0#32 = ![512 * (2 * k.val), 0] := by
  decide +kernel
theorem off5_1 : ∀ (i : grid0.Coords) (k : Fin (k0_t1_loop i).trips), k0_off5 i k 1#32 = ![512 * (2 * k.val + 1), 0] := by
  decide +kernel
theorem off7_0 : ∀ (i : grid0.Coords) (k : Fin (k0_t1_loop i).trips), k0_off7 i k 0#32 = ![512 * (2 * k.val), 128] := by
  decide +kernel
theorem off7_1 : ∀ (i : grid0.Coords) (k : Fin (k0_t1_loop i).trips), k0_off7 i k 1#32 = ![512 * (2 * k.val + 1), 128] := by
  decide +kernel
theorem off6_0 : ∀ (i : grid0.Coords) (k : Fin (k0_t1_loop i).trips), k0_off6 i k 0#32 = ![0, 2 * k.val, 0, 0] := by
  decide +kernel
theorem off6_1 : ∀ (i : grid0.Coords) (k : Fin (k0_t1_loop i).trips), k0_off6 i k 1#32 = ![0, 2 * k.val + 1, 0, 0] := by
  decide +kernel
theorem off8_0 : ∀ (i : grid0.Coords) (k : Fin (k0_t1_loop i).trips), k0_off8 i k 0#32 = ![1, 2 * k.val, 0, 0] := by
  decide +kernel
theorem off8_1 : ∀ (i : grid0.Coords) (k : Fin (k0_t1_loop i).trips), k0_off8 i k 1#32 = ![1, 2 * k.val + 1, 0, 0] := by
  decide +kernel
theorem off13 : ∀ i : grid0.Coords, cond0_1 i → k0_off13 i = ![512 * ((i 1).val - 1), 0] := by decide +kernel
theorem off14 : ∀ i : grid0.Coords, cond0_1 i → k0_off14 i = ![0, (i 1).val - 1, 0, 0] := by decide +kernel
theorem off15 : ∀ i : grid0.Coords, cond0_1 i → k0_off15 i = ![512 * ((i 1).val - 1), 128] := by decide +kernel
theorem off16 : ∀ i : grid0.Coords, cond0_1 i → k0_off16 i = ![1, (i 1).val - 1, 0, 0] := by decide +kernel
theorem cond1 : ∀ i : grid0.Coords, cond0_1 i ↔ (i 1).val % 2 = 1 := by decide +kernel
theorem coords_val : ∀ t : Fin cfg0.N, (grid0.coords t 0).val = t.val / 16 ∧ (grid0.coords t 1).val = t.val % 16 :=
  (by decide +kernel : ∀ t : Fin grid0.N, _)

end Cert.FlashIdeal.Body

end
-- ==== Proof.Online.lean ====
module

public import Idealize.ShloMosaic.Lib.Pipeline.ValueKit

@[expose] public section

noncomputable section

/-! # The online softmax over extended reals

A query keeps three numbers while its keys pass by: a finite reference point `M`, the total weight `L` and a
weighted sum `A` of the values, both scaled by `2 ^ (-M)`.  Scores are extended reals that are never `+∞`; a masked
key has score `-∞` and weight `0`.  The values may be anything. -/

namespace Cert.Online

open Idealize.ShloMosaic

/-- The weight of a key of score `s`: two to the power `s`, and nothing for a masked key. -/
def wt (s : EReal) : ℝ := if s = ⊥ then 0 else (2 : ℝ) ^ s.toReal

theorem wt_nonneg (s : EReal) : 0 ≤ wt s := by
  unfold wt; split
  · exact le_rfl
  · positivity

theorem wt_bot : wt ⊥ = 0 := by simp [wt]

theorem wt_coe (x : ℝ) : wt (x : EReal) = (2 : ℝ) ^ x := by simp [wt]

theorem wt_pos {s : EReal} (h : s ≠ ⊥) : 0 < wt s := by
  unfold wt; rw [if_neg h]; positivity

/-- A score that is not `+∞` is a real number or `-∞`. -/
theorem cases_of_ne_top {s : EReal} (h : s ≠ ⊤) : s = ⊥ ∨ ∃ x : ℝ, s = (x : EReal) := by
  induction s with
  | bot => exact Or.inl rfl
  | top => exact absurd rfl h
  | coe x => exact Or.inr ⟨x, rfl⟩

/-- Two to the power of a score minus a finite reference point. -/
theorem exp2_sub (s : EReal) (h : s ≠ ⊤) (r : ℝ) :
    Ideal.exp2 (s - (r : EReal)) = (((2 : ℝ) ^ (-r) * wt s : ℝ) : EReal) := by
  rcases cases_of_ne_top h with rfl | ⟨x, rfl⟩
  · rw [wt_bot, mul_zero, EReal.bot_sub]; rfl
  · rw [wt_coe, ← EReal.coe_sub, Ideal.exp2_coe]
    congr 1
    show (2 : ℝ) ^ (x - r) = _
    rw [← Real.rpow_add (by norm_num)]; congr 1; ring

/-- The exponential of a score, in units of the natural logarithm of two, minus a finite reference point. -/
theorem exp_mul_log_sub (s : EReal) (h : s ≠ ⊤) (r : ℝ) :
    Ideal.exp (s * ((Real.log 2 : ℝ) : EReal) - (r : EReal)) = ((Real.exp (-r) * wt s : ℝ) : EReal) := by
  rcases cases_of_ne_top h with rfl | ⟨x, rfl⟩
  · rw [wt_bot, mul_zero, EReal.bot_mul_coe_of_pos (Real.log_pos (by norm_num)), EReal.bot_sub]; rfl
  · rw [wt_coe, ← EReal.coe_mul, ← EReal.coe_sub, Ideal.exp_coe]
    congr 1
    rw [Real.rpow_def_of_pos (by norm_num), ← Real.exp_add]; congr 1; ring

/-- The largest of finitely many scores, none `+∞` and one above `-∞`, is a real number. -/
theorem fold_max_real {ι : Type*} (s : Finset ι) (f : ι → EReal) (ht : ∀ k ∈ s, f k ≠ ⊤) (k₀ : ι) (hk : k₀ ∈ s)
    (hb : f k₀ ≠ ⊥) : ∃ r : ℝ, s.fold max ⊥ f = (r : EReal) := by
  have h1 : s.fold max ⊥ f ≠ ⊤ := by
    refine ne_of_lt ((Finset.fold_max_lt _).2 ⟨bot_lt_top, fun x hx => lt_top_iff_ne_top.2 (ht x hx)⟩)
  have h2 : s.fold max ⊥ f ≠ ⊥ := by
    intro h
    have : f k₀ ≤ s.fold max ⊥ f := (Finset.le_fold_max _).2 (Or.inr ⟨k₀, hk, le_rfl⟩)
    rw [h] at this
    exact hb (le_bot_iff.1 this)
  rcases cases_of_ne_top h1 with h | h
  · exact absurd h h2
  · exact h

/-- The largest of scores none of which is `+∞` is not `+∞`. -/
theorem fold_max_ne_top {ι : Type*} (s : Finset ι) (f : ι → EReal) (ht : ∀ k ∈ s, f k ≠ ⊤) :
    s.fold max ⊥ f ≠ ⊤ :=
  ne_of_lt ((Finset.fold_max_lt _).2 ⟨bot_lt_top, fun x hx => lt_top_iff_ne_top.2 (ht x hx)⟩)

/-- A real number joined with an extended real below `+∞` is a real number. -/
theorem max_real (r : ℝ) (x : EReal) (h : x ≠ ⊤) : ∃ r' : ℝ, max (r : EReal) x = (r' : EReal) := by
  rcases cases_of_ne_top h with rfl | ⟨y, rfl⟩
  · exact ⟨r, by simp⟩
  · exact ⟨max r y, (EReal.coe_strictMono.monotone.map_max).symm⟩

/-- A nonnegative real factor passes through a finite sum of extended reals. -/
theorem mul_sum_coe {ι : Type*} (s : Finset ι) (c : ℝ) (hc : 0 ≤ c) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

theorem mul_add_coe (c : ℝ) (hc : 0 ≤ c) (x y : EReal) : (c : EReal) * (x + y) = (c : EReal) * x + (c : EReal) * y :=
  EReal.left_distrib_of_nonneg_of_ne_top (by exact_mod_cast hc) (EReal.coe_ne_top c) x y

theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The total weight of a block of keys. -/
def wsum {n : ℕ} (s : Fin n → EReal) : ℝ := ∑ k, wt (s k)

/-- The weighted sum of the values of a block of keys. -/
def vsum {n : ℕ} (s : Fin n → EReal) (v : Fin n → EReal) : EReal := ∑ k, (wt (s k) : EReal) * v k

/-- A block's exponentials add up to its scaled total weight. -/
theorem sum_exp2 {n : ℕ} (s : Fin n → EReal) (hs : ∀ k, s k ≠ ⊤) (r : ℝ) :
    ∑ k, Ideal.exp2 (s k - (r : EReal)) = (((2 : ℝ) ^ (-r) * wsum s : ℝ) : EReal) := by
  unfold wsum
  rw [Finset.mul_sum, coe_sum]
  exact Finset.sum_congr rfl fun k _ => exp2_sub _ (hs k) r

/-- A block's values weighted by its exponentials add up to its scaled weighted sum. -/
theorem sum_mul_exp2 {n : ℕ} (s v : Fin n → EReal) (hs : ∀ k, s k ≠ ⊤) (r : ℝ) :
    ∑ k, v k * Ideal.exp2 (s k - (r : EReal)) = (((2 : ℝ) ^ (-r) : ℝ) : EReal) * vsum s v := by
  unfold vsum
  rw [mul_sum_coe _ _ (by positivity)]
  refine Finset.sum_congr rfl fun k _ => ?_
  rw [exp2_sub _ (hs k) r, EReal.coe_mul, mul_comm (v k), mul_assoc]

/-- What a query keeps: a finite reference point, and the total weight and the weighted sum scaled to it. -/
def Inv (M L A : EReal) (P : ℝ) (N : EReal) : Prop :=
  ∃ r : ℝ, M = (r : EReal) ∧ L = (((2 : ℝ) ^ (-r) * P : ℝ) : EReal) ∧ A = (((2 : ℝ) ^ (-r) : ℝ) : EReal) * N

/-- The first block, with one key that is not masked. -/
theorem inv_first {n : ℕ} (s v : Fin n → EReal) (hs : ∀ k, s k ≠ ⊤) (k₀ : Fin n) (hk : s k₀ ≠ ⊥) :
    Inv (Finset.univ.fold max ⊥ s) (∑ k, Ideal.exp2 (s k - Finset.univ.fold max ⊥ s))
      (∑ k, v k * Ideal.exp2 (s k - Finset.univ.fold max ⊥ s)) (wsum s) (vsum s v) := by
  obtain ⟨r, hr⟩ := fold_max_real Finset.univ s (fun k _ => hs k) k₀ (Finset.mem_univ _) hk
  refine ⟨r, hr, ?_, ?_⟩
  · rw [hr, sum_exp2 s hs]
  · rw [hr, sum_mul_exp2 s v hs]

/-- Moving the reference point and adding scaled contributions. -/
theorem inv_move {M L A : EReal} {P : ℝ} {N : EReal} (h : Inv M L A P N) (r' : ℝ) (p : ℝ) (x : EReal) :
    Inv (r' : EReal) (L * Ideal.exp2 (M - (r' : EReal)) + (((2 : ℝ) ^ (-r') * p : ℝ) : EReal))
      (A * Ideal.exp2 (M - (r' : EReal)) + (((2 : ℝ) ^ (-r') : ℝ) : EReal) * x) (P + p) (N + x) := by
  obtain ⟨r, rfl, rfl, rfl⟩ := h
  have hsc : (2 : ℝ) ^ (-r) * ((2 : ℝ) ^ (-r') * (2 : ℝ) ^ r) = (2 : ℝ) ^ (-r') := by
    rw [← Real.rpow_add (by norm_num), ← Real.rpow_add (by norm_num)]; congr 1; ring
  refine ⟨r', rfl, ?_, ?_⟩
  · rw [exp2_sub _ (EReal.coe_ne_top r), wt_coe, ← EReal.coe_mul, ← EReal.coe_add]
    congr 1
    linear_combination P * hsc
  · rw [exp2_sub _ (EReal.coe_ne_top r), wt_coe, mul_add_coe _ (by positivity)]
    congr 1
    rw [mul_comm _ N, mul_assoc, ← EReal.coe_mul, hsc, mul_comm]

/-- One more block. -/
theorem inv_step1 {M L A : EReal} {P : ℝ} {N : EReal} (h : Inv M L A P N) {n : ℕ} (s v : Fin n → EReal)
    (hs : ∀ k, s k ≠ ⊤) :
    Inv (max M (Finset.univ.fold max ⊥ s))
      (L * Ideal.exp2 (M - max M (Finset.univ.fold max ⊥ s)) + ∑ k, Ideal.exp2 (s k - max M (Finset.univ.fold max ⊥ s)))
      (A * Ideal.exp2 (M - max M (Finset.univ.fold max ⊥ s)) + ∑ k, v k * Ideal.exp2 (s k - max M (Finset.univ.fold max ⊥ s)))
      (P + wsum s) (N + vsum s v) := by
  obtain ⟨r', hr'⟩ : ∃ r' : ℝ, max M (Finset.univ.fold max ⊥ s) = (r' : EReal) := by
    obtain ⟨r, rfl, -, -⟩ := h
    exact max_real r _ (fold_max_ne_top _ _ fun k _ => hs k)
  rw [hr', sum_exp2 s hs, sum_mul_exp2 s v hs]
  exact inv_move h r' _ _

/-- Two more blocks at once. -/
theorem inv_step2 {M L A : EReal} {P : ℝ} {N : EReal} (h : Inv M L A P N) {n : ℕ} (s v s' v' : Fin n → EReal)
    (hs : ∀ k, s k ≠ ⊤) (hs' : ∀ k, s' k ≠ ⊤) :
    Inv (max M (max (Finset.univ.fold max ⊥ s) (Finset.univ.fold max ⊥ s')))
      (L * Ideal.exp2 (M - max M (max (Finset.univ.fold max ⊥ s) (Finset.univ.fold max ⊥ s')))
        + (∑ k, Ideal.exp2 (s k - max M (max (Finset.univ.fold max ⊥ s) (Finset.univ.fold max ⊥ s')))
          + ∑ k, Ideal.exp2 (s' k - max M (max (Finset.univ.fold max ⊥ s) (Finset.univ.fold max ⊥ s')))))
      (A * Ideal.exp2 (M - max M (max (Finset.univ.fold max ⊥ s) (Finset.univ.fold max ⊥ s')))
        + (∑ k, v k * Ideal.exp2 (s k - max M (max (Finset.univ.fold max ⊥ s) (Finset.univ.fold max ⊥ s')))
          + ∑ k, v' k * Ideal.exp2 (s' k - max M (max (Finset.univ.fold max ⊥ s) (Finset.univ.fold max ⊥ s')))))
      (P + (wsum s + wsum s')) (N + (vsum s v + vsum s' v')) := by
  obtain ⟨r', hr'⟩ : ∃ r' : ℝ, max M (max (Finset.univ.fold max ⊥ s) (Finset.univ.fold max ⊥ s')) = (r' : EReal) := by
    obtain ⟨r, rfl, -, -⟩ := h
    refine max_real r _ ?_
    rcases max_choice (Finset.univ.fold max ⊥ s) (Finset.univ.fold max ⊥ s') with h | h <;> rw [h]
    · exact fold_max_ne_top _ _ fun k _ => hs k
    · exact fold_max_ne_top _ _ fun k _ => hs' k
  rw [hr', sum_exp2 s hs, sum_mul_exp2 s v hs, sum_exp2 s' hs', sum_mul_exp2 s' v' hs', ← EReal.coe_add, ← mul_add,
    ← mul_add_coe _ (by positivity)]
  exact inv_move h r' _ _

/-- The quotient a query ends with does not depend on the reference point. -/
theorem inv_div {M L A : EReal} {P : ℝ} {N : EReal} (h : Inv M L A P N) (hP : 0 < P) :
    Ideal.div A L = ((1 / P : ℝ) : EReal) * N := by
  obtain ⟨r, rfl, rfl, rfl⟩ := h
  have h2 : (0 : ℝ) < (2 : ℝ) ^ (-r) := by positivity
  rw [Ideal.div_coe (by positivity), mul_comm _ N, mul_assoc, ← EReal.coe_mul, mul_comm]
  congr 2
  field_simp

/-- The softmax taken all at once, its scores in units of the natural logarithm: the same quotient. -/
theorem softmax_eq {n : ℕ} (s v : Fin n → EReal) (hs : ∀ k, s k ≠ ⊤) (r : ℝ) (hP : 0 < wsum s) :
    ∑ k, v k * Ideal.div (Ideal.exp (s k * ((Real.log 2 : ℝ) : EReal) - (r : EReal)))
        (∑ l, Ideal.exp (s l * ((Real.log 2 : ℝ) : EReal) - (r : EReal)))
      = ((1 / wsum s : ℝ) : EReal) * vsum s v := by
  have hsum : ∑ l, Ideal.exp (s l * ((Real.log 2 : ℝ) : EReal) - (r : EReal)) = ((Real.exp (-r) * wsum s : ℝ) : EReal) := by
    unfold wsum
    rw [Finset.mul_sum, coe_sum]
    exact Finset.sum_congr rfl fun k _ => exp_mul_log_sub _ (hs k) r
  have he : 0 < Real.exp (-r) := Real.exp_pos _
  rw [hsum]
  unfold vsum
  rw [mul_sum_coe _ _ (by positivity)]
  refine Finset.sum_congr rfl fun k _ => ?_
  rw [exp_mul_log_sub _ (hs k), Ideal.div_coe (by positivity), ← EReal.coe_mul, mul_comm (v k), ← mul_assoc, ← EReal.coe_mul]
  congr 2
  field_simp

end Cert.Online

end
-- ==== Proof.Pay.lean ====
module

public import proofs.«01_k».proof.Proof.Gen.FlashIdeal.Skeleton
public import proofs.«01_k».proof.Proof.Online
public import Idealize.ShloMosaic.Lib.Pipeline.ValueKit

@[expose] public section

set_option maxRecDepth 16384

noncomputable section

/-! # The attention body's stored values, read at an index -/

open Idealize.ShloMosaic Idealize.ShloMosaic.TcCoe Idealize.SL.Sem

namespace Cert.FlashIdeal.Pay

open Cert.FlashIdeal Cert.FlashIdeal.Gen

open Cert.Online

/-- The pattern of the masking constant is minus infinity. -/
theorem ninf : Ideal.ofBits FTy.f32 4286578688#32 = ⊥ := by simp [Ideal.ofBits, Ideal.ieee]

theorem inv_congr {M L A M' L' A' : EReal} {P : ℝ} {N : EReal} (h : Inv M L A P N) (hM : M' = M) (hL : L' = L) (hA : A' = A) :
    Inv M' L' A' P N := by subst hM hL hA; exact h

/-- Both halves of a score: keys against queries, and bias columns against the columns that stand behind the queries. -/
def qk (Q : FVec Ideal S512x256 .bf16) (K B : FVec Ideal S512x128 .bf16) (q k : Fin 512) : EReal :=
  ∑ x : Fin 128, K (ix2 k x) * Q (ix2 q ⟨x.val, by omega⟩) + ∑ x : Fin 128, B (ix2 k x) * Q (ix2 q ⟨128 + x.val, by omega⟩)

/-- The score of the diagonal block: a key after its query is masked. -/
def qkm (Q : FVec Ideal S512x256 .bf16) (K B : FVec Ideal S512x128 .bf16) (q k : Fin 512) : EReal :=
  if k.val ≤ q.val then qk Q K B q k else ⊥

/-- A select on a signed comparison of two positions of a block. -/
theorem select_sle (k q : Fin 512) (a b : EReal) :
    Scalar.select (IntOp.cmpi .sle (BitVec.ofNat 32 k.val) (BitVec.ofNat 32 q.val)) a b = if k.val ≤ q.val then a else b := by
  have hk := k.isLt
  have hq := q.isLt
  have e1 : (BitVec.ofNat 32 k.val).toInt = k.val := by rw [BitVec.toInt_ofNat']; simp [Int.bmod]; omega
  have e2 : (BitVec.ofNat 32 q.val).toInt = q.val := by rw [BitVec.toInt_ofNat']; simp [Int.bmod]; omega
  by_cases h : k.val ≤ q.val
  · simp [Scalar.select, IntOp.cmpi, BitVec.sle, e1, e2, h]
  · simp [Scalar.select, IntOp.cmpi, BitVec.sle, e1, e2, h]

/-- Reading the columns behind the queries: three ones, then zeros. -/
theorem select_slt (l : Fin 256) (h : ¬ l.val < 128) :
    Scalar.select (IntOp.cmpi .slt (BitVec.ofNat 32 (l.val - 128)) 3#32) (1 : EReal) 0 = if l.val < 131 then 1 else 0 := by
  have hl := l.isLt
  have e1 : (BitVec.ofNat 32 (l.val - 128)).toInt = ((l.val - 128 : ℕ) : ℤ) := by rw [BitVec.toInt_ofNat']; simp [Int.bmod]; omega
  have e2 : (3#32).toInt = 3 := by decide
  by_cases h' : l.val < 131
  · have : ((l.val - 128 : ℕ) : ℤ) < 3 := by omega
    simp [Scalar.select, IntOp.cmpi, BitVec.slt, e1, e2, this, h']
  · have : ¬ ((l.val - 128 : ℕ) : ℤ) < 3 := by omega
    simp [Scalar.select, IntOp.cmpi, BitVec.slt, e1, e2, this, h']

theorem pay100_at (x : FVec Ideal S512x128 .bf16) (q : Fin 512) (l : Fin 256) :
    k0_pay100 (F := Ideal) x (ix2 q l) = if h : l.val < 128 then x (ix2 q ⟨l.val, h⟩) else if l.val < 131 then 1 else 0 := by
  pointwise [k0_pay100, k0_pay99]
  by_cases h : l.val < 128
  · simp [h]
  · simp only [h, dite_false]
    exact select_slt l h

theorem pay101_at (x : FVec Ideal S512x128 .bf16) (q : Fin 512) (l : Fin 256) :
    k0_pay101 (F := Ideal) x (ix2 q l) = if h : l.val < 128 then x (ix2 q ⟨l.val, h⟩) else if l.val < 131 then 1 else 0 := by
  pointwise [k0_pay101, k0_pay99]
  by_cases h : l.val < 128
  · simp [h]
  · simp only [h, dite_false]
    exact select_slt l h

/-- A sum that three ones pick the first three terms of. -/
theorem sum_pick3 (f : Fin 128 → EReal) :
    ∑ x : Fin 128, f x * (if 128 + x.val < 131 then (1 : EReal) else 0) = ∑ x : Fin 3, f ⟨x.val, by omega⟩ := by
  have h := Fin.sum_univ_add (a := 3) (b := 125) (fun x : Fin (3 + 125) => f x * (if 128 + x.val < 131 then (1 : EReal) else 0))
  refine h.trans ?_
  have h0 : ∑ x : Fin 125, f (Fin.natAdd 3 x) * (if 128 + (Fin.natAdd 3 x).val < 131 then (1 : EReal) else 0) = 0 := by
    refine Finset.sum_eq_zero fun x _ => ?_
    rw [if_neg (by simp only [Fin.natAdd]; omega), mul_zero]
  rw [h0, add_zero]
  refine Finset.sum_congr rfl fun x _ => ?_
  rw [if_pos (by simp only [Fin.val_castAdd]; omega), mul_one]
  rfl

/-- The score of a query row and a key row with its three bias columns. -/
def sc (X K B : FVec Ideal S512x128 .bf16) (q k : Fin 512) : EReal :=
  ∑ x : Fin 128, K (ix2 k x) * X (ix2 q x) + ∑ x : Fin 3, B (ix2 k ⟨x.val, by omega⟩)

theorem qk_100 (X K B : FVec Ideal S512x128 .bf16) (q k : Fin 512) : qk (k0_pay100 X) K B q k = sc X K B q k := by
  unfold qk sc
  refine congrArg₂ (· + ·) ?_ ?_
  · refine Finset.sum_congr rfl fun x _ => ?_
    rw [pay100_at, dif_pos x.isLt]
  · rw [← sum_pick3 (fun x => B (ix2 k x))]
    refine Finset.sum_congr rfl fun x _ => ?_
    rw [pay100_at, dif_neg (by simp)]

theorem qk_101 (X K B : FVec Ideal S512x128 .bf16) (q k : Fin 512) : qk (k0_pay101 X) K B q k = sc X K B q k := by
  unfold qk sc
  refine congrArg₂ (· + ·) ?_ ?_
  · refine Finset.sum_congr rfl fun x _ => ?_
    rw [pay101_at, dif_pos x.isLt]
  · rw [← sum_pick3 (fun x => B (ix2 k x))]
    refine Finset.sum_congr rfl fun x _ => ?_
    rw [pay101_at, dif_neg (by simp)]

/-- The quotient that leaves the body, head 0 of the pair. -/
theorem out_0 (A : FVec Ideal S1x128x512 .f32) (L : FVec Ideal S1x1x512 .f32) (q : Fin 512) (d : Fin 128) :
    k0_pay120 (F := Ideal) A L (ix2 q d) = Ideal.div (A (ix3 0 d q)) (L (ix3 0 0 q)) := by
  pointwise [k0_pay120]

/-- The quotient that leaves the body, head 1 of the pair. -/
theorem out_1 (A : FVec Ideal S1x128x512 .f32) (L : FVec Ideal S1x1x512 .f32) (q : Fin 512) (d : Fin 128) :
    k0_pay1 (F := Ideal) A L (ix2 q d) = Ideal.div (A (ix3 0 d q)) (L (ix3 0 0 q)) := by
  pointwise [k0_pay1]

/-- Two blocks at once, head 0 of the pair. -/
theorem two_0 (Q : FVec Ideal S512x256 .bf16) (K B K' B' : FVec Ideal S512x128 .bf16) (M L : FVec Ideal S1x1x512 .f32)
    (A : FVec Ideal S1x128x512 .f32) (v v' : FVec Ideal S1x1x128x512 .bf16) (q : Fin 512) (d : Fin 128) {P : ℝ} {N : EReal}
    (h : Inv (M (ix3 0 0 q)) (L (ix3 0 0 q)) (A (ix3 0 d q)) P N) (hs : ∀ k, qk Q K B q k ≠ ⊤) (hs' : ∀ k, qk Q K' B' q k ≠ ⊤) :
    Inv (k0_pay48 (F := Ideal) (k0_pay40 Q K B K' B' M) (ix3 0 0 q))
      (k0_pay46 (F := Ideal) (k0_pay41 Q K B K' B' M) (k0_pay44 Q K B K' B' M) (k0_pay45 Q K B K' B' M) L (ix3 0 0 q))
      (k0_pay47 (F := Ideal) (k0_pay41 Q K B K' B' M) (k0_pay42 Q K B K' B' M) (k0_pay43 Q K B K' B' M) v v' A (ix3 0 d q))
      (P + (wsum (qk Q K B q) + wsum (qk Q K' B' q)))
      (N + (vsum (qk Q K B q) (fun k => v (ix4 0 0 d k)) + vsum (qk Q K' B' q) (fun k => v' (ix4 0 0 d k)))) := by
  refine inv_congr (inv_step2 h (qk Q K B q) (fun k => v (ix4 0 0 d k)) (qk Q K' B' q) (fun k => v' (ix4 0 0 d k)) hs hs') ?_ ?_ ?_
  all_goals
    pointwise [k0_pay37, k0_pay38, k0_pay39, k0_pay40, k0_pay41, k0_pay42, k0_pay43, k0_pay44, k0_pay45, k0_pay46, k0_pay47, k0_pay48]
    simp only [ninf]; rfl

/-- Two blocks at once, head 1 of the pair. -/
theorem two_1 (Q : FVec Ideal S512x256 .bf16) (K B K' B' : FVec Ideal S512x128 .bf16) (M L : FVec Ideal S1x1x512 .f32)
    (A : FVec Ideal S1x128x512 .f32) (v v' : FVec Ideal S1x1x128x512 .bf16) (q : Fin 512) (d : Fin 128) {P : ℝ} {N : EReal}
    (h : Inv (M (ix3 0 0 q)) (L (ix3 0 0 q)) (A (ix3 0 d q)) P N) (hs : ∀ k, qk Q K B q k ≠ ⊤) (hs' : ∀ k, qk Q K' B' q k ≠ ⊤) :
    Inv (k0_pay115 (F := Ideal) (k0_pay52 Q K B K' B' M) (ix3 0 0 q))
      (k0_pay57 (F := Ideal) (k0_pay53 Q K B K' B' M) (k0_pay55 Q K B K' B' M) (k0_pay56 Q K B K' B' M) L (ix3 0 0 q))
      (k0_pay58 (F := Ideal) (k0_pay53 Q K B K' B' M) (k0_pay54 Q K B K' B' M) (k0_pay55 Q K B K' B' M) v v' A (ix3 0 d q))
      (P + (wsum (qk Q K B q) + wsum (qk Q K' B' q)))
      (N + (vsum (qk Q K B q) (fun k => v (ix4 0 0 d k)) + vsum (qk Q K' B' q) (fun k => v' (ix4 0 0 d k)))) := by
  refine inv_congr (inv_step2 h (qk Q K B q) (fun k => v (ix4 0 0 d k)) (qk Q K' B' q) (fun k => v' (ix4 0 0 d k)) hs hs') ?_ ?_ ?_
  all_goals
    pointwise [k0_pay49, k0_pay50, k0_pay51, k0_pay52, k0_pay53, k0_pay54, k0_pay55, k0_pay56, k0_pay57, k0_pay58, k0_pay115]
    simp only [ninf]; rfl

/-- One block, head 0 of the pair. -/
theorem one_0 (Q : FVec Ideal S512x256 .bf16) (K B : FVec Ideal S512x128 .bf16) (M L : FVec Ideal S1x1x512 .f32)
    (A : FVec Ideal S1x128x512 .f32) (v : FVec Ideal S1x1x128x512 .bf16) (q : Fin 512) (d : Fin 128) {P : ℝ} {N : EReal}
    (h : Inv (M (ix3 0 0 q)) (L (ix3 0 0 q)) (A (ix3 0 d q)) P N) (hs : ∀ k, qk Q K B q k ≠ ⊤) :
    Inv (k0_pay90 (F := Ideal) (k0_pay83 Q K B M) (ix3 0 0 q)) (k0_pay88 (F := Ideal) (k0_pay87 Q K B M L) (ix3 0 0 q)) (k0_pay89 (F := Ideal) (k0_pay84 Q K B M) (k0_pay86 Q K B M v) A (ix3 0 d q))
      (P + wsum (qk Q K B q)) (N + vsum (qk Q K B q) (fun k => v (ix4 0 0 d k))) := by
  refine inv_congr (inv_step1 h (qk Q K B q) (fun k => v (ix4 0 0 d k)) hs) ?_ ?_ ?_
  all_goals
    pointwise [k0_pay81, k0_pay82, k0_pay83, k0_pay84, k0_pay85, k0_pay86, k0_pay87, k0_pay88, k0_pay89, k0_pay90]
    simp only [ninf]; rfl

/-- One block, head 1 of the pair. -/
theorem one_1 (Q : FVec Ideal S512x256 .bf16) (K B : FVec Ideal S512x128 .bf16) (M L : FVec Ideal S1x1x512 .f32)
    (A : FVec Ideal S1x128x512 .f32) (v : FVec Ideal S1x1x128x512 .bf16) (q : Fin 512) (d : Fin 128) {P : ℝ} {N : EReal}
    (h : Inv (M (ix3 0 0 q)) (L (ix3 0 0 q)) (A (ix3 0 d q)) P N) (hs : ∀ k, qk Q K B q k ≠ ⊤) :
    Inv (k0_pay119 (F := Ideal) (k0_pay93 Q K B M) (ix3 0 0 q)) (k0_pay117 (F := Ideal) (k0_pay94 Q K B M) (k0_pay96 Q K B M) L (ix3 0 0 q)) (k0_pay118 (F := Ideal) (k0_pay94 Q K B M) (k0_pay95 Q K B M) v A (ix3 0 d q))
      (P + wsum (qk Q K B q)) (N + vsum (qk Q K B q) (fun k => v (ix4 0 0 d k))) := by
  refine inv_congr (inv_step1 h (qk Q K B q) (fun k => v (ix4 0 0 d k)) hs) ?_ ?_ ?_
  all_goals
    pointwise [k0_pay91, k0_pay92, k0_pay93, k0_pay94, k0_pay95, k0_pay96, k0_pay117, k0_pay118, k0_pay119]
    simp only [ninf]; rfl

/-- The diagonal block, head 0 of the pair. -/
theorem first_0 (Q : FVec Ideal S512x128 .bf16) (K B : FVec Ideal S512x128 .bf16)
    (v : FVec Ideal S1x1x128x512 .bf16) (q : Fin 512) (d : Fin 128) (hs : ∀ k, qk (k0_pay100 Q) K B q k ≠ ⊤)
    (hb : qk (k0_pay100 Q) K B q q ≠ ⊥) :
    Inv (k0_pay108 (F := Ideal) (k0_pay103 Q K B) (ix3 0 0 q)) (k0_pay106 (F := Ideal) (k0_pay105 Q K B) (ix3 0 0 q)) (k0_pay107 (F := Ideal) (k0_pay104 Q K B) v (ix3 0 d q))
      (wsum (qkm (k0_pay100 Q) K B q)) (vsum (qkm (k0_pay100 Q) K B q) (fun k => v (ix4 0 0 d k))) := by
  have hm : ∀ k, qkm (k0_pay100 Q) K B q k ≠ ⊤ := fun k => by
    unfold qkm; split
    · exact hs k
    · exact bot_ne_top
  refine inv_congr (inv_first (qkm (k0_pay100 Q) K B q) (fun k => v (ix4 0 0 d k)) hm q (by unfold qkm; rw [if_pos le_rfl]; exact hb)) ?_ ?_ ?_
  all_goals
    pointwise [k0_pay102, k0_pay103, k0_pay104, k0_pay105, k0_pay106, k0_pay107, k0_pay108]
    simp only [ninf, select_sle]; rfl

/-- The diagonal block, head 1 of the pair. -/
theorem first_1 (Q : FVec Ideal S512x256 .bf16) (K B : FVec Ideal S512x128 .bf16)
    (v : FVec Ideal S1x1x128x512 .bf16) (q : Fin 512) (d : Fin 128) (hs : ∀ k, qk Q K B q k ≠ ⊤)
    (hb : qk Q K B q q ≠ ⊥) :
    Inv (k0_pay114 (F := Ideal) (k0_pay110 Q K B) (ix3 0 0 q)) (k0_pay112 (F := Ideal) (k0_pay111 Q K B) (ix3 0 0 q)) (k0_pay113 (F := Ideal) (k0_pay111 Q K B) v (ix3 0 d q))
      (wsum (qkm Q K B q)) (vsum (qkm Q K B q) (fun k => v (ix4 0 0 d k))) := by
  have hm : ∀ k, qkm Q K B q k ≠ ⊤ := fun k => by
    unfold qkm; split
    · exact hs k
    · exact bot_ne_top
  refine inv_congr (inv_first (qkm Q K B q) (fun k => v (ix4 0 0 d k)) hm q (by unfold qkm; rw [if_pos le_rfl]; exact hb)) ?_ ?_ ?_
  all_goals
    pointwise [k0_pay109, k0_pay110, k0_pay111, k0_pay112, k0_pay113, k0_pay114]
    simp only [ninf, select_sle]; rfl

end Cert.FlashIdeal.Pay

end
-- ==== Proof.Trip.lean ====
module

public import proofs.«01_k».proof.Proof.Idx
public import proofs.«01_k».proof.Proof.Pay
public import Idealize.ShloMosaic.Lib.WritesUnit

@[expose] public section

set_option maxRecDepth 16384

noncomputable section

/-! # The paired loop of the attention body: what its trips add -/

open Idealize.ShloMosaic Idealize.ShloMosaic.TcCoe Idealize.SL.Sem

namespace Cert.FlashIdeal.Body

open Cert.FlashIdeal Cert.FlashIdeal.Gen

open Cert.Online Cert.FlashIdeal.Pay

/-- Block `b` of 512 rows of an array with two heads side by side: the columns of head `hh`. -/
def blkK (X : FVec Ideal S8192x256 .bf16) (hh : Fin 2) (b : ℕ) : FVec Ideal S512x128 .bf16 := fun y =>
  X (ix2 ⟨512 * (b % 16) + (y 0).val, by have := (y 0).isLt; have : (y 0).val < 512 := this; omega⟩
    ⟨128 * hh.val + (y 1).val, by have : (y 1).val < 128 := (y 1).isLt; omega⟩)

/-- Block `b` of the transposed values of head `hh`. -/
def blkV (X : FVec Ideal S2x16x128x512 .bf16) (hh : Fin 2) (b : ℕ) : FVec Ideal S1x1x128x512 .bf16 := fun y =>
  X (ix4 hh ⟨b % 16, by omega⟩ ⟨(y 2).val, (y 2).isLt⟩ ⟨(y 3).val, (y 3).isLt⟩)

theorem load_blkK (a : Memref sig .tc .vmem S8192x256 .bf16) (X : a.view.ty.Contents (Elt Ideal)) (off : Fin 2 → ℕ)
    (inb : ∀ x, off x + S512x128.size x ≤ S8192x256.size x) (hh : Fin 2) (b : ℕ) (hb : b < 16)
    (h : off = ![512 * b, 128 * hh.val]) :
    View.readAt (Elt Ideal) a.view (Rect.unit (s := S8192x256) off S512x128.size inb).toLoadRect X
      = blkK (a.view.read (Elt Ideal) X) hh b := by
  subst h
  funext y
  refine View.ld_unit_apply_of (a.view.read (Elt Ideal) X) _ _ inb y _ ?_
  intro x
  fin_cases x
  · show 512 * (b % 16) + (y 0).val = 512 * b + (y 0).val
    rw [Nat.mod_eq_of_lt hb]
  · rfl

theorem load_blkV (a : Memref sig .tc .vmem S2x16x128x512 .bf16) (X : a.view.ty.Contents (Elt Ideal)) (off : Fin 4 → ℕ)
    (inb : ∀ x, off x + S1x1x128x512.size x ≤ S2x16x128x512.size x) (hh : Fin 2) (b : ℕ) (hb : b < 16)
    (h : off = ![hh.val, b, 0, 0]) :
    View.readAt (Elt Ideal) a.view (Rect.unit (s := S2x16x128x512) off S1x1x128x512.size inb).toLoadRect X
      = blkV (a.view.read (Elt Ideal) X) hh b := by
  subst h
  funext y
  have h0 : (y 0).val < 1 := (y 0).isLt
  have h1 : (y 1).val < 1 := (y 1).isLt
  refine View.ld_unit_apply_of (a.view.read (Elt Ideal) X) _ _ inb y _ ?_
  intro x
  fin_cases x
  · show hh.val = hh.val + (y 0).val
    omega
  · show b % 16 = b + (y 1).val
    rw [Nat.mod_eq_of_lt hb]; omega
  · show (y 2).val = 0 + (y 2).val
    omega
  · show (y 3).val = 0 + (y 3).val
    omega

/-- A row of the two-row scratch, loaded. -/
theorem load_row (a : Memref sig .tc .vmem S2x1x512 .f32) (f : a.view.ty.Contents (Elt Ideal)) (hh : Fin 2) (off : Fin 3 → ℕ)
    (inb : ∀ x, off x + S1x1x512.size x ≤ S2x1x512.size x) (h : off = ![hh.val, 0, 0]) (q : Fin 512) :
    View.readAt (Elt Ideal) a.view (Rect.unit (s := S2x1x512) off S1x1x512.size inb).toLoadRect f (ix3 (0 : Fin 1) (0 : Fin 1) q)
      = a.view.read (Elt Ideal) f (ix3 hh 0 q) := by
  subst h
  refine View.ld_unit_apply_of (a.view.read (Elt Ideal) f) _ _ inb _ _ ?_
  intro x
  fin_cases x
  · rfl
  · rfl
  · show q.val = 0 + q.val
    omega

/-- A plane of the two-plane scratch, loaded. -/
theorem load_plane (a : Memref sig .tc .vmem S2x128x512 .f32) (f : a.view.ty.Contents (Elt Ideal)) (hh : Fin 2) (off : Fin 3 → ℕ)
    (inb : ∀ x, off x + S1x128x512.size x ≤ S2x128x512.size x) (h : off = ![hh.val, 0, 0]) (d : Fin 128) (q : Fin 512) :
    View.readAt (Elt Ideal) a.view (Rect.unit (s := S2x128x512) off S1x128x512.size inb).toLoadRect f (ix3 (0 : Fin 1) d q)
      = a.view.read (Elt Ideal) f (ix3 hh d q) := by
  subst h
  refine View.ld_unit_apply_of (a.view.read (Elt Ideal) f) _ _ inb _ _ ?_
  intro x
  fin_cases x
  · rfl
  · show d.val = 0 + d.val
    omega
  · show q.val = 0 + q.val
    omega

theorem row_hit (a : Memref sig .tc .vmem S2x1x512 .f32) (f : a.view.ty.Contents (Elt Ideal)) (hh : Fin 2)
    (inb : ∀ x, (![hh.val, 0, 0] : Fin 3 → ℕ) x + S1x1x512.size x ≤ S2x1x512.size x) (w : FVec Ideal S1x1x512 .f32)
    (L : List (View.Piece (Elt Ideal) S2x1x512 .f32)) (q : Fin 512) :
    a.view.read (Elt Ideal) (a.view.writes (Elt Ideal) f (⟨Rect.unit (s := S2x1x512) ![hh.val, 0, 0] S1x1x512.size inb, w⟩ :: L)) (ix3 hh (0 : Fin 1) q)
      = w (ix3 (0 : Fin 1) (0 : Fin 1) q) := by
  refine View.read_writes_cons_unit_of_mem (s := S2x1x512) (off' := ![hh.val, 0, 0]) (size := S1x1x512.size) a.view f inb w L (ix3 hh (0 : Fin 1) q) (ix3 (0 : Fin 1) (0 : Fin 1) q) rfl ?_
  intro x
  fin_cases x
  · rfl
  · rfl
  · show q.val = 0 + q.val
    omega

theorem row_miss (a : Memref sig .tc .vmem S2x1x512 .f32) (f : a.view.ty.Contents (Elt Ideal)) (h' : ℕ) (hh : Fin 2) (hne : hh.val ≠ h')
    (inb : ∀ x, (![h', 0, 0] : Fin 3 → ℕ) x + S1x1x512.size x ≤ S2x1x512.size x) (w : FVec Ideal S1x1x512 .f32)
    (L : List (View.Piece (Elt Ideal) S2x1x512 .f32)) (q : Fin 512) :
    a.view.read (Elt Ideal) (a.view.writes (Elt Ideal) f (⟨Rect.unit (s := S2x1x512) ![h', 0, 0] S1x1x512.size inb, w⟩ :: L)) (ix3 hh (0 : Fin 1) q)
      = a.view.read (Elt Ideal) (a.view.writes (Elt Ideal) f L) (ix3 hh (0 : Fin 1) q) := by
  refine View.read_writes_cons_unit_of_not_mem (s := S2x1x512) (off' := ![h', 0, 0]) (size := S1x1x512.size) a.view f inb w L (ix3 hh (0 : Fin 1) q) rfl (0 : Fin 3) ?_
  show hh.val < h' ∨ h' + 1 ≤ hh.val
  omega

theorem plane_hit (a : Memref sig .tc .vmem S2x128x512 .f32) (f : a.view.ty.Contents (Elt Ideal)) (hh : Fin 2)
    (inb : ∀ x, (![hh.val, 0, 0] : Fin 3 → ℕ) x + S1x128x512.size x ≤ S2x128x512.size x) (w : FVec Ideal S1x128x512 .f32)
    (L : List (View.Piece (Elt Ideal) S2x128x512 .f32)) (d : Fin 128) (q : Fin 512) :
    a.view.read (Elt Ideal) (a.view.writes (Elt Ideal) f (⟨Rect.unit (s := S2x128x512) ![hh.val, 0, 0] S1x128x512.size inb, w⟩ :: L)) (ix3 hh d q)
      = w (ix3 (0 : Fin 1) d q) := by
  refine View.read_writes_cons_unit_of_mem (s := S2x128x512) (off' := ![hh.val, 0, 0]) (size := S1x128x512.size) a.view f inb w L (ix3 hh d q) (ix3 (0 : Fin 1) d q) rfl ?_
  intro x
  fin_cases x
  · rfl
  · show d.val = 0 + d.val; omega
  · show q.val = 0 + q.val
    omega

theorem plane_miss (a : Memref sig .tc .vmem S2x128x512 .f32) (f : a.view.ty.Contents (Elt Ideal)) (h' : ℕ) (hh : Fin 2) (hne : hh.val ≠ h')
    (inb : ∀ x, (![h', 0, 0] : Fin 3 → ℕ) x + S1x128x512.size x ≤ S2x128x512.size x) (w : FVec Ideal S1x128x512 .f32)
    (L : List (View.Piece (Elt Ideal) S2x128x512 .f32)) (d : Fin 128) (q : Fin 512) :
    a.view.read (Elt Ideal) (a.view.writes (Elt Ideal) f (⟨Rect.unit (s := S2x128x512) ![h', 0, 0] S1x128x512.size inb, w⟩ :: L)) (ix3 hh d q)
      = a.view.read (Elt Ideal) (a.view.writes (Elt Ideal) f L) (ix3 hh d q) := by
  refine View.read_writes_cons_unit_of_not_mem (s := S2x128x512) (off' := ![h', 0, 0]) (size := S1x128x512.size) a.view f inb w L (ix3 hh d q) rfl (0 : Fin 3) ?_
  show hh.val < h' ∨ h' + 1 ≤ hh.val
  omega

/-- What the three scratch buffers hold for every head of the pair, query and value column. -/
def St (a8 a9 : Memref sig .tc .vmem S2x1x512 .f32) (a10 : Memref sig .tc .vmem S2x128x512 .f32)
    (f8 : a8.view.ty.Contents (Elt Ideal)) (f9 : a9.view.ty.Contents (Elt Ideal)) (f10 : a10.view.ty.Contents (Elt Ideal))
    (P : Fin 2 → Fin 512 → ℝ) (N : Fin 2 → Fin 512 → Fin 128 → EReal) : Prop :=
  ∀ (hh : Fin 2) (q : Fin 512) (d : Fin 128),
    Inv (a8.view.read (Elt Ideal) f8 (ix3 hh 0 q)) (a9.view.read (Elt Ideal) f9 (ix3 hh 0 q)) (a10.view.read (Elt Ideal) f10 (ix3 hh d q))
      (P hh q) (N hh q d)

/-- Both heads' three numbers stored. -/
theorem St_write (a8 a9 : Memref sig .tc .vmem S2x1x512 .f32) (a10 : Memref sig .tc .vmem S2x128x512 .f32)
    (f8 : a8.view.ty.Contents (Elt Ideal)) (f9 : a9.view.ty.Contents (Elt Ideal)) (f10 : a10.view.ty.Contents (Elt Ideal))
    (L8 L9 : List (View.Piece (Elt Ideal) S2x1x512 .f32)) (L10 : List (View.Piece (Elt Ideal) S2x128x512 .f32))
    (m0 m1 l0 l1 : FVec Ideal S1x1x512 .f32) (A0 A1 : FVec Ideal S1x128x512 .f32)
    {P : Fin 2 → Fin 512 → ℝ} {N : Fin 2 → Fin 512 → Fin 128 → EReal}
    (h0 : ∀ (q : Fin 512) (d : Fin 128), Inv (m0 (ix3 0 0 q)) (l0 (ix3 0 0 q)) (A0 (ix3 0 d q)) (P 0 q) (N 0 q d))
    (h1 : ∀ (q : Fin 512) (d : Fin 128), Inv (m1 (ix3 0 0 q)) (l1 (ix3 0 0 q)) (A1 (ix3 0 d q)) (P 1 q) (N 1 q d)) :
    St a8 a9 a10
      (a8.view.writes (Elt Ideal) f8 (⟨Rect.unit (s := S2x1x512) ![1, 0, 0] S1x1x512.size inb_S2x1x512_S1x1x512_1_0_0, m1⟩
        :: ⟨Rect.unit (s := S2x1x512) ![0, 0, 0] S1x1x512.size inb_S2x1x512_S1x1x512_0_0_0, m0⟩ :: L8))
      (a9.view.writes (Elt Ideal) f9 (⟨Rect.unit (s := S2x1x512) ![1, 0, 0] S1x1x512.size inb_S2x1x512_S1x1x512_1_0_0, l1⟩
        :: ⟨Rect.unit (s := S2x1x512) ![0, 0, 0] S1x1x512.size inb_S2x1x512_S1x1x512_0_0_0, l0⟩ :: L9))
      (a10.view.writes (Elt Ideal) f10 (⟨Rect.unit (s := S2x128x512) ![1, 0, 0] S1x128x512.size inb_S2x128x512_S1x128x512_1_0_0, A1⟩
        :: ⟨Rect.unit (s := S2x128x512) ![0, 0, 0] S1x128x512.size inb_S2x128x512_S1x128x512_0_0_0, A0⟩ :: L10)) P N := by
  intro hh q d
  fin_cases hh
  · refine inv_congr (h0 q d) ?_ ?_ ?_
    · exact (row_miss a8 f8 1 0 (by decide) _ m1 _ q).trans (row_hit a8 f8 0 _ m0 _ q)
    · exact (row_miss a9 f9 1 0 (by decide) _ l1 _ q).trans (row_hit a9 f9 0 _ l0 _ q)
    · exact (plane_miss a10 f10 1 0 (by decide) _ A1 _ d q).trans (plane_hit a10 f10 0 _ A0 _ d q)
  · refine inv_congr (h1 q d) ?_ ?_ ?_
    · exact row_hit a8 f8 1 _ m1 _ q
    · exact row_hit a9 f9 1 _ l1 _ q
    · exact plane_hit a10 f10 1 _ A1 _ d q

/-- The total weight of block `b` for a query of head `hh`. -/
def bW (Q : Fin 2 → FVec Ideal S512x256 .bf16) (K B : FVec Ideal S8192x256 .bf16) (b : ℕ) (hh : Fin 2) (q : Fin 512) : ℝ :=
  wsum (qk (Q hh) (blkK K hh b) (blkK B hh b) q)

/-- The weighted values of block `b` for a query of head `hh`. -/
def bV (Q : Fin 2 → FVec Ideal S512x256 .bf16) (K B : FVec Ideal S8192x256 .bf16) (V : FVec Ideal S2x16x128x512 .bf16)
    (b : ℕ) (hh : Fin 2) (q : Fin 512) (d : Fin 128) : EReal :=
  vsum (qk (Q hh) (blkK K hh b) (blkK B hh b) q) (fun k => blkV V hh b (ix4 0 0 d k))

/-- No score is plus infinity. -/
def Fin' (Q : Fin 2 → FVec Ideal S512x256 .bf16) (K B : FVec Ideal S8192x256 .bf16) : Prop :=
  ∀ (hh : Fin 2) (b : ℕ) (q k : Fin 512), qk (Q hh) (blkK K hh b) (blkK B hh b) q k ≠ ⊤

/-- The two heads' query blocks. -/
def pairQ (v11 v13 : FVec Ideal S512x256 .bf16) : Fin 2 → FVec Ideal S512x256 .bf16 := ![v11, v13]

variable (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S512x256 .bf16) (harg6 : arg6.IsWhole) (arg7 : Memref sig .tc .vmem S2x16x128x512 .bf16) (harg7 : arg7.IsWhole) (arg8 : Memref sig .tc .vmem S2x1x512 .f32) (harg8 : arg8.IsWhole) (arg9 : Memref sig .tc .vmem S2x1x512 .f32) (harg9 : arg9.IsWhole) (arg10 : Memref sig .tc .vmem S2x128x512 .f32) (harg10 : arg10.IsWhole)
  (arg1 : BitVec 32) (v11 v13 : FVec Ideal S512x256 .bf16) (v94 : BitVec 32) (v105 v107 : BitVec 1)
  (X3 : arg3.view.ty.Contents (Elt Ideal)) (X5 : arg5.view.ty.Contents (Elt Ideal)) (X7 : arg7.view.ty.Contents (Elt Ideal))

theorem lt16 (i : grid0.Coords) (k : Fin (k0_t1_loop i).trips) : 2 * k.val + 1 < (i 1).val := by
  have h : k.val < (i 1).val / 2 := lt_of_lt_of_eq k.isLt (trips1 i)
  omega

set_option maxHeartbeats 2000000 in
/-- One trip of the paired loop adds two blocks. -/
theorem trip_St (k : Fin (k0_t1_loop i).trips) (f8 : arg8.view.ty.Contents (Elt Ideal)) (f9 : arg9.view.ty.Contents (Elt Ideal))
    (f10 : arg10.view.ty.Contents (Elt Ideal)) {P : Fin 2 → Fin 512 → ℝ} {N : Fin 2 → Fin 512 → Fin 128 → EReal}
    (h : St arg8 arg9 arg10 f8 f9 f10 P N)
    (hs : Fin' (pairQ v11 v13) (arg3.view.read (Elt Ideal) X3) (arg5.view.read (Elt Ideal) X5)) :
    St arg8 arg9 arg10
      (arg8.view.writes (Elt Ideal) f8 (tripL_k0_t1 (F := Ideal) Variants.none c none i arg2 harg2 arg3 harg3 arg4 harg4 arg5 harg5 arg6 harg6 arg7 harg7 arg8 harg8 arg9 harg9 arg10 harg10 arg1 v11 v13 v94 v105 v107 X3 X5 X7 k f8 f9 f10).1)
      (arg9.view.writes (Elt Ideal) f9 (tripL_k0_t1 (F := Ideal) Variants.none c none i arg2 harg2 arg3 harg3 arg4 harg4 arg5 harg5 arg6 harg6 arg7 harg7 arg8 harg8 arg9 harg9 arg10 harg10 arg1 v11 v13 v94 v105 v107 X3 X5 X7 k f8 f9 f10).2.1)
      (arg10.view.writes (Elt Ideal) f10 (tripL_k0_t1 (F := Ideal) Variants.none c none i arg2 harg2 arg3 harg3 arg4 harg4 arg5 harg5 arg6 harg6 arg7 harg7 arg8 harg8 arg9 harg9 arg10 harg10 arg1 v11 v13 v94 v105 v107 X3 X5 X7 k f8 f9 f10).2.2)
      (fun hh q => P hh q + (bW (pairQ v11 v13) (arg3.view.read (Elt Ideal) X3) (arg5.view.read (Elt Ideal) X5) (2 * k.val) hh q
        + bW (pairQ v11 v13) (arg3.view.read (Elt Ideal) X3) (arg5.view.read (Elt Ideal) X5) (2 * k.val + 1) hh q))
      (fun hh q d => N hh q d
        + (bV (pairQ v11 v13) (arg3.view.read (Elt Ideal) X3) (arg5.view.read (Elt Ideal) X5) (arg7.view.read (Elt Ideal) X7) (2 * k.val) hh q d
        + bV (pairQ v11 v13) (arg3.view.read (Elt Ideal) X3) (arg5.view.read (Elt Ideal) X5) (arg7.view.read (Elt Ideal) X7) (2 * k.val + 1) hh q d)) := by
  have hk := lt16 i k
  have hi : (i 1).val < 16 := (i 1).isLt
  unfold tripL_k0_t1 trip_k0_t1
  dsimp only
  refine St_write arg8 arg9 arg10 f8 f9 f10 [] [] [] _ _ _ _ _ _ ?_ ?_
  · intro q d
    unfold trip_k0_t1.sl.r trip_k0_t1.sl.r_1 trip_k0_t1.sl.r_2 trip_k0_t1.sl.r_3 trip_k0_t1.sl.r_4 trip_k0_t1.sl.r_5
    rw [load_blkK arg3 X3 _ _ 0 (2 * k.val) (by omega) (off5_0 i k), load_blkK arg5 X5 _ _ 0 (2 * k.val) (by omega) (off5_0 i k),
      load_blkK arg3 X3 _ _ 0 (2 * k.val + 1) (by omega) (off5_1 i k), load_blkK arg5 X5 _ _ 0 (2 * k.val + 1) (by omega) (off5_1 i k),
      load_blkV arg7 X7 _ _ 0 (2 * k.val) (by omega) (off6_0 i k), load_blkV arg7 X7 _ _ 0 (2 * k.val + 1) (by omega) (off6_1 i k)]
    refine two_0 _ _ _ _ _ _ _ _ _ _ q d ?_ (hs 0 _ q) (hs 0 _ q)
    exact inv_congr (h 0 q d) (load_row arg8 f8 0 _ _ rfl q) (load_row arg9 f9 0 _ _ rfl q) (load_plane arg10 f10 0 _ _ rfl d q)
  · intro q d
    unfold trip_k0_t1.sl.r_6 trip_k0_t1.sl.r_7 trip_k0_t1.sl.r_8 trip_k0_t1.sl.r_9 trip_k0_t1.sl.r_10
    rw [load_blkK arg3 X3 _ _ 1 (2 * k.val) (by omega) (off7_0 i k), load_blkK arg5 X5 _ _ 1 (2 * k.val) (by omega) (off7_0 i k),
      load_blkK arg3 X3 _ _ 1 (2 * k.val + 1) (by omega) (off7_1 i k), load_blkK arg5 X5 _ _ 1 (2 * k.val + 1) (by omega) (off7_1 i k),
      load_blkV arg7 X7 _ _ 1 (2 * k.val) (by omega) (off8_0 i k), load_blkV arg7 X7 _ _ 1 (2 * k.val + 1) (by omega) (off8_1 i k)]
    refine two_1 _ _ _ _ _ _ _ _ _ _ q d ?_ (hs 1 _ q) (hs 1 _ q)
    exact inv_congr (h 1 q d) (load_row arg8 f8 1 _ _ rfl q) (load_row arg9 f9 1 _ _ rfl q) (load_plane arg10 f10 1 _ _ rfl d q)

/-- The total weight once the diagonal block and the blocks before `n` are in. -/
def accW (Q : Fin 2 → FVec Ideal S512x256 .bf16) (K B : FVec Ideal S8192x256 .bf16) (P : Fin 2 → Fin 512 → ℝ) (n : ℕ)
    (hh : Fin 2) (q : Fin 512) : ℝ := P hh q + ∑ b ∈ Finset.range n, bW Q K B b hh q

/-- The weighted values once the diagonal block and the blocks before `n` are in. -/
def accV (Q : Fin 2 → FVec Ideal S512x256 .bf16) (K B : FVec Ideal S8192x256 .bf16) (V : FVec Ideal S2x16x128x512 .bf16)
    (N : Fin 2 → Fin 512 → Fin 128 → EReal) (n : ℕ) (hh : Fin 2) (q : Fin 512) (d : Fin 128) : EReal :=
  N hh q d + ∑ b ∈ Finset.range n, bV Q K B V b hh q d

theorem add_two_more {M : Type*} [AddCommMonoid M] (a : M) (f : ℕ → M) (n : ℕ) :
    a + ∑ b ∈ Finset.range (2 * (n + 1)), f b = a + ∑ b ∈ Finset.range (2 * n), f b + (f (2 * n) + f (2 * n + 1)) := by
  rw [show 2 * (n + 1) = 2 * n + 1 + 1 from rfl, Finset.sum_range_succ, Finset.sum_range_succ, add_assoc, add_assoc]

/-- The paired loop up to its trip `n`. -/
theorem loop_St (f8 : arg8.view.ty.Contents (Elt Ideal)) (f9 : arg9.view.ty.Contents (Elt Ideal))
    (f10 : arg10.view.ty.Contents (Elt Ideal)) {P : Fin 2 → Fin 512 → ℝ} {N : Fin 2 → Fin 512 → Fin 128 → EReal}
    (h : St arg8 arg9 arg10 f8 f9 f10 P N)
    (hs : Fin' (pairQ v11 v13) (arg3.view.read (Elt Ideal) X3) (arg5.view.read (Elt Ideal) X5)) (n : ℕ) (hn : n ≤ (k0_t1_loop i).trips) :
    St arg8 arg9 arg10
      (arg8.view.writes (Elt Ideal) f8 (pb_k0_t1 (F := Ideal) Variants.none c none i arg2 harg2 arg3 harg3 arg4 harg4 arg5 harg5 arg6 harg6 arg7 harg7 arg8 harg8 arg9 harg9 arg10 harg10 arg1 v11 v13 v94 v105 v107 X3 X5 X7 f8 f9 f10 n).1)
      (arg9.view.writes (Elt Ideal) f9 (pb_k0_t1 (F := Ideal) Variants.none c none i arg2 harg2 arg3 harg3 arg4 harg4 arg5 harg5 arg6 harg6 arg7 harg7 arg8 harg8 arg9 harg9 arg10 harg10 arg1 v11 v13 v94 v105 v107 X3 X5 X7 f8 f9 f10 n).2.1)
      (arg10.view.writes (Elt Ideal) f10 (pb_k0_t1 (F := Ideal) Variants.none c none i arg2 harg2 arg3 harg3 arg4 harg4 arg5 harg5 arg6 harg6 arg7 harg7 arg8 harg8 arg9 harg9 arg10 harg10 arg1 v11 v13 v94 v105 v107 X3 X5 X7 f8 f9 f10 n).2.2)
      (accW (pairQ v11 v13) (arg3.view.read (Elt Ideal) X3) (arg5.view.read (Elt Ideal) X5) P (2 * n))
      (accV (pairQ v11 v13) (arg3.view.read (Elt Ideal) X3) (arg5.view.read (Elt Ideal) X5) (arg7.view.read (Elt Ideal) X7) N (2 * n)) := by
  induction n with
  | zero =>
    intro hh q d
    have := h hh q d
    simpa [accW, accV, pb_k0_t1] using this
  | succ n ih =>
    have ht := trip_St c i arg2 harg2 arg3 harg3 arg4 harg4 arg5 harg5 arg6 harg6 arg7 harg7 arg8 harg8 arg9 harg9 arg10 harg10 arg1 v11 v13 v94 v105 v107 X3 X5 X7 ⟨n, hn⟩ _ _ _ (ih (Nat.le_of_succ_le hn)) hs
    rw [pb_k0_t1_succ Variants.none c none i arg2 harg2 arg3 harg3 arg4 harg4 arg5 harg5 arg6 harg6 arg7 harg7 arg8 harg8 arg9 harg9 arg10 harg10 arg1 v11 v13 v94 v105 v107 X3 X5 X7 f8 f9 f10 ⟨n, hn⟩]
    dsimp only
    rw [View.writes_append, View.writes_append, View.writes_append]
    intro hh q d
    have hq := ht hh q d
    have eW : accW (pairQ v11 v13) (arg3.view.read (Elt Ideal) X3) (arg5.view.read (Elt Ideal) X5) P (2 * (n + 1)) hh q
        = accW (pairQ v11 v13) (arg3.view.read (Elt Ideal) X3) (arg5.view.read (Elt Ideal) X5) P (2 * n) hh q
          + (bW (pairQ v11 v13) (arg3.view.read (Elt Ideal) X3) (arg5.view.read (Elt Ideal) X5) (2 * n) hh q
          + bW (pairQ v11 v13) (arg3.view.read (Elt Ideal) X3) (arg5.view.read (Elt Ideal) X5) (2 * n + 1) hh q) := by
      exact add_two_more _ (fun b => bW (pairQ v11 v13) (arg3.view.read (Elt Ideal) X3) (arg5.view.read (Elt Ideal) X5) b hh q) n
    have eV : accV (pairQ v11 v13) (arg3.view.read (Elt Ideal) X3) (arg5.view.read (Elt Ideal) X5) (arg7.view.read (Elt Ideal) X7) N (2 * (n + 1)) hh q d
        = accV (pairQ v11 v13) (arg3.view.read (Elt Ideal) X3) (arg5.view.read (Elt Ideal) X5) (arg7.view.read (Elt Ideal) X7) N (2 * n) hh q d
          + (bV (pairQ v11 v13) (arg3.view.read (Elt Ideal) X3) (arg5.view.read (Elt Ideal) X5) (arg7.view.read (Elt Ideal) X7) (2 * n) hh q d
          + bV (pairQ v11 v13) (arg3.view.read (Elt Ideal) X3) (arg5.view.read (Elt Ideal) X5) (arg7.view.read (Elt Ideal) X7) (2 * n + 1) hh q d) := by
      exact add_two_more _ (fun b => bV (pairQ v11 v13) (arg3.view.read (Elt Ideal) X3) (arg5.view.read (Elt Ideal) X5)
        (arg7.view.read (Elt Ideal) X7) b hh q d) n
    rw [eW, eV]
    exact hq

end Cert.FlashIdeal.Body

end
-- ==== Proof.Body.lean ====
module

public import proofs.«01_k».proof.Proof.Trip

@[expose] public section

set_option maxRecDepth 16384

noncomputable section

/-! # The parts of the attention body put together -/

open Idealize.ShloMosaic Idealize.ShloMosaic.TcCoe Idealize.SL.Sem

namespace Cert.FlashIdeal.Body

open Cert.FlashIdeal Cert.FlashIdeal.Gen

open Cert.Online Cert.FlashIdeal.Pay

/-- The query columns of head `hh` of the pair. -/
def blkQ (X : FVec Ideal S512x256 .bf16) (hh : Fin 2) : FVec Ideal S512x128 .bf16 := fun y =>
  X (ix2 ⟨(y 0).val, (y 0).isLt⟩ ⟨128 * hh.val + (y 1).val, by have : (y 1).val < 128 := (y 1).isLt; omega⟩)

/-- Both heads' queries as the body keeps them, next to three columns of ones. -/
def QQ (X : FVec Ideal S512x256 .bf16) : Fin 2 → FVec Ideal S512x256 .bf16 :=
  pairQ (k0_pay100 (F := Ideal) (blkQ X 0)) (k0_pay101 (F := Ideal) (blkQ X 1))

theorem load_blkQ (a : Memref sig .tc .vmem S512x256 .bf16) (X : a.view.ty.Contents (Elt Ideal)) (off : Fin 2 → ℕ)
    (inb : ∀ x, off x + S512x128.size x ≤ S512x256.size x) (hh : Fin 2) (h : off = ![0, 128 * hh.val]) :
    View.readAt (Elt Ideal) a.view (Rect.unit (s := S512x256) off S512x128.size inb).toLoadRect X
      = blkQ (a.view.read (Elt Ideal) X) hh := by
  subst h
  funext y
  refine View.ld_unit_apply_of (a.view.read (Elt Ideal) X) _ _ inb y _ ?_
  intro x
  fin_cases x
  · show (y 0).val = 0 + (y 0).val
    omega
  · rfl

/-- The total weight of the diagonal block, later keys left out. -/
def dW (Q : Fin 2 → FVec Ideal S512x256 .bf16) (K B : FVec Ideal S8192x256 .bf16) (n : ℕ) (hh : Fin 2) (q : Fin 512) : ℝ :=
  wsum (qkm (Q hh) (blkK K hh n) (blkK B hh n) q)

/-- The weighted values of the diagonal block, later keys left out. -/
def dV (Q : Fin 2 → FVec Ideal S512x256 .bf16) (K B : FVec Ideal S8192x256 .bf16) (V : FVec Ideal S2x16x128x512 .bf16)
    (n : ℕ) (hh : Fin 2) (q : Fin 512) (d : Fin 128) : EReal :=
  vsum (qkm (Q hh) (blkK K hh n) (blkK B hh n) q) (fun k => blkV V hh n (ix4 0 0 d k))

/-- No score is minus infinity. -/
def NoBot (Q : Fin 2 → FVec Ideal S512x256 .bf16) (K B : FVec Ideal S8192x256 .bf16) : Prop :=
  ∀ (hh : Fin 2) (b : ℕ) (q k : Fin 512), qk (Q hh) (blkK K hh b) (blkK B hh b) q k ≠ ⊥

theorem dW_pos {Q : Fin 2 → FVec Ideal S512x256 .bf16} {K B : FVec Ideal S8192x256 .bf16} (hb : NoBot Q K B) (n : ℕ)
    (hh : Fin 2) (q : Fin 512) : 0 < dW Q K B n hh q := by
  refine Finset.sum_pos' (fun k _ => wt_nonneg _) ⟨q, Finset.mem_univ _, wt_pos ?_⟩
  unfold qkm
  rw [if_pos le_rfl]
  exact hb hh n q q

theorem accW_pos {Q : Fin 2 → FVec Ideal S512x256 .bf16} {K B : FVec Ideal S8192x256 .bf16} (hb : NoBot Q K B) (n m : ℕ)
    (hh : Fin 2) (q : Fin 512) : 0 < accW Q K B (dW Q K B n) m hh q := by
  refine add_pos_of_pos_of_nonneg (dW_pos hb n hh q) (Finset.sum_nonneg fun b _ => ?_)
  unfold bW wsum
  exact Finset.sum_nonneg fun k _ => wt_nonneg _

/-- The diagonal block's numbers, stored. -/
theorem diag_St (a8 a9 : Memref sig .tc .vmem S2x1x512 .f32) (a10 : Memref sig .tc .vmem S2x128x512 .f32)
    (X : FVec Ideal S512x256 .bf16) (K B : FVec Ideal S8192x256 .bf16) (V : FVec Ideal S2x16x128x512 .bf16) (n : ℕ)
    (hs : Fin' (QQ X) K B) (hb : NoBot (QQ X) K B) :
    St a8 a9 a10
      (a8.view.writes (Elt Ideal) a8.view.junk [⟨(Rect.unit (s := S2x1x512) ![1, 0, 0] S1x1x512.size inb_S2x1x512_S1x1x512_1_0_0), k0_pay114 (F := Ideal) (k0_pay110 (k0_pay101 (blkQ X 1)) (blkK K 1 n) (blkK B 1 n))⟩,
        ⟨(Rect.unit (s := S2x1x512) ![0, 0, 0] S1x1x512.size inb_S2x1x512_S1x1x512_0_0_0), k0_pay108 (F := Ideal) (k0_pay103 (blkQ X 0) (blkK K 0 n) (blkK B 0 n))⟩])
      (a9.view.writes (Elt Ideal) a9.view.junk [⟨(Rect.unit (s := S2x1x512) ![1, 0, 0] S1x1x512.size inb_S2x1x512_S1x1x512_1_0_0), k0_pay112 (F := Ideal) (k0_pay111 (k0_pay101 (blkQ X 1)) (blkK K 1 n) (blkK B 1 n))⟩,
        ⟨(Rect.unit (s := S2x1x512) ![0, 0, 0] S1x1x512.size inb_S2x1x512_S1x1x512_0_0_0), k0_pay106 (F := Ideal) (k0_pay105 (blkQ X 0) (blkK K 0 n) (blkK B 0 n))⟩])
      (a10.view.writes (Elt Ideal) a10.view.junk [⟨(Rect.unit (s := S2x128x512) ![1, 0, 0] S1x128x512.size inb_S2x128x512_S1x128x512_1_0_0), k0_pay113 (F := Ideal) (k0_pay111 (k0_pay101 (blkQ X 1)) (blkK K 1 n) (blkK B 1 n)) (blkV V 1 n)⟩,
        ⟨(Rect.unit (s := S2x128x512) ![0, 0, 0] S1x128x512.size inb_S2x128x512_S1x128x512_0_0_0), k0_pay107 (F := Ideal) (k0_pay104 (blkQ X 0) (blkK K 0 n) (blkK B 0 n)) (blkV V 0 n)⟩])
      (dW (QQ X) K B n) (dV (QQ X) K B V n) :=
  St_write a8 a9 a10 _ _ _ [] [] [] _ _ _ _ _ _
    (fun q d => first_0 (blkQ X 0) _ _ _ q d (hs 0 n q) (hb 0 n q q))
    (fun q d => first_1 (k0_pay101 (F := Ideal) (blkQ X 1)) _ _ _ q d (hs 1 n q) (hb 1 n q q))

/-- What the quotient needs: the sum and the weighted values, relative to some maximum. -/
def Done (a9 : Memref sig .tc .vmem S2x1x512 .f32) (a10 : Memref sig .tc .vmem S2x128x512 .f32)
    (f9 : a9.view.ty.Contents (Elt Ideal)) (f10 : a10.view.ty.Contents (Elt Ideal))
    (P : Fin 2 → Fin 512 → ℝ) (N : Fin 2 → Fin 512 → Fin 128 → EReal) : Prop :=
  ∀ (hh : Fin 2) (q : Fin 512) (d : Fin 128), ∃ M,
    Inv M (a9.view.read (Elt Ideal) f9 (ix3 hh 0 q)) (a10.view.read (Elt Ideal) f10 (ix3 hh d q)) (P hh q) (N hh q d)

theorem St.done {a8 a9 : Memref sig .tc .vmem S2x1x512 .f32} {a10 : Memref sig .tc .vmem S2x128x512 .f32}
    {f8 : a8.view.ty.Contents (Elt Ideal)} {f9 : a9.view.ty.Contents (Elt Ideal)} {f10 : a10.view.ty.Contents (Elt Ideal)}
    {P : Fin 2 → Fin 512 → ℝ} {N : Fin 2 → Fin 512 → Fin 128 → EReal} (h : St a8 a9 a10 f8 f9 f10 P N) :
    Done a9 a10 f9 f10 P N := fun hh q d => ⟨_, h hh q d⟩

theorem pair_hit (v : View sig .tc .vmem S512x256 .bf16) (f : v.ty.Contents (Elt Ideal)) (w1 w0 : FVec Ideal S512x128 .bf16)
    (hh : Fin 2) (q : Fin 512) (d : Fin 128) :
    v.read (Elt Ideal) (v.writes (Elt Ideal) f [⟨Rect.unit (s := S512x256) ![0, 128] S512x128.size inb_S512x256_S512x128_0_128, w1⟩,
        ⟨Rect.unit (s := S512x256) ![0, 0] S512x128.size inb_S512x256_S512x128_0_0, w0⟩]) (ix2 q ⟨128 * hh.val + d.val, by omega⟩)
      = (![w0, w1] : Fin 2 → FVec Ideal S512x128 .bf16) hh (ix2 q d) := by
  fin_cases hh
  · refine (View.read_writes_cons_unit_of_not_mem (s := S512x256) (off' := ![0, 128]) (size := S512x128.size) v f _ w1 _ _ rfl (1 : Fin 2) ?_).trans
      (View.read_writes_cons_unit_of_mem (s := S512x256) (off' := ![0, 0]) (size := S512x128.size) v f _ w0 [] _ (ix2 q d) rfl ?_)
    · show 128 * 0 + d.val < 128 ∨ _
      omega
    · intro x
      fin_cases x
      · show q.val = 0 + q.val
        omega
      · show 128 * 0 + d.val = 0 + d.val
        omega
  · refine (View.read_writes_cons_unit_of_mem (s := S512x256) (off' := ![0, 128]) (size := S512x128.size) v f _ w1 _ _ (ix2 q d) rfl ?_)
    intro x
    fin_cases x
    · show q.val = 0 + q.val
      omega
    · show 128 * 1 + d.val = 128 + d.val
      omega

/-- The two quotients, stored side by side. -/
theorem out_Done (v : View sig .tc .vmem S512x256 .bf16) (f : v.ty.Contents (Elt Ideal)) (a9 : Memref sig .tc .vmem S2x1x512 .f32)
    (a10 : Memref sig .tc .vmem S2x128x512 .f32) (L9 : List (View.Piece (Elt Ideal) S2x1x512 .f32))
    (L10 : List (View.Piece (Elt Ideal) S2x128x512 .f32)) {P : Fin 2 → Fin 512 → ℝ} {N : Fin 2 → Fin 512 → Fin 128 → EReal}
    (h : Done a9 a10 (a9.view.writes (Elt Ideal) a9.view.junk L9) (a10.view.writes (Elt Ideal) a10.view.junk L10) P N)
    (hP : ∀ hh q, 0 < P hh q) (hh : Fin 2) (q : Fin 512) (d : Fin 128) :
    v.read (Elt Ideal) (v.writes (Elt Ideal) f
      [⟨Rect.unit (s := S512x256) ![0, 128] S512x128.size inb_S512x256_S512x128_0_128,
          k0_pay1 (F := Ideal) (a10.view.readCov L10 (Rect.unit (s := S2x128x512) ![1, 0, 0] S1x128x512.size inb_S2x128x512_S1x128x512_1_0_0).toLoadRect) (a9.view.readCov L9 (Rect.unit (s := S2x1x512) ![1, 0, 0] S1x1x512.size inb_S2x1x512_S1x1x512_1_0_0).toLoadRect)⟩,
        ⟨Rect.unit (s := S512x256) ![0, 0] S512x128.size inb_S512x256_S512x128_0_0,
          k0_pay120 (F := Ideal) (a10.view.readCov L10 (Rect.unit (s := S2x128x512) ![0, 0, 0] S1x128x512.size inb_S2x128x512_S1x128x512_0_0_0).toLoadRect) (a9.view.readCov L9 (Rect.unit (s := S2x1x512) ![0, 0, 0] S1x1x512.size inb_S2x1x512_S1x1x512_0_0_0).toLoadRect)⟩])
      (ix2 q ⟨128 * hh.val + d.val, by omega⟩) = ((1 / P hh q : ℝ) : EReal) * N hh q d := by
  rw [pair_hit]
  obtain ⟨M, hM⟩ := h hh q d
  rw [← inv_div hM (hP hh q)]
  fin_cases hh
  · refine (out_0 _ _ q d).trans ?_
    exact congrArg₂ Ideal.div (load_plane a10 _ 0 _ _ rfl d q) (load_row a9 _ 0 _ _ rfl q)
  · refine (out_1 _ _ q d).trans ?_
    exact congrArg₂ Ideal.div (load_plane a10 _ 1 _ _ rfl d q) (load_row a9 _ 1 _ _ rfl q)

/-- The last single block. -/
theorem last_Done (a8 a9 : Memref sig .tc .vmem S2x1x512 .f32) (a10 : Memref sig .tc .vmem S2x128x512 .f32)
    (L8 L9 : List (View.Piece (Elt Ideal) S2x1x512 .f32)) (L10 : List (View.Piece (Elt Ideal) S2x128x512 .f32)) (Q : Fin 2 → FVec Ideal S512x256 .bf16)
    (K B : FVec Ideal S8192x256 .bf16) (V : FVec Ideal S2x16x128x512 .bf16) (n : ℕ) (w : FVec Ideal S1x1x512 .f32)
    {P : Fin 2 → Fin 512 → ℝ} {N : Fin 2 → Fin 512 → Fin 128 → EReal}
    (h : St a8 a9 a10 (a8.view.writes (Elt Ideal) a8.view.junk L8) (a9.view.writes (Elt Ideal) a9.view.junk L9)
      (a10.view.writes (Elt Ideal) a10.view.junk L10) P N) (hs : Fin' Q K B)
    (m0 l0 m1 l1 : FVec Ideal S1x1x512 .f32) (A0 A1 : FVec Ideal S1x128x512 .f32)
    (em0 : m0 = a8.view.readCov L8 (Rect.unit (s := S2x1x512) ![0, 0, 0] S1x1x512.size inb_S2x1x512_S1x1x512_0_0_0).toLoadRect) (el0 : l0 = a9.view.readCov L9 (Rect.unit (s := S2x1x512) ![0, 0, 0] S1x1x512.size inb_S2x1x512_S1x1x512_0_0_0).toLoadRect)
    (eA0 : A0 = a10.view.readCov L10 (Rect.unit (s := S2x128x512) ![0, 0, 0] S1x128x512.size inb_S2x128x512_S1x128x512_0_0_0).toLoadRect)
    (em1 : m1 = a8.view.readCov (⟨(Rect.unit (s := S2x1x512) ![0, 0, 0] S1x1x512.size inb_S2x1x512_S1x1x512_0_0_0), w⟩ :: L8) (Rect.unit (s := S2x1x512) ![1, 0, 0] S1x1x512.size inb_S2x1x512_S1x1x512_1_0_0).toLoadRect)
    (el1 : l1 = a9.view.readCov (⟨(Rect.unit (s := S2x1x512) ![0, 0, 0] S1x1x512.size inb_S2x1x512_S1x1x512_0_0_0), k0_pay88 (F := Ideal) (k0_pay87 (Q 0) (blkK K 0 n) (blkK B 0 n) m0 l0)⟩ :: L9) (Rect.unit (s := S2x1x512) ![1, 0, 0] S1x1x512.size inb_S2x1x512_S1x1x512_1_0_0).toLoadRect)
    (eA1 : A1 = a10.view.readCov (⟨(Rect.unit (s := S2x128x512) ![0, 0, 0] S1x128x512.size inb_S2x128x512_S1x128x512_0_0_0), k0_pay89 (F := Ideal) (k0_pay84 (Q 0) (blkK K 0 n) (blkK B 0 n) m0)
        (k0_pay86 (Q 0) (blkK K 0 n) (blkK B 0 n) m0 (blkV V 0 n)) A0⟩ :: L10) (Rect.unit (s := S2x128x512) ![1, 0, 0] S1x128x512.size inb_S2x128x512_S1x128x512_1_0_0).toLoadRect) :
    Done a9 a10
      (a9.view.writes (Elt Ideal) a9.view.junk
        (⟨(Rect.unit (s := S2x1x512) ![1, 0, 0] S1x1x512.size inb_S2x1x512_S1x1x512_1_0_0), k0_pay117 (F := Ideal) (k0_pay94 (Q 1) (blkK K 1 n) (blkK B 1 n) m1) (k0_pay96 (Q 1) (blkK K 1 n) (blkK B 1 n) m1) l1⟩
          :: ⟨(Rect.unit (s := S2x1x512) ![0, 0, 0] S1x1x512.size inb_S2x1x512_S1x1x512_0_0_0), k0_pay88 (F := Ideal) (k0_pay87 (Q 0) (blkK K 0 n) (blkK B 0 n) m0 l0)⟩ :: L9))
      (a10.view.writes (Elt Ideal) a10.view.junk
        (⟨(Rect.unit (s := S2x128x512) ![1, 0, 0] S1x128x512.size inb_S2x128x512_S1x128x512_1_0_0), k0_pay118 (F := Ideal) (k0_pay94 (Q 1) (blkK K 1 n) (blkK B 1 n) m1) (k0_pay95 (Q 1) (blkK K 1 n) (blkK B 1 n) m1)
            (blkV V 1 n) A1⟩
          :: ⟨(Rect.unit (s := S2x128x512) ![0, 0, 0] S1x128x512.size inb_S2x128x512_S1x128x512_0_0_0), k0_pay89 (F := Ideal) (k0_pay84 (Q 0) (blkK K 0 n) (blkK B 0 n) m0)
            (k0_pay86 (Q 0) (blkK K 0 n) (blkK B 0 n) m0 (blkV V 0 n)) A0⟩ :: L10))
      (fun hh q => P hh q + bW Q K B n hh q) (fun hh q d => N hh q d + bV Q K B V n hh q d) := by
  refine St.done (a8 := a8) (f8 := a8.view.writes (Elt Ideal) a8.view.junk
    (⟨(Rect.unit (s := S2x1x512) ![1, 0, 0] S1x1x512.size inb_S2x1x512_S1x1x512_1_0_0), k0_pay119 (F := Ideal) (k0_pay93 (Q 1) (blkK K 1 n) (blkK B 1 n) m1)⟩
      :: ⟨(Rect.unit (s := S2x1x512) ![0, 0, 0] S1x1x512.size inb_S2x1x512_S1x1x512_0_0_0), k0_pay90 (F := Ideal) (k0_pay83 (Q 0) (blkK K 0 n) (blkK B 0 n) m0)⟩ :: L8))
    (St_write a8 a9 a10 _ _ _ L8 L9 L10 _ _ _ _ _ _ (fun q d => ?_) (fun q d => ?_))
  · refine one_0 (Q 0) _ _ m0 l0 A0 _ q d (inv_congr (h 0 q d) ?_ ?_ ?_) (hs 0 n q)
    · rw [em0]; exact load_row a8 _ 0 _ _ rfl q
    · rw [el0]; exact load_row a9 _ 0 _ _ rfl q
    · rw [eA0]; exact load_plane a10 _ 0 _ _ rfl d q
  · refine one_1 (Q 1) _ _ m1 l1 A1 _ q d (inv_congr (h 1 q d) ?_ ?_ ?_) (hs 1 n q)
    · rw [em1]; exact (load_row a8 _ 1 _ _ rfl q).trans (row_miss a8 _ 0 1 (by decide) _ _ _ q)
    · rw [el1]; exact (load_row a9 _ 1 _ _ rfl q).trans (row_miss a9 _ 0 1 (by decide) _ _ _ q)
    · rw [eA1]; exact (load_plane a10 _ 1 _ _ rfl d q).trans (plane_miss a10 _ 0 1 (by decide) _ _ _ d q)

variable (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S512x256 .bf16) (harg6 : arg6.IsWhole) (arg7 : Memref sig .tc .vmem S2x16x128x512 .bf16) (harg7 : arg7.IsWhole) (arg8 : Memref sig .tc .vmem S2x1x512 .f32) (harg8 : arg8.IsWhole) (arg9 : Memref sig .tc .vmem S2x1x512 .f32) (harg9 : arg9.IsWhole) (arg10 : Memref sig .tc .vmem S2x128x512 .f32) (harg10 : arg10.IsWhole)
  (arg1 : BitVec 32) (v11 v13 : FVec Ideal S512x256 .bf16) (v94 : BitVec 32) (v105 v107 : BitVec 1) (v115 : BitVec 32)
  (X3 : arg3.view.ty.Contents (Elt Ideal)) (X5 : arg5.view.ty.Contents (Elt Ideal)) (X7 : arg7.view.ty.Contents (Elt Ideal))

set_option maxHeartbeats 1000000 in
/-- Both loops: the paired one takes all its trips, the remainder loop takes none. -/
theorem loops_St (L8 L9 : List (View.Piece (Elt Ideal) S2x1x512 .f32)) (L10 : List (View.Piece (Elt Ideal) S2x128x512 .f32)) {P : Fin 2 → Fin 512 → ℝ} {N : Fin 2 → Fin 512 → Fin 128 → EReal}
    (h : St arg8 arg9 arg10 (arg8.view.writes (Elt Ideal) arg8.view.junk L8) (arg9.view.writes (Elt Ideal) arg9.view.junk L9) (arg10.view.writes (Elt Ideal) arg10.view.junk L10) P N)
    (hs : Fin' (pairQ v11 v13) (arg3.view.read (Elt Ideal) X3) (arg5.view.read (Elt Ideal) X5)) :
    St arg8 arg9 arg10
      (arg8.view.writes (Elt Ideal) arg8.view.junk ((pb_k0_t2 (F := Ideal) Variants.none c none i arg2 harg2 arg3 harg3 arg4 harg4 arg5 harg5 arg6 harg6 arg7 harg7 arg8 harg8 arg9 harg9 arg10 harg10 arg1 v11 v13 v94 v105 v107 v115 X3 X5 X7 (arg8.view.writes (Elt Ideal) arg8.view.junk ((pb_k0_t1 (F := Ideal) Variants.none c none i arg2 harg2 arg3 harg3 arg4 harg4 arg5 harg5 arg6 harg6 arg7 harg7 arg8 harg8 arg9 harg9 arg10 harg10 arg1 v11 v13 v94 v105 v107 X3 X5 X7 (arg8.view.writes (Elt Ideal) arg8.view.junk L8) (arg9.view.writes (Elt Ideal) arg9.view.junk L9) (arg10.view.writes (Elt Ideal) arg10.view.junk L10) (Scf.trips (k0_t1_loop i).lb (k0_t1_loop i).ub (k0_t1_loop i).st)).1 ++ L8)) (arg9.view.writes (Elt Ideal) arg9.view.junk ((pb_k0_t1 (F := Ideal) Variants.none c none i arg2 harg2 arg3 harg3 arg4 harg4 arg5 harg5 arg6 harg6 arg7 harg7 arg8 harg8 arg9 harg9 arg10 harg10 arg1 v11 v13 v94 v105 v107 X3 X5 X7 (arg8.view.writes (Elt Ideal) arg8.view.junk L8) (arg9.view.writes (Elt Ideal) arg9.view.junk L9) (arg10.view.writes (Elt Ideal) arg10.view.junk L10) (Scf.trips (k0_t1_loop i).lb (k0_t1_loop i).ub (k0_t1_loop i).st)).2.1 ++ L9)) (arg10.view.writes (Elt Ideal) arg10.view.junk ((pb_k0_t1 (F := Ideal) Variants.none c none i arg2 harg2 arg3 harg3 arg4 harg4 arg5 harg5 arg6 harg6 arg7 harg7 arg8 harg8 arg9 harg9 arg10 harg10 arg1 v11 v13 v94 v105 v107 X3 X5 X7 (arg8.view.writes (Elt Ideal) arg8.view.junk L8) (arg9.view.writes (Elt Ideal) arg9.view.junk L9) (arg10.view.writes (Elt Ideal) arg10.view.junk L10) (Scf.trips (k0_t1_loop i).lb (k0_t1_loop i).ub (k0_t1_loop i).st)).2.2 ++ L10)) (Scf.trips (k0_t2_loop i).lb (k0_t2_loop i).ub (k0_t2_loop i).st)).1 ++ ((pb_k0_t1 (F := Ideal) Variants.none c none i arg2 harg2 arg3 harg3 arg4 harg4 arg5 harg5 arg6 harg6 arg7 harg7 arg8 harg8 arg9 harg9 arg10 harg10 arg1 v11 v13 v94 v105 v107 X3 X5 X7 (arg8.view.writes (Elt Ideal) arg8.view.junk L8) (arg9.view.writes (Elt Ideal) arg9.view.junk L9) (arg10.view.writes (Elt Ideal) arg10.view.junk L10) (Scf.trips (k0_t1_loop i).lb (k0_t1_loop i).ub (k0_t1_loop i).st)).1 ++ L8)))
      (arg9.view.writes (Elt Ideal) arg9.view.junk ((pb_k0_t2 (F := Ideal) Variants.none c none i arg2 harg2 arg3 harg3 arg4 harg4 arg5 harg5 arg6 harg6 arg7 harg7 arg8 harg8 arg9 harg9 arg10 harg10 arg1 v11 v13 v94 v105 v107 v115 X3 X5 X7 (arg8.view.writes (Elt Ideal) arg8.view.junk ((pb_k0_t1 (F := Ideal) Variants.none c none i arg2 harg2 arg3 harg3 arg4 harg4 arg5 harg5 arg6 harg6 arg7 harg7 arg8 harg8 arg9 harg9 arg10 harg10 arg1 v11 v13 v94 v105 v107 X3 X5 X7 (arg8.view.writes (Elt Ideal) arg8.view.junk L8) (arg9.view.writes (Elt Ideal) arg9.view.junk L9) (arg10.view.writes (Elt Ideal) arg10.view.junk L10) (Scf.trips (k0_t1_loop i).lb (k0_t1_loop i).ub (k0_t1_loop i).st)).1 ++ L8)) (arg9.view.writes (Elt Ideal) arg9.view.junk ((pb_k0_t1 (F := Ideal) Variants.none c none i arg2 harg2 arg3 harg3 arg4 harg4 arg5 harg5 arg6 harg6 arg7 harg7 arg8 harg8 arg9 harg9 arg10 harg10 arg1 v11 v13 v94 v105 v107 X3 X5 X7 (arg8.view.writes (Elt Ideal) arg8.view.junk L8) (arg9.view.writes (Elt Ideal) arg9.view.junk L9) (arg10.view.writes (Elt Ideal) arg10.view.junk L10) (Scf.trips (k0_t1_loop i).lb (k0_t1_loop i).ub (k0_t1_loop i).st)).2.1 ++ L9)) (arg10.view.writes (Elt Ideal) arg10.view.junk ((pb_k0_t1 (F := Ideal) Variants.none c none i arg2 harg2 arg3 harg3 arg4 harg4 arg5 harg5 arg6 harg6 arg7 harg7 arg8 harg8 arg9 harg9 arg10 harg10 arg1 v11 v13 v94 v105 v107 X3 X5 X7 (arg8.view.writes (Elt Ideal) arg8.view.junk L8) (arg9.view.writes (Elt Ideal) arg9.view.junk L9) (arg10.view.writes (Elt Ideal) arg10.view.junk L10) (Scf.trips (k0_t1_loop i).lb (k0_t1_loop i).ub (k0_t1_loop i).st)).2.2 ++ L10)) (Scf.trips (k0_t2_loop i).lb (k0_t2_loop i).ub (k0_t2_loop i).st)).2.1 ++ ((pb_k0_t1 (F := Ideal) Variants.none c none i arg2 harg2 arg3 harg3 arg4 harg4 arg5 harg5 arg6 harg6 arg7 harg7 arg8 harg8 arg9 harg9 arg10 harg10 arg1 v11 v13 v94 v105 v107 X3 X5 X7 (arg8.view.writes (Elt Ideal) arg8.view.junk L8) (arg9.view.writes (Elt Ideal) arg9.view.junk L9) (arg10.view.writes (Elt Ideal) arg10.view.junk L10) (Scf.trips (k0_t1_loop i).lb (k0_t1_loop i).ub (k0_t1_loop i).st)).2.1 ++ L9)))
      (arg10.view.writes (Elt Ideal) arg10.view.junk ((pb_k0_t2 (F := Ideal) Variants.none c none i arg2 harg2 arg3 harg3 arg4 harg4 arg5 harg5 arg6 harg6 arg7 harg7 arg8 harg8 arg9 harg9 arg10 harg10 arg1 v11 v13 v94 v105 v107 v115 X3 X5 X7 (arg8.view.writes (Elt Ideal) arg8.view.junk ((pb_k0_t1 (F := Ideal) Variants.none c none i arg2 harg2 arg3 harg3 arg4 harg4 arg5 harg5 arg6 harg6 arg7 harg7 arg8 harg8 arg9 harg9 arg10 harg10 arg1 v11 v13 v94 v105 v107 X3 X5 X7 (arg8.view.writes (Elt Ideal) arg8.view.junk L8) (arg9.view.writes (Elt Ideal) arg9.view.junk L9) (arg10.view.writes (Elt Ideal) arg10.view.junk L10) (Scf.trips (k0_t1_loop i).lb (k0_t1_loop i).ub (k0_t1_loop i).st)).1 ++ L8)) (arg9.view.writes (Elt Ideal) arg9.view.junk ((pb_k0_t1 (F := Ideal) Variants.none c none i arg2 harg2 arg3 harg3 arg4 harg4 arg5 harg5 arg6 harg6 arg7 harg7 arg8 harg8 arg9 harg9 arg10 harg10 arg1 v11 v13 v94 v105 v107 X3 X5 X7 (arg8.view.writes (Elt Ideal) arg8.view.junk L8) (arg9.view.writes (Elt Ideal) arg9.view.junk L9) (arg10.view.writes (Elt Ideal) arg10.view.junk L10) (Scf.trips (k0_t1_loop i).lb (k0_t1_loop i).ub (k0_t1_loop i).st)).2.1 ++ L9)) (arg10.view.writes (Elt Ideal) arg10.view.junk ((pb_k0_t1 (F := Ideal) Variants.none c none i arg2 harg2 arg3 harg3 arg4 harg4 arg5 harg5 arg6 harg6 arg7 harg7 arg8 harg8 arg9 harg9 arg10 harg10 arg1 v11 v13 v94 v105 v107 X3 X5 X7 (arg8.view.writes (Elt Ideal) arg8.view.junk L8) (arg9.view.writes (Elt Ideal) arg9.view.junk L9) (arg10.view.writes (Elt Ideal) arg10.view.junk L10) (Scf.trips (k0_t1_loop i).lb (k0_t1_loop i).ub (k0_t1_loop i).st)).2.2 ++ L10)) (Scf.trips (k0_t2_loop i).lb (k0_t2_loop i).ub (k0_t2_loop i).st)).2.2 ++ ((pb_k0_t1 (F := Ideal) Variants.none c none i arg2 harg2 arg3 harg3 arg4 harg4 arg5 harg5 arg6 harg6 arg7 harg7 arg8 harg8 arg9 harg9 arg10 harg10 arg1 v11 v13 v94 v105 v107 X3 X5 X7 (arg8.view.writes (Elt Ideal) arg8.view.junk L8) (arg9.view.writes (Elt Ideal) arg9.view.junk L9) (arg10.view.writes (Elt Ideal) arg10.view.junk L10) (Scf.trips (k0_t1_loop i).lb (k0_t1_loop i).ub (k0_t1_loop i).st)).2.2 ++ L10)))
      (accW (pairQ v11 v13) (arg3.view.read (Elt Ideal) X3) (arg5.view.read (Elt Ideal) X5) P (2 * ((i 1).val / 2)))
      (accV (pairQ v11 v13) (arg3.view.read (Elt Ideal) X3) (arg5.view.read (Elt Ideal) X5) (arg7.view.read (Elt Ideal) X7) N (2 * ((i 1).val / 2))) := by
  have e2 : Scf.trips (k0_t2_loop i).lb (k0_t2_loop i).ub (k0_t2_loop i).st = 0 := trips2 i
  rw [e2, ← trips1 i]
  have hl := loop_St c i arg2 harg2 arg3 harg3 arg4 harg4 arg5 harg5 arg6 harg6 arg7 harg7 arg8 harg8 arg9 harg9 arg10 harg10 arg1 v11 v13 v94 v105 v107 X3 X5 X7 _ _ _ h hs (k0_t1_loop i).trips le_rfl
  rw [← View.writes_append, ← View.writes_append, ← View.writes_append] at hl
  exact hl

end Cert.FlashIdeal.Body

end
-- ==== Proof.Cases.lean ====
module

public import proofs.«01_k».proof.Proof.Body

@[expose] public section

set_option maxRecDepth 16384

noncomputable section

/-! # The output block of the attention body, in the three cases -/

open Idealize.ShloMosaic Idealize.ShloMosaic.TcCoe Idealize.SL.Sem

namespace Cert.FlashIdeal.Body

open Cert.FlashIdeal Cert.FlashIdeal.Gen

open Cert.Online Cert.FlashIdeal.Pay

/-- The attention of query `q` of block `n`: the weighted values over the total weight. -/
def att (X : FVec Ideal S512x256 .bf16) (K B : FVec Ideal S8192x256 .bf16) (V : FVec Ideal S2x16x128x512 .bf16) (n : ℕ)
    (hh : Fin 2) (q : Fin 512) (d : Fin 128) : EReal :=
  ((1 / accW (QQ X) K B (dW (QQ X) K B n) n hh q : ℝ) : EReal) * accV (QQ X) K B V (dV (QQ X) K B V n) n hh q d

theorem add_one_more {M : Type*} [AddCommMonoid M] (a : M) (f : ℕ → M) (n : ℕ) :
    a + ∑ b ∈ Finset.range n, f b + f n = a + ∑ b ∈ Finset.range (n + 1), f b := by
  rw [Finset.sum_range_succ, add_assoc]

variable (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S512x256 .bf16) (harg6 : arg6.IsWhole) (arg7 : Memref sig .tc .vmem S2x16x128x512 .bf16) (harg7 : arg7.IsWhole) (arg8 : Memref sig .tc .vmem S2x1x512 .f32) (harg8 : arg8.IsWhole) (arg9 : Memref sig .tc .vmem S2x1x512 .f32) (harg9 : arg9.IsWhole) (arg10 : Memref sig .tc .vmem S2x128x512 .f32) (harg10 : arg10.IsWhole)
  (x0 : FVec Ideal S512x256 .bf16) (x1 x2 x3 : FVec Ideal S8192x256 .bf16) (xs0 : FVec Ideal S2x16x128x512 .bf16)

theorem diag_C (hs : Fin' (QQ x0) x1 x3) (hb : NoBot (QQ x0) x1 x3) :
    St arg8 arg9 arg10 (arg8.view.writes (Elt Ideal) arg8.view.junk (kernelRun0_C.sl.HS1_2 (F := Ideal) c i arg2 harg2 arg3 harg3 arg5 harg5 x0 x1 x3)) (arg9.view.writes (Elt Ideal) arg9.view.junk (kernelRun0_C.sl.HS2_2 (F := Ideal) c i arg2 harg2 arg3 harg3 arg5 harg5 x0 x1 x3)) (arg10.view.writes (Elt Ideal) arg10.view.junk (kernelRun0_C.sl.HS3_2 (F := Ideal) c i arg2 harg2 arg3 harg3 arg5 harg5 arg7 harg7 x0 x1 x3 xs0))
      (dW (QQ x0) x1 x3 (i 1).val) (dV (QQ x0) x1 x3 xs0 (i 1).val) := by
  have hi : (i 1).val < 16 := (i 1).isLt
  have h := diag_St arg8 arg9 arg10 x0 x1 x3 xs0 (i 1).val hs hb
  unfold kernelRun0_C.sl.HS1_2 kernelRun0_C.sl.HS2_2 kernelRun0_C.sl.HS3_2 kernelRun0_C.sl.r_2 kernelRun0_C.sl.r_3 kernelRun0_C.sl.r_4 kernelRun0_C.sl.r_5 kernelRun0_C.sl.r_6 kernelRun0_C.sl.r_1
  rw [load_blkQ arg2 _ ![0, 0] _ 0 rfl, load_blkQ arg2 _ ![0, 128] _ 1 rfl,
    load_blkK arg3 _ _ _ 0 (i 1).val hi (k0_off1_eq i), load_blkK arg5 _ _ _ 0 (i 1).val hi (k0_off1_eq i),
    load_blkK arg3 _ _ _ 1 (i 1).val hi (k0_off3_eq i), load_blkK arg5 _ _ _ 1 (i 1).val hi (k0_off3_eq i),
    load_blkV arg7 _ _ _ 0 (i 1).val hi (k0_off2_eq i), load_blkV arg7 _ _ _ 1 (i 1).val hi (k0_off4_eq i)]
  rw [harg2.read_unread, harg3.read_unread, harg5.read_unread, harg7.read_unread]
  exact h

theorem pair_C : pairQ (kernelRun0_C.sl.r (F := Ideal) c arg2 harg2 x0) (kernelRun0_C.sl.r_1 (F := Ideal) c arg2 harg2 x0) = QQ x0 := by
  unfold QQ kernelRun0_C.sl.r kernelRun0_C.sl.r_1
  rw [load_blkQ arg2 _ ![0, 0] _ 0 rfl, load_blkQ arg2 _ ![0, 128] _ 1 rfl, harg2.read_unread]

/-- The scratch after both loops, case C. -/
theorem loops_C (hs : Fin' (QQ x0) x1 x3) (hb : NoBot (QQ x0) x1 x3) :
    St arg8 arg9 arg10
      (arg8.view.writes (Elt Ideal) arg8.view.junk ((pb_k0_t2 (F := Ideal) Variants.none c none i arg2 harg2 arg3 harg3 arg4 harg4 arg5 harg5 arg6 harg6 arg7 harg7 arg8 harg8 arg9 harg9 arg10 harg10 (BitVec.ofNat 32 ↑(i 1)) (kernelRun0_C.sl.r (F := Ideal) c arg2 harg2 x0) (kernelRun0_C.sl.r_1 (F := Ideal) c arg2 harg2 x0) (kernelRun0_C.sl.v94 i) (kernelRun0_C.sl.v105 i) (kernelRun0_C.sl.v107 i) (kernelRun0_C.sl.v115 i) (harg3.unread x1) (harg5.unread x3) (harg7.unread xs0) (arg8.view.writes (Elt Ideal) arg8.view.junk ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_C.sl.r (F := Ideal) c arg2 harg2 x0) (kernelRun0_C.sl.r_1 (F := Ideal) c arg2 harg2 x0) (kernelRun0_C.sl.v94 i) (kernelRun0_C.sl.v105 i) (kernelRun0_C.sl.v107 i) (harg3.unread x1) (harg5.unread x3) (harg7.unread xs0) (arg8.view.writes (Elt Ideal) arg8.view.junk (kernelRun0_C.sl.HS1_2 (F := Ideal) c i arg2 harg2 arg3 harg3 arg5 harg5 x0 x1 x3)) (arg9.view.writes (Elt Ideal) arg9.view.junk (kernelRun0_C.sl.HS2_2 (F := Ideal) c i arg2 harg2 arg3 harg3 arg5 harg5 x0 x1 x3)) (arg10.view.writes (Elt Ideal) arg10.view.junk (kernelRun0_C.sl.HS3_2 (F := Ideal) c i arg2 harg2 arg3 harg3 arg5 harg5 arg7 harg7 x0 x1 x3 xs0)) (Scf.trips (k0_t1_loop i).lb (k0_t1_loop i).ub (k0_t1_loop i).st)).1 ++ (kernelRun0_C.sl.HS1_2 (F := Ideal) c i arg2 harg2 arg3 harg3 arg5 harg5 x0 x1 x3))) (arg9.view.writes (Elt Ideal) arg9.view.junk ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_C.sl.r (F := Ideal) c arg2 harg2 x0) (kernelRun0_C.sl.r_1 (F := Ideal) c arg2 harg2 x0) (kernelRun0_C.sl.v94 i) (kernelRun0_C.sl.v105 i) (kernelRun0_C.sl.v107 i) (harg3.unread x1) (harg5.unread x3) (harg7.unread xs0) (arg8.view.writes (Elt Ideal) arg8.view.junk (kernelRun0_C.sl.HS1_2 (F := Ideal) c i arg2 harg2 arg3 harg3 arg5 harg5 x0 x1 x3)) (arg9.view.writes (Elt Ideal) arg9.view.junk (kernelRun0_C.sl.HS2_2 (F := Ideal) c i arg2 harg2 arg3 harg3 arg5 harg5 x0 x1 x3)) (arg10.view.writes (Elt Ideal) arg10.view.junk (kernelRun0_C.sl.HS3_2 (F := Ideal) c i arg2 harg2 arg3 harg3 arg5 harg5 arg7 harg7 x0 x1 x3 xs0)) (Scf.trips (k0_t1_loop i).lb (k0_t1_loop i).ub (k0_t1_loop i).st)).2.1 ++ (kernelRun0_C.sl.HS2_2 (F := Ideal) c i arg2 harg2 arg3 harg3 arg5 harg5 x0 x1 x3))) (arg10.view.writes (Elt Ideal) arg10.view.junk ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_C.sl.r (F := Ideal) c arg2 harg2 x0) (kernelRun0_C.sl.r_1 (F := Ideal) c arg2 harg2 x0) (kernelRun0_C.sl.v94 i) (kernelRun0_C.sl.v105 i) (kernelRun0_C.sl.v107 i) (harg3.unread x1) (harg5.unread x3) (harg7.unread xs0) (arg8.view.writes (Elt Ideal) arg8.view.junk (kernelRun0_C.sl.HS1_2 (F := Ideal) c i arg2 harg2 arg3 harg3 arg5 harg5 x0 x1 x3)) (arg9.view.writes (Elt Ideal) arg9.view.junk (kernelRun0_C.sl.HS2_2 (F := Ideal) c i arg2 harg2 arg3 harg3 arg5 harg5 x0 x1 x3)) (arg10.view.writes (Elt Ideal) arg10.view.junk (kernelRun0_C.sl.HS3_2 (F := Ideal) c i arg2 harg2 arg3 harg3 arg5 harg5 arg7 harg7 x0 x1 x3 xs0)) (Scf.trips (k0_t1_loop i).lb (k0_t1_loop i).ub (k0_t1_loop i).st)).2.2 ++ (kernelRun0_C.sl.HS3_2 (F := Ideal) c i arg2 harg2 arg3 harg3 arg5 harg5 arg7 harg7 x0 x1 x3 xs0))) (Scf.trips (k0_t2_loop i).lb (k0_t2_loop i).ub (k0_t2_loop i).st)).1 ++ ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_C.sl.r (F := Ideal) c arg2 harg2 x0) (kernelRun0_C.sl.r_1 (F := Ideal) c arg2 harg2 x0) (kernelRun0_C.sl.v94 i) (kernelRun0_C.sl.v105 i) (kernelRun0_C.sl.v107 i) (harg3.unread x1) (harg5.unread x3) (harg7.unread xs0) (arg8.view.writes (Elt Ideal) arg8.view.junk (kernelRun0_C.sl.HS1_2 (F := Ideal) c i arg2 harg2 arg3 harg3 arg5 harg5 x0 x1 x3)) (arg9.view.writes (Elt Ideal) arg9.view.junk (kernelRun0_C.sl.HS2_2 (F := Ideal) c i arg2 harg2 arg3 harg3 arg5 harg5 x0 x1 x3)) (arg10.view.writes (Elt Ideal) arg10.view.junk (kernelRun0_C.sl.HS3_2 (F := Ideal) c i arg2 harg2 arg3 harg3 arg5 harg5 arg7 harg7 x0 x1 x3 xs0)) (Scf.trips (k0_t1_loop i).lb (k0_t1_loop i).ub (k0_t1_loop i).st)).1 ++ (kernelRun0_C.sl.HS1_2 (F := Ideal) c i arg2 harg2 arg3 harg3 arg5 harg5 x0 x1 x3))))
      (arg9.view.writes (Elt Ideal) arg9.view.junk ((pb_k0_t2 (F := Ideal) Variants.none c none i arg2 harg2 arg3 harg3 arg4 harg4 arg5 harg5 arg6 harg6 arg7 harg7 arg8 harg8 arg9 harg9 arg10 harg10 (BitVec.ofNat 32 ↑(i 1)) (kernelRun0_C.sl.r (F := Ideal) c arg2 harg2 x0) (kernelRun0_C.sl.r_1 (F := Ideal) c arg2 harg2 x0) (kernelRun0_C.sl.v94 i) (kernelRun0_C.sl.v105 i) (kernelRun0_C.sl.v107 i) (kernelRun0_C.sl.v115 i) (harg3.unread x1) (harg5.unread x3) (harg7.unread xs0) (arg8.view.writes (Elt Ideal) arg8.view.junk ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_C.sl.r (F := Ideal) c arg2 harg2 x0) (kernelRun0_C.sl.r_1 (F := Ideal) c arg2 harg2 x0) (kernelRun0_C.sl.v94 i) (kernelRun0_C.sl.v105 i) (kernelRun0_C.sl.v107 i) (harg3.unread x1) (harg5.unread x3) (harg7.unread xs0) (arg8.view.writes (Elt Ideal) arg8.view.junk (kernelRun0_C.sl.HS1_2 (F := Ideal) c i arg2 harg2 arg3 harg3 arg5 harg5 x0 x1 x3)) (arg9.view.writes (Elt Ideal) arg9.view.junk (kernelRun0_C.sl.HS2_2 (F := Ideal) c i arg2 harg2 arg3 harg3 arg5 harg5 x0 x1 x3)) (arg10.view.writes (Elt Ideal) arg10.view.junk (kernelRun0_C.sl.HS3_2 (F := Ideal) c i arg2 harg2 arg3 harg3 arg5 harg5 arg7 harg7 x0 x1 x3 xs0)) (Scf.trips (k0_t1_loop i).lb (k0_t1_loop i).ub (k0_t1_loop i).st)).1 ++ (kernelRun0_C.sl.HS1_2 (F := Ideal) c i arg2 harg2 arg3 harg3 arg5 harg5 x0 x1 x3))) (arg9.view.writes (Elt Ideal) arg9.view.junk ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_C.sl.r (F := Ideal) c arg2 harg2 x0) (kernelRun0_C.sl.r_1 (F := Ideal) c arg2 harg2 x0) (kernelRun0_C.sl.v94 i) (kernelRun0_C.sl.v105 i) (kernelRun0_C.sl.v107 i) (harg3.unread x1) (harg5.unread x3) (harg7.unread xs0) (arg8.view.writes (Elt Ideal) arg8.view.junk (kernelRun0_C.sl.HS1_2 (F := Ideal) c i arg2 harg2 arg3 harg3 arg5 harg5 x0 x1 x3)) (arg9.view.writes (Elt Ideal) arg9.view.junk (kernelRun0_C.sl.HS2_2 (F := Ideal) c i arg2 harg2 arg3 harg3 arg5 harg5 x0 x1 x3)) (arg10.view.writes (Elt Ideal) arg10.view.junk (kernelRun0_C.sl.HS3_2 (F := Ideal) c i arg2 harg2 arg3 harg3 arg5 harg5 arg7 harg7 x0 x1 x3 xs0)) (Scf.trips (k0_t1_loop i).lb (k0_t1_loop i).ub (k0_t1_loop i).st)).2.1 ++ (kernelRun0_C.sl.HS2_2 (F := Ideal) c i arg2 harg2 arg3 harg3 arg5 harg5 x0 x1 x3))) (arg10.view.writes (Elt Ideal) arg10.view.junk ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_C.sl.r (F := Ideal) c arg2 harg2 x0) (kernelRun0_C.sl.r_1 (F := Ideal) c arg2 harg2 x0) (kernelRun0_C.sl.v94 i) (kernelRun0_C.sl.v105 i) (kernelRun0_C.sl.v107 i) (harg3.unread x1) (harg5.unread x3) (harg7.unread xs0) (arg8.view.writes (Elt Ideal) arg8.view.junk (kernelRun0_C.sl.HS1_2 (F := Ideal) c i arg2 harg2 arg3 harg3 arg5 harg5 x0 x1 x3)) (arg9.view.writes (Elt Ideal) arg9.view.junk (kernelRun0_C.sl.HS2_2 (F := Ideal) c i arg2 harg2 arg3 harg3 arg5 harg5 x0 x1 x3)) (arg10.view.writes (Elt Ideal) arg10.view.junk (kernelRun0_C.sl.HS3_2 (F := Ideal) c i arg2 harg2 arg3 harg3 arg5 harg5 arg7 harg7 x0 x1 x3 xs0)) (Scf.trips (k0_t1_loop i).lb (k0_t1_loop i).ub (k0_t1_loop i).st)).2.2 ++ (kernelRun0_C.sl.HS3_2 (F := Ideal) c i arg2 harg2 arg3 harg3 arg5 harg5 arg7 harg7 x0 x1 x3 xs0))) (Scf.trips (k0_t2_loop i).lb (k0_t2_loop i).ub (k0_t2_loop i).st)).2.1 ++ ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_C.sl.r (F := Ideal) c arg2 harg2 x0) (kernelRun0_C.sl.r_1 (F := Ideal) c arg2 harg2 x0) (kernelRun0_C.sl.v94 i) (kernelRun0_C.sl.v105 i) (kernelRun0_C.sl.v107 i) (harg3.unread x1) (harg5.unread x3) (harg7.unread xs0) (arg8.view.writes (Elt Ideal) arg8.view.junk (kernelRun0_C.sl.HS1_2 (F := Ideal) c i arg2 harg2 arg3 harg3 arg5 harg5 x0 x1 x3)) (arg9.view.writes (Elt Ideal) arg9.view.junk (kernelRun0_C.sl.HS2_2 (F := Ideal) c i arg2 harg2 arg3 harg3 arg5 harg5 x0 x1 x3)) (arg10.view.writes (Elt Ideal) arg10.view.junk (kernelRun0_C.sl.HS3_2 (F := Ideal) c i arg2 harg2 arg3 harg3 arg5 harg5 arg7 harg7 x0 x1 x3 xs0)) (Scf.trips (k0_t1_loop i).lb (k0_t1_loop i).ub (k0_t1_loop i).st)).2.1 ++ (kernelRun0_C.sl.HS2_2 (F := Ideal) c i arg2 harg2 arg3 harg3 arg5 harg5 x0 x1 x3))))
      (arg10.view.writes (Elt Ideal) arg10.view.junk ((pb_k0_t2 (F := Ideal) Variants.none c none i arg2 harg2 arg3 harg3 arg4 harg4 arg5 harg5 arg6 harg6 arg7 harg7 arg8 harg8 arg9 harg9 arg10 harg10 (BitVec.ofNat 32 ↑(i 1)) (kernelRun0_C.sl.r (F := Ideal) c arg2 harg2 x0) (kernelRun0_C.sl.r_1 (F := Ideal) c arg2 harg2 x0) (kernelRun0_C.sl.v94 i) (kernelRun0_C.sl.v105 i) (kernelRun0_C.sl.v107 i) (kernelRun0_C.sl.v115 i) (harg3.unread x1) (harg5.unread x3) (harg7.unread xs0) (arg8.view.writes (Elt Ideal) arg8.view.junk ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_C.sl.r (F := Ideal) c arg2 harg2 x0) (kernelRun0_C.sl.r_1 (F := Ideal) c arg2 harg2 x0) (kernelRun0_C.sl.v94 i) (kernelRun0_C.sl.v105 i) (kernelRun0_C.sl.v107 i) (harg3.unread x1) (harg5.unread x3) (harg7.unread xs0) (arg8.view.writes (Elt Ideal) arg8.view.junk (kernelRun0_C.sl.HS1_2 (F := Ideal) c i arg2 harg2 arg3 harg3 arg5 harg5 x0 x1 x3)) (arg9.view.writes (Elt Ideal) arg9.view.junk (kernelRun0_C.sl.HS2_2 (F := Ideal) c i arg2 harg2 arg3 harg3 arg5 harg5 x0 x1 x3)) (arg10.view.writes (Elt Ideal) arg10.view.junk (kernelRun0_C.sl.HS3_2 (F := Ideal) c i arg2 harg2 arg3 harg3 arg5 harg5 arg7 harg7 x0 x1 x3 xs0)) (Scf.trips (k0_t1_loop i).lb (k0_t1_loop i).ub (k0_t1_loop i).st)).1 ++ (kernelRun0_C.sl.HS1_2 (F := Ideal) c i arg2 harg2 arg3 harg3 arg5 harg5 x0 x1 x3))) (arg9.view.writes (Elt Ideal) arg9.view.junk ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_C.sl.r (F := Ideal) c arg2 harg2 x0) (kernelRun0_C.sl.r_1 (F := Ideal) c arg2 harg2 x0) (kernelRun0_C.sl.v94 i) (kernelRun0_C.sl.v105 i) (kernelRun0_C.sl.v107 i) (harg3.unread x1) (harg5.unread x3) (harg7.unread xs0) (arg8.view.writes (Elt Ideal) arg8.view.junk (kernelRun0_C.sl.HS1_2 (F := Ideal) c i arg2 harg2 arg3 harg3 arg5 harg5 x0 x1 x3)) (arg9.view.writes (Elt Ideal) arg9.view.junk (kernelRun0_C.sl.HS2_2 (F := Ideal) c i arg2 harg2 arg3 harg3 arg5 harg5 x0 x1 x3)) (arg10.view.writes (Elt Ideal) arg10.view.junk (kernelRun0_C.sl.HS3_2 (F := Ideal) c i arg2 harg2 arg3 harg3 arg5 harg5 arg7 harg7 x0 x1 x3 xs0)) (Scf.trips (k0_t1_loop i).lb (k0_t1_loop i).ub (k0_t1_loop i).st)).2.1 ++ (kernelRun0_C.sl.HS2_2 (F := Ideal) c i arg2 harg2 arg3 harg3 arg5 harg5 x0 x1 x3))) (arg10.view.writes (Elt Ideal) arg10.view.junk ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_C.sl.r (F := Ideal) c arg2 harg2 x0) (kernelRun0_C.sl.r_1 (F := Ideal) c arg2 harg2 x0) (kernelRun0_C.sl.v94 i) (kernelRun0_C.sl.v105 i) (kernelRun0_C.sl.v107 i) (harg3.unread x1) (harg5.unread x3) (harg7.unread xs0) (arg8.view.writes (Elt Ideal) arg8.view.junk (kernelRun0_C.sl.HS1_2 (F := Ideal) c i arg2 harg2 arg3 harg3 arg5 harg5 x0 x1 x3)) (arg9.view.writes (Elt Ideal) arg9.view.junk (kernelRun0_C.sl.HS2_2 (F := Ideal) c i arg2 harg2 arg3 harg3 arg5 harg5 x0 x1 x3)) (arg10.view.writes (Elt Ideal) arg10.view.junk (kernelRun0_C.sl.HS3_2 (F := Ideal) c i arg2 harg2 arg3 harg3 arg5 harg5 arg7 harg7 x0 x1 x3 xs0)) (Scf.trips (k0_t1_loop i).lb (k0_t1_loop i).ub (k0_t1_loop i).st)).2.2 ++ (kernelRun0_C.sl.HS3_2 (F := Ideal) c i arg2 harg2 arg3 harg3 arg5 harg5 arg7 harg7 x0 x1 x3 xs0))) (Scf.trips (k0_t2_loop i).lb (k0_t2_loop i).ub (k0_t2_loop i).st)).2.2 ++ ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_C.sl.r (F := Ideal) c arg2 harg2 x0) (kernelRun0_C.sl.r_1 (F := Ideal) c arg2 harg2 x0) (kernelRun0_C.sl.v94 i) (kernelRun0_C.sl.v105 i) (kernelRun0_C.sl.v107 i) (harg3.unread x1) (harg5.unread x3) (harg7.unread xs0) (arg8.view.writes (Elt Ideal) arg8.view.junk (kernelRun0_C.sl.HS1_2 (F := Ideal) c i arg2 harg2 arg3 harg3 arg5 harg5 x0 x1 x3)) (arg9.view.writes (Elt Ideal) arg9.view.junk (kernelRun0_C.sl.HS2_2 (F := Ideal) c i arg2 harg2 arg3 harg3 arg5 harg5 x0 x1 x3)) (arg10.view.writes (Elt Ideal) arg10.view.junk (kernelRun0_C.sl.HS3_2 (F := Ideal) c i arg2 harg2 arg3 harg3 arg5 harg5 arg7 harg7 x0 x1 x3 xs0)) (Scf.trips (k0_t1_loop i).lb (k0_t1_loop i).ub (k0_t1_loop i).st)).2.2 ++ (kernelRun0_C.sl.HS3_2 (F := Ideal) c i arg2 harg2 arg3 harg3 arg5 harg5 arg7 harg7 x0 x1 x3 xs0))))
      (accW (QQ x0) x1 x3 (dW (QQ x0) x1 x3 (i 1).val) (2 * ((i 1).val / 2)))
      (accV (QQ x0) x1 x3 xs0 (dV (QQ x0) x1 x3 xs0 (i 1).val) (2 * ((i 1).val / 2))) := by
  have hp := pair_C c arg2 harg2 x0
  have h := loops_St c i arg2 harg2 arg3 harg3 arg4 harg4 arg5 harg5 arg6 harg6 arg7 harg7 arg8 harg8 arg9 harg9 arg10 harg10 (BitVec.ofNat 32 ↑(i 1)) (kernelRun0_C.sl.r (F := Ideal) c arg2 harg2 x0) (kernelRun0_C.sl.r_1 (F := Ideal) c arg2 harg2 x0) (kernelRun0_C.sl.v94 i) (kernelRun0_C.sl.v105 i) (kernelRun0_C.sl.v107 i) (kernelRun0_C.sl.v115 i) (harg3.unread x1) (harg5.unread x3) (harg7.unread xs0) _ _ _ (diag_C c i arg2 harg2 arg3 harg3 arg5 harg5 arg7 harg7 arg8 arg9 arg10 x0 x1 x3 xs0 hs hb)
    (by rw [hp, harg3.read_unread, harg5.read_unread]; exact hs)
  rw [hp, harg3.read_unread, harg5.read_unread, harg7.read_unread] at h
  exact h

set_option maxHeartbeats 1000000 in
/-- What the body leaves in the output block, case C. -/
theorem out_C (hc0 : ¬ cond0_0 i) (hc1 : ¬ cond0_1 i) (hs : Fin' (QQ x0) x1 x3) (hb : NoBot (QQ x0) x1 x3) (hh : Fin 2) (q : Fin 512) (d : Fin 128) :
    out0_C_4 (F := Ideal) c i arg2 harg2 arg3 harg3 arg4 harg4 arg5 harg5 arg6 harg6 arg7 harg7 arg8 harg8 arg9 harg9 arg10 harg10 hc0 hc1 x0 x1 x2 x3 xs0 (ix2 q ⟨128 * hh.val + d.val, by omega⟩)
      = att x0 x1 x3 xs0 (i 1).val hh q d := by
  have hn : 2 * ((i 1).val / 2) = (i 1).val := by
    have := (cond1 i).not.mp hc1
    omega
  have hl := loops_C c i arg2 harg2 arg3 harg3 arg4 harg4 arg5 harg5 arg6 harg6 arg7 harg7 arg8 harg8 arg9 harg9 arg10 harg10 x0 x1 x3 xs0 hs hb
  rw [hn] at hl
  unfold out0_C_4 kernelRun0_C
  dsimp only
  exact out_Done VO0_4 _ arg9 arg10 _ _ hl.done (fun hh q => accW_pos hb _ _ hh q) hh q d

theorem diag_A (hs : Fin' (QQ x0) x1 x3) (hb : NoBot (QQ x0) x1 x3) :
    St arg8 arg9 arg10 (arg8.view.writes (Elt Ideal) arg8.view.junk (kernelRun0_A.sl.HS1_2 (F := Ideal) c i arg2 harg2 arg3 harg3 arg5 harg5 x0 x1 x3)) (arg9.view.writes (Elt Ideal) arg9.view.junk (kernelRun0_A.sl.HS2_2 (F := Ideal) c i arg2 harg2 arg3 harg3 arg5 harg5 x0 x1 x3)) (arg10.view.writes (Elt Ideal) arg10.view.junk (kernelRun0_A.sl.HS3_2 (F := Ideal) c i arg2 harg2 arg3 harg3 arg4 harg4 arg5 harg5 arg7 x0 x1 x2 x3))
      (dW (QQ x0) x1 x3 (i 1).val) (dV (QQ x0) x1 x3 (arg7.view.read (Elt Ideal) (arg7.view.writes (Elt Ideal) arg7.view.junk (kernelRun0_A.sl.HS0_32 (F := Ideal) c arg4 harg4 x2))) (i 1).val) := by
  have hi : (i 1).val < 16 := (i 1).isLt
  have h := diag_St arg8 arg9 arg10 x0 x1 x3 (arg7.view.read (Elt Ideal) (arg7.view.writes (Elt Ideal) arg7.view.junk (kernelRun0_A.sl.HS0_32 (F := Ideal) c arg4 harg4 x2))) (i 1).val hs hb
  unfold kernelRun0_A.sl.HS1_2 kernelRun0_A.sl.HS2_2 kernelRun0_A.sl.HS3_2 kernelRun0_A.sl.r_7 kernelRun0_A.sl.r_8 kernelRun0_A.sl.r_9 kernelRun0_A.sl.r_10 kernelRun0_A.sl.r_11 kernelRun0_A.sl.r_6
  rw [load_blkQ arg2 _ ![0, 0] _ 0 rfl, load_blkQ arg2 _ ![0, 128] _ 1 rfl,
    load_blkK arg3 _ _ _ 0 (i 1).val hi (k0_off1_eq i), load_blkK arg5 _ _ _ 0 (i 1).val hi (k0_off1_eq i),
    load_blkK arg3 _ _ _ 1 (i 1).val hi (k0_off3_eq i), load_blkK arg5 _ _ _ 1 (i 1).val hi (k0_off3_eq i),
    load_blkV arg7 _ _ _ 0 (i 1).val hi (k0_off2_eq i), load_blkV arg7 _ _ _ 1 (i 1).val hi (k0_off4_eq i)]
  rw [harg2.read_unread, harg3.read_unread, harg5.read_unread]
  exact h

theorem pair_A : pairQ (kernelRun0_A.sl.r_5 (F := Ideal) c arg2 harg2 x0) (kernelRun0_A.sl.r_6 (F := Ideal) c arg2 harg2 x0) = QQ x0 := by
  unfold QQ kernelRun0_A.sl.r_5 kernelRun0_A.sl.r_6
  rw [load_blkQ arg2 _ ![0, 0] _ 0 rfl, load_blkQ arg2 _ ![0, 128] _ 1 rfl, harg2.read_unread]

/-- The scratch after both loops, case A. -/
theorem loops_A (hs : Fin' (QQ x0) x1 x3) (hb : NoBot (QQ x0) x1 x3) :
    St arg8 arg9 arg10
      (arg8.view.writes (Elt Ideal) arg8.view.junk ((pb_k0_t2 (F := Ideal) Variants.none c none i arg2 harg2 arg3 harg3 arg4 harg4 arg5 harg5 arg6 harg6 arg7 harg7 arg8 harg8 arg9 harg9 arg10 harg10 (BitVec.ofNat 32 ↑(i 1)) (kernelRun0_A.sl.r_5 (F := Ideal) c arg2 harg2 x0) (kernelRun0_A.sl.r_6 (F := Ideal) c arg2 harg2 x0) (kernelRun0_A.sl.v94 i) (kernelRun0_A.sl.v105 i) (kernelRun0_A.sl.v107 i) (kernelRun0_A.sl.v115 i) (harg3.unread x1) (harg5.unread x3) (arg7.view.writes (Elt Ideal) arg7.view.junk (kernelRun0_A.sl.HS0_32 (F := Ideal) c arg4 harg4 x2)) (arg8.view.writes (Elt Ideal) arg8.view.junk ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_A.sl.r_5 (F := Ideal) c arg2 harg2 x0) (kernelRun0_A.sl.r_6 (F := Ideal) c arg2 harg2 x0) (kernelRun0_A.sl.v94 i) (kernelRun0_A.sl.v105 i) (kernelRun0_A.sl.v107 i) (harg3.unread x1) (harg5.unread x3) (arg7.view.writes (Elt Ideal) arg7.view.junk (kernelRun0_A.sl.HS0_32 (F := Ideal) c arg4 harg4 x2)) (arg8.view.writes (Elt Ideal) arg8.view.junk (kernelRun0_A.sl.HS1_2 (F := Ideal) c i arg2 harg2 arg3 harg3 arg5 harg5 x0 x1 x3)) (arg9.view.writes (Elt Ideal) arg9.view.junk (kernelRun0_A.sl.HS2_2 (F := Ideal) c i arg2 harg2 arg3 harg3 arg5 harg5 x0 x1 x3)) (arg10.view.writes (Elt Ideal) arg10.view.junk (kernelRun0_A.sl.HS3_2 (F := Ideal) c i arg2 harg2 arg3 harg3 arg4 harg4 arg5 harg5 arg7 x0 x1 x2 x3)) (Scf.trips (k0_t1_loop i).lb (k0_t1_loop i).ub (k0_t1_loop i).st)).1 ++ (kernelRun0_A.sl.HS1_2 (F := Ideal) c i arg2 harg2 arg3 harg3 arg5 harg5 x0 x1 x3))) (arg9.view.writes (Elt Ideal) arg9.view.junk ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_A.sl.r_5 (F := Ideal) c arg2 harg2 x0) (kernelRun0_A.sl.r_6 (F := Ideal) c arg2 harg2 x0) (kernelRun0_A.sl.v94 i) (kernelRun0_A.sl.v105 i) (kernelRun0_A.sl.v107 i) (harg3.unread x1) (harg5.unread x3) (arg7.view.writes (Elt Ideal) arg7.view.junk (kernelRun0_A.sl.HS0_32 (F := Ideal) c arg4 harg4 x2)) (arg8.view.writes (Elt Ideal) arg8.view.junk (kernelRun0_A.sl.HS1_2 (F := Ideal) c i arg2 harg2 arg3 harg3 arg5 harg5 x0 x1 x3)) (arg9.view.writes (Elt Ideal) arg9.view.junk (kernelRun0_A.sl.HS2_2 (F := Ideal) c i arg2 harg2 arg3 harg3 arg5 harg5 x0 x1 x3)) (arg10.view.writes (Elt Ideal) arg10.view.junk (kernelRun0_A.sl.HS3_2 (F := Ideal) c i arg2 harg2 arg3 harg3 arg4 harg4 arg5 harg5 arg7 x0 x1 x2 x3)) (Scf.trips (k0_t1_loop i).lb (k0_t1_loop i).ub (k0_t1_loop i).st)).2.1 ++ (kernelRun0_A.sl.HS2_2 (F := Ideal) c i arg2 harg2 arg3 harg3 arg5 harg5 x0 x1 x3))) (arg10.view.writes (Elt Ideal) arg10.view.junk ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_A.sl.r_5 (F := Ideal) c arg2 harg2 x0) (kernelRun0_A.sl.r_6 (F := Ideal) c arg2 harg2 x0) (kernelRun0_A.sl.v94 i) (kernelRun0_A.sl.v105 i) (kernelRun0_A.sl.v107 i) (harg3.unread x1) (harg5.unread x3) (arg7.view.writes (Elt Ideal) arg7.view.junk (kernelRun0_A.sl.HS0_32 (F := Ideal) c arg4 harg4 x2)) (arg8.view.writes (Elt Ideal) arg8.view.junk (kernelRun0_A.sl.HS1_2 (F := Ideal) c i arg2 harg2 arg3 harg3 arg5 harg5 x0 x1 x3)) (arg9.view.writes (Elt Ideal) arg9.view.junk (kernelRun0_A.sl.HS2_2 (F := Ideal) c i arg2 harg2 arg3 harg3 arg5 harg5 x0 x1 x3)) (arg10.view.writes (Elt Ideal) arg10.view.junk (kernelRun0_A.sl.HS3_2 (F := Ideal) c i arg2 harg2 arg3 harg3 arg4 harg4 arg5 harg5 arg7 x0 x1 x2 x3)) (Scf.trips (k0_t1_loop i).lb (k0_t1_loop i).ub (k0_t1_loop i).st)).2.2 ++ (kernelRun0_A.sl.HS3_2 (F := Ideal) c i arg2 harg2 arg3 harg3 arg4 harg4 arg5 harg5 arg7 x0 x1 x2 x3))) (Scf.trips (k0_t2_loop i).lb (k0_t2_loop i).ub (k0_t2_loop i).st)).1 ++ ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_A.sl.r_5 (F := Ideal) c arg2 harg2 x0) (kernelRun0_A.sl.r_6 (F := Ideal) c arg2 harg2 x0) (kernelRun0_A.sl.v94 i) (kernelRun0_A.sl.v105 i) (kernelRun0_A.sl.v107 i) (harg3.unread x1) (harg5.unread x3) (arg7.view.writes (Elt Ideal) arg7.view.junk (kernelRun0_A.sl.HS0_32 (F := Ideal) c arg4 harg4 x2)) (arg8.view.writes (Elt Ideal) arg8.view.junk (kernelRun0_A.sl.HS1_2 (F := Ideal) c i arg2 harg2 arg3 harg3 arg5 harg5 x0 x1 x3)) (arg9.view.writes (Elt Ideal) arg9.view.junk (kernelRun0_A.sl.HS2_2 (F := Ideal) c i arg2 harg2 arg3 harg3 arg5 harg5 x0 x1 x3)) (arg10.view.writes (Elt Ideal) arg10.view.junk (kernelRun0_A.sl.HS3_2 (F := Ideal) c i arg2 harg2 arg3 harg3 arg4 harg4 arg5 harg5 arg7 x0 x1 x2 x3)) (Scf.trips (k0_t1_loop i).lb (k0_t1_loop i).ub (k0_t1_loop i).st)).1 ++ (kernelRun0_A.sl.HS1_2 (F := Ideal) c i arg2 harg2 arg3 harg3 arg5 harg5 x0 x1 x3))))
      (arg9.view.writes (Elt Ideal) arg9.view.junk ((pb_k0_t2 (F := Ideal) Variants.none c none i arg2 harg2 arg3 harg3 arg4 harg4 arg5 harg5 arg6 harg6 arg7 harg7 arg8 harg8 arg9 harg9 arg10 harg10 (BitVec.ofNat 32 ↑(i 1)) (kernelRun0_A.sl.r_5 (F := Ideal) c arg2 harg2 x0) (kernelRun0_A.sl.r_6 (F := Ideal) c arg2 harg2 x0) (kernelRun0_A.sl.v94 i) (kernelRun0_A.sl.v105 i) (kernelRun0_A.sl.v107 i) (kernelRun0_A.sl.v115 i) (harg3.unread x1) (harg5.unread x3) (arg7.view.writes (Elt Ideal) arg7.view.junk (kernelRun0_A.sl.HS0_32 (F := Ideal) c arg4 harg4 x2)) (arg8.view.writes (Elt Ideal) arg8.view.junk ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_A.sl.r_5 (F := Ideal) c arg2 harg2 x0) (kernelRun0_A.sl.r_6 (F := Ideal) c arg2 harg2 x0) (kernelRun0_A.sl.v94 i) (kernelRun0_A.sl.v105 i) (kernelRun0_A.sl.v107 i) (harg3.unread x1) (harg5.unread x3) (arg7.view.writes (Elt Ideal) arg7.view.junk (kernelRun0_A.sl.HS0_32 (F := Ideal) c arg4 harg4 x2)) (arg8.view.writes (Elt Ideal) arg8.view.junk (kernelRun0_A.sl.HS1_2 (F := Ideal) c i arg2 harg2 arg3 harg3 arg5 harg5 x0 x1 x3)) (arg9.view.writes (Elt Ideal) arg9.view.junk (kernelRun0_A.sl.HS2_2 (F := Ideal) c i arg2 harg2 arg3 harg3 arg5 harg5 x0 x1 x3)) (arg10.view.writes (Elt Ideal) arg10.view.junk (kernelRun0_A.sl.HS3_2 (F := Ideal) c i arg2 harg2 arg3 harg3 arg4 harg4 arg5 harg5 arg7 x0 x1 x2 x3)) (Scf.trips (k0_t1_loop i).lb (k0_t1_loop i).ub (k0_t1_loop i).st)).1 ++ (kernelRun0_A.sl.HS1_2 (F := Ideal) c i arg2 harg2 arg3 harg3 arg5 harg5 x0 x1 x3))) (arg9.view.writes (Elt Ideal) arg9.view.junk ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_A.sl.r_5 (F := Ideal) c arg2 harg2 x0) (kernelRun0_A.sl.r_6 (F := Ideal) c arg2 harg2 x0) (kernelRun0_A.sl.v94 i) (kernelRun0_A.sl.v105 i) (kernelRun0_A.sl.v107 i) (harg3.unread x1) (harg5.unread x3) (arg7.view.writes (Elt Ideal) arg7.view.junk (kernelRun0_A.sl.HS0_32 (F := Ideal) c arg4 harg4 x2)) (arg8.view.writes (Elt Ideal) arg8.view.junk (kernelRun0_A.sl.HS1_2 (F := Ideal) c i arg2 harg2 arg3 harg3 arg5 harg5 x0 x1 x3)) (arg9.view.writes (Elt Ideal) arg9.view.junk (kernelRun0_A.sl.HS2_2 (F := Ideal) c i arg2 harg2 arg3 harg3 arg5 harg5 x0 x1 x3)) (arg10.view.writes (Elt Ideal) arg10.view.junk (kernelRun0_A.sl.HS3_2 (F := Ideal) c i arg2 harg2 arg3 harg3 arg4 harg4 arg5 harg5 arg7 x0 x1 x2 x3)) (Scf.trips (k0_t1_loop i).lb (k0_t1_loop i).ub (k0_t1_loop i).st)).2.1 ++ (kernelRun0_A.sl.HS2_2 (F := Ideal) c i arg2 harg2 arg3 harg3 arg5 harg5 x0 x1 x3))) (arg10.view.writes (Elt Ideal) arg10.view.junk ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_A.sl.r_5 (F := Ideal) c arg2 harg2 x0) (kernelRun0_A.sl.r_6 (F := Ideal) c arg2 harg2 x0) (kernelRun0_A.sl.v94 i) (kernelRun0_A.sl.v105 i) (kernelRun0_A.sl.v107 i) (harg3.unread x1) (harg5.unread x3) (arg7.view.writes (Elt Ideal) arg7.view.junk (kernelRun0_A.sl.HS0_32 (F := Ideal) c arg4 harg4 x2)) (arg8.view.writes (Elt Ideal) arg8.view.junk (kernelRun0_A.sl.HS1_2 (F := Ideal) c i arg2 harg2 arg3 harg3 arg5 harg5 x0 x1 x3)) (arg9.view.writes (Elt Ideal) arg9.view.junk (kernelRun0_A.sl.HS2_2 (F := Ideal) c i arg2 harg2 arg3 harg3 arg5 harg5 x0 x1 x3)) (arg10.view.writes (Elt Ideal) arg10.view.junk (kernelRun0_A.sl.HS3_2 (F := Ideal) c i arg2 harg2 arg3 harg3 arg4 harg4 arg5 harg5 arg7 x0 x1 x2 x3)) (Scf.trips (k0_t1_loop i).lb (k0_t1_loop i).ub (k0_t1_loop i).st)).2.2 ++ (kernelRun0_A.sl.HS3_2 (F := Ideal) c i arg2 harg2 arg3 harg3 arg4 harg4 arg5 harg5 arg7 x0 x1 x2 x3))) (Scf.trips (k0_t2_loop i).lb (k0_t2_loop i).ub (k0_t2_loop i).st)).2.1 ++ ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_A.sl.r_5 (F := Ideal) c arg2 harg2 x0) (kernelRun0_A.sl.r_6 (F := Ideal) c arg2 harg2 x0) (kernelRun0_A.sl.v94 i) (kernelRun0_A.sl.v105 i) (kernelRun0_A.sl.v107 i) (harg3.unread x1) (harg5.unread x3) (arg7.view.writes (Elt Ideal) arg7.view.junk (kernelRun0_A.sl.HS0_32 (F := Ideal) c arg4 harg4 x2)) (arg8.view.writes (Elt Ideal) arg8.view.junk (kernelRun0_A.sl.HS1_2 (F := Ideal) c i arg2 harg2 arg3 harg3 arg5 harg5 x0 x1 x3)) (arg9.view.writes (Elt Ideal) arg9.view.junk (kernelRun0_A.sl.HS2_2 (F := Ideal) c i arg2 harg2 arg3 harg3 arg5 harg5 x0 x1 x3)) (arg10.view.writes (Elt Ideal) arg10.view.junk (kernelRun0_A.sl.HS3_2 (F := Ideal) c i arg2 harg2 arg3 harg3 arg4 harg4 arg5 harg5 arg7 x0 x1 x2 x3)) (Scf.trips (k0_t1_loop i).lb (k0_t1_loop i).ub (k0_t1_loop i).st)).2.1 ++ (kernelRun0_A.sl.HS2_2 (F := Ideal) c i arg2 harg2 arg3 harg3 arg5 harg5 x0 x1 x3))))
      (arg10.view.writes (Elt Ideal) arg10.view.junk ((pb_k0_t2 (F := Ideal) Variants.none c none i arg2 harg2 arg3 harg3 arg4 harg4 arg5 harg5 arg6 harg6 arg7 harg7 arg8 harg8 arg9 harg9 arg10 harg10 (BitVec.ofNat 32 ↑(i 1)) (kernelRun0_A.sl.r_5 (F := Ideal) c arg2 harg2 x0) (kernelRun0_A.sl.r_6 (F := Ideal) c arg2 harg2 x0) (kernelRun0_A.sl.v94 i) (kernelRun0_A.sl.v105 i) (kernelRun0_A.sl.v107 i) (kernelRun0_A.sl.v115 i) (harg3.unread x1) (harg5.unread x3) (arg7.view.writes (Elt Ideal) arg7.view.junk (kernelRun0_A.sl.HS0_32 (F := Ideal) c arg4 harg4 x2)) (arg8.view.writes (Elt Ideal) arg8.view.junk ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_A.sl.r_5 (F := Ideal) c arg2 harg2 x0) (kernelRun0_A.sl.r_6 (F := Ideal) c arg2 harg2 x0) (kernelRun0_A.sl.v94 i) (kernelRun0_A.sl.v105 i) (kernelRun0_A.sl.v107 i) (harg3.unread x1) (harg5.unread x3) (arg7.view.writes (Elt Ideal) arg7.view.junk (kernelRun0_A.sl.HS0_32 (F := Ideal) c arg4 harg4 x2)) (arg8.view.writes (Elt Ideal) arg8.view.junk (kernelRun0_A.sl.HS1_2 (F := Ideal) c i arg2 harg2 arg3 harg3 arg5 harg5 x0 x1 x3)) (arg9.view.writes (Elt Ideal) arg9.view.junk (kernelRun0_A.sl.HS2_2 (F := Ideal) c i arg2 harg2 arg3 harg3 arg5 harg5 x0 x1 x3)) (arg10.view.writes (Elt Ideal) arg10.view.junk (kernelRun0_A.sl.HS3_2 (F := Ideal) c i arg2 harg2 arg3 harg3 arg4 harg4 arg5 harg5 arg7 x0 x1 x2 x3)) (Scf.trips (k0_t1_loop i).lb (k0_t1_loop i).ub (k0_t1_loop i).st)).1 ++ (kernelRun0_A.sl.HS1_2 (F := Ideal) c i arg2 harg2 arg3 harg3 arg5 harg5 x0 x1 x3))) (arg9.view.writes (Elt Ideal) arg9.view.junk ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_A.sl.r_5 (F := Ideal) c arg2 harg2 x0) (kernelRun0_A.sl.r_6 (F := Ideal) c arg2 harg2 x0) (kernelRun0_A.sl.v94 i) (kernelRun0_A.sl.v105 i) (kernelRun0_A.sl.v107 i) (harg3.unread x1) (harg5.unread x3) (arg7.view.writes (Elt Ideal) arg7.view.junk (kernelRun0_A.sl.HS0_32 (F := Ideal) c arg4 harg4 x2)) (arg8.view.writes (Elt Ideal) arg8.view.junk (kernelRun0_A.sl.HS1_2 (F := Ideal) c i arg2 harg2 arg3 harg3 arg5 harg5 x0 x1 x3)) (arg9.view.writes (Elt Ideal) arg9.view.junk (kernelRun0_A.sl.HS2_2 (F := Ideal) c i arg2 harg2 arg3 harg3 arg5 harg5 x0 x1 x3)) (arg10.view.writes (Elt Ideal) arg10.view.junk (kernelRun0_A.sl.HS3_2 (F := Ideal) c i arg2 harg2 arg3 harg3 arg4 harg4 arg5 harg5 arg7 x0 x1 x2 x3)) (Scf.trips (k0_t1_loop i).lb (k0_t1_loop i).ub (k0_t1_loop i).st)).2.1 ++ (kernelRun0_A.sl.HS2_2 (F := Ideal) c i arg2 harg2 arg3 harg3 arg5 harg5 x0 x1 x3))) (arg10.view.writes (Elt Ideal) arg10.view.junk ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_A.sl.r_5 (F := Ideal) c arg2 harg2 x0) (kernelRun0_A.sl.r_6 (F := Ideal) c arg2 harg2 x0) (kernelRun0_A.sl.v94 i) (kernelRun0_A.sl.v105 i) (kernelRun0_A.sl.v107 i) (harg3.unread x1) (harg5.unread x3) (arg7.view.writes (Elt Ideal) arg7.view.junk (kernelRun0_A.sl.HS0_32 (F := Ideal) c arg4 harg4 x2)) (arg8.view.writes (Elt Ideal) arg8.view.junk (kernelRun0_A.sl.HS1_2 (F := Ideal) c i arg2 harg2 arg3 harg3 arg5 harg5 x0 x1 x3)) (arg9.view.writes (Elt Ideal) arg9.view.junk (kernelRun0_A.sl.HS2_2 (F := Ideal) c i arg2 harg2 arg3 harg3 arg5 harg5 x0 x1 x3)) (arg10.view.writes (Elt Ideal) arg10.view.junk (kernelRun0_A.sl.HS3_2 (F := Ideal) c i arg2 harg2 arg3 harg3 arg4 harg4 arg5 harg5 arg7 x0 x1 x2 x3)) (Scf.trips (k0_t1_loop i).lb (k0_t1_loop i).ub (k0_t1_loop i).st)).2.2 ++ (kernelRun0_A.sl.HS3_2 (F := Ideal) c i arg2 harg2 arg3 harg3 arg4 harg4 arg5 harg5 arg7 x0 x1 x2 x3))) (Scf.trips (k0_t2_loop i).lb (k0_t2_loop i).ub (k0_t2_loop i).st)).2.2 ++ ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_A.sl.r_5 (F := Ideal) c arg2 harg2 x0) (kernelRun0_A.sl.r_6 (F := Ideal) c arg2 harg2 x0) (kernelRun0_A.sl.v94 i) (kernelRun0_A.sl.v105 i) (kernelRun0_A.sl.v107 i) (harg3.unread x1) (harg5.unread x3) (arg7.view.writes (Elt Ideal) arg7.view.junk (kernelRun0_A.sl.HS0_32 (F := Ideal) c arg4 harg4 x2)) (arg8.view.writes (Elt Ideal) arg8.view.junk (kernelRun0_A.sl.HS1_2 (F := Ideal) c i arg2 harg2 arg3 harg3 arg5 harg5 x0 x1 x3)) (arg9.view.writes (Elt Ideal) arg9.view.junk (kernelRun0_A.sl.HS2_2 (F := Ideal) c i arg2 harg2 arg3 harg3 arg5 harg5 x0 x1 x3)) (arg10.view.writes (Elt Ideal) arg10.view.junk (kernelRun0_A.sl.HS3_2 (F := Ideal) c i arg2 harg2 arg3 harg3 arg4 harg4 arg5 harg5 arg7 x0 x1 x2 x3)) (Scf.trips (k0_t1_loop i).lb (k0_t1_loop i).ub (k0_t1_loop i).st)).2.2 ++ (kernelRun0_A.sl.HS3_2 (F := Ideal) c i arg2 harg2 arg3 harg3 arg4 harg4 arg5 harg5 arg7 x0 x1 x2 x3))))
      (accW (QQ x0) x1 x3 (dW (QQ x0) x1 x3 (i 1).val) (2 * ((i 1).val / 2)))
      (accV (QQ x0) x1 x3 (arg7.view.read (Elt Ideal) (arg7.view.writes (Elt Ideal) arg7.view.junk (kernelRun0_A.sl.HS0_32 (F := Ideal) c arg4 harg4 x2))) (dV (QQ x0) x1 x3 (arg7.view.read (Elt Ideal) (arg7.view.writes (Elt Ideal) arg7.view.junk (kernelRun0_A.sl.HS0_32 (F := Ideal) c arg4 harg4 x2))) (i 1).val) (2 * ((i 1).val / 2))) := by
  have hp := pair_A c arg2 harg2 x0
  have h := loops_St c i arg2 harg2 arg3 harg3 arg4 harg4 arg5 harg5 arg6 harg6 arg7 harg7 arg8 harg8 arg9 harg9 arg10 harg10 (BitVec.ofNat 32 ↑(i 1)) (kernelRun0_A.sl.r_5 (F := Ideal) c arg2 harg2 x0) (kernelRun0_A.sl.r_6 (F := Ideal) c arg2 harg2 x0) (kernelRun0_A.sl.v94 i) (kernelRun0_A.sl.v105 i) (kernelRun0_A.sl.v107 i) (kernelRun0_A.sl.v115 i) (harg3.unread x1) (harg5.unread x3) (arg7.view.writes (Elt Ideal) arg7.view.junk (kernelRun0_A.sl.HS0_32 (F := Ideal) c arg4 harg4 x2)) _ _ _ (diag_A c i arg2 harg2 arg3 harg3 arg4 harg4 arg5 harg5 arg7 arg8 arg9 arg10 x0 x1 x2 x3 hs hb)
    (by rw [hp, harg3.read_unread, harg5.read_unread]; exact hs)
  rw [hp, harg3.read_unread, harg5.read_unread] at h
  exact h

set_option maxHeartbeats 1000000 in
/-- What the body leaves in the output block, case A. -/
theorem out_A (hc0 : cond0_0 i) (hc1 : ¬ cond0_1 i) (hs : Fin' (QQ x0) x1 x3) (hb : NoBot (QQ x0) x1 x3) (hh : Fin 2) (q : Fin 512) (d : Fin 128) :
    out0_A_4 (F := Ideal) c i arg2 harg2 arg3 harg3 arg4 harg4 arg5 harg5 arg6 harg6 arg7 harg7 arg8 harg8 arg9 harg9 arg10 harg10 hc0 hc1 x0 x1 x2 x3 (ix2 q ⟨128 * hh.val + d.val, by omega⟩)
      = att x0 x1 x3 (arg7.view.read (Elt Ideal) (arg7.view.writes (Elt Ideal) arg7.view.junk (kernelRun0_A.sl.HS0_32 (F := Ideal) c arg4 harg4 x2))) (i 1).val hh q d := by
  have hn : 2 * ((i 1).val / 2) = (i 1).val := by
    have := (cond1 i).not.mp hc1
    omega
  have hl := loops_A c i arg2 harg2 arg3 harg3 arg4 harg4 arg5 harg5 arg6 harg6 arg7 harg7 arg8 harg8 arg9 harg9 arg10 harg10 x0 x1 x2 x3 hs hb
  rw [hn] at hl
  unfold out0_A_4 kernelRun0_A
  dsimp only
  exact out_Done VO0_4 _ arg9 arg10 _ _ hl.done (fun hh q => accW_pos hb _ _ hh q) hh q d

theorem diag_B (hs : Fin' (QQ x0) x1 x3) (hb : NoBot (QQ x0) x1 x3) :
    St arg8 arg9 arg10 (arg8.view.writes (Elt Ideal) arg8.view.junk (kernelRun0_B.sl.HS1_2 (F := Ideal) c i arg2 harg2 arg3 harg3 arg5 harg5 x0 x1 x3)) (arg9.view.writes (Elt Ideal) arg9.view.junk (kernelRun0_B.sl.HS2_2 (F := Ideal) c i arg2 harg2 arg3 harg3 arg5 harg5 x0 x1 x3)) (arg10.view.writes (Elt Ideal) arg10.view.junk (kernelRun0_B.sl.HS3_2 (F := Ideal) c i arg2 harg2 arg3 harg3 arg5 harg5 arg7 harg7 x0 x1 x3 xs0))
      (dW (QQ x0) x1 x3 (i 1).val) (dV (QQ x0) x1 x3 xs0 (i 1).val) := by
  have hi : (i 1).val < 16 := (i 1).isLt
  have h := diag_St arg8 arg9 arg10 x0 x1 x3 xs0 (i 1).val hs hb
  unfold kernelRun0_B.sl.HS1_2 kernelRun0_B.sl.HS2_2 kernelRun0_B.sl.HS3_2 kernelRun0_B.sl.r_2 kernelRun0_B.sl.r_3 kernelRun0_B.sl.r_4 kernelRun0_B.sl.r_5 kernelRun0_B.sl.r_6 kernelRun0_B.sl.r_1
  rw [load_blkQ arg2 _ ![0, 0] _ 0 rfl, load_blkQ arg2 _ ![0, 128] _ 1 rfl,
    load_blkK arg3 _ _ _ 0 (i 1).val hi (k0_off1_eq i), load_blkK arg5 _ _ _ 0 (i 1).val hi (k0_off1_eq i),
    load_blkK arg3 _ _ _ 1 (i 1).val hi (k0_off3_eq i), load_blkK arg5 _ _ _ 1 (i 1).val hi (k0_off3_eq i),
    load_blkV arg7 _ _ _ 0 (i 1).val hi (k0_off2_eq i), load_blkV arg7 _ _ _ 1 (i 1).val hi (k0_off4_eq i)]
  rw [harg2.read_unread, harg3.read_unread, harg5.read_unread, harg7.read_unread]
  exact h

theorem pair_B : pairQ (kernelRun0_B.sl.r (F := Ideal) c arg2 harg2 x0) (kernelRun0_B.sl.r_1 (F := Ideal) c arg2 harg2 x0) = QQ x0 := by
  unfold QQ kernelRun0_B.sl.r kernelRun0_B.sl.r_1
  rw [load_blkQ arg2 _ ![0, 0] _ 0 rfl, load_blkQ arg2 _ ![0, 128] _ 1 rfl, harg2.read_unread]

/-- The scratch after both loops, case B. -/
theorem loops_B (hs : Fin' (QQ x0) x1 x3) (hb : NoBot (QQ x0) x1 x3) :
    St arg8 arg9 arg10
      (arg8.view.writes (Elt Ideal) arg8.view.junk ((pb_k0_t2 (F := Ideal) Variants.none c none i arg2 harg2 arg3 harg3 arg4 harg4 arg5 harg5 arg6 harg6 arg7 harg7 arg8 harg8 arg9 harg9 arg10 harg10 (BitVec.ofNat 32 ↑(i 1)) (kernelRun0_B.sl.r (F := Ideal) c arg2 harg2 x0) (kernelRun0_B.sl.r_1 (F := Ideal) c arg2 harg2 x0) (kernelRun0_B.sl.v94 i) (kernelRun0_B.sl.v105 i) (kernelRun0_B.sl.v107 i) (kernelRun0_B.sl.v115 i) (harg3.unread x1) (harg5.unread x3) (harg7.unread xs0) (arg8.view.writes (Elt Ideal) arg8.view.junk ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_B.sl.r (F := Ideal) c arg2 harg2 x0) (kernelRun0_B.sl.r_1 (F := Ideal) c arg2 harg2 x0) (kernelRun0_B.sl.v94 i) (kernelRun0_B.sl.v105 i) (kernelRun0_B.sl.v107 i) (harg3.unread x1) (harg5.unread x3) (harg7.unread xs0) (arg8.view.writes (Elt Ideal) arg8.view.junk (kernelRun0_B.sl.HS1_2 (F := Ideal) c i arg2 harg2 arg3 harg3 arg5 harg5 x0 x1 x3)) (arg9.view.writes (Elt Ideal) arg9.view.junk (kernelRun0_B.sl.HS2_2 (F := Ideal) c i arg2 harg2 arg3 harg3 arg5 harg5 x0 x1 x3)) (arg10.view.writes (Elt Ideal) arg10.view.junk (kernelRun0_B.sl.HS3_2 (F := Ideal) c i arg2 harg2 arg3 harg3 arg5 harg5 arg7 harg7 x0 x1 x3 xs0)) (Scf.trips (k0_t1_loop i).lb (k0_t1_loop i).ub (k0_t1_loop i).st)).1 ++ (kernelRun0_B.sl.HS1_2 (F := Ideal) c i arg2 harg2 arg3 harg3 arg5 harg5 x0 x1 x3))) (arg9.view.writes (Elt Ideal) arg9.view.junk ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_B.sl.r (F := Ideal) c arg2 harg2 x0) (kernelRun0_B.sl.r_1 (F := Ideal) c arg2 harg2 x0) (kernelRun0_B.sl.v94 i) (kernelRun0_B.sl.v105 i) (kernelRun0_B.sl.v107 i) (harg3.unread x1) (harg5.unread x3) (harg7.unread xs0) (arg8.view.writes (Elt Ideal) arg8.view.junk (kernelRun0_B.sl.HS1_2 (F := Ideal) c i arg2 harg2 arg3 harg3 arg5 harg5 x0 x1 x3)) (arg9.view.writes (Elt Ideal) arg9.view.junk (kernelRun0_B.sl.HS2_2 (F := Ideal) c i arg2 harg2 arg3 harg3 arg5 harg5 x0 x1 x3)) (arg10.view.writes (Elt Ideal) arg10.view.junk (kernelRun0_B.sl.HS3_2 (F := Ideal) c i arg2 harg2 arg3 harg3 arg5 harg5 arg7 harg7 x0 x1 x3 xs0)) (Scf.trips (k0_t1_loop i).lb (k0_t1_loop i).ub (k0_t1_loop i).st)).2.1 ++ (kernelRun0_B.sl.HS2_2 (F := Ideal) c i arg2 harg2 arg3 harg3 arg5 harg5 x0 x1 x3))) (arg10.view.writes (Elt Ideal) arg10.view.junk ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_B.sl.r (F := Ideal) c arg2 harg2 x0) (kernelRun0_B.sl.r_1 (F := Ideal) c arg2 harg2 x0) (kernelRun0_B.sl.v94 i) (kernelRun0_B.sl.v105 i) (kernelRun0_B.sl.v107 i) (harg3.unread x1) (harg5.unread x3) (harg7.unread xs0) (arg8.view.writes (Elt Ideal) arg8.view.junk (kernelRun0_B.sl.HS1_2 (F := Ideal) c i arg2 harg2 arg3 harg3 arg5 harg5 x0 x1 x3)) (arg9.view.writes (Elt Ideal) arg9.view.junk (kernelRun0_B.sl.HS2_2 (F := Ideal) c i arg2 harg2 arg3 harg3 arg5 harg5 x0 x1 x3)) (arg10.view.writes (Elt Ideal) arg10.view.junk (kernelRun0_B.sl.HS3_2 (F := Ideal) c i arg2 harg2 arg3 harg3 arg5 harg5 arg7 harg7 x0 x1 x3 xs0)) (Scf.trips (k0_t1_loop i).lb (k0_t1_loop i).ub (k0_t1_loop i).st)).2.2 ++ (kernelRun0_B.sl.HS3_2 (F := Ideal) c i arg2 harg2 arg3 harg3 arg5 harg5 arg7 harg7 x0 x1 x3 xs0))) (Scf.trips (k0_t2_loop i).lb (k0_t2_loop i).ub (k0_t2_loop i).st)).1 ++ ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_B.sl.r (F := Ideal) c arg2 harg2 x0) (kernelRun0_B.sl.r_1 (F := Ideal) c arg2 harg2 x0) (kernelRun0_B.sl.v94 i) (kernelRun0_B.sl.v105 i) (kernelRun0_B.sl.v107 i) (harg3.unread x1) (harg5.unread x3) (harg7.unread xs0) (arg8.view.writes (Elt Ideal) arg8.view.junk (kernelRun0_B.sl.HS1_2 (F := Ideal) c i arg2 harg2 arg3 harg3 arg5 harg5 x0 x1 x3)) (arg9.view.writes (Elt Ideal) arg9.view.junk (kernelRun0_B.sl.HS2_2 (F := Ideal) c i arg2 harg2 arg3 harg3 arg5 harg5 x0 x1 x3)) (arg10.view.writes (Elt Ideal) arg10.view.junk (kernelRun0_B.sl.HS3_2 (F := Ideal) c i arg2 harg2 arg3 harg3 arg5 harg5 arg7 harg7 x0 x1 x3 xs0)) (Scf.trips (k0_t1_loop i).lb (k0_t1_loop i).ub (k0_t1_loop i).st)).1 ++ (kernelRun0_B.sl.HS1_2 (F := Ideal) c i arg2 harg2 arg3 harg3 arg5 harg5 x0 x1 x3))))
      (arg9.view.writes (Elt Ideal) arg9.view.junk ((pb_k0_t2 (F := Ideal) Variants.none c none i arg2 harg2 arg3 harg3 arg4 harg4 arg5 harg5 arg6 harg6 arg7 harg7 arg8 harg8 arg9 harg9 arg10 harg10 (BitVec.ofNat 32 ↑(i 1)) (kernelRun0_B.sl.r (F := Ideal) c arg2 harg2 x0) (kernelRun0_B.sl.r_1 (F := Ideal) c arg2 harg2 x0) (kernelRun0_B.sl.v94 i) (kernelRun0_B.sl.v105 i) (kernelRun0_B.sl.v107 i) (kernelRun0_B.sl.v115 i) (harg3.unread x1) (harg5.unread x3) (harg7.unread xs0) (arg8.view.writes (Elt Ideal) arg8.view.junk ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_B.sl.r (F := Ideal) c arg2 harg2 x0) (kernelRun0_B.sl.r_1 (F := Ideal) c arg2 harg2 x0) (kernelRun0_B.sl.v94 i) (kernelRun0_B.sl.v105 i) (kernelRun0_B.sl.v107 i) (harg3.unread x1) (harg5.unread x3) (harg7.unread xs0) (arg8.view.writes (Elt Ideal) arg8.view.junk (kernelRun0_B.sl.HS1_2 (F := Ideal) c i arg2 harg2 arg3 harg3 arg5 harg5 x0 x1 x3)) (arg9.view.writes (Elt Ideal) arg9.view.junk (kernelRun0_B.sl.HS2_2 (F := Ideal) c i arg2 harg2 arg3 harg3 arg5 harg5 x0 x1 x3)) (arg10.view.writes (Elt Ideal) arg10.view.junk (kernelRun0_B.sl.HS3_2 (F := Ideal) c i arg2 harg2 arg3 harg3 arg5 harg5 arg7 harg7 x0 x1 x3 xs0)) (Scf.trips (k0_t1_loop i).lb (k0_t1_loop i).ub (k0_t1_loop i).st)).1 ++ (kernelRun0_B.sl.HS1_2 (F := Ideal) c i arg2 harg2 arg3 harg3 arg5 harg5 x0 x1 x3))) (arg9.view.writes (Elt Ideal) arg9.view.junk ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_B.sl.r (F := Ideal) c arg2 harg2 x0) (kernelRun0_B.sl.r_1 (F := Ideal) c arg2 harg2 x0) (kernelRun0_B.sl.v94 i) (kernelRun0_B.sl.v105 i) (kernelRun0_B.sl.v107 i) (harg3.unread x1) (harg5.unread x3) (harg7.unread xs0) (arg8.view.writes (Elt Ideal) arg8.view.junk (kernelRun0_B.sl.HS1_2 (F := Ideal) c i arg2 harg2 arg3 harg3 arg5 harg5 x0 x1 x3)) (arg9.view.writes (Elt Ideal) arg9.view.junk (kernelRun0_B.sl.HS2_2 (F := Ideal) c i arg2 harg2 arg3 harg3 arg5 harg5 x0 x1 x3)) (arg10.view.writes (Elt Ideal) arg10.view.junk (kernelRun0_B.sl.HS3_2 (F := Ideal) c i arg2 harg2 arg3 harg3 arg5 harg5 arg7 harg7 x0 x1 x3 xs0)) (Scf.trips (k0_t1_loop i).lb (k0_t1_loop i).ub (k0_t1_loop i).st)).2.1 ++ (kernelRun0_B.sl.HS2_2 (F := Ideal) c i arg2 harg2 arg3 harg3 arg5 harg5 x0 x1 x3))) (arg10.view.writes (Elt Ideal) arg10.view.junk ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_B.sl.r (F := Ideal) c arg2 harg2 x0) (kernelRun0_B.sl.r_1 (F := Ideal) c arg2 harg2 x0) (kernelRun0_B.sl.v94 i) (kernelRun0_B.sl.v105 i) (kernelRun0_B.sl.v107 i) (harg3.unread x1) (harg5.unread x3) (harg7.unread xs0) (arg8.view.writes (Elt Ideal) arg8.view.junk (kernelRun0_B.sl.HS1_2 (F := Ideal) c i arg2 harg2 arg3 harg3 arg5 harg5 x0 x1 x3)) (arg9.view.writes (Elt Ideal) arg9.view.junk (kernelRun0_B.sl.HS2_2 (F := Ideal) c i arg2 harg2 arg3 harg3 arg5 harg5 x0 x1 x3)) (arg10.view.writes (Elt Ideal) arg10.view.junk (kernelRun0_B.sl.HS3_2 (F := Ideal) c i arg2 harg2 arg3 harg3 arg5 harg5 arg7 harg7 x0 x1 x3 xs0)) (Scf.trips (k0_t1_loop i).lb (k0_t1_loop i).ub (k0_t1_loop i).st)).2.2 ++ (kernelRun0_B.sl.HS3_2 (F := Ideal) c i arg2 harg2 arg3 harg3 arg5 harg5 arg7 harg7 x0 x1 x3 xs0))) (Scf.trips (k0_t2_loop i).lb (k0_t2_loop i).ub (k0_t2_loop i).st)).2.1 ++ ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_B.sl.r (F := Ideal) c arg2 harg2 x0) (kernelRun0_B.sl.r_1 (F := Ideal) c arg2 harg2 x0) (kernelRun0_B.sl.v94 i) (kernelRun0_B.sl.v105 i) (kernelRun0_B.sl.v107 i) (harg3.unread x1) (harg5.unread x3) (harg7.unread xs0) (arg8.view.writes (Elt Ideal) arg8.view.junk (kernelRun0_B.sl.HS1_2 (F := Ideal) c i arg2 harg2 arg3 harg3 arg5 harg5 x0 x1 x3)) (arg9.view.writes (Elt Ideal) arg9.view.junk (kernelRun0_B.sl.HS2_2 (F := Ideal) c i arg2 harg2 arg3 harg3 arg5 harg5 x0 x1 x3)) (arg10.view.writes (Elt Ideal) arg10.view.junk (kernelRun0_B.sl.HS3_2 (F := Ideal) c i arg2 harg2 arg3 harg3 arg5 harg5 arg7 harg7 x0 x1 x3 xs0)) (Scf.trips (k0_t1_loop i).lb (k0_t1_loop i).ub (k0_t1_loop i).st)).2.1 ++ (kernelRun0_B.sl.HS2_2 (F := Ideal) c i arg2 harg2 arg3 harg3 arg5 harg5 x0 x1 x3))))
      (arg10.view.writes (Elt Ideal) arg10.view.junk ((pb_k0_t2 (F := Ideal) Variants.none c none i arg2 harg2 arg3 harg3 arg4 harg4 arg5 harg5 arg6 harg6 arg7 harg7 arg8 harg8 arg9 harg9 arg10 harg10 (BitVec.ofNat 32 ↑(i 1)) (kernelRun0_B.sl.r (F := Ideal) c arg2 harg2 x0) (kernelRun0_B.sl.r_1 (F := Ideal) c arg2 harg2 x0) (kernelRun0_B.sl.v94 i) (kernelRun0_B.sl.v105 i) (kernelRun0_B.sl.v107 i) (kernelRun0_B.sl.v115 i) (harg3.unread x1) (harg5.unread x3) (harg7.unread xs0) (arg8.view.writes (Elt Ideal) arg8.view.junk ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_B.sl.r (F := Ideal) c arg2 harg2 x0) (kernelRun0_B.sl.r_1 (F := Ideal) c arg2 harg2 x0) (kernelRun0_B.sl.v94 i) (kernelRun0_B.sl.v105 i) (kernelRun0_B.sl.v107 i) (harg3.unread x1) (harg5.unread x3) (harg7.unread xs0) (arg8.view.writes (Elt Ideal) arg8.view.junk (kernelRun0_B.sl.HS1_2 (F := Ideal) c i arg2 harg2 arg3 harg3 arg5 harg5 x0 x1 x3)) (arg9.view.writes (Elt Ideal) arg9.view.junk (kernelRun0_B.sl.HS2_2 (F := Ideal) c i arg2 harg2 arg3 harg3 arg5 harg5 x0 x1 x3)) (arg10.view.writes (Elt Ideal) arg10.view.junk (kernelRun0_B.sl.HS3_2 (F := Ideal) c i arg2 harg2 arg3 harg3 arg5 harg5 arg7 harg7 x0 x1 x3 xs0)) (Scf.trips (k0_t1_loop i).lb (k0_t1_loop i).ub (k0_t1_loop i).st)).1 ++ (kernelRun0_B.sl.HS1_2 (F := Ideal) c i arg2 harg2 arg3 harg3 arg5 harg5 x0 x1 x3))) (arg9.view.writes (Elt Ideal) arg9.view.junk ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_B.sl.r (F := Ideal) c arg2 harg2 x0) (kernelRun0_B.sl.r_1 (F := Ideal) c arg2 harg2 x0) (kernelRun0_B.sl.v94 i) (kernelRun0_B.sl.v105 i) (kernelRun0_B.sl.v107 i) (harg3.unread x1) (harg5.unread x3) (harg7.unread xs0) (arg8.view.writes (Elt Ideal) arg8.view.junk (kernelRun0_B.sl.HS1_2 (F := Ideal) c i arg2 harg2 arg3 harg3 arg5 harg5 x0 x1 x3)) (arg9.view.writes (Elt Ideal) arg9.view.junk (kernelRun0_B.sl.HS2_2 (F := Ideal) c i arg2 harg2 arg3 harg3 arg5 harg5 x0 x1 x3)) (arg10.view.writes (Elt Ideal) arg10.view.junk (kernelRun0_B.sl.HS3_2 (F := Ideal) c i arg2 harg2 arg3 harg3 arg5 harg5 arg7 harg7 x0 x1 x3 xs0)) (Scf.trips (k0_t1_loop i).lb (k0_t1_loop i).ub (k0_t1_loop i).st)).2.1 ++ (kernelRun0_B.sl.HS2_2 (F := Ideal) c i arg2 harg2 arg3 harg3 arg5 harg5 x0 x1 x3))) (arg10.view.writes (Elt Ideal) arg10.view.junk ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_B.sl.r (F := Ideal) c arg2 harg2 x0) (kernelRun0_B.sl.r_1 (F := Ideal) c arg2 harg2 x0) (kernelRun0_B.sl.v94 i) (kernelRun0_B.sl.v105 i) (kernelRun0_B.sl.v107 i) (harg3.unread x1) (harg5.unread x3) (harg7.unread xs0) (arg8.view.writes (Elt Ideal) arg8.view.junk (kernelRun0_B.sl.HS1_2 (F := Ideal) c i arg2 harg2 arg3 harg3 arg5 harg5 x0 x1 x3)) (arg9.view.writes (Elt Ideal) arg9.view.junk (kernelRun0_B.sl.HS2_2 (F := Ideal) c i arg2 harg2 arg3 harg3 arg5 harg5 x0 x1 x3)) (arg10.view.writes (Elt Ideal) arg10.view.junk (kernelRun0_B.sl.HS3_2 (F := Ideal) c i arg2 harg2 arg3 harg3 arg5 harg5 arg7 harg7 x0 x1 x3 xs0)) (Scf.trips (k0_t1_loop i).lb (k0_t1_loop i).ub (k0_t1_loop i).st)).2.2 ++ (kernelRun0_B.sl.HS3_2 (F := Ideal) c i arg2 harg2 arg3 harg3 arg5 harg5 arg7 harg7 x0 x1 x3 xs0))) (Scf.trips (k0_t2_loop i).lb (k0_t2_loop i).ub (k0_t2_loop i).st)).2.2 ++ ((pb_k0_t1 (F := Ideal) Variants.none c none i arg2 harg2 arg3 harg3 arg4 harg4 arg5 harg5 arg6 harg6 arg7 harg7 arg8 harg8 arg9 harg9 arg10 harg10 (BitVec.ofNat 32 ↑(i 1)) (kernelRun0_B.sl.r (F := Ideal) c arg2 harg2 x0) (kernelRun0_B.sl.r_1 (F := Ideal) c arg2 harg2 x0) (kernelRun0_B.sl.v94 i) (kernelRun0_B.sl.v105 i) (kernelRun0_B.sl.v107 i) (harg3.unread x1) (harg5.unread x3) (harg7.unread xs0) (arg8.view.writes (Elt Ideal) arg8.view.junk (kernelRun0_B.sl.HS1_2 (F := Ideal) c i arg2 harg2 arg3 harg3 arg5 harg5 x0 x1 x3)) (arg9.view.writes (Elt Ideal) arg9.view.junk (kernelRun0_B.sl.HS2_2 (F := Ideal) c i arg2 harg2 arg3 harg3 arg5 harg5 x0 x1 x3)) (arg10.view.writes (Elt Ideal) arg10.view.junk (kernelRun0_B.sl.HS3_2 (F := Ideal) c i arg2 harg2 arg3 harg3 arg5 harg5 arg7 harg7 x0 x1 x3 xs0)) (Scf.trips (k0_t1_loop i).lb (k0_t1_loop i).ub (k0_t1_loop i).st)).2.2 ++ (kernelRun0_B.sl.HS3_2 (F := Ideal) c i arg2 harg2 arg3 harg3 arg5 harg5 arg7 harg7 x0 x1 x3 xs0))))
      (accW (QQ x0) x1 x3 (dW (QQ x0) x1 x3 (i 1).val) (2 * ((i 1).val / 2)))
      (accV (QQ x0) x1 x3 xs0 (dV (QQ x0) x1 x3 xs0 (i 1).val) (2 * ((i 1).val / 2))) := by
  have hp := pair_B c arg2 harg2 x0
  have h := loops_St c i arg2 harg2 arg3 harg3 arg4 harg4 arg5 harg5 arg6 harg6 arg7 harg7 arg8 harg8 arg9 harg9 arg10 harg10 (BitVec.ofNat 32 ↑(i 1)) (kernelRun0_B.sl.r (F := Ideal) c arg2 harg2 x0) (kernelRun0_B.sl.r_1 (F := Ideal) c arg2 harg2 x0) (kernelRun0_B.sl.v94 i) (kernelRun0_B.sl.v105 i) (kernelRun0_B.sl.v107 i) (kernelRun0_B.sl.v115 i) (harg3.unread x1) (harg5.unread x3) (harg7.unread xs0) _ _ _ (diag_B c i arg2 harg2 arg3 harg3 arg5 harg5 arg7 harg7 arg8 arg9 arg10 x0 x1 x3 xs0 hs hb)
    (by rw [hp, harg3.read_unread, harg5.read_unread]; exact hs)
  rw [hp, harg3.read_unread, harg5.read_unread, harg7.read_unread] at h
  exact h

set_option maxHeartbeats 1000000 in
/-- What the body leaves in the output block, case B. -/
theorem out_B (hc0 : ¬ cond0_0 i) (hc1 : cond0_1 i) (hs : Fin' (QQ x0) x1 x3) (hb : NoBot (QQ x0) x1 x3) (hh : Fin 2) (q : Fin 512) (d : Fin 128) :
    out0_B_4 (F := Ideal) c i arg2 harg2 arg3 harg3 arg4 harg4 arg5 harg5 arg6 harg6 arg7 harg7 arg8 harg8 arg9 harg9 arg10 harg10 hc0 hc1 x0 x1 x2 x3 xs0 (ix2 q ⟨128 * hh.val + d.val, by omega⟩)
      = att x0 x1 x3 xs0 (i 1).val hh q d := by
  have hi : (i 1).val < 16 := (i 1).isLt
  have hn : 2 * ((i 1).val / 2) = (i 1).val - 1 := by
    have := (cond1 i).mp hc1
    omega
  have hn' : (i 1).val - 1 + 1 = (i 1).val := by
    have := (cond1 i).mp hc1
    omega
  have hl := loops_B c i arg2 harg2 arg3 harg3 arg4 harg4 arg5 harg5 arg6 harg6 arg7 harg7 arg8 harg8 arg9 harg9 arg10 harg10 x0 x1 x3 xs0 hs hb
  have hp := pair_B c arg2 harg2 x0
  have hp0 : kernelRun0_B.sl.r (F := Ideal) c arg2 harg2 x0 = QQ x0 0 := congrFun hp 0
  have hp1 : kernelRun0_B.sl.r_1 (F := Ideal) c arg2 harg2 x0 = QQ x0 1 := congrFun hp 1
  rw [hn] at hl
  have hr_7 : (kernelRun0_B.sl.r_7 (F := Ideal) c i arg2 harg2 arg3 harg3 arg4 harg4 arg5 harg5 arg6 harg6 arg7 harg7 arg8 harg8 arg9 harg9 arg10 harg10 hc1 x0 x1 x3 xs0) = k0_pay83 (F := Ideal) (QQ x0 0) (blkK x1 0 ((i 1).val - 1)) (blkK x3 0 ((i 1).val - 1)) (kernelRun0_B.sl.v159 (F := Ideal) c i arg2 harg2 arg3 harg3 arg4 harg4 arg5 harg5 arg6 harg6 arg7 harg7 arg8 harg8 arg9 harg9 arg10 harg10 x0 x1 x3 xs0) := by
    unfold kernelRun0_B.sl.r_7
    rw [hp0, load_blkK arg3 _ _ _ 0 ((i 1).val - 1) (by omega) (off13 i hc1), load_blkK arg5 _ _ _ 0 ((i 1).val - 1) (by omega) (off13 i hc1)]
    rw [harg3.read_unread, harg5.read_unread]
  have hr_8 : (kernelRun0_B.sl.r_8 (F := Ideal) c i arg2 harg2 arg3 harg3 arg4 harg4 arg5 harg5 arg6 harg6 arg7 harg7 arg8 harg8 arg9 harg9 arg10 harg10 hc1 x0 x1 x3 xs0) = k0_pay84 (F := Ideal) (QQ x0 0) (blkK x1 0 ((i 1).val - 1)) (blkK x3 0 ((i 1).val - 1)) (kernelRun0_B.sl.v159 (F := Ideal) c i arg2 harg2 arg3 harg3 arg4 harg4 arg5 harg5 arg6 harg6 arg7 harg7 arg8 harg8 arg9 harg9 arg10 harg10 x0 x1 x3 xs0) := by
    unfold kernelRun0_B.sl.r_8
    rw [hp0, load_blkK arg3 _ _ _ 0 ((i 1).val - 1) (by omega) (off13 i hc1), load_blkK arg5 _ _ _ 0 ((i 1).val - 1) (by omega) (off13 i hc1)]
    rw [harg3.read_unread, harg5.read_unread]
  have hr_9 : (kernelRun0_B.sl.r_9 (F := Ideal) c i arg2 harg2 arg3 harg3 arg4 harg4 arg5 harg5 arg6 harg6 arg7 harg7 arg8 harg8 arg9 harg9 arg10 harg10 hc1 x0 x1 x3 xs0) = k0_pay86 (F := Ideal) (QQ x0 0) (blkK x1 0 ((i 1).val - 1)) (blkK x3 0 ((i 1).val - 1)) (kernelRun0_B.sl.v159 (F := Ideal) c i arg2 harg2 arg3 harg3 arg4 harg4 arg5 harg5 arg6 harg6 arg7 harg7 arg8 harg8 arg9 harg9 arg10 harg10 x0 x1 x3 xs0) (blkV xs0 0 ((i 1).val - 1)) := by
    unfold kernelRun0_B.sl.r_9
    rw [hp0, load_blkK arg3 _ _ _ 0 ((i 1).val - 1) (by omega) (off13 i hc1), load_blkK arg5 _ _ _ 0 ((i 1).val - 1) (by omega) (off13 i hc1), load_blkV arg7 _ _ _ 0 ((i 1).val - 1) (by omega) (off14 i hc1)]
    rw [harg3.read_unread, harg5.read_unread, harg7.read_unread]
  have hr_10 : (kernelRun0_B.sl.r_10 (F := Ideal) c i arg2 harg2 arg3 harg3 arg4 harg4 arg5 harg5 arg6 harg6 arg7 harg7 arg8 harg8 arg9 harg9 arg10 harg10 hc1 x0 x1 x3 xs0) = k0_pay87 (F := Ideal) (QQ x0 0) (blkK x1 0 ((i 1).val - 1)) (blkK x3 0 ((i 1).val - 1)) (kernelRun0_B.sl.v159 (F := Ideal) c i arg2 harg2 arg3 harg3 arg4 harg4 arg5 harg5 arg6 harg6 arg7 harg7 arg8 harg8 arg9 harg9 arg10 harg10 x0 x1 x3 xs0) (kernelRun0_B.sl.v179 (F := Ideal) c i arg2 harg2 arg3 harg3 arg4 harg4 arg5 harg5 arg6 harg6 arg7 harg7 arg8 harg8 arg9 harg9 arg10 harg10 x0 x1 x3 xs0) := by
    unfold kernelRun0_B.sl.r_10
    rw [hp0, load_blkK arg3 _ _ _ 0 ((i 1).val - 1) (by omega) (off13 i hc1), load_blkK arg5 _ _ _ 0 ((i 1).val - 1) (by omega) (off13 i hc1)]
    rw [harg3.read_unread, harg5.read_unread]
  have hr_12 : (kernelRun0_B.sl.r_12 (F := Ideal) c i arg2 harg2 arg3 harg3 arg4 harg4 arg5 harg5 arg6 harg6 arg7 harg7 arg8 harg8 arg9 harg9 arg10 harg10 hc1 x0 x1 x3 xs0) = k0_pay94 (F := Ideal) (QQ x0 1) (blkK x1 1 ((i 1).val - 1)) (blkK x3 1 ((i 1).val - 1)) (kernelRun0_B.sl.v208 (F := Ideal) c i arg2 harg2 arg3 harg3 arg4 harg4 arg5 harg5 arg6 harg6 arg7 harg7 arg8 harg8 arg9 harg9 arg10 harg10 hc1 x0 x1 x3 xs0) := by
    unfold kernelRun0_B.sl.r_12
    rw [hp1, load_blkK arg3 _ _ _ 1 ((i 1).val - 1) (by omega) (off15 i hc1), load_blkK arg5 _ _ _ 1 ((i 1).val - 1) (by omega) (off15 i hc1)]
    rw [harg3.read_unread, harg5.read_unread]
  have hr_13 : (kernelRun0_B.sl.r_13 (F := Ideal) c i arg2 harg2 arg3 harg3 arg4 harg4 arg5 harg5 arg6 harg6 arg7 harg7 arg8 harg8 arg9 harg9 arg10 harg10 hc1 x0 x1 x3 xs0) = k0_pay95 (F := Ideal) (QQ x0 1) (blkK x1 1 ((i 1).val - 1)) (blkK x3 1 ((i 1).val - 1)) (kernelRun0_B.sl.v208 (F := Ideal) c i arg2 harg2 arg3 harg3 arg4 harg4 arg5 harg5 arg6 harg6 arg7 harg7 arg8 harg8 arg9 harg9 arg10 harg10 hc1 x0 x1 x3 xs0) := by
    unfold kernelRun0_B.sl.r_13
    rw [hp1, load_blkK arg3 _ _ _ 1 ((i 1).val - 1) (by omega) (off15 i hc1), load_blkK arg5 _ _ _ 1 ((i 1).val - 1) (by omega) (off15 i hc1)]
    rw [harg3.read_unread, harg5.read_unread]
  have hr_14 : (kernelRun0_B.sl.r_14 (F := Ideal) c i arg2 harg2 arg3 harg3 arg4 harg4 arg5 harg5 arg6 harg6 arg7 harg7 arg8 harg8 arg9 harg9 arg10 harg10 hc1 x0 x1 x3 xs0) = k0_pay96 (F := Ideal) (QQ x0 1) (blkK x1 1 ((i 1).val - 1)) (blkK x3 1 ((i 1).val - 1)) (kernelRun0_B.sl.v208 (F := Ideal) c i arg2 harg2 arg3 harg3 arg4 harg4 arg5 harg5 arg6 harg6 arg7 harg7 arg8 harg8 arg9 harg9 arg10 harg10 hc1 x0 x1 x3 xs0) := by
    unfold kernelRun0_B.sl.r_14
    rw [hp1, load_blkK arg3 _ _ _ 1 ((i 1).val - 1) (by omega) (off15 i hc1), load_blkK arg5 _ _ _ 1 ((i 1).val - 1) (by omega) (off15 i hc1)]
    rw [harg3.read_unread, harg5.read_unread]
  have hd := last_Done arg8 arg9 arg10 _ _ _ (QQ x0) x1 x3 xs0 ((i 1).val - 1) (k0_pay90 (F := Ideal) (kernelRun0_B.sl.r_7 (F := Ideal) c i arg2 harg2 arg3 harg3 arg4 harg4 arg5 harg5 arg6 harg6 arg7 harg7 arg8 harg8 arg9 harg9 arg10 harg10 hc1 x0 x1 x3 xs0)) hl hs
    (kernelRun0_B.sl.v159 (F := Ideal) c i arg2 harg2 arg3 harg3 arg4 harg4 arg5 harg5 arg6 harg6 arg7 harg7 arg8 harg8 arg9 harg9 arg10 harg10 x0 x1 x3 xs0) (kernelRun0_B.sl.v179 (F := Ideal) c i arg2 harg2 arg3 harg3 arg4 harg4 arg5 harg5 arg6 harg6 arg7 harg7 arg8 harg8 arg9 harg9 arg10 harg10 x0 x1 x3 xs0) (kernelRun0_B.sl.v208 (F := Ideal) c i arg2 harg2 arg3 harg3 arg4 harg4 arg5 harg5 arg6 harg6 arg7 harg7 arg8 harg8 arg9 harg9 arg10 harg10 hc1 x0 x1 x3 xs0) (kernelRun0_B.sl.v228 (F := Ideal) c i arg2 harg2 arg3 harg3 arg4 harg4 arg5 harg5 arg6 harg6 arg7 harg7 arg8 harg8 arg9 harg9 arg10 harg10 hc1 x0 x1 x3 xs0) (kernelRun0_B.sl.v186 (F := Ideal) c i arg2 harg2 arg3 harg3 arg4 harg4 arg5 harg5 arg6 harg6 arg7 harg7 arg8 harg8 arg9 harg9 arg10 harg10 x0 x1 x3 xs0) (kernelRun0_B.sl.v235 (F := Ideal) c i arg2 harg2 arg3 harg3 arg4 harg4 arg5 harg5 arg6 harg6 arg7 harg7 arg8 harg8 arg9 harg9 arg10 harg10 hc1 x0 x1 x3 xs0) rfl rfl rfl rfl
    (by rw [← hr_10]; rfl) (by rw [← hr_8, ← hr_9]; rfl)
  rw [← hr_10, ← hr_8, ← hr_9, ← hr_12, ← hr_13, ← hr_14] at hd
  have hk7 := load_blkV arg7 (harg7.unread xs0) _ (k0_off16_inb i hc1) 1 ((i 1).val - 1) (by omega) (off16 i hc1)
  rw [harg7.read_unread] at hk7
  rw [← hk7] at hd
  unfold out0_B_4 kernelRun0_B
  dsimp only
  have eW : ∀ hh q, accW (QQ x0) x1 x3 (dW (QQ x0) x1 x3 (i 1).val) ((i 1).val - 1) hh q + bW (QQ x0) x1 x3 ((i 1).val - 1) hh q
      = accW (QQ x0) x1 x3 (dW (QQ x0) x1 x3 (i 1).val) (i 1).val hh q := fun hh q =>
    (add_one_more _ (fun b => bW (QQ x0) x1 x3 b hh q) _).trans
      (congrArg (fun m => accW (QQ x0) x1 x3 (dW (QQ x0) x1 x3 (i 1).val) m hh q) hn')
  have eV : ∀ hh q d, accV (QQ x0) x1 x3 xs0 (dV (QQ x0) x1 x3 xs0 (i 1).val) ((i 1).val - 1) hh q d
        + bV (QQ x0) x1 x3 xs0 ((i 1).val - 1) hh q d
      = accV (QQ x0) x1 x3 xs0 (dV (QQ x0) x1 x3 xs0 (i 1).val) (i 1).val hh q d := fun hh q d =>
    (add_one_more _ (fun b => bV (QQ x0) x1 x3 xs0 b hh q d) _).trans
      (congrArg (fun m => accV (QQ x0) x1 x3 xs0 (dV (QQ x0) x1 x3 xs0 (i 1).val) m hh q d) hn')
  refine (out_Done VO0_4 _ arg9 arg10 _ _ hd (fun hh q => ?_) hh q d).trans ?_
  · dsimp only
    rw [eW]
    exact accW_pos hb _ _ hh q
  · dsimp only
    rw [eW, eV]
    rfl

end Cert.FlashIdeal.Body

end
-- ==== Proof.Vt.lean ====
module

public import proofs.«01_k».proof.Proof.Cases

@[expose] public section

set_option maxRecDepth 16384

noncomputable section

/-! # The transposed values kept in the scratch -/

open Idealize.ShloMosaic Idealize.ShloMosaic.TcCoe Idealize.SL.Sem

namespace Cert.FlashIdeal.Vt

open Cert.FlashIdeal Cert.FlashIdeal.Gen

open Cert.Online Cert.FlashIdeal.Pay Cert.FlashIdeal.Body
open Idealize.ShloMosaic.Pipeline (Dat)

theorem vt_hit (v : View sig .tc .vmem S2x16x128x512 .bf16) (f : v.ty.Contents (Elt Ideal)) (h' b' : ℕ)
    (inb : ∀ x, (![h', b', 0, 0] : Fin 4 → ℕ) x + S1x1x128x512.size x ≤ S2x16x128x512.size x) (w : FVec Ideal S1x1x128x512 .bf16)
    (L : List (View.Piece (Elt Ideal) S2x16x128x512 .bf16)) (hh : Fin 2) (b : Fin 16) (d : Fin 128) (k : Fin 512)
    (h : h' = hh.val ∧ b' = b.val) :
    v.read (Elt Ideal) (v.writes (Elt Ideal) f (⟨Rect.unit (s := S2x16x128x512) ![h', b', 0, 0] S1x1x128x512.size inb, w⟩ :: L)) (ix4 hh b d k)
      = w (ix4 (0 : Fin 1) (0 : Fin 1) d k) := by
  obtain ⟨rfl, rfl⟩ := h
  refine View.read_writes_cons_unit_of_mem (s := S2x16x128x512) (off' := ![hh.val, b.val, 0, 0]) (size := S1x1x128x512.size) v f inb w L
    (ix4 hh b d k) (ix4 (0 : Fin 1) (0 : Fin 1) d k) rfl ?_
  intro x
  fin_cases x
  · rfl
  · rfl
  · show d.val = 0 + d.val
    omega
  · show k.val = 0 + k.val
    omega

theorem vt_miss (v : View sig .tc .vmem S2x16x128x512 .bf16) (f : v.ty.Contents (Elt Ideal)) (h' b' : ℕ)
    (inb : ∀ x, (![h', b', 0, 0] : Fin 4 → ℕ) x + S1x1x128x512.size x ≤ S2x16x128x512.size x) (w : FVec Ideal S1x1x128x512 .bf16)
    (L : List (View.Piece (Elt Ideal) S2x16x128x512 .bf16)) (hh : Fin 2) (b : Fin 16) (d : Fin 128) (k : Fin 512)
    (h : ¬(h' = hh.val ∧ b' = b.val)) :
    v.read (Elt Ideal) (v.writes (Elt Ideal) f (⟨Rect.unit (s := S2x16x128x512) ![h', b', 0, 0] S1x1x128x512.size inb, w⟩ :: L)) (ix4 hh b d k)
      = v.read (Elt Ideal) (v.writes (Elt Ideal) f L) (ix4 hh b d k) := by
  by_cases hc : h' = hh.val
  · refine View.read_writes_cons_unit_of_not_mem (s := S2x16x128x512) (off' := ![h', b', 0, 0]) (size := S1x1x128x512.size) v f inb w L
      (ix4 hh b d k) rfl (1 : Fin 4) ?_
    show b.val < b' ∨ b' + 1 ≤ b.val
    omega
  · refine View.read_writes_cons_unit_of_not_mem (s := S2x16x128x512) (off' := ![h', b', 0, 0]) (size := S1x1x128x512.size) v f inb w L
      (ix4 hh b d k) rfl (0 : Fin 4) ?_
    show hh.val < h' ∨ h' + 1 ≤ hh.val
    omega

/-- One stored plane, and the rest of the stores where it is not the one asked for. -/
theorem vt_cons (v : View sig .tc .vmem S2x16x128x512 .bf16) (f : v.ty.Contents (Elt Ideal)) (h' : Fin 2) (b' : ℕ)
    (inb : ∀ x, (![h'.val, b', 0, 0] : Fin 4 → ℕ) x + S1x1x128x512.size x ≤ S2x16x128x512.size x) (w : FVec Ideal S1x1x128x512 .bf16)
    (L : List (View.Piece (Elt Ideal) S2x16x128x512 .bf16)) (X : FVec Ideal S8192x256 .bf16) (hh : Fin 2) (b : Fin 16) (d : Fin 128) (k : Fin 512)
    (hw : w (ix4 (0 : Fin 1) (0 : Fin 1) d k) = blkK X h' b' (ix2 k d))
    (h : ¬(h'.val = hh.val ∧ b' = b.val) → v.read (Elt Ideal) (v.writes (Elt Ideal) f L) (ix4 hh b d k) = blkK X hh b.val (ix2 k d)) :
    v.read (Elt Ideal) (v.writes (Elt Ideal) f (⟨Rect.unit (s := S2x16x128x512) ![h'.val, b', 0, 0] S1x1x128x512.size inb, w⟩ :: L)) (ix4 hh b d k)
      = blkK X hh b.val (ix2 k d) := by
  by_cases hc : h'.val = hh.val ∧ b' = b.val
  · rw [vt_hit v f _ _ inb w L hh b d k hc, hw, hc.2, Fin.ext hc.1]
  · rw [vt_miss v f _ _ inb w L hh b d k hc]
    exact h hc

theorem tr_at (Y : FVec Ideal S512x128 .bf16) (d : Fin 128) (k : Fin 512) :
    k0_pay2 (F := Ideal) Y (ix4 (0 : Fin 1) (0 : Fin 1) d k) = Y (ix2 k d) := by
  pointwise [k0_pay2]

/-- One transposed block of values. -/
theorem vt_piece (a : Memref sig .tc .vmem S8192x256 .bf16) (ha : a.IsWhole) (X : FVec Ideal S8192x256 .bf16) (off : Fin 2 → ℕ)
    (inb : ∀ x, off x + S512x128.size x ≤ S8192x256.size x) (hh : Fin 2) (b : ℕ) (hb : b < 16) (h : off = ![512 * b, 128 * hh.val])
    (d : Fin 128) (k : Fin 512) :
    k0_pay2 (F := Ideal) (View.readAt (Elt Ideal) a.view (Rect.unit (s := S8192x256) off S512x128.size inb).toLoadRect (ha.unread X))
      (ix4 (0 : Fin 1) (0 : Fin 1) d k) = blkK X hh b (ix2 k d) := by
  rw [tr_at, load_blkK a _ off inb hh b hb h, ha.read_unread]

theorem all_planes (hh : Fin 2) (b : Fin 16) (h : ∀ (h' : Fin 2) (b' : Fin 16), ¬(h'.val = hh.val ∧ b'.val = b.val)) : False :=
  h hh b ⟨rfl, rfl⟩

set_option maxHeartbeats 1000000 in
/-- The transposed values the first point of a head pair leaves in the scratch. -/
theorem vt_read (v : View sig .tc .vmem S2x16x128x512 .bf16) (f : v.ty.Contents (Elt Ideal)) (c : Dev nD)
    (arg4 : Memref sig .tc .vmem S8192x256 .bf16) (harg4 : arg4.IsWhole) (x2 : FVec Ideal S8192x256 .bf16)
    (hh : Fin 2) (b : Fin 16) (d : Fin 128) (k : Fin 512) :
    v.read (Elt Ideal) (v.writes (Elt Ideal) f (kernelRun0_A.sl.HS0_32 (F := Ideal) c arg4 harg4 x2)) (ix4 hh b d k)
      = blkK x2 hh b.val (ix2 k d) := by
  unfold kernelRun0_A.sl.HS0_32
  refine vt_cons v f 1 15 _ _ _ x2 hh b d k (vt_piece arg4 harg4 x2 _ _ 1 15 (by decide) rfl d k) fun n1_15 => ?_
  refine vt_cons v f 1 14 _ _ _ x2 hh b d k (vt_piece arg4 harg4 x2 _ _ 1 14 (by decide) rfl d k) fun n1_14 => ?_
  refine vt_cons v f 1 13 _ _ _ x2 hh b d k (vt_piece arg4 harg4 x2 _ _ 1 13 (by decide) rfl d k) fun n1_13 => ?_
  refine vt_cons v f 1 12 _ _ _ x2 hh b d k (vt_piece arg4 harg4 x2 _ _ 1 12 (by decide) rfl d k) fun n1_12 => ?_
  refine vt_cons v f 1 11 _ _ _ x2 hh b d k (vt_piece arg4 harg4 x2 _ _ 1 11 (by decide) rfl d k) fun n1_11 => ?_
  refine vt_cons v f 1 10 _ _ _ x2 hh b d k (vt_piece arg4 harg4 x2 _ _ 1 10 (by decide) rfl d k) fun n1_10 => ?_
  refine vt_cons v f 1 9 _ _ _ x2 hh b d k (vt_piece arg4 harg4 x2 _ _ 1 9 (by decide) rfl d k) fun n1_9 => ?_
  refine vt_cons v f 1 8 _ _ _ x2 hh b d k (vt_piece arg4 harg4 x2 _ _ 1 8 (by decide) rfl d k) fun n1_8 => ?_
  refine vt_cons v f 1 7 _ _ _ x2 hh b d k (vt_piece arg4 harg4 x2 _ _ 1 7 (by decide) rfl d k) fun n1_7 => ?_
  refine vt_cons v f 1 6 _ _ _ x2 hh b d k (vt_piece arg4 harg4 x2 _ _ 1 6 (by decide) rfl d k) fun n1_6 => ?_
  refine vt_cons v f 1 5 _ _ _ x2 hh b d k (vt_piece arg4 harg4 x2 _ _ 1 5 (by decide) rfl d k) fun n1_5 => ?_
  refine vt_cons v f 1 4 _ _ _ x2 hh b d k (vt_piece arg4 harg4 x2 _ _ 1 4 (by decide) rfl d k) fun n1_4 => ?_
  refine vt_cons v f 1 3 _ _ _ x2 hh b d k (vt_piece arg4 harg4 x2 _ _ 1 3 (by decide) rfl d k) fun n1_3 => ?_
  refine vt_cons v f 1 2 _ _ _ x2 hh b d k (vt_piece arg4 harg4 x2 _ _ 1 2 (by decide) rfl d k) fun n1_2 => ?_
  refine vt_cons v f 1 1 _ _ _ x2 hh b d k (vt_piece arg4 harg4 x2 _ _ 1 1 (by decide) rfl d k) fun n1_1 => ?_
  refine vt_cons v f 1 0 _ _ _ x2 hh b d k (vt_piece arg4 harg4 x2 _ _ 1 0 (by decide) rfl d k) fun n1_0 => ?_
  refine vt_cons v f 0 15 _ _ _ x2 hh b d k (vt_piece arg4 harg4 x2 _ _ 0 15 (by decide) rfl d k) fun n0_15 => ?_
  refine vt_cons v f 0 14 _ _ _ x2 hh b d k (vt_piece arg4 harg4 x2 _ _ 0 14 (by decide) rfl d k) fun n0_14 => ?_
  refine vt_cons v f 0 13 _ _ _ x2 hh b d k (vt_piece arg4 harg4 x2 _ _ 0 13 (by decide) rfl d k) fun n0_13 => ?_
  refine vt_cons v f 0 12 _ _ _ x2 hh b d k (vt_piece arg4 harg4 x2 _ _ 0 12 (by decide) rfl d k) fun n0_12 => ?_
  refine vt_cons v f 0 11 _ _ _ x2 hh b d k (vt_piece arg4 harg4 x2 _ _ 0 11 (by decide) rfl d k) fun n0_11 => ?_
  refine vt_cons v f 0 10 _ _ _ x2 hh b d k (vt_piece arg4 harg4 x2 _ _ 0 10 (by decide) rfl d k) fun n0_10 => ?_
  refine vt_cons v f 0 9 _ _ _ x2 hh b d k (vt_piece arg4 harg4 x2 _ _ 0 9 (by decide) rfl d k) fun n0_9 => ?_
  refine vt_cons v f 0 8 _ _ _ x2 hh b d k (vt_piece arg4 harg4 x2 _ _ 0 8 (by decide) rfl d k) fun n0_8 => ?_
  refine vt_cons v f 0 7 _ _ _ x2 hh b d k (vt_piece arg4 harg4 x2 _ _ 0 7 (by decide) rfl d k) fun n0_7 => ?_
  refine vt_cons v f 0 6 _ _ _ x2 hh b d k (vt_piece arg4 harg4 x2 _ _ 0 6 (by decide) rfl d k) fun n0_6 => ?_
  refine vt_cons v f 0 5 _ _ _ x2 hh b d k (vt_piece arg4 harg4 x2 _ _ 0 5 (by decide) rfl d k) fun n0_5 => ?_
  refine vt_cons v f 0 4 _ _ _ x2 hh b d k (vt_piece arg4 harg4 x2 _ _ 0 4 (by decide) rfl d k) fun n0_4 => ?_
  refine vt_cons v f 0 3 _ _ _ x2 hh b d k (vt_piece arg4 harg4 x2 _ _ 0 3 (by decide) rfl d k) fun n0_3 => ?_
  refine vt_cons v f 0 2 _ _ _ x2 hh b d k (vt_piece arg4 harg4 x2 _ _ 0 2 (by decide) rfl d k) fun n0_2 => ?_
  refine vt_cons v f 0 1 _ _ _ x2 hh b d k (vt_piece arg4 harg4 x2 _ _ 0 1 (by decide) rfl d k) fun n0_1 => ?_
  refine vt_cons v f 0 0 _ _ _ x2 hh b d k (vt_piece arg4 harg4 x2 _ _ 0 0 (by decide) rfl d k) fun n0_0 => ?_
  exfalso
  have hb := b.isLt
  have hh' := hh.isLt
  obtain h0 | h1 : hh.val = 0 ∨ hh.val = 1 := by omega
  · clear n1_0 n1_1 n1_2 n1_3 n1_4 n1_5 n1_6 n1_7 n1_8 n1_9 n1_10 n1_11 n1_12 n1_13 n1_14 n1_15
    rw [h0] at n0_0 n0_1 n0_2 n0_3 n0_4 n0_5 n0_6 n0_7 n0_8 n0_9 n0_10 n0_11 n0_12 n0_13 n0_14 n0_15
    have e0 : b.val ≠ 0 := fun e => n0_0 ⟨rfl, e.symm⟩
    have e1 : b.val ≠ 1 := fun e => n0_1 ⟨rfl, e.symm⟩
    have e2 : b.val ≠ 2 := fun e => n0_2 ⟨rfl, e.symm⟩
    have e3 : b.val ≠ 3 := fun e => n0_3 ⟨rfl, e.symm⟩
    have e4 : b.val ≠ 4 := fun e => n0_4 ⟨rfl, e.symm⟩
    have e5 : b.val ≠ 5 := fun e => n0_5 ⟨rfl, e.symm⟩
    have e6 : b.val ≠ 6 := fun e => n0_6 ⟨rfl, e.symm⟩
    have e7 : b.val ≠ 7 := fun e => n0_7 ⟨rfl, e.symm⟩
    have e8 : b.val ≠ 8 := fun e => n0_8 ⟨rfl, e.symm⟩
    have e9 : b.val ≠ 9 := fun e => n0_9 ⟨rfl, e.symm⟩
    have e10 : b.val ≠ 10 := fun e => n0_10 ⟨rfl, e.symm⟩
    have e11 : b.val ≠ 11 := fun e => n0_11 ⟨rfl, e.symm⟩
    have e12 : b.val ≠ 12 := fun e => n0_12 ⟨rfl, e.symm⟩
    have e13 : b.val ≠ 13 := fun e => n0_13 ⟨rfl, e.symm⟩
    have e14 : b.val ≠ 14 := fun e => n0_14 ⟨rfl, e.symm⟩
    have e15 : b.val ≠ 15 := fun e => n0_15 ⟨rfl, e.symm⟩
    omega
  · clear n0_0 n0_1 n0_2 n0_3 n0_4 n0_5 n0_6 n0_7 n0_8 n0_9 n0_10 n0_11 n0_12 n0_13 n0_14 n0_15
    rw [h1] at n1_0 n1_1 n1_2 n1_3 n1_4 n1_5 n1_6 n1_7 n1_8 n1_9 n1_10 n1_11 n1_12 n1_13 n1_14 n1_15
    have e0 : b.val ≠ 0 := fun e => n1_0 ⟨rfl, e.symm⟩
    have e1 : b.val ≠ 1 := fun e => n1_1 ⟨rfl, e.symm⟩
    have e2 : b.val ≠ 2 := fun e => n1_2 ⟨rfl, e.symm⟩
    have e3 : b.val ≠ 3 := fun e => n1_3 ⟨rfl, e.symm⟩
    have e4 : b.val ≠ 4 := fun e => n1_4 ⟨rfl, e.symm⟩
    have e5 : b.val ≠ 5 := fun e => n1_5 ⟨rfl, e.symm⟩
    have e6 : b.val ≠ 6 := fun e => n1_6 ⟨rfl, e.symm⟩
    have e7 : b.val ≠ 7 := fun e => n1_7 ⟨rfl, e.symm⟩
    have e8 : b.val ≠ 8 := fun e => n1_8 ⟨rfl, e.symm⟩
    have e9 : b.val ≠ 9 := fun e => n1_9 ⟨rfl, e.symm⟩
    have e10 : b.val ≠ 10 := fun e => n1_10 ⟨rfl, e.symm⟩
    have e11 : b.val ≠ 11 := fun e => n1_11 ⟨rfl, e.symm⟩
    have e12 : b.val ≠ 12 := fun e => n1_12 ⟨rfl, e.symm⟩
    have e13 : b.val ≠ 13 := fun e => n1_13 ⟨rfl, e.symm⟩
    have e14 : b.val ≠ 14 := fun e => n1_14 ⟨rfl, e.symm⟩
    have e15 : b.val ≠ 15 := fun e => n1_15 ⟨rfl, e.symm⟩
    omega

end Cert.FlashIdeal.Vt

end
-- ==== Proof.Blocks.lean ====
module

public import proofs.«01_k».proof.Proof.Vt
public import proofs.«01_k».proof.Proof.Gen.FlashIdeal.Value
public import Idealize.ShloMosaic.Lib.Pipeline.ValueKit

@[expose] public section

set_option maxRecDepth 16384

noncomputable section

/-! # The blocks a grid point reads, and the block it leaves -/

open Idealize.ShloMosaic Idealize.ShloMosaic.TcCoe Idealize.SL.Sem

namespace Cert.FlashIdeal.Blocks

open Cert.FlashIdeal Cert.FlashIdeal.Gen

open Cert.Online Cert.FlashIdeal.Pay Cert.FlashIdeal.Body Cert.FlashIdeal.Vt
open Idealize.ShloMosaic.Pipeline (Dat)

variable (m : (ℓ : Loc nD τ sig) → Buf (Elt Ideal) ℓ)

theorem idx : ∀ t : Fin cfg0.N, win0_0.index t = ![t.val % 16, t.val / 16] ∧ win0_1.index t = ![0, t.val / 16]
    ∧ win0_2.index t = ![0, 8 + t.val / 16] ∧ win0_3.index t = ![0, t.val / 16] ∧ win0_4.index t = ![t.val % 16, t.val / 16] :=
  (by decide +kernel : ∀ t : Fin grid0.N, _)

/-- The queries, the keys and values, and the bias columns. -/
abbrev aQ (c : Dev nD) : FVec Ideal S8192x2048 .bf16 := m ((c : Thread nD τ).loc main_arg0)
abbrev aKV (c : Dev nD) : FVec Ideal S8192x4096 .bf16 := m ((c : Thread nD τ).loc main_arg1)
abbrev aB (c : Dev nD) : FVec Ideal S8192x2048 .bf16 := m ((c : Thread nD τ).loc main_arg2)

/-- Rows of block `n`, columns of head pair `g`. -/
def qBlk (X : FVec Ideal S8192x2048 .bf16) (n : Fin 16) (g : Fin 8) : FVec Ideal S512x256 .bf16 := fun y =>
  X (ix2 ⟨512 * n.val + (y 0).val, by have : (y 0).val < 512 := (y 0).isLt; omega⟩
    ⟨256 * g.val + (y 1).val, by have : (y 1).val < 256 := (y 1).isLt; omega⟩)

/-- All rows, columns of head pair `g`. -/
def pairCols (X : FVec Ideal S8192x2048 .bf16) (g : Fin 8) : FVec Ideal S8192x256 .bf16 := fun y =>
  X (ix2 (y 0) ⟨256 * g.val + (y 1).val, by have : (y 1).val < 256 := (y 1).isLt; omega⟩)

/-- The keys of head pair `g`. -/
def keyCols (X : FVec Ideal S8192x4096 .bf16) (g : Fin 8) : FVec Ideal S8192x256 .bf16 := fun y =>
  X (ix2 (y 0) ⟨256 * g.val + (y 1).val, by have : (y 1).val < 256 := (y 1).isLt; omega⟩)

/-- The values of head pair `g`. -/
def valCols (X : FVec Ideal S8192x4096 .bf16) (g : Fin 8) : FVec Ideal S8192x256 .bf16 := fun y =>
  X (ix2 (y 0) ⟨2048 + (256 * g.val + (y 1).val), by have : (y 1).val < 256 := (y 1).isLt; omega⟩)

/-- The query block and the head pair of a grid point. -/
def qOf (t : Fin cfg0.N) : Fin 16 := ⟨t.val % 16, by omega⟩
def gOf (t : Fin cfg0.N) : Fin 8 := ⟨t.val / 16, by have : t.val < 128 := lt_of_lt_of_eq t.isLt (by decide); omega⟩

theorem blk_q (c : Dev nD) (t : Fin cfg0.N) : iblk m c 0 t = qBlk (aQ m c) (qOf t) (gOf t) := by
  funext y
  unfold qBlk qOf gOf
  blk_ext [iblk, V, idx t]

theorem blk_k (c : Dev nD) (t : Fin cfg0.N) : iblk m c 1 t = keyCols (aKV m c) (gOf t) := by
  funext y
  unfold keyCols gOf
  blk_ext [iblk, V, idx t]

theorem blk_v (c : Dev nD) (t : Fin cfg0.N) : iblk m c 2 t = valCols (aKV m c) (gOf t) := by
  funext y
  unfold valCols gOf
  blk_ext [iblk, V, idx t]

theorem blk_b (c : Dev nD) (t : Fin cfg0.N) : iblk m c 3 t = pairCols (aB m c) (gOf t) := by
  funext y
  unfold pairCols gOf
  blk_ext [iblk, V, idx t]

/-- The transposed values, block by block. -/
def vtG (X : FVec Ideal S8192x256 .bf16) : FVec Ideal S2x16x128x512 .bf16 := fun y =>
  blkK X ⟨(y 0).val, (y 0).isLt⟩ (y 1).val (ix2 ⟨(y 3).val, (y 3).isLt⟩ ⟨(y 2).val, (y 2).isLt⟩)

theorem vt_whole (v : View sig .tc .vmem S2x16x128x512 .bf16) (f : v.ty.Contents (Elt Ideal)) (c : Dev nD)
    (arg4 : Memref sig .tc .vmem S8192x256 .bf16) (harg4 : arg4.IsWhole) (x2 : FVec Ideal S8192x256 .bf16) :
    v.read (Elt Ideal) (v.writes (Elt Ideal) f (kernelRun0_A.sl.HS0_32 (F := Ideal) c arg4 harg4 x2)) = vtG x2 := by
  funext y
  have e : y = ix4 (⟨(y 0).val, (y 0).isLt⟩ : Fin 2) (⟨(y 1).val, (y 1).isLt⟩ : Fin 16) (⟨(y 2).val, (y 2).isLt⟩ : Fin 128)
      (⟨(y 3).val, (y 3).isLt⟩ : Fin 512) := by
    funext a
    fin_cases a <;> rfl
  exact (congrArg _ e).trans (vt_read v f c arg4 harg4 x2 _ _ _ _)

/-- What the first point of a head pair leaves in the scratch. -/
theorem scratch_A (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S512x256 .bf16) (harg6 : arg6.IsWhole) (arg7 : Memref sig .tc .vmem S2x16x128x512 .bf16) (harg7 : arg7.IsWhole) (arg8 : Memref sig .tc .vmem S2x1x512 .f32) (harg8 : arg8.IsWhole) (arg9 : Memref sig .tc .vmem S2x1x512 .f32) (harg9 : arg9.IsWhole) (arg10 : Memref sig .tc .vmem S2x128x512 .f32) (harg10 : arg10.IsWhole) (hc0 : cond0_0 i) (hc1 : ¬ cond0_1 i)
    (x0 : FVec Ideal S512x256 .bf16) (x1 x2 x3 : FVec Ideal S8192x256 .bf16) :
    sout0_A_0 (F := Ideal) c i arg2 harg2 arg3 harg3 arg4 harg4 arg5 harg5 arg6 harg6 arg7 harg7 arg8 harg8 arg9 harg9 arg10 harg10 hc0 hc1 x0 x1 x2 x3 = vtG x2 := by
  unfold sout0_A_0 kernelRun0_A
  dsimp only
  exact vt_whole VS0_0 VS0_0.junk c arg4 harg4 x2

/-- The first point's output block over the values it has just transposed. -/
theorem block_A (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S512x256 .bf16) (harg6 : arg6.IsWhole) (arg7 : Memref sig .tc .vmem S2x16x128x512 .bf16) (harg7 : arg7.IsWhole) (arg8 : Memref sig .tc .vmem S2x1x512 .f32) (harg8 : arg8.IsWhole) (arg9 : Memref sig .tc .vmem S2x1x512 .f32) (harg9 : arg9.IsWhole) (arg10 : Memref sig .tc .vmem S2x128x512 .f32) (harg10 : arg10.IsWhole) (hc0 : cond0_0 i) (hc1 : ¬ cond0_1 i)
    (x0 : FVec Ideal S512x256 .bf16) (x1 x2 x3 : FVec Ideal S8192x256 .bf16)
    (hs : Fin' (QQ x0) x1 x3) (hb : NoBot (QQ x0) x1 x3) (hh : Fin 2) (q : Fin 512) (d : Fin 128) :
    out0_A_4 (F := Ideal) c i arg2 harg2 arg3 harg3 arg4 harg4 arg5 harg5 arg6 harg6 arg7 harg7 arg8 harg8 arg9 harg9 arg10 harg10 hc0 hc1 x0 x1 x2 x3 (ix2 q ⟨128 * hh.val + d.val, by omega⟩)
      = att x0 x1 x3 (vtG x2) (i 1).val hh q d := by
  have h := out_A c i arg2 harg2 arg3 harg3 arg4 harg4 arg5 harg5 arg6 harg6 arg7 harg7 arg8 harg8 arg9 harg9 arg10 harg10 x0 x1 x2 x3 hc0 hc1 hs hb hh q d
  rw [vt_whole arg7.view arg7.view.junk c arg4 harg4 x2] at h
  exact h

theorem vt_A (c : Dev nD) (t : Fin cfg0.N) (h0 : t.val % 16 = 0) :
    (outsAt0 m c t.val t.isLt).2 = vtG (valCols (aKV m c) (gOf t)) := by
  have h1 : ¬ t.val % 2 = 1 := by omega
  have h := congrArg Prod.snd (outsAt0_A m c t h0 h1)
  rw [← blk_v]
  refine h.trans ?_
  dsimp only
  exact scratch_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)

theorem vt_BC (c : Dev nD) (t : Fin cfg0.N) (h0 : ¬ t.val % 16 = 0) :
    (outsAt0 m c t.val t.isLt).2 = (outsAt0 m c (t.val - 1) (Nat.lt_of_le_of_lt (Nat.sub_le _ _) t.isLt)).2 := by
  by_cases h1 : t.val % 2 = 1
  · have h := congrArg Prod.snd (outsAt0_B m c t h0 h1)
    refine h.trans ?_
    dsimp only
    unfold sout0_B_0
    rfl
  · have h := congrArg Prod.snd (outsAt0_C m c t h0 h1)
    refine h.trans ?_
    dsimp only
    unfold sout0_C_0
    rfl

/-- The scratch after every grid point: the transposed values of the point's head pair. -/
theorem vt_at (c : Dev nD) : ∀ (n : ℕ) (hn : n < cfg0.N), (outsAt0 m c n hn).2 = vtG (valCols (aKV m c) (gOf ⟨n, hn⟩)) := by
  intro n
  induction n with
  | zero => exact fun hn => vt_A m c ⟨0, hn⟩ (Nat.zero_mod _)
  | succ n ih =>
    intro hn
    have hN : n < cfg0.N := Nat.lt_of_succ_lt hn
    by_cases h0 : (n + 1) % 16 = 0
    · exact vt_A m c ⟨n + 1, hn⟩ h0
    · have hg : gOf ⟨n, hN⟩ = gOf ⟨n + 1, hn⟩ := by
        apply Fin.ext
        show n / 16 = (n + 1) / 16
        omega
      rw [← hg, ← ih hN]
      exact vt_BC m c ⟨n + 1, hn⟩ h0

theorem coord_q (t : Fin cfg0.N) : (grid0.coords t 1).val = (qOf t).val := (coords_val t).2

/-- The scores of every query block are finite. -/
def Scores (X : FVec Ideal S8192x2048 .bf16) (KV : FVec Ideal S8192x4096 .bf16) (B : FVec Ideal S8192x2048 .bf16) : Prop :=
  ∀ (n : Fin 16) (g : Fin 8), Fin' (QQ (qBlk X n g)) (keyCols KV g) (pairCols B g) ∧ NoBot (QQ (qBlk X n g)) (keyCols KV g) (pairCols B g)

set_option maxHeartbeats 2000000 in
/-- What a grid point leaves in its output block. -/
theorem point (c : Dev nD) (hs : Scores (aQ m c) (aKV m c) (aB m c)) (t : Fin cfg0.N) (hh : Fin 2) (q : Fin 512) (d : Fin 128) :
    (outsAt0 m c t.val t.isLt).1 (ix2 q ⟨128 * hh.val + d.val, by omega⟩)
      = att (qBlk (aQ m c) (qOf t) (gOf t)) (keyCols (aKV m c) (gOf t)) (pairCols (aB m c) (gOf t)) (vtG (valCols (aKV m c) (gOf t)))
        (qOf t).val hh q d := by
  obtain ⟨hf, hb⟩ := hs (qOf t) (gOf t)
  rw [← coord_q, ← blk_k, ← blk_b, ← blk_q] at *
  by_cases h0 : t.val % 16 = 0
  · have h1 : ¬ t.val % 2 = 1 := by omega
    refine (congrFun (congrArg Prod.fst (outsAt0_A m c t h0 h1)) _).trans ?_
    rw [← blk_v]
    exact block_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) hf hb hh q d
  · have hp : t.val - 1 < cfg0.N := Nat.lt_of_le_of_lt (Nat.sub_le _ _) t.isLt
    have hg : gOf ⟨t.val - 1, hp⟩ = gOf t := by
      apply Fin.ext
      show (t.val - 1) / 16 = t.val / 16
      omega
    have hv := vt_at m c (t.val - 1) hp
    rw [hg] at hv
    rw [← hv]
    by_cases h1 : t.val % 2 = 1
    · refine (congrFun (congrArg Prod.fst (outsAt0_B m c t h0 h1)) _).trans ?_
      dsimp only
      exact out_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (outsAt0 m c (t.val - 1) (Nat.lt_of_le_of_lt (Nat.sub_le _ _) t.isLt)).2 (fun h => h0 ((hcond0_0 t).mp h)) ((hcond0_1 t).mpr h1) hf hb hh q d
    · refine (congrFun (congrArg Prod.fst (outsAt0_C m c t h0 h1)) _).trans ?_
      dsimp only
      exact out_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (outsAt0 m c (t.val - 1) (Nat.lt_of_le_of_lt (Nat.sub_le _ _) t.isLt)).2 (fun h => h0 ((hcond0_0 t).mp h)) (fun h => h1 ((hcond0_1 t).mp h)) hf hb hh q d

end Cert.FlashIdeal.Blocks

end
-- ==== Proof.RefRead.lean ====
module

public import proofs.«01_k».proof.Proof.Online
public import proofs.«01_k».proof.Proof.Gen.AttentionIdeal.Run
public import Idealize.ShloMosaic.Lib.Pipeline.ValueKit

@[expose] public section

set_option maxRecDepth 16384

noncomputable section

/-! # The reference read at an index -/

open Idealize.ShloMosaic Idealize.ShloMosaic.TcCoe Idealize.SL.Sem

namespace Cert.AttentionIdeal.Read

open Cert.AttentionIdeal Cert.AttentionIdeal.Gen Cert.AttentionIdeal.Value

open Cert.Online

/-- The masked logits of the reference. -/
def lg (Q : FVec Ideal S8192x2048 .bf16) (KV : FVec Ideal S8192x4096 .bf16) (B : FVec Ideal S8192x2048 .bf16) : FVec Ideal S16x8192x8192 .f32 :=
  select (broadcastInDim S16x8192x8192 ![0, 1, 2] bcast_S1x8192x8192_S16x8192x8192_0_1_2 (cmpi .sle (broadcastInDim S1x8192x8192 ![0, 1, 2] bcast_S1x1x8192_S1x8192x8192_0_1_2 (broadcastInDim S1x1x8192 ![2] bcast_S8192_S1x1x8192_2 (iotaInDim S8192 32 0))) (broadcastInDim S1x8192x8192 ![0, 1, 2] bcast_S1x8192x1_S1x8192x8192_0_1_2 (broadcastInDim S1x8192x1 ![1] bcast_S8192_S1x8192x1_1 (iotaInDim S8192 32 0))))) (mulf (addf (Host.dotGeneral dot_S8192x16x128_S8192x16x128_S16x8192x8192_2_2_0_0_1_1 none (shapeCast _ (extf .f32 Q bitsLt_bf16_f32) shapeCasts_S8192x2048_S8192x16x128) (shapeCast _ (extf .f32 (extractStridedSlice S8192x2048 ![0, 0] KV slices_S8192x4096_S8192x2048_0_0) bitsLt_bf16_f32) shapeCasts_S8192x2048_S8192x16x128)) (broadcastInDim S16x8192x8192 ![0, 1, 2] bcast_S16x1x8192_S16x8192x8192_0_1_2 (broadcastInDim S16x1x8192 ![0, 2] bcast_S16x8192_S16x1x8192_0_2 (transpose S16x8192 [1, 0] (Host.reduceAdd (extractStridedSlice S8192x16x3 ![0, 0, 0] (shapeCast _ (extf .f32 B bitsLt_bf16_f32) shapeCasts_S8192x2048_S8192x16x128) slices_S8192x16x128_S8192x16x3_0_0_0) (constant S_ .f32 0x00000000#32) reducesTo_S8192x16x3_S8192x16_d2 h_S_) transposes_S8192x16_S16x8192_1_0)))) (broadcastInDim S16x8192x8192 ![] bcast_S_S16x8192x8192 (Host.log (constant S_ .f32 0x40000000#32)))) (broadcastInDim S16x8192x8192 ![] bcast_S_S16x8192x8192 (id (constant S_ .f32 0xFF800000#32)))

/-- Each row's maximum over the keys. -/
def rmax (LG : FVec Ideal S16x8192x8192 .f32) : FVec Ideal S16x8192 .f32 :=
  Host.reduce FloatOps.maximumf LG (constant S_ .f32 0xFF800000#32) reducesTo_S16x8192x8192_S16x8192_d2 h_S_

/-- Each row's maximum, joined with minus infinity. -/
def mx (RM : FVec Ideal S16x8192 .f32) : FVec Ideal S16x8192 .f32 :=
  maximumf (broadcastInDim S16x8192 ![] bcast_S_S16x8192 (constant S_ .f32 0xFF800000#32)) RM

/-- The exponentials. -/
def ex (LG : FVec Ideal S16x8192x8192 .f32) (MX : FVec Ideal S16x8192 .f32) : FVec Ideal S16x8192x8192 .f32 :=
  Host.exp (subf LG (broadcastInDim S16x8192x8192 ![0, 1, 2] bcast_S16x8192x1_S16x8192x8192_0_1_2 (broadcastInDim S16x8192x1 ![0, 1] bcast_S16x8192_S16x8192x1_0_1 MX)))

/-- The weights. -/
def pr (EX : FVec Ideal S16x8192x8192 .f32) : FVec Ideal S16x8192x8192 .f32 :=
  Host.divf EX (broadcastInDim S16x8192x8192 ![0, 1, 2] bcast_S16x8192x1_S16x8192x8192_0_1_2 (broadcastInDim S16x8192x1 ![0, 1] bcast_S16x8192_S16x8192x1_0_1 (Host.reduceAdd EX (constant S_ .f32 0x00000000#32) reducesTo_S16x8192x8192_S16x8192_d2 h_S_)))

/-- The weighted values, heads side by side. -/
def rs (KV : FVec Ideal S8192x4096 .bf16) (PR : FVec Ideal S16x8192x8192 .f32) : FVec Ideal S8192x2048 .bf16 :=
  truncf .bf16 (shapeCast _ (transpose S8192x16x128 [2, 0, 1] (Host.dotGeneral dot_S8192x16x128_S16x8192x8192_S16x128x8192_0_2_2_1_1_0 none (shapeCast _ (extf .f32 (extractStridedSlice S8192x2048 ![0, 2048] KV slices_S8192x4096_S8192x2048_0_2048) bitsLt_bf16_f32) shapeCasts_S8192x2048_S8192x16x128) PR) transposes_S16x128x8192_S8192x16x128_2_0_1) shapeCasts_S8192x16x128_S8192x2048) bitsLt_bf16_f32

/-- The reference's result over its arguments. -/
def REF (Q : FVec Ideal S8192x2048 .bf16) (KV : FVec Ideal S8192x4096 .bf16) (B : FVec Ideal S8192x2048 .bf16) : FVec Ideal S8192x2048 .bf16 :=
  rs KV (pr (ex (lg Q KV B) (mx (rmax (lg Q KV B)))))

theorem res_eq (m : (ℓ : Loc nD τ sig) → Buf (Elt Ideal) ℓ) (c : Dev nD) :
    res_main_v41 (F := Ideal) m c = REF (m ((c.tc : Thread nD τ).loc main_arg0)) (m ((c.tc : Thread nD τ).loc main_arg1))
      (m ((c.tc : Thread nD τ).loc main_arg2)) := by
  unfold res_main_v41 REF rs pr ex mx rmax lg
  rfl

theorem select_sle (k q : Fin 8192) (a b : EReal) :
    Scalar.select (IntOp.cmpi .sle (BitVec.ofNat 32 k.val) (BitVec.ofNat 32 q.val)) a b = if k.val ≤ q.val then a else b := by
  have hk := k.isLt
  have hq := q.isLt
  have e1 : (BitVec.ofNat 32 k.val).toInt = k.val := by rw [BitVec.toInt_ofNat']; simp [Int.bmod]; omega
  have e2 : (BitVec.ofNat 32 q.val).toInt = q.val := by rw [BitVec.toInt_ofNat']; simp [Int.bmod]; omega
  by_cases h : k.val ≤ q.val
  · simp [Scalar.select, IntOp.cmpi, BitVec.sle, e1, e2, h]
  · simp [Scalar.select, IntOp.cmpi, BitVec.sle, e1, e2, h]

theorem ninf : Ideal.ofBits FTy.f32 4286578688#32 = ⊥ := by simp [Ideal.ofBits, Ideal.ieee]

theorem two : Ideal.ofBits FTy.f32 1073741824#32 = ((2 : ℝ) : EReal) := by
  simp [Ideal.ofBits, Ideal.ieee]
  rw [← EReal.coe_mul]
  norm_num

theorem log_two : Ideal.log (Ideal.ofBits FTy.f32 1073741824#32) = ((Real.log 2 : ℝ) : EReal) := by
  rw [two, Ideal.log_coe, if_neg (by norm_num)]

/-- The score of key `k` for query `q` of head `h`: the product and the three bias columns. -/
def score (Q : FVec Ideal S8192x2048 .bf16) (KV : FVec Ideal S8192x4096 .bf16) (B : FVec Ideal S8192x2048 .bf16) (h : Fin 16) (q k : Fin 8192) : EReal :=
  ∑ x : Fin 128, Q (ix2 q ⟨128 * h.val + x.val, by omega⟩) * KV (ix2 k ⟨128 * h.val + x.val, by omega⟩)
    + ∑ x : Fin 3, B (ix2 k ⟨128 * h.val + x.val, by omega⟩)

/-- The score of a key a query may see, minus infinity at a later key. -/
def msc (Q : FVec Ideal S8192x2048 .bf16) (KV : FVec Ideal S8192x4096 .bf16) (B : FVec Ideal S8192x2048 .bf16) (h : Fin 16) (q k : Fin 8192) : EReal :=
  if k.val ≤ q.val then score Q KV B h q k else ⊥

theorem lg_at (Q : FVec Ideal S8192x2048 .bf16) (KV : FVec Ideal S8192x4096 .bf16) (B : FVec Ideal S8192x2048 .bf16) (h : Fin 16) (q k : Fin 8192) :
    lg Q KV B (ix3 h q k) = msc Q KV B h q k * ((Real.log 2 : ℝ) : EReal) := by
  pointwise [lg]
  rw [select_sle, log_two]
  unfold msc score
  have hl : (0 : ℝ) < Real.log 2 := Real.log_pos (by norm_num)
  split
  · congr 2
    · refine Finset.sum_congr rfl fun x _ => ?_
      congr 3 <;> (congr 1; omega)
    · refine Finset.sum_congr rfl fun x _ => ?_
      congr 2; apply Fin.ext; show h.val * 128 + x.val = 128 * h.val + x.val; omega
  · rw [EReal.bot_mul_coe_of_pos hl]
    exact ninf

theorem reduce_max_real {s t u : Shape} {axes : List (Fin s.rank)} (x : FVec Ideal s .f32) (init : FVec Ideal u .f32)
    (h : s.ReducesTo axes t) (hu : 0 < u.numel) (j : t.Idx) (hi : init (Shape.Idx.first hu) = (⊥ : EReal))
    (hx : ∀ i, x i ≠ (⊤ : EReal)) (i : s.Idx) (hd : h.drop i = j) (hb : x i ≠ (⊥ : EReal)) :
    ∃ r : ℝ, Host.reduce FloatOps.maximumf x init h hu j = ((r : ℝ) : EReal) := by
  have e : Host.reduce FloatOps.maximumf x init h hu j = Host.reduce (max : EReal → EReal → EReal) x init h hu j := rfl
  rw [e, Host.reduce_eq_fold, hi]
  exact fold_max_real _ x (fun k _ => hx k) i (Finset.mem_filter.2 ⟨Finset.mem_univ _, hd⟩) hb

theorem mx_at (RM : FVec Ideal S16x8192 .f32) (h : Fin 16) (q : Fin 8192) : mx RM (ix2 h q) = RM (ix2 h q) := by
  pointwise [mx]
  rw [ninf]
  exact max_eq_right bot_le

theorem drop_at (h : Fin 16) (q k : Fin 8192) : reducesTo_S16x8192x8192_S16x8192_d2.drop (ix3 h q k) = ix2 h q := by
  funext a
  fin_cases a <;> rfl

theorem rmax_real (L : FVec Ideal S16x8192x8192 .f32) (hx : ∀ i, L i ≠ (⊤ : EReal)) (h : Fin 16) (q k : Fin 8192)
    (hb : L (ix3 h q k) ≠ (⊥ : EReal)) : ∃ r : ℝ, rmax L (ix2 h q) = (r : EReal) := by
  unfold rmax
  exact reduce_max_real L _ _ _ _ ninf hx (ix3 h q k) (drop_at h q k) hb

theorem ex_at (L : FVec Ideal S16x8192x8192 .f32) (M : FVec Ideal S16x8192 .f32) (h : Fin 16) (q k : Fin 8192) :
    ex L M (ix3 h q k) = Ideal.exp (L (ix3 h q k) - M (ix2 h q)) := by
  pointwise [ex]

theorem pr_at (E : FVec Ideal S16x8192x8192 .f32) (h : Fin 16) (q k : Fin 8192) :
    pr E (ix3 h q k) = Ideal.div (E (ix3 h q k)) (∑ l, E (ix3 h q l)) := by
  pointwise [pr]

theorem rs_at (KV : FVec Ideal S8192x4096 .bf16) (P : FVec Ideal S16x8192x8192 .f32) (h : Fin 16) (q : Fin 8192) (d : Fin 128) :
    rs KV P (ix2 q ⟨128 * h.val + d.val, by omega⟩)
      = ∑ k : Fin 8192, KV (ix2 k ⟨2048 + (128 * h.val + d.val), by omega⟩) * P (ix3 h q k) := by
  pointwise [rs]
  refine Finset.sum_congr rfl fun k _ => ?_
  congr 3; apply Fin.ext; show 2048 + (h.val * 128 + d.val) = 2048 + (128 * h.val + d.val); omega

/-- The reference at an index: the weighted values over the total weight. -/
theorem REF_at (Q : FVec Ideal S8192x2048 .bf16) (KV : FVec Ideal S8192x4096 .bf16) (B : FVec Ideal S8192x2048 .bf16)
    (ht : ∀ h q k, score Q KV B h q k ≠ ⊤) (hb : ∀ h q k, score Q KV B h q k ≠ ⊥) (h : Fin 16) (q : Fin 8192) (d : Fin 128) :
    REF Q KV B (ix2 q ⟨128 * h.val + d.val, by omega⟩)
      = ((1 / wsum (msc Q KV B h q) : ℝ) : EReal) * vsum (msc Q KV B h q) (fun k => KV (ix2 k ⟨2048 + (128 * h.val + d.val), by omega⟩)) := by
  have hl : (0 : ℝ) < Real.log 2 := Real.log_pos (by norm_num)
  have hm : ∀ h q k, msc Q KV B h q k ≠ ⊤ := fun h q k => by
    unfold msc; split
    · exact ht h q k
    · exact bot_ne_top
  have hq : msc Q KV B h q q ≠ ⊥ := by
    unfold msc; rw [if_pos le_rfl]; exact hb h q q
  have hmul : ∀ s : EReal, s ≠ ⊤ → s * ((Real.log 2 : ℝ) : EReal) ≠ ⊤ := fun s hs => by
    rcases cases_of_ne_top hs with rfl | ⟨y, rfl⟩
    · rw [EReal.bot_mul_coe_of_pos hl]; exact bot_ne_top
    · rw [← EReal.coe_mul]; exact EReal.coe_ne_top _
  have hx : ∀ i, lg Q KV B i ≠ (⊤ : EReal) := fun i => by
    have e : i = ix3 (⟨(i 0).val, (i 0).isLt⟩ : Fin 16) (⟨(i 1).val, (i 1).isLt⟩ : Fin 8192) (⟨(i 2).val, (i 2).isLt⟩ : Fin 8192) := by
      funext a
      fin_cases a <;> rfl
    rw [e, lg_at]
    exact hmul _ (hm _ _ _)
  have hbl : lg Q KV B (ix3 h q q) ≠ (⊥ : EReal) := by
    rw [lg_at]
    rcases cases_of_ne_top (hm h q q) with e | ⟨y, e⟩
    · exact absurd e hq
    · rw [e, ← EReal.coe_mul]; exact EReal.coe_ne_bot _
  obtain ⟨r, hr⟩ := rmax_real (lg Q KV B) hx h q q hbl
  unfold REF
  rw [rs_at, ← softmax_eq (msc Q KV B h q) _ (hm h q) r
    (Finset.sum_pos' (fun k _ => wt_nonneg _) ⟨q, Finset.mem_univ _, wt_pos hq⟩)]
  refine Finset.sum_congr rfl fun k _ => ?_
  have he : ∀ l, ex (lg Q KV B) (mx (rmax (lg Q KV B))) (ix3 h q l)
      = Ideal.exp (msc Q KV B h q l * ((Real.log 2 : ℝ) : EReal) - (r : EReal)) := fun l => by
    rw [ex_at, mx_at, lg_at, hr]
  rw [pr_at, he, Finset.sum_congr rfl fun l _ => he l]

end Cert.AttentionIdeal.Read

end
-- ==== Proof.Match.lean ====
module

public import proofs.«01_k».proof.Proof.Blocks
public import proofs.«01_k».proof.Proof.RefRead

@[expose] public section

set_option maxRecDepth 16384

noncomputable section

/-! # The kernel's blocks against the reference's sum over all keys -/

open Idealize.ShloMosaic Idealize.ShloMosaic.TcCoe Idealize.SL.Sem

namespace Cert.FlashIdeal.Match

open Cert.FlashIdeal Cert.FlashIdeal.Gen

open Cert.Online Cert.FlashIdeal.Pay Cert.FlashIdeal.Body Cert.FlashIdeal.Vt Cert.FlashIdeal.Blocks
open Cert.AttentionIdeal.Read (score msc)

variable (Q : FVec Ideal S8192x2048 .bf16) (KV : FVec Ideal S8192x4096 .bf16) (B : FVec Ideal S8192x2048 .bf16)

/-- The head: the pair and the place in it. -/
def hd (g : Fin 8) (hh : Fin 2) : Fin 16 := ⟨2 * g.val + hh.val, by omega⟩

/-- The row: the block and the place in it. -/
def row (n : Fin 16) (q : Fin 512) : Fin 8192 := ⟨512 * n.val + q.val, by omega⟩

theorem key_eq (n b : Fin 16) (g : Fin 8) (hh : Fin 2) (q k : Fin 512) :
    sc (blkQ (qBlk Q n g) hh) (blkK (keyCols KV g) hh b.val) (blkK (pairCols B g) hh b.val) q k
      = score Q KV B (hd g hh) (row n q) (row b k) := by
  unfold sc score
  have hb : b.val % 16 = b.val := Nat.mod_eq_of_lt b.isLt
  refine congrArg₂ (· + ·) (Finset.sum_congr rfl fun x _ => ?_) (Finset.sum_congr rfl fun x _ => ?_)
  · rw [mul_comm]
    refine congrArg₂ (· * ·) (congrArg Q ?_) (congrArg KV ?_)
    · refine congrArg₂ ix2 (Fin.ext ?_) (Fin.ext ?_)
      · rfl
      · show 256 * g.val + (128 * hh.val + x.val) = 128 * (2 * g.val + hh.val) + x.val
        omega
    · refine congrArg₂ ix2 (Fin.ext ?_) (Fin.ext ?_)
      · show 512 * (b.val % 16) + k.val = 512 * b.val + k.val
        omega
      · show 256 * g.val + (128 * hh.val + x.val) = 128 * (2 * g.val + hh.val) + x.val
        omega
  · refine congrArg B (congrArg₂ ix2 (Fin.ext ?_) (Fin.ext ?_))
    · show 512 * (b.val % 16) + k.val = 512 * b.val + k.val
      omega
    · show 256 * g.val + (128 * hh.val + x.val) = 128 * (2 * g.val + hh.val) + x.val
      omega

/-- The kernel's score, block by block, is the reference's. -/
theorem qk_eq (n b : Fin 16) (g : Fin 8) (hh : Fin 2) (q k : Fin 512) :
    qk (QQ (qBlk Q n g) hh) (blkK (keyCols KV g) hh b.val) (blkK (pairCols B g) hh b.val) q k
      = score Q KV B (hd g hh) (row n q) (row b k) := by
  rw [← key_eq]
  fin_cases hh
  · exact qk_100 _ _ _ q k
  · exact qk_101 _ _ _ q k

theorem val_eq (b : Fin 16) (g : Fin 8) (hh : Fin 2) (k : Fin 512) (d : Fin 128) :
    blkV (vtG (valCols KV g)) hh b.val (ix4 0 0 d k) = KV (ix2 (row b k) ⟨2048 + (128 * (hd g hh).val + d.val), by omega⟩) := by
  refine congrArg KV (congrArg₂ ix2 (Fin.ext ?_) (Fin.ext ?_))
  · show 512 * (b.val % 16 % 16) + k.val = 512 * b.val + k.val
    omega
  · show 2048 + (256 * g.val + (128 * hh.val + d.val)) = 2048 + (128 * (2 * g.val + hh.val) + d.val)
    omega

/-- A sum over all keys: the block on the diagonal, the blocks before it, and nothing after. -/
theorem sum_blocks {M : Type*} [AddCommMonoid M] (f : Fin 8192 → M) (n : Fin 16) (w : M) (p : ℕ → M)
    (hd : ∑ k : Fin 512, f (row n k) = w) (hp : ∀ b : Fin 16, b.val < n.val → ∑ k : Fin 512, f (row b k) = p b.val)
    (hz : ∀ b : Fin 16, n.val < b.val → ∑ k : Fin 512, f (row b k) = 0) :
    ∑ l, f l = w + ∑ b ∈ Finset.range n.val, p b := by
  have e1 : ∑ l, f l = ∑ b : Fin 16, ∑ k : Fin 512, f (row b k) := by
    rw [← Fin.sum_mul_add_fin 16 512 f]
    refine Finset.sum_congr rfl fun b _ => Finset.sum_congr rfl fun k _ => congrArg f (Fin.ext ?_)
    show b.val * 512 + k.val = 512 * b.val + k.val
    omega
  have e2 : ∀ b : Fin 16, ∑ k : Fin 512, f (row b k) = (fun b : ℕ => if b < n.val then p b else if b = n.val then w else 0) b.val := fun b => by
    dsimp only
    split
    · next h => exact hp b h
    · next h =>
      split
      · next h' => rw [← hd, Fin.ext h']
      · next h' => exact hz b (by omega)
  have hn := n.isLt
  rw [e1, Finset.sum_congr rfl fun b _ => e2 b, Fin.sum_univ_eq_sum_range (fun b : ℕ => if b < n.val then p b else if b = n.val then w else 0) 16,
    ← Finset.sum_subset (Finset.range_subset_range.2 (Nat.succ_le_of_lt hn)) (fun x _ hx => by
      rw [Finset.mem_range] at hx
      rw [if_neg (by omega), if_neg (by omega)]),
    Finset.sum_range_succ, if_neg (lt_irrefl _), if_pos rfl, add_comm]
  refine congrArg (w + ·) (Finset.sum_congr rfl fun b hb => ?_)
  rw [if_pos (Finset.mem_range.1 hb)]

theorem msc_before (h : Fin 16) (n b : Fin 16) (q k : Fin 512) (hb : b.val < n.val) :
    msc Q KV B h (row n q) (row b k) = score Q KV B h (row n q) (row b k) := by
  unfold msc
  have hq := q.isLt
  have hk := k.isLt
  rw [if_pos]
  show 512 * b.val + k.val ≤ 512 * n.val + q.val
  omega

theorem msc_after (h : Fin 16) (n b : Fin 16) (q k : Fin 512) (hb : n.val < b.val) : msc Q KV B h (row n q) (row b k) = ⊥ := by
  unfold msc
  have hq := q.isLt
  have hk := k.isLt
  rw [if_neg]
  show ¬ 512 * b.val + k.val ≤ 512 * n.val + q.val
  omega

theorem msc_diag (n : Fin 16) (g : Fin 8) (hh : Fin 2) (q k : Fin 512) :
    msc Q KV B (hd g hh) (row n q) (row n k)
      = qkm (QQ (qBlk Q n g) hh) (blkK (keyCols KV g) hh n.val) (blkK (pairCols B g) hh n.val) q k := by
  unfold msc qkm
  rw [qk_eq]
  have e : ((row n k).val ≤ (row n q).val) = (k.val ≤ q.val) := by
    show (512 * n.val + k.val ≤ 512 * n.val + q.val) = _
    simp
  simp only [e]

/-- The total weight, over blocks. -/
theorem wsum_eq (n : Fin 16) (g : Fin 8) (hh : Fin 2) (q : Fin 512) :
    wsum (msc Q KV B (hd g hh) (row n q))
      = accW (QQ (qBlk Q n g)) (keyCols KV g) (pairCols B g) (dW (QQ (qBlk Q n g)) (keyCols KV g) (pairCols B g) n.val) n.val hh q := by
  refine sum_blocks _ n _ _ ?_ ?_ ?_
  · unfold dW wsum
    exact Finset.sum_congr rfl fun k _ => by rw [msc_diag]
  · intro b hb
    unfold bW wsum
    exact Finset.sum_congr rfl fun k _ => by rw [msc_before _ _ _ _ _ _ _ _ hb, ← qk_eq]
  · intro b hb
    exact Finset.sum_eq_zero fun k _ => by rw [msc_after _ _ _ _ _ _ _ _ hb, wt_bot]

/-- The weighted values, over blocks. -/
theorem vsum_eq (n : Fin 16) (g : Fin 8) (hh : Fin 2) (q : Fin 512) (d : Fin 128) :
    vsum (msc Q KV B (hd g hh) (row n q)) (fun k => KV (ix2 k ⟨2048 + (128 * (hd g hh).val + d.val), by omega⟩))
      = accV (QQ (qBlk Q n g)) (keyCols KV g) (pairCols B g) (vtG (valCols KV g))
        (dV (QQ (qBlk Q n g)) (keyCols KV g) (pairCols B g) (vtG (valCols KV g)) n.val) n.val hh q d := by
  refine sum_blocks _ n _ _ ?_ ?_ ?_
  · unfold dV vsum
    exact Finset.sum_congr rfl fun k _ => by dsimp only; rw [msc_diag, val_eq]
  · intro b hb
    unfold bV vsum
    exact Finset.sum_congr rfl fun k _ => by rw [msc_before _ _ _ _ _ _ _ _ hb, ← qk_eq]; dsimp only; rw [val_eq]
  · intro b hb
    exact Finset.sum_eq_zero fun k _ => by rw [msc_after _ _ _ _ _ _ _ _ hb, wt_bot, EReal.coe_zero, zero_mul]

/-- A block's attention is the reference's. -/
theorem att_eq (ht : ∀ h q k, score Q KV B h q k ≠ ⊤) (hb : ∀ h q k, score Q KV B h q k ≠ ⊥)
    (n : Fin 16) (g : Fin 8) (hh : Fin 2) (q : Fin 512) (d : Fin 128) :
    att (qBlk Q n g) (keyCols KV g) (pairCols B g) (vtG (valCols KV g)) n.val hh q d
      = Cert.AttentionIdeal.Read.REF Q KV B (ix2 (row n q) ⟨128 * (hd g hh).val + d.val, by omega⟩) := by
  rw [Cert.AttentionIdeal.Read.REF_at Q KV B ht hb, wsum_eq, vsum_eq]
  rfl

theorem scores (ht : ∀ h q k, score Q KV B h q k ≠ ⊤) (hb : ∀ h q k, score Q KV B h q k ≠ ⊥) : Scores Q KV B := by
  intro n g
  have hm : ∀ (X : FVec Ideal S8192x256 .bf16) (hh : Fin 2) (b : ℕ), blkK X hh b = blkK X hh (b % 16) := fun X hh b => by
    unfold blkK
    simp only [Nat.mod_mod]
  refine ⟨fun hh b q k => ?_, fun hh b q k => ?_⟩
  · rw [hm (keyCols KV g), hm (pairCols B g), qk_eq Q KV B n ⟨b % 16, by omega⟩ g hh q k]
    exact ht _ _ _
  · rw [hm (keyCols KV g), hm (pairCols B g), qk_eq Q KV B n ⟨b % 16, by omega⟩ g hh q k]
    exact hb _ _ _

/-- Finite arguments give finite scores. -/
theorem score_finite (hQ : ∀ i, Q i ≠ (⊤ : EReal) ∧ Q i ≠ (⊥ : EReal))
    (hK : ∀ (r : Fin 8192) (e : Fin 2048), KV (ix2 r ⟨e.val, by omega⟩) ≠ (⊤ : EReal) ∧ KV (ix2 r ⟨e.val, by omega⟩) ≠ (⊥ : EReal))
    (hB : ∀ i, B i ≠ (⊤ : EReal) ∧ B i ≠ (⊥ : EReal)) (h : Fin 16) (q k : Fin 8192) :
    score Q KV B h q k ≠ ⊤ ∧ score Q KV B h q k ≠ ⊥ := by
  have hsum : ∀ {m : ℕ} (f : Fin m → EReal), (∀ x, ∃ r : ℝ, f x = (r : EReal)) → ∃ r : ℝ, ∑ x, f x = (r : EReal) := by
    intro m f hf
    choose r hr using hf
    exact ⟨∑ x, r x, by rw [Finset.sum_congr rfl fun x _ => hr x, coe_sum]⟩
  have hre : ∀ x : EReal, x ≠ ⊤ ∧ x ≠ ⊥ → ∃ r : ℝ, x = (r : EReal) := fun x hx => ⟨x.toReal, (EReal.coe_toReal hx.1 hx.2).symm⟩
  obtain ⟨a, ha⟩ := hsum (fun x : Fin 128 => Q (ix2 q ⟨128 * h.val + x.val, by omega⟩) * KV (ix2 k ⟨128 * h.val + x.val, by omega⟩)) (fun x => by
    obtain ⟨u, hu⟩ := hre _ (hQ (ix2 q ⟨128 * h.val + x.val, by omega⟩))
    obtain ⟨v, hv⟩ := hre _ (hK k ⟨128 * h.val + x.val, by omega⟩)
    exact ⟨u * v, by rw [hu, hv, EReal.coe_mul]⟩)
  obtain ⟨b, hb⟩ := hsum (fun x : Fin 3 => B (ix2 k ⟨128 * h.val + x.val, by omega⟩)) (fun x => hre _ (hB _))
  unfold score
  rw [ha, hb, ← EReal.coe_add]
  exact ⟨EReal.coe_ne_top _, EReal.coe_ne_bot _⟩

end Cert.FlashIdeal.Match

end
-- ==== Proof.Pre.lean ====
module

public import proofs.«01_k».proof.Proof.Gen.Pre_finite
public import Idealize.ShloMosaic.Lib.ReduceAll
public import Idealize.ShloMosaic.Lib.Affine
public import Idealize.ShloMosaic.PureOps.Ideal

@[expose] public section

set_option maxRecDepth 16384

noncomputable section

/-! # The precondition read element by element -/

open Idealize.ShloMosaic Idealize.ShloMosaic.TcCoe Idealize.SL.Sem

namespace Cert.Pre_finite.Read

open Cert.Pre_finite Cert.Pre_finite.Gen

open Idealize.ShloMosaic.Host

theorem pinf : Ideal.ofBits FTy.f32 2139095040#32 = ⊤ := by simp [Ideal.ofBits, Ideal.ieee]

instance : Subsingleton S_.Idx := ⟨fun a b => funext fun x => x.elim0⟩

/-- An absolute value below plus infinity is that of a real number. -/
theorem real_of_abs {x : EReal} (h : FloatOps.cmpf (F := Ideal) (φ := .f32) .olt (FloatOps.hostAbsf (F := Ideal) (φ := .f32) x) (Ideal.ofBits FTy.f32 2139095040#32) = 1#1) :
    x ≠ ⊤ ∧ x ≠ ⊥ := by
  rw [pinf] at h
  have h' : Ideal.cmp .olt (max x (-x)) ⊤ = 1#1 := h
  simp only [Ideal.cmp] at h'
  constructor
  · rintro rfl
    simp at h'
  · rintro rfl
    simp at h'

/-- The precondition, element by element. -/
theorem finite_at (Q : FVec Ideal S8192x2048 .bf16) (KV : FVec Ideal S8192x4096 .bf16) (B : FVec Ideal S8192x2048 .bf16)
    (h : Cert.Pre_finite.fn (F := Ideal) Q KV B = fun _ => 1#1) (i : S8192x2048.Idx) :
    (Q i ≠ (⊤ : EReal) ∧ Q i ≠ (⊥ : EReal))
      ∧ (extractStridedSlice S8192x2048 ![0, 0] KV slices_S8192x4096_S8192x2048_0_0 i ≠ (⊤ : EReal)
        ∧ extractStridedSlice S8192x2048 ![0, 0] KV slices_S8192x4096_S8192x2048_0_0 i ≠ (⊥ : EReal))
      ∧ (B i ≠ (⊤ : EReal) ∧ B i ≠ (⊥ : EReal)) := by
  have h0 := congrFun h (fun x => x.elim0)
  dsimp only [fn] at h0
  obtain ⟨h1, h3⟩ := IntOp.andi_eq_one.1 h0
  obtain ⟨h1, h2⟩ := IntOp.andi_eq_one.1 h1
  have e1 := Host.reduce_andi_all _ _ _ _ _ h1 i
  have e2 := Host.reduce_andi_all _ _ _ _ _ h2 i
  have e3 := Host.reduce_andi_all _ _ _ _ _ h3 i
  exact ⟨real_of_abs e1, real_of_abs e2, real_of_abs e3⟩

end Cert.Pre_finite.Read

end
-- ==== Proof.Result.lean ====
module

public import proofs.«01_k».proof.Proof.Match
public import proofs.«01_k».proof.Proof.Pre

@[expose] public section

set_option maxRecDepth 16384

noncomputable section

/-! # The kernel's result array -/

open Idealize.ShloMosaic Idealize.ShloMosaic.TcCoe Idealize.SL.Sem

namespace Cert.FlashIdeal.Result

open Cert.FlashIdeal Cert.FlashIdeal.Gen

open Idealize.ShloMosaic.Pipeline (Dat)
open Cert.Online Cert.FlashIdeal.Pay Cert.FlashIdeal.Body Cert.FlashIdeal.Vt Cert.FlashIdeal.Blocks
open Cert.FlashIdeal.Gen Cert.FlashIdeal.Match
open Cert.AttentionIdeal.Read (score msc)

variable (m : (ℓ : Loc nD τ sig) → Buf (Elt Ideal) ℓ)

/-- The block left at a grid point, read where the reference reads it. -/
theorem block_eq (c : Dev nD)
    (ht : ∀ h q k, score (aQ m c) (aKV m c) (aB m c) h q k ≠ ⊤) (hb : ∀ h q k, score (aQ m c) (aKV m c) (aB m c) h q k ≠ ⊥)
    (t : Fin cfg0.N) (y : S512x256.Idx) :
    (outsAt0 m c t.val t.isLt).1 y
      = Cert.AttentionIdeal.Read.REF (aQ m c) (aKV m c) (aB m c)
        (ix2 ⟨512 * (qOf t).val + (y 0).val, by have := (qOf t).isLt; have : (y 0).val < 512 := (y 0).isLt; omega⟩
          ⟨256 * (gOf t).val + (y 1).val, by have := (gOf t).isLt; have : (y 1).val < 256 := (y 1).isLt; omega⟩) := by
  have h1 : (y 1).val < 256 := (y 1).isLt
  have hy : y = ix2 (y 0) ⟨128 * ((⟨(y 1).val / 128, by omega⟩ : Fin 2)).val + ((⟨(y 1).val % 128, by omega⟩ : Fin 128)).val, by dsimp only; omega⟩ := by
    funext x
    fin_cases x
    · rfl
    · refine Fin.ext ?_
      show (y 1).val = 128 * ((y 1).val / 128) + (y 1).val % 128
      omega
  have e := (point m c (scores _ _ _ ht hb) t ⟨(y 1).val / 128, by omega⟩ (y 0) ⟨(y 1).val % 128, by omega⟩).trans
    (att_eq (aQ m c) (aKV m c) (aB m c) ht hb (qOf t) (gOf t) _ (y 0) _)
  refine (congrArg (outsAt0 m c t.val t.isLt).1 hy).trans (e.trans ?_)
  refine congrArg (Cert.AttentionIdeal.Read.REF (aQ m c) (aKV m c) (aB m c)) (congrArg₂ ix2 (Fin.ext ?_) (Fin.ext ?_))
  · rfl
  · show 128 * (2 * (gOf t).val + (y 1).val / 128) + (y 1).val % 128 = 256 * (gOf t).val + (y 1).val
    omega

/-- The kernel's result array is the reference's. -/
theorem result (c : Dev nD)
    (ht : ∀ h q k, score (aQ m c) (aKV m c) (aB m c) h q k ≠ ⊤) (hb : ∀ h q k, score (aQ m c) (aKV m c) (aB m c) h q k ≠ ⊥) :
    (dats m 0 c).arrAt 4 cfg0.N = Cert.AttentionIdeal.Read.REF (aQ m c) (aKV m c) (aB m c) := by
  refine (dats m 0 c).arrAt_eq_of_covers 4 _ (by decide +kernel) fun t hf y => ?_
  blk_simp
  rw [after0_4]
  refine (block_eq m c ht hb t y).trans ?_
  refine congrArg (Cert.AttentionIdeal.Read.REF (aQ m c) (aKV m c) (aB m c)) ?_
  unfold qOf gOf
  blk_ext [V, idx t]

/-- Under the precondition every score is a real number. -/
theorem real_scores (Q : FVec Ideal S8192x2048 .bf16) (KV : FVec Ideal S8192x4096 .bf16) (B : FVec Ideal S8192x2048 .bf16)
    (h : Cert.Pre_finite.fn (F := Ideal) Q KV B = fun _ => 1#1) (h' : Fin 16) (q k : Fin 8192) :
    score Q KV B h' q k ≠ ⊤ ∧ score Q KV B h' q k ≠ ⊥ := by
  refine score_finite Q KV B (fun i => (Cert.Pre_finite.Read.finite_at Q KV B h i).1) (fun r e => ?_)
    (fun i => (Cert.Pre_finite.Read.finite_at Q KV B h i).2.2) h' q k
  have e1 := (Cert.Pre_finite.Read.finite_at Q KV B h (ix2 r e)).2.1
  have e2 : extractStridedSlice Cert.Pre_finite.S8192x2048 ![0, 0] KV Cert.Pre_finite.Gen.slices_S8192x4096_S8192x2048_0_0 (ix2 r e)
      = KV (ix2 r ⟨e.val, by omega⟩) := by
    pointwise
  rwa [e2] at e1

/-- The kernel's result array, as the generated run names it. -/
theorem value (c : Dev nD) (h : Cert.Pre_finite.fn (F := Ideal) (aQ m c) (aKV m c) (aB m c) = fun _ => 1#1) :
    Cert.FlashIdeal.Value.G4 m c = Cert.AttentionIdeal.Read.REF (aQ m c) (aKV m c) (aB m c) :=
  (Cert.FlashIdeal.Value.final4 m c).symm.trans
    (result m c (fun h' q k => (real_scores _ _ _ h h' q k).1) (fun h' q k => (real_scores _ _ _ h h' q k).2))

end Cert.FlashIdeal.Result

end
-- ==== Proof.OutP.lean ====
module

public import proofs.«01_k».proof.Proof.Gen.OutProjIdeal.Value
public import proofs.«01_k».proof.Proof.Gen.OutProjRefIdeal.Run
public import Idealize.ShloMosaic.Lib.Pipeline.ValueKit

@[expose] public section

set_option maxRecDepth 16384

noncomputable section

/-! The output projection: the blocks the grid leaves are those of the plain product with the weights plus the residual. -/

open Idealize.ShloMosaic Idealize.ShloMosaic.TcCoe Idealize.SL.Sem

namespace Cert.OutProjIdeal.Result

open Cert.OutProjIdeal Cert.OutProjIdeal.Gen

open Idealize.ShloMosaic.Pipeline (Dat)

/-- The reference's array: the residual stream plus the product with the output weights. -/
def REF (A : FVec Ideal S8192x4096 .bf16) (W : FVec Ideal S4096x2048 .bf16) (R : FVec Ideal S8192x2048 .f32) : FVec Ideal S8192x2048 .f32 :=
  addf R (Host.dotGeneral Cert.OutProjRefIdeal.dot_S8192x4096_S4096x2048_S8192x2048_1_0_0_1_n_n none
    (extf .f32 A Cert.OutProjRefIdeal.Gen.bitsLt_bf16_f32) (extf .f32 W Cert.OutProjRefIdeal.Gen.bitsLt_bf16_f32))

theorem REF_at (A : FVec Ideal S8192x4096 .bf16) (W : FVec Ideal S4096x2048 .bf16) (R : FVec Ideal S8192x2048 .f32) (p : Fin 8192) (q : Fin 2048) :
    REF A W R (ix2 p q) = R (ix2 p q) + ∑ k : Fin 4096, A (ix2 p k) * W (ix2 k q) := by
  pointwise [REF]

theorem pay_at (r : Vec Ideal S1024x512 .f32) (a : Vec Ideal S1024x4096 .bf16) (w : Vec Ideal S4096x512 .bf16) (p : Fin 1024) (q : Fin 512) :
    k0_pay1 r a w (ix2 p q) = r (ix2 p q) + ∑ k : Fin 4096, a (ix2 p k) * w (ix2 k q) := by
  pointwise [k0_pay1]

theorem zz : (![0, 0] : Fin 2 → ℕ) = fun _ => 0 := by funext i; fin_cases i <;> rfl

/-- The block a grid point leaves, from its three input blocks. -/
theorem out_eq (a : Vec Ideal S1024x4096 .bf16) (w : Vec Ideal S4096x512 .bf16) (r : Vec Ideal S1024x512 .f32) :
    out0_3 a w r = k0_pay1 r a w := by
  unfold out0_3
  refine (View.canon_unit_zero zz _ _).trans ?_
  rw [View.ld_unit_zero (S := S1024x512) zz, View.ld_unit_zero (S := S1024x4096) zz, View.ld_unit_zero (S := S4096x512) zz]

theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

variable (m : (ℓ : Loc nD τ sig) → Buf (Elt Ideal) ℓ)

def aA (c : Dev nD) : FVec Ideal S8192x4096 .bf16 := m ((c : Thread nD τ).loc main_arg0)
def aW (c : Dev nD) : FVec Ideal S4096x2048 .bf16 := m ((c : Thread nD τ).loc main_arg1)
def aR (c : Dev nD) : FVec Ideal S8192x2048 .f32 := m ((c : Thread nD τ).loc main_arg2)

/-- The row block of a grid point. -/
def iOf (t : Fin cfg0.N) : Fin 8 := ⟨t.val / 4, by have h : t.val < 32 := t.isLt; omega⟩
/-- The column block of a grid point. -/
def jOf (t : Fin cfg0.N) : Fin 4 := ⟨t.val % 4, by omega⟩

theorem a_blk (c : Dev nD) (t : Fin cfg0.N) : (iblk m c 0 t : S1024x4096.Idx → EReal)
    = fun y => aA m c (ix2 ⟨1024 * (iOf t).val + (y 0).val, by have := (iOf t).isLt; have : (y 0).val < 1024 := (y 0).isLt; omega⟩ (y 1)) := by
  funext y
  unfold iOf aA
  blk_ext [iblk, V, idx t]

theorem w_blk (c : Dev nD) (t : Fin cfg0.N) : (iblk m c 1 t : S4096x512.Idx → EReal)
    = fun y => aW m c (ix2 (y 0) ⟨512 * (jOf t).val + (y 1).val, by have := (jOf t).isLt; have : (y 1).val < 512 := (y 1).isLt; omega⟩) := by
  funext y
  unfold jOf aW
  blk_ext [iblk, V, idx t]

theorem r_blk (c : Dev nD) (t : Fin cfg0.N) : (iblk m c 2 t : S1024x512.Idx → EReal)
    = fun y => aR m c (ix2 ⟨1024 * (iOf t).val + (y 0).val, by have := (iOf t).isLt; have : (y 0).val < 1024 := (y 0).isLt; omega⟩
        ⟨512 * (jOf t).val + (y 1).val, by have := (jOf t).isLt; have : (y 1).val < 512 := (y 1).isLt; omega⟩) := by
  funext y
  unfold iOf jOf aR
  blk_ext [iblk, V, idx t]

/-- The block left at a grid point is the reference's block there. -/
theorem block_eq (c : Dev nD) (t : Fin cfg0.N) (y : S1024x512.Idx) :
    out0_3 (iblk m c 0 t) (iblk m c 1 t) (iblk m c 2 t) y
      = REF (aA m c) (aW m c) (aR m c)
        (ix2 ⟨1024 * (iOf t).val + (y 0).val, by have := (iOf t).isLt; have : (y 0).val < 1024 := (y 0).isLt; omega⟩
          ⟨512 * (jOf t).val + (y 1).val, by have := (jOf t).isLt; have : (y 1).val < 512 := (y 1).isLt; omega⟩) := by
  obtain ⟨p, q, rfl⟩ : ∃ p q, y = ix2 p q := ⟨y 0, y 1, by funext x; fin_cases x <;> rfl⟩
  rw [out_eq, REF_at]
  refine (pay_at _ _ _ p q).trans ?_
  rw [a_blk m c t, w_blk m c t, r_blk m c t]
  rfl

/-- The kernel's result array is the reference's. -/
theorem value (c : Dev nD) : (dats m 0 c).arrAt 3 cfg0.N = REF (aA m c) (aW m c) (aR m c) := by
  refine (dats m 0 c).arrAt_eq_of_covers 3 _ (by decide +kernel) fun t hf y => ?_
  blk_simp
  rw [after0_3]
  refine (block_eq m c t y).trans ?_
  refine congrArg (REF (aA m c) (aW m c) (aR m c)) ?_
  unfold iOf jOf
  blk_ext [V, idx t]

end Cert.OutProjIdeal.Result

end
-- ==== Proof.InP.lean ====
module

public import proofs.«01_k».proof.Proof.Gen.InProjIdeal.Value
public import proofs.«01_k».proof.Proof.Gen.InProjRefIdeal.Run
public import Idealize.ShloMosaic.Lib.Pipeline.ValueKit

@[expose] public section

set_option maxRecDepth 16384

noncomputable section

/-! The input projection: the scratch holds the normed rows of a row block, and each point multiplies them with its columns of the weights; the reference does so on whole arrays. -/

open Idealize.ShloMosaic Idealize.ShloMosaic.TcCoe Idealize.SL.Sem

namespace Cert.InProjIdeal.Result

open Cert.InProjIdeal Cert.InProjIdeal.Gen

open Idealize.ShloMosaic.Pipeline (Dat)

theorem zz : (![0, 0] : Fin 2 → ℕ) = fun _ => 0 := by funext i; fin_cases i <;> rfl

/-- A load of a whole memref reads its contents. -/
theorem load_all {κ : Kind} {sp : Space} {S : Shape} {e : EltTy} (v : View sig κ sp S e) {off : Fin S.rank → ℕ} (h : off = fun _ => 0)
    (inb : ∀ a, off a + S.size a ≤ S.size a) (f : v.ty.Contents (Elt Ideal)) :
    View.readAt (Elt Ideal) v (Rect.unit off S.size inb).toLoadRect f = v.read (Elt Ideal) f :=
  View.ld_unit_zero h inb (v.read (Elt Ideal) f)

section
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x2048 .bf16) (harg6 : arg6.IsWhole)
  (x0 : Vec Ideal S1024x2048 .f32) (x1 : Vec Ideal S1x2048 .f32) (x2 : Vec Ideal S2048x1024 .bf16) (xs : Vec Ideal S1024x2048 .bf16)

theorem normed : (kernelRun0_A.sl.HS0_1 (F := Ideal) c arg2 harg2 arg3 harg3 x0 x1)
    = [⟨Rect.unit ![0, 0] S1024x2048.size inb_S1024x2048_S1024x2048_0_0, k0_pay1 x0 x1⟩] := by
  unfold kernelRun0_A.sl.HS0_1
  refine congrArg (fun w => [(⟨Rect.unit ![0, 0] S1024x2048.size inb_S1024x2048_S1024x2048_0_0, w⟩ : View.Piece (Elt Ideal) S1024x2048 .bf16)]) ?_
  refine congrArg₂ k0_pay1 ?_ ?_
  · exact (load_all arg2.view zz inb_S1024x2048_S1024x2048_0_0 _).trans (harg2.read_unread _)
  · exact (load_all arg3.view zz inb_S1x2048_S1x2048_0_0 _).trans (harg3.read_unread _)

/-- The first point of a row block leaves the normed rows in the scratch. -/
theorem scr_A (hc0 : _) : sout0_A_0 c i arg2 harg2 arg3 harg3 arg4 harg4 arg5 harg5 arg6 harg6 hc0 x0 x1 x2 = k0_pay1 x0 x1 := by
  unfold sout0_A_0 kernelRun0_A; dsimp only
  rw [normed, View.read_writes_junk_eq_canon]
  exact View.canon_unit_zero zz _ _

theorem out_A (hc0 : _) : out0_A_3 c i arg2 harg2 arg3 harg3 arg4 harg4 arg5 harg5 arg6 harg6 hc0 x0 x1 x2 = k0_pay2 (k0_pay1 x0 x1) x2 := by
  unfold out0_A_3 kernelRun0_A; dsimp only
  rw [View.read_writes_junk_eq_canon]
  refine (View.canon_unit_zero zz _ _).trans (congrArg₂ k0_pay2 ?_ ?_)
  · unfold kernelRun0_A.sl.v3
    rw [normed]
    exact View.readCov_unit_zero arg6.view zz inb_S1024x2048_S1024x2048_0_0 _
  · exact (load_all arg4.view zz inb_S2048x1024_S2048x1024_0_0 _).trans (harg4.read_unread _)

theorem out_B (hc0 : _) : out0_B_3 c i arg2 harg2 arg3 harg3 arg4 harg4 arg5 harg5 arg6 harg6 hc0 x0 x1 x2 xs = k0_pay2 xs x2 := by
  unfold out0_B_3 kernelRun0_B; dsimp only
  rw [View.read_writes_junk_eq_canon]
  refine (View.canon_unit_zero zz _ _).trans (congrArg₂ k0_pay2 ?_ ?_)
  · exact (load_all arg6.view zz inb_S1024x2048_S1024x2048_0_0 _).trans (harg6.read_unread _)
  · exact (load_all arg4.view zz inb_S2048x1024_S2048x1024_0_0 _).trans (harg4.read_unread _)
end

theorem idx : ∀ t : Fin cfg0.N, win0_0.index t = ![t.val / 10, 0] ∧ win0_1.index t = ![0, 0]
    ∧ win0_2.index t = ![0, t.val % 10] ∧ win0_3.index t = ![t.val / 10, t.val % 10] :=
  (by decide +kernel : ∀ t : Fin grid0.N, _)

variable (m : (ℓ : Loc nD τ sig) → Buf (Elt Ideal) ℓ)

def aX (c : Dev nD) : FVec Ideal S8192x2048 .f32 := m ((c : Thread nD τ).loc main_arg0)
def aG (c : Dev nD) : FVec Ideal S2048 .f32 := m ((c : Thread nD τ).loc main_arg1)
def aW (c : Dev nD) : FVec Ideal S2048x10304 .bf16 := m ((c : Thread nD τ).loc main_arg2)

/-- Row block `n` of the activations. -/
def xBlk (X : FVec Ideal S8192x2048 .f32) (n : Fin 8) : FVec Ideal S1024x2048 .f32 := fun y =>
  X (ix2 ⟨1024 * n.val + (y 0).val, by have := n.isLt; have : (y 0).val < 1024 := (y 0).isLt; omega⟩ (y 1))
/-- The scale as one row. -/
def gRow (G : FVec Ideal S2048 .f32) : FVec Ideal S1x2048 .f32 := fun y => G (ix1 (y 1))
/-- Column block `n` of the weights. -/
def wBlk (W : FVec Ideal S2048x10304 .bf16) (n : Fin 10) : FVec Ideal S2048x1024 .bf16 := fun y =>
  W (ix2 (y 0) ⟨1024 * n.val + (y 1).val, by have := n.isLt; have : (y 1).val < 1024 := (y 1).isLt; omega⟩)

/-- The row block of a grid point. -/
def iOf (t : Fin cfg0.N) : Fin 8 := ⟨t.val / 10, by have h : t.val < 80 := t.isLt; omega⟩
/-- The column block of a grid point. -/
def jOf (t : Fin cfg0.N) : Fin 10 := ⟨t.val % 10, by omega⟩

theorem blk_x (c : Dev nD) (t : Fin cfg0.N) : iblk m c 0 t = xBlk (aX m c) (iOf t) := by
  funext y
  unfold xBlk iOf aX
  blk_ext [iblk, V_main_arg0, idx t]

theorem blk_g (c : Dev nD) (t : Fin cfg0.N) : iblk m c 1 t = gRow (aG m c) := by
  funext y
  unfold gRow aG
  blk_simp [iblk, V, idx t]
  entry_read
  pointwise
  blk_ext [iblk, V, idx t]

theorem blk_w (c : Dev nD) (t : Fin cfg0.N) : X0_2 m c t = wBlk (aW m c) (jOf t) := by
  funext y
  unfold X0_2 Pipeline.Window.fill
  rw [dif_pos (moved0_2 t y)]
  unfold wBlk jOf aW
  blk_ext [iblk, V_main_arg2, idx t]

/-- The rows of a block, normed and scaled. -/
def nrm (X : FVec Ideal S8192x2048 .f32) (G : FVec Ideal S2048 .f32) (n : Fin 8) : Vec Ideal S1024x2048 .bf16 :=
  k0_pay1 (F := Ideal) (xBlk X n) (gRow G)

/-- The block of products at row block `i`, column block `j`. -/
def prd (X : FVec Ideal S8192x2048 .f32) (G : FVec Ideal S2048 .f32) (W : FVec Ideal S2048x10304 .bf16) (i : Fin 8) (j : Fin 10) : Vec Ideal S1024x1024 .f32 :=
  k0_pay2 (F := Ideal) (nrm X G i) (wBlk W j)

/-- What a grid point leaves: its output block, and the normed rows in the scratch. -/
theorem point (c : Dev nD) : ∀ (n : ℕ) (hn : n < cfg0.N),
    outsAt0 m c n hn = (prd (aX m c) (aG m c) (aW m c) (iOf ⟨n, hn⟩) (jOf ⟨n, hn⟩), nrm (aX m c) (aG m c) (iOf ⟨n, hn⟩)) := by
  intro n
  induction n with
  | zero =>
    intro hn
    refine (outsAt0_A m c ⟨0, hn⟩ rfl).trans ?_
    rw [out_A, scr_A, blk_x, blk_g, blk_w]
    rfl
  | succ n ih =>
    intro hn
    by_cases h : (n + 1) % 10 = 0
    · refine (outsAt0_A m c ⟨n + 1, hn⟩ h).trans ?_
      rw [out_A, scr_A, blk_x, blk_g, blk_w]
      rfl
    · refine (outsAt0_B m c ⟨n + 1, hn⟩ h).trans ?_
      have e : iOf ⟨n + 1, hn⟩ = iOf ⟨n, Nat.lt_of_succ_lt hn⟩ := Fin.ext (by unfold iOf; dsimp only; omega)
      have h' : outsAt0 m c (n + 1 - 1) (lt_of_le_of_lt (Nat.sub_le _ _) hn) = _ := ih (Nat.lt_of_succ_lt hn)
      unfold sout0_B_0
      rw [out_B, h', blk_w, e]
      rfl

/-- The reference's array. -/
def REF (X : FVec Ideal S8192x2048 .f32) (G : FVec Ideal S2048 .f32) (W : FVec Ideal S2048x10304 .bf16) : FVec Ideal S8192x10240 .f32 :=
  Host.dotGeneral Cert.InProjRefIdeal.dot_S8192x2048_S2048x10240_S8192x10240_1_0_0_1_n_n none (mulf (mulf X (broadcastInDim S8192x2048 ![0, 1] Cert.InProjRefIdeal.Gen.bcast_S8192x1_S8192x2048_0_1 (Host.rsqrt (addf (Host.divf (broadcastInDim Cert.InProjRefIdeal.S8192x1 ![0] Cert.InProjRefIdeal.Gen.bcast_S8192_S8192x1_0 (Host.reduceAdd (mulf X X) (constant Cert.InProjRefIdeal.S_ .f32 0x00000000#32) Cert.InProjRefIdeal.Gen.reducesTo_S8192x2048_S8192_d1 Cert.InProjRefIdeal.Gen.h_S_)) (broadcastInDim Cert.InProjRefIdeal.S8192x1 ![] Cert.InProjRefIdeal.Gen.bcast_S_S8192x1 (constant Cert.InProjRefIdeal.S_ .f32 0x45000000#32))) (broadcastInDim Cert.InProjRefIdeal.S8192x1 ![] Cert.InProjRefIdeal.Gen.bcast_S_S8192x1 (constant Cert.InProjRefIdeal.S_ .f32 0x3727C5AC#32)))))) (broadcastInDim S8192x2048 ![0, 1] Cert.InProjRefIdeal.Gen.bcast_S1x2048_S8192x2048_0_1 (broadcastInDim S1x2048 ![1] Cert.InProjRefIdeal.Gen.bcast_S2048_S1x2048_1 G))) (extf .f32 (extractStridedSlice Cert.InProjRefIdeal.S2048x10240 ![0, 0] W Cert.InProjRefIdeal.Gen.slices_S2048x10304_S2048x10240_0_0) Cert.InProjRefIdeal.Gen.bitsLt_bf16_f32)

/-- The root mean square's reciprocal of a row. -/
def inv (X : FVec Ideal S8192x2048 .f32) (p : Fin 8192) : EReal :=
  Ideal.rsqrt (Ideal.div (∑ k : Fin 2048, X (ix2 p k) * X (ix2 p k)) (Ideal.ofBits .f32 0x45000000#32) + Ideal.ofBits .f32 0x3727C5AC#32)

theorem REF_at (X : FVec Ideal S8192x2048 .f32) (G : FVec Ideal S2048 .f32) (W : FVec Ideal S2048x10304 .bf16) (p : Fin 8192) (q : Fin 10240) :
    REF X G W (ix2 p q) = ∑ k : Fin 2048, X (ix2 p k) * inv X p * G (ix1 k) * W (ix2 k ⟨q.val, by omega⟩) := by
  pointwise [REF, inv]

theorem prd_at (X : FVec Ideal S8192x2048 .f32) (G : FVec Ideal S2048 .f32) (W : FVec Ideal S2048x10304 .bf16) (i : Fin 8) (j : Fin 10) (p q : Fin 1024) :
    prd X G W i j (ix2 p q) = ∑ k : Fin 2048, X (ix2 ⟨1024 * i.val + p.val, by omega⟩ k) * inv X ⟨1024 * i.val + p.val, by omega⟩ * G (ix1 k) * W (ix2 k ⟨1024 * j.val + q.val, by omega⟩) := by
  pointwise [prd, nrm, k0_pay1, k0_pay2, xBlk, gRow, wBlk, inv]

/-- The block left at a grid point is the reference's block there. -/
theorem block_eq (c : Dev nD) (t : Fin cfg0.N) (y : S1024x1024.Idx) :
    (outsAt0 m c t.val t.isLt).1 y
      = REF (aX m c) (aG m c) (aW m c)
        (ix2 ⟨1024 * (iOf t).val + (y 0).val, by have := (iOf t).isLt; have : (y 0).val < 1024 := (y 0).isLt; omega⟩
          ⟨1024 * (jOf t).val + (y 1).val, by have := (jOf t).isLt; have : (y 1).val < 1024 := (y 1).isLt; omega⟩) := by
  obtain ⟨p, q, rfl⟩ : ∃ p q, y = ix2 p q := ⟨y 0, y 1, by funext x; fin_cases x <;> rfl⟩
  rw [point m c t.val t.isLt, REF_at]
  exact prd_at _ _ _ _ _ p q

/-- The kernel's result array is the reference's. -/
theorem value (c : Dev nD) : (dats m 0 c).arrAt 3 cfg0.N = REF (aX m c) (aG m c) (aW m c) := by
  refine (dats m 0 c).arrAt_eq_of_covers 3 _ (by decide +kernel) fun t hf y => ?_
  blk_simp
  rw [after0_3]
  refine (block_eq m c t y).trans ?_
  refine congrArg (REF (aX m c) (aG m c) (aW m c)) ?_
  unfold iOf jOf
  blk_ext [V, idx t]

end Cert.InProjIdeal.Result

end
-- ==== Proof.MoeBodyI.lean ====
module

public import proofs.«01_k».proof.Proof.Gen.MoeIdeal.Frame
public import proofs.«01_k».proof.Proof.Gen.MoeIdeal.Skeleton
public import Idealize.ShloMosaic.Lib.WritesUnit
public import Idealize.ShloMosaic.Lib.Pipeline.Value

public import Idealize.ShloMosaic.Lib.Claim

@[expose] public section

set_option maxRecDepth 16384

noncomputable section

/-! # What one grid point of the routed experts does -/

namespace Cert.MoeIdeal.Run

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rows of one sub-block of 128. -/
def rows {n : ℕ} {e : EltTy} (o : ℕ) (X : Vec F ⟨2, ![512, n]⟩ e) (inb : ∀ a : Fin 2, (![o, 0] : Fin 2 → ℕ) a + (![128, n] : Fin 2 → ℕ) a ≤ (![512, n] : Fin 2 → ℕ) a) :
    Vec F ⟨2, ![128, n]⟩ e :=
  View.ld X (Rect.unit (s := ⟨2, ![512, n]⟩) ![o, 0] ![128, n] inb)

/-- The accumulator with one sub-block's rows replaced. -/
def putRows (o : ℕ) (X : Vec F S512x2048 .f32) (w : Vec F S128x2048 .f32) : Vec F S512x2048 .f32 := fun y =>
  if h : o ≤ (y 0).val ∧ (y 0).val < o + 128 then
    w (fun a => match a with
      | ⟨0, _⟩ => ⟨(y 0).val - o, by show (y 0).val - o < 128; omega⟩
      | ⟨1, _⟩ => ⟨(y 1).val, (y 1).isLt⟩)
  else X y

/-- One expert's work on one sub-block: done when the sub-block holds rows of the expert's group. -/
def subVal (v : BitVec 1) (o : ℕ) (inb : ∀ a : Fin 2, (![o, 0] : Fin 2 → ℕ) a + S128x2048.size a ≤ S512x2048.size a)
    (inb' : ∀ a : Fin 2, (![o, 0] : Fin 2 → ℕ) a + S128x128.size a ≤ S512x128.size a)
    (pay : Vec F S128x2048 .bf16 → Vec F S128x128 .f32 → Vec F S1x2048x512 .bf16 → Vec F S1x2048x512 .bf16 → Vec F S128x2048 .f32 → Vec F S1x512x2048 .bf16 → FVec F S128x2048 .f32)
    (hs : Vec F S512x2048 .bf16) (gs : Vec F S512x128 .f32) (wg wu : Vec F S1x2048x512 .bf16) (wd : Vec F S1x512x2048 .bf16)
    (acc : Vec F S512x2048 .f32) : Vec F S512x2048 .f32 :=
  if v = 1#1 then putRows o acc (pay (rows o hs inb) (rows o gs inb') wg wu (rows o acc inb) wd) else acc

theorem zz3 : (![0, 0, 0] : Fin 3 → ℕ) = fun _ => 0 := by funext a; fin_cases a <;> rfl
theorem zz2 : (![0, 0] : Fin 2 → ℕ) = fun _ => 0 := by funext a; fin_cases a <;> rfl

/-- Loading a whole buffer gives its contents. -/
theorem load_whole {S : Shape} {e : EltTy} {off : Fin S.rank → ℕ} (h : off = fun _ => 0) {inb : ∀ a, off a + S.size a ≤ S.size a}
    {sp : Space} (a : Memref sig .tc sp S e) (ha : a.IsWhole) (X : S.Idx → Elt F e) :
    View.readAt (Elt F) a.view (Rect.unit (s := S) off S.size inb).toLoadRect (ha.unread X) = X :=
  (View.ld_unit_zero h inb (a.view.read (Elt F) (ha.unread X))).trans (ha.read_unread X)

set_option maxHeartbeats 1000000 in
theorem sub_run {α : Type} (k : Prog (TpuEff nD τ sig (Elt F) Λ₀ .tc) α) (c : Dev nD) (v : BitVec 1) (o : ℕ)
    (inb : ∀ a : Fin 2, (![o, 0] : Fin 2 → ℕ) a + S128x2048.size a ≤ S512x2048.size a)
    (inb' : ∀ a : Fin 2, (![o, 0] : Fin 2 → ℕ) a + S128x128.size a ≤ S512x128.size a)
    (arg5 : Memref sig .tc .vmem S1x2048x512 .bf16) (harg5 : arg5.IsWhole) (arg6 : Memref sig .tc .vmem S1x2048x512 .bf16) (harg6 : arg6.IsWhole)
    (arg7 : Memref sig .tc .vmem S1x512x2048 .bf16) (harg7 : arg7.IsWhole) (arg12 : Memref sig .tc .vmem S512x2048 .bf16) (harg12 : arg12.IsWhole)
    (arg13 : Memref sig .tc .vmem S512x128 .f32) (harg13 : arg13.IsWhole) (arg14 : Memref sig .tc .vmem S512x2048 .f32) (harg14 : arg14.IsWhole)
    (pay : Vec F S128x2048 .bf16 → Vec F S128x128 .f32 → Vec F S1x2048x512 .bf16 → Vec F S1x2048x512 .bf16 → Vec F S128x2048 .f32 → Vec F S1x512x2048 .bf16 → FVec F S128x2048 .f32)
    (hs : Vec F S512x2048 .bf16) (gs : Vec F S512x128 .f32) (wg wu : Vec F S1x2048x512 .bf16) (wd : Vec F S1x512x2048 .bf16)
    (acc : Vec F S512x2048 .f32) (E : Set ℕ) (K : α → sProp 𝕄) :
    iprop(owns (c : Thread nD τ) arg5 fullShare wg ∗ owns (c : Thread nD τ) arg6 fullShare wu ∗ owns (c : Thread nD τ) arg7 fullShare wd
        ∗ owns (c : Thread nD τ) arg12 fullShare hs ∗ owns (c : Thread nD τ) arg13 fullShare gs ∗ owns (c : Thread nD τ) arg14 fullShare acc
        ∗ (iprop(owns (c : Thread nD τ) arg5 fullShare wg ∗ owns (c : Thread nD τ) arg6 fullShare wu ∗ owns (c : Thread nD τ) arg7 fullShare wd
            ∗ owns (c : Thread nD τ) arg12 fullShare hs ∗ owns (c : Thread nD τ) arg13 fullShare gs
            ∗ owns (c : Thread nD τ) arg14 fullShare (subVal v o inb inb' pay hs gs wg wu wd acc)) -∗ wp frame (wpE (defs₀ (F := F)) Variants.none c none) E k K))
      ⊢ wp frame (wpE (defs₀ (F := F)) Variants.none c none) E
        (if v = 1#1 then do
          let v50 : Vec F S128x2048 .bf16 ← Prog.lift (.load arg12 (Rect.unit (s := S512x2048) ![o, 0] S128x2048.size inb).toLoadRect (View.loadsAt_vmem h_S128x2048))
          let v53 : Vec F S128x128 .f32 ← Prog.lift (.load arg13 (Rect.unit (s := S512x128) ![o, 0] S128x128.size inb').toLoadRect (View.loadsAt_vmem h_S128x128))
          let v58 : Vec F S1x2048x512 .bf16 ← Prog.lift (.load arg5 (Rect.unit (s := S1x2048x512) ![0, 0, 0] S1x2048x512.size inb_S1x2048x512_S1x2048x512_0_0_0).toLoadRect (View.loadsAt_vmem h_S1x2048x512))
          let v67 : Vec F S1x2048x512 .bf16 ← Prog.lift (.load arg6 (Rect.unit (s := S1x2048x512) ![0, 0, 0] S1x2048x512.size inb_S1x2048x512_S1x2048x512_0_0_0).toLoadRect (View.loadsAt_vmem h_S1x2048x512))
          let v73 : Vec F S128x2048 .f32 ← Prog.lift (.load arg14 (Rect.unit (s := S512x2048) ![o, 0] S128x2048.size inb).toLoadRect (View.loadsAt_vmem h_S128x2048))
          let v75 : Vec F S1x512x2048 .bf16 ← Prog.lift (.load arg7 (Rect.unit (s := S1x512x2048) ![0, 0, 0] S1x512x2048.size inb_S1x512x2048_S1x512x2048_0_0_0).toLoadRect (View.loadsAt_vmem h_S1x512x2048))
          let v79 : Vec F S128x2048 .f32 ← Prog.lift (.load arg14 (Rect.unit (s := S512x2048) ![o, 0] S128x2048.size inb).toLoadRect (View.loadsAt_vmem h_S128x2048))
          Prog.lift (.store arg14 (Rect.unit (s := S512x2048) ![o, 0] S128x2048.size inb) (pay v50 v53 v58 v67 v73 v75) Finset.univ (View.stores_vmem_bits_univ h_S128x2048 rfl) (.inl rfl))
          k
        else k) K := by
  by_cases hv : v = 1#1
  · rw [if_pos hv]
    unfold owns
    iintro ⟨⟨%f5, %hf5, H5⟩, ⟨%f6, %hf6, H6⟩, ⟨%f7, %hf7, H7⟩, ⟨%f12, %hf12, H12⟩, ⟨%f13, %hf13, H13⟩, ⟨%f14, %hf14, H14⟩, Hk⟩
    obtain rfl := harg5.eq_unread hf5; obtain rfl := harg6.eq_unread hf6; obtain rfl := harg7.eq_unread hf7
    obtain rfl := harg12.eq_unread hf12; obtain rfl := harg13.eq_unread hf13; obtain rfl := harg14.eq_unread hf14
    sl_exec
    iapply Hk
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H12]
    · iexists _; isplitr; · ipureintro; exact harg12.read_unread _
      iexact H12
    isplitl [H13]
    · iexists _; isplitr; · ipureintro; exact harg13.read_unread _
      iexact H13
    iexists _
    isplitr
    swap; · iexact H14
    ipureintro
    unfold subVal
    rw [if_pos hv]
    have e12 : View.readAt (Elt F) arg12.view (Rect.unit (s := S512x2048) ![o, 0] S128x2048.size inb).toLoadRect (harg12.unread hs) = rows o hs inb :=
      congrArg (fun X => rows o X inb) (harg12.read_unread hs)
    have e13 : View.readAt (Elt F) arg13.view (Rect.unit (s := S512x128) ![o, 0] S128x128.size inb').toLoadRect (harg13.unread gs) = rows o gs inb' :=
      congrArg (fun X => rows o X inb') (harg13.read_unread gs)
    have e14 : View.readAt (Elt F) arg14.view (Rect.unit (s := S512x2048) ![o, 0] S128x2048.size inb).toLoadRect (harg14.unread acc) = rows o acc inb :=
      congrArg (fun X => rows o X inb) (harg14.read_unread acc)
    rw [e12, e13, e14, load_whole zz3 arg5 harg5, load_whole zz3 arg6 harg6, load_whole zz3 arg7 harg7]
    funext y
    unfold putRows
    by_cases h : o ≤ (y 0).val ∧ (y 0).val < o + 128
    · rw [dif_pos h]
      refine View.read_writes_cons_unit_of_mem (s := S512x2048) (off' := ![o, 0]) (size := S128x2048.size) arg14.view _ inb _ [] y _ rfl ?_
      intro a
      fin_cases a
      · show (y 0).val = o + ((y 0).val - o)
        omega
      · show (y 1).val = 0 + (y 1).val
        omega
    · rw [dif_neg h]
      refine (View.read_writes_cons_unit_of_not_mem (s := S512x2048) (off' := ![o, 0]) (size := S128x2048.size) arg14.view _ inb _ [] y rfl (0 : Fin 2) ?_).trans ?_
      · show (y 0).val < o ∨ o + 128 ≤ (y 0).val
        omega
      · exact congrFun (harg14.read_unread acc) y
  · rw [if_neg hv]
    unfold subVal
    rw [if_neg hv]
    iintro ⟨H5, H6, H7, H12, H13, H14, Hk⟩
    iapply Hk
    isplitl [H5]; · iexact H5
    isplitl [H6]; · iexact H6
    isplitl [H7]; · iexact H7
    isplitl [H12]; · iexact H12
    isplitl [H13]; · iexact H13
    iexact H14
/-- The number of each lane. -/
abbrev lanes : IVec S512x128 32 := iota .tc S512x128 32 [1] iota_S512x128_d1_w32

abbrev isFirst (i : grid0.Coords) : Prop := (Scalar.cmpi .ne (Scalar.extui (Scalar.cmpi .eq (BitVec.ofNat 32 (i 1).val) 0#32)) 0#32) = 1#1

/-- The lanes of one sub-block. -/
abbrev dims : IVec S128x128 32 := iota .tc S128x128 32 [1] iota_S128x128_d1_w32

/-- One word of the table of bounds. -/
def word (w : Vec F S8 .i32) (off : Fin 1 → ℕ) (inb : ∀ a, off a + S1.size a ≤ S8.size a) : BitVec 32 :=
  View.ld w (Rect.unit (s := S8) off S1.size inb) (Shape.Idx.first (numel1_S1.symm ▸ Nat.one_pos))

theorem word_read (arg16 : Memref sig .tc .smem S8 .i32) (harg16 : arg16.IsWhole) (w : Vec F S8 .i32) (off : Fin 1 → ℕ) (inb : ∀ a, off a + S1.size a ≤ S8.size a) :
    word w off inb = View.readAt (Elt F) arg16.view (Rect.unit (s := S8) off S1.size inb).toLoadRect (harg16.unread w) (Shape.Idx.first (numel1_S1.symm ▸ Nat.one_pos)) :=
  (congrArg (fun X => word X off inb) (harg16.read_unread w)).symm

/-- Whether the rows between the two bounds meet the sub-block. -/
def meets (w22 w25 lo hi : BitVec 32) : BitVec 1 :=
  Scalar.cmpi .ne (Scalar.extui (Scalar.andi (Scalar.cmpi .sgt w25 lo) (Scalar.cmpi .slt w22 hi)) : BitVec 32) 0#32

/-- The accumulator after one expert. -/
def accStep (i : grid0.Coords) (w : Vec F S8 .i32) (hs : Vec F S512x2048 .bf16) (gs : Vec F S512x128 .f32)
    (wg wu : Vec F S1x2048x512 .bf16) (wd : Vec F S1x512x2048 .bf16) (acc : Vec F S512x2048 .f32) : Vec F S512x2048 .f32 :=
  let w22 := word w (k0_off1 i) (k0_off1_inb i)
  let w25 := word w (k0_off2 i) (k0_off2_inb i)
  subVal (meets w22 w25 384#32 512#32) 384 inb_S512x2048_S128x2048_384_0 inb_S512x128_S128x128_384_0 (k0_pay2 (BitVec.ofNat 32 (i 1).val) dims) hs gs wg wu wd
    (subVal (meets w22 w25 256#32 384#32) 256 inb_S512x2048_S128x2048_256_0 inb_S512x128_S128x128_256_0 (k0_pay1 (BitVec.ofNat 32 (i 1).val) dims) hs gs wg wu wd
      (subVal (meets w22 w25 128#32 256#32) 128 inb_S512x2048_S128x2048_128_0 inb_S512x128_S128x128_128_0 (k0_pay25 i) hs gs wg wu wd
        (subVal (meets w22 w25 0#32 128#32) 0 inb_S512x2048_S128x2048_0_0 inb_S512x128_S128x128_0_0 (k0_pay24 i) hs gs wg wu wd acc)))

theorem first_coord : ∀ k : Fin 16, (Scalar.cmpi .ne (Scalar.extui (Scalar.cmpi .eq (BitVec.ofNat 32 k.val) 0#32) : BitVec 32) 0#32) = 1#1 → k = 0 := by
  decide

theorem off1_first (i : grid0.Coords) (h : isFirst i) : k0_off1 i = ![0] := by
  have h0 : i 1 = (0 : Fin 16) := first_coord (i 1) h
  unfold k0_off1
  rw [h0]
  decide

theorem off2_first (i : grid0.Coords) (h : isFirst i) : k0_off2 i = ![4] := by
  have h0 : i 1 = (0 : Fin 16) := first_coord (i 1) h
  unfold k0_off2
  rw [h0]
  decide

instance closed_off1 (i : grid0.Coords) [h : Fact (isFirst i)] : ClosedOff (k0_off1 i) := ⟨![0], off1_first i h.out⟩

instance closed_off2 (i : grid0.Coords) [h : Fact (isFirst i)] : ClosedOff (k0_off2 i) := ⟨![4], off2_first i h.out⟩

/-- The rows' places, from the gates: how many rows belong to earlier groups, and to the same group before. -/
def iniPos (gt : Vec F S512x128 .f32) (lo : Vec F S512x512 .bf16) (up : Vec F S128x128 .bf16) : FVec F S512x128 .f32 :=
  k0_pay7 lanes gt up up up lo

/-- The permutation that sorts the rows by group. -/
def iniPerm (gt : Vec F S512x128 .f32) (lo : Vec F S512x512 .bf16) (up ey : Vec F S128x128 .bf16) : FVec F S512x512 .bf16 :=
  k0_pay9 (iniPos gt lo up) ey ey ey

/-- The permutation turned over. -/
def iniPt (gt : Vec F S512x128 .f32) (lo : Vec F S512x512 .bf16) (up : Vec F S128x128 .bf16) : FVec F S512x512 .bf16 :=
  k0_pay10 (iniPos gt lo up)

/-- The sorted activations. -/
def iniHs (hn : Vec F S512x2048 .bf16) (gt : Vec F S512x128 .f32) (lo : Vec F S512x512 .bf16) (up ey : Vec F S128x128 .bf16) : FVec F S512x2048 .bf16 :=
  k0_pay11 (iniPerm gt lo up ey) hn

/-- The sorted gates. -/
def iniGs (gt : Vec F S512x128 .f32) (lo : Vec F S512x512 .bf16) (up ey : Vec F S128x128 .bf16) : FVec F S512x128 .f32 :=
  k0_pay12 gt (iniPerm gt lo up ey)

/-- Where each group begins. -/
def iniSt (gt : Vec F S512x128 .f32) (up : Vec F S128x128 .bf16) : FVec F S1x128 .f32 := k0_pay6 lanes gt up up up

/-- Where each group ends. -/
def iniEn (gt : Vec F S512x128 .f32) (up : Vec F S128x128 .bf16) : FVec F S1x128 .f32 :=
  k0_pay14 (k0_pay5 lanes gt) (iniSt gt up)

/-- The table of bounds: four beginnings, then four ends. -/
def iniW (gt : Vec F S512x128 .f32) (up : Vec F S128x128 .bf16) : Vec F S8 .i32 := fun y =>
  (![Scalar.fptosi 32 (k0_pay15 lanes (iniSt gt up)), Scalar.fptosi 32 (k0_pay17 lanes (iniSt gt up)),
    Scalar.fptosi 32 (k0_pay20 (k0_pay19 lanes (iniSt gt up))), Scalar.fptosi 32 (k0_pay22 (iniSt gt up)),
    Scalar.fptosi 32 (k0_pay16 lanes (iniEn gt up)), Scalar.fptosi 32 (k0_pay18 lanes (iniEn gt up)),
    Scalar.fptosi 32 (k0_pay21 (iniEn gt up)), Scalar.fptosi 32 (k0_pay23 (iniEn gt up))] : Fin 8 → BitVec 32) (y 0)

/-- Storing a whole buffer leaves what was stored. -/
theorem stored_whole {S : Shape} {e : EltTy} {off : Fin S.rank → ℕ} (h : off = fun _ => 0) {inb : ∀ a, off a + S.size a ≤ S.size a}
    {sp : Space} (a : Memref sig .tc sp S e) (f : a.view.ty.Contents (Elt F)) (X : S.Idx → Elt F e) :
    a.view.read (Elt F) (a.view.writes (Elt F) f [⟨Rect.unit (s := S) off S.size inb, X⟩]) = X := by
  funext y
  refine View.read_writes_cons_unit_of_mem (off' := fun _ => 0) (size := S.size) a.view f inb X [] y y h ?_
  intro x
  omega

theorem word_hit (a : Memref sig .tc .smem S8 .i32) (f : a.view.ty.Contents (Elt F)) (o : ℕ) (inb : ∀ x, (![o] : Fin 1 → ℕ) x + S1.size x ≤ S8.size x)
    (L : List (View.Piece (Elt F) S8 .i32)) (v : BitVec 32) (y : S8.Idx) (h : (y 0).val = o) :
    a.view.read (Elt F) (a.view.writes (Elt F) f (⟨Rect.unit (s := S8) ![o] S1.size inb, fun _ => v⟩ :: L)) y = v := by
  refine View.read_writes_cons_unit_of_mem (s := S8) (off' := ![o]) (size := S1.size) a.view f inb _ L y (Fin.cons ⟨0, Nat.one_pos⟩ (fun x => x.elim0)) rfl ?_
  intro x
  fin_cases x
  show (y 0).val = o + 0
  omega

theorem word_miss (a : Memref sig .tc .smem S8 .i32) (f : a.view.ty.Contents (Elt F)) (o : ℕ) (inb : ∀ x, (![o] : Fin 1 → ℕ) x + S1.size x ≤ S8.size x)
    (L : List (View.Piece (Elt F) S8 .i32)) (v : BitVec 32) (y : S8.Idx) (h : (y 0).val ≠ o) :
    a.view.read (Elt F) (a.view.writes (Elt F) f (⟨Rect.unit (s := S8) ![o] S1.size inb, fun _ => v⟩ :: L)) y
      = a.view.read (Elt F) (a.view.writes (Elt F) f L) y := by
  refine View.read_writes_cons_unit_of_not_mem (s := S8) (off' := ![o]) (size := S1.size) a.view f inb _ L y rfl (0 : Fin 1) ?_
  show (y 0).val < o ∨ o + 1 ≤ (y 0).val
  omega

/-- The eight words, stored one by one. -/
theorem words_stored (a : Memref sig .tc .smem S8 .i32) (f : a.view.ty.Contents (Elt F)) (a0 a1 a2 a3 a4 a5 a6 a7 : BitVec 32) :
    a.view.read (Elt F) (a.view.writes (Elt F) f [⟨Rect.unit (s := S8) ![7] S1.size inb_S8_S1_7, fun _ => a7⟩, ⟨Rect.unit (s := S8) ![3] S1.size inb_S8_S1_3, fun _ => a3⟩, ⟨Rect.unit (s := S8) ![6] S1.size inb_S8_S1_6, fun _ => a6⟩, ⟨Rect.unit (s := S8) ![2] S1.size inb_S8_S1_2, fun _ => a2⟩, ⟨Rect.unit (s := S8) ![5] S1.size inb_S8_S1_5, fun _ => a5⟩, ⟨Rect.unit (s := S8) ![1] S1.size inb_S8_S1_1, fun _ => a1⟩, ⟨Rect.unit (s := S8) ![4] S1.size inb_S8_S1_4, fun _ => a4⟩, ⟨Rect.unit (s := S8) ![0] S1.size inb_S8_S1_0, fun _ => a0⟩])
      = fun y => (![a0, a1, a2, a3, a4, a5, a6, a7] : Fin 8 → BitVec 32) (y 0) := by
  funext y
  have key : ∀ k : Fin 8, y 0 = k → a.view.read (Elt F) (a.view.writes (Elt F) f [⟨Rect.unit (s := S8) ![7] S1.size inb_S8_S1_7, fun _ => a7⟩, ⟨Rect.unit (s := S8) ![3] S1.size inb_S8_S1_3, fun _ => a3⟩, ⟨Rect.unit (s := S8) ![6] S1.size inb_S8_S1_6, fun _ => a6⟩, ⟨Rect.unit (s := S8) ![2] S1.size inb_S8_S1_2, fun _ => a2⟩, ⟨Rect.unit (s := S8) ![5] S1.size inb_S8_S1_5, fun _ => a5⟩, ⟨Rect.unit (s := S8) ![1] S1.size inb_S8_S1_1, fun _ => a1⟩, ⟨Rect.unit (s := S8) ![4] S1.size inb_S8_S1_4, fun _ => a4⟩, ⟨Rect.unit (s := S8) ![0] S1.size inb_S8_S1_0, fun _ => a0⟩]) y = (![a0, a1, a2, a3, a4, a5, a6, a7] : Fin 8 → BitVec 32) k := by
    intro k hk
    fin_cases k
    · have hk' : (y 0).val = 0 := congrArg Fin.val hk
      exact (word_miss a f 7 _ _ _ y (by omega)).trans ((word_miss a f 3 _ _ _ y (by omega)).trans ((word_miss a f 6 _ _ _ y (by omega)).trans ((word_miss a f 2 _ _ _ y (by omega)).trans ((word_miss a f 5 _ _ _ y (by omega)).trans ((word_miss a f 1 _ _ _ y (by omega)).trans ((word_miss a f 4 _ _ _ y (by omega)).trans (word_hit a f 0 _ _ _ y hk')))))))
    · have hk' : (y 0).val = 1 := congrArg Fin.val hk
      exact (word_miss a f 7 _ _ _ y (by omega)).trans ((word_miss a f 3 _ _ _ y (by omega)).trans ((word_miss a f 6 _ _ _ y (by omega)).trans ((word_miss a f 2 _ _ _ y (by omega)).trans ((word_miss a f 5 _ _ _ y (by omega)).trans (word_hit a f 1 _ _ _ y hk')))))
    · have hk' : (y 0).val = 2 := congrArg Fin.val hk
      exact (word_miss a f 7 _ _ _ y (by omega)).trans ((word_miss a f 3 _ _ _ y (by omega)).trans ((word_miss a f 6 _ _ _ y (by omega)).trans (word_hit a f 2 _ _ _ y hk')))
    · have hk' : (y 0).val = 3 := congrArg Fin.val hk
      exact (word_miss a f 7 _ _ _ y (by omega)).trans (word_hit a f 3 _ _ _ y hk')
    · have hk' : (y 0).val = 4 := congrArg Fin.val hk
      exact (word_miss a f 7 _ _ _ y (by omega)).trans ((word_miss a f 3 _ _ _ y (by omega)).trans ((word_miss a f 6 _ _ _ y (by omega)).trans ((word_miss a f 2 _ _ _ y (by omega)).trans ((word_miss a f 5 _ _ _ y (by omega)).trans ((word_miss a f 1 _ _ _ y (by omega)).trans (word_hit a f 4 _ _ _ y hk'))))))
    · have hk' : (y 0).val = 5 := congrArg Fin.val hk
      exact (word_miss a f 7 _ _ _ y (by omega)).trans ((word_miss a f 3 _ _ _ y (by omega)).trans ((word_miss a f 6 _ _ _ y (by omega)).trans ((word_miss a f 2 _ _ _ y (by omega)).trans (word_hit a f 5 _ _ _ y hk'))))
    · have hk' : (y 0).val = 6 := congrArg Fin.val hk
      exact (word_miss a f 7 _ _ _ y (by omega)).trans ((word_miss a f 3 _ _ _ y (by omega)).trans (word_hit a f 6 _ _ _ y hk'))
    · have hk' : (y 0).val = 7 := congrArg Fin.val hk
      exact word_hit a f 7 _ _ _ y hk'
  exact key (y 0) rfl

set_option maxHeartbeats 400000 in
theorem body_mid (c : Dev nD) (i : grid0.Coords) (arg2 : Memref sig .tc .vmem S512x2048 .bf16) (harg2 : arg2.IsWhole) (arg3 : Memref sig .tc .vmem S512x128 .f32) (harg3 : arg3.IsWhole) (arg4 : Memref sig .tc .vmem S512x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S512x512 .bf16) (harg8 : arg8.IsWhole) (arg9 : Memref sig .tc .vmem S128x128 .bf16) (harg9 : arg9.IsWhole) (arg10 : Memref sig .tc .vmem S128x128 .bf16) (harg10 : arg10.IsWhole) (arg11 : Memref sig .tc .vmem S512x2048 .f32) (harg11 : arg11.IsWhole) (arg12 : Memref sig .tc .vmem S512x2048 .bf16) (harg12 : arg12.IsWhole) (arg13 : Memref sig .tc .vmem S512x128 .f32) (harg13 : arg13.IsWhole) (arg14 : Memref sig .tc .vmem S512x2048 .f32) (harg14 : arg14.IsWhole) (arg15 : Memref sig .tc .vmem S512x512 .bf16) (harg15 : arg15.IsWhole) (arg16 : Memref sig .tc .smem S8 .i32) (harg16 : arg16.IsWhole)
    (hc0 : ¬isFirst i) (hc6 : ¬k0_cond6 i = 1#1)
    (wg wu : Vec F S1x2048x512 .bf16) (wd : Vec F S1x512x2048 .bf16)
    (hs : Vec F S512x2048 .bf16) (gs : Vec F S512x128 .f32) (acc : Vec F S512x2048 .f32) (w : Vec F S8 .i32) (E : Set ℕ) (K : PUnit → sProp 𝕄) :
    iprop(owns (c : Thread nD τ) arg5 fullShare wg ∗ owns (c : Thread nD τ) arg6 fullShare wu ∗ owns (c : Thread nD τ) arg7 fullShare wd
        ∗ owns (c : Thread nD τ) arg12 fullShare hs ∗ owns (c : Thread nD τ) arg13 fullShare gs ∗ owns (c : Thread nD τ) arg14 fullShare acc ∗ (arg16.view.loc (c : Thread nD τ) ↦[arg16.view.set]{fullShare} harg16.unread w)
        ∗ (iprop(owns (c : Thread nD τ) arg5 fullShare wg ∗ owns (c : Thread nD τ) arg6 fullShare wu ∗ owns (c : Thread nD τ) arg7 fullShare wd
        ∗ owns (c : Thread nD τ) arg12 fullShare hs ∗ owns (c : Thread nD τ) arg13 fullShare gs ∗ owns (c : Thread nD τ) arg14 fullShare (accStep i w hs gs wg wu wd acc) ∗ (arg16.view.loc (c : Thread nD τ) ↦[arg16.view.set]{fullShare} harg16.unread w)) -∗ K ⟨⟩))
      ⊢ wp frame (wpE (defs₀ (F := F)) Variants.none c none) E (cc0_moe i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [cc0_moe_eq_skeleton]
  unfold cc0_moe_skel
  rw [wp_bind, k0_part5_eq_skeleton]
  unfold k0_part5_skel
  iintro ⟨H5, H6, H7, H12, H13, H14, H16, Hk⟩
  sl_exec (disch := first | sl_exact hc0)
  iapply (sub_run _ c _ 0 inb_S512x2048_S128x2048_0_0 inb_S512x128_S128x128_0_0 arg5 harg5 arg6 harg6 arg7 harg7 arg12 harg12 arg13 harg13 arg14 harg14 (k0_pay24 i) hs gs wg wu wd _ E _)
  isplitl [H5]; · iexact H5
  isplitl [H6]; · iexact H6
  isplitl [H7]; · iexact H7
  isplitl [H12]; · iexact H12
  isplitl [H13]; · iexact H13
  isplitl [H14]; · iexact H14
  iintro ⟨H5, H6, H7, H12, H13, H14⟩
  try dsimp only
  iapply (sub_run _ c _ 128 inb_S512x2048_S128x2048_128_0 inb_S512x128_S128x128_128_0 arg5 harg5 arg6 harg6 arg7 harg7 arg12 harg12 arg13 harg13 arg14 harg14 (k0_pay25 i) hs gs wg wu wd _ E _)
  isplitl [H5]; · iexact H5
  isplitl [H6]; · iexact H6
  isplitl [H7]; · iexact H7
  isplitl [H12]; · iexact H12
  isplitl [H13]; · iexact H13
  isplitl [H14]; · iexact H14
  iintro ⟨H5, H6, H7, H12, H13, H14⟩
  try dsimp only
  sl_step
  try dsimp only
  iapply (sub_run _ c _ 256 inb_S512x2048_S128x2048_256_0 inb_S512x128_S128x128_256_0 arg5 harg5 arg6 harg6 arg7 harg7 arg12 harg12 arg13 harg13 arg14 harg14 (k0_pay1 (BitVec.ofNat 32 (i 1).val) dims) hs gs wg wu wd _ E _)
  isplitl [H5]; · iexact H5
  isplitl [H6]; · iexact H6
  isplitl [H7]; · iexact H7
  isplitl [H12]; · iexact H12
  isplitl [H13]; · iexact H13
  isplitl [H14]; · iexact H14
  iintro ⟨H5, H6, H7, H12, H13, H14⟩
  try dsimp only
  iapply (sub_run _ c _ 384 inb_S512x2048_S128x2048_384_0 inb_S512x128_S128x128_384_0 arg5 harg5 arg6 harg6 arg7 harg7 arg12 harg12 arg13 harg13 arg14 harg14 (k0_pay2 (BitVec.ofNat 32 (i 1).val) dims) hs gs wg wu wd _ E _)
  isplitl [H5]; · iexact H5
  isplitl [H6]; · iexact H6
  isplitl [H7]; · iexact H7
  isplitl [H12]; · iexact H12
  isplitl [H13]; · iexact H13
  isplitl [H14]; · iexact H14
  iintro ⟨H5, H6, H7, H12, H13, H14⟩
  try dsimp only
  sl_exec (disch := first | sl_exact hc6)
  sl_step
  iapply Hk
  isplitl [H5]; · iexact H5
  isplitl [H6]; · iexact H6
  isplitl [H7]; · iexact H7
  isplitl [H12]; · iexact H12
  isplitl [H13]; · iexact H13
  isplitl [H14]
  · have e1 := word_read arg16 harg16 w (k0_off1 i) (k0_off1_inb i)
    have e2 := word_read arg16 harg16 w (k0_off2 i) (k0_off2_inb i)
    unfold accStep
    rw [e1, e2]
    iexact H14
  iexact H16

set_option maxHeartbeats 400000 in
theorem body_last (c : Dev nD) (i : grid0.Coords) (arg2 : Memref sig .tc .vmem S512x2048 .bf16) (harg2 : arg2.IsWhole) (arg3 : Memref sig .tc .vmem S512x128 .f32) (harg3 : arg3.IsWhole) (arg4 : Memref sig .tc .vmem S512x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S512x512 .bf16) (harg8 : arg8.IsWhole) (arg9 : Memref sig .tc .vmem S128x128 .bf16) (harg9 : arg9.IsWhole) (arg10 : Memref sig .tc .vmem S128x128 .bf16) (harg10 : arg10.IsWhole) (arg11 : Memref sig .tc .vmem S512x2048 .f32) (harg11 : arg11.IsWhole) (arg12 : Memref sig .tc .vmem S512x2048 .bf16) (harg12 : arg12.IsWhole) (arg13 : Memref sig .tc .vmem S512x128 .f32) (harg13 : arg13.IsWhole) (arg14 : Memref sig .tc .vmem S512x2048 .f32) (harg14 : arg14.IsWhole) (arg15 : Memref sig .tc .vmem S512x512 .bf16) (harg15 : arg15.IsWhole) (arg16 : Memref sig .tc .smem S8 .i32) (harg16 : arg16.IsWhole)
    (hc0 : ¬isFirst i) (hc6 : k0_cond6 i = 1#1)
    (x : Vec F S512x2048 .f32) (pt : Vec F S512x512 .bf16) (wg wu : Vec F S1x2048x512 .bf16) (wd : Vec F S1x512x2048 .bf16)
    (hs : Vec F S512x2048 .bf16) (gs : Vec F S512x128 .f32) (acc : Vec F S512x2048 .f32) (w : Vec F S8 .i32) (E : Set ℕ) (K : PUnit → sProp 𝕄) :
    iprop(owns (c : Thread nD τ) arg5 fullShare wg ∗ owns (c : Thread nD τ) arg6 fullShare wu ∗ owns (c : Thread nD τ) arg7 fullShare wd
        ∗ owns (c : Thread nD τ) arg12 fullShare hs ∗ owns (c : Thread nD τ) arg13 fullShare gs ∗ owns (c : Thread nD τ) arg14 fullShare acc ∗ (arg16.view.loc (c : Thread nD τ) ↦[arg16.view.set]{fullShare} harg16.unread w)
        ∗ owns (c : Thread nD τ) arg4 fullShare x ∗ owns (c : Thread nD τ) arg15 fullShare pt ∗ (∃ d, owns (c : Thread nD τ) arg11 fullShare d)
        ∗ (iprop(owns (c : Thread nD τ) arg5 fullShare wg ∗ owns (c : Thread nD τ) arg6 fullShare wu ∗ owns (c : Thread nD τ) arg7 fullShare wd
        ∗ owns (c : Thread nD τ) arg12 fullShare hs ∗ owns (c : Thread nD τ) arg13 fullShare gs ∗ owns (c : Thread nD τ) arg14 fullShare (accStep i w hs gs wg wu wd acc) ∗ (arg16.view.loc (c : Thread nD τ) ↦[arg16.view.set]{fullShare} harg16.unread w)
        ∗ owns (c : Thread nD τ) arg4 fullShare x ∗ owns (c : Thread nD τ) arg15 fullShare pt ∗ owns (c : Thread nD τ) arg11 fullShare (k0_pay3 (accStep i w hs gs wg wu wd acc) pt pt x)) -∗ K ⟨⟩))
      ⊢ wp frame (wpE (defs₀ (F := F)) Variants.none c none) E (cc0_moe i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [cc0_moe_eq_skeleton]
  unfold cc0_moe_skel
  rw [wp_bind, k0_part5_eq_skeleton]
  unfold k0_part5_skel
  iintro ⟨H5, H6, H7, H12, H13, H14, H16, H4, H15, ⟨%d11, H11⟩, Hk⟩
  sl_exec (disch := first | sl_exact hc0)
  iapply (sub_run _ c _ 0 inb_S512x2048_S128x2048_0_0 inb_S512x128_S128x128_0_0 arg5 harg5 arg6 harg6 arg7 harg7 arg12 harg12 arg13 harg13 arg14 harg14 (k0_pay24 i) hs gs wg wu wd _ E _)
  isplitl [H5]; · iexact H5
  isplitl [H6]; · iexact H6
  isplitl [H7]; · iexact H7
  isplitl [H12]; · iexact H12
  isplitl [H13]; · iexact H13
  isplitl [H14]; · iexact H14
  iintro ⟨H5, H6, H7, H12, H13, H14⟩
  try dsimp only
  iapply (sub_run _ c _ 128 inb_S512x2048_S128x2048_128_0 inb_S512x128_S128x128_128_0 arg5 harg5 arg6 harg6 arg7 harg7 arg12 harg12 arg13 harg13 arg14 harg14 (k0_pay25 i) hs gs wg wu wd _ E _)
  isplitl [H5]; · iexact H5
  isplitl [H6]; · iexact H6
  isplitl [H7]; · iexact H7
  isplitl [H12]; · iexact H12
  isplitl [H13]; · iexact H13
  isplitl [H14]; · iexact H14
  iintro ⟨H5, H6, H7, H12, H13, H14⟩
  try dsimp only
  sl_step
  try dsimp only
  iapply (sub_run _ c _ 256 inb_S512x2048_S128x2048_256_0 inb_S512x128_S128x128_256_0 arg5 harg5 arg6 harg6 arg7 harg7 arg12 harg12 arg13 harg13 arg14 harg14 (k0_pay1 (BitVec.ofNat 32 (i 1).val) dims) hs gs wg wu wd _ E _)
  isplitl [H5]; · iexact H5
  isplitl [H6]; · iexact H6
  isplitl [H7]; · iexact H7
  isplitl [H12]; · iexact H12
  isplitl [H13]; · iexact H13
  isplitl [H14]; · iexact H14
  iintro ⟨H5, H6, H7, H12, H13, H14⟩
  try dsimp only
  iapply (sub_run _ c _ 384 inb_S512x2048_S128x2048_384_0 inb_S512x128_S128x128_384_0 arg5 harg5 arg6 harg6 arg7 harg7 arg12 harg12 arg13 harg13 arg14 harg14 (k0_pay2 (BitVec.ofNat 32 (i 1).val) dims) hs gs wg wu wd _ E _)
  isplitl [H5]; · iexact H5
  isplitl [H6]; · iexact H6
  isplitl [H7]; · iexact H7
  isplitl [H12]; · iexact H12
  isplitl [H13]; · iexact H13
  isplitl [H14]; · iexact H14
  iintro ⟨H5, H6, H7, H12, H13, H14⟩
  try dsimp only
  have e1 := word_read arg16 harg16 w (k0_off1 i) (k0_off1_inb i)
  have e2 := word_read arg16 harg16 w (k0_off2 i) (k0_off2_inb i)
  ihave H14 : owns (c : Thread nD τ) arg14 fullShare (accStep i w hs gs wg wu wd acc) $$ [H14]
  · unfold accStep
    rw [e1, e2]
    iexact H14
  unfold owns
  icases H14 with ⟨%f14, %h14, H14⟩
  icases H4 with ⟨%f4, %h4, H4⟩
  icases H15 with ⟨%f15, %h15, H15⟩
  icases H11 with ⟨%f11, %h11, H11⟩
  obtain rfl := harg14.eq_unread h14; obtain rfl := harg4.eq_unread h4; obtain rfl := harg15.eq_unread h15
  sl_exec (disch := first | sl_exact hc6)
  sl_step
  iapply Hk
  isplitl [H5]; · iexact H5
  isplitl [H6]; · iexact H6
  isplitl [H7]; · iexact H7
  isplitl [H12]; · iexact H12
  isplitl [H13]; · iexact H13
  isplitl [H14]
  · iexists _; isplitr; · ipureintro; exact h14
    iexact H14
  isplitl [H16]; · iexact H16
  isplitl [H4]
  · iexists _; isplitr; · ipureintro; exact h4
    iexact H4
  isplitl [H15]
  · iexists _; isplitr; · ipureintro; exact h15
    iexact H15
  iexists _; isplitr
  swap; · iexact H11
  ipureintro
  refine (stored_whole zz2 arg11 _ _).trans ?_
  rw [load_whole zz2 arg14 harg14, load_whole zz2 arg15 harg15, load_whole zz2 arg4 harg4]

set_option maxHeartbeats 400000 in
theorem body_first (c : Dev nD) (i : grid0.Coords) (arg2 : Memref sig .tc .vmem S512x2048 .bf16) (harg2 : arg2.IsWhole) (arg3 : Memref sig .tc .vmem S512x128 .f32) (harg3 : arg3.IsWhole) (arg4 : Memref sig .tc .vmem S512x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S512x512 .bf16) (harg8 : arg8.IsWhole) (arg9 : Memref sig .tc .vmem S128x128 .bf16) (harg9 : arg9.IsWhole) (arg10 : Memref sig .tc .vmem S128x128 .bf16) (harg10 : arg10.IsWhole) (arg11 : Memref sig .tc .vmem S512x2048 .f32) (harg11 : arg11.IsWhole) (arg12 : Memref sig .tc .vmem S512x2048 .bf16) (harg12 : arg12.IsWhole) (arg13 : Memref sig .tc .vmem S512x128 .f32) (harg13 : arg13.IsWhole) (arg14 : Memref sig .tc .vmem S512x2048 .f32) (harg14 : arg14.IsWhole) (arg15 : Memref sig .tc .vmem S512x512 .bf16) (harg15 : arg15.IsWhole) (arg16 : Memref sig .tc .smem S8 .i32) (harg16 : arg16.IsWhole)
    (hc0 : isFirst i) (hc6 : ¬k0_cond6 i = 1#1)
    (hn : Vec F S512x2048 .bf16) (gt : Vec F S512x128 .f32) (lo : Vec F S512x512 .bf16) (up ey : Vec F S128x128 .bf16)
    (wg wu : Vec F S1x2048x512 .bf16) (wd : Vec F S1x512x2048 .bf16) (E : Set ℕ) (K : PUnit → sProp 𝕄) :
    iprop(owns (c : Thread nD τ) arg2 fullShare hn ∗ owns (c : Thread nD τ) arg3 fullShare gt ∗ owns (c : Thread nD τ) arg8 fullShare lo ∗ owns (c : Thread nD τ) arg9 fullShare up ∗ owns (c : Thread nD τ) arg10 fullShare ey ∗ owns (c : Thread nD τ) arg5 fullShare wg ∗ owns (c : Thread nD τ) arg6 fullShare wu ∗ owns (c : Thread nD τ) arg7 fullShare wd
        ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare hn ∗ owns (c : Thread nD τ) arg3 fullShare gt ∗ owns (c : Thread nD τ) arg8 fullShare lo ∗ owns (c : Thread nD τ) arg9 fullShare up ∗ owns (c : Thread nD τ) arg10 fullShare ey ∗ owns (c : Thread nD τ) arg5 fullShare wg ∗ owns (c : Thread nD τ) arg6 fullShare wu ∗ owns (c : Thread nD τ) arg7 fullShare wd
        ∗ owns (c : Thread nD τ) arg12 fullShare (iniHs hn gt lo up ey) ∗ owns (c : Thread nD τ) arg13 fullShare (iniGs gt lo up ey) ∗ owns (c : Thread nD τ) arg14 fullShare (accStep i (iniW gt up) (iniHs hn gt lo up ey) (iniGs gt lo up ey) wg wu wd k0_pay13) ∗ owns (c : Thread nD τ) arg15 fullShare (iniPt gt lo up) ∗ owns (c : Thread nD τ) arg16 fullShare (iniW gt up)) -∗ K ⟨⟩))
      ⊢ wp frame (wpE (defs₀ (F := F)) Variants.none c none) E (cc0_moe i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [cc0_moe_eq_skeleton]
  unfold cc0_moe_skel
  rw [wp_bind, k0_part5_eq_skeleton]
  unfold k0_part5_skel
  simp (config := { zeta := false }) only [k0_part1_eq_skeleton, k0_part2_eq_skeleton, k0_part3_eq_skeleton, k0_part4_eq_skeleton]
  unfold k0_part1_skel k0_part2_skel k0_part3_skel k0_part4_skel
  unfold owns
  iintro ⟨⟨%f2, %h2, H2⟩, ⟨%f3, %h3, H3⟩, ⟨%f8, %h8, H8⟩, ⟨%f9, %h9, H9⟩, ⟨%f10, %h10, H10⟩, H5, H6, H7, ⟨%d12, %f12, -, H12⟩, ⟨%d13, %f13, -, H13⟩, ⟨%d14, %f14, -, H14⟩, ⟨%d15, %f15, -, H15⟩, ⟨%d16, %f16, -, H16⟩, Hk⟩
  obtain rfl := harg2.eq_unread h2; obtain rfl := harg3.eq_unread h3; obtain rfl := harg8.eq_unread h8; obtain rfl := harg9.eq_unread h9; obtain rfl := harg10.eq_unread h10
  haveI : Fact (isFirst i) := ⟨hc0⟩
  sl_exec (disch := first | sl_exact hc0)
  have l2 : View.readAt (Elt F) arg2.view (Rect.unit (s := S512x2048) ![0, 0] S512x2048.size inb_S512x2048_S512x2048_0_0).toLoadRect (harg2.unread hn) = hn := load_whole zz2 arg2 harg2 hn
  have l3 : View.readAt (Elt F) arg3.view (Rect.unit (s := S512x128) ![0, 0] S512x128.size inb_S512x128_S512x128_0_0).toLoadRect (harg3.unread gt) = gt := load_whole zz2 arg3 harg3 gt
  have l8 : View.readAt (Elt F) arg8.view (Rect.unit (s := S512x512) ![0, 0] S512x512.size inb_S512x512_S512x512_0_0).toLoadRect (harg8.unread lo) = lo := load_whole zz2 arg8 harg8 lo
  have l9 : View.readAt (Elt F) arg9.view (Rect.unit (s := S128x128) ![0, 0] S128x128.size inb_S128x128_S128x128_0_0).toLoadRect (harg9.unread up) = up := load_whole zz2 arg9 harg9 up
  have l10 : View.readAt (Elt F) arg10.view (Rect.unit (s := S128x128) ![0, 0] S128x128.size inb_S128x128_S128x128_0_0).toLoadRect (harg10.unread ey) = ey := load_whole zz2 arg10 harg10 ey
  have hW : ∀ f, arg16.view.read (Elt F) (arg16.view.writes (Elt F) f (body_first.sl.H16_8 c arg3 harg3 arg8 harg8 arg9 harg9 gt lo up)) = iniW gt up := fun f =>
    (words_stored arg16 f _ _ _ _ _ _ _ _).trans (congrArg₂ iniW l3 l9)
  have e1 : word (iniW gt up) (k0_off1 i) (k0_off1_inb i)
      = arg16.view.readCov (body_first.sl.H16_8 c arg3 harg3 arg8 harg8 arg9 harg9 gt lo up) (Rect.unit (s := S8) (k0_off1 i) S1.size (k0_off1_inb i)).toLoadRect (Shape.Idx.first (numel1_S1.symm ▸ Nat.one_pos)) :=
    (congrArg (fun X => word X (k0_off1 i) (k0_off1_inb i)) (hW _)).symm
  have e2 : word (iniW gt up) (k0_off2 i) (k0_off2_inb i)
      = arg16.view.readCov (body_first.sl.H16_8 c arg3 harg3 arg8 harg8 arg9 harg9 gt lo up) (Rect.unit (s := S8) (k0_off2 i) S1.size (k0_off2_inb i)).toLoadRect (Shape.Idx.first (numel1_S1.symm ▸ Nat.one_pos)) :=
    (congrArg (fun X => word X (k0_off2 i) (k0_off2_inb i)) (hW _)).symm
  have p12 : iniHs (View.readAt (Elt F) arg2.view (Rect.unit (s := S512x2048) ![0, 0] S512x2048.size inb_S512x2048_S512x2048_0_0).toLoadRect (harg2.unread hn)) (View.readAt (Elt F) arg3.view (Rect.unit (s := S512x128) ![0, 0] S512x128.size inb_S512x128_S512x128_0_0).toLoadRect (harg3.unread gt)) (View.readAt (Elt F) arg8.view (Rect.unit (s := S512x512) ![0, 0] S512x512.size inb_S512x512_S512x512_0_0).toLoadRect (harg8.unread lo)) (View.readAt (Elt F) arg9.view (Rect.unit (s := S128x128) ![0, 0] S128x128.size inb_S128x128_S128x128_0_0).toLoadRect (harg9.unread up)) (View.readAt (Elt F) arg10.view (Rect.unit (s := S128x128) ![0, 0] S128x128.size inb_S128x128_S128x128_0_0).toLoadRect (harg10.unread ey)) = iniHs hn gt lo up ey := by rw [l2, l3, l8, l9, l10]
  have p13 : iniGs (View.readAt (Elt F) arg3.view (Rect.unit (s := S512x128) ![0, 0] S512x128.size inb_S512x128_S512x128_0_0).toLoadRect (harg3.unread gt)) (View.readAt (Elt F) arg8.view (Rect.unit (s := S512x512) ![0, 0] S512x512.size inb_S512x512_S512x512_0_0).toLoadRect (harg8.unread lo)) (View.readAt (Elt F) arg9.view (Rect.unit (s := S128x128) ![0, 0] S128x128.size inb_S128x128_S128x128_0_0).toLoadRect (harg9.unread up)) (View.readAt (Elt F) arg10.view (Rect.unit (s := S128x128) ![0, 0] S128x128.size inb_S128x128_S128x128_0_0).toLoadRect (harg10.unread ey)) = iniGs gt lo up ey := by rw [l3, l8, l9, l10]
  have p15 : iniPt (View.readAt (Elt F) arg3.view (Rect.unit (s := S512x128) ![0, 0] S512x128.size inb_S512x128_S512x128_0_0).toLoadRect (harg3.unread gt)) (View.readAt (Elt F) arg8.view (Rect.unit (s := S512x512) ![0, 0] S512x512.size inb_S512x512_S512x512_0_0).toLoadRect (harg8.unread lo)) (View.readAt (Elt F) arg9.view (Rect.unit (s := S128x128) ![0, 0] S128x128.size inb_S128x128_S128x128_0_0).toLoadRect (harg9.unread up)) = iniPt gt lo up := by rw [l3, l8, l9]
  ihave H5 : owns (c : Thread nD τ) arg5 fullShare wg $$ [H5]
  · unfold owns; iexact H5
  ihave H6 : owns (c : Thread nD τ) arg6 fullShare wu $$ [H6]
  · unfold owns; iexact H6
  ihave H7 : owns (c : Thread nD τ) arg7 fullShare wd $$ [H7]
  · unfold owns; iexact H7
  ihave H12 : owns (c : Thread nD τ) arg12 fullShare (iniHs hn gt lo up ey) $$ [H12]
  · unfold owns; iexists _; isplitr
    swap; · iexact H12
    ipureintro
    exact (stored_whole zz2 arg12 _ _).trans p12
  ihave H13 : owns (c : Thread nD τ) arg13 fullShare (iniGs gt lo up ey) $$ [H13]
  · unfold owns; iexists _; isplitr
    swap; · iexact H13
    ipureintro
    exact (stored_whole zz2 arg13 _ _).trans p13
  ihave H14 : owns (c : Thread nD τ) arg14 fullShare (k0_pay13 (F := F)) $$ [H14]
  · unfold owns; iexists _; isplitr
    swap; · iexact H14
    ipureintro
    exact stored_whole zz2 arg14 _ _
  ihave H15 : owns (c : Thread nD τ) arg15 fullShare (iniPt gt lo up) $$ [H15]
  · unfold owns; iexists _; isplitr
    swap; · iexact H15
    ipureintro
    exact (stored_whole zz2 arg15 _ _).trans p15
  ihave H16 : owns (c : Thread nD τ) arg16 fullShare (iniW gt up) $$ [H16]
  · unfold owns; iexists _; isplitr
    swap; · iexact H16
    ipureintro
    exact hW _
  iapply (sub_run _ c _ 0 inb_S512x2048_S128x2048_0_0 inb_S512x128_S128x128_0_0 arg5 harg5 arg6 harg6 arg7 harg7 arg12 harg12 arg13 harg13 arg14 harg14 (k0_pay24 i) (iniHs hn gt lo up ey) (iniGs gt lo up ey) wg wu wd _ E _)
  isplitl [H5]; · iexact H5
  isplitl [H6]; · iexact H6
  isplitl [H7]; · iexact H7
  isplitl [H12]; · iexact H12
  isplitl [H13]; · iexact H13
  isplitl [H14]; · iexact H14
  iintro ⟨H5, H6, H7, H12, H13, H14⟩
  try dsimp only
  iapply (sub_run _ c _ 128 inb_S512x2048_S128x2048_128_0 inb_S512x128_S128x128_128_0 arg5 harg5 arg6 harg6 arg7 harg7 arg12 harg12 arg13 harg13 arg14 harg14 (k0_pay25 i) (iniHs hn gt lo up ey) (iniGs gt lo up ey) wg wu wd _ E _)
  isplitl [H5]; · iexact H5
  isplitl [H6]; · iexact H6
  isplitl [H7]; · iexact H7
  isplitl [H12]; · iexact H12
  isplitl [H13]; · iexact H13
  isplitl [H14]; · iexact H14
  iintro ⟨H5, H6, H7, H12, H13, H14⟩
  try dsimp only
  sl_step
  try dsimp only
  iapply (sub_run _ c _ 256 inb_S512x2048_S128x2048_256_0 inb_S512x128_S128x128_256_0 arg5 harg5 arg6 harg6 arg7 harg7 arg12 harg12 arg13 harg13 arg14 harg14 (k0_pay1 (BitVec.ofNat 32 (i 1).val) dims) (iniHs hn gt lo up ey) (iniGs gt lo up ey) wg wu wd _ E _)
  isplitl [H5]; · iexact H5
  isplitl [H6]; · iexact H6
  isplitl [H7]; · iexact H7
  isplitl [H12]; · iexact H12
  isplitl [H13]; · iexact H13
  isplitl [H14]; · iexact H14
  iintro ⟨H5, H6, H7, H12, H13, H14⟩
  try dsimp only
  iapply (sub_run _ c _ 384 inb_S512x2048_S128x2048_384_0 inb_S512x128_S128x128_384_0 arg5 harg5 arg6 harg6 arg7 harg7 arg12 harg12 arg13 harg13 arg14 harg14 (k0_pay2 (BitVec.ofNat 32 (i 1).val) dims) (iniHs hn gt lo up ey) (iniGs gt lo up ey) wg wu wd _ E _)
  isplitl [H5]; · iexact H5
  isplitl [H6]; · iexact H6
  isplitl [H7]; · iexact H7
  isplitl [H12]; · iexact H12
  isplitl [H13]; · iexact H13
  isplitl [H14]; · iexact H14
  iintro ⟨H5, H6, H7, H12, H13, H14⟩
  try dsimp only
  sl_exec (disch := first | sl_exact hc6)
  sl_step
  iapply Hk
  isplitl [H2]
  · iexists _; isplitr; · ipureintro; exact h2
    iexact H2
  isplitl [H3]
  · iexists _; isplitr; · ipureintro; exact h3
    iexact H3
  isplitl [H8]
  · iexists _; isplitr; · ipureintro; exact h8
    iexact H8
  isplitl [H9]
  · iexists _; isplitr; · ipureintro; exact h9
    iexact H9
  isplitl [H10]
  · iexists _; isplitr; · ipureintro; exact h10
    iexact H10
  isplitl [H5]; · unfold owns; iexact H5
  isplitl [H6]; · unfold owns; iexact H6
  isplitl [H7]; · unfold owns; iexact H7
  isplitl [H12]; · unfold owns; iexact H12
  isplitl [H13]; · unfold owns; iexact H13
  isplitl [H14]
  · unfold accStep owns
    rw [e1, e2]
    iexact H14
  isplitl [H15]; · unfold owns; iexact H15
  unfold owns; iexact H16

end Cert.MoeIdeal.Run

end
-- ==== Proof.MoeRunI.lean ====
module

public import proofs.«01_k».proof.Proof.MoeBodyI
public import proofs.«01_k».proof.Proof.Gen.MoeIdeal.Skeleton
public import Idealize.ShloMosaic.Lib.WritesUnit
public import Idealize.ShloMosaic.Lib.Pipeline.Value

public import Idealize.ShloMosaic.Lib.Claim

@[expose] public section

set_option maxRecDepth 16384

noncomputable section

/-! # The run of the routed experts: the state from point to point -/

namespace Cert.MoeIdeal.Run

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the five scratch buffers hold. -/
structure St (F : FTy → Type) [FloatOps F] where
  hs : Vec F S512x2048 .bf16
  gs : Vec F S512x128 .f32
  acc : Vec F S512x2048 .f32
  pt : Vec F S512x512 .bf16
  w : Vec F S8 .i32

/-- The scratch as the first expert of a block of rows sets it up. -/
def ini (c : Dev nD) (t : Fin cfg0.N) : St F where
  hs := iniHs (iblk m c 0 t) (iblk m c 1 t) (iblk m c 6 t) (iblk m c 7 t) (iblk m c 8 t)
  gs := iniGs (iblk m c 1 t) (iblk m c 6 t) (iblk m c 7 t) (iblk m c 8 t)
  acc := k0_pay13
  pt := iniPt (iblk m c 1 t) (iblk m c 6 t) (iblk m c 7 t)
  w := iniW (iblk m c 1 t) (iblk m c 7 t)

/-- One expert run over the scratch. -/
def adv (c : Dev nD) (t : Fin cfg0.N) (s : St F) : St F :=
  { s with acc := accStep (grid0.coords t) s.w s.hs s.gs (iblk m c 3 t) (iblk m c 4 t) (iblk m c 5 t) s.acc }

/-- The scratch after point `n`. -/
def stAt (c : Dev nD) : (n : ℕ) → n < cfg0.N → St F
  | 0, h => adv m c ⟨0, h⟩ (ini m c ⟨0, h⟩)
  | n + 1, h => adv m c ⟨n + 1, h⟩ (if (n + 1) % 16 = 0 then ini m c ⟨n + 1, h⟩ else stAt c n (Nat.lt_of_succ_lt h))

theorem stAt_first (c : Dev nD) (t : Fin cfg0.N) (h : t.val % 16 = 0) : stAt m c t.val t.isLt = adv m c t (ini m c t) := by
  obtain ⟨n, hn⟩ := t
  cases n with
  | zero => rfl
  | succ n => exact congrArg (adv m c ⟨n + 1, hn⟩) (if_pos h)

theorem stAt_next (c : Dev nD) (t : Fin cfg0.N) (h : ¬t.val % 16 = 0) :
    stAt m c t.val t.isLt = adv m c t (stAt m c (t.val - 1) (Nat.lt_of_le_of_lt (Nat.sub_le _ _) t.isLt)) := by
  obtain ⟨n, hn⟩ := t
  cases n with
  | zero => exact absurd (Nat.zero_mod _) h
  | succ n => exact congrArg (adv m c ⟨n + 1, hn⟩) (if_neg h)

/-! ## The points at which the body branches -/

theorem first_iff : ∀ t : Fin cfg0.N, isFirst (grid0.coords t) ↔ t.val % 16 = 0 :=
  (fun t => by
    have ht : t.val < 256 := Nat.lt_of_lt_of_eq t.isLt N_0
    have e1 : (grid0.coords t 1).val = t.val / 1 % 16 := Pipeline.Grid.coords_val t 1 (by decide) rfl
    simp only [isFirst, e1]
    word_cmp
   : ∀ t : Fin grid0.N, isFirst (grid0.coords t) ↔ t.val % 16 = 0)

theorem last_iff : ∀ t : Fin cfg0.N, k0_cond6 (grid0.coords t) = 1#1 ↔ t.val % 16 = 15 :=
  (fun t => by
    have ht : t.val < 256 := Nat.lt_of_lt_of_eq t.isLt N_0
    have e1 : (grid0.coords t 1).val = t.val / 1 % 16 := Pipeline.Grid.coords_val t 1 (by decide) rfl
    simp only [k0_cond6, e1]
    word_cmp
   : ∀ t : Fin grid0.N, k0_cond6 (grid0.coords t) = 1#1 ↔ t.val % 16 = 15)

theorem idle_of (t : Fin cfg0.N) (h : ¬t.val % 16 = 15) : cfg0.idle 9 (cfg0.grid.coords t) = true := by
  have := (last_iff t).not.mpr h
  show (!(k0_cond6 (grid0.coords t) == 1#1)) = true
  simpa using this

theorem busy_of (t : Fin cfg0.N) (h : t.val % 16 = 15) : cfg0.idle 9 (cfg0.grid.coords t) = false := by
  have := (last_iff t).mpr h
  show (!(k0_cond6 (grid0.coords t) == 1#1)) = false
  simpa using this

theorem unflushed_of (t : Fin cfg0.N) (h : ¬t.val % 16 = 15) : (cfg0.win 9).flush t = false := by
  have := (flush0_9 t).not.mpr h
  simpa using this

/-! ## The invariant between points -/

abbrev sc0 : Memref sig .tc .vmem S512x2048 .bf16 := Memref.whole cc0_scratch0
abbrev sc1 : Memref sig .tc .vmem S512x128 .f32 := Memref.whole cc0_scratch1
abbrev sc2 : Memref sig .tc .vmem S512x2048 .f32 := Memref.whole cc0_scratch2
abbrev sc3 : Memref sig .tc .vmem S512x512 .bf16 := Memref.whole cc0_scratch3
abbrev sc4 : Memref sig .tc .smem S8 .i32 := Memref.whole cc0_scratch4

theorem start_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)
          ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-- The scratch held at a state. -/
def holds (c : Dev nD) (s : St F) : sProp 𝕄 :=
  iprop(owns (c : Thread nD τ) sc0 fullShare s.hs ∗ owns (c : Thread nD τ) sc1 fullShare s.gs ∗ owns (c : Thread nD τ) sc2 fullShare s.acc
    ∗ owns (c : Thread nD τ) sc3 fullShare s.pt ∗ owns (c : Thread nD τ) sc4 fullShare s.w)

/-- Before the first point the scratch holds anything; later, what the point before left. -/
def between (c : Dev nD) : (n : ℕ) → n ≤ cfg0.N → sProp 𝕄
  | 0, _ => Pipeline.ΦA spec0 c
  | n + 1, hn => iprop(holds c (stAt m c n hn) ∗ (∃ r, prngReg c r))

theorem between_zero (c : Dev nD) (n : ℕ) (h : n ≤ cfg0.N) (hz : n = 0) : between m c n h = Pipeline.ΦA spec0 c := by
  subst hz; rfl

theorem between_pos (c : Dev nD) (n : ℕ) (h : n ≤ cfg0.N) (hz : n ≠ 0) :
    between m c n h = iprop(holds c (stAt m c (n - 1) (by omega)) ∗ (∃ r, prngReg c r)) := by
  cases n with
  | zero => exact absurd rfl hz
  | succ n => rfl

/-- Whatever came before, the scratch can be had at some contents. -/
theorem between_any (c : Dev nD) (n : ℕ) (h : n ≤ cfg0.N) : between m c n h ⊢ (Pipeline.ΦA spec0 c : sProp 𝕄) := by
  by_cases hz : n = 0
  · rw [between_zero m c n h hz]; try exact Idealize.SL.BI.Entails.refl _
  · rw [between_pos m c n h hz, start_eq]
    unfold holds
    iintro ⟨⟨H0, H1, H2, H3, H4⟩, Hg⟩
    isplitl [H0 H1 H2 H3 H4]
    · isplitl [H0]; · iexists _; iexact H0
      isplitl [H1]; · iexists _; iexact H1
      isplitl [H2]; · iexists _; iexact H2
      isplitl [H3]; · iexists _; iexact H3
      iexists _; iexact H4
    iexact Hg

/-- The same ahead of anything else. -/
theorem open_any (c : Dev nD) (n : ℕ) (h : n ≤ cfg0.N) (R Q : sProp 𝕄)
    (H : iprop(iprop(iprop((∃ d, owns (c : Thread nD τ) sc0 fullShare d) ∗ (∃ d, owns (c : Thread nD τ) sc1 fullShare d) ∗ (∃ d, owns (c : Thread nD τ) sc2 fullShare d)
          ∗ (∃ d, owns (c : Thread nD τ) sc3 fullShare d) ∗ (∃ d, owns (c : Thread nD τ) sc4 fullShare d)) ∗ (∃ r, prngReg c r)) ∗ R) ⊢ Q) :
    iprop(between m c n h ∗ R) ⊢ Q := by
  rw [← start_eq] at H
  exact (sep_mono_l (between_any m c n h)).trans H

/-! ## The pipeline's data -/

/-- What the last expert writes to the output block. -/
def outOf (c : Dev nD) (t : Fin cfg0.N) : Vec F S512x2048 .f32 :=
  k0_pay3 (stAt m c t.val t.isLt).acc (stAt m c t.val t.isLt).pt (stAt m c t.val t.isLt).pt (iblk m c 2 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outOf m c t
  Φ t := between m c t.val (Nat.le_of_lt_succ t.isLt)
  q _ := fullShare
  owed _ := 0

theorem A_eq (c : Dev nD) (w : Fin cfg0.W) : (dats m 0 c).A w = V m c (Pipeline.arrRef spec0 w) := by
  dsimp only [dats]

theorem between_castSucc (c : Dev nD) (t : Fin cfg0.N) : (dats m 0 c).Φ t.castSucc = between m c t.val (Nat.le_of_lt t.isLt) := by
  dsimp only [dats]; exact Pipeline.Dat.Φ_castSucc (between m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outOf m c t := by dsimp only [dats]

abbrev ms0 (t : Fin cfg0.N) : Memref sig .tc .vmem S512x2048 .bf16 := win0_0.stage (cfg0.slots t 0)
abbrev ms1 (t : Fin cfg0.N) : Memref sig .tc .vmem S512x128 .f32 := win0_1.stage (cfg0.slots t 1)
abbrev ms2 (t : Fin cfg0.N) : Memref sig .tc .vmem S512x2048 .f32 := win0_2.stage (cfg0.slots t 2)
abbrev ms3 (t : Fin cfg0.N) : Memref sig .tc .vmem S1x2048x512 .bf16 := win0_3.stage (cfg0.slots t 3)
abbrev ms4 (t : Fin cfg0.N) : Memref sig .tc .vmem S1x2048x512 .bf16 := win0_4.stage (cfg0.slots t 4)
abbrev ms5 (t : Fin cfg0.N) : Memref sig .tc .vmem S1x512x2048 .bf16 := win0_5.stage (cfg0.slots t 5)
abbrev ms6 (t : Fin cfg0.N) : Memref sig .tc .vmem S512x512 .bf16 := win0_6.stage (cfg0.slots t 6)
abbrev ms7 (t : Fin cfg0.N) : Memref sig .tc .vmem S128x128 .bf16 := win0_7.stage (cfg0.slots t 7)
abbrev ms8 (t : Fin cfg0.N) : Memref sig .tc .vmem S128x128 .bf16 := win0_8.stage (cfg0.slots t 8)
abbrev ms9 (t : Fin cfg0.N) : Memref sig .tc .vmem S512x2048 .f32 := win0_9.stage (cfg0.slots t 9)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body at any point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it gives back: the output's buffer as it was, but at the last expert of a block. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ (match cfg0.idle 9 (cfg0.grid.coords t) with
        | true =>
          match (cfg0.win 9).flush t with
          | false => iprop(∃ d, owns (c : Thread nD τ) (ms9 t) fullShare ((dats m 0 c).before 9 t d))
          | true => owns (c : Thread nD τ) (ms9 t) fullShare ((dats m 0 c).after 9 t)
        | false => owns (c : Thread nD τ) (ms9 t) fullShare ((dats m 0 c).after 9 t)))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8]
  rw [show (dats m 0 c).Φ t.succ = iprop(holds c (stAt m c t.val t.isLt) ∗ (∃ r, prngReg c r)) from rfl, between_castSucc m c t]
  by_cases h0 : t.val % 16 = 0
  · have h15 : ¬t.val % 16 = 15 := by omega
    rw [stAt_first m c t h0]
    have hi : idle0 9 (grid0.coords t) = true := idle_of t h15
    simp only [unflushed_of t h15]; rw [hi]
    refine open_any m c t.val (Nat.le_of_lt t.isLt) _ _ ?_
    unfold holds adv ini
    dsimp only
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
    iapply (body_first c (grid0.coords t) _ _ _ _ _ _ _ _ _ _ _ _ _ _ _ _ _ _ _ _ _ _ _ _ _ _ _ _ _ _ ((first_iff t).mpr h0) ((last_iff t).not.mpr h15) (iblk m c 0 t) (iblk m c 1 t) (iblk m c 6 t) (iblk m c 7 t) (iblk m c 8 t) (iblk m c 3 t) (iblk m c 4 t) (iblk m c 5 t) Set.univ _)
    isplitl [H0]; · iexact H0
    isplitl [H1]; · iexact H1
    isplitl [H6]; · iexact H6
    isplitl [H7]; · iexact H7
    isplitl [H8]; · iexact H8
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    isplitl [HS4]; · iexact HS4
    iintro ⟨H0, H1, H6, H7, H8, H3, H4, H5, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have hz : t.val ≠ 0 := fun e => h0 (by rw [e])
    rw [between_pos m c t.val _ hz]
    have hst := stAt_next m c t h0
    by_cases h15 : t.val % 16 = 15
    · have hi : idle0 9 (grid0.coords t) = false := busy_of t h15
      rw [hi]
      rw [after0_9]
      unfold outOf
      rw [hst]
      generalize stAt m c (t.val - 1) _ = s
      unfold holds adv
      dsimp only
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
      ihave HS4 : (sc4.view.loc (c : Thread nD τ) ↦[sc4.view.set]{fullShare} (Memref.isWhole_whole cc0_scratch4).unread s.w) $$ [HS4]
      · unfold owns
        icases HS4 with ⟨%f, %hf, HS4⟩
        obtain rfl := (Memref.isWhole_whole cc0_scratch4).eq_unread hf
        iexact HS4
      iapply (body_last c (grid0.coords t) _ _ _ _ _ _ _ _ _ _ _ _ _ _ _ _ _ _ _ _ _ _ _ _ _ _ _ _ _ _ ((first_iff t).not.mpr h0) ((last_iff t).mpr h15) (iblk m c 2 t) s.pt (iblk m c 3 t) (iblk m c 4 t) (iblk m c 5 t) s.hs s.gs s.acc s.w Set.univ _)
      isplitl [H3]; · iexact H3
      isplitl [H4]; · iexact H4
      isplitl [H5]; · iexact H5
      isplitl [HS0]; · iexact HS0
      isplitl [HS1]; · iexact HS1
      isplitl [HS2]; · iexact HS2
      isplitl [HS4]; · iexact HS4
      isplitl [H2]; · iexact H2
      isplitl [HS3]; · iexact HS3
      isplitl [H9]; · icases H9 with ⟨%d9, H9⟩; iexists _; iexact H9
      iintro ⟨H3, H4, H5, HS0, HS1, HS2, HS4, H2, HS3, H9⟩
      ihave HS4 : owns (c : Thread nD τ) sc4 fullShare s.w $$ [HS4]
      · unfold owns; iexists _; isplitr
        swap; · iexact HS4
        ipureintro; exact (Memref.isWhole_whole cc0_scratch4).read_unread _
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · have hi : idle0 9 (grid0.coords t) = true := idle_of t h15
      simp only [unflushed_of t h15]; rw [hi]
      rw [hst]
      generalize stAt m c (t.val - 1) _ = s
      unfold holds adv
      dsimp only
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
      ihave HS4 : (sc4.view.loc (c : Thread nD τ) ↦[sc4.view.set]{fullShare} (Memref.isWhole_whole cc0_scratch4).unread s.w) $$ [HS4]
      · unfold owns
        icases HS4 with ⟨%f, %hf, HS4⟩
        obtain rfl := (Memref.isWhole_whole cc0_scratch4).eq_unread hf
        iexact HS4
      iapply (body_mid c (grid0.coords t) _ _ _ _ _ _ _ _ _ _ _ _ _ _ _ _ _ _ _ _ _ _ _ _ _ _ _ _ _ _ ((first_iff t).not.mpr h0) ((last_iff t).not.mpr h15) (iblk m c 3 t) (iblk m c 4 t) (iblk m c 5 t) s.hs s.gs s.acc s.w Set.univ _)
      isplitl [H3]; · iexact H3
      isplitl [H4]; · iexact H4
      isplitl [H5]; · iexact H5
      isplitl [HS0]; · iexact HS0
      isplitl [HS1]; · iexact HS1
      isplitl [HS2]; · iexact HS2
      isplitl [HS4]; · iexact HS4
      iintro ⟨H3, H4, H5, HS0, HS1, HS2, HS4⟩
      ihave HS4 : owns (c : Thread nD τ) sc4 fullShare s.w $$ [HS4]
      · unfold owns; iexists _; isplitr
        swap; · iexact HS4
        ipureintro; exact (Memref.isWhole_whole cc0_scratch4).read_unread _
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = between m c 0 (Nat.zero_le _) from rfl, between_zero m c 0 _ rfl]
  try exact Idealize.SL.BI.Entails.refl _

theorem hout (c : Dev nD) : (dats m 0 c).Φ (Fin.last cfg0.N) ⊢ Pipeline.ΦA spec0 c :=
  between_any m c _ (Nat.le_of_lt_succ (Fin.last cfg0.N).isLt)

/-! ## The run -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.MoeIdeal.Run

end
-- ==== Proof.MoeRank.lean ====
module

public import proofs.«01_k».proof.Proof.Online

@[expose] public section

noncomputable section

/-! # Sorting rows by group

`γ` gives each of 512 rows a group. A row's place is the number of rows of earlier groups plus the number of rows of
its own group that come before it. Places are distinct, and a group's places fill the stretch from the number of
rows of earlier groups to that number and the group's size together. -/

namespace Cert.Rank

open Cert.Online

variable (γ : Fin 512 → ℕ)

/-- How many rows a group has. -/
def cnt (l : ℕ) : ℕ := (Finset.univ.filter fun r => γ r = l).card

/-- How many rows earlier groups have. -/
def st (l : ℕ) : ℕ := (Finset.univ.filter fun r => γ r < l).card

/-- How many rows of a group come before a row. -/
def rk (r : Fin 512) (l : ℕ) : ℕ := (Finset.univ.filter fun r' => r' < r ∧ γ r' = l).card

/-- A row's place. -/
def pos (r : Fin 512) : ℕ := st γ (γ r) + rk γ r (γ r)

theorem rk_lt (r : Fin 512) : rk γ r (γ r) < cnt γ (γ r) := by
  refine Finset.card_lt_card ⟨?_, ?_⟩
  · intro x hx
    simp only [Finset.mem_filter, Finset.mem_univ, true_and] at hx ⊢
    exact hx.2
  · intro h
    have := h (show r ∈ Finset.univ.filter fun r' => γ r' = γ r by simp)
    simp at this

theorem st_succ (l : ℕ) : st γ (l + 1) = st γ l + cnt γ l := by
  unfold st cnt
  rw [← Finset.card_union_of_disjoint]
  · congr 1
    ext r
    simp only [Finset.mem_filter, Finset.mem_univ, true_and, Finset.mem_union]
    omega
  · rw [Finset.disjoint_filter]
    intro r _ h1 h2
    omega

theorem st_mono {a b : ℕ} (h : a ≤ b) : st γ a ≤ st γ b := by
  refine Finset.card_le_card ?_
  intro r hr
  simp only [Finset.mem_filter, Finset.mem_univ, true_and] at hr ⊢
  omega

theorem st_le (l : ℕ) : st γ l ≤ 512 := by
  refine (Finset.card_filter_le _ _).trans ?_
  simp

theorem pos_lo (r : Fin 512) : st γ (γ r) ≤ pos γ r := Nat.le_add_right _ _

theorem pos_hi (r : Fin 512) : pos γ r < st γ (γ r) + cnt γ (γ r) := Nat.add_lt_add_left (rk_lt γ r) _

theorem pos_lt (r : Fin 512) : pos γ r < 512 :=
  lt_of_lt_of_le (pos_hi γ r) ((st_succ γ (γ r)).symm.trans_le (st_le γ _))

theorem rk_strict {r s : Fin 512} (h : r < s) (e : γ r = γ s) : rk γ r (γ r) < rk γ s (γ s) := by
  rw [← e]
  refine Finset.card_lt_card ⟨?_, ?_⟩
  · intro x hx
    simp only [Finset.mem_filter, Finset.mem_univ, true_and] at hx ⊢
    exact ⟨hx.1.trans h, hx.2⟩
  · intro hs
    have := hs (show r ∈ Finset.univ.filter fun r' => r' < s ∧ γ r' = γ r by simp [h])
    simp at this

theorem pos_inj {r s : Fin 512} (h : pos γ r = pos γ s) : r = s := by
  have key : ∀ {a b : Fin 512}, γ a < γ b → pos γ a < pos γ b := fun {a b} hab =>
    lt_of_lt_of_le (pos_hi γ a) (((st_succ γ (γ a)).symm.trans_le (st_mono γ hab)).trans (pos_lo γ b))
  rcases lt_trichotomy (γ r) (γ s) with h1 | h1 | h1
  · exact absurd h (key h1).ne
  · rcases lt_trichotomy r s with h2 | h2 | h2
    · have := rk_strict γ h2 h1
      unfold pos at h
      rw [h1] at h this
      omega
    · exact h2
    · have := rk_strict γ h2 h1.symm
      unfold pos at h
      rw [h1] at h this
      omega
  · exact absurd h (key h1).ne'

/-- A row's place as a row. -/
def pl (r : Fin 512) : Fin 512 := ⟨pos γ r, pos_lt γ r⟩

theorem pl_inj : Function.Injective (pl γ) := fun r s h => pos_inj γ (congrArg Fin.val h)

/-! ## Counting in the extended reals -/

/-- A count as an extended real. -/
def num (n : ℕ) : EReal := ((n : ℝ) : EReal)

theorem num_inj {a b : ℕ} : num a = num b ↔ a = b := by
  unfold num
  rw [EReal.coe_eq_coe_iff, Nat.cast_inj]

theorem num_zero : num 0 = 0 := by simp [num]

theorem num_add (a b : ℕ) : num (a + b) = num a + num b := by
  unfold num
  rw [← EReal.coe_add, Nat.cast_add]

theorem num_sub_self (a : ℕ) : num a - num a = 0 := by
  unfold num
  rw [← EReal.coe_sub, sub_self, EReal.coe_zero]

/-- A sum of ones over the rows that satisfy a condition counts them. -/
theorem sum_ones {ι : Type} [Fintype ι] (P : ι → Prop) [DecidablePred P] :
    ∑ r : ι, (if P r then (1 : EReal) else 0) = num (Finset.univ.filter P).card := by
  have h : ∀ r : ι, (if P r then (1 : EReal) else 0) = (((if P r then (1 : ℝ) else 0) : ℝ) : EReal) := fun r => by
    split <;> simp
  rw [Finset.sum_congr rfl fun r _ => h r, ← coe_sum, Finset.sum_boole]
  rfl

/-- A sum that picks one place. -/
theorem sum_pick {ι : Type} [Fintype ι] [DecidableEq ι] (a : ι) (P : ι → Prop) [DecidablePred P] (hP : ∀ x, P x ↔ x = a) (f : ι → EReal) :
    ∑ x : ι, (if P x then (1 : EReal) else 0) * f x = f a := by
  rw [Finset.sum_eq_single a]
  · rw [if_pos ((hP a).mpr rfl), one_mul]
  · intro x _ hx
    rw [if_neg fun h => hx ((hP x).mp h), zero_mul]
  · intro h
    exact absurd (Finset.mem_univ a) h

/-- A weighted sum whose terms are all nothing. -/
theorem sum_mul_zero {ι : Type} [Fintype ι] (f g : ι → EReal) (h : ∀ x, g x = 0) : ∑ x : ι, f x * g x = 0 :=
  Finset.sum_eq_zero fun x _ => by rw [h x, mul_zero]

/-! ## Numbers that are real -/

/-- Neither infinity. -/
def Fin' (x : EReal) : Prop := ∃ r : ℝ, x = (r : EReal)

theorem fin_of {x : EReal} (h : x ≠ ⊤ ∧ x ≠ ⊥) : Fin' x := ⟨x.toReal, (EReal.coe_toReal h.1 h.2).symm⟩

theorem fin_zero : Fin' 0 := ⟨0, rfl⟩

theorem fin_add {x y : EReal} (hx : Fin' x) (hy : Fin' y) : Fin' (x + y) := by
  obtain ⟨a, rfl⟩ := hx; obtain ⟨b, rfl⟩ := hy
  exact ⟨a + b, (EReal.coe_add a b).symm⟩

theorem fin_mul {x y : EReal} (hx : Fin' x) (hy : Fin' y) : Fin' (x * y) := by
  obtain ⟨a, rfl⟩ := hx; obtain ⟨b, rfl⟩ := hy
  exact ⟨a * b, (EReal.coe_mul a b).symm⟩

theorem fin_sum {ι : Type} (s : Finset ι) (f : ι → EReal) (h : ∀ x ∈ s, Fin' (f x)) : Fin' (∑ x ∈ s, f x) := by
  classical
  induction s using Finset.induction_on with
  | empty => exact ⟨0, by simp⟩
  | insert a s ha ih =>
    rw [Finset.sum_insert ha]
    exact fin_add (h a (Finset.mem_insert_self _ _)) (ih fun x hx => h x (Finset.mem_insert_of_mem hx))

theorem sub_self' {x : EReal} (h : Fin' x) : x - x = 0 := by
  obtain ⟨a, rfl⟩ := h
  rw [← EReal.coe_sub, sub_self, EReal.coe_zero]

end Cert.Rank

end
-- ==== Proof.MoeSet.lean ====
module

public import proofs.«01_k».proof.Proof.MoeRunI
public import proofs.«01_k».proof.Proof.MoeRank
public import Idealize.ShloMosaic.Lib.Pipeline.Value

@[expose] public section

set_option maxRecDepth 16384

noncomputable section

/-! # What the set-up of a block of rows computes

Over the extended reals: with each row's group in lane 16 of the gates, the set-up finds each row's place, the matrix
that moves rows to their places, the moved rows and gates, and where each group begins and ends. -/

namespace Cert.MoeIdeal.Set

open Cert.MoeIdeal Cert.MoeIdeal.Gen Cert.MoeIdeal.Run
open Cert.Rank
open Idealize.ShloMosaic Idealize.ShloMosaic.TcCoe Idealize.ShloMosaic.Tactic
open Idealize.SL Idealize.SL.Sem

/-- The block's gates and the three constant matrices. -/
structure Ready (γ : Fin 512 → ℕ) (gt : Vec Ideal S512x128 .f32) (lo : Vec Ideal S512x512 .bf16) (up ey : Vec Ideal S128x128 .bf16) : Prop where
  few : ∀ r, γ r < 4
  grp : ∀ r : Fin 512, gt (ix2 r (16 : Fin 128)) = num (γ r)
  real : ∀ (r : Fin 512) (l : Fin 128), Fin' (gt (ix2 r l))
  lo_at : ∀ r s : Fin 512, lo (ix2 r s) = if s < r then (1 : EReal) else 0
  up_at : ∀ a b : Fin 128, up (ix2 a b) = if a < b then (1 : EReal) else 0
  ey_at : ∀ a b : Fin 128, ey (ix2 a b) = if b = a then (1 : EReal) else 0

theorem sitofp_num (n : ℕ) (h : n < 1024) : (FloatOps.sitofp (F := Ideal) FTy.f32 (BitVec.ofNat 32 n) : EReal) = num n := by
  show (((BitVec.ofNat 32 n).toInt : ℝ) : EReal) = num n
  have e : (BitVec.ofNat 32 n).toInt = (n : ℤ) := by
    rw [BitVec.toInt_eq_toNat_of_lt (by rw [BitVec.toNat_ofNat]; omega), BitVec.toNat_ofNat]
    omega
  rw [e]
  simp [num]

theorem fptosi_num (n : ℕ) (h : n ≤ 512) : (FloatOps.fptosi (F := Ideal) (φ := .f32) 32 (num n)) = BitVec.ofNat 32 n := by
  show BitVec.ofInt 32 (Ideal.toIntClamped (-(2 ^ 31 : Nat)) ((2 ^ 31 : Nat) - 1) (((n : ℕ) : ℝ) : EReal)) = _
  rw [Ideal.toIntClamped_coe, if_pos (Nat.cast_nonneg n), Int.floor_natCast]
  have : max (-((2 ^ 31 : Nat) : ℤ)) (min (((2 ^ 31 : Nat) : ℤ) - 1) (n : ℤ)) = (n : ℤ) := by
    norm_num
    omega
  rw [this]
  exact BitVec.ofInt_natCast 32 n

theorem slt_four : ∀ l : Fin 128, IntOp.cmpi CmpIPredicate.slt (BitVec.ofNat 32 l.val) 4#32 = BitVec.ofBool (decide (l.val < 4)) := by decide +kernel

theorem eq_word : ∀ l g : Fin 128, IntOp.cmpi CmpIPredicate.eq (BitVec.ofNat 32 l.val) (BitVec.ofNat 32 g.val) = BitVec.ofBool (decide (l = g)) := by
  intro l g
  show BitVec.ofBool (decide (BitVec.ofNat 32 l.val = BitVec.ofNat 32 g.val)) = _
  congr 1
  rw [decide_eq_decide]
  constructor
  · intro h
    have := congrArg BitVec.toNat h
    rw [BitVec.toNat_ofNat, BitVec.toNat_ofNat] at this
    exact Fin.ext (by omega)
  · rintro rfl
    rfl

theorem select_if {α : Type} (p : Prop) [Decidable p] (a b : α) : Scalar.select (BitVec.ofBool (decide p)) a b = if p then a else b := by
  by_cases h : p <;> simp [Scalar.select, h]

variable {γ : Fin 512 → ℕ} {gt : Vec Ideal S512x128 .f32} {lo : Vec Ideal S512x512 .bf16} {up ey : Vec Ideal S128x128 .bf16}

theorem one_at (H : Ready γ gt lo up ey) (r : Fin 512) (l : Fin 128) :
    k0_pay4 (F := Ideal) lanes gt (ix2 r l) = if γ r = l.val then (1 : EReal) else 0 := by
  have e : (k0_pay4 (F := Ideal) lanes gt (ix2 r l) : EReal)
      = Scalar.select (IntOp.andi (BitVec.ofBool (decide ((FloatOps.sitofp (F := Ideal) FTy.f32 (BitVec.ofNat 32 l.val) : EReal) = gt (ix2 r (16 : Fin 128)))))
          (IntOp.cmpi CmpIPredicate.slt (BitVec.ofNat 32 l.val) 4#32)) 1 0 := by
    pointwise [k0_pay4]
  rw [e, sitofp_num _ (by omega), H.grp, slt_four]
  have := H.few r
  by_cases h : γ r = l.val
  · rw [if_pos h]
    have h1 : num l.val = num (γ r) := num_inj.mpr h.symm
    have h2 : l.val < 4 := h ▸ this
    simp [h1, h2, IntOp.andi, Scalar.select]
  · rw [if_neg h]
    have h1 : ¬num l.val = num (γ r) := fun e => h (num_inj.mp e).symm
    simp [h1, IntOp.andi, Scalar.select]

theorem cnt_at (H : Ready γ gt lo up ey) (l : Fin 128) : k0_pay5 (F := Ideal) lanes gt (ix2 (0 : Fin 1) l) = num (cnt γ l.val) := by
  have e : (k0_pay5 (F := Ideal) lanes gt (ix2 (0 : Fin 1) l) : EReal) = ∑ r : Fin 512, k0_pay4 (F := Ideal) lanes gt (ix2 r l) := by
    pointwise [k0_pay5]
  rw [e, Finset.sum_congr rfl fun r _ => one_at H r l]
  exact sum_ones _

theorem prefix_sum (γ : Fin 512 → ℕ) (l n : ℕ) :
    ∑ x ∈ Finset.range n, num (cnt γ x) * (if x < l then (1 : EReal) else 0) = num (st γ (min n l)) := by
  induction n with
  | zero => simp [st, num]
  | succ n ih =>
    rw [Finset.sum_range_succ, ih]
    by_cases h : n < l
    · rw [if_pos h, mul_one, Nat.min_eq_left (le_of_lt h), Nat.min_eq_left h, st_succ, num_add]
    · rw [if_neg h, mul_zero, add_zero, Nat.min_eq_right (by omega), Nat.min_eq_right (by omega)]

theorem st_at (H : Ready γ gt lo up ey) (l : Fin 128) : iniSt gt up (ix2 (0 : Fin 1) l) = num (st γ l.val) := by
  have e : (k0_pay6 (F := Ideal) lanes gt up up up (ix2 (0 : Fin 1) l) : EReal)
      = ∑ x : Fin 128, k0_pay5 (F := Ideal) lanes gt (ix2 (0 : Fin 1) x) * up (ix2 x l)
        + ∑ x : Fin 128, (k0_pay5 (F := Ideal) lanes gt (ix2 (0 : Fin 1) x) - k0_pay5 (F := Ideal) lanes gt (ix2 (0 : Fin 1) x)) * up (ix2 x l)
        + ∑ x : Fin 128, ((k0_pay5 (F := Ideal) lanes gt (ix2 (0 : Fin 1) x) - k0_pay5 (F := Ideal) lanes gt (ix2 (0 : Fin 1) x))
            - (k0_pay5 (F := Ideal) lanes gt (ix2 (0 : Fin 1) x) - k0_pay5 (F := Ideal) lanes gt (ix2 (0 : Fin 1) x))) * up (ix2 x l) := by
    pointwise [k0_pay6]
  unfold iniSt
  rw [e]
  simp only [cnt_at H, num_sub_self, sub_zero, zero_mul, Finset.sum_const_zero, add_zero, H.up_at]
  have := Fin.sum_univ_eq_sum_range (fun x => num (cnt γ x) * (if x < l.val then (1 : EReal) else 0)) 128
  exact this.trans ((prefix_sum γ l.val 128).trans (by rw [Nat.min_eq_right (by omega)]))

theorem pos_at (H : Ready γ gt lo up ey) (r : Fin 512) : k0_pay8 (F := Ideal) (iniPos gt lo up) (ix2 r (0 : Fin 1)) = num (pos γ r) := by
  have e : (k0_pay8 (F := Ideal) (iniPos gt lo up) (ix2 r (0 : Fin 1)) : EReal) = ∑ l : Fin 128, iniPos gt lo up (ix2 r l) := by
    pointwise [k0_pay8]
  have e7 : ∀ l : Fin 128, (iniPos gt lo up (ix2 r l) : EReal)
      = k0_pay4 (F := Ideal) lanes gt (ix2 r l) * (iniSt gt up (ix2 (0 : Fin 1) l) + ∑ x : Fin 512, lo (ix2 r x) * k0_pay4 (F := Ideal) lanes gt (ix2 x l)) := fun l => by
    unfold iniPos iniSt
    pointwise [k0_pay7]
  have er : ∀ l : Fin 128, ∑ x : Fin 512, lo (ix2 r x) * k0_pay4 (F := Ideal) lanes gt (ix2 x l) = num (rk γ r l.val) := fun l => by
    have : ∀ x : Fin 512, lo (ix2 r x) * k0_pay4 (F := Ideal) lanes gt (ix2 x l) = if x < r ∧ γ x = l.val then (1 : EReal) else 0 := fun x => by
      rw [H.lo_at, one_at H]
      by_cases h1 : x < r <;> by_cases h2 : γ x = l.val <;> simp [h1, h2]
    rw [Finset.sum_congr rfl fun x _ => this x]
    exact sum_ones _
  rw [e, Finset.sum_congr rfl fun l _ => (e7 l).trans (by rw [one_at H, st_at H, er])]
  have hr : γ r < 128 := lt_trans (H.few r) (by norm_num)
  refine (sum_pick (⟨γ r, hr⟩ : Fin 128) (fun l : Fin 128 => γ r = l.val) (fun l => ?_) _).trans ?_
  · exact ⟨fun h => Fin.ext h.symm, fun h => (congrArg Fin.val h).symm⟩
  · exact (num_add _ _).symm

theorem perm_at (H : Ready γ gt lo up ey) (s r : Fin 512) : iniPerm gt lo up ey (ix2 s r) = if s.val = pos γ r then (1 : EReal) else 0 := by
  have e : (iniPerm gt lo up ey (ix2 s r) : EReal)
      = if (FloatOps.sitofp (F := Ideal) FTy.f32 (BitVec.ofNat 32 s.val) : EReal)
          = ∑ x : Fin 128, ey (ix2 (0 : Fin 128) x) * k0_pay8 (F := Ideal) (iniPos gt lo up) (ix2 r (0 : Fin 1))
            + ∑ x : Fin 128, ey (ix2 (0 : Fin 128) x) * (k0_pay8 (F := Ideal) (iniPos gt lo up) (ix2 r (0 : Fin 1)) - k0_pay8 (F := Ideal) (iniPos gt lo up) (ix2 r (0 : Fin 1)))
            + ∑ x : Fin 128, ey (ix2 (0 : Fin 128) x) * ((k0_pay8 (F := Ideal) (iniPos gt lo up) (ix2 r (0 : Fin 1)) - k0_pay8 (F := Ideal) (iniPos gt lo up) (ix2 r (0 : Fin 1)))
                - (k0_pay8 (F := Ideal) (iniPos gt lo up) (ix2 r (0 : Fin 1)) - k0_pay8 (F := Ideal) (iniPos gt lo up) (ix2 r (0 : Fin 1)))) then 1 else 0 := by
    unfold iniPerm
    pointwise [k0_pay9]
  rw [e]
  simp only [pos_at H, num_sub_self, sub_zero, mul_zero, Finset.sum_const_zero, add_zero, H.ey_at]
  have hp := sum_pick (0 : Fin 128) (fun x : Fin 128 => x = 0) (fun x => Iff.rfl) (fun _ => num (pos γ r))
  rw [hp, sitofp_num _ (by omega)]
  simp only [num_inj]

theorem pt_at (H : Ready γ gt lo up ey) (r s : Fin 512) : iniPt gt lo up (ix2 r s) = if s.val = pos γ r then (1 : EReal) else 0 := by
  have e : (iniPt gt lo up (ix2 r s) : EReal)
      = if (FloatOps.sitofp (F := Ideal) FTy.f32 (BitVec.ofNat 32 s.val) : EReal) = k0_pay8 (F := Ideal) (iniPos gt lo up) (ix2 r (0 : Fin 1)) then 1 else 0 := by
    unfold iniPt
    pointwise [k0_pay10]
  rw [e, pos_at H, sitofp_num _ (by omega)]
  simp only [num_inj]

theorem pick_row (γ : Fin 512 → ℕ) (r : Fin 512) (x : Fin 512) : (pl γ r).val = pos γ x ↔ x = r :=
  ⟨fun h => (pos_inj γ h).symm, fun h => by rw [h]; rfl⟩

theorem hs_at (H : Ready γ gt lo up ey) (hn : Vec Ideal S512x2048 .bf16) (r : Fin 512) (d : Fin 2048) :
    iniHs hn gt lo up ey (ix2 (pl γ r) d) = hn (ix2 r d) := by
  have e : (iniHs hn gt lo up ey (ix2 (pl γ r) d) : EReal) = ∑ x : Fin 512, iniPerm gt lo up ey (ix2 (pl γ r) x) * hn (ix2 x d) := by
    unfold iniHs
    pointwise [k0_pay11]
  rw [e, Finset.sum_congr rfl fun x _ => congrArg (· * hn (ix2 x d)) (perm_at H (pl γ r) x)]
  exact sum_pick r _ (pick_row γ r) fun x => hn (ix2 x d)

theorem gs_at (H : Ready γ gt lo up ey) (r : Fin 512) (l : Fin 128) :
    iniGs gt lo up ey (ix2 (pl γ r) l) = gt (ix2 r l) := by
  have e : (iniGs gt lo up ey (ix2 (pl γ r) l) : EReal)
      = ∑ x : Fin 512, iniPerm gt lo up ey (ix2 (pl γ r) x) * gt (ix2 x l)
        + ∑ x : Fin 512, iniPerm gt lo up ey (ix2 (pl γ r) x) * (gt (ix2 x l) - gt (ix2 x l))
        + ∑ x : Fin 512, iniPerm gt lo up ey (ix2 (pl γ r) x) * ((gt (ix2 x l) - gt (ix2 x l)) - (gt (ix2 x l) - gt (ix2 x l))) := by
    unfold iniGs
    pointwise [k0_pay12]
  rw [e, Finset.sum_congr rfl fun x _ => congrArg (· * gt (ix2 x l)) (perm_at H (pl γ r) x)]
  rw [sum_mul_zero (fun x : Fin 512 => iniPerm gt lo up ey (ix2 (pl γ r) x)) (fun x => gt (ix2 x l) - gt (ix2 x l)) fun x => sub_self' (H.real x l),
    sum_mul_zero (fun x : Fin 512 => iniPerm gt lo up ey (ix2 (pl γ r) x)) (fun x => (gt (ix2 x l) - gt (ix2 x l)) - (gt (ix2 x l) - gt (ix2 x l)))
      fun x => by rw [sub_self' (H.real x l), sub_zero], add_zero, add_zero]
  exact sum_pick r _ (pick_row γ r) fun x => gt (ix2 x l)

/-! ## The table of bounds -/

theorem pick_lane (v : FVec Ideal S1x128 .f32) (g : Fin 128) :
    ∑ _a : Fin 1, ∑ x : Fin 128, Scalar.select (IntOp.cmpi CmpIPredicate.eq (BitVec.ofNat 32 x.val) (BitVec.ofNat 32 g.val)) (v (ix2 (0 : Fin 1) x)) (0 : EReal)
      = v (ix2 (0 : Fin 1) g) := by
  rw [Fin.sum_univ_one]
  simp only [eq_word, select_if]
  rw [Finset.sum_ite_eq' Finset.univ g, if_pos (Finset.mem_univ g)]

theorem w15 (v : FVec Ideal S1x128 .f32) : k0_pay15 (F := Ideal) lanes v = v (ix2 (0 : Fin 1) (0 : Fin 128)) := by
  pointwise [k0_pay15]
  exact pick_lane v 0
theorem w16 (v : FVec Ideal S1x128 .f32) : k0_pay16 (F := Ideal) lanes v = v (ix2 (0 : Fin 1) (0 : Fin 128)) := by
  pointwise [k0_pay16]
  exact pick_lane v 0
theorem w17 (v : FVec Ideal S1x128 .f32) : k0_pay17 (F := Ideal) lanes v = v (ix2 (0 : Fin 1) (1 : Fin 128)) := by
  pointwise [k0_pay17]
  exact pick_lane v 1
theorem w18 (v : FVec Ideal S1x128 .f32) : k0_pay18 (F := Ideal) lanes v = v (ix2 (0 : Fin 1) (1 : Fin 128)) := by
  pointwise [k0_pay18]
  exact pick_lane v 1
theorem w20 (v : FVec Ideal S1x128 .f32) : k0_pay20 (F := Ideal) (k0_pay19 lanes v) = v (ix2 (0 : Fin 1) (2 : Fin 128)) := by
  pointwise [k0_pay20, k0_pay19]
  exact pick_lane v 2
theorem w21 (v : FVec Ideal S1x128 .f32) : k0_pay21 (F := Ideal) v = v (ix2 (0 : Fin 1) (2 : Fin 128)) := by
  pointwise [k0_pay21]
  exact pick_lane v 2
theorem w22 (v : FVec Ideal S1x128 .f32) : k0_pay22 (F := Ideal) v = v (ix2 (0 : Fin 1) (3 : Fin 128)) := by
  pointwise [k0_pay22]
  exact pick_lane v 3
theorem w23 (v : FVec Ideal S1x128 .f32) : k0_pay23 (F := Ideal) v = v (ix2 (0 : Fin 1) (3 : Fin 128)) := by
  pointwise [k0_pay23]
  exact pick_lane v 3

theorem en_at (H : Ready γ gt lo up ey) (l : Fin 128) : iniEn gt up (ix2 (0 : Fin 1) l) = num (st γ (l.val + 1)) := by
  have e : (iniEn gt up (ix2 (0 : Fin 1) l) : EReal) = iniSt gt up (ix2 (0 : Fin 1) l) + k0_pay5 (F := Ideal) lanes gt (ix2 (0 : Fin 1) l) := by
    unfold iniEn
    pointwise [k0_pay14]
  rw [e, st_at H, cnt_at H, st_succ, num_add]

theorem word_of (x : EReal) (n : ℕ) (h : x = num n) (hn : n ≤ 512) : Scalar.fptosi (F := Ideal) (φ := .f32) 32 x = BitVec.ofNat 32 n := by
  rw [h]; exact fptosi_num n hn

/-- The beginnings, -/
theorem start_word (H : Ready γ gt lo up ey) (g : Fin 4) (y : S8.Idx) (hy : (y 0).val = g.val) : iniW gt up y = BitVec.ofNat 32 (st γ g.val) := by
  have e : y 0 = (⟨g.val, by omega⟩ : Fin 8) := Fin.ext hy
  unfold iniW
  rw [e]
  fin_cases g
  · exact word_of _ _ ((w15 _).trans (st_at H 0)) (st_le γ _)
  · exact word_of _ _ ((w17 _).trans (st_at H 1)) (st_le γ _)
  · exact word_of _ _ ((w20 _).trans (st_at H 2)) (st_le γ _)
  · exact word_of _ _ ((w22 _).trans (st_at H 3)) (st_le γ _)

/-- and the ends. -/
theorem end_word (H : Ready γ gt lo up ey) (g : Fin 4) (y : S8.Idx) (hy : (y 0).val = 4 + g.val) : iniW gt up y = BitVec.ofNat 32 (st γ (g.val + 1)) := by
  have e : y 0 = (⟨4 + g.val, by omega⟩ : Fin 8) := Fin.ext hy
  unfold iniW
  rw [e]
  fin_cases g
  · exact word_of _ _ ((w16 _).trans (en_at H 0)) (st_le γ _)
  · exact word_of _ _ ((w18 _).trans (en_at H 1)) (st_le γ _)
  · exact word_of _ _ ((w21 _).trans (en_at H 2)) (st_le γ _)
  · exact word_of _ _ ((w23 _).trans (en_at H 3)) (st_le γ _)

end Cert.MoeIdeal.Set

end
-- ==== Proof.MoeAcc.lean ====
module

public import proofs.«01_k».proof.Proof.MoeSet

@[expose] public section

set_option maxRecDepth 16384

noncomputable section

/-! # What one expert adds to a row

A sub-block of 128 places is worked through when it meets the stretch of the expert's group. At the place of a row the
accumulator gains the row's share of the expert: a sub-block passed over holds only rows of other groups, whose gate for
this expert is zero. -/

namespace Cert.MoeIdeal.Set

open Cert.MoeIdeal Cert.MoeIdeal.Gen Cert.MoeIdeal.Run
open Cert.Rank
open Idealize.ShloMosaic Idealize.ShloMosaic.TcCoe Idealize.ShloMosaic.Tactic
open Idealize.SL Idealize.SL.Sem

/-- A row's product with one column of an expert's matrix. -/
def dotc (h : Fin 2048 → EReal) (w : Vec Ideal S1x2048x512 .bf16) (k : Fin 512) : EReal := ∑ x : Fin 2048, h x * w (ix3 (0 : Fin 1) x k)

/-- One hidden unit, gated. -/
def hid (h : Fin 2048 → EReal) (gate : EReal) (wg wu : Vec Ideal S1x2048x512 .bf16) (k : Fin 512) : EReal :=
  (Ideal.div (dotc h wg k) (1 + Ideal.exp (0 - dotc h wg k)) * dotc h wu k) * gate

/-- An expert's share of one output. -/
def con (h : Fin 2048 → EReal) (gate : EReal) (wg wu : Vec Ideal S1x2048x512 .bf16) (wd : Vec Ideal S1x512x2048 .bf16) (d : Fin 2048) : EReal :=
  ∑ k : Fin 512, hid h gate wg wu k * wd (ix3 (0 : Fin 1) k d)

theorem con_zero (h : Fin 2048 → EReal) (wg wu : Vec Ideal S1x2048x512 .bf16) (wd : Vec Ideal S1x512x2048 .bf16) (d : Fin 2048) :
    con h 0 wg wu wd d = 0 :=
  Finset.sum_eq_zero fun k _ => by unfold hid; rw [mul_zero, zero_mul]

theorem div_fin {x y : EReal} (hx : Fin' x) (hy : Fin' y) (h0 : y ≠ 0) : Fin' (Ideal.div x y) := by
  obtain ⟨b, rfl⟩ := hy
  rw [Ideal.div_coe (by exact_mod_cast h0)]
  exact fin_mul hx ⟨_, rfl⟩

theorem silu_fin {v : EReal} (hv : Fin' v) : Fin' (Ideal.div v (1 + Ideal.exp (0 - v))) := by
  obtain ⟨a, rfl⟩ := hv
  have e : (1 : EReal) + Ideal.exp (0 - (a : EReal)) = ((1 + Real.exp (0 - a) : ℝ) : EReal) := by
    rw [show (0 : EReal) - (a : EReal) = ((0 - a : ℝ) : EReal) by rw [EReal.coe_sub, EReal.coe_zero], Ideal.exp_coe, EReal.coe_add, EReal.coe_one]
  rw [e]
  refine div_fin ⟨a, rfl⟩ ⟨_, rfl⟩ ?_
  have : (0 : ℝ) < 1 + Real.exp (0 - a) := by positivity
  exact_mod_cast this.ne'

theorem con_fin (h : Fin 2048 → EReal) (gate : EReal) (wg wu : Vec Ideal S1x2048x512 .bf16) (wd : Vec Ideal S1x512x2048 .bf16) (d : Fin 2048)
    (hh : ∀ x, Fin' (h x)) (hg : Fin' gate) (h1 : ∀ x k, Fin' (wg (ix3 (0 : Fin 1) x k))) (h2 : ∀ x k, Fin' (wu (ix3 (0 : Fin 1) x k)))
    (h3 : ∀ k, Fin' (wd (ix3 (0 : Fin 1) k d))) : Fin' (con h gate wg wu wd d) := by
  have hd : ∀ (w : Vec Ideal S1x2048x512 .bf16), (∀ x k, Fin' (w (ix3 (0 : Fin 1) x k))) → ∀ k, Fin' (dotc h w k) := fun w hw k =>
    fin_sum _ _ fun x _ => fin_mul (hh x) (hw x k)
  exact fin_sum _ _ fun k _ => fin_mul (fin_mul (fin_mul (silu_fin (hd wg h1 k)) (hd wu h2 k)) hg) (h3 k)

/-! ## The four sub-blocks -/

variable (i : grid0.Coords) (h : Vec Ideal S128x2048 .bf16) (g : Vec Ideal S128x128 .f32) (wg wu : Vec Ideal S1x2048x512 .bf16)
  (a : Vec Ideal S128x2048 .f32) (wd : Vec Ideal S1x512x2048 .bf16) (r : Fin 128) (d : Fin 2048)

/-- The lane of the expert. -/
def lane (i : grid0.Coords) : Fin 128 := ⟨(i 1).val, lt_of_lt_of_le (show (i 1).val < 16 from (i 1).isLt) (by norm_num)⟩

theorem pick_gate : ∑ x : Fin 128, Scalar.select (IntOp.cmpi CmpIPredicate.eq (BitVec.ofNat 32 x.val) (BitVec.ofNat 32 (i 1).val)) (g (ix2 r x)) (0 : EReal)
    = g (ix2 r (lane i)) := by
  have : ∀ x : Fin 128, IntOp.cmpi CmpIPredicate.eq (BitVec.ofNat 32 x.val) (BitVec.ofNat 32 (i 1).val) = BitVec.ofBool (decide (x = lane i)) := fun x => eq_word x (lane i)
  simp only [this, select_if]
  rw [Finset.sum_ite_eq' Finset.univ (lane i), if_pos (Finset.mem_univ _)]

theorem pay1_at : k0_pay1 (F := Ideal) (BitVec.ofNat 32 (i 1).val) dims h g wg wu a wd (ix2 r d)
    = a (ix2 r d) + con (fun x => h (ix2 r x)) (g (ix2 r (lane i))) wg wu wd d := by
  rw [← pick_gate i g r]
  unfold con hid dotc
  pointwise [k0_pay1]

theorem pay2_at : k0_pay2 (F := Ideal) (BitVec.ofNat 32 (i 1).val) dims h g wg wu a wd (ix2 r d)
    = a (ix2 r d) + con (fun x => h (ix2 r x)) (g (ix2 r (lane i))) wg wu wd d := by
  rw [← pick_gate i g r]
  unfold con hid dotc
  pointwise [k0_pay2]

theorem pay24_at : k0_pay24 (F := Ideal) i h g wg wu a wd (ix2 r d)
    = a (ix2 r d) + con (fun x => h (ix2 r x)) (g (ix2 r (lane i))) wg wu wd d := by
  rw [← pick_gate i g r]
  unfold con hid dotc
  pointwise [k0_pay24]

theorem pay25_at : k0_pay25 (F := Ideal) i h g wg wu a wd (ix2 r d)
    = a (ix2 r d) + con (fun x => h (ix2 r x)) (g (ix2 r (lane i))) wg wu wd d := by
  rw [← pick_gate i g r]
  unfold con hid dotc
  pointwise [k0_pay25]

theorem rows_at {n : ℕ} {e : EltTy} (o : ℕ) (X : Vec Ideal ⟨2, ![512, n]⟩ e) (inb) (r : Fin 128) (c : Fin n) (s : Fin 512) (hs : s.val = o + r.val) :
    rows o X inb (ix2 r c) = X (ix2 s c) := by
  unfold rows
  refine congrArg X (funext fun x => ?_)
  fin_cases x
  · exact Fin.ext (by show o + 1 * r.val = s.val; omega)
  · exact Fin.ext (by show 0 + 1 * c.val = c.val; omega)

/-- A payload that adds an expert's share. -/
def Adds (i : grid0.Coords) (pay : Vec Ideal S128x2048 .bf16 → Vec Ideal S128x128 .f32 → Vec Ideal S1x2048x512 .bf16 → Vec Ideal S1x2048x512 .bf16 → Vec Ideal S128x2048 .f32 → Vec Ideal S1x512x2048 .bf16 → FVec Ideal S128x2048 .f32) : Prop :=
  ∀ h g wg wu a wd r d, pay h g wg wu a wd (ix2 r d) = a (ix2 r d) + con (fun x => h (ix2 r x)) (g (ix2 r (lane i))) wg wu wd d

theorem sub_out (v : BitVec 1) (o : ℕ) (inb) (inb') (pay) (hs : Vec Ideal S512x2048 .bf16) (gs : Vec Ideal S512x128 .f32) (wg wu : Vec Ideal S1x2048x512 .bf16)
    (wd : Vec Ideal S1x512x2048 .bf16) (acc : Vec Ideal S512x2048 .f32) (s : Fin 512) (d : Fin 2048) (ho : ¬(o ≤ s.val ∧ s.val < o + 128)) :
    subVal (F := Ideal) v o inb inb' pay hs gs wg wu wd acc (ix2 s d) = acc (ix2 s d) := by
  unfold subVal
  split
  · unfold putRows
    exact dif_neg ho
  · rfl

theorem sub_in (i : grid0.Coords) (v : BitVec 1) (o : ℕ) (inb) (inb') (pay) (hp : Adds i pay) (hs : Vec Ideal S512x2048 .bf16) (gs : Vec Ideal S512x128 .f32) (wg wu : Vec Ideal S1x2048x512 .bf16)
    (wd : Vec Ideal S1x512x2048 .bf16) (acc : Vec Ideal S512x2048 .f32) (s : Fin 512) (d : Fin 2048) (ho : o ≤ s.val ∧ s.val < o + 128) :
    subVal (F := Ideal) v o inb inb' pay hs gs wg wu wd acc (ix2 s d)
      = if v = 1#1 then acc (ix2 s d) + con (fun x => hs (ix2 s x)) (gs (ix2 s (lane i))) wg wu wd d else acc (ix2 s d) := by
  unfold subVal
  split
  · unfold putRows
    refine (dif_pos ho).trans ?_
    have hr : s.val - o < 128 := by omega
    have e : s.val = o + (⟨s.val - o, hr⟩ : Fin 128).val := by show s.val = o + (s.val - o); omega
    refine (congrArg _ (funext fun x => ?_ : _ = ix2 (⟨s.val - o, hr⟩ : Fin 128) d)).trans ?_
    · fin_cases x <;> rfl
    · rw [hp]
      rw [rows_at o acc inb _ d s e, rows_at o gs inb' _ (lane i) s e]
      congr 2
      funext x
      exact rows_at o hs inb _ x s e
  · rfl

/-! ## The bounds -/

theorem meets_iff (a b lo hi : ℕ) (ha : a ≤ 512) (hb : b ≤ 512) (hlo : lo ≤ 512) (hhi : hi ≤ 512) :
    meets (BitVec.ofNat 32 a) (BitVec.ofNat 32 b) (BitVec.ofNat 32 lo) (BitVec.ofNat 32 hi) = 1#1 ↔ lo < b ∧ a < hi := by
  unfold meets
  word_cmp

theorem off1_eq : ∀ i : grid0.Coords, k0_off1 i = ![(i 1).val / 4] := by decide +kernel
theorem off2_eq : ∀ i : grid0.Coords, k0_off2 i = ![4 + (i 1).val / 4] := by decide +kernel

theorem word_eq (w : Vec Ideal S8 .i32) (off : Fin 1 → ℕ) (inb) (n : ℕ) (ho : off = ![n]) (v : BitVec 32) (hv : ∀ y : S8.Idx, (y 0).val = n → w y = v) :
    word (F := Ideal) w off inb = v := by
  subst ho
  exact hv _ rfl

/-- One expert's step at the place of a row. -/
theorem step_at {γ : Fin 512 → ℕ} {gt lo up ey} (H : Ready γ gt lo up ey) (i : grid0.Coords) (hs : Vec Ideal S512x2048 .bf16) (gs : Vec Ideal S512x128 .f32)
    (wg wu : Vec Ideal S1x2048x512 .bf16) (wd : Vec Ideal S1x512x2048 .bf16) (acc : Vec Ideal S512x2048 .f32) (r : Fin 512) (d : Fin 2048)
    (hz : (i 1).val / 4 ≠ γ r → gs (ix2 (pl γ r) (lane i)) = (0 : EReal)) :
    accStep i (iniW gt up) hs gs wg wu wd acc (ix2 (pl γ r) d)
      = acc (ix2 (pl γ r) d) + con (fun x => hs (ix2 (pl γ r) x)) (gs (ix2 (pl γ r) (lane i))) wg wu wd d := by
  have he : (i 1).val < 16 := (i 1).isLt
  have w1 : ∀ inb, word (F := Ideal) (iniW gt up) (k0_off1 i) inb = BitVec.ofNat 32 (st γ ((i 1).val / 4)) := fun inb =>
    word_eq _ _ inb _ (off1_eq i) _ fun y hy => start_word H ⟨(i 1).val / 4, by omega⟩ y hy
  have w2 : ∀ inb, word (F := Ideal) (iniW gt up) (k0_off2 i) inb = BitVec.ofNat 32 (st γ ((i 1).val / 4 + 1)) := fun inb =>
    word_eq _ _ inb _ (off2_eq i) _ fun y hy => end_word H ⟨(i 1).val / 4, by omega⟩ y hy
  have key : ∀ (v : BitVec 1) (lo hi : ℕ), (v = 1#1 ↔ lo < st γ ((i 1).val / 4 + 1) ∧ st γ ((i 1).val / 4) < hi) → lo ≤ (pl γ r).val ∧ (pl γ r).val < hi →
      (if v = 1#1 then acc (ix2 (pl γ r) d) + con (fun x => hs (ix2 (pl γ r) x)) (gs (ix2 (pl γ r) (lane i))) wg wu wd d else acc (ix2 (pl γ r) d))
        = acc (ix2 (pl γ r) d) + con (fun x => hs (ix2 (pl γ r) x)) (gs (ix2 (pl γ r) (lane i))) wg wu wd d := by
    intro v lo hi hv hp
    split
    · rfl
    · rename_i hn
      have hne : (i 1).val / 4 ≠ γ r := by
        intro hg
        refine hn (hv.2 ?_)
        have a := pos_lo γ r
        have b := pos_hi γ r
        rw [← st_succ] at b
        rw [hg]
        exact ⟨lt_of_le_of_lt hp.1 b, lt_of_le_of_lt a hp.2⟩
      rw [hz hne, con_zero, add_zero]
  have hm : ∀ lo hi : ℕ, lo ≤ 512 → hi ≤ 512 → _ := fun lo hi h1 h2 => meets_iff (st γ ((i 1).val / 4)) (st γ ((i 1).val / 4 + 1)) lo hi (st_le γ _) (st_le γ _) h1 h2
  have hp : (pl γ r).val < 512 := (pl γ r).isLt
  unfold accStep
  simp only [w1, w2]
  by_cases h1 : (pl γ r).val < 128
  · rw [sub_out _ 384 _ _ _ _ _ _ _ _ _ _ _ (by omega), sub_out _ 256 _ _ _ _ _ _ _ _ _ _ _ (by omega), sub_out _ 128 _ _ _ _ _ _ _ _ _ _ _ (by omega),
      sub_in i _ 0 _ _ _ (pay24_at i) _ _ _ _ _ _ _ _ (by omega)]
    exact key _ 0 128 (hm 0 128 (by omega) (by omega)) (by omega)
  by_cases h2 : (pl γ r).val < 256
  · rw [sub_out _ 384 _ _ _ _ _ _ _ _ _ _ _ (by omega), sub_out _ 256 _ _ _ _ _ _ _ _ _ _ _ (by omega), sub_in i _ 128 _ _ _ (pay25_at i) _ _ _ _ _ _ _ _ (by omega),
      sub_out _ 0 _ _ _ _ _ _ _ _ _ _ _ (by omega)]
    exact key _ 128 256 (hm 128 256 (by omega) (by omega)) (by omega)
  by_cases h3 : (pl γ r).val < 384
  · rw [sub_out _ 384 _ _ _ _ _ _ _ _ _ _ _ (by omega), sub_in i _ 256 _ _ _ (pay1_at i) _ _ _ _ _ _ _ _ (by omega), sub_out _ 128 _ _ _ _ _ _ _ _ _ _ _ (by omega),
      sub_out _ 0 _ _ _ _ _ _ _ _ _ _ _ (by omega)]
    exact key _ 256 384 (hm 256 384 (by omega) (by omega)) (by omega)
  · rw [sub_in i _ 384 _ _ _ (pay2_at i) _ _ _ _ _ _ _ _ (by omega), sub_out _ 256 _ _ _ _ _ _ _ _ _ _ _ (by omega), sub_out _ 128 _ _ _ _ _ _ _ _ _ _ _ (by omega),
      sub_out _ 0 _ _ _ _ _ _ _ _ _ _ _ (by omega)]
    exact key _ 384 512 (hm 384 512 (by omega) (by omega)) (by omega)

theorem last_at (v : Vec Ideal S512x2048 .f32) (p q : Vec Ideal S512x512 .bf16) (x : Vec Ideal S512x2048 .f32) (r : Fin 512) (d : Fin 2048) :
    k0_pay3 (F := Ideal) v p q x (ix2 r d)
      = x (ix2 r d) + (∑ s : Fin 512, p (ix2 r s) * v (ix2 s d) + ∑ s : Fin 512, q (ix2 r s) * (v (ix2 s d) - v (ix2 s d))) := by
  pointwise [k0_pay3]

/-- The rows go back to their own places, and the accumulator's rounding remainder is nothing. -/
theorem out_at {γ : Fin 512 → ℕ} {gt lo up ey} (H : Ready γ gt lo up ey) (v : Vec Ideal S512x2048 .f32) (x : Vec Ideal S512x2048 .f32) (r : Fin 512) (d : Fin 2048)
    (hv : Fin' (v (ix2 (pl γ r) d))) :
    k0_pay3 (F := Ideal) v (iniPt gt lo up) (iniPt gt lo up) x (ix2 r d) = x (ix2 r d) + v (ix2 (pl γ r) d) := by
  rw [last_at]
  simp only [pt_at H]
  have hP : ∀ s : Fin 512, (s.val = pos γ r) ↔ s = pl γ r := fun s => ⟨fun h => Fin.ext h, fun h => congrArg Fin.val h⟩
  simp only [hP, ite_mul, one_mul, zero_mul]
  rw [Finset.sum_ite_eq' Finset.univ (pl γ r), if_pos (Finset.mem_univ _), Finset.sum_ite_eq' Finset.univ (pl γ r), if_pos (Finset.mem_univ _), sub_self' hv, add_zero]

end Cert.MoeIdeal.Set

end
-- ==== Proof.MoeMat.lean ====
module

public import proofs.«01_k».proof.Proof.MoeSet
public import Idealize.ShloMosaic.Lib.Pipeline.ValueKit

@[expose] public section

set_option maxRecDepth 16384

noncomputable section

/-! # The three constant matrices the host prepares -/

namespace Cert.MoeIdeal.Mat

open Cert.MoeIdeal Cert.MoeIdeal.Gen
open Idealize.ShloMosaic Idealize.ShloMosaic.TcCoe Idealize.ShloMosaic.Tactic
open Idealize.SL Idealize.SL.Sem

/-- Ones strictly below the diagonal. -/
def LOW : Vec Ideal S512x512 .bf16 :=
  select (cmpi .sge (addi (iotaInDim S512x512 32 0) (broadcastInDim S512x512 ![] bcast_S_S512x512 (constantI S_ 32 4294967295#32))) (iotaInDim S512x512 32 1))
    (broadcastInDim S512x512 ![] bcast_S_S512x512 (constant (F := Ideal) S_ .bf16 0x3F80#16))
    (broadcastInDim S512x512 ![] bcast_S_S512x512 (constant (F := Ideal) S_ .bf16 0x0000#16))

/-- Ones strictly above the diagonal. -/
def UPP : Vec Ideal S128x128 .bf16 :=
  select (cmpi .sge (addi (iotaInDim S128x128 32 0) (broadcastInDim S128x128 ![] bcast_S_S128x128 (constantI S_ 32 0#32))) (iotaInDim S128x128 32 1))
    (broadcastInDim S128x128 ![] bcast_S_S128x128 (constant (F := Ideal) S_ .bf16 0x0000#16))
    (broadcastInDim S128x128 ![] bcast_S_S128x128 (constant (F := Ideal) S_ .bf16 0x3F80#16))

/-- The identity. -/
def EYE : Vec Ideal S128x128 .bf16 :=
  uitofp (F := Ideal) .bf16 (cmpi .eq (addi (iotaInDim S128x128 32 0) (broadcastInDim S128x128 ![] bcast_S_S128x128 (constantI S_ 32 0#32))) (iotaInDim S128x128 32 1))

variable (m : (ℓ : Loc nD τ sig) → Buf (Elt Ideal) ℓ)

theorem V_low (c : Dev nD) : V m c main_v1 = LOW := by
  unfold V
  simp only [List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results
  rfl

theorem V_upp (c : Dev nD) : V m c main_v3 = UPP := by
  unfold V
  simp only [List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results
  rfl

theorem V_eye (c : Dev nD) : V m c main_v9 = EYE := by
  unfold V
  simp only [List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results
  rfl

/-- A selection by a bit that says `P`. -/
theorem select_of {x y : EReal} (b : BitVec 1) (P : Prop) [Decidable P] (h : b = 1#1 ↔ P) : Scalar.select b x y = if P then x else y := by
  rcases (by decide : ∀ v : BitVec 1, v = 0#1 ∨ v = 1#1) b with rfl | rfl
  · rw [if_neg fun hp => absurd (h.2 hp) (by decide)]; rfl
  · rw [if_pos (h.1 rfl)]; rfl

theorem toInt_lt (n : ℕ) (h : n < 512) : (BitVec.ofNat 32 n).toInt = (n : ℤ) := by
  rw [BitVec.toInt_eq_toNat_of_lt (by rw [BitVec.toNat_ofNat]; omega), BitVec.toNat_ofNat]
  omega

theorem sge_iff (x y : BitVec 32) : IntOp.cmpi .sge x y = 1#1 ↔ y.toInt ≤ x.toInt := by
  show BitVec.ofBool (y.sle x) = 1#1 ↔ _
  rw [BitVec.sle_eq_decide]
  by_cases h : y.toInt ≤ x.toInt <;> simp [h]

theorem low_at (r s : Fin 512) : LOW (ix2 r s) = if s < r then (1 : EReal) else 0 := by
  pointwise [LOW]
  refine select_of _ (s < r) ?_
  rw [sge_iff, toInt_lt s.val s.isLt]
  have e : (IntOp.addi (BitVec.ofNat 32 r.val) 4294967295#32).toInt = (r.val : ℤ) - 1 := by
    show (BitVec.ofNat 32 r.val + 4294967295#32).toInt = _
    rw [BitVec.toInt_add, toInt_lt r.val r.isLt]
    have := r.isLt
    simp only [BitVec.reduceToInt, Int.bmod_def]
    omega
  rw [e, Fin.lt_def]
  omega

theorem upp_at (r s : Fin 128) : UPP (ix2 r s) = if r < s then (1 : EReal) else 0 := by
  pointwise [UPP]
  have e : IntOp.addi (BitVec.ofNat 32 r.val) 0#32 = BitVec.ofNat 32 r.val := BitVec.add_zero _
  rw [e, select_of _ (s ≤ r) (by rw [sge_iff, toInt_lt s.val (by omega), toInt_lt r.val (by omega), Fin.le_def]; omega)]
  by_cases h : r < s
  · rw [if_pos h, if_neg (not_le.2 h)]
  · rw [if_neg h, if_pos (not_lt.1 h)]

theorem eye_at (r s : Fin 128) : EYE (ix2 r s) = if s = r then (1 : EReal) else 0 := by
  pointwise [EYE]
  have e : IntOp.addi (BitVec.ofNat 32 r.val) 0#32 = BitVec.ofNat 32 r.val := BitVec.add_zero _
  have e2 : IntOp.cmpi CmpIPredicate.eq (BitVec.ofNat 32 r.val) (BitVec.ofNat 32 s.val) = BitVec.ofBool (decide (r = s)) := Cert.MoeIdeal.Set.eq_word r s
  rw [e, e2]
  by_cases h : r = s
  · subst h
    rw [if_pos rfl, decide_eq_true rfl]
    show ((((BitVec.ofBool true).toNat : ℕ) : ℝ) : EReal) = 1
    simp
  · rw [if_neg (Ne.symm h), decide_eq_false h]
    show ((((BitVec.ofBool false).toNat : ℕ) : ℝ) : EReal) = 0
    simp

end Cert.MoeIdeal.Mat

end
-- ==== Proof.MoeBlk.lean ====
module

public import proofs.«01_k».proof.Proof.MoeAcc
public import proofs.«01_k».proof.Proof.MoeMat
public import Idealize.ShloMosaic.Lib.Pipeline.ValueKit

@[expose] public section

set_option maxRecDepth 16384

noncomputable section

/-! # The blocks the experts' kernel works on -/

namespace Cert.MoeIdeal.Blk

open Cert.MoeIdeal Cert.MoeIdeal.Gen Cert.MoeIdeal.Run
open Cert.Rank
open Idealize.ShloMosaic Idealize.ShloMosaic.TcCoe Idealize.ShloMosaic.Tactic
open Idealize.SL Idealize.SL.Sem

theorem idx : ∀ t : Fin cfg0.N, win0_0.index t = ![t.val / 16, 0] ∧ win0_1.index t = ![t.val / 16, 0] ∧ win0_2.index t = ![t.val / 16, 0]
    ∧ win0_3.index t = ![t.val % 16, 0, 0] ∧ win0_4.index t = ![t.val % 16, 0, 0] ∧ win0_5.index t = ![t.val % 16, 0, 0]
    ∧ win0_6.index t = ![0, 0] ∧ win0_7.index t = ![0, 0] ∧ win0_8.index t = ![0, 0] ∧ win0_9.index t = ![t.val / 16, 0] :=
  (by decide +kernel : ∀ t : Fin grid0.N, _)

theorem expert : ∀ t : Fin cfg0.N, ((grid0.coords t) 1).val = t.val % 16 := (by decide +kernel : ∀ t : Fin grid0.N, _)

variable (m : (ℓ : Loc nD τ sig) → Buf (Elt Ideal) ℓ)

def aH (c : Dev nD) : FVec Ideal S8192x2048 .bf16 := m ((c : Thread nD τ).loc main_arg0)
def aG (c : Dev nD) : FVec Ideal S8192x128 .f32 := m ((c : Thread nD τ).loc main_arg1)
def aX (c : Dev nD) : FVec Ideal S8192x2048 .f32 := m ((c : Thread nD τ).loc main_arg2)
def aA (c : Dev nD) : FVec Ideal S16x2048x512 .bf16 := m ((c : Thread nD τ).loc main_arg3)
def aB (c : Dev nD) : FVec Ideal S16x2048x512 .bf16 := m ((c : Thread nD τ).loc main_arg4)
def aD (c : Dev nD) : FVec Ideal S16x512x2048 .bf16 := m ((c : Thread nD τ).loc main_arg5)

/-- Row block `n` of an array of 8192 rows. -/
def rowB {w : ℕ} {e : EltTy} (X : Vec Ideal ⟨2, ![8192, w]⟩ e) (n : Fin 16) : Vec Ideal ⟨2, ![512, w]⟩ e := fun y =>
  X (ix2 ⟨512 * n.val + (y 0).val, by have := n.isLt; have : (y 0).val < 512 := (y 0).isLt; omega⟩ (y 1))
/-- The matrix of expert `n`. -/
def matB {a b : ℕ} {e : EltTy} (W : Vec Ideal ⟨3, ![16, a, b]⟩ e) (n : Fin 16) : Vec Ideal ⟨3, ![1, a, b]⟩ e := fun y => W (ix3 n (y 1) (y 2))

/-- The row block of a grid point. -/
def iOf (t : Fin cfg0.N) : Fin 16 := ⟨t.val / 16, by have h : t.val < 256 := t.isLt; omega⟩
/-- The expert of a grid point. -/
def jOf (t : Fin cfg0.N) : Fin 16 := ⟨t.val % 16, by omega⟩

theorem blk_h (c : Dev nD) (t : Fin cfg0.N) : iblk m c 0 t = rowB (aH m c) (iOf t) := by
  funext y
  unfold rowB iOf aH
  blk_ext [iblk, V_main_arg0, idx t]

theorem blk_g (c : Dev nD) (t : Fin cfg0.N) : iblk m c 1 t = rowB (aG m c) (iOf t) := by
  funext y
  unfold rowB iOf aG
  blk_ext [iblk, V_main_arg1, idx t]

theorem blk_x (c : Dev nD) (t : Fin cfg0.N) : iblk m c 2 t = rowB (aX m c) (iOf t) := by
  funext y
  unfold rowB iOf aX
  blk_ext [iblk, V_main_arg2, idx t]

theorem blk_a (c : Dev nD) (t : Fin cfg0.N) : iblk m c 3 t = matB (aA m c) (jOf t) := by
  funext y
  unfold matB jOf aA
  blk_ext [iblk, V_main_arg3, idx t]

theorem blk_b (c : Dev nD) (t : Fin cfg0.N) : iblk m c 4 t = matB (aB m c) (jOf t) := by
  funext y
  unfold matB jOf aB
  blk_ext [iblk, V_main_arg4, idx t]

theorem blk_d (c : Dev nD) (t : Fin cfg0.N) : iblk m c 5 t = matB (aD m c) (jOf t) := by
  funext y
  unfold matB jOf aD
  blk_ext [iblk, V_main_arg5, idx t]

theorem read_lo (t : Fin cfg0.N) (X : Vec Ideal S512x512 .bf16) : ((cfg0.win 6).blk t).view.read (Elt Ideal) X = X := by
  funext y
  blk_ext [idx t]

theorem blk_lo (c : Dev nD) (t : Fin cfg0.N) : iblk m c 6 t = Mat.LOW := (read_lo t _).trans (Mat.V_low m c)

theorem read_up (t : Fin cfg0.N) (X : Vec Ideal S128x128 .bf16) : ((cfg0.win 7).blk t).view.read (Elt Ideal) X = X := by
  funext y
  blk_ext [idx t]

theorem blk_up (c : Dev nD) (t : Fin cfg0.N) : iblk m c 7 t = Mat.UPP := (read_up t _).trans (Mat.V_upp m c)

theorem read_ey (t : Fin cfg0.N) (X : Vec Ideal S128x128 .bf16) : ((cfg0.win 8).blk t).view.read (Elt Ideal) X = X := by
  funext y
  blk_ext [idx t]

theorem blk_ey (c : Dev nD) (t : Fin cfg0.N) : iblk m c 8 t = Mat.EYE := (read_ey t _).trans (Mat.V_eye m c)

end Cert.MoeIdeal.Blk

end
-- ==== Proof.MoeRef.lean ====
module

public import proofs.«01_k».proof.Proof.Gen.MoeRefIdeal.Run
public import proofs.«01_k».proof.Proof.MoeRank

@[expose] public section

set_option maxRecDepth 16384

noncomputable section

/-! # The experts' reference, entry by entry -/

namespace Cert.MoeRefIdeal.Read

open Cert.MoeRefIdeal Cert.MoeRefIdeal.Gen
open Idealize.ShloMosaic Idealize.ShloMosaic.TcCoe Idealize.ShloMosaic.Tactic
open Idealize.SL Idealize.SL.Sem

/-- The reference's array. -/
def REF (H : FVec Ideal S8192x2048 .bf16) (G : FVec Ideal S8192x128 .f32) (X : FVec Ideal S8192x2048 .f32)
    (A B : FVec Ideal S16x2048x512 .bf16) (D : FVec Ideal S16x512x2048 .bf16) : FVec Ideal S8192x2048 .f32 :=
  addf X (Host.dotGeneral dot_S8192x16x512_S16x512x2048_S8192x2048_12_01_0_2_n_n none (mulf (mulf (mulf (Host.dotGeneral dot_S8192x2048_S16x2048x512_S8192x16x512_1_1_0_02_n_n none (extf .f32 H bitsLt_bf16_f32) (extf .f32 A bitsLt_bf16_f32)) (Host.divf (broadcastInDim S8192x16x512 ![] bcast_S_S8192x16x512 (constant S_ .f32 0x3F800000#32)) (addf (broadcastInDim S8192x16x512 ![] bcast_S_S8192x16x512 (constant S_ .f32 0x3F800000#32)) (Host.exp (Host.negf (Host.dotGeneral dot_S8192x2048_S16x2048x512_S8192x16x512_1_1_0_02_n_n none (extf .f32 H bitsLt_bf16_f32) (extf .f32 A bitsLt_bf16_f32))))))) (Host.dotGeneral dot_S8192x2048_S16x2048x512_S8192x16x512_1_1_0_02_n_n none (extf .f32 H bitsLt_bf16_f32) (extf .f32 B bitsLt_bf16_f32))) (broadcastInDim S8192x16x512 ![0, 1, 2] bcast_S8192x16x1_S8192x16x512_0_1_2 (broadcastInDim S8192x16x1 ![0, 1] bcast_S8192x16_S8192x16x1_0_1 (extractStridedSlice S8192x16 ![0, 0] G slices_S8192x128_S8192x16_0_0)))) (extf .f32 D bitsLt_bf16_f32))

/-- A row's product with one column of an expert's matrix. -/
def dotr (H : FVec Ideal S8192x2048 .bf16) (A : FVec Ideal S16x2048x512 .bf16) (p : Fin 8192) (e : Fin 16) (k : Fin 512) : EReal :=
  ∑ x : Fin 2048, H (ix2 p x) * A (ix3 e x k)

theorem REF_at (H : FVec Ideal S8192x2048 .bf16) (G : FVec Ideal S8192x128 .f32) (X : FVec Ideal S8192x2048 .f32)
    (A B : FVec Ideal S16x2048x512 .bf16) (D : FVec Ideal S16x512x2048 .bf16) (p : Fin 8192) (d : Fin 2048) :
    REF H G X A B D (ix2 p d) = X (ix2 p d) + ∑ e : Fin 16, ∑ k : Fin 512,
      (dotr H A p e k * Ideal.div 1 (1 + Ideal.exp (-dotr H A p e k)) * dotr H B p e k) * G (ix2 p ⟨e.val, by omega⟩) * D (ix3 e k d) := by
  unfold dotr
  pointwise [REF]

end Cert.MoeRefIdeal.Read

end
-- ==== Proof.MoePre.lean ====
module

public import proofs.«01_k».proof.Proof.Gen.Pre_routed
public import proofs.«01_k».proof.Proof.Pre
public import proofs.«01_k».proof.Proof.MoeRank

@[expose] public section

set_option maxRecDepth 16384

noncomputable section

/-! # The experts' precondition read element by element -/

open Idealize.ShloMosaic Idealize.ShloMosaic.TcCoe Idealize.SL.Sem Idealize.ShloMosaic.Tactic

namespace Cert.Pre_routed.Read

open Cert.Pre_routed Cert.Pre_routed.Gen Cert.Rank

instance : Subsingleton S_.Idx := ⟨fun a b => funext fun x => x.elim0⟩

theorem or_cases {a b : BitVec 1} : IntOp.ori a b = 1#1 → a = 1#1 ∨ b = 1#1 := by
  revert a b
  decide

theorem eq_of_cmp {x y : EReal} (h : FloatOps.cmpf (F := Ideal) (φ := .f32) .oeq x y = 1#1) : x = y := by
  have h' : Ideal.cmp .oeq x y = 1#1 := h
  by_contra hn
  simp [Ideal.cmp, hn] at h'

/-- What the precondition says of the arguments: finite entries, a group 0–3 in lane 16, and gates that are zero
outside the row's group. -/
structure Routed (H : FVec Ideal S8192x2048 .bf16) (G : FVec Ideal S8192x128 .f32) (A B : FVec Ideal S16x2048x512 .bf16) (D : FVec Ideal S16x512x2048 .bf16) : Prop where
  fin_h : ∀ i, Fin' (H i)
  fin_g : ∀ i, Fin' (G i)
  fin_a : ∀ i, Fin' (A i)
  fin_b : ∀ i, Fin' (B i)
  fin_d : ∀ i, Fin' (D i)
  grp : ∀ p : Fin 8192, ∃ n : ℕ, n < 4 ∧ G (ix2 p (16 : Fin 128)) = num n
  zero : ∀ (p : Fin 8192) (e : Fin 16), G (ix2 p (⟨e.val, by omega⟩ : Fin 128)) = (0 : EReal) ∨ G (ix2 p (16 : Fin 128)) = num (e.val / 4)

theorem bits0 : Ideal.ofBits FTy.f32 0x00000000#32 = num 0 := by simp [Ideal.ofBits, Ideal.ieee, num]
theorem bits1 : Ideal.ofBits FTy.f32 0x3F800000#32 = num 1 := by simp [Ideal.ofBits, Ideal.ieee, num]; rw [← EReal.coe_mul]; norm_num
theorem bits2 : Ideal.ofBits FTy.f32 0x40000000#32 = num 2 := by simp [Ideal.ofBits, Ideal.ieee, num]; rw [← EReal.coe_mul]; norm_num
theorem bits3 : Ideal.ofBits FTy.f32 0x40400000#32 = num 3 := by simp [Ideal.ofBits, Ideal.ieee, num]; rw [← EReal.coe_mul]; norm_num

theorem col_at (G : FVec Ideal S8192x128 .f32) (p : Fin 8192) :
    extractStridedSlice S8192x1 ![0, 16] G slices_S8192x128_S8192x1_0_16 (ix2 p (0 : Fin 1)) = G (ix2 p (16 : Fin 128)) := by
  pointwise

theorem four_at (G : FVec Ideal S8192x128 .f32) (o : ℕ) (ho : o + 4 ≤ 128) (hs : S8192x128.Slices ![0, o] S8192x4) (p : Fin 8192) (j : Fin 4) :
    extractStridedSlice S8192x4 ![0, o] G hs (ix2 p j) = G (ix2 p (⟨o + j.val, by omega⟩ : Fin 128)) := by
  refine congrArg G (funext fun x => ?_)
  fin_cases x
  · exact Fin.ext (by show 0 + p.val = p.val; omega)
  · rfl

theorem wide_at (v : IVec S8192x1 1) (p : Fin 8192) (j : Fin 4) : broadcastInDim S8192x4 ![0, 1] bcast_S8192x1_S8192x4_0_1 v (ix2 p j) = v (ix2 p (0 : Fin 1)) := by
  pointwise

theorem routed_at (H : FVec Ideal S8192x2048 .bf16) (G : FVec Ideal S8192x128 .f32) (X : FVec Ideal S8192x2048 .f32) (A B : FVec Ideal S16x2048x512 .bf16)
    (D : FVec Ideal S16x512x2048 .bf16) (h : Cert.Pre_routed.fn (F := Ideal) H G X A B D = fun _ => 1#1) : Routed H G A B D := by
  have h0 := congrFun h (fun x => x.elim0)
  dsimp only [fn, fn_part1, fn_part2, fn_part3, fn_part4] at h0
  obtain ⟨h0, z3⟩ := IntOp.andi_eq_one.1 h0
  obtain ⟨h0, z2⟩ := IntOp.andi_eq_one.1 h0
  obtain ⟨h0, z1⟩ := IntOp.andi_eq_one.1 h0
  obtain ⟨h0, z0⟩ := IntOp.andi_eq_one.1 h0
  obtain ⟨h0, hg⟩ := IntOp.andi_eq_one.1 h0
  obtain ⟨h0, hd⟩ := IntOp.andi_eq_one.1 h0
  obtain ⟨h0, hb⟩ := IntOp.andi_eq_one.1 h0
  obtain ⟨h0, ha⟩ := IntOp.andi_eq_one.1 h0
  obtain ⟨hh, hq⟩ := IntOp.andi_eq_one.1 h0
  have zero : ∀ (o n : ℕ) (ho : o + 4 ≤ 128) (hs : S8192x128.Slices ![0, o] S8192x4) (k : BitVec 32) (hk : Ideal.ofBits FTy.f32 k = num n) (p : Fin 8192) (j : Fin 4),
      ori (cmpf .oeq (extractStridedSlice S8192x4 ![0, o] G hs) (broadcastInDim S8192x4 ![] bcast_S_S8192x4 (constant (F := Ideal) S_ .f32 0x00000000#32)))
        (broadcastInDim S8192x4 ![0, 1] bcast_S8192x1_S8192x4_0_1 (cmpf .oeq (extractStridedSlice S8192x1 ![0, 16] G slices_S8192x128_S8192x1_0_16)
          (broadcastInDim S8192x1 ![] bcast_S_S8192x1 (constant (F := Ideal) S_ .f32 k)))) (ix2 p j) = 1#1 →
      G (ix2 p (⟨o + j.val, by omega⟩ : Fin 128)) = (0 : EReal) ∨ G (ix2 p (16 : Fin 128)) = num n := by
    intro o n ho hs k hk p j e
    rcases or_cases e with e | e
    · left
      have e' := eq_of_cmp e
      rw [four_at G o ho hs p j] at e'
      exact e'.trans (bits0.trans num_zero)
    · right
      rw [wide_at] at e
      have e' := eq_of_cmp e
      rw [col_at] at e'
      exact e'.trans hk
  refine ⟨fun i => ?_, fun i => ?_, fun i => ?_, fun i => ?_, fun i => ?_, fun p => ?_, fun p e => ?_⟩
  · exact fin_of (Cert.Pre_finite.Read.real_of_abs (Host.reduce_andi_all _ _ _ _ _ hh i))
  · exact fin_of (Cert.Pre_finite.Read.real_of_abs (Host.reduce_andi_all _ _ _ _ _ hq i))
  · exact fin_of (Cert.Pre_finite.Read.real_of_abs (Host.reduce_andi_all _ _ _ _ _ ha i))
  · exact fin_of (Cert.Pre_finite.Read.real_of_abs (Host.reduce_andi_all _ _ _ _ _ hb i))
  · exact fin_of (Cert.Pre_finite.Read.real_of_abs (Host.reduce_andi_all _ _ _ _ _ hd i))
  · have e := Host.reduce_andi_all _ _ _ _ _ hg (ix2 p (0 : Fin 1))
    have one : ∀ (n : ℕ) (k : BitVec 32) (hk : Ideal.ofBits FTy.f32 k = num n),
        cmpf .oeq (extractStridedSlice S8192x1 ![0, 16] G slices_S8192x128_S8192x1_0_16)
          (broadcastInDim S8192x1 ![] bcast_S_S8192x1 (constant (F := Ideal) S_ .f32 k)) (ix2 p (0 : Fin 1)) = 1#1 → G (ix2 p (16 : Fin 128)) = num n := by
      intro n k hk e
      have e' := eq_of_cmp e
      rw [col_at] at e'
      exact e'.trans hk
    rcases or_cases e with e | e
    · rcases or_cases e with e | e
      · rcases or_cases e with e | e
        · exact ⟨0, by omega, one 0 _ bits0 e⟩
        · exact ⟨1, by omega, one 1 _ bits1 e⟩
      · exact ⟨2, by omega, one 2 _ bits2 e⟩
    · exact ⟨3, by omega, one 3 _ bits3 e⟩
  · have he := e.isLt
    have hj : e.val % 4 < 4 := Nat.mod_lt _ (by omega)
    have r0 := zero 0 0 (by omega) _ _ bits0 p ⟨e.val % 4, hj⟩ (Host.reduce_andi_all _ _ _ _ _ z0 (ix2 p (⟨e.val % 4, hj⟩ : Fin 4)))
    have r1 := zero 4 1 (by omega) _ _ bits1 p ⟨e.val % 4, hj⟩ (Host.reduce_andi_all _ _ _ _ _ z1 (ix2 p (⟨e.val % 4, hj⟩ : Fin 4)))
    have r2 := zero 8 2 (by omega) _ _ bits2 p ⟨e.val % 4, hj⟩ (Host.reduce_andi_all _ _ _ _ _ z2 (ix2 p (⟨e.val % 4, hj⟩ : Fin 4)))
    have r3 := zero 12 3 (by omega) _ _ bits3 p ⟨e.val % 4, hj⟩ (Host.reduce_andi_all _ _ _ _ _ z3 (ix2 p (⟨e.val % 4, hj⟩ : Fin 4)))
    have pick : ∀ o n : ℕ, (ho : o + e.val % 4 < 128) → o + e.val % 4 = e.val → e.val / 4 = n →
        (G (ix2 p (⟨o + e.val % 4, ho⟩ : Fin 128)) = (0 : EReal) ∨ G (ix2 p (16 : Fin 128)) = num n) →
        (G (ix2 p (⟨e.val, by omega⟩ : Fin 128)) = (0 : EReal) ∨ G (ix2 p (16 : Fin 128)) = num (e.val / 4)) := by
      intro o n ho h1 h2 r
      have : (⟨o + e.val % 4, ho⟩ : Fin 128) = ⟨e.val, by omega⟩ := Fin.ext h1
      rw [this] at r
      rw [h2]
      exact r
    have hc : e.val / 4 = 0 ∨ e.val / 4 = 1 ∨ e.val / 4 = 2 ∨ e.val / 4 = 3 := by omega
    rcases hc with h | h | h | h
    · exact pick 0 0 (by omega) (by omega) h r0
    · exact pick 4 1 (by omega) (by omega) h r1
    · exact pick 8 2 (by omega) (by omega) h r2
    · exact pick 12 3 (by omega) (by omega) h r3

end Cert.Pre_routed.Read

end
-- ==== Proof.MoeVal.lean ====
module

public import proofs.«01_k».proof.Proof.MoeBlk
public import proofs.«01_k».proof.Proof.MoeRef
public import proofs.«01_k».proof.Proof.MoePre

@[expose] public section

set_option maxRecDepth 16384

noncomputable section

/-! # The experts' kernel leaves the reference's array -/

namespace Cert.MoeIdeal.Result

open Cert.MoeIdeal Cert.MoeIdeal.Gen Cert.MoeIdeal.Run Cert.MoeIdeal.Set Cert.MoeIdeal.Blk
open Cert.Rank
open Idealize.ShloMosaic Idealize.ShloMosaic.TcCoe Idealize.ShloMosaic.Tactic
open Idealize.SL Idealize.SL.Sem

variable (m : (ℓ : Loc nD τ sig) → Buf (Elt Ideal) ℓ)

/-- What the arguments satisfy. -/
abbrev Ok (c : Dev nD) : Prop := Cert.Pre_routed.Read.Routed (aH m c) (aG m c) (aA m c) (aB m c) (aD m c)

/-- A row of a block, among all rows. -/
def gRow (b : Fin 16) (r : Fin 512) : Fin 8192 := ⟨512 * b.val + r.val, by omega⟩

/-- The group of a row of a block. -/
def grpOf {c : Dev nD} (h : Ok m c) (b : Fin 16) (r : Fin 512) : ℕ := (h.grp (gRow b r)).choose

variable {m}

theorem ready {c : Dev nD} (h : Ok m c) (b : Fin 16) : Ready (grpOf m h b) (rowB (e := .f32) (aG m c) b) Mat.LOW Mat.UPP Mat.EYE where
  few r := (h.grp (gRow b r)).choose_spec.1
  grp r := (h.grp (gRow b r)).choose_spec.2
  real r l := h.fin_g _
  lo_at := Mat.low_at
  up_at := Mat.upp_at
  ey_at := Mat.eye_at

/-- A row's share of expert `e`. -/
def share (m : (ℓ : Loc nD τ sig) → Buf (Elt Ideal) ℓ) (c : Dev nD) (b : Fin 16) (r : Fin 512) (d : Fin 2048) (e : Fin 16) : EReal :=
  con (fun x => rowB (e := .bf16) (aH m c) b (ix2 r x)) (rowB (e := .f32) (aG m c) b (ix2 r (⟨e.val, by omega⟩ : Fin 128))) (matB (e := .bf16) (aA m c) e) (matB (e := .bf16) (aB m c) e) (matB (e := .bf16) (aD m c) e) d

/-- The same at any number; nothing past the last expert. -/
def shareN (m : (ℓ : Loc nD τ sig) → Buf (Elt Ideal) ℓ) (c : Dev nD) (b : Fin 16) (r : Fin 512) (d : Fin 2048) (e : ℕ) : EReal := if h : e < 16 then share m c b r d ⟨e, h⟩ else 0

theorem share_fin {c : Dev nD} (h : Ok m c) (b : Fin 16) (r : Fin 512) (d : Fin 2048) (e : Fin 16) : Fin' (share m c b r d e) :=
  con_fin _ _ _ _ _ _ (fun x => h.fin_h _) (h.fin_g _) (fun x k => h.fin_a _) (fun x k => h.fin_b _) (fun k => h.fin_d _)

/-- What the scratch holds after a point. -/
structure Holds {c : Dev nD} (h : Ok m c) (b : Fin 16) (n : ℕ) (s : St Ideal) : Prop where
  hs : s.hs = iniHs (rowB (e := .bf16) (aH m c) b) (rowB (e := .f32) (aG m c) b) Mat.LOW Mat.UPP Mat.EYE
  gs : s.gs = iniGs (rowB (e := .f32) (aG m c) b) Mat.LOW Mat.UPP Mat.EYE
  pt : s.pt = iniPt (rowB (e := .f32) (aG m c) b) Mat.LOW Mat.UPP
  w : s.w = iniW (rowB (e := .f32) (aG m c) b) Mat.UPP
  acc : ∀ (r : Fin 512) (d : Fin 2048), s.acc (ix2 (pl (grpOf m h b) r) d) = ∑ e ∈ Finset.range n, shareN m c b r d e

theorem acc_zero (y : S512x2048.Idx) : k0_pay13 (F := Ideal) y = (0 : EReal) := by
  obtain ⟨p, q, rfl⟩ : ∃ p q, y = ix2 p q := ⟨y 0, y 1, by funext x; fin_cases x <;> rfl⟩
  pointwise [k0_pay13]

theorem ini_holds {c : Dev nD} (h : Ok m c) (t : Fin cfg0.N) : Holds h (iOf t) 0 (ini m c t) where
  hs := by unfold ini; dsimp only; rw [blk_h, blk_g, blk_lo, blk_up, blk_ey]
  gs := by unfold ini; dsimp only; rw [blk_g, blk_lo, blk_up, blk_ey]
  pt := by unfold ini; dsimp only; rw [blk_g, blk_lo, blk_up]
  w := by unfold ini; dsimp only; rw [blk_g, blk_up]
  acc r d := by exact (acc_zero (ix2 (pl (grpOf m h (iOf t)) r) d)).trans (Finset.sum_range_zero _).symm

theorem adv_holds {c : Dev nD} (h : Ok m c) (t : Fin cfg0.N) (s : St Ideal) (hs : Holds h (iOf t) (t.val % 16) s) :
    Holds h (iOf t) (t.val % 16 + 1) (adv m c t s) where
  hs := hs.hs
  gs := hs.gs
  pt := hs.pt
  w := hs.w
  acc r d := by
    have R := ready h (iOf t)
    have ej : lane (grid0.coords t) = (⟨(jOf t).val, by have := (jOf t).isLt; omega⟩ : Fin 128) := Fin.ext (expert t)
    unfold adv
    dsimp only
    rw [hs.hs, hs.gs, hs.w, blk_a, blk_b, blk_d, step_at R, hs.acc, Finset.sum_range_succ]
    · congr 1
      unfold shareN
      rw [dif_pos (Nat.mod_lt _ (by norm_num))]
      unfold share
      rw [gs_at R, ej]
      congr 1
      funext x
      exact hs_at R _ r x
    · intro hne
      rw [gs_at R, ej]
      rcases h.zero (gRow (iOf t) r) (jOf t) with z | z
      · exact z
      · exfalso
        refine hne ?_
        have z' := (R.grp r).symm.trans z
        rw [num_inj] at z'
        rw [z', expert t]
        rfl

theorem stAt_holds {c : Dev nD} (h : Ok m c) : ∀ (n : ℕ) (hn : n < cfg0.N), Holds h (iOf ⟨n, hn⟩) (n % 16 + 1) (stAt m c n hn) := by
  intro n
  induction n with
  | zero =>
    intro hn
    rw [stAt_first m c ⟨0, hn⟩ rfl]
    exact adv_holds h ⟨0, hn⟩ _ (ini_holds h _)
  | succ n ih =>
    intro hn
    by_cases h0 : (n + 1) % 16 = 0
    · rw [stAt_first m c ⟨n + 1, hn⟩ h0]
      refine adv_holds h ⟨n + 1, hn⟩ _ ?_
      have := ini_holds h ⟨n + 1, hn⟩
      show Holds h _ ((n + 1) % 16) _
      rw [h0]
      exact this
    · rw [stAt_next m c ⟨n + 1, hn⟩ h0]
      refine adv_holds h ⟨n + 1, hn⟩ _ ?_
      have e : iOf ⟨n + 1, hn⟩ = iOf ⟨n, Nat.lt_of_succ_lt hn⟩ := Fin.ext (by unfold iOf; dsimp only; omega)
      have e2 : (n + 1) % 16 = n % 16 + 1 := by omega
      show Holds h _ ((n + 1) % 16) _
      rw [e, e2]
      exact ih (Nat.lt_of_succ_lt hn)

/-- The last point of a row block leaves the residual plus every expert's share. -/
theorem out_eq {c : Dev nD} (h : Ok m c) (t : Fin cfg0.N) (h15 : t.val % 16 = 15) (r : Fin 512) (d : Fin 2048) :
    outOf m c t (ix2 r d) = rowB (e := .f32) (aX m c) (iOf t) (ix2 r d) + ∑ e : Fin 16, share m c (iOf t) r d e := by
  have H := stAt_holds h t.val t.isLt
  have R := ready h (iOf t)
  have e : (∑ e ∈ Finset.range (t.val % 16 + 1), shareN m c (iOf t) r d e) = ∑ e : Fin 16, share m c (iOf t) r d e := by
    rw [h15, ← Fin.sum_univ_eq_sum_range]
    refine Finset.sum_congr rfl fun k _ => ?_
    unfold shareN
    exact dif_pos k.isLt
  have ha : (stAt m c t.val t.isLt).acc (ix2 (pl (grpOf m h (iOf t)) r) d) = ∑ e : Fin 16, share m c (iOf t) r d e := (H.acc r d).trans e
  unfold outOf
  rw [H.pt, blk_x, out_at R _ _ r d, ha]
  rw [ha]
  exact fin_sum _ _ fun k _ => share_fin h _ _ _ _

/-! ## The reference -/

open Cert.MoeRefIdeal.Read in
/-- The two ways of writing the gated linear unit agree on real numbers. -/
theorem silu_eq {v : EReal} (hv : Fin' v) : v * Ideal.div 1 (1 + Ideal.exp (-v)) = Ideal.div v (1 + Ideal.exp (0 - v)) := by
  obtain ⟨a, rfl⟩ := hv
  rw [zero_sub]
  have e : (1 : EReal) + Ideal.exp (-(a : EReal)) = ((1 + Real.exp (-a) : ℝ) : EReal) := by
    rw [← EReal.coe_neg, Ideal.exp_coe, EReal.coe_add, EReal.coe_one]
  have h0 : (1 + Real.exp (-a) : ℝ) ≠ 0 := by positivity
  rw [e, Ideal.div_coe h0, Ideal.div_coe h0, one_mul]

open Cert.MoeRefIdeal.Read in
theorem ref_eq {c : Dev nD} (h : Ok m c) (b : Fin 16) (r : Fin 512) (d : Fin 2048) :
    REF (aH m c) (aG m c) (aX m c) (aA m c) (aB m c) (aD m c) (ix2 (gRow b r) d)
      = rowB (e := .f32) (aX m c) b (ix2 r d) + ∑ e : Fin 16, share m c b r d e := by
  rw [REF_at]
  refine congrArg₂ (· + ·) rfl (Finset.sum_congr rfl fun e _ => ?_)
  unfold share con
  refine Finset.sum_congr rfl fun k _ => ?_
  have hf : Fin' (dotr (aH m c) (aA m c) (gRow b r) e k) := fin_sum _ _ fun x _ => fin_mul (h.fin_h _) (h.fin_a _)
  rw [silu_eq hf]
  rfl

theorem block_eq {c : Dev nD} (h : Ok m c) (t : Fin cfg0.N) (h15 : t.val % 16 = 15) (y : S512x2048.Idx) :
    outOf m c t y = Cert.MoeRefIdeal.Read.REF (aH m c) (aG m c) (aX m c) (aA m c) (aB m c) (aD m c)
      (ix2 ⟨512 * (iOf t).val + (y 0).val, by have := (iOf t).isLt; have : (y 0).val < 512 := (y 0).isLt; omega⟩ (y 1)) := by
  obtain ⟨p, q, rfl⟩ : ∃ p q, y = ix2 p q := ⟨y 0, y 1, by funext x; fin_cases x <;> rfl⟩
  rw [out_eq h t h15]
  exact (ref_eq h (iOf t) p q).symm

/-- The kernel's result array is the reference's. -/
theorem value {c : Dev nD} (h : Ok m c) : (dats m 0 c).arrAt 9 cfg0.N
    = Cert.MoeRefIdeal.Read.REF (aH m c) (aG m c) (aX m c) (aA m c) (aB m c) (aD m c) := by
  refine (dats m 0 c).arrAt_eq_of_covers 9 _ (by decide +kernel) fun t hf y => ?_
  have h15 : t.val % 16 = 15 := (flush0_9 t).1 hf
  blk_simp
  rw [after0_9]
  refine (block_eq h t h15 y).trans ?_
  refine congrArg (Cert.MoeRefIdeal.Read.REF (aH m c) (aG m c) (aX m c) (aA m c) (aB m c) (aD m c)) ?_
  unfold iOf
  blk_ext [V, idx t]

/-- The run, with its result named and the arguments unchanged. -/
theorem run_value (ρ : Dev nD → PrngReg) : θ_run defs (onTc (τ := τ) (main (F := Ideal))) ⟨m, fun _ => 0, ρ⟩ fun r => ∀ c : Dev nD,
      r.2.mem ((c.tc : Thread nD τ).loc main_v10) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h.1 c).1 9, h.2 c⟩)
    (θ_run_and (run_main m ρ) (frame_of m ρ (dats m) (A_eq m) (run_main m ρ)))

end Cert.MoeIdeal.Result

end
-- ==== Proof.KvP.lean ====
module

public import proofs.«01_k».proof.Proof.Gen.KvProjIdeal.Value
public import proofs.«01_k».proof.Proof.Gen.KvProjRefIdeal.Run
public import Idealize.ShloMosaic.Lib.Pipeline.ValueKit

@[expose] public section

set_option maxRecDepth 16384

noncomputable section

/-! The projection to keys and values: the scratch holds the normed rows of a row block, and each point multiplies them with its columns of the weights; in the key columns each head of 128 columns is normed once more. The reference does so on whole arrays. -/

open Idealize.ShloMosaic Idealize.ShloMosaic.TcCoe Idealize.SL.Sem

namespace Cert.KvProjIdeal.Result

open Cert.KvProjIdeal Cert.KvProjIdeal.Gen

open Idealize.ShloMosaic.Pipeline (Dat)

theorem zz : (![0, 0] : Fin 2 → ℕ) = fun _ => 0 := by funext i; fin_cases i <;> rfl

/-- A load of a whole memref reads its contents. -/
theorem load_all {κ : Kind} {sp : Space} {S : Shape} {e : EltTy} (v : View sig κ sp S e) {off : Fin S.rank → ℕ} (h : off = fun _ => 0)
    (inb : ∀ a, off a + S.size a ≤ S.size a) (f : v.ty.Contents (Elt Ideal)) :
    View.readAt (Elt Ideal) v (Rect.unit off S.size inb).toLoadRect f = v.read (Elt Ideal) f :=
  View.ld_unit_zero h inb (v.read (Elt Ideal) f)

section
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x128 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x2048 .bf16) (harg8 : arg8.IsWhole)
  (x0 : Vec Ideal S1024x2048 .f32) (x1 : Vec Ideal S1x2048 .f32) (x2 : Vec Ideal S2048x1024 .bf16) (x3 : Vec Ideal S1x128 .f32) (xs : Vec Ideal S1024x2048 .bf16)

/-- A block of keys: the product, each head normed. -/
def keyBlk (h : Vec Ideal S1024x2048 .bf16) (w : Vec Ideal S2048x1024 .bf16) (hg : Vec Ideal S1x128 .f32) : FVec Ideal S1024x1024 .f32 :=
  k0_pay3 h w (k0_pay6 (k0_pay2 h w) hg) (k0_pay7 (k0_pay2 h w) hg) (k0_pay8 (k0_pay2 h w) hg) (k0_pay9 (k0_pay2 h w) hg) (k0_pay10 (k0_pay2 h w) hg) (k0_pay11 (k0_pay2 h w) hg) hg hg

theorem normed : (kernelRun0_A.sl.HS0_1 (F := Ideal) c arg2 harg2 arg3 harg3 x0 x1)
    = [⟨Rect.unit ![0, 0] S1024x2048.size inb_S1024x2048_S1024x2048_0_0, k0_pay1 x0 x1⟩] := by
  unfold kernelRun0_A.sl.HS0_1
  refine congrArg (fun w => [(⟨Rect.unit ![0, 0] S1024x2048.size inb_S1024x2048_S1024x2048_0_0, w⟩ : View.Piece (Elt Ideal) S1024x2048 .bf16)]) ?_
  refine congrArg₂ k0_pay1 ?_ ?_
  · exact (load_all arg2.view zz inb_S1024x2048_S1024x2048_0_0 _).trans (harg2.read_unread _)
  · exact (load_all arg3.view zz inb_S1x2048_S1x2048_0_0 _).trans (harg3.read_unread _)

/-- The rows read back from the scratch are the normed rows. -/
theorem scr_v : kernelRun0_A.sl.v3 c arg2 harg2 arg3 harg3 arg8 x0 x1 = k0_pay1 (F := Ideal) x0 x1 := by
  unfold kernelRun0_A.sl.v3
  rw [normed]
  exact View.readCov_unit_zero arg8.view zz inb_S1024x2048_S1024x2048_0_0 _

/-- The first point of a row block leaves the normed rows in the scratch. -/
theorem scr_A (hc0 : _) (hc1 : _) (hc2 : _) : sout0_A_0 c i arg2 harg2 arg3 harg3 arg4 harg4 arg5 harg5 arg6 harg6 arg7 harg7 arg8 harg8 hc0 hc1 hc2 x0 x1 x2 x3 = k0_pay1 x0 x1 := by
  unfold sout0_A_0 kernelRun0_A; dsimp only
  rw [normed, View.read_writes_junk_eq_canon]
  exact View.canon_unit_zero zz _ _

theorem out_A4 (hc0 : _) (hc1 : _) (hc2 : _) : out0_A_4 c i arg2 harg2 arg3 harg3 arg4 harg4 arg5 harg5 arg6 harg6 arg7 harg7 arg8 harg8 hc0 hc1 hc2 x0 x1 x2 x3 = keyBlk (k0_pay1 x0 x1) x2 x3 := by
  unfold out0_A_4 kernelRun0_A; dsimp only
  rw [View.read_writes_junk_eq_canon]
  refine (View.canon_unit_zero zz _ _).trans ?_
  have hw : View.readAt (Elt Ideal) arg4.view (Rect.unit ![0, 0] ![2048, 1024] inb_S2048x1024_S2048x1024_0_0).toLoadRect (harg4.unread x2) = x2 :=
    (load_all arg4.view zz inb_S2048x1024_S2048x1024_0_0 _).trans (harg4.read_unread _)
  have hg : View.readAt (Elt Ideal) arg5.view (Rect.unit ![0, 0] ![1, 128] inb_S1x128_S1x128_0_0).toLoadRect (harg5.unread x3) = x3 :=
    (load_all arg5.view zz inb_S1x128_S1x128_0_0 _).trans (harg5.read_unread _)
  have hv := scr_v c arg2 harg2 arg3 harg3 arg8 x0 x1
  unfold kernelRun0_A.sl.r kernelRun0_A.sl.r_1 kernelRun0_A.sl.r_2 kernelRun0_A.sl.r_3 kernelRun0_A.sl.r_4 kernelRun0_A.sl.r_5
  rw [hw, hg, hv]
  rfl

theorem out_A5 (hc0 : _) (hc1 : _) (hc2 : _) : out0_A_5 c i arg2 harg2 arg3 harg3 arg4 harg4 arg5 harg5 arg6 harg6 arg7 harg7 arg8 harg8 hc0 hc1 hc2 x0 x1 x2 x3 = truncf .bf16 (keyBlk (k0_pay1 x0 x1) x2 x3) bitsLt_bf16_f32 := by
  unfold out0_A_5 kernelRun0_A; dsimp only
  rw [View.read_writes_junk_eq_canon]
  refine (View.canon_unit_zero zz _ _).trans ?_
  have hw : View.readAt (Elt Ideal) arg4.view (Rect.unit ![0, 0] ![2048, 1024] inb_S2048x1024_S2048x1024_0_0).toLoadRect (harg4.unread x2) = x2 :=
    (load_all arg4.view zz inb_S2048x1024_S2048x1024_0_0 _).trans (harg4.read_unread _)
  have hg : View.readAt (Elt Ideal) arg5.view (Rect.unit ![0, 0] ![1, 128] inb_S1x128_S1x128_0_0).toLoadRect (harg5.unread x3) = x3 :=
    (load_all arg5.view zz inb_S1x128_S1x128_0_0 _).trans (harg5.read_unread _)
  have hv := scr_v c arg2 harg2 arg3 harg3 arg8 x0 x1
  unfold kernelRun0_A.sl.r kernelRun0_A.sl.r_1 kernelRun0_A.sl.r_2 kernelRun0_A.sl.r_3 kernelRun0_A.sl.r_4 kernelRun0_A.sl.r_5
  rw [hw, hg, hv]
  rfl

theorem out_B4 (hc0 : _) (hc1 : _) (hc2 : _) : out0_B_4 c i arg2 harg2 arg3 harg3 arg4 harg4 arg5 harg5 arg6 harg6 arg7 harg7 arg8 harg8 hc0 hc1 hc2 x0 x1 x2 x3 xs = keyBlk xs x2 x3 := by
  unfold out0_B_4 kernelRun0_B; dsimp only
  rw [View.read_writes_junk_eq_canon]
  refine (View.canon_unit_zero zz _ _).trans ?_
  have hw : View.readAt (Elt Ideal) arg4.view (Rect.unit ![0, 0] ![2048, 1024] inb_S2048x1024_S2048x1024_0_0).toLoadRect (harg4.unread x2) = x2 :=
    (load_all arg4.view zz inb_S2048x1024_S2048x1024_0_0 _).trans (harg4.read_unread _)
  have hg : View.readAt (Elt Ideal) arg5.view (Rect.unit ![0, 0] ![1, 128] inb_S1x128_S1x128_0_0).toLoadRect (harg5.unread x3) = x3 :=
    (load_all arg5.view zz inb_S1x128_S1x128_0_0 _).trans (harg5.read_unread _)
  have hs : View.readAt (Elt Ideal) arg8.view (Rect.unit ![0, 0] ![1024, 2048] inb_S1024x2048_S1024x2048_0_0).toLoadRect (harg8.unread xs) = xs :=
    (load_all arg8.view zz inb_S1024x2048_S1024x2048_0_0 _).trans (harg8.read_unread _)
  unfold kernelRun0_B.sl.r kernelRun0_B.sl.r_1 kernelRun0_B.sl.r_2 kernelRun0_B.sl.r_3 kernelRun0_B.sl.r_4 kernelRun0_B.sl.r_5
  rw [hw, hg, hs]
  rfl

theorem out_B5 (hc0 : _) (hc1 : _) (hc2 : _) : out0_B_5 c i arg2 harg2 arg3 harg3 arg4 harg4 arg5 harg5 arg6 harg6 arg7 harg7 arg8 harg8 hc0 hc1 hc2 x0 x1 x2 x3 xs = truncf .bf16 (keyBlk xs x2 x3) bitsLt_bf16_f32 := by
  unfold out0_B_5 kernelRun0_B; dsimp only
  rw [View.read_writes_junk_eq_canon]
  refine (View.canon_unit_zero zz _ _).trans ?_
  have hw : View.readAt (Elt Ideal) arg4.view (Rect.unit ![0, 0] ![2048, 1024] inb_S2048x1024_S2048x1024_0_0).toLoadRect (harg4.unread x2) = x2 :=
    (load_all arg4.view zz inb_S2048x1024_S2048x1024_0_0 _).trans (harg4.read_unread _)
  have hg : View.readAt (Elt Ideal) arg5.view (Rect.unit ![0, 0] ![1, 128] inb_S1x128_S1x128_0_0).toLoadRect (harg5.unread x3) = x3 :=
    (load_all arg5.view zz inb_S1x128_S1x128_0_0 _).trans (harg5.read_unread _)
  have hs : View.readAt (Elt Ideal) arg8.view (Rect.unit ![0, 0] ![1024, 2048] inb_S1024x2048_S1024x2048_0_0).toLoadRect (harg8.unread xs) = xs :=
    (load_all arg8.view zz inb_S1024x2048_S1024x2048_0_0 _).trans (harg8.read_unread _)
  unfold kernelRun0_B.sl.r kernelRun0_B.sl.r_1 kernelRun0_B.sl.r_2 kernelRun0_B.sl.r_3 kernelRun0_B.sl.r_4 kernelRun0_B.sl.r_5
  rw [hw, hg, hs]
  rfl

theorem out_C4 (hc0 : _) (hc1 : _) (hc2 : _) : out0_C_4 c i arg2 harg2 arg3 harg3 arg4 harg4 arg5 harg5 arg6 harg6 arg7 harg7 arg8 harg8 hc0 hc1 hc2 x0 x1 x2 x3 xs = k0_pay2 xs x2 := by
  unfold out0_C_4 kernelRun0_C; dsimp only
  rw [View.read_writes_junk_eq_canon]
  refine (View.canon_unit_zero zz _ _).trans ?_
  have hw : View.readAt (Elt Ideal) arg4.view (Rect.unit ![0, 0] ![2048, 1024] inb_S2048x1024_S2048x1024_0_0).toLoadRect (harg4.unread x2) = x2 :=
    (load_all arg4.view zz inb_S2048x1024_S2048x1024_0_0 _).trans (harg4.read_unread _)
  have hs : View.readAt (Elt Ideal) arg8.view (Rect.unit ![0, 0] ![1024, 2048] inb_S1024x2048_S1024x2048_0_0).toLoadRect (harg8.unread xs) = xs :=
    (load_all arg8.view zz inb_S1024x2048_S1024x2048_0_0 _).trans (harg8.read_unread _)
  rw [hs, hw]

theorem out_C5 (hc0 : _) (hc1 : _) (hc2 : _) : out0_C_5 c i arg2 harg2 arg3 harg3 arg4 harg4 arg5 harg5 arg6 harg6 arg7 harg7 arg8 harg8 hc0 hc1 hc2 x0 x1 x2 x3 xs = truncf .bf16 (k0_pay2 xs x2) bitsLt_bf16_f32 := by
  unfold out0_C_5 kernelRun0_C; dsimp only
  rw [View.read_writes_junk_eq_canon]
  refine (View.canon_unit_zero zz _ _).trans ?_
  have hw : View.readAt (Elt Ideal) arg4.view (Rect.unit ![0, 0] ![2048, 1024] inb_S2048x1024_S2048x1024_0_0).toLoadRect (harg4.unread x2) = x2 :=
    (load_all arg4.view zz inb_S2048x1024_S2048x1024_0_0 _).trans (harg4.read_unread _)
  have hs : View.readAt (Elt Ideal) arg8.view (Rect.unit ![0, 0] ![1024, 2048] inb_S1024x2048_S1024x2048_0_0).toLoadRect (harg8.unread xs) = xs :=
    (load_all arg8.view zz inb_S1024x2048_S1024x2048_0_0 _).trans (harg8.read_unread _)
  rw [hs, hw]
  rfl

end

theorem idx : ∀ t : Fin cfg0.N, win0_0.index t = ![t.val / 4, 0] ∧ win0_1.index t = ![0, 0]
    ∧ win0_2.index t = ![0, t.val % 4] ∧ win0_3.index t = ![0, 0] ∧ win0_4.index t = ![t.val / 4, t.val % 4] ∧ win0_5.index t = ![t.val / 4, t.val % 4] :=
  (by decide +kernel : ∀ t : Fin grid0.N, _)

variable (m : (ℓ : Loc nD τ sig) → Buf (Elt Ideal) ℓ)

def aX (c : Dev nD) : FVec Ideal S8192x2048 .f32 := m ((c : Thread nD τ).loc main_arg0)
def aG (c : Dev nD) : FVec Ideal S2048 .f32 := m ((c : Thread nD τ).loc main_arg1)
def aW (c : Dev nD) : FVec Ideal S2048x4096 .bf16 := m ((c : Thread nD τ).loc main_arg2)
def aH (c : Dev nD) : FVec Ideal S128 .f32 := m ((c : Thread nD τ).loc main_arg3)

/-- Row block `n` of the activations. -/
def xBlk (X : FVec Ideal S8192x2048 .f32) (n : Fin 8) : FVec Ideal S1024x2048 .f32 := fun y =>
  X (ix2 ⟨1024 * n.val + (y 0).val, by have := n.isLt; have : (y 0).val < 1024 := (y 0).isLt; omega⟩ (y 1))
/-- The scale as one row. -/
def gRow (G : FVec Ideal S2048 .f32) : FVec Ideal S1x2048 .f32 := fun y => G (ix1 (y 1))
/-- Column block `n` of the weights. -/
def wBlk (W : FVec Ideal S2048x4096 .bf16) (n : Fin 4) : FVec Ideal S2048x1024 .bf16 := fun y =>
  W (ix2 (y 0) ⟨1024 * n.val + (y 1).val, by have := n.isLt; have : (y 1).val < 1024 := (y 1).isLt; omega⟩)
/-- The keys' scale as one row. -/
def hRow (HG : FVec Ideal S128 .f32) : FVec Ideal S1x128 .f32 := fun y => HG (ix1 (y 1))

/-- The row block of a grid point. -/
def iOf (t : Fin cfg0.N) : Fin 8 := ⟨t.val / 4, by have h : t.val < 32 := t.isLt; omega⟩
/-- The column block of a grid point. -/
def jOf (t : Fin cfg0.N) : Fin 4 := ⟨t.val % 4, by omega⟩

theorem blk_x (c : Dev nD) (t : Fin cfg0.N) : iblk m c 0 t = xBlk (aX m c) (iOf t) := by
  funext y
  unfold xBlk iOf aX
  blk_ext [iblk, V_main_arg0, idx t]

theorem blk_g (c : Dev nD) (t : Fin cfg0.N) : iblk m c 1 t = gRow (aG m c) := by
  funext y
  unfold gRow aG
  blk_simp [iblk, V, idx t]
  entry_read
  pointwise
  blk_ext [iblk, V, idx t]

theorem blk_w (c : Dev nD) (t : Fin cfg0.N) : iblk m c 2 t = wBlk (aW m c) (jOf t) := by
  funext y
  unfold wBlk jOf aW
  blk_ext [iblk, V_main_arg2, idx t]

theorem blk_h (c : Dev nD) (t : Fin cfg0.N) : iblk m c 3 t = hRow (aH m c) := by
  funext y
  unfold hRow aH
  blk_simp [iblk, V, idx t]
  entry_read
  pointwise
  blk_ext [iblk, V, idx t]

/-- The rows of a block, normed and scaled. -/
def nrm (X : FVec Ideal S8192x2048 .f32) (G : FVec Ideal S2048 .f32) (n : Fin 8) : Vec Ideal S1024x2048 .bf16 :=
  k0_pay1 (F := Ideal) (xBlk X n) (gRow G)

/-- The output block at row block `i`, column block `j`: the first two column blocks are keys. -/
def blk (X : FVec Ideal S8192x2048 .f32) (G : FVec Ideal S2048 .f32) (W : FVec Ideal S2048x4096 .bf16) (HG : FVec Ideal S128 .f32) (i : Fin 8) (j : Fin 4) : FVec Ideal S1024x1024 .f32 :=
  if j.val < 2 then keyBlk (nrm X G i) (wBlk W j) (hRow HG) else k0_pay2 (F := Ideal) (nrm X G i) (wBlk W j)

/-- What a grid point leaves: its output block, the same narrowed, and the normed rows in the scratch. -/
def left (X : FVec Ideal S8192x2048 .f32) (G : FVec Ideal S2048 .f32) (W : FVec Ideal S2048x4096 .bf16) (HG : FVec Ideal S128 .f32) (i : Fin 8) (j : Fin 4) :
    Vec Ideal S1024x1024 .f32 × Vec Ideal S1024x1024 .bf16 × Vec Ideal S1024x2048 .bf16 :=
  (blk X G W HG i j, truncf .bf16 (blk X G W HG i j) bitsLt_bf16_f32, nrm X G i)

theorem left_A (c : Dev nD) (t : Fin cfg0.N) (h : t.val % 4 = 0) : outsAt0 m c t.val t.isLt = left (aX m c) (aG m c) (aW m c) (aH m c) (iOf t) (jOf t) := by
  refine (outsAt0_A m c t h (by omega) (by omega)).trans ?_
  rw [out_A4, out_A5, scr_A, blk_x, blk_g, blk_w, blk_h]
  unfold left blk
  rw [if_pos (show (jOf t).val < 2 by unfold jOf; dsimp only; omega)]
  rfl

theorem left_B (c : Dev nD) (t : Fin cfg0.N) (h : ¬t.val % 4 = 0) (h1 : t.val % 4 ≤ 1)
    (hp : (outsAt0 m c (t.val - 1) (Nat.lt_of_le_of_lt (Nat.sub_le _ _) t.isLt)).2.2 = nrm (aX m c) (aG m c) (iOf t)) :
    outsAt0 m c t.val t.isLt = left (aX m c) (aG m c) (aW m c) (aH m c) (iOf t) (jOf t) := by
  refine (outsAt0_B m c t h h1 (by omega)).trans ?_
  unfold sout0_B_0
  rw [out_B4, out_B5, hp, blk_w, blk_h]
  unfold left blk
  rw [if_pos (show (jOf t).val < 2 by unfold jOf; dsimp only; omega)]

theorem left_C (c : Dev nD) (t : Fin cfg0.N) (h : ¬t.val % 4 = 0) (h1 : ¬t.val % 4 ≤ 1)
    (hp : (outsAt0 m c (t.val - 1) (Nat.lt_of_le_of_lt (Nat.sub_le _ _) t.isLt)).2.2 = nrm (aX m c) (aG m c) (iOf t)) :
    outsAt0 m c t.val t.isLt = left (aX m c) (aG m c) (aW m c) (aH m c) (iOf t) (jOf t) := by
  refine (outsAt0_C m c t h h1 (by omega)).trans ?_
  unfold sout0_C_0
  rw [out_C4, out_C5, hp, blk_w]
  unfold left blk
  rw [if_neg (show ¬(jOf t).val < 2 by unfold jOf; dsimp only; omega)]

theorem point (c : Dev nD) : ∀ (n : ℕ) (hn : n < cfg0.N),
    outsAt0 m c n hn = left (aX m c) (aG m c) (aW m c) (aH m c) (iOf ⟨n, hn⟩) (jOf ⟨n, hn⟩) := by
  intro n
  induction n with
  | zero => intro hn; exact left_A m c ⟨0, hn⟩ rfl
  | succ n ih =>
    intro hn
    by_cases h : (n + 1) % 4 = 0
    · exact left_A m c ⟨n + 1, hn⟩ h
    · have e : iOf ⟨n + 1, hn⟩ = iOf ⟨n, Nat.lt_of_succ_lt hn⟩ := Fin.ext (by unfold iOf; dsimp only; omega)
      have hp : (outsAt0 m c (n + 1 - 1) (lt_of_le_of_lt (Nat.sub_le _ _) hn)).2.2 = nrm (aX m c) (aG m c) (iOf ⟨n + 1, hn⟩) := by
        rw [e]
        exact congrArg (fun o => o.2.2) (ih (Nat.lt_of_succ_lt hn))
      by_cases h1 : (n + 1) % 4 ≤ 1
      · exact left_B m c ⟨n + 1, hn⟩ h h1 hp
      · exact left_C m c ⟨n + 1, hn⟩ h h1 hp

/-- The reference's product. -/
def PR (X : FVec Ideal S8192x2048 .f32) (G : FVec Ideal S2048 .f32) (W : FVec Ideal S2048x4096 .bf16) : FVec Ideal S8192x4096 .f32 :=
  Host.dotGeneral Cert.KvProjRefIdeal.dot_S8192x2048_S2048x4096_S8192x4096_1_0_0_1_n_n none (mulf (mulf X (broadcastInDim Cert.KvProjRefIdeal.S8192x2048 ![0, 1] Cert.KvProjRefIdeal.Gen.bcast_S8192x1_S8192x2048_0_1 (Host.rsqrt (addf (Host.divf (broadcastInDim Cert.KvProjRefIdeal.S8192x1 ![0] Cert.KvProjRefIdeal.Gen.bcast_S8192_S8192x1_0 (Host.reduceAdd (mulf X X) (constant Cert.KvProjRefIdeal.S_ .f32 0x00000000#32) Cert.KvProjRefIdeal.Gen.reducesTo_S8192x2048_S8192_d1 Cert.KvProjRefIdeal.Gen.h_S_)) (broadcastInDim Cert.KvProjRefIdeal.S8192x1 ![] Cert.KvProjRefIdeal.Gen.bcast_S_S8192x1 (constant Cert.KvProjRefIdeal.S_ .f32 0x45000000#32))) (broadcastInDim Cert.KvProjRefIdeal.S8192x1 ![] Cert.KvProjRefIdeal.Gen.bcast_S_S8192x1 (constant Cert.KvProjRefIdeal.S_ .f32 0x3727C5AC#32)))))) (broadcastInDim Cert.KvProjRefIdeal.S8192x2048 ![0, 1] Cert.KvProjRefIdeal.Gen.bcast_S1x2048_S8192x2048_0_1 (broadcastInDim Cert.KvProjRefIdeal.S1x2048 ![1] Cert.KvProjRefIdeal.Gen.bcast_S2048_S1x2048_1 G))) (extf .f32 W Cert.KvProjRefIdeal.Gen.bitsLt_bf16_f32)

/-- The reference's array. -/
def REF (X : FVec Ideal S8192x2048 .f32) (G : FVec Ideal S2048 .f32) (W : FVec Ideal S2048x4096 .bf16) (HG : FVec Ideal S128 .f32) : FVec Ideal S8192x4096 .f32 :=
  concatenate Cert.KvProjRefIdeal.S8192x4096 1 [⟨Cert.KvProjRefIdeal.S8192x2048, (shapeCast _ (mulf (mulf (shapeCast _ (extractStridedSlice Cert.KvProjRefIdeal.S8192x2048 ![0, 0] (PR X G W) Cert.KvProjRefIdeal.Gen.slices_S8192x4096_S8192x2048_0_0) Cert.KvProjRefIdeal.Gen.shapeCasts_S8192x2048_S8192x16x128) (broadcastInDim Cert.KvProjRefIdeal.S8192x16x128 ![0, 1, 2] Cert.KvProjRefIdeal.Gen.bcast_S8192x16x1_S8192x16x128_0_1_2 (Host.rsqrt (addf (Host.divf (broadcastInDim Cert.KvProjRefIdeal.S8192x16x1 ![0, 1] Cert.KvProjRefIdeal.Gen.bcast_S8192x16_S8192x16x1_0_1 (Host.reduceAdd (mulf (shapeCast _ (extractStridedSlice Cert.KvProjRefIdeal.S8192x2048 ![0, 0] (PR X G W) Cert.KvProjRefIdeal.Gen.slices_S8192x4096_S8192x2048_0_0) Cert.KvProjRefIdeal.Gen.shapeCasts_S8192x2048_S8192x16x128) (shapeCast _ (extractStridedSlice Cert.KvProjRefIdeal.S8192x2048 ![0, 0] (PR X G W) Cert.KvProjRefIdeal.Gen.slices_S8192x4096_S8192x2048_0_0) Cert.KvProjRefIdeal.Gen.shapeCasts_S8192x2048_S8192x16x128)) (constant Cert.KvProjRefIdeal.S_ .f32 0x00000000#32) Cert.KvProjRefIdeal.Gen.reducesTo_S8192x16x128_S8192x16_d2 Cert.KvProjRefIdeal.Gen.h_S_)) (broadcastInDim Cert.KvProjRefIdeal.S8192x16x1 ![] Cert.KvProjRefIdeal.Gen.bcast_S_S8192x16x1 (constant Cert.KvProjRefIdeal.S_ .f32 0x43000000#32))) (broadcastInDim Cert.KvProjRefIdeal.S8192x16x1 ![] Cert.KvProjRefIdeal.Gen.bcast_S_S8192x16x1 (constant Cert.KvProjRefIdeal.S_ .f32 0x3727C5AC#32)))))) (broadcastInDim Cert.KvProjRefIdeal.S8192x16x128 ![0, 1, 2] Cert.KvProjRefIdeal.Gen.bcast_S1x1x128_S8192x16x128_0_1_2 (broadcastInDim Cert.KvProjRefIdeal.S1x1x128 ![2] Cert.KvProjRefIdeal.Gen.bcast_S128_S1x1x128_2 HG))) Cert.KvProjRefIdeal.Gen.shapeCasts_S8192x16x128_S8192x2048)⟩, ⟨Cert.KvProjRefIdeal.S8192x2048, (extractStridedSlice Cert.KvProjRefIdeal.S8192x2048 ![0, 2048] (PR X G W) Cert.KvProjRefIdeal.Gen.slices_S8192x4096_S8192x2048_0_2048)⟩] Cert.KvProjRefIdeal.Gen.concatenates_S8192x2048_S8192x2048_S8192x4096_d1

/-- The root mean square's reciprocal of a row. -/
def inv (X : FVec Ideal S8192x2048 .f32) (p : Fin 8192) : EReal :=
  Ideal.rsqrt (Ideal.div (∑ k : Fin 2048, X (ix2 p k) * X (ix2 p k)) (Ideal.ofBits .f32 0x45000000#32) + Ideal.ofBits .f32 0x3727C5AC#32)

/-- An entry of the product. -/
def prd (X : FVec Ideal S8192x2048 .f32) (G : FVec Ideal S2048 .f32) (W : FVec Ideal S2048x4096 .bf16) (p : Fin 8192) (q : Fin 4096) : EReal :=
  ∑ k : Fin 2048, X (ix2 p k) * inv X p * G (ix1 k) * W (ix2 k q)

/-- Entry `b` of a head of 128 entries, normed. -/
def hd (f : Fin 128 → EReal) (g : EReal) (b : Fin 128) : EReal :=
  f b * Ideal.rsqrt (Ideal.div (∑ d : Fin 128, f d * f d) (Ideal.ofBits .f32 0x43000000#32) + Ideal.ofBits .f32 0x3727C5AC#32) * g

theorem PR_at (X : FVec Ideal S8192x2048 .f32) (G : FVec Ideal S2048 .f32) (W : FVec Ideal S2048x4096 .bf16) (p : Fin 8192) (q : Fin 4096) :
    PR X G W (ix2 p q) = prd X G W p q := by
  pointwise [PR, prd, inv]

theorem REF_key (X : FVec Ideal S8192x2048 .f32) (G : FVec Ideal S2048 .f32) (W : FVec Ideal S2048x4096 .bf16) (HG : FVec Ideal S128 .f32) (p : Fin 8192) (a : Fin 16) (b : Fin 128) :
    REF X G W HG (ix2 p ⟨128 * a.val + b.val, by omega⟩) = hd (fun d => PR X G W (ix2 p ⟨128 * a.val + d.val, by omega⟩)) (HG (ix1 b)) b := by
  unfold REF
  generalize PR X G W = P
  pointwise [hd]
  rw [dif_pos (by omega)]
  simp only [Nat.mul_comm a.val 128]

theorem REF_val (X : FVec Ideal S8192x2048 .f32) (G : FVec Ideal S2048 .f32) (W : FVec Ideal S2048x4096 .bf16) (HG : FVec Ideal S128 .f32) (p : Fin 8192) (q : Fin 4096) (h : ¬q.val < 2048) :
    REF X G W HG (ix2 p q) = PR X G W (ix2 p q) := by
  unfold REF
  generalize PR X G W = P
  pointwise
  rw [dif_neg h]
  exact congrArg P (congrArg (ix2 p) (Fin.ext (by dsimp only; omega)))

theorem pay2_at (X : FVec Ideal S8192x2048 .f32) (G : FVec Ideal S2048 .f32) (W : FVec Ideal S2048x4096 .bf16) (i : Fin 8) (j : Fin 4) (p q : Fin 1024) :
    k0_pay2 (F := Ideal) (nrm X G i) (wBlk W j) (ix2 p q) = prd X G W ⟨1024 * i.val + p.val, by omega⟩ ⟨1024 * j.val + q.val, by omega⟩ := by
  pointwise [prd, nrm, k0_pay1, k0_pay2, xBlk, gRow, wBlk, inv]

set_option maxHeartbeats 2000000 in
/-- An entry of a block of keys. -/
theorem key_at (h : Vec Ideal S1024x2048 .bf16) (w : Vec Ideal S2048x1024 .bf16) (hg : Vec Ideal S1x128 .f32) (p : Fin 1024) (a : Fin 8) (b : Fin 128) :
    keyBlk h w hg (ix2 p ⟨128 * a.val + b.val, by omega⟩) = hd (fun d => k0_pay2 h w (ix2 p ⟨128 * a.val + d.val, by omega⟩)) (hg (ix2 0 b)) b := by
  unfold keyBlk k0_pay3
  dsimp only
  generalize k0_pay2 h w = P
  have hb := b.isLt
  fin_cases a <;> pointwise [k0_pay6, k0_pay7, k0_pay8, k0_pay9, k0_pay10, k0_pay11, hd]
  all_goals
    repeat (first | rw [dif_pos (by omega)] | rw [dif_neg (by omega)])
  all_goals
    refine congrArg₂ (· * ·) (congrArg (· * _) (congrArg P (congrArg (ix2 p) (Fin.ext ?_)))) (congrArg hg (congrArg (ix2 0) (Fin.ext ?_))) <;> dsimp only <;> omega

/-- A block's entry is the reference's entry there. -/
theorem blk_at (X : FVec Ideal S8192x2048 .f32) (G : FVec Ideal S2048 .f32) (W : FVec Ideal S2048x4096 .bf16) (HG : FVec Ideal S128 .f32) (i : Fin 8) (j : Fin 4) (p q : Fin 1024) :
    blk X G W HG i j (ix2 p q) = REF X G W HG (ix2 ⟨1024 * i.val + p.val, by omega⟩ ⟨1024 * j.val + q.val, by omega⟩) := by
  unfold blk
  by_cases h : j.val < 2
  · rw [if_pos h]
    obtain ⟨a, b, hq⟩ : ∃ (a : Fin 8) (b : Fin 128), q = ⟨128 * a.val + b.val, by omega⟩ :=
      ⟨⟨q.val / 128, by omega⟩, ⟨q.val % 128, by omega⟩, Fin.ext (by dsimp only; omega)⟩
    subst hq
    have e : (⟨1024 * j.val + (128 * a.val + b.val), by omega⟩ : Fin 4096) = ⟨128 * (⟨8 * j.val + a.val, by omega⟩ : Fin 16).val + b.val, by dsimp only; omega⟩ :=
      Fin.ext (by dsimp only; omega)
    refine (key_at _ _ _ p a b).trans (Eq.trans ?_ (congrArg (fun z => REF X G W HG (ix2 ⟨1024 * i.val + p.val, by omega⟩ z)) e).symm)
    refine Eq.trans ?_ (REF_key X G W HG _ ⟨8 * j.val + a.val, by omega⟩ b).symm
    refine congrArg (fun f => hd f (HG (ix1 b)) b) (funext fun d => ?_)
    rw [pay2_at, PR_at]
    exact congrArg (prd X G W _) (Fin.ext (by dsimp only; omega))
  · rw [if_neg h, REF_val _ _ _ _ _ _ (by dsimp only; omega), PR_at]
    exact pay2_at X G W i j p q

/-- The first result array is the reference's. -/
theorem value4 (c : Dev nD) : (dats m 0 c).arrAt 4 cfg0.N = REF (aX m c) (aG m c) (aW m c) (aH m c) := by
  refine (dats m 0 c).arrAt_eq_of_covers 4 _ (by decide +kernel) fun t hf y => ?_
  blk_simp
  rw [after0_4, point m c t.val t.isLt]
  obtain ⟨p, q, rfl⟩ : ∃ p q, y = ix2 p q := ⟨y 0, y 1, by funext x; fin_cases x <;> rfl⟩
  refine (blk_at _ _ _ _ _ _ p q).trans ?_
  refine congrArg (REF (aX m c) (aG m c) (aW m c) (aH m c)) ?_
  unfold iOf jOf
  blk_ext [V, idx t]

/-- The second result array is the reference's, narrowed. -/
theorem value5 (c : Dev nD) : (dats m 0 c).arrAt 5 cfg0.N = truncf .bf16 (REF (aX m c) (aG m c) (aW m c) (aH m c)) bitsLt_bf16_f32 := by
  refine (dats m 0 c).arrAt_eq_of_covers 5 _ (by decide +kernel) fun t hf y => ?_
  blk_simp
  rw [after0_5, point m c t.val t.isLt]
  obtain ⟨p, q, rfl⟩ : ∃ p q, y = ix2 p q := ⟨y 0, y 1, by funext x; fin_cases x <;> rfl⟩
  refine (blk_at _ _ _ _ _ _ p q).trans ?_
  refine congrArg (REF (aX m c) (aG m c) (aW m c) (aH m c)) ?_
  unfold iOf jOf
  blk_ext [V, idx t]

end Cert.KvProjIdeal.Result

end
-- ==== Proof.LogF.lean ====
module

public import proofs.«01_k».proof.Proof.Gen.LogForgetIdeal.Value
public import proofs.«01_k».proof.Proof.Gen.LogForgetRefIdeal.Run
public import Idealize.ShloMosaic.Lib.Pipeline.ValueKit

@[expose] public section

set_option maxRecDepth 16384

noncomputable section

/-! The log forget gates: each point norms a row block, multiplies it with the weights padded to 128 columns, adds the padded bias and takes the log of the sigmoid. -/

open Idealize.ShloMosaic Idealize.ShloMosaic.TcCoe Idealize.SL.Sem

namespace Cert.LogForgetIdeal.Result

open Cert.LogForgetIdeal Cert.LogForgetIdeal.Gen

open Idealize.ShloMosaic.Pipeline (Dat)

theorem zz : (![0, 0] : Fin 2 → ℕ) = fun _ => 0 := by funext i; fin_cases i <;> rfl

/-- A load of a whole memref reads its contents. -/
theorem load_all {κ : Kind} {sp : Space} {S : Shape} {e : EltTy} (v : View sig κ sp S e) {off : Fin S.rank → ℕ} (h : off = fun _ => 0)
    (inb : ∀ a, off a + S.size a ≤ S.size a) (f : v.ty.Contents (Elt Ideal)) :
    View.readAt (Elt Ideal) v (Rect.unit off S.size inb).toLoadRect f = v.read (Elt Ideal) f :=
  View.ld_unit_zero h inb (v.read (Elt Ideal) f)

section
variable (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x128 .bf16) (harg3 : arg3.IsWhole) (arg4 : Memref sig .tc .vmem S1x128 .f32) (harg4 : arg4.IsWhole) (arg5 : Memref sig .tc .vmem S512x512 .bf16) (harg5 : arg5.IsWhole) (arg6 : Memref sig .tc .vmem S512x128 .f32) (harg6 : arg6.IsWhole) (arg7 : Memref sig .tc .vmem S512x2048 .bf16) (harg7 : arg7.IsWhole) (arg8 : Memref sig .tc .vmem S1x128 .f32) (harg8 : arg8.IsWhole)
  (x0 : Vec Ideal S512x2048 .f32) (x1 : Vec Ideal S1x2048 .f32) (x2 : Vec Ideal S2048x128 .bf16) (x3 : Vec Ideal S1x128 .f32) (x4 : Vec Ideal S512x512 .bf16) (xs : Vec Ideal S1x128 .f32)

/-- The gates of the blocks the loads read. -/
theorem gates :
    k0_pay2 (View.readAt (Elt Ideal) arg1.view (Rect.unit ![0, 0] S512x2048.size inb_S512x2048_S512x2048_0_0).toLoadRect (harg1.unread x0))
      (View.readAt (Elt Ideal) arg2.view (Rect.unit ![0, 0] S1x2048.size inb_S1x2048_S1x2048_0_0).toLoadRect (harg2.unread x1))
      (View.readAt (Elt Ideal) arg3.view (Rect.unit ![0, 0] S2048x128.size inb_S2048x128_S2048x128_0_0).toLoadRect (harg3.unread x2))
      (View.readAt (Elt Ideal) arg4.view (Rect.unit ![0, 0] S1x128.size inb_S1x128_S1x128_0_0).toLoadRect (harg4.unread x3)) = k0_pay2 x0 x1 x2 x3 := by
  rw [load_all arg1.view zz inb_S512x2048_S512x2048_0_0, load_all arg2.view zz inb_S1x2048_S1x2048_0_0, load_all arg3.view zz inb_S2048x128_S2048x128_0_0,
    load_all arg4.view zz inb_S1x128_S1x128_0_0, harg1.read_unread, harg2.read_unread, harg3.read_unread, harg4.read_unread]

theorem out_A (hc0 : _) : out0_A_5 c i arg1 harg1 arg2 harg2 arg3 harg3 arg4 harg4 arg5 harg5 arg6 harg6 arg7 harg7 arg8 harg8 hc0 x0 x1 x2 x3 x4 = k0_pay2 x0 x1 x2 x3 := by
  unfold out0_A_5 kernelRun0_A; dsimp only
  rw [View.read_writes_junk_eq_canon]
  refine (View.canon_unit_zero zz _ _).trans ?_
  exact gates arg1 harg1 arg2 harg2 arg3 harg3 arg4 harg4 x0 x1 x2 x3

theorem out_B (hc0 : _) : out0_B_5 c i arg1 harg1 arg2 harg2 arg3 harg3 arg4 harg4 arg5 harg5 arg6 harg6 arg7 harg7 arg8 harg8 hc0 x0 x1 x2 x3 x4 xs = k0_pay2 x0 x1 x2 x3 := by
  unfold out0_B_5 kernelRun0_B; dsimp only
  rw [View.read_writes_junk_eq_canon]
  refine (View.canon_unit_zero zz _ _).trans ?_
  exact gates arg1 harg1 arg2 harg2 arg3 harg3 arg4 harg4 x0 x1 x2 x3
end

theorem idx : ∀ t : Fin cfg0.N, win0_0.index t = ![t.val, 0] ∧ win0_1.index t = ![0, 0]
    ∧ win0_2.index t = ![0, 0] ∧ win0_3.index t = ![0, 0] ∧ win0_5.index t = ![t.val, 0] :=
  (by decide +kernel : ∀ t : Fin grid0.N, _)

variable (m : (ℓ : Loc nD τ sig) → Buf (Elt Ideal) ℓ)

def aX (c : Dev nD) : FVec Ideal S8192x2048 .f32 := m ((c : Thread nD τ).loc main_arg0)
def aG (c : Dev nD) : FVec Ideal S2048 .f32 := m ((c : Thread nD τ).loc main_arg1)
def aW (c : Dev nD) : FVec Ideal S2048x16 .f32 := m ((c : Thread nD τ).loc main_arg2)
def aB (c : Dev nD) : FVec Ideal S16 .f32 := m ((c : Thread nD τ).loc main_arg3)

/-- Row block `n` of the activations. -/
def xBlk (X : FVec Ideal S8192x2048 .f32) (n : Fin 16) : FVec Ideal S512x2048 .f32 := fun y =>
  X (ix2 ⟨512 * n.val + (y 0).val, by have := n.isLt; have : (y 0).val < 512 := (y 0).isLt; omega⟩ (y 1))
/-- The scale as one row. -/
def gRow (G : FVec Ideal S2048 .f32) : FVec Ideal S1x2048 .f32 := shapeCast S1x2048 G shapeCasts_S2048_S1x2048
/-- The weights, padded with zero columns. -/
def wPad (W : FVec Ideal S2048x16 .f32) : FVec Ideal S2048x128 .bf16 :=
  truncf .bf16 (pad S2048x128 ![0, 0] ![0, 112] ![0, 0] W (sitofp .f32 (constantI S_ 32 0#32)) pads_S2048x16_S2048x128_000_01120 h_S_) bitsLt_bf16_f32
/-- The bias as one row, padded with zeros. -/
def bPad (B : FVec Ideal S16 .f32) : FVec Ideal S1x128 .f32 :=
  shapeCast S1x128 (pad S128 ![0] ![112] ![0] B (sitofp .f32 (constantI S_ 32 0#32)) pads_S16_S128_01120 h_S_) shapeCasts_S128_S1x128

theorem V_g (c : Dev nD) : V m c main_v4 = gRow (aG m c) := by
  unfold V
  simp only [List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results
  rfl

theorem V_w (c : Dev nD) : V m c main_v1 = wPad (aW m c) := by
  unfold V
  simp only [List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results
  rfl

theorem V_b (c : Dev nD) : V m c main_v3 = bPad (aB m c) := by
  unfold V
  simp only [List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results
  rfl

/-- The row block of a grid point. -/
def iOf (t : Fin cfg0.N) : Fin 16 := ⟨t.val, t.isLt⟩

theorem blk_x (c : Dev nD) (t : Fin cfg0.N) : iblk m c 0 t = xBlk (aX m c) (iOf t) := by
  funext y
  unfold xBlk iOf aX
  blk_ext [iblk, V_main_arg0, idx t]

theorem read_g (t : Fin cfg0.N) (X : Vec Ideal S1x2048 .f32) : ((cfg0.win 1).blk t).view.read (Elt Ideal) X = X := by
  funext y
  blk_ext [idx t]

theorem read_w (t : Fin cfg0.N) (X : Vec Ideal S2048x128 .bf16) : ((cfg0.win 2).blk t).view.read (Elt Ideal) X = X := by
  funext y
  blk_ext [idx t]

theorem read_b (t : Fin cfg0.N) (X : Vec Ideal S1x128 .f32) : ((cfg0.win 3).blk t).view.read (Elt Ideal) X = X := by
  funext y
  blk_ext [idx t]

theorem blk_g (c : Dev nD) (t : Fin cfg0.N) : iblk m c 1 t = gRow (aG m c) := (read_g t _).trans (V_g m c)
theorem blk_w (c : Dev nD) (t : Fin cfg0.N) : iblk m c 2 t = wPad (aW m c) := (read_w t _).trans (V_w m c)
theorem blk_b (c : Dev nD) (t : Fin cfg0.N) : iblk m c 3 t = bPad (aB m c) := (read_b t _).trans (V_b m c)

/-- The gates of row block `n`. -/
def gat (X : FVec Ideal S8192x2048 .f32) (G : FVec Ideal S2048 .f32) (W : FVec Ideal S2048x16 .f32) (B : FVec Ideal S16 .f32) (n : Fin 16) : Vec Ideal S512x128 .f32 :=
  k0_pay2 (F := Ideal) (xBlk X n) (gRow G) (wPad W) (bPad B)

theorem point (c : Dev nD) (t : Fin cfg0.N) : (outsAt0 m c t.val t.isLt).1 = gat (aX m c) (aG m c) (aW m c) (aB m c) (iOf t) := by
  unfold gat
  by_cases h : t.val % 16 = 0
  · rw [outsAt0_A m c t h, ← blk_x, ← blk_g m c t, ← blk_w m c t, ← blk_b m c t]
    exact out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) _ _ _ _ (iblk m c 4 t) ((hcond0_0 t).mpr h)
  · rw [outsAt0_B m c t h, ← blk_x, ← blk_g m c t, ← blk_w m c t, ← blk_b m c t]
    exact out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) _ _ _ _ (iblk m c 4 t) (outsAt0 m c (t.val - 1) (Nat.lt_of_le_of_lt (Nat.sub_le _ _) t.isLt)).2.2 (fun h' => h ((hcond0_0 t).mp h'))

/-- The reference's logits, padded with zero columns. -/
def ZR (X : FVec Ideal S8192x2048 .f32) (G : FVec Ideal S2048 .f32) (W : FVec Ideal S2048x16 .f32) (B : FVec Ideal S16 .f32) : FVec Ideal S8192x128 .f32 :=
  pad Cert.LogForgetRefIdeal.S8192x128 ![0, 0] ![0, 112] ![0, 0] (addf (Host.dotGeneral Cert.LogForgetRefIdeal.dot_S8192x2048_S2048x16_S8192x16_1_0_0_1_n_n none (mulf (mulf X (broadcastInDim Cert.LogForgetRefIdeal.S8192x2048 ![0, 1] Cert.LogForgetRefIdeal.Gen.bcast_S8192x1_S8192x2048_0_1 (Host.rsqrt (addf (Host.divf (broadcastInDim Cert.LogForgetRefIdeal.S8192x1 ![0] Cert.LogForgetRefIdeal.Gen.bcast_S8192_S8192x1_0 (Host.reduceAdd (mulf X X) (constant Cert.LogForgetRefIdeal.S_ .f32 0x00000000#32) Cert.LogForgetRefIdeal.Gen.reducesTo_S8192x2048_S8192_d1 Cert.LogForgetRefIdeal.Gen.h_S_)) (broadcastInDim Cert.LogForgetRefIdeal.S8192x1 ![] Cert.LogForgetRefIdeal.Gen.bcast_S_S8192x1 (constant Cert.LogForgetRefIdeal.S_ .f32 0x45000000#32))) (broadcastInDim Cert.LogForgetRefIdeal.S8192x1 ![] Cert.LogForgetRefIdeal.Gen.bcast_S_S8192x1 (constant Cert.LogForgetRefIdeal.S_ .f32 0x3727C5AC#32)))))) (broadcastInDim Cert.LogForgetRefIdeal.S8192x2048 ![0, 1] Cert.LogForgetRefIdeal.Gen.bcast_S1x2048_S8192x2048_0_1 (broadcastInDim Cert.LogForgetRefIdeal.S1x2048 ![1] Cert.LogForgetRefIdeal.Gen.bcast_S2048_S1x2048_1 G))) W) (broadcastInDim Cert.LogForgetRefIdeal.S8192x16 ![0, 1] Cert.LogForgetRefIdeal.Gen.bcast_S1x16_S8192x16_0_1 (broadcastInDim Cert.LogForgetRefIdeal.S1x16 ![1] Cert.LogForgetRefIdeal.Gen.bcast_S16_S1x16_1 B))) (sitofp .f32 (constantI Cert.LogForgetRefIdeal.S_ 32 0#32)) Cert.LogForgetRefIdeal.Gen.pads_S8192x16_S8192x128_000_01120 Cert.LogForgetRefIdeal.Gen.h_S_

/-- The reference's array. -/
def REF (X : FVec Ideal S8192x2048 .f32) (G : FVec Ideal S2048 .f32) (W : FVec Ideal S2048x16 .f32) (B : FVec Ideal S16 .f32) : FVec Ideal S8192x128 .f32 :=
  Host.negf (select (cmpf .une (subf (Host.negf (ZR X G W B)) (broadcastInDim Cert.LogForgetRefIdeal.S8192x128 ![] Cert.LogForgetRefIdeal.Gen.bcast_S_S8192x128 (constant Cert.LogForgetRefIdeal.S_ .f32 0x00000000#32))) (subf (Host.negf (ZR X G W B)) (broadcastInDim Cert.LogForgetRefIdeal.S8192x128 ![] Cert.LogForgetRefIdeal.Gen.bcast_S_S8192x128 (constant Cert.LogForgetRefIdeal.S_ .f32 0x00000000#32)))) (addf (Host.negf (ZR X G W B)) (broadcastInDim Cert.LogForgetRefIdeal.S8192x128 ![] Cert.LogForgetRefIdeal.Gen.bcast_S_S8192x128 (constant Cert.LogForgetRefIdeal.S_ .f32 0x00000000#32))) (addf (maximumf (Host.negf (ZR X G W B)) (broadcastInDim Cert.LogForgetRefIdeal.S8192x128 ![] Cert.LogForgetRefIdeal.Gen.bcast_S_S8192x128 (constant Cert.LogForgetRefIdeal.S_ .f32 0x00000000#32))) (Host.log1p (Host.exp (Host.negf (Host.absf (subf (Host.negf (ZR X G W B)) (broadcastInDim Cert.LogForgetRefIdeal.S8192x128 ![] Cert.LogForgetRefIdeal.Gen.bcast_S_S8192x128 (constant Cert.LogForgetRefIdeal.S_ .f32 0x00000000#32)))))))))

/-- The root mean square's reciprocal of a row. -/
def inv (X : FVec Ideal S8192x2048 .f32) (p : Fin 8192) : EReal :=
  Ideal.rsqrt (Ideal.div (∑ k : Fin 2048, X (ix2 p k) * X (ix2 p k)) (Ideal.ofBits .f32 0x45000000#32) + Ideal.ofBits .f32 0x3727C5AC#32)

/-- The logit of row `p`, lane `q`: zero in the padded lanes. -/
def lgt (X : FVec Ideal S8192x2048 .f32) (G : FVec Ideal S2048 .f32) (W : FVec Ideal S2048x16 .f32) (B : FVec Ideal S16 .f32) (p : Fin 8192) (q : Fin 128) : EReal :=
  if h : q.val < 16 then (∑ k : Fin 2048, X (ix2 p k) * inv X p * G (ix1 k) * W (ix2 k ⟨q.val, h⟩)) + B (ix1 ⟨q.val, h⟩) else 0

/-- The log of the sigmoid of a logit. -/
def lsg (z : EReal) : EReal := -(max (-z) 0 + Ideal.log1p (Ideal.exp (-FloatOps.absf (F := Ideal) (φ := .f32) (-z))))

theorem int_zero : FloatOps.sitofp (F := Ideal) .f32 (0#32) = (0 : EReal) := by
  show (((0#32 : BitVec 32).toInt : ℝ) : EReal) = 0
  simp

theorem wPad_at (W : FVec Ideal S2048x16 .f32) (k : Fin 2048) (q : Fin 128) : wPad W (ix2 k q) = if h : q.val < 16 then W (ix2 k ⟨q.val, h⟩) else 0 := by
  pointwise [wPad]
  split
  · rfl
  · exact int_zero

theorem bPad_at (B : FVec Ideal S16 .f32) (q : Fin 128) : bPad B (ix2 0 q) = if h : q.val < 16 then B (ix1 ⟨q.val, h⟩) else 0 := by
  pointwise [bPad]
  split
  · rfl
  · exact int_zero

theorem ZR_at (X : FVec Ideal S8192x2048 .f32) (G : FVec Ideal S2048 .f32) (W : FVec Ideal S2048x16 .f32) (B : FVec Ideal S16 .f32) (p : Fin 8192) (q : Fin 128) :
    ZR X G W B (ix2 p q) = lgt X G W B p q := by
  unfold lgt
  pointwise [ZR, inv]
  split
  · rfl
  · exact int_zero

theorem REF_at (X : FVec Ideal S8192x2048 .f32) (G : FVec Ideal S2048 .f32) (W : FVec Ideal S2048x16 .f32) (B : FVec Ideal S16 .f32) (p : Fin 8192) (q : Fin 128) :
    REF X G W B (ix2 p q) = lsg (lgt X G W B p q) := by
  rw [← ZR_at]
  unfold lsg
  pointwise [REF]
  rw [if_neg (fun h => h rfl)]

/-- The kernel's logit is the same: a zero column of weights sums to zero. -/
theorem lgt_pad (X : FVec Ideal S8192x2048 .f32) (G : FVec Ideal S2048 .f32) (W : FVec Ideal S2048x16 .f32) (B : FVec Ideal S16 .f32) (p : Fin 8192) (q : Fin 128) :
    (∑ k : Fin 2048, X (ix2 p k) * inv X p * G (ix1 k) * wPad W (ix2 k q)) + bPad B (ix2 0 q) = lgt X G W B p q := by
  unfold lgt
  rw [bPad_at]
  by_cases h : q.val < 16
  · rw [dif_pos h, dif_pos h]
    refine congrArg (· + _) (Finset.sum_congr rfl fun k _ => ?_)
    rw [wPad_at, dif_pos h]
  · rw [dif_neg h, dif_neg h, add_zero]
    refine Finset.sum_eq_zero fun k _ => ?_
    rw [wPad_at, dif_neg h, mul_zero]

theorem gat_at (X : FVec Ideal S8192x2048 .f32) (G : FVec Ideal S2048 .f32) (W : FVec Ideal S2048x16 .f32) (B : FVec Ideal S16 .f32) (n : Fin 16) (p : Fin 512) (q : Fin 128) :
    gat X G W B n (ix2 p q) = lsg (lgt X G W B ⟨512 * n.val + p.val, by omega⟩ q) := by
  rw [← lgt_pad]
  unfold lsg
  pointwise [gat, k0_pay2, xBlk, gRow, inv]
  simp only [zero_sub]

/-- The block left at a grid point is the reference's block there. -/
theorem block_eq (c : Dev nD) (t : Fin cfg0.N) (y : S512x128.Idx) :
    (outsAt0 m c t.val t.isLt).1 y
      = REF (aX m c) (aG m c) (aW m c) (aB m c)
        (ix2 ⟨512 * (iOf t).val + (y 0).val, by have := (iOf t).isLt; have : (y 0).val < 512 := (y 0).isLt; omega⟩ (y 1)) := by
  obtain ⟨p, q, rfl⟩ : ∃ p q, y = ix2 p q := ⟨y 0, y 1, by funext x; fin_cases x <;> rfl⟩
  rw [point m c t]
  exact (gat_at _ _ _ _ _ p q).trans (REF_at _ _ _ _ _ q).symm

/-- The kernel's result array is the reference's. -/
theorem value (c : Dev nD) : (dats m 0 c).arrAt 5 cfg0.N = REF (aX m c) (aG m c) (aW m c) (aB m c) := by
  refine (dats m 0 c).arrAt_eq_of_covers 5 _ (by decide +kernel) fun t hf y => ?_
  blk_simp
  rw [after0_5]
  refine (block_eq m c t y).trans ?_
  refine congrArg (REF (aX m c) (aG m c) (aW m c) (aB m c)) ?_
  unfold iOf
  blk_ext [V, idx t]

end Cert.LogForgetIdeal.Result

end
-- ==== Proof.QP.lean ====
module

public import proofs.«01_k».proof.Proof.Gen.QProjIdeal.Value
public import proofs.«01_k».proof.Proof.Gen.QProjRefIdeal.Run
public import Idealize.ShloMosaic.Lib.Pipeline.ValueKit

@[expose] public section

set_option maxRecDepth 16384

noncomputable section

/-! The projection to queries: the scratch holds the normed rows of a row block, each point multiplies them with its columns of the weights, and each head of 128 columns is normed once more and scaled. The reference does so on whole arrays. -/

open Idealize.ShloMosaic Idealize.ShloMosaic.TcCoe Idealize.SL.Sem

namespace Cert.QProjIdeal.Result

open Cert.QProjIdeal Cert.QProjIdeal.Gen

open Idealize.ShloMosaic.Pipeline (Dat)

theorem zz : (![0, 0] : Fin 2 → ℕ) = fun _ => 0 := by funext i; fin_cases i <;> rfl

/-- A load of a whole memref reads its contents. -/
theorem load_all {κ : Kind} {sp : Space} {S : Shape} {e : EltTy} (v : View sig κ sp S e) {off : Fin S.rank → ℕ} (h : off = fun _ => 0)
    (inb : ∀ a, off a + S.size a ≤ S.size a) (f : v.ty.Contents (Elt Ideal)) :
    View.readAt (Elt Ideal) v (Rect.unit off S.size inb).toLoadRect f = v.read (Elt Ideal) f :=
  View.ld_unit_zero h inb (v.read (Elt Ideal) f)

section
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x128 .f32) (harg5 : arg5.IsWhole) (arg6 : Memref sig .tc .vmem S1024x1024 .bf16) (harg6 : arg6.IsWhole) (arg7 : Memref sig .tc .vmem S1024x2048 .bf16) (harg7 : arg7.IsWhole)
  (x0 : Vec Ideal S1024x2048 .f32) (x1 : Vec Ideal S1x2048 .f32) (x2 : Vec Ideal S2048x1024 .bf16) (x3 : Vec Ideal S1x128 .f32) (xs : Vec Ideal S1024x2048 .bf16)

/-- A block of queries: the product, each head normed and scaled. -/
def qBlk (h : Vec Ideal S1024x2048 .bf16) (w : Vec Ideal S2048x1024 .bf16) (hg : Vec Ideal S1x128 .f32) : FVec Ideal S1024x1024 .bf16 :=
  k0_pay3 h w (k0_pay5 (k0_pay2 h w) hg) (k0_pay6 (k0_pay2 h w) hg) (k0_pay7 (k0_pay2 h w) hg) (k0_pay8 (k0_pay2 h w) hg) (k0_pay9 (k0_pay2 h w) hg) (k0_pay10 (k0_pay2 h w) hg) hg hg

theorem normed : (kernelRun0_A.sl.HS0_1 (F := Ideal) c arg2 harg2 arg3 harg3 x0 x1)
    = [⟨Rect.unit ![0, 0] S1024x2048.size inb_S1024x2048_S1024x2048_0_0, k0_pay1 x0 x1⟩] := by
  unfold kernelRun0_A.sl.HS0_1
  refine congrArg (fun w => [(⟨Rect.unit ![0, 0] S1024x2048.size inb_S1024x2048_S1024x2048_0_0, w⟩ : View.Piece (Elt Ideal) S1024x2048 .bf16)]) ?_
  refine congrArg₂ k0_pay1 ?_ ?_
  · exact (load_all arg2.view zz inb_S1024x2048_S1024x2048_0_0 _).trans (harg2.read_unread _)
  · exact (load_all arg3.view zz inb_S1x2048_S1x2048_0_0 _).trans (harg3.read_unread _)

/-- The rows read back from the scratch are the normed rows. -/
theorem scr_v : kernelRun0_A.sl.v3 c arg2 harg2 arg3 harg3 arg7 x0 x1 = k0_pay1 (F := Ideal) x0 x1 := by
  unfold kernelRun0_A.sl.v3
  rw [normed]
  exact View.readCov_unit_zero arg7.view zz inb_S1024x2048_S1024x2048_0_0 _

/-- The first point of a row block leaves the normed rows in the scratch. -/
theorem scr_A (hc0 : _) (hc1 : _) (hc2 : _) : sout0_A_0 c i arg2 harg2 arg3 harg3 arg4 harg4 arg5 harg5 arg6 harg6 arg7 harg7 hc0 hc1 hc2 x0 x1 x2 x3 = k0_pay1 x0 x1 := by
  unfold sout0_A_0 kernelRun0_A; dsimp only
  rw [normed, View.read_writes_junk_eq_canon]
  exact View.canon_unit_zero zz _ _

theorem out_A4 (hc0 : _) (hc1 : _) (hc2 : _) : out0_A_4 c i arg2 harg2 arg3 harg3 arg4 harg4 arg5 harg5 arg6 harg6 arg7 harg7 hc0 hc1 hc2 x0 x1 x2 x3 = qBlk (k0_pay1 x0 x1) x2 x3 := by
  unfold out0_A_4 kernelRun0_A; dsimp only
  rw [View.read_writes_junk_eq_canon]
  refine (View.canon_unit_zero zz _ _).trans ?_
  have hw : View.readAt (Elt Ideal) arg4.view (Rect.unit ![0, 0] ![2048, 1024] inb_S2048x1024_S2048x1024_0_0).toLoadRect (harg4.unread x2) = x2 :=
    (load_all arg4.view zz inb_S2048x1024_S2048x1024_0_0 _).trans (harg4.read_unread _)
  have hg : View.readAt (Elt Ideal) arg5.view (Rect.unit ![0, 0] ![1, 128] inb_S1x128_S1x128_0_0).toLoadRect (harg5.unread x3) = x3 :=
    (load_all arg5.view zz inb_S1x128_S1x128_0_0 _).trans (harg5.read_unread _)
  have hv := scr_v c arg2 harg2 arg3 harg3 arg7 x0 x1
  unfold kernelRun0_A.sl.r kernelRun0_A.sl.r_1 kernelRun0_A.sl.r_2 kernelRun0_A.sl.r_3 kernelRun0_A.sl.r_4 kernelRun0_A.sl.r_5
  rw [hw, hg, hv]
  rfl

theorem out_B4 (hc0 : _) (hc1 : _) (hc2 : _) : out0_B_4 c i arg2 harg2 arg3 harg3 arg4 harg4 arg5 harg5 arg6 harg6 arg7 harg7 hc0 hc1 hc2 x0 x1 x2 x3 xs = qBlk xs x2 x3 := by
  unfold out0_B_4 kernelRun0_B; dsimp only
  rw [View.read_writes_junk_eq_canon]
  refine (View.canon_unit_zero zz _ _).trans ?_
  have hw : View.readAt (Elt Ideal) arg4.view (Rect.unit ![0, 0] ![2048, 1024] inb_S2048x1024_S2048x1024_0_0).toLoadRect (harg4.unread x2) = x2 :=
    (load_all arg4.view zz inb_S2048x1024_S2048x1024_0_0 _).trans (harg4.read_unread _)
  have hg : View.readAt (Elt Ideal) arg5.view (Rect.unit ![0, 0] ![1, 128] inb_S1x128_S1x128_0_0).toLoadRect (harg5.unread x3) = x3 :=
    (load_all arg5.view zz inb_S1x128_S1x128_0_0 _).trans (harg5.read_unread _)
  have hs : View.readAt (Elt Ideal) arg7.view (Rect.unit ![0, 0] ![1024, 2048] inb_S1024x2048_S1024x2048_0_0).toLoadRect (harg7.unread xs) = xs :=
    (load_all arg7.view zz inb_S1024x2048_S1024x2048_0_0 _).trans (harg7.read_unread _)
  unfold kernelRun0_B.sl.r kernelRun0_B.sl.r_1 kernelRun0_B.sl.r_2 kernelRun0_B.sl.r_3 kernelRun0_B.sl.r_4 kernelRun0_B.sl.r_5
  rw [hw, hg, hs]
  rfl

end

theorem idx : ∀ t : Fin cfg0.N, win0_0.index t = ![t.val / 2, 0] ∧ win0_1.index t = ![0, 0]
    ∧ win0_2.index t = ![0, t.val % 2] ∧ win0_3.index t = ![0, 0] ∧ win0_4.index t = ![t.val / 2, t.val % 2] :=
  (by decide +kernel : ∀ t : Fin grid0.N, _)

variable (m : (ℓ : Loc nD τ sig) → Buf (Elt Ideal) ℓ)

def aX (c : Dev nD) : FVec Ideal S8192x2048 .f32 := m ((c : Thread nD τ).loc main_arg0)
def aG (c : Dev nD) : FVec Ideal S2048 .f32 := m ((c : Thread nD τ).loc main_arg1)
def aW (c : Dev nD) : FVec Ideal S2048x2048 .bf16 := m ((c : Thread nD τ).loc main_arg2)
def aH (c : Dev nD) : FVec Ideal S128 .f32 := m ((c : Thread nD τ).loc main_arg3)

/-- Row block `n` of the activations. -/
def xBlk (X : FVec Ideal S8192x2048 .f32) (n : Fin 8) : FVec Ideal S1024x2048 .f32 := fun y =>
  X (ix2 ⟨1024 * n.val + (y 0).val, by have := n.isLt; have : (y 0).val < 1024 := (y 0).isLt; omega⟩ (y 1))
/-- The scale as one row. -/
def gRow (G : FVec Ideal S2048 .f32) : FVec Ideal S1x2048 .f32 := fun y => G (ix1 (y 1))
/-- Column block `n` of the weights. -/
def wBlk (W : FVec Ideal S2048x2048 .bf16) (n : Fin 2) : FVec Ideal S2048x1024 .bf16 := fun y =>
  W (ix2 (y 0) ⟨1024 * n.val + (y 1).val, by have := n.isLt; have : (y 1).val < 1024 := (y 1).isLt; omega⟩)
/-- The heads' scale as one row. -/
def hRow (HG : FVec Ideal S128 .f32) : FVec Ideal S1x128 .f32 := fun y => HG (ix1 (y 1))

/-- The row block of a grid point. -/
def iOf (t : Fin cfg0.N) : Fin 8 := ⟨t.val / 2, by have h : t.val < 16 := t.isLt; omega⟩
/-- The column block of a grid point. -/
def jOf (t : Fin cfg0.N) : Fin 2 := ⟨t.val % 2, by omega⟩

theorem blk_x (c : Dev nD) (t : Fin cfg0.N) : iblk m c 0 t = xBlk (aX m c) (iOf t) := by
  funext y
  unfold xBlk iOf aX
  blk_ext [iblk, V_main_arg0, idx t]

theorem blk_g (c : Dev nD) (t : Fin cfg0.N) : iblk m c 1 t = gRow (aG m c) := by
  funext y
  unfold gRow aG
  blk_simp [iblk, V, idx t]
  entry_read
  pointwise
  blk_ext [iblk, V, idx t]

theorem blk_w (c : Dev nD) (t : Fin cfg0.N) : iblk m c 2 t = wBlk (aW m c) (jOf t) := by
  funext y
  unfold wBlk jOf aW
  blk_ext [iblk, V_main_arg2, idx t]

theorem blk_h (c : Dev nD) (t : Fin cfg0.N) : iblk m c 3 t = hRow (aH m c) := by
  funext y
  unfold hRow aH
  blk_simp [iblk, V, idx t]
  entry_read
  pointwise
  blk_ext [iblk, V, idx t]

/-- The rows of a block, normed and scaled. -/
def nrm (X : FVec Ideal S8192x2048 .f32) (G : FVec Ideal S2048 .f32) (n : Fin 8) : Vec Ideal S1024x2048 .bf16 :=
  k0_pay1 (F := Ideal) (xBlk X n) (gRow G)

/-- The output block at row block `i`, column block `j`. -/
def blk (X : FVec Ideal S8192x2048 .f32) (G : FVec Ideal S2048 .f32) (W : FVec Ideal S2048x2048 .bf16) (HG : FVec Ideal S128 .f32) (i : Fin 8) (j : Fin 2) : FVec Ideal S1024x1024 .bf16 :=
  qBlk (nrm X G i) (wBlk W j) (hRow HG)

/-- What a grid point leaves: its output block, and the normed rows in the scratch. -/
theorem point (c : Dev nD) : ∀ (n : ℕ) (hn : n < cfg0.N),
    outsAt0 m c n hn = (blk (aX m c) (aG m c) (aW m c) (aH m c) (iOf ⟨n, hn⟩) (jOf ⟨n, hn⟩), nrm (aX m c) (aG m c) (iOf ⟨n, hn⟩)) := by
  intro n
  induction n with
  | zero =>
    intro hn
    refine (outsAt0_A m c ⟨0, hn⟩ rfl).trans ?_
    rw [out_A4, scr_A, blk_x, blk_g, blk_w, blk_h]
    rfl
  | succ n ih =>
    intro hn
    by_cases h : (n + 1) % 2 = 0
    · refine (outsAt0_A m c ⟨n + 1, hn⟩ h).trans ?_
      rw [out_A4, scr_A, blk_x, blk_g, blk_w, blk_h]
      rfl
    · refine (outsAt0_B m c ⟨n + 1, hn⟩ h).trans ?_
      have e : iOf ⟨n + 1, hn⟩ = iOf ⟨n, Nat.lt_of_succ_lt hn⟩ := Fin.ext (by unfold iOf; dsimp only; omega)
      have h' : outsAt0 m c (n + 1 - 1) (lt_of_le_of_lt (Nat.sub_le _ _) hn) = _ := ih (Nat.lt_of_succ_lt hn)
      unfold sout0_B_0
      rw [out_B4, h', blk_w, blk_h, e]
      rfl

/-- The reference's product. -/
def PR (X : FVec Ideal S8192x2048 .f32) (G : FVec Ideal S2048 .f32) (W : FVec Ideal S2048x2048 .bf16) : FVec Ideal S8192x2048 .f32 :=
  Host.dotGeneral Cert.QProjRefIdeal.dot_S8192x2048_S2048x2048_S8192x2048_1_0_0_1_n_n none (mulf (mulf X (broadcastInDim Cert.QProjRefIdeal.S8192x2048 ![0, 1] Cert.QProjRefIdeal.Gen.bcast_S8192x1_S8192x2048_0_1 (Host.rsqrt (addf (Host.divf (broadcastInDim Cert.QProjRefIdeal.S8192x1 ![0] Cert.QProjRefIdeal.Gen.bcast_S8192_S8192x1_0 (Host.reduceAdd (mulf X X) (constant Cert.QProjRefIdeal.S_ .f32 0x00000000#32) Cert.QProjRefIdeal.Gen.reducesTo_S8192x2048_S8192_d1 Cert.QProjRefIdeal.Gen.h_S_)) (broadcastInDim Cert.QProjRefIdeal.S8192x1 ![] Cert.QProjRefIdeal.Gen.bcast_S_S8192x1 (constant Cert.QProjRefIdeal.S_ .f32 0x45000000#32))) (broadcastInDim Cert.QProjRefIdeal.S8192x1 ![] Cert.QProjRefIdeal.Gen.bcast_S_S8192x1 (constant Cert.QProjRefIdeal.S_ .f32 0x3727C5AC#32)))))) (broadcastInDim Cert.QProjRefIdeal.S8192x2048 ![0, 1] Cert.QProjRefIdeal.Gen.bcast_S1x2048_S8192x2048_0_1 (broadcastInDim Cert.QProjRefIdeal.S1x2048 ![1] Cert.QProjRefIdeal.Gen.bcast_S2048_S1x2048_1 G))) (extf .f32 W Cert.QProjRefIdeal.Gen.bitsLt_bf16_f32)

/-- The reference's array. -/
def REF (X : FVec Ideal S8192x2048 .f32) (G : FVec Ideal S2048 .f32) (W : FVec Ideal S2048x2048 .bf16) (HG : FVec Ideal S128 .f32) : FVec Ideal S8192x2048 .bf16 :=
  truncf .bf16 (mulf (shapeCast _ (mulf (mulf (shapeCast _ (PR X G W) Cert.QProjRefIdeal.Gen.shapeCasts_S8192x2048_S8192x16x128) (broadcastInDim Cert.QProjRefIdeal.S8192x16x128 ![0, 1, 2] Cert.QProjRefIdeal.Gen.bcast_S8192x16x1_S8192x16x128_0_1_2 (Host.rsqrt (addf (Host.divf (broadcastInDim Cert.QProjRefIdeal.S8192x16x1 ![0, 1] Cert.QProjRefIdeal.Gen.bcast_S8192x16_S8192x16x1_0_1 (Host.reduceAdd (mulf (shapeCast _ (PR X G W) Cert.QProjRefIdeal.Gen.shapeCasts_S8192x2048_S8192x16x128) (shapeCast _ (PR X G W) Cert.QProjRefIdeal.Gen.shapeCasts_S8192x2048_S8192x16x128)) (constant Cert.QProjRefIdeal.S_ .f32 0x00000000#32) Cert.QProjRefIdeal.Gen.reducesTo_S8192x16x128_S8192x16_d2 Cert.QProjRefIdeal.Gen.h_S_)) (broadcastInDim Cert.QProjRefIdeal.S8192x16x1 ![] Cert.QProjRefIdeal.Gen.bcast_S_S8192x16x1 (constant Cert.QProjRefIdeal.S_ .f32 0x43000000#32))) (broadcastInDim Cert.QProjRefIdeal.S8192x16x1 ![] Cert.QProjRefIdeal.Gen.bcast_S_S8192x16x1 (constant Cert.QProjRefIdeal.S_ .f32 0x3727C5AC#32)))))) (broadcastInDim Cert.QProjRefIdeal.S8192x16x128 ![0, 1, 2] Cert.QProjRefIdeal.Gen.bcast_S1x1x128_S8192x16x128_0_1_2 (broadcastInDim Cert.QProjRefIdeal.S1x1x128 ![2] Cert.QProjRefIdeal.Gen.bcast_S128_S1x1x128_2 HG))) Cert.QProjRefIdeal.Gen.shapeCasts_S8192x16x128_S8192x2048) (broadcastInDim Cert.QProjRefIdeal.S8192x2048 ![] Cert.QProjRefIdeal.Gen.bcast_S_S8192x2048 (constant Cert.QProjRefIdeal.S_ .f32 0x3E0293EE#32))) Cert.QProjRefIdeal.Gen.bitsLt_bf16_f32

/-- The root mean square's reciprocal of a row. -/
def inv (X : FVec Ideal S8192x2048 .f32) (p : Fin 8192) : EReal :=
  Ideal.rsqrt (Ideal.div (∑ k : Fin 2048, X (ix2 p k) * X (ix2 p k)) (Ideal.ofBits .f32 0x45000000#32) + Ideal.ofBits .f32 0x3727C5AC#32)

/-- An entry of the product. -/
def prd (X : FVec Ideal S8192x2048 .f32) (G : FVec Ideal S2048 .f32) (W : FVec Ideal S2048x2048 .bf16) (p : Fin 8192) (q : Fin 2048) : EReal :=
  ∑ k : Fin 2048, X (ix2 p k) * inv X p * G (ix1 k) * W (ix2 k q)

/-- Entry `b` of a head of 128 entries, normed and scaled. -/
def hd (f : Fin 128 → EReal) (g : EReal) (b : Fin 128) : EReal :=
  f b * Ideal.rsqrt (Ideal.div (∑ d : Fin 128, f d * f d) (Ideal.ofBits .f32 0x43000000#32) + Ideal.ofBits .f32 0x3727C5AC#32) * g * Ideal.ofBits .f32 0x3E0293EE#32

theorem PR_at (X : FVec Ideal S8192x2048 .f32) (G : FVec Ideal S2048 .f32) (W : FVec Ideal S2048x2048 .bf16) (p : Fin 8192) (q : Fin 2048) :
    PR X G W (ix2 p q) = prd X G W p q := by
  pointwise [PR, prd, inv]

theorem REF_at (X : FVec Ideal S8192x2048 .f32) (G : FVec Ideal S2048 .f32) (W : FVec Ideal S2048x2048 .bf16) (HG : FVec Ideal S128 .f32) (p : Fin 8192) (a : Fin 16) (b : Fin 128) :
    REF X G W HG (ix2 p ⟨128 * a.val + b.val, by omega⟩) = hd (fun d => PR X G W (ix2 p ⟨128 * a.val + d.val, by omega⟩)) (HG (ix1 b)) b := by
  unfold REF
  generalize PR X G W = P
  pointwise [hd]
  simp only [Nat.mul_comm a.val 128]

theorem pay2_at (X : FVec Ideal S8192x2048 .f32) (G : FVec Ideal S2048 .f32) (W : FVec Ideal S2048x2048 .bf16) (i : Fin 8) (j : Fin 2) (p q : Fin 1024) :
    k0_pay2 (F := Ideal) (nrm X G i) (wBlk W j) (ix2 p q) = prd X G W ⟨1024 * i.val + p.val, by omega⟩ ⟨1024 * j.val + q.val, by omega⟩ := by
  pointwise [prd, nrm, k0_pay1, k0_pay2, xBlk, gRow, wBlk, inv]

set_option maxHeartbeats 2000000 in
/-- An entry of a block of queries. -/
theorem head_at (h : Vec Ideal S1024x2048 .bf16) (w : Vec Ideal S2048x1024 .bf16) (hg : Vec Ideal S1x128 .f32) (p : Fin 1024) (a : Fin 8) (b : Fin 128) :
    qBlk h w hg (ix2 p ⟨128 * a.val + b.val, by omega⟩) = hd (fun d => k0_pay2 h w (ix2 p ⟨128 * a.val + d.val, by omega⟩)) (hg (ix2 0 b)) b := by
  unfold qBlk k0_pay3
  dsimp only
  generalize k0_pay2 h w = P
  have hb := b.isLt
  fin_cases a <;> pointwise [k0_pay5, k0_pay6, k0_pay7, k0_pay8, k0_pay9, k0_pay10, hd]
  all_goals
    repeat (first | rw [dif_pos (by omega)] | rw [dif_neg (by omega)])
  all_goals
    refine congrArg (· * _) ?_
    refine congrArg₂ (· * ·) (congrArg (· * _) (congrArg P (congrArg (ix2 p) (Fin.ext ?_)))) (congrArg hg (congrArg (ix2 0) (Fin.ext ?_))) <;> dsimp only <;> omega

/-- A block's entry is the reference's entry there. -/
theorem blk_at (X : FVec Ideal S8192x2048 .f32) (G : FVec Ideal S2048 .f32) (W : FVec Ideal S2048x2048 .bf16) (HG : FVec Ideal S128 .f32) (i : Fin 8) (j : Fin 2) (p q : Fin 1024) :
    blk X G W HG i j (ix2 p q) = REF X G W HG (ix2 ⟨1024 * i.val + p.val, by omega⟩ ⟨1024 * j.val + q.val, by omega⟩) := by
  unfold blk
  obtain ⟨a, b, hq⟩ : ∃ (a : Fin 8) (b : Fin 128), q = ⟨128 * a.val + b.val, by omega⟩ :=
    ⟨⟨q.val / 128, by omega⟩, ⟨q.val % 128, by omega⟩, Fin.ext (by dsimp only; omega)⟩
  subst hq
  have e : (⟨1024 * j.val + (128 * a.val + b.val), by omega⟩ : Fin 2048) = ⟨128 * (⟨8 * j.val + a.val, by omega⟩ : Fin 16).val + b.val, by dsimp only; omega⟩ :=
    Fin.ext (by dsimp only; omega)
  refine (head_at _ _ _ p a b).trans (Eq.trans ?_ (congrArg (fun z => REF X G W HG (ix2 ⟨1024 * i.val + p.val, by omega⟩ z)) e).symm)
  refine Eq.trans ?_ (REF_at X G W HG _ ⟨8 * j.val + a.val, by omega⟩ b).symm
  refine congrArg (fun f => hd f (HG (ix1 b)) b) (funext fun d => ?_)
  rw [pay2_at, PR_at]
  exact congrArg (prd X G W _) (Fin.ext (by dsimp only; omega))

/-- The kernel's result array is the reference's. -/
theorem value (c : Dev nD) : (dats m 0 c).arrAt 4 cfg0.N = REF (aX m c) (aG m c) (aW m c) (aH m c) := by
  refine (dats m 0 c).arrAt_eq_of_covers 4 _ (by decide +kernel) fun t hf y => ?_
  blk_simp
  rw [after0_4, point m c t.val t.isLt]
  obtain ⟨p, q, rfl⟩ : ∃ p q, y = ix2 p q := ⟨y 0, y 1, by funext x; fin_cases x <;> rfl⟩
  refine (blk_at _ _ _ _ _ _ p q).trans ?_
  refine congrArg (REF (aX m c) (aG m c) (aW m c) (aH m c)) ?_
  unfold iOf jOf
  blk_ext [V, idx t]

end Cert.QProjIdeal.Result

end
-- ==== Proof.OP.lean ====
module

public import proofs.«01_k».proof.Proof.Gen.OProjIdeal.Value
public import proofs.«01_k».proof.Proof.Gen.OProjRefIdeal.Run
public import Idealize.ShloMosaic.Lib.Pipeline.ValueKit

@[expose] public section

set_option maxRecDepth 16384

noncomputable section

/-! The attention's output projection: the blocks the grid leaves are those of the plain product with the weights plus the residual. -/

open Idealize.ShloMosaic Idealize.ShloMosaic.TcCoe Idealize.SL.Sem

namespace Cert.OProjIdeal.Result

open Cert.OProjIdeal Cert.OProjIdeal.Gen

open Idealize.ShloMosaic.Pipeline (Dat)

/-- The reference's array: the residual stream plus the product with the output weights. -/
def REF (A : FVec Ideal S8192x2048 .bf16) (W : FVec Ideal S2048x2048 .bf16) (R : FVec Ideal S8192x2048 .f32) : FVec Ideal S8192x2048 .f32 :=
  addf R (Host.dotGeneral Cert.OProjRefIdeal.dot_S8192x2048_S2048x2048_S8192x2048_1_0_0_1_n_n none
    (extf .f32 A Cert.OProjRefIdeal.Gen.bitsLt_bf16_f32) (extf .f32 W Cert.OProjRefIdeal.Gen.bitsLt_bf16_f32))

theorem REF_at (A : FVec Ideal S8192x2048 .bf16) (W : FVec Ideal S2048x2048 .bf16) (R : FVec Ideal S8192x2048 .f32) (p : Fin 8192) (q : Fin 2048) :
    REF A W R (ix2 p q) = R (ix2 p q) + ∑ k : Fin 2048, A (ix2 p k) * W (ix2 k q) := by
  pointwise [REF]

theorem pay_at (r : Vec Ideal S1024x1024 .f32) (a : Vec Ideal S1024x2048 .bf16) (w : Vec Ideal S2048x1024 .bf16) (p : Fin 1024) (q : Fin 1024) :
    k0_pay1 r a w (ix2 p q) = r (ix2 p q) + ∑ k : Fin 2048, a (ix2 p k) * w (ix2 k q) := by
  pointwise [k0_pay1]

theorem zz : (![0, 0] : Fin 2 → ℕ) = fun _ => 0 := by funext i; fin_cases i <;> rfl

/-- The block a grid point leaves, from its three input blocks. -/
theorem out_eq (a : Vec Ideal S1024x2048 .bf16) (w : Vec Ideal S2048x1024 .bf16) (r : Vec Ideal S1024x1024 .f32) :
    out0_3 a w r = k0_pay1 r a w := by
  unfold out0_3
  refine (View.canon_unit_zero zz _ _).trans ?_
  rw [View.ld_unit_zero (S := S1024x1024) zz, View.ld_unit_zero (S := S1024x2048) zz, View.ld_unit_zero (S := S2048x1024) zz]

theorem idx : ∀ t : Fin cfg0.N, win0_0.index t = ![t.val / 2, 0] ∧ win0_1.index t = ![0, t.val % 2]
    ∧ win0_2.index t = ![t.val / 2, t.val % 2] ∧ win0_3.index t = ![t.val / 2, t.val % 2] :=
  (by decide +kernel : ∀ t : Fin grid0.N, _)

variable (m : (ℓ : Loc nD τ sig) → Buf (Elt Ideal) ℓ)

def aA (c : Dev nD) : FVec Ideal S8192x2048 .bf16 := m ((c : Thread nD τ).loc main_arg0)
def aW (c : Dev nD) : FVec Ideal S2048x2048 .bf16 := m ((c : Thread nD τ).loc main_arg1)
def aR (c : Dev nD) : FVec Ideal S8192x2048 .f32 := m ((c : Thread nD τ).loc main_arg2)

/-- The row block of a grid point. -/
def iOf (t : Fin cfg0.N) : Fin 8 := ⟨t.val / 2, by have h : t.val < 16 := t.isLt; omega⟩
/-- The column block of a grid point. -/
def jOf (t : Fin cfg0.N) : Fin 2 := ⟨t.val % 2, by omega⟩

theorem a_blk (c : Dev nD) (t : Fin cfg0.N) : (iblk m c 0 t : S1024x2048.Idx → EReal)
    = fun y => aA m c (ix2 ⟨1024 * (iOf t).val + (y 0).val, by have := (iOf t).isLt; have : (y 0).val < 1024 := (y 0).isLt; omega⟩ (y 1)) := by
  funext y
  unfold iOf aA
  blk_ext [iblk, V, idx t]

theorem w_blk (c : Dev nD) (t : Fin cfg0.N) : (iblk m c 1 t : S2048x1024.Idx → EReal)
    = fun y => aW m c (ix2 (y 0) ⟨1024 * (jOf t).val + (y 1).val, by have := (jOf t).isLt; have : (y 1).val < 1024 := (y 1).isLt; omega⟩) := by
  funext y
  unfold jOf aW
  blk_ext [iblk, V, idx t]

theorem r_blk (c : Dev nD) (t : Fin cfg0.N) : (iblk m c 2 t : S1024x1024.Idx → EReal)
    = fun y => aR m c (ix2 ⟨1024 * (iOf t).val + (y 0).val, by have := (iOf t).isLt; have : (y 0).val < 1024 := (y 0).isLt; omega⟩
        ⟨1024 * (jOf t).val + (y 1).val, by have := (jOf t).isLt; have : (y 1).val < 1024 := (y 1).isLt; omega⟩) := by
  funext y
  unfold iOf jOf aR
  blk_ext [iblk, V, idx t]

/-- The block left at a grid point is the reference's block there. -/
theorem block_eq (c : Dev nD) (t : Fin cfg0.N) (y : S1024x1024.Idx) :
    out0_3 (iblk m c 0 t) (iblk m c 1 t) (iblk m c 2 t) y
      = REF (aA m c) (aW m c) (aR m c)
        (ix2 ⟨1024 * (iOf t).val + (y 0).val, by have := (iOf t).isLt; have : (y 0).val < 1024 := (y 0).isLt; omega⟩
          ⟨1024 * (jOf t).val + (y 1).val, by have := (jOf t).isLt; have : (y 1).val < 1024 := (y 1).isLt; omega⟩) := by
  obtain ⟨p, q, rfl⟩ : ∃ p q, y = ix2 p q := ⟨y 0, y 1, by funext x; fin_cases x <;> rfl⟩
  rw [out_eq, REF_at]
  refine (pay_at _ _ _ p q).trans ?_
  rw [a_blk m c t, w_blk m c t, r_blk m c t]
  rfl

/-- The kernel's result array is the reference's. -/
theorem value (c : Dev nD) : (dats m 0 c).arrAt 3 cfg0.N = REF (aA m c) (aW m c) (aR m c) := by
  refine (dats m 0 c).arrAt_eq_of_covers 3 _ (by decide +kernel) fun t hf y => ?_
  blk_simp
  rw [after0_3]
  refine (block_eq m c t y).trans ?_
  refine congrArg (REF (aA m c) (aW m c) (aR m c)) ?_
  unfold iOf jOf
  blk_ext [V, idx t]

end Cert.OProjIdeal.Result

end
-- ==== Proof.KvS.lean ====
module

public import proofs.«01_k».proof.Proof.Gen.KvSampleIdeal.Value
public import proofs.«01_k».proof.Proof.Gen.KvSampleRefIdeal.Run
public import proofs.«01_k».proof.Proof.KvP
public import Idealize.ShloMosaic.Lib.Pipeline.ValueKit

@[expose] public section

set_option maxRecDepth 16384

noncomputable section

/-! The projection to keys and values of the sample's 256 rows: the first point norms the rows into the scratch, and each point multiplies them with its 512 columns of the weights; in the key columns each head of 128 columns is normed once more. -/

open Idealize.ShloMosaic Idealize.ShloMosaic.TcCoe Idealize.SL.Sem

namespace Cert.KvSampleIdeal.Result

open Cert.KvSampleIdeal Cert.KvSampleIdeal.Gen

open Idealize.ShloMosaic.Pipeline (Dat)

open Cert.KvProjIdeal.Result (zz hd)

/-- A load of a whole memref reads its contents. -/
theorem load_all {κ : Kind} {sp : Space} {S : Shape} {e : EltTy} (v : View sig κ sp S e) {off : Fin S.rank → ℕ} (h : off = fun _ => 0)
    (inb : ∀ a, off a + S.size a ≤ S.size a) (f : v.ty.Contents (Elt Ideal)) :
    View.readAt (Elt Ideal) v (Rect.unit off S.size inb).toLoadRect f = v.read (Elt Ideal) f :=
  View.ld_unit_zero h inb (v.read (Elt Ideal) f)

section
variable (c : Dev nD) (i : grid0.Coords) (arg2 : Memref sig .tc .vmem S256x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1x128 .f32) (harg5 : arg5.IsWhole) (arg6 : Memref sig .tc .vmem S256x512 .f32) (harg6 : arg6.IsWhole) (arg7 : Memref sig .tc .vmem S256x2048 .bf16) (harg7 : arg7.IsWhole)
  (x0 : Vec Ideal S256x2048 .f32) (x1 : Vec Ideal S1x2048 .f32) (x2 : Vec Ideal S2048x512 .bf16) (x3 : Vec Ideal S1x128 .f32) (xs : Vec Ideal S256x2048 .bf16)

/-- A block of keys: the product, each head normed. -/
def keyBlk (h : Vec Ideal S256x2048 .bf16) (w : Vec Ideal S2048x512 .bf16) (hg : Vec Ideal S1x128 .f32) : FVec Ideal S256x512 .f32 :=
  k0_pay3 h w (k0_pay4 (k0_pay2 h w) hg) (k0_pay5 (k0_pay2 h w) hg) (k0_pay6 (k0_pay2 h w) hg) hg

theorem normed : (kernelRun0_A.sl.HS0_1 (F := Ideal) c arg2 harg2 arg3 harg3 x0 x1)
    = [⟨Rect.unit ![0, 0] S256x2048.size inb_S256x2048_S256x2048_0_0, k0_pay1 x0 x1⟩] := by
  unfold kernelRun0_A.sl.HS0_1
  refine congrArg (fun w => [(⟨Rect.unit ![0, 0] S256x2048.size inb_S256x2048_S256x2048_0_0, w⟩ : View.Piece (Elt Ideal) S256x2048 .bf16)]) ?_
  refine congrArg₂ k0_pay1 ?_ ?_
  · exact (load_all arg2.view zz inb_S256x2048_S256x2048_0_0 _).trans (harg2.read_unread _)
  · exact (load_all arg3.view zz inb_S1x2048_S1x2048_0_0 _).trans (harg3.read_unread _)

/-- The rows read back from the scratch are the normed rows. -/
theorem scr_v : kernelRun0_A.sl.v3 c arg2 harg2 arg3 harg3 arg7 x0 x1 = k0_pay1 (F := Ideal) x0 x1 := by
  unfold kernelRun0_A.sl.v3
  rw [normed]
  exact View.readCov_unit_zero arg7.view zz inb_S256x2048_S256x2048_0_0 _

/-- The first point of a row block leaves the normed rows in the scratch. -/
theorem scr_A (hc0 : _) (hc1 : _) (hc2 : _) : sout0_A_0 c i arg2 harg2 arg3 harg3 arg4 harg4 arg5 harg5 arg6 harg6 arg7 harg7 hc0 hc1 hc2 x0 x1 x2 x3 = k0_pay1 x0 x1 := by
  unfold sout0_A_0 kernelRun0_A; dsimp only
  rw [normed, View.read_writes_junk_eq_canon]
  exact View.canon_unit_zero zz _ _

theorem out_A (hc0 : _) (hc1 : _) (hc2 : _) : out0_A_4 c i arg2 harg2 arg3 harg3 arg4 harg4 arg5 harg5 arg6 harg6 arg7 harg7 hc0 hc1 hc2 x0 x1 x2 x3 = keyBlk (k0_pay1 x0 x1) x2 x3 := by
  unfold out0_A_4 kernelRun0_A; dsimp only
  rw [View.read_writes_junk_eq_canon]
  refine (View.canon_unit_zero zz _ _).trans ?_
  have hw : View.readAt (Elt Ideal) arg4.view (Rect.unit ![0, 0] ![2048, 512] inb_S2048x512_S2048x512_0_0).toLoadRect (harg4.unread x2) = x2 :=
    (load_all arg4.view zz inb_S2048x512_S2048x512_0_0 _).trans (harg4.read_unread _)
  have hg : View.readAt (Elt Ideal) arg5.view (Rect.unit ![0, 0] ![1, 128] inb_S1x128_S1x128_0_0).toLoadRect (harg5.unread x3) = x3 :=
    (load_all arg5.view zz inb_S1x128_S1x128_0_0 _).trans (harg5.read_unread _)
  have hv := scr_v c arg2 harg2 arg3 harg3 arg7 x0 x1
  unfold kernelRun0_A.sl.r kernelRun0_A.sl.r_1 kernelRun0_A.sl.r_2
  rw [hw, hg, hv]
  rfl

theorem out_B (hc0 : _) (hc1 : _) (hc2 : _) : out0_B_4 c i arg2 harg2 arg3 harg3 arg4 harg4 arg5 harg5 arg6 harg6 arg7 harg7 hc0 hc1 hc2 x0 x1 x2 x3 xs = keyBlk xs x2 x3 := by
  unfold out0_B_4 kernelRun0_B; dsimp only
  rw [View.read_writes_junk_eq_canon]
  refine (View.canon_unit_zero zz _ _).trans ?_
  have hw : View.readAt (Elt Ideal) arg4.view (Rect.unit ![0, 0] ![2048, 512] inb_S2048x512_S2048x512_0_0).toLoadRect (harg4.unread x2) = x2 :=
    (load_all arg4.view zz inb_S2048x512_S2048x512_0_0 _).trans (harg4.read_unread _)
  have hg : View.readAt (Elt Ideal) arg5.view (Rect.unit ![0, 0] ![1, 128] inb_S1x128_S1x128_0_0).toLoadRect (harg5.unread x3) = x3 :=
    (load_all arg5.view zz inb_S1x128_S1x128_0_0 _).trans (harg5.read_unread _)
  have hs : View.readAt (Elt Ideal) arg7.view (Rect.unit ![0, 0] ![256, 2048] inb_S256x2048_S256x2048_0_0).toLoadRect (harg7.unread xs) = xs :=
    (load_all arg7.view zz inb_S256x2048_S256x2048_0_0 _).trans (harg7.read_unread _)
  unfold kernelRun0_B.sl.r kernelRun0_B.sl.r_1 kernelRun0_B.sl.r_2
  rw [hw, hg, hs]
  rfl

theorem out_C (hc0 : _) (hc1 : _) (hc2 : _) : out0_C_4 c i arg2 harg2 arg3 harg3 arg4 harg4 arg5 harg5 arg6 harg6 arg7 harg7 hc0 hc1 hc2 x0 x1 x2 x3 xs = k0_pay2 xs x2 := by
  unfold out0_C_4 kernelRun0_C; dsimp only
  rw [View.read_writes_junk_eq_canon]
  refine (View.canon_unit_zero zz _ _).trans ?_
  have hw : View.readAt (Elt Ideal) arg4.view (Rect.unit ![0, 0] ![2048, 512] inb_S2048x512_S2048x512_0_0).toLoadRect (harg4.unread x2) = x2 :=
    (load_all arg4.view zz inb_S2048x512_S2048x512_0_0 _).trans (harg4.read_unread _)
  have hs : View.readAt (Elt Ideal) arg7.view (Rect.unit ![0, 0] ![256, 2048] inb_S256x2048_S256x2048_0_0).toLoadRect (harg7.unread xs) = xs :=
    (load_all arg7.view zz inb_S256x2048_S256x2048_0_0 _).trans (harg7.read_unread _)
  rw [hs, hw]

end

theorem idx : ∀ t : Fin cfg0.N, win0_0.index t = ![0, 0] ∧ win0_1.index t = ![0, 0]
    ∧ win0_2.index t = ![0, t.val] ∧ win0_3.index t = ![0, 0] ∧ win0_4.index t = ![0, t.val] :=
  (by decide +kernel : ∀ t : Fin grid0.N, _)

variable (m : (ℓ : Loc nD τ sig) → Buf (Elt Ideal) ℓ)

def aX (c : Dev nD) : FVec Ideal S256x2048 .f32 := m ((c : Thread nD τ).loc main_arg0)
def aG (c : Dev nD) : FVec Ideal S2048 .f32 := m ((c : Thread nD τ).loc main_arg1)
def aW (c : Dev nD) : FVec Ideal S2048x4096 .bf16 := m ((c : Thread nD τ).loc main_arg2)
def aH (c : Dev nD) : FVec Ideal S128 .f32 := m ((c : Thread nD τ).loc main_arg3)

/-- The scale as one row. -/
def gRow (G : FVec Ideal S2048 .f32) : FVec Ideal S1x2048 .f32 := fun y => G (ix1 (y 1))
/-- Column block `n` of the weights. -/
def wBlk (W : FVec Ideal S2048x4096 .bf16) (n : Fin 8) : FVec Ideal S2048x512 .bf16 := fun y =>
  W (ix2 (y 0) ⟨512 * n.val + (y 1).val, by have := n.isLt; have : (y 1).val < 512 := (y 1).isLt; omega⟩)
/-- The keys' scale as one row. -/
def hRow (HG : FVec Ideal S128 .f32) : FVec Ideal S1x128 .f32 := fun y => HG (ix1 (y 1))

/-- The column block of a grid point. -/
def jOf (t : Fin cfg0.N) : Fin 8 := ⟨t.val, t.isLt⟩

theorem blk_x (c : Dev nD) (t : Fin cfg0.N) : iblk m c 0 t = aX m c := by
  funext y
  unfold aX
  blk_ext [iblk, V_main_arg0, idx t]

theorem blk_g (c : Dev nD) (t : Fin cfg0.N) : iblk m c 1 t = gRow (aG m c) := by
  funext y
  unfold gRow aG
  blk_simp [iblk, V, idx t]
  entry_read
  pointwise
  blk_ext [iblk, V, idx t]

theorem blk_w (c : Dev nD) (t : Fin cfg0.N) : iblk m c 2 t = wBlk (aW m c) (jOf t) := by
  funext y
  unfold wBlk jOf aW
  blk_ext [iblk, V_main_arg2, idx t]

theorem blk_h (c : Dev nD) (t : Fin cfg0.N) : iblk m c 3 t = hRow (aH m c) := by
  funext y
  unfold hRow aH
  blk_simp [iblk, V, idx t]
  entry_read
  pointwise
  blk_ext [iblk, V, idx t]

/-- The rows, normed and scaled. -/
def nrm (X : FVec Ideal S256x2048 .f32) (G : FVec Ideal S2048 .f32) : Vec Ideal S256x2048 .bf16 :=
  k0_pay1 (F := Ideal) X (gRow G)

/-- The output block at column block `j`: the first four are keys. -/
def blk (X : FVec Ideal S256x2048 .f32) (G : FVec Ideal S2048 .f32) (W : FVec Ideal S2048x4096 .bf16) (HG : FVec Ideal S128 .f32) (j : Fin 8) : FVec Ideal S256x512 .f32 :=
  if j.val < 4 then keyBlk (nrm X G) (wBlk W j) (hRow HG) else k0_pay2 (F := Ideal) (nrm X G) (wBlk W j)

/-- What a grid point leaves: its output block, and the normed rows in the scratch. -/
def left (X : FVec Ideal S256x2048 .f32) (G : FVec Ideal S2048 .f32) (W : FVec Ideal S2048x4096 .bf16) (HG : FVec Ideal S128 .f32) (j : Fin 8) :
    Vec Ideal S256x512 .f32 × Vec Ideal S256x2048 .bf16 :=
  (blk X G W HG j, nrm X G)

theorem point (c : Dev nD) : ∀ (n : ℕ) (hn : n < cfg0.N),
    outsAt0 m c n hn = left (aX m c) (aG m c) (aW m c) (aH m c) (jOf ⟨n, hn⟩) := by
  intro n
  induction n with
  | zero =>
    intro hn
    refine (outsAt0_A m c ⟨0, hn⟩ rfl (by dsimp only; omega) (by dsimp only; omega)).trans ?_
    rw [out_A, scr_A, blk_x, blk_g, blk_w, blk_h]
    rfl
  | succ n ih =>
    intro hn
    have h8 : n + 1 < 8 := hn
    have hp : (outsAt0 m c (n + 1 - 1) (lt_of_le_of_lt (Nat.sub_le _ _) hn)).2 = nrm (aX m c) (aG m c) :=
      congrArg (fun o => o.2) (ih (Nat.lt_of_succ_lt hn))
    by_cases h : n + 1 < 4
    · refine (outsAt0_B m c ⟨n + 1, hn⟩ (by dsimp only; omega) h (by dsimp only; omega)).trans ?_
      unfold sout0_B_0
      rw [out_B, hp, blk_w, blk_h]
      unfold left blk
      rw [if_pos (show (jOf ⟨n + 1, hn⟩).val < 4 from h)]
    · refine (outsAt0_C m c ⟨n + 1, hn⟩ (by dsimp only; omega) h (by dsimp only; omega)).trans ?_
      unfold sout0_C_0
      rw [out_C, hp, blk_w]
      unfold left blk
      rw [if_neg (show ¬(jOf ⟨n + 1, hn⟩).val < 4 from h)]

/-- The reference's product. -/
def PR (X : FVec Ideal S256x2048 .f32) (G : FVec Ideal S2048 .f32) (W : FVec Ideal S2048x4096 .bf16) : FVec Ideal S256x4096 .f32 :=
  Host.dotGeneral Cert.KvSampleRefIdeal.dot_S256x2048_S2048x4096_S256x4096_1_0_0_1_n_n none (mulf (mulf X (broadcastInDim Cert.KvSampleRefIdeal.S256x2048 ![0, 1] Cert.KvSampleRefIdeal.Gen.bcast_S256x1_S256x2048_0_1 (Host.rsqrt (addf (Host.divf (broadcastInDim Cert.KvSampleRefIdeal.S256x1 ![0] Cert.KvSampleRefIdeal.Gen.bcast_S256_S256x1_0 (Host.reduceAdd (mulf X X) (constant Cert.KvSampleRefIdeal.S_ .f32 0x00000000#32) Cert.KvSampleRefIdeal.Gen.reducesTo_S256x2048_S256_d1 Cert.KvSampleRefIdeal.Gen.h_S_)) (broadcastInDim Cert.KvSampleRefIdeal.S256x1 ![] Cert.KvSampleRefIdeal.Gen.bcast_S_S256x1 (constant Cert.KvSampleRefIdeal.S_ .f32 0x45000000#32))) (broadcastInDim Cert.KvSampleRefIdeal.S256x1 ![] Cert.KvSampleRefIdeal.Gen.bcast_S_S256x1 (constant Cert.KvSampleRefIdeal.S_ .f32 0x3727C5AC#32)))))) (broadcastInDim Cert.KvSampleRefIdeal.S256x2048 ![0, 1] Cert.KvSampleRefIdeal.Gen.bcast_S1x2048_S256x2048_0_1 (broadcastInDim Cert.KvSampleRefIdeal.S1x2048 ![1] Cert.KvSampleRefIdeal.Gen.bcast_S2048_S1x2048_1 G))) (extf .f32 W Cert.KvSampleRefIdeal.Gen.bitsLt_bf16_f32)

/-- The reference's array. -/
def REF (X : FVec Ideal S256x2048 .f32) (G : FVec Ideal S2048 .f32) (W : FVec Ideal S2048x4096 .bf16) (HG : FVec Ideal S128 .f32) : FVec Ideal S256x4096 .f32 :=
  concatenate Cert.KvSampleRefIdeal.S256x4096 1 [⟨Cert.KvSampleRefIdeal.S256x2048, (shapeCast _ (mulf (mulf (shapeCast _ (extractStridedSlice Cert.KvSampleRefIdeal.S256x2048 ![0, 0] (PR X G W) Cert.KvSampleRefIdeal.Gen.slices_S256x4096_S256x2048_0_0) Cert.KvSampleRefIdeal.Gen.shapeCasts_S256x2048_S256x16x128) (broadcastInDim Cert.KvSampleRefIdeal.S256x16x128 ![0, 1, 2] Cert.KvSampleRefIdeal.Gen.bcast_S256x16x1_S256x16x128_0_1_2 (Host.rsqrt (addf (Host.divf (broadcastInDim Cert.KvSampleRefIdeal.S256x16x1 ![0, 1] Cert.KvSampleRefIdeal.Gen.bcast_S256x16_S256x16x1_0_1 (Host.reduceAdd (mulf (shapeCast _ (extractStridedSlice Cert.KvSampleRefIdeal.S256x2048 ![0, 0] (PR X G W) Cert.KvSampleRefIdeal.Gen.slices_S256x4096_S256x2048_0_0) Cert.KvSampleRefIdeal.Gen.shapeCasts_S256x2048_S256x16x128) (shapeCast _ (extractStridedSlice Cert.KvSampleRefIdeal.S256x2048 ![0, 0] (PR X G W) Cert.KvSampleRefIdeal.Gen.slices_S256x4096_S256x2048_0_0) Cert.KvSampleRefIdeal.Gen.shapeCasts_S256x2048_S256x16x128)) (constant Cert.KvSampleRefIdeal.S_ .f32 0x00000000#32) Cert.KvSampleRefIdeal.Gen.reducesTo_S256x16x128_S256x16_d2 Cert.KvSampleRefIdeal.Gen.h_S_)) (broadcastInDim Cert.KvSampleRefIdeal.S256x16x1 ![] Cert.KvSampleRefIdeal.Gen.bcast_S_S256x16x1 (constant Cert.KvSampleRefIdeal.S_ .f32 0x43000000#32))) (broadcastInDim Cert.KvSampleRefIdeal.S256x16x1 ![] Cert.KvSampleRefIdeal.Gen.bcast_S_S256x16x1 (constant Cert.KvSampleRefIdeal.S_ .f32 0x3727C5AC#32)))))) (broadcastInDim Cert.KvSampleRefIdeal.S256x16x128 ![0, 1, 2] Cert.KvSampleRefIdeal.Gen.bcast_S1x1x128_S256x16x128_0_1_2 (broadcastInDim Cert.KvSampleRefIdeal.S1x1x128 ![2] Cert.KvSampleRefIdeal.Gen.bcast_S128_S1x1x128_2 HG))) Cert.KvSampleRefIdeal.Gen.shapeCasts_S256x16x128_S256x2048)⟩, ⟨Cert.KvSampleRefIdeal.S256x2048, (extractStridedSlice Cert.KvSampleRefIdeal.S256x2048 ![0, 2048] (PR X G W) Cert.KvSampleRefIdeal.Gen.slices_S256x4096_S256x2048_0_2048)⟩] Cert.KvSampleRefIdeal.Gen.concatenates_S256x2048_S256x2048_S256x4096_d1

/-- The root mean square's reciprocal of a row. -/
def inv (X : FVec Ideal S256x2048 .f32) (p : Fin 256) : EReal :=
  Ideal.rsqrt (Ideal.div (∑ k : Fin 2048, X (ix2 p k) * X (ix2 p k)) (Ideal.ofBits .f32 0x45000000#32) + Ideal.ofBits .f32 0x3727C5AC#32)

/-- An entry of the product. -/
def prd (X : FVec Ideal S256x2048 .f32) (G : FVec Ideal S2048 .f32) (W : FVec Ideal S2048x4096 .bf16) (p : Fin 256) (q : Fin 4096) : EReal :=
  ∑ k : Fin 2048, X (ix2 p k) * inv X p * G (ix1 k) * W (ix2 k q)

theorem PR_at (X : FVec Ideal S256x2048 .f32) (G : FVec Ideal S2048 .f32) (W : FVec Ideal S2048x4096 .bf16) (p : Fin 256) (q : Fin 4096) :
    PR X G W (ix2 p q) = prd X G W p q := by
  pointwise [PR, prd, inv]

theorem REF_key (X : FVec Ideal S256x2048 .f32) (G : FVec Ideal S2048 .f32) (W : FVec Ideal S2048x4096 .bf16) (HG : FVec Ideal S128 .f32) (p : Fin 256) (a : Fin 16) (b : Fin 128) :
    REF X G W HG (ix2 p ⟨128 * a.val + b.val, by omega⟩) = hd (fun d => PR X G W (ix2 p ⟨128 * a.val + d.val, by omega⟩)) (HG (ix1 b)) b := by
  unfold REF
  generalize PR X G W = P
  pointwise [hd]
  rw [dif_pos (by omega)]
  simp only [Nat.mul_comm a.val 128]

theorem REF_val (X : FVec Ideal S256x2048 .f32) (G : FVec Ideal S2048 .f32) (W : FVec Ideal S2048x4096 .bf16) (HG : FVec Ideal S128 .f32) (p : Fin 256) (q : Fin 4096) (h : ¬q.val < 2048) :
    REF X G W HG (ix2 p q) = PR X G W (ix2 p q) := by
  unfold REF
  generalize PR X G W = P
  pointwise
  rw [dif_neg h]
  exact congrArg P (congrArg (ix2 p) (Fin.ext (by dsimp only; omega)))

theorem pay2_at (X : FVec Ideal S256x2048 .f32) (G : FVec Ideal S2048 .f32) (W : FVec Ideal S2048x4096 .bf16) (j : Fin 8) (p : Fin 256) (q : Fin 512) :
    k0_pay2 (F := Ideal) (nrm X G) (wBlk W j) (ix2 p q) = prd X G W p ⟨512 * j.val + q.val, by omega⟩ := by
  pointwise [prd, nrm, k0_pay1, k0_pay2, gRow, wBlk, inv]

set_option maxHeartbeats 2000000 in
/-- An entry of a block of keys. -/
theorem key_at (h : Vec Ideal S256x2048 .bf16) (w : Vec Ideal S2048x512 .bf16) (hg : Vec Ideal S1x128 .f32) (p : Fin 256) (a : Fin 4) (b : Fin 128) :
    keyBlk h w hg (ix2 p ⟨128 * a.val + b.val, by omega⟩) = hd (fun d => k0_pay2 h w (ix2 p ⟨128 * a.val + d.val, by omega⟩)) (hg (ix2 0 b)) b := by
  unfold keyBlk k0_pay3
  dsimp only
  generalize k0_pay2 h w = P
  have hb := b.isLt
  fin_cases a <;> pointwise [k0_pay4, k0_pay5, k0_pay6, hd]
  all_goals
    repeat (first | rw [dif_pos (by omega)] | rw [dif_neg (by omega)])
  all_goals
    refine congrArg₂ (· * ·) (congrArg (· * _) (congrArg P (congrArg (ix2 p) (Fin.ext ?_)))) (congrArg hg (congrArg (ix2 0) (Fin.ext ?_))) <;> dsimp only <;> omega

/-- A block's entry is the reference's entry there. -/
theorem blk_at (X : FVec Ideal S256x2048 .f32) (G : FVec Ideal S2048 .f32) (W : FVec Ideal S2048x4096 .bf16) (HG : FVec Ideal S128 .f32) (j : Fin 8) (p : Fin 256) (q : Fin 512) :
    blk X G W HG j (ix2 p q) = REF X G W HG (ix2 p ⟨512 * j.val + q.val, by omega⟩) := by
  unfold blk
  by_cases h : j.val < 4
  · rw [if_pos h]
    obtain ⟨a, b, hq⟩ : ∃ (a : Fin 4) (b : Fin 128), q = ⟨128 * a.val + b.val, by omega⟩ :=
      ⟨⟨q.val / 128, by omega⟩, ⟨q.val % 128, by omega⟩, Fin.ext (by dsimp only; omega)⟩
    subst hq
    have e : (⟨512 * j.val + (128 * a.val + b.val), by omega⟩ : Fin 4096) = ⟨128 * (⟨4 * j.val + a.val, by omega⟩ : Fin 16).val + b.val, by dsimp only; omega⟩ :=
      Fin.ext (by dsimp only; omega)
    refine (key_at _ _ _ p a b).trans (Eq.trans ?_ (congrArg (fun z => REF X G W HG (ix2 p z)) e).symm)
    refine Eq.trans ?_ (REF_key X G W HG _ ⟨4 * j.val + a.val, by omega⟩ b).symm
    refine congrArg (fun f => hd f (HG (ix1 b)) b) (funext fun d => ?_)
    rw [pay2_at, PR_at]
    exact congrArg (prd X G W _) (Fin.ext (by dsimp only; omega))
  · rw [if_neg h, REF_val _ _ _ _ _ _ (by dsimp only; omega), PR_at]
    exact pay2_at X G W j p q

/-- The result array is the reference's. -/
theorem value (c : Dev nD) : (dats m 0 c).arrAt 4 cfg0.N = REF (aX m c) (aG m c) (aW m c) (aH m c) := by
  refine (dats m 0 c).arrAt_eq_of_covers 4 _ (by decide +kernel) fun t hf y => ?_
  blk_simp
  rw [after0_4, point m c t.val t.isLt]
  obtain ⟨p, q, rfl⟩ : ∃ p q, y = ix2 p q := ⟨y 0, y 1, by funext x; fin_cases x <;> rfl⟩
  refine (blk_at _ _ _ _ _ p q).trans ?_
  refine congrArg (REF (aX m c) (aG m c) (aW m c) (aH m c)) ?_
  unfold jOf
  blk_ext [V, idx t]

end Cert.KvSampleIdeal.Result

end
-- ==== Proof.ForgS.lean ====
module

public import proofs.«01_k».proof.Proof.Gen.ForgetSampleIdeal.Value
public import proofs.«01_k».proof.Proof.Gen.ForgetSampleRefIdeal.Run
public import proofs.«01_k».proof.Proof.LogF
public import Idealize.ShloMosaic.Lib.Pipeline.ValueKit

@[expose] public section

set_option maxRecDepth 16384

noncomputable section

/-! The log forget gates of the sample's 256 rows, which are one block: the rows are normed, multiplied with the weights padded to 128 columns, the padded bias is added and the log of the sigmoid taken. -/

open Idealize.ShloMosaic Idealize.ShloMosaic.TcCoe Idealize.SL.Sem

namespace Cert.ForgetSampleIdeal.Result

open Cert.ForgetSampleIdeal Cert.ForgetSampleIdeal.Gen

open Idealize.ShloMosaic.Pipeline (Dat)

open Cert.LogForgetIdeal.Result (zz lsg int_zero)

/-- The block left at the grid point, from the blocks of its inputs. -/
theorem out_eq (x0 : Vec Ideal S256x2048 .f32) (x1 : Vec Ideal S1x2048 .f32) (x2 : Vec Ideal S2048x128 .bf16) (x3 : Vec Ideal S1x128 .f32) :
    out0_4 x0 x1 x2 x3 = k0_pay1 x0 x1 x2 x3 := by
  unfold out0_4
  refine (View.canon_unit_zero zz _ _).trans ?_
  rw [View.ld_unit_zero (S := S256x2048) zz, View.ld_unit_zero (S := S1x2048) zz, View.ld_unit_zero (S := S2048x128) zz, View.ld_unit_zero (S := S1x128) zz]

theorem idx : ∀ t : Fin cfg0.N, win0_0.index t = ![0, 0] ∧ win0_1.index t = ![0, 0]
    ∧ win0_2.index t = ![0, 0] ∧ win0_3.index t = ![0, 0] ∧ win0_4.index t = ![0, 0] :=
  (by decide +kernel : ∀ t : Fin grid0.N, _)

variable (m : (ℓ : Loc nD τ sig) → Buf (Elt Ideal) ℓ)

def aX (c : Dev nD) : FVec Ideal S256x2048 .f32 := m ((c : Thread nD τ).loc main_arg0)
def aG (c : Dev nD) : FVec Ideal S2048 .f32 := m ((c : Thread nD τ).loc main_arg1)
def aW (c : Dev nD) : FVec Ideal S2048x16 .f32 := m ((c : Thread nD τ).loc main_arg2)
def aB (c : Dev nD) : FVec Ideal S16 .f32 := m ((c : Thread nD τ).loc main_arg3)

/-- The scale as one row. -/
def gRow (G : FVec Ideal S2048 .f32) : FVec Ideal S1x2048 .f32 := shapeCast S1x2048 G shapeCasts_S2048_S1x2048
/-- The weights, padded with zero columns. -/
def wPad (W : FVec Ideal S2048x16 .f32) : FVec Ideal S2048x128 .bf16 :=
  truncf .bf16 (pad S2048x128 ![0, 0] ![0, 112] ![0, 0] W (sitofp .f32 (constantI S_ 32 0#32)) pads_S2048x16_S2048x128_000_01120 h_S_) bitsLt_bf16_f32
/-- The bias as one row, padded with zeros. -/
def bPad (B : FVec Ideal S16 .f32) : FVec Ideal S1x128 .f32 :=
  shapeCast S1x128 (pad S128 ![0] ![112] ![0] B (sitofp .f32 (constantI S_ 32 0#32)) pads_S16_S128_01120 h_S_) shapeCasts_S128_S1x128

theorem V_g (c : Dev nD) : V m c main_v4 = gRow (aG m c) := by
  unfold V
  simp only [List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results
  rfl

theorem V_w (c : Dev nD) : V m c main_v1 = wPad (aW m c) := by
  unfold V
  simp only [List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results
  rfl

theorem V_b (c : Dev nD) : V m c main_v3 = bPad (aB m c) := by
  unfold V
  simp only [List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results
  rfl

theorem blk_x (c : Dev nD) (t : Fin cfg0.N) : iblk m c 0 t = aX m c := by
  funext y
  unfold aX
  blk_ext [iblk, V_main_arg0, idx t]

theorem read_g (t : Fin cfg0.N) (X : Vec Ideal S1x2048 .f32) : ((cfg0.win 1).blk t).view.read (Elt Ideal) X = X := by
  funext y
  blk_ext [idx t]

theorem read_w (t : Fin cfg0.N) (X : Vec Ideal S2048x128 .bf16) : ((cfg0.win 2).blk t).view.read (Elt Ideal) X = X := by
  funext y
  blk_ext [idx t]

theorem read_b (t : Fin cfg0.N) (X : Vec Ideal S1x128 .f32) : ((cfg0.win 3).blk t).view.read (Elt Ideal) X = X := by
  funext y
  blk_ext [idx t]

theorem blk_g (c : Dev nD) (t : Fin cfg0.N) : iblk m c 1 t = gRow (aG m c) := (read_g t _).trans (V_g m c)
theorem blk_w (c : Dev nD) (t : Fin cfg0.N) : iblk m c 2 t = wPad (aW m c) := (read_w t _).trans (V_w m c)
theorem blk_b (c : Dev nD) (t : Fin cfg0.N) : iblk m c 3 t = bPad (aB m c) := (read_b t _).trans (V_b m c)

/-- The reference's logits, padded with zero columns. -/
def ZR (X : FVec Ideal S256x2048 .f32) (G : FVec Ideal S2048 .f32) (W : FVec Ideal S2048x16 .f32) (B : FVec Ideal S16 .f32) : FVec Ideal S256x128 .f32 :=
  pad Cert.ForgetSampleRefIdeal.S256x128 ![0, 0] ![0, 112] ![0, 0] (addf (Host.dotGeneral Cert.ForgetSampleRefIdeal.dot_S256x2048_S2048x16_S256x16_1_0_0_1_n_n none (mulf (mulf X (broadcastInDim Cert.ForgetSampleRefIdeal.S256x2048 ![0, 1] Cert.ForgetSampleRefIdeal.Gen.bcast_S256x1_S256x2048_0_1 (Host.rsqrt (addf (Host.divf (broadcastInDim Cert.ForgetSampleRefIdeal.S256x1 ![0] Cert.ForgetSampleRefIdeal.Gen.bcast_S256_S256x1_0 (Host.reduceAdd (mulf X X) (constant Cert.ForgetSampleRefIdeal.S_ .f32 0x00000000#32) Cert.ForgetSampleRefIdeal.Gen.reducesTo_S256x2048_S256_d1 Cert.ForgetSampleRefIdeal.Gen.h_S_)) (broadcastInDim Cert.ForgetSampleRefIdeal.S256x1 ![] Cert.ForgetSampleRefIdeal.Gen.bcast_S_S256x1 (constant Cert.ForgetSampleRefIdeal.S_ .f32 0x45000000#32))) (broadcastInDim Cert.ForgetSampleRefIdeal.S256x1 ![] Cert.ForgetSampleRefIdeal.Gen.bcast_S_S256x1 (constant Cert.ForgetSampleRefIdeal.S_ .f32 0x3727C5AC#32)))))) (broadcastInDim Cert.ForgetSampleRefIdeal.S256x2048 ![0, 1] Cert.ForgetSampleRefIdeal.Gen.bcast_S1x2048_S256x2048_0_1 (broadcastInDim Cert.ForgetSampleRefIdeal.S1x2048 ![1] Cert.ForgetSampleRefIdeal.Gen.bcast_S2048_S1x2048_1 G))) W) (broadcastInDim Cert.ForgetSampleRefIdeal.S256x16 ![0, 1] Cert.ForgetSampleRefIdeal.Gen.bcast_S1x16_S256x16_0_1 (broadcastInDim Cert.ForgetSampleRefIdeal.S1x16 ![1] Cert.ForgetSampleRefIdeal.Gen.bcast_S16_S1x16_1 B))) (sitofp .f32 (constantI Cert.ForgetSampleRefIdeal.S_ 32 0#32)) Cert.ForgetSampleRefIdeal.Gen.pads_S256x16_S256x128_000_01120 Cert.ForgetSampleRefIdeal.Gen.h_S_

/-- The reference's array. -/
def REF (X : FVec Ideal S256x2048 .f32) (G : FVec Ideal S2048 .f32) (W : FVec Ideal S2048x16 .f32) (B : FVec Ideal S16 .f32) : FVec Ideal S256x128 .f32 :=
  Host.negf (select (cmpf .une (subf (Host.negf (ZR X G W B)) (broadcastInDim Cert.ForgetSampleRefIdeal.S256x128 ![] Cert.ForgetSampleRefIdeal.Gen.bcast_S_S256x128 (constant Cert.ForgetSampleRefIdeal.S_ .f32 0x00000000#32))) (subf (Host.negf (ZR X G W B)) (broadcastInDim Cert.ForgetSampleRefIdeal.S256x128 ![] Cert.ForgetSampleRefIdeal.Gen.bcast_S_S256x128 (constant Cert.ForgetSampleRefIdeal.S_ .f32 0x00000000#32)))) (addf (Host.negf (ZR X G W B)) (broadcastInDim Cert.ForgetSampleRefIdeal.S256x128 ![] Cert.ForgetSampleRefIdeal.Gen.bcast_S_S256x128 (constant Cert.ForgetSampleRefIdeal.S_ .f32 0x00000000#32))) (addf (maximumf (Host.negf (ZR X G W B)) (broadcastInDim Cert.ForgetSampleRefIdeal.S256x128 ![] Cert.ForgetSampleRefIdeal.Gen.bcast_S_S256x128 (constant Cert.ForgetSampleRefIdeal.S_ .f32 0x00000000#32))) (Host.log1p (Host.exp (Host.negf (Host.absf (subf (Host.negf (ZR X G W B)) (broadcastInDim Cert.ForgetSampleRefIdeal.S256x128 ![] Cert.ForgetSampleRefIdeal.Gen.bcast_S_S256x128 (constant Cert.ForgetSampleRefIdeal.S_ .f32 0x00000000#32)))))))))

/-- The root mean square's reciprocal of a row. -/
def inv (X : FVec Ideal S256x2048 .f32) (p : Fin 256) : EReal :=
  Ideal.rsqrt (Ideal.div (∑ k : Fin 2048, X (ix2 p k) * X (ix2 p k)) (Ideal.ofBits .f32 0x45000000#32) + Ideal.ofBits .f32 0x3727C5AC#32)

/-- The logit of row `p`, lane `q`: zero in the padded lanes. -/
def lgt (X : FVec Ideal S256x2048 .f32) (G : FVec Ideal S2048 .f32) (W : FVec Ideal S2048x16 .f32) (B : FVec Ideal S16 .f32) (p : Fin 256) (q : Fin 128) : EReal :=
  if h : q.val < 16 then (∑ k : Fin 2048, X (ix2 p k) * inv X p * G (ix1 k) * W (ix2 k ⟨q.val, h⟩)) + B (ix1 ⟨q.val, h⟩) else 0

theorem wPad_at (W : FVec Ideal S2048x16 .f32) (k : Fin 2048) (q : Fin 128) : wPad W (ix2 k q) = if h : q.val < 16 then W (ix2 k ⟨q.val, h⟩) else 0 := by
  pointwise [wPad]
  split
  · rfl
  · exact int_zero

theorem bPad_at (B : FVec Ideal S16 .f32) (q : Fin 128) : bPad B (ix2 0 q) = if h : q.val < 16 then B (ix1 ⟨q.val, h⟩) else 0 := by
  pointwise [bPad]
  split
  · rfl
  · exact int_zero

theorem ZR_at (X : FVec Ideal S256x2048 .f32) (G : FVec Ideal S2048 .f32) (W : FVec Ideal S2048x16 .f32) (B : FVec Ideal S16 .f32) (p : Fin 256) (q : Fin 128) :
    ZR X G W B (ix2 p q) = lgt X G W B p q := by
  unfold lgt
  pointwise [ZR, inv]
  split
  · rfl
  · exact int_zero

theorem REF_at (X : FVec Ideal S256x2048 .f32) (G : FVec Ideal S2048 .f32) (W : FVec Ideal S2048x16 .f32) (B : FVec Ideal S16 .f32) (p : Fin 256) (q : Fin 128) :
    REF X G W B (ix2 p q) = lsg (lgt X G W B p q) := by
  rw [← ZR_at]
  unfold lsg
  pointwise [REF]
  rw [if_neg (fun h => h rfl)]

/-- The kernel's logit is the same: a zero column of weights sums to zero. -/
theorem lgt_pad (X : FVec Ideal S256x2048 .f32) (G : FVec Ideal S2048 .f32) (W : FVec Ideal S2048x16 .f32) (B : FVec Ideal S16 .f32) (p : Fin 256) (q : Fin 128) :
    (∑ k : Fin 2048, X (ix2 p k) * inv X p * G (ix1 k) * wPad W (ix2 k q)) + bPad B (ix2 0 q) = lgt X G W B p q := by
  unfold lgt
  rw [bPad_at]
  by_cases h : q.val < 16
  · rw [dif_pos h, dif_pos h]
    refine congrArg (· + _) (Finset.sum_congr rfl fun k _ => ?_)
    rw [wPad_at, dif_pos h]
  · rw [dif_neg h, dif_neg h, add_zero]
    refine Finset.sum_eq_zero fun k _ => ?_
    rw [wPad_at, dif_neg h, mul_zero]

/-- An entry of the block is the reference's. -/
theorem gat_at (X : FVec Ideal S256x2048 .f32) (G : FVec Ideal S2048 .f32) (W : FVec Ideal S2048x16 .f32) (B : FVec Ideal S16 .f32) (p : Fin 256) (q : Fin 128) :
    k0_pay1 (F := Ideal) X (gRow G) (wPad W) (bPad B) (ix2 p q) = REF X G W B (ix2 p q) := by
  rw [REF_at, ← lgt_pad]
  unfold lsg
  pointwise [k0_pay1, gRow, inv]
  simp only [zero_sub]

/-- The kernel's result array is the reference's. -/
theorem value (c : Dev nD) : (dats m 0 c).arrAt 4 cfg0.N = REF (aX m c) (aG m c) (aW m c) (aB m c) := by
  refine (dats m 0 c).arrAt_eq_of_covers 4 _ (by decide +kernel) fun t hf y => ?_
  blk_simp
  rw [after0_4, out_eq, blk_x, blk_g, blk_w, blk_b]
  obtain ⟨p, q, rfl⟩ : ∃ p q, y = ix2 p q := ⟨y 0, y 1, by funext x; fin_cases x <;> rfl⟩
  refine (gat_at _ _ _ _ p q).trans ?_
  refine congrArg (REF (aX m c) (aG m c) (aW m c) (aB m c)) ?_
  blk_ext [V, idx t]

end Cert.ForgetSampleIdeal.Result

end
-- ==== Proof.Mix.lean ====
module

public import proofs.«01_k».proof.Proof.Gen.MixerIdeal.Value
public import proofs.«01_k».proof.Proof.Gen.MixerRefIdeal.Run
public import Idealize.ShloMosaic.Lib.Pipeline.ValueKit

@[expose] public section

set_option maxRecDepth 16384

noncomputable section

/-! The mixer's convolution state: each chunk places its rows of the projection below eight rows kept from the chunk before, and hands on its own last eight rows; after the last chunk these are the projection's last eight rows. -/

open Idealize.ShloMosaic Idealize.ShloMosaic.TcCoe Idealize.SL.Sem

namespace Cert.MixerIdeal.Result

open Cert.MixerIdeal Cert.MixerIdeal.Gen

open Idealize.ShloMosaic.Pipeline (Dat)

theorem zz : (![0, 0] : Fin 2 → ℕ) = fun _ => 0 := by funext i; fin_cases i <;> rfl
theorem zzz : (![0, 0, 0] : Fin 3 → ℕ) = fun _ => 0 := by funext i; fin_cases i <;> rfl

/-- A load of a whole memref reads its contents. -/
theorem load_all {κ : Kind} {sp : Space} {S : Shape} {e : EltTy} (v : View sig κ sp S e) {off : Fin S.rank → ℕ} (h : off = fun _ => 0)
    (inb : ∀ a, off a + S.size a ≤ S.size a) (f : v.ty.Contents (Elt Ideal)) :
    View.readAt (Elt Ideal) v (Rect.unit off S.size inb).toLoadRect f = v.read (Elt Ideal) f :=
  View.ld_unit_zero h inb (v.read (Elt Ideal) f)

/-- The last eight rows of a chunk, from its three column blocks. -/
def tail (x : Vec Ideal S128x4096 .f32) (b c : Vec Ideal S128x1024 .f32) : Vec Ideal S8x6144 .f32 := fun y =>
  if h : (y 1).val < 4096 then x (ix2 ⟨120 + (y 0).val, by have : (y 0).val < 8 := (y 0).isLt; omega⟩ ⟨(y 1).val, h⟩)
  else if h' : (y 1).val < 5120 then b (ix2 ⟨120 + (y 0).val, by have : (y 0).val < 8 := (y 0).isLt; omega⟩ ⟨(y 1).val - 4096, by omega⟩)
  else c (ix2 ⟨120 + (y 0).val, by have : (y 0).val < 8 := (y 0).isLt; omega⟩ ⟨(y 1).val - 5120, by have : (y 1).val < 6144 := (y 1).isLt; omega⟩)

/-- Rows 128 to 135 of the scratch, once a chunk's three column blocks are stored at row 8. -/
theorem rows (L : List (View.Piece (Elt Ideal) S136x6144 .f32)) (x : Vec Ideal S128x4096 .f32) (b c : Vec Ideal S128x1024 .f32) (y : S8x6144.Idx) :
    View.canon (⟨Rect.unit (s := S136x6144) ![8, 5120] S128x1024.size inb_S136x6144_S128x1024_8_5120, c⟩ :: ⟨Rect.unit (s := S136x6144) ![8, 4096] S128x1024.size inb_S136x6144_S128x1024_8_4096, b⟩
      :: ⟨Rect.unit (s := S136x6144) ![8, 0] S128x4096.size inb_S136x6144_S128x4096_8_0, x⟩ :: L)
      ((Rect.unit (s := S136x6144) ![128, 0] S8x6144.size inb_S136x6144_S8x6144_128_0).toLoadRect.idx y) = tail x b c y := by
  obtain ⟨p, q, rfl⟩ : ∃ p q, y = ix2 p q := ⟨y 0, y 1, by funext a; fin_cases a <;> rfl⟩
  have hp : p.val < 8 := p.isLt
  have hq : q.val < 6144 := q.isLt
  unfold tail
  dsimp only
  by_cases h : q.val < 4096
  · rw [dif_pos (show ((ix2 p q : S8x6144.Idx) 1).val < 4096 from h), View.canon_cons_of_not_mem, View.canon_cons_of_not_mem]
    · refine (congrArg (View.canon _) (?_ : _ = (Rect.unit (s := S136x6144) ![8, 0] S128x4096.size inb_S136x6144_S128x4096_8_0).emb (ix2 ⟨120 + p.val, by omega⟩ ⟨q.val, h⟩))).trans (View.canon_cons_emb _ _ _ _)
      funext a
      fin_cases a <;> apply Fin.ext
      · show 128 + 1 * p.val = 8 + 1 * (120 + p.val)
        omega
      · show 0 + 1 * q.val = 0 + 1 * q.val
        rfl
    · intro hm
      obtain ⟨z, hz⟩ := LoadRect.exists_idx_of_mem _ hm
      have : 4096 + 1 * (z 1).val = 0 + 1 * q.val := congrArg Fin.val (congrFun hz 1)
      omega
    · intro hm
      obtain ⟨z, hz⟩ := LoadRect.exists_idx_of_mem _ hm
      have : 5120 + 1 * (z 1).val = 0 + 1 * q.val := congrArg Fin.val (congrFun hz 1)
      omega
  · rw [dif_neg (show ¬((ix2 p q : S8x6144.Idx) 1).val < 4096 from h)]
    by_cases h' : q.val < 5120
    · rw [dif_pos (show ((ix2 p q : S8x6144.Idx) 1).val < 5120 from h'), View.canon_cons_of_not_mem]
      · refine (congrArg (View.canon _) (?_ : _ = (Rect.unit (s := S136x6144) ![8, 4096] S128x1024.size inb_S136x6144_S128x1024_8_4096).emb (ix2 ⟨120 + p.val, by omega⟩ ⟨q.val - 4096, by omega⟩))).trans (View.canon_cons_emb _ _ _ _)
        funext a
        fin_cases a <;> apply Fin.ext
        · show 128 + 1 * p.val = 8 + 1 * (120 + p.val)
          omega
        · show 0 + 1 * q.val = 4096 + 1 * (q.val - 4096)
          omega
      · intro hm
        obtain ⟨z, hz⟩ := LoadRect.exists_idx_of_mem _ hm
        have : 5120 + 1 * (z 1).val = 0 + 1 * q.val := congrArg Fin.val (congrFun hz 1)
        omega
    · rw [dif_neg (show ¬((ix2 p q : S8x6144.Idx) 1).val < 5120 from h')]
      refine (congrArg (View.canon _) (?_ : _ = (Rect.unit (s := S136x6144) ![8, 5120] S128x1024.size inb_S136x6144_S128x1024_8_5120).emb (ix2 ⟨120 + p.val, by omega⟩ ⟨q.val - 5120, by omega⟩))).trans (View.canon_cons_emb _ _ _ _)
      funext a
      fin_cases a <;> apply Fin.ext
      · show 128 + 1 * p.val = 8 + 1 * (120 + p.val)
        omega
      · show 0 + 1 * q.val = 5120 + 1 * (q.val - 5120)
        omega

section
variable (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x128 .f32) (harg6 : arg6.IsWhole) (arg7 : Memref sig .tc .vmem S1x8x6144 .f32) (harg7 : arg7.IsWhole) (arg8 : Memref sig .tc .vmem S1x128x4096 .f32) (harg8 : arg8.IsWhole) (arg9 : Memref sig .tc .vmem S4x6144 .f32) (harg9 : arg9.IsWhole) (arg10 : Memref sig .tc .vmem S1x6144 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x4096 .f32) (harg13 : arg13.IsWhole) (arg14 : Memref sig .tc .vmem S1x4096 .f32) (harg14 : arg14.IsWhole) (arg15 : Memref sig .tc .vmem S128x4096 .bf16) (harg15 : arg15.IsWhole) (arg16 : Memref sig .tc .vmem S128x128 .bf16) (harg16 : arg16.IsWhole) (arg17 : Memref sig .tc .vmem S128x128 .bf16) (harg17 : arg17.IsWhole) (arg18 : Memref sig .tc .vmem S128x4096 .bf16) (harg18 : arg18.IsWhole) (arg19 : Memref sig .tc .vmem S1x128x4096 .f32) (harg19 : arg19.IsWhole) (arg20 : Memref sig .tc .vmem S1x8x6144 .f32) (harg20 : arg20.IsWhole) (arg21 : Memref sig .tc .vmem S136x6144 .f32) (harg21 : arg21.IsWhole) (arg22 : Memref sig .tc .vmem S128x6144 .f32) (harg22 : arg22.IsWhole) (arg23 : Memref sig .tc .vmem S128x4096 .f32) (harg23 : arg23.IsWhole) (arg24 : Memref sig .tc .vmem S128x4096 .f32) (harg24 : arg24.IsWhole)
  (x0 : Vec Ideal S128x4096 .f32) (x1 : Vec Ideal S128x4096 .f32) (x2 : Vec Ideal S128x1024 .f32) (x3 : Vec Ideal S128x1024 .f32) (x4 : Vec Ideal S128x128 .f32) (x5 : Vec Ideal S1x8x6144 .f32) (x6 : Vec Ideal S1x128x4096 .f32) (x7 : Vec Ideal S4x6144 .f32) (x8 : Vec Ideal S1x6144 .f32) (x9 : Vec Ideal S1x128 .f32) (x10 : Vec Ideal S1x128 .f32) (x11 : Vec Ideal S1x4096 .f32) (x12 : Vec Ideal S1x4096 .f32) (x13 : Vec Ideal S128x4096 .bf16) (x14 : Vec Ideal S128x128 .bf16) (x15 : Vec Ideal S128x128 .bf16) (xs0 : Vec Ideal S136x6144 .f32) (xs3 : Vec Ideal S128x4096 .f32)

theorem out_C (hc0 : _) (hc1 : _) : out0_C_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 xs0 xs3 = k0_pay9 (tail x1 x2 x3) := by
  unfold out0_C_18 kernelRun0_C; dsimp only
  rw [View.read_writes_junk_eq_canon]
  refine (View.canon_unit_zero zzz _ _).trans (congrArg k0_pay9 ?_)
  unfold kernelRun0_C.sl.v48
  rw [View.readCov_eq_canon']
  unfold kernelRun0_C.sl.HS0_3
  refine (funext fun j => rows _ _ _ _ j).trans ?_
  have h1 : View.readAt (Elt Ideal) arg3.view (Rect.unit ![0, 0] S128x4096.size inb_S128x4096_S128x4096_0_0).toLoadRect (harg3.unread x1) = x1 :=
    (load_all arg3.view zz inb_S128x4096_S128x4096_0_0 _).trans (harg3.read_unread _)
  have h2 : View.readAt (Elt Ideal) arg4.view (Rect.unit ![0, 0] S128x1024.size inb_S128x1024_S128x1024_0_0).toLoadRect (harg4.unread x2) = x2 :=
    (load_all arg4.view zz inb_S128x1024_S128x1024_0_0 _).trans (harg4.read_unread _)
  have h3 : View.readAt (Elt Ideal) arg5.view (Rect.unit ![0, 0] S128x1024.size inb_S128x1024_S128x1024_0_0).toLoadRect (harg5.unread x3) = x3 :=
    (load_all arg5.view zz inb_S128x1024_S128x1024_0_0 _).trans (harg5.read_unread _)
  refine congr (congr (congrArg tail ?_) ?_) ?_
  · exact (shapeCast_id _ _).trans h1
  · exact (shapeCast_id _ _).trans h2
  · exact (shapeCast_id _ _).trans h3

end
theorem idx : ∀ t : Fin cfg0.N, win0_1.index t = ![t.val, 1] ∧ win0_2.index t = ![t.val, 8] ∧ win0_3.index t = ![t.val, 9] ∧ win0_18.index t = ![0, 0, 0] :=
  (by decide +kernel : ∀ t : Fin grid0.N, _)

/-- The block is written back after the last chunk. -/
theorem last : ∀ t : Fin cfg0.N, (cfg0.win 18).flush t = true → t.val = 63 := by decide +kernel

variable (m : (ℓ : Loc nD τ sig) → Buf (Elt Ideal) ℓ)

def aP (c : Dev nD) : FVec Ideal S8192x10240 .f32 := m ((c : Thread nD τ).loc main_arg0)
def aS (c : Dev nD) : FVec Ideal S1x3x6144 .f32 := m ((c : Thread nD τ).loc main_arg2)

/-- A chunk's rows in 4096 columns. -/
def xBlk (P : FVec Ideal S8192x10240 .f32) (n : Fin 64) : Vec Ideal S128x4096 .f32 := fun y =>
  P (ix2 ⟨128 * n.val + (y 0).val, by have := n.isLt; have : (y 0).val < 128 := (y 0).isLt; omega⟩ ⟨4096 + (y 1).val, by have : (y 1).val < 4096 := (y 1).isLt; omega⟩)
/-- A chunk's rows in 1024 columns. -/
def bBlk (P : FVec Ideal S8192x10240 .f32) (n : Fin 64) : Vec Ideal S128x1024 .f32 := fun y =>
  P (ix2 ⟨128 * n.val + (y 0).val, by have := n.isLt; have : (y 0).val < 128 := (y 0).isLt; omega⟩ ⟨8192 + (y 1).val, by have : (y 1).val < 1024 := (y 1).isLt; omega⟩)
/-- A chunk's rows in the last 1024 columns. -/
def cBlk (P : FVec Ideal S8192x10240 .f32) (n : Fin 64) : Vec Ideal S128x1024 .f32 := fun y =>
  P (ix2 ⟨128 * n.val + (y 0).val, by have := n.isLt; have : (y 0).val < 128 := (y 0).isLt; omega⟩ ⟨9216 + (y 1).val, by have : (y 1).val < 1024 := (y 1).isLt; omega⟩)

theorem blk_1 (c : Dev nD) (t : Fin cfg0.N) : X0_1 m c t = xBlk (aP m c) ⟨t.val, t.isLt⟩ := by
  funext y
  unfold X0_1 Pipeline.Window.fill
  rw [dif_pos (moved0_1 t y)]
  unfold xBlk aP
  blk_ext [iblk, V_main_arg0, idx t]

theorem blk_2 (c : Dev nD) (t : Fin cfg0.N) : iblk m c 2 t = bBlk (aP m c) ⟨t.val, t.isLt⟩ := by
  funext y
  unfold bBlk aP
  blk_ext [iblk, V_main_arg0, idx t]

theorem blk_3 (c : Dev nD) (t : Fin cfg0.N) : iblk m c 3 t = cBlk (aP m c) ⟨t.val, t.isLt⟩ := by
  funext y
  unfold cBlk aP
  blk_ext [iblk, V_main_arg0, idx t]

/-- The reference's array. -/
def REF (P : FVec Ideal S8192x10240 .f32) (S : FVec Ideal S1x3x6144 .f32) : FVec Ideal S1x8x6144 .f32 :=
  extractStridedSlice Cert.MixerRefIdeal.S1x8x6144 ![0, 8187, 0] (concatenate Cert.MixerRefIdeal.S1x8195x6144 1 [⟨Cert.MixerRefIdeal.S1x3x6144, S⟩, ⟨Cert.MixerRefIdeal.S1x8192x6144, (broadcastInDim Cert.MixerRefIdeal.S1x8192x6144 ![1, 2] Cert.MixerRefIdeal.Gen.bcast_S8192x6144_S1x8192x6144_1_2 (extractStridedSlice Cert.MixerRefIdeal.S8192x6144 ![0, 4096] P Cert.MixerRefIdeal.Gen.slices_S8192x10240_S8192x6144_0_4096))⟩] Cert.MixerRefIdeal.Gen.concatenates_S1x3x6144_S1x8192x6144_S1x8195x6144_d1) Cert.MixerRefIdeal.Gen.slices_S1x8195x6144_S1x8x6144_0_8187_0

theorem REF_at (P : FVec Ideal S8192x10240 .f32) (S : FVec Ideal S1x3x6144 .f32) (p : Fin 8) (q : Fin 6144) :
    REF P S (ix3 0 p q) = P (ix2 ⟨8184 + p.val, by omega⟩ ⟨4096 + q.val, by omega⟩) := by
  unfold REF
  pointwise
  rw [dif_neg (by omega)]
  exact congrArg P (congrArg (fun z => ix2 z _) (Fin.ext (by dsimp only; omega)))

theorem tail_at (P : FVec Ideal S8192x10240 .f32) (p : Fin 8) (q : Fin 6144) :
    k0_pay9 (tail (xBlk P 63) (bBlk P 63) (cBlk P 63)) (ix3 0 p q) = P (ix2 ⟨8184 + p.val, by omega⟩ ⟨4096 + q.val, by omega⟩) := by
  pointwise [k0_pay9]
  have hp : p.val < 8 := p.isLt
  unfold tail xBlk bBlk cBlk
  by_cases h : q.val < 4096
  · rw [dif_pos (show ((ix2 p q : S8x6144.Idx) 1).val < 4096 from h)]
    refine congrArg P (congrArg₂ ix2 (Fin.ext ?_) (Fin.ext ?_))
    · show 128 * 63 + (120 + p.val) = 8184 + p.val
      omega
    · rfl
  · rw [dif_neg (show ¬((ix2 p q : S8x6144.Idx) 1).val < 4096 from h)]
    by_cases h' : q.val < 5120
    · rw [dif_pos (show ((ix2 p q : S8x6144.Idx) 1).val < 5120 from h')]
      refine congrArg P (congrArg₂ ix2 (Fin.ext ?_) (Fin.ext ?_))
      · show 128 * 63 + (120 + p.val) = 8184 + p.val
        omega
      · show 8192 + (q.val - 4096) = 4096 + q.val
        omega
    · rw [dif_neg (show ¬((ix2 p q : S8x6144.Idx) 1).val < 5120 from h')]
      refine congrArg P (congrArg₂ ix2 (Fin.ext ?_) (Fin.ext ?_))
      · show 128 * 63 + (120 + p.val) = 8184 + p.val
        omega
      · show 9216 + (q.val - 5120) = 4096 + q.val
        omega

theorem left (c : Dev nD) (t : Fin cfg0.N) (h : t.val = 63) :
    (outsAt0 m c t.val t.isLt).2.2.1 = k0_pay9 (tail (xBlk (aP m c) 63) (bBlk (aP m c) 63) (cBlk (aP m c) 63)) := by
  have e : (⟨t.val, t.isLt⟩ : Fin 64) = 63 := Fin.ext h
  rw [outsAt0_C m c t (by omega) (by omega)]
  dsimp only
  rw [out_C, blk_1, blk_2, blk_3, e]

/-- The third result array is the reference's. -/
theorem value (c : Dev nD) : (dats m 0 c).arrAt 18 cfg0.N = REF (aP m c) (aS m c) := by
  refine (dats m 0 c).arrAt_eq_of_covers 18 _ (by decide +kernel) fun t hf y => ?_
  blk_simp
  rw [after0_18, left m c t (last t hf)]
  obtain ⟨z, p, q, rfl⟩ : ∃ z p q, y = ix3 z p q := ⟨y 0, y 1, y 2, by funext x; fin_cases x <;> rfl⟩
  obtain rfl : z = 0 := Subsingleton.elim _ _
  refine (tail_at _ p q).trans ((REF_at _ (aS m c) p q).symm.trans ?_)
  refine congrArg (REF (aP m c) (aS m c)) ?_
  blk_ext [V, idx t]

end Cert.MixerIdeal.Result

end
-- ==== Proof.MixS.lean ====
module

public import proofs.«01_k».proof.Proof.Gen.MixSampleIdeal.Value
public import proofs.«01_k».proof.Proof.Gen.MixSampleRefIdeal.Run
public import Idealize.ShloMosaic.Lib.Pipeline.ValueKit

@[expose] public section

set_option maxRecDepth 16384

noncomputable section

/-! The sample's convolution state: each sequence has eight rows of the projection, placed below the rows of its old state; the eight rows are handed on. -/

open Idealize.ShloMosaic Idealize.ShloMosaic.TcCoe Idealize.SL.Sem

namespace Cert.MixSampleIdeal.Result

open Cert.MixSampleIdeal Cert.MixSampleIdeal.Gen

open Idealize.ShloMosaic.Pipeline (Dat)

theorem zz : (![0, 0] : Fin 2 → ℕ) = fun _ => 0 := by funext i; fin_cases i <;> rfl
theorem zzz : (![0, 0, 0] : Fin 3 → ℕ) = fun _ => 0 := by funext i; fin_cases i <;> rfl

/-- A load of a whole memref reads its contents. -/
theorem load_all {κ : Kind} {sp : Space} {S : Shape} {e : EltTy} (v : View sig κ sp S e) {off : Fin S.rank → ℕ} (h : off = fun _ => 0)
    (inb : ∀ a, off a + S.size a ≤ S.size a) (f : v.ty.Contents (Elt Ideal)) :
    View.readAt (Elt Ideal) v (Rect.unit off S.size inb).toLoadRect f = v.read (Elt Ideal) f :=
  View.ld_unit_zero h inb (v.read (Elt Ideal) f)

/-- A sequence's eight rows, from its three column blocks. -/
def tail (x : Vec Ideal S8x4096 .f32) (b c : Vec Ideal S8x1024 .f32) : Vec Ideal S8x6144 .f32 := fun y =>
  if h : (y 1).val < 4096 then x (ix2 (y 0) ⟨(y 1).val, h⟩)
  else if h' : (y 1).val < 5120 then b (ix2 (y 0) ⟨(y 1).val - 4096, by omega⟩)
  else c (ix2 (y 0) ⟨(y 1).val - 5120, by have : (y 1).val < 6144 := (y 1).isLt; omega⟩)

/-- Rows 8 to 15 of the scratch, once a sequence's three column blocks are stored at row 8. -/
theorem rows (L : List (View.Piece (Elt Ideal) S16x6144 .f32)) (x : Vec Ideal S8x4096 .f32) (b c : Vec Ideal S8x1024 .f32) (y : S8x6144.Idx) :
    View.canon (⟨Rect.unit (s := S16x6144) ![8, 5120] S8x1024.size inb_S16x6144_S8x1024_8_5120, c⟩ :: ⟨Rect.unit (s := S16x6144) ![8, 4096] S8x1024.size inb_S16x6144_S8x1024_8_4096, b⟩
      :: ⟨Rect.unit (s := S16x6144) ![8, 0] S8x4096.size inb_S16x6144_S8x4096_8_0, x⟩ :: L)
      ((Rect.unit (s := S16x6144) ![8, 0] S8x6144.size inb_S16x6144_S8x6144_8_0).toLoadRect.idx y) = tail x b c y := by
  obtain ⟨p, q, rfl⟩ : ∃ p q, y = ix2 p q := ⟨y 0, y 1, by funext a; fin_cases a <;> rfl⟩
  have hp : p.val < 8 := p.isLt
  have hq : q.val < 6144 := q.isLt
  unfold tail
  dsimp only
  by_cases h : q.val < 4096
  · rw [dif_pos (show ((ix2 p q : S8x6144.Idx) 1).val < 4096 from h), View.canon_cons_of_not_mem, View.canon_cons_of_not_mem]
    · refine (congrArg (View.canon _) (?_ : _ = (Rect.unit (s := S16x6144) ![8, 0] S8x4096.size inb_S16x6144_S8x4096_8_0).emb (ix2 p ⟨q.val, h⟩))).trans (View.canon_cons_emb _ _ _ _)
      funext a
      fin_cases a <;> apply Fin.ext
      · show 8 + 1 * p.val = 8 + 1 * p.val
        rfl
      · show 0 + 1 * q.val = 0 + 1 * q.val
        rfl
    · intro hm
      obtain ⟨z, hz⟩ := LoadRect.exists_idx_of_mem _ hm
      have : 4096 + 1 * (z 1).val = 0 + 1 * q.val := congrArg Fin.val (congrFun hz 1)
      omega
    · intro hm
      obtain ⟨z, hz⟩ := LoadRect.exists_idx_of_mem _ hm
      have : 5120 + 1 * (z 1).val = 0 + 1 * q.val := congrArg Fin.val (congrFun hz 1)
      omega
  · rw [dif_neg (show ¬((ix2 p q : S8x6144.Idx) 1).val < 4096 from h)]
    by_cases h' : q.val < 5120
    · rw [dif_pos (show ((ix2 p q : S8x6144.Idx) 1).val < 5120 from h'), View.canon_cons_of_not_mem]
      · refine (congrArg (View.canon _) (?_ : _ = (Rect.unit (s := S16x6144) ![8, 4096] S8x1024.size inb_S16x6144_S8x1024_8_4096).emb (ix2 p ⟨q.val - 4096, by omega⟩))).trans (View.canon_cons_emb _ _ _ _)
        funext a
        fin_cases a <;> apply Fin.ext
        · show 8 + 1 * p.val = 8 + 1 * p.val
          rfl
        · show 0 + 1 * q.val = 4096 + 1 * (q.val - 4096)
          omega
      · intro hm
        obtain ⟨z, hz⟩ := LoadRect.exists_idx_of_mem _ hm
        have : 5120 + 1 * (z 1).val = 0 + 1 * q.val := congrArg Fin.val (congrFun hz 1)
        omega
    · rw [dif_neg (show ¬((ix2 p q : S8x6144.Idx) 1).val < 5120 from h')]
      refine (congrArg (View.canon _) (?_ : _ = (Rect.unit (s := S16x6144) ![8, 5120] S8x1024.size inb_S16x6144_S8x1024_8_5120).emb (ix2 p ⟨q.val - 5120, by omega⟩))).trans (View.canon_cons_emb _ _ _ _)
      funext a
      fin_cases a <;> apply Fin.ext
      · show 8 + 1 * p.val = 8 + 1 * p.val
        rfl
      · show 0 + 1 * q.val = 5120 + 1 * (q.val - 5120)
        omega

section
variable (c : Dev nD) (i : grid0.Coords) (arg2 : Memref sig .tc .vmem S8x4096 .f32) (harg2 : arg2.IsWhole) (arg3 : Memref sig .tc .vmem S8x4096 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S8x128 .f32) (harg6 : arg6.IsWhole) (arg7 : Memref sig .tc .vmem S1x8x6144 .f32) (harg7 : arg7.IsWhole) (arg8 : Memref sig .tc .vmem S1x4096x128 .f32) (harg8 : arg8.IsWhole) (arg9 : Memref sig .tc .vmem S4x6144 .f32) (harg9 : arg9.IsWhole) (arg10 : Memref sig .tc .vmem S1x6144 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x4096 .f32) (harg13 : arg13.IsWhole) (arg14 : Memref sig .tc .vmem S1x4096 .f32) (harg14 : arg14.IsWhole) (arg15 : Memref sig .tc .vmem S128x4096 .bf16) (harg15 : arg15.IsWhole) (arg16 : Memref sig .tc .vmem S8x8 .bf16) (harg16 : arg16.IsWhole) (arg17 : Memref sig .tc .vmem S128x128 .bf16) (harg17 : arg17.IsWhole) (arg18 : Memref sig .tc .vmem S8x4096 .f32) (harg18 : arg18.IsWhole) (arg19 : Memref sig .tc .vmem S1x4096x128 .f32) (harg19 : arg19.IsWhole) (arg20 : Memref sig .tc .vmem S1x8x6144 .f32) (harg20 : arg20.IsWhole) (arg21 : Memref sig .tc .vmem S16x6144 .f32) (harg21 : arg21.IsWhole) (arg22 : Memref sig .tc .vmem S8x6144 .f32) (harg22 : arg22.IsWhole) (arg23 : Memref sig .tc .vmem S8x4096 .f32) (harg23 : arg23.IsWhole) (arg24 : Memref sig .tc .vmem S4096x128 .f32) (harg24 : arg24.IsWhole)
  (x0 : Vec Ideal S8x4096 .f32) (x1 : Vec Ideal S8x4096 .f32) (x2 : Vec Ideal S8x1024 .f32) (x3 : Vec Ideal S8x1024 .f32) (x4 : Vec Ideal S8x128 .f32) (x5 : Vec Ideal S1x8x6144 .f32) (x6 : Vec Ideal S1x4096x128 .f32) (x7 : Vec Ideal S4x6144 .f32) (x8 : Vec Ideal S1x6144 .f32) (x9 : Vec Ideal S1x128 .f32) (x10 : Vec Ideal S1x128 .f32) (x11 : Vec Ideal S1x4096 .f32) (x12 : Vec Ideal S1x4096 .f32) (x13 : Vec Ideal S128x4096 .bf16) (x14 : Vec Ideal S8x8 .bf16) (x15 : Vec Ideal S128x128 .bf16)

theorem out_A (hc0 : _) (hc1 : _) : out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 x13 x14 x15 = k0_pay10 (tail x1 x2 x3) := by
  unfold out0_A_18 kernelRun0_A; dsimp only
  rw [View.read_writes_junk_eq_canon]
  refine (View.canon_unit_zero zzz _ _).trans (congrArg k0_pay10 ?_)
  unfold kernelRun0_A.sl.v34
  rw [View.readCov_eq_canon']
  unfold kernelRun0_A.sl.HS0_4
  refine (funext fun j => rows _ _ _ _ j).trans ?_
  have h1 : View.readAt (Elt Ideal) arg3.view (Rect.unit ![0, 0] S8x4096.size inb_S8x4096_S8x4096_0_0).toLoadRect (harg3.unread x1) = x1 :=
    (load_all arg3.view zz inb_S8x4096_S8x4096_0_0 _).trans (harg3.read_unread _)
  have h2 : View.readAt (Elt Ideal) arg4.view (Rect.unit ![0, 0] S8x1024.size inb_S8x1024_S8x1024_0_0).toLoadRect (harg4.unread x2) = x2 :=
    (load_all arg4.view zz inb_S8x1024_S8x1024_0_0 _).trans (harg4.read_unread _)
  have h3 : View.readAt (Elt Ideal) arg5.view (Rect.unit ![0, 0] S8x1024.size inb_S8x1024_S8x1024_0_0).toLoadRect (harg5.unread x3) = x3 :=
    (load_all arg5.view zz inb_S8x1024_S8x1024_0_0 _).trans (harg5.read_unread _)
  refine congr (congr (congrArg tail ?_) ?_) ?_
  · exact (shapeCast_id _ _).trans h1
  · exact (shapeCast_id _ _).trans h2
  · exact (shapeCast_id _ _).trans h3

end
theorem idx : ∀ t : Fin cfg0.N, win0_1.index t = ![t.val, 1] ∧ win0_2.index t = ![t.val, 8] ∧ win0_3.index t = ![t.val, 9] ∧ win0_18.index t = ![t.val, 0, 0] :=
  (by decide +kernel : ∀ t : Fin grid0.N, _)

variable (m : (ℓ : Loc nD τ sig) → Buf (Elt Ideal) ℓ)

def aP (c : Dev nD) : FVec Ideal S256x10240 .f32 := m ((c : Thread nD τ).loc main_arg0)
def aS (c : Dev nD) : FVec Ideal S32x3x6144 .f32 := m ((c : Thread nD τ).loc main_arg2)

/-- A sequence's rows in 4096 columns. -/
def xBlk (P : FVec Ideal S256x10240 .f32) (n : Fin 32) : Vec Ideal S8x4096 .f32 := fun y =>
  P (ix2 ⟨8 * n.val + (y 0).val, by have := n.isLt; have : (y 0).val < 8 := (y 0).isLt; omega⟩ ⟨4096 + (y 1).val, by have : (y 1).val < 4096 := (y 1).isLt; omega⟩)
/-- A sequence's rows in 1024 columns. -/
def bBlk (P : FVec Ideal S256x10240 .f32) (n : Fin 32) : Vec Ideal S8x1024 .f32 := fun y =>
  P (ix2 ⟨8 * n.val + (y 0).val, by have := n.isLt; have : (y 0).val < 8 := (y 0).isLt; omega⟩ ⟨8192 + (y 1).val, by have : (y 1).val < 1024 := (y 1).isLt; omega⟩)
/-- A sequence's rows in the last 1024 columns. -/
def cBlk (P : FVec Ideal S256x10240 .f32) (n : Fin 32) : Vec Ideal S8x1024 .f32 := fun y =>
  P (ix2 ⟨8 * n.val + (y 0).val, by have := n.isLt; have : (y 0).val < 8 := (y 0).isLt; omega⟩ ⟨9216 + (y 1).val, by have : (y 1).val < 1024 := (y 1).isLt; omega⟩)

theorem blk_1 (c : Dev nD) (t : Fin cfg0.N) : X0_1 m c t = xBlk (aP m c) ⟨t.val, t.isLt⟩ := by
  funext y
  unfold X0_1 Pipeline.Window.fill
  rw [dif_pos (moved0_1 t y)]
  unfold xBlk aP
  blk_ext [iblk, V_main_arg0, idx t]

theorem blk_2 (c : Dev nD) (t : Fin cfg0.N) : iblk m c 2 t = bBlk (aP m c) ⟨t.val, t.isLt⟩ := by
  funext y
  unfold bBlk aP
  blk_ext [iblk, V_main_arg0, idx t]

theorem blk_3 (c : Dev nD) (t : Fin cfg0.N) : iblk m c 3 t = cBlk (aP m c) ⟨t.val, t.isLt⟩ := by
  funext y
  unfold cBlk aP
  blk_ext [iblk, V_main_arg0, idx t]

/-- The reference's array. -/
def REF (P : FVec Ideal S256x10240 .f32) (S : FVec Ideal S32x3x6144 .f32) : FVec Ideal S32x8x6144 .f32 :=
  extractStridedSlice Cert.MixSampleRefIdeal.S32x8x6144 ![0, 3, 0] (concatenate Cert.MixSampleRefIdeal.S32x11x6144 1 [⟨Cert.MixSampleRefIdeal.S32x3x6144, S⟩, ⟨Cert.MixSampleRefIdeal.S32x8x6144, (extractStridedSlice Cert.MixSampleRefIdeal.S32x8x6144 ![0, 0, 4096] (shapeCast _ P Cert.MixSampleRefIdeal.Gen.shapeCasts_S256x10240_S32x8x10240) Cert.MixSampleRefIdeal.Gen.slices_S32x8x10240_S32x8x6144_0_0_4096)⟩] Cert.MixSampleRefIdeal.Gen.concatenates_S32x3x6144_S32x8x6144_S32x11x6144_d1) Cert.MixSampleRefIdeal.Gen.slices_S32x11x6144_S32x8x6144_0_3_0

theorem REF_at (P : FVec Ideal S256x10240 .f32) (S : FVec Ideal S32x3x6144 .f32) (n : Fin 32) (p : Fin 8) (q : Fin 6144) :
    REF P S (ix3 n p q) = P (ix2 ⟨8 * n.val + p.val, by omega⟩ ⟨4096 + q.val, by omega⟩) := by
  unfold REF
  pointwise
  refine congrArg P (congrArg (fun z => ix2 z _) (Fin.ext ?_))
  dsimp only
  omega

theorem tail_at (P : FVec Ideal S256x10240 .f32) (n : Fin 32) (p : Fin 8) (q : Fin 6144) :
    k0_pay10 (tail (xBlk P n) (bBlk P n) (cBlk P n)) (ix3 0 p q) = P (ix2 ⟨8 * n.val + p.val, by omega⟩ ⟨4096 + q.val, by omega⟩) := by
  pointwise [k0_pay10]
  unfold tail xBlk bBlk cBlk
  by_cases h : q.val < 4096
  · rw [dif_pos (show ((ix2 p q : S8x6144.Idx) 1).val < 4096 from h)]
    rfl
  · rw [dif_neg (show ¬((ix2 p q : S8x6144.Idx) 1).val < 4096 from h)]
    by_cases h' : q.val < 5120
    · rw [dif_pos (show ((ix2 p q : S8x6144.Idx) 1).val < 5120 from h')]
      refine congrArg P (congrArg₂ ix2 rfl (Fin.ext ?_))
      show 8192 + (q.val - 4096) = 4096 + q.val
      omega
    · rw [dif_neg (show ¬((ix2 p q : S8x6144.Idx) 1).val < 5120 from h')]
      refine congrArg P (congrArg₂ ix2 rfl (Fin.ext ?_))
      show 9216 + (q.val - 5120) = 4096 + q.val
      omega

theorem left (c : Dev nD) (t : Fin cfg0.N) :
    (outsAt0 m c t).2.2 = k0_pay10 (tail (xBlk (aP m c) ⟨t.val, t.isLt⟩) (bBlk (aP m c) ⟨t.val, t.isLt⟩) (cBlk (aP m c) ⟨t.val, t.isLt⟩)) := by
  unfold outsAt0
  dsimp only
  rw [out_A, blk_1, blk_2, blk_3]

/-- The third result array is the reference's. -/
theorem value (c : Dev nD) : (dats m 0 c).arrAt 18 cfg0.N = REF (aP m c) (aS m c) := by
  refine (dats m 0 c).arrAt_eq_of_covers 18 _ (by decide +kernel) fun t hf y => ?_
  blk_simp
  rw [after0_18, left m c t]
  obtain ⟨z, p, q, rfl⟩ : ∃ z p q, y = ix3 z p q := ⟨y 0, y 1, y 2, by funext x; fin_cases x <;> rfl⟩
  obtain rfl : z = 0 := Subsingleton.elim _ _
  refine (tail_at _ _ p q).trans ((REF_at _ (aS m c) _ p q).symm.trans ?_)
  refine congrArg (REF (aP m c) (aS m c)) ?_
  blk_ext [V, idx t]

end Cert.MixSampleIdeal.Result

end
-- ==== Proof.lean ====
module

public import proofs.«01_k».proof.Defs
public import proofs.«01_k».proof.Proof.Gen.AttentionIdeal.Run
public import proofs.«01_k».proof.Proof.Gen.Flash.Frame
public import proofs.«01_k».proof.Proof.Gen.FlashIdeal.Value
public import proofs.«01_k».proof.Proof.Gen.Pre_finite
public import proofs.«01_k».proof.Proof.Gen.OutProj.Frame
public import proofs.«01_k».proof.Proof.Gen.OutProjIdeal.Value
public import proofs.«01_k».proof.Proof.Gen.OutProjRefIdeal.Run
public import proofs.«01_k».proof.Proof.Gen.InProj.Frame
public import proofs.«01_k».proof.Proof.Gen.InProjIdeal.Value
public import proofs.«01_k».proof.Proof.Gen.InProjRefIdeal.Run
public import proofs.«01_k».proof.Proof.Gen.Moe.Frame
public import proofs.«01_k».proof.Proof.Gen.MoeIdeal.Frame
public import proofs.«01_k».proof.Proof.Gen.MoeIdeal.Skeleton
public import proofs.«01_k».proof.Proof.Gen.Moe.Skeleton
public import proofs.«01_k».proof.Proof.Gen.MoeRefIdeal.Run
public import proofs.«01_k».proof.Proof.Gen.Pre_routed
public import proofs.«01_k».proof.Proof.Gen.KvProj.Frame
public import proofs.«01_k».proof.Proof.Gen.KvProjIdeal.Value
public import proofs.«01_k».proof.Proof.Gen.KvProjRefIdeal.Run
public import proofs.«01_k».proof.Proof.Gen.LogForget.Frame
public import proofs.«01_k».proof.Proof.Gen.LogForgetIdeal.Value
public import proofs.«01_k».proof.Proof.Gen.LogForgetRefIdeal.Run
public import proofs.«01_k».proof.Proof.Gen.QProj.Frame
public import proofs.«01_k».proof.Proof.Gen.QProjIdeal.Value
public import proofs.«01_k».proof.Proof.Gen.QProjRefIdeal.Run
public import proofs.«01_k».proof.Proof.Gen.OProj.Frame
public import proofs.«01_k».proof.Proof.Gen.OProjIdeal.Value
public import proofs.«01_k».proof.Proof.Gen.OProjRefIdeal.Run
public import proofs.«01_k».proof.Proof.Gen.KvSample.Frame
public import proofs.«01_k».proof.Proof.Gen.KvSampleIdeal.Value
public import proofs.«01_k».proof.Proof.Gen.KvSampleRefIdeal.Run
public import proofs.«01_k».proof.Proof.Gen.ForgetSample.Frame
public import proofs.«01_k».proof.Proof.Gen.ForgetSampleIdeal.Value
public import proofs.«01_k».proof.Proof.Gen.ForgetSampleRefIdeal.Run
public import proofs.«01_k».proof.Proof.Gen.Mixer.Frame
public import proofs.«01_k».proof.Proof.Gen.MixerIdeal.Value
public import proofs.«01_k».proof.Proof.Gen.MixerRefIdeal.Run
public import proofs.«01_k».proof.Proof.Gen.MixSample.Frame
public import proofs.«01_k».proof.Proof.Gen.MixSampleIdeal.Value
public import proofs.«01_k».proof.Proof.Gen.MixSampleRefIdeal.Run
public import Idealize.ShloMosaic.Adequacy
public import Idealize.ShloMosaic.Init
public import Idealize.ShloMosaic.Lib.Quiescent
public import proofs.«01_k».proof.Proof.Result
public import proofs.«01_k».proof.Proof.OutP
public import proofs.«01_k».proof.Proof.InP
public import proofs.«01_k».proof.Proof.MoeRun
public import proofs.«01_k».proof.Proof.MoeVal
public import proofs.«01_k».proof.Proof.KvP
public import proofs.«01_k».proof.Proof.LogF
public import proofs.«01_k».proof.Proof.QP
public import proofs.«01_k».proof.Proof.OP
public import proofs.«01_k».proof.Proof.KvS
public import proofs.«01_k».proof.Proof.ForgS
public import proofs.«01_k».proof.Proof.Mix
public import proofs.«01_k».proof.Proof.MixS

@[expose] public section

noncomputable section

namespace Cert.Proof

open Idealize.ShloMosaic Idealize.SL.Sem

theorem quiescent_AttentionIdeal : quiescent_AttentionIdeal := fun m ρ _ =>
  (θ_run Cert.AttentionIdeal.defs _ _).mono (fun r h => ⟨fun c => (h c).2, sem_eq_zero_of_no_sems (by decide) r.2⟩)
    (Cert.AttentionIdeal.Value.run (F := Ideal) m ρ)

theorem quiescent_AttentionIdeal_pre_finite : quiescent_AttentionIdeal_pre_finite := fun m ρ _ =>
  quiescent_AttentionIdeal m ρ (by trivial)

theorem algebraic_FlashIdeal_AttentionIdeal_pre_finite : algebraic_FlashIdeal_AttentionIdeal_pre_finite := by
  intro m ρ m' ρ' hpre hagree
  refine ⟨_, Cert.FlashIdeal.Value.run (F := Ideal) m ρ, ?_⟩
  refine (θ_run Cert.AttentionIdeal.defs _ _).mono (fun _ h c => ⟨?_, (h c).2⟩) (Cert.AttentionIdeal.Value.run (F := Ideal) m' ρ')
  rw [(h c).1, Cert.FlashIdeal.Result.value m c (hpre c), Cert.AttentionIdeal.Read.res_eq m' c]
  obtain ⟨h0, h1, h2⟩ := hagree c
  rw [h0, h1, h2]

theorem quiescent_OutProjRefIdeal : quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

theorem algebraic_OutProjIdeal_OutProjRefIdeal : algebraic_OutProjIdeal_OutProjRefIdeal := by
  intro m ρ m' ρ' hpre hagree
  refine ⟨_, Cert.OutProjIdeal.Value.run_blocks (F := Ideal) m ρ, ?_⟩
  refine (θ_run Cert.OutProjRefIdeal.defs _ _).mono (fun _ h c => ⟨?_, (h c).2⟩) (Cert.OutProjRefIdeal.Value.run (F := Ideal) m' ρ')
  rw [(h c).1, Cert.OutProjIdeal.Result.value m c]
  obtain ⟨h0, h1, h2⟩ := hagree c
  rw [h0, h1, h2]
  rfl

theorem quiescent_InProjRefIdeal : quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

theorem algebraic_InProjIdeal_InProjRefIdeal : algebraic_InProjIdeal_InProjRefIdeal := by
  intro m ρ m' ρ' hpre hagree
  refine ⟨_, Cert.InProjIdeal.Value.run_blocks (F := Ideal) m ρ, ?_⟩
  refine (θ_run Cert.InProjRefIdeal.defs _ _).mono (fun _ h c => ⟨?_, (h c).2⟩) (Cert.InProjRefIdeal.Value.run (F := Ideal) m' ρ')
  rw [(h c).1, Cert.InProjIdeal.Result.value m c]
  obtain ⟨h0, h1, h2⟩ := hagree c
  rw [h0, h1, h2]
  rfl

theorem quiescent_MoeRefIdeal : quiescent_MoeRefIdeal := fun m ρ _ =>
  (θ_run Cert.MoeRefIdeal.defs _ _).mono (fun r h => ⟨fun c => (h c).2, sem_eq_zero_of_no_sems (by decide) r.2⟩)
    (Cert.MoeRefIdeal.Value.run (F := Ideal) m ρ)

theorem quiescent_MoeRefIdeal_pre_routed : quiescent_MoeRefIdeal_pre_routed := fun m ρ _ =>
  quiescent_MoeRefIdeal m ρ (by trivial)

theorem algebraic_MoeIdeal_MoeRefIdeal_pre_routed : algebraic_MoeIdeal_MoeRefIdeal_pre_routed := by
  intro m ρ m' ρ' hpre hagree
  refine ⟨_, Cert.MoeIdeal.Result.run_value ρ, ?_⟩
  refine (θ_run Cert.MoeRefIdeal.defs _ _).mono (fun _ h c => ⟨?_, (h c).2⟩) (Cert.MoeRefIdeal.Value.run (F := Ideal) m' ρ')
  rw [(h c).1, Cert.MoeIdeal.Result.value (Cert.Pre_routed.Read.routed_at _ _ _ _ _ _ (hpre c))]
  obtain ⟨h0, h1, h2, h3, h4, h5⟩ := hagree c
  rw [h0, h1, h2, h3, h4, h5]
  rfl

theorem quiescent_KvProjRefIdeal : quiescent_KvProjRefIdeal := fun m ρ _ =>
  (θ_run Cert.KvProjRefIdeal.defs _ _).mono (fun r h => ⟨fun c => (h c).2.2, sem_eq_zero_of_no_sems (by decide) r.2⟩)
    (Cert.KvProjRefIdeal.Value.run (F := Ideal) m ρ)

theorem algebraic_KvProjIdeal_KvProjRefIdeal : algebraic_KvProjIdeal_KvProjRefIdeal := by
  intro m ρ m' ρ' hpre hagree
  refine ⟨_, _, Cert.KvProjIdeal.Value.run_blocks (F := Ideal) m ρ, ?_⟩
  refine (θ_run Cert.KvProjRefIdeal.defs _ _).mono (fun _ h c => ⟨?_, ?_, (h c).2.2⟩) (Cert.KvProjRefIdeal.Value.run (F := Ideal) m' ρ')
  · rw [(h c).1, Cert.KvProjIdeal.Result.value4 m c]
    obtain ⟨h0, h1, h2, h3⟩ := hagree c
    unfold Cert.KvProjRefIdeal.Value.res_main_v32
    rw [h0, h1, h2, h3]
    rfl
  · rw [(h c).2.1, Cert.KvProjIdeal.Result.value5 m c]
    obtain ⟨h0, h1, h2, h3⟩ := hagree c
    unfold Cert.KvProjRefIdeal.Value.res_main_v33
    rw [h0, h1, h2, h3]
    rfl

theorem quiescent_LogForgetRefIdeal : quiescent_LogForgetRefIdeal := fun m ρ _ =>
  (θ_run Cert.LogForgetRefIdeal.defs _ _).mono (fun r h => ⟨fun c => (h c).2, sem_eq_zero_of_no_sems (by decide) r.2⟩)
    (Cert.LogForgetRefIdeal.Value.run (F := Ideal) m ρ)

theorem algebraic_LogForgetIdeal_LogForgetRefIdeal : algebraic_LogForgetIdeal_LogForgetRefIdeal := by
  intro m ρ m' ρ' hpre hagree
  refine ⟨_, (θ_run Cert.LogForgetIdeal.defs _ _).mono (fun _ h c => ⟨(h c).1, (h c).2.2⟩) (Cert.LogForgetIdeal.Value.run_blocks (F := Ideal) m ρ), ?_⟩
  refine (θ_run Cert.LogForgetRefIdeal.defs _ _).mono (fun _ h c => ⟨?_, (h c).2⟩) (Cert.LogForgetRefIdeal.Value.run (F := Ideal) m' ρ')
  rw [(h c).1, Cert.LogForgetIdeal.Result.value m c]
  obtain ⟨h0, h1, h2, h3⟩ := hagree c
  unfold Cert.LogForgetRefIdeal.Value.res_main_v18
  rw [h0, h1, h2, h3]
  rfl

theorem quiescent_QProjRefIdeal : quiescent_QProjRefIdeal := fun m ρ _ =>
  (θ_run Cert.QProjRefIdeal.defs _ _).mono (fun r h => ⟨fun c => (h c).2, sem_eq_zero_of_no_sems (by decide) r.2⟩)
    (Cert.QProjRefIdeal.Value.run (F := Ideal) m ρ)

theorem algebraic_QProjIdeal_QProjRefIdeal : algebraic_QProjIdeal_QProjRefIdeal := by
  intro m ρ m' ρ' hpre hagree
  refine ⟨_, Cert.QProjIdeal.Value.run_blocks (F := Ideal) m ρ, ?_⟩
  refine (θ_run Cert.QProjRefIdeal.defs _ _).mono (fun _ h c => ⟨?_, (h c).2⟩) (Cert.QProjRefIdeal.Value.run (F := Ideal) m' ρ')
  rw [(h c).1, Cert.QProjIdeal.Result.value m c]
  obtain ⟨h0, h1, h2, h3⟩ := hagree c
  rw [h0, h1, h2, h3]
  rfl

theorem quiescent_OProjRefIdeal : quiescent_OProjRefIdeal := fun m ρ _ =>
  (θ_run Cert.OProjRefIdeal.defs _ _).mono (fun r h => ⟨fun c => (h c).2, sem_eq_zero_of_no_sems (by decide) r.2⟩)
    (Cert.OProjRefIdeal.Value.run (F := Ideal) m ρ)

theorem algebraic_OProjIdeal_OProjRefIdeal : algebraic_OProjIdeal_OProjRefIdeal := by
  intro m ρ m' ρ' hpre hagree
  refine ⟨_, Cert.OProjIdeal.Value.run_blocks (F := Ideal) m ρ, ?_⟩
  refine (θ_run Cert.OProjRefIdeal.defs _ _).mono (fun _ h c => ⟨?_, (h c).2⟩) (Cert.OProjRefIdeal.Value.run (F := Ideal) m' ρ')
  rw [(h c).1, Cert.OProjIdeal.Result.value m c]
  obtain ⟨h0, h1, h2⟩ := hagree c
  rw [h0, h1, h2]
  rfl

theorem quiescent_KvSampleRefIdeal : quiescent_KvSampleRefIdeal := fun m ρ _ =>
  (θ_run Cert.KvSampleRefIdeal.defs _ _).mono (fun r h => ⟨fun c => (h c).2, sem_eq_zero_of_no_sems (by decide) r.2⟩)
    (Cert.KvSampleRefIdeal.Value.run (F := Ideal) m ρ)

theorem algebraic_KvSampleIdeal_KvSampleRefIdeal : algebraic_KvSampleIdeal_KvSampleRefIdeal := by
  intro m ρ m' ρ' hpre hagree
  refine ⟨_, Cert.KvSampleIdeal.Value.run_blocks (F := Ideal) m ρ, ?_⟩
  refine (θ_run Cert.KvSampleRefIdeal.defs _ _).mono (fun _ h c => ⟨?_, (h c).2⟩) (Cert.KvSampleRefIdeal.Value.run (F := Ideal) m' ρ')
  rw [(h c).1, Cert.KvSampleIdeal.Result.value m c]
  obtain ⟨h0, h1, h2, h3⟩ := hagree c
  unfold Cert.KvSampleRefIdeal.Value.res_main_v32
  rw [h0, h1, h2, h3]
  rfl

theorem quiescent_ForgetSampleRefIdeal : quiescent_ForgetSampleRefIdeal := fun m ρ _ =>
  (θ_run Cert.ForgetSampleRefIdeal.defs _ _).mono (fun r h => ⟨fun c => (h c).2, sem_eq_zero_of_no_sems (by decide) r.2⟩)
    (Cert.ForgetSampleRefIdeal.Value.run (F := Ideal) m ρ)

theorem algebraic_ForgetSampleIdeal_ForgetSampleRefIdeal : algebraic_ForgetSampleIdeal_ForgetSampleRefIdeal := by
  intro m ρ m' ρ' hpre hagree
  refine ⟨_, Cert.ForgetSampleIdeal.Value.run_blocks (F := Ideal) m ρ, ?_⟩
  refine (θ_run Cert.ForgetSampleRefIdeal.defs _ _).mono (fun _ h c => ⟨?_, (h c).2⟩) (Cert.ForgetSampleRefIdeal.Value.run (F := Ideal) m' ρ')
  rw [(h c).1, Cert.ForgetSampleIdeal.Result.value m c]
  obtain ⟨h0, h1, h2, h3⟩ := hagree c
  unfold Cert.ForgetSampleRefIdeal.Value.res_main_v18
  rw [h0, h1, h2, h3]
  rfl

theorem quiescent_MixerRefIdeal : quiescent_MixerRefIdeal := fun m ρ _ =>
  (θ_run Cert.MixerRefIdeal.defs _ _).mono (fun r h => ⟨fun c => (h c).2, sem_eq_zero_of_no_sems (by decide) r.2⟩)
    (Cert.MixerRefIdeal.Value.run (F := Ideal) m ρ)

theorem algebraic_MixerIdeal_MixerRefIdeal : algebraic_MixerIdeal_MixerRefIdeal := by
  intro m ρ m' ρ' hpre hagree
  refine ⟨_, (θ_run Cert.MixerIdeal.defs _ _).mono (fun _ h c => ⟨(h c).2.2.1, (h c).2.2.2⟩) (Cert.MixerIdeal.Value.run_blocks (F := Ideal) m ρ), ?_⟩
  refine (θ_run Cert.MixerRefIdeal.defs _ _).mono (fun _ h c => ⟨?_, (h c).2⟩) (Cert.MixerRefIdeal.Value.run (F := Ideal) m' ρ')
  rw [(h c).1, Cert.MixerIdeal.Result.value m c]
  obtain ⟨h0, h1, h2, h3, h4, h5, h6, h7, h8, h9⟩ := hagree c
  rw [h0, h2]
  rfl

theorem quiescent_MixSampleRefIdeal : quiescent_MixSampleRefIdeal := fun m ρ _ =>
  (θ_run Cert.MixSampleRefIdeal.defs _ _).mono (fun r h => ⟨fun c => (h c).2, sem_eq_zero_of_no_sems (by decide) r.2⟩)
    (Cert.MixSampleRefIdeal.Value.run (F := Ideal) m ρ)

theorem algebraic_MixSampleIdeal_MixSampleRefIdeal : algebraic_MixSampleIdeal_MixSampleRefIdeal := by
  intro m ρ m' ρ' hpre hagree
  refine ⟨_, (θ_run Cert.MixSampleIdeal.defs _ _).mono (fun _ h c => ⟨(h c).2.2.1, (h c).2.2.2⟩) (Cert.MixSampleIdeal.Value.run_blocks (F := Ideal) m ρ), ?_⟩
  refine (θ_run Cert.MixSampleRefIdeal.defs _ _).mono (fun _ h c => ⟨?_, (h c).2⟩) (Cert.MixSampleRefIdeal.Value.run (F := Ideal) m' ρ')
  rw [(h c).1, Cert.MixSampleIdeal.Result.value m c]
  obtain ⟨h0, h1, h2, h3, h4, h5, h6, h7, h8, h9⟩ := hagree c
  rw [h0, h2]
  rfl

theorem claim : Cert.Claim := ⟨Cert.Flash.Gen.facts, Cert.FlashIdeal.Gen.facts, Cert.AttentionIdeal.Gen.facts, Cert.OutProj.Gen.facts, Cert.OutProjIdeal.Gen.facts, Cert.OutProjRefIdeal.Gen.facts, Cert.InProj.Gen.facts, Cert.InProjIdeal.Gen.facts, Cert.InProjRefIdeal.Gen.facts, Cert.Moe.Gen.facts, Cert.MoeIdeal.Gen.facts, Cert.MoeRefIdeal.Gen.facts, Cert.KvProj.Gen.facts, Cert.KvProjIdeal.Gen.facts, Cert.KvProjRefIdeal.Gen.facts, Cert.LogForget.Gen.facts, Cert.LogForgetIdeal.Gen.facts, Cert.LogForgetRefIdeal.Gen.facts, Cert.QProj.Gen.facts, Cert.QProjIdeal.Gen.facts, Cert.QProjRefIdeal.Gen.facts, Cert.OProj.Gen.facts, Cert.OProjIdeal.Gen.facts, Cert.OProjRefIdeal.Gen.facts, Cert.KvSample.Gen.facts, Cert.KvSampleIdeal.Gen.facts, Cert.KvSampleRefIdeal.Gen.facts, Cert.ForgetSample.Gen.facts, Cert.ForgetSampleIdeal.Gen.facts, Cert.ForgetSampleRefIdeal.Gen.facts, Cert.Mixer.Gen.facts, Cert.MixerIdeal.Gen.facts, Cert.MixerRefIdeal.Gen.facts, Cert.MixSample.Gen.facts, Cert.MixSampleIdeal.Gen.facts, Cert.MixSampleRefIdeal.Gen.facts, Cert.Pre_finite.Gen.facts, Cert.Pre_routed.Gen.facts,
  fun m ρ _ => Cert.Flash.Gen.frame m ρ,
  fun m ρ _ => Cert.FlashIdeal.Gen.frame m ρ,
  fun m ρ _ => Cert.FlashIdeal.Gen.frame m ρ,
  quiescent_AttentionIdeal,
  quiescent_AttentionIdeal_pre_finite,
  fun m ρ _ => Cert.OutProj.Gen.frame m ρ,
  fun m ρ _ => Cert.OutProjIdeal.Gen.frame m ρ,
  quiescent_OutProjRefIdeal,
  fun m ρ _ => Cert.InProj.Gen.frame m ρ,
  fun m ρ _ => Cert.InProjIdeal.Gen.frame m ρ,
  quiescent_InProjRefIdeal,
  fun m ρ _ => Cert.Moe.Run.frame m ρ,
  fun m ρ _ => Cert.MoeIdeal.Run.frame m ρ,
  fun m ρ _ => Cert.MoeIdeal.Run.frame m ρ,
  quiescent_MoeRefIdeal,
  quiescent_MoeRefIdeal_pre_routed,
  fun m ρ _ => Cert.KvProj.Gen.frame m ρ,
  fun m ρ _ => Cert.KvProjIdeal.Gen.frame m ρ,
  quiescent_KvProjRefIdeal,
  fun m ρ _ => Cert.LogForget.Gen.frame m ρ,
  fun m ρ _ => Cert.LogForgetIdeal.Gen.frame m ρ,
  quiescent_LogForgetRefIdeal,
  fun m ρ _ => Cert.QProj.Gen.frame m ρ,
  fun m ρ _ => Cert.QProjIdeal.Gen.frame m ρ,
  quiescent_QProjRefIdeal,
  fun m ρ _ => Cert.OProj.Gen.frame m ρ,
  fun m ρ _ => Cert.OProjIdeal.Gen.frame m ρ,
  quiescent_OProjRefIdeal,
  fun m ρ _ => Cert.KvSample.Gen.frame m ρ,
  fun m ρ _ => Cert.KvSampleIdeal.Gen.frame m ρ,
  quiescent_KvSampleRefIdeal,
  fun m ρ _ => Cert.ForgetSample.Gen.frame m ρ,
  fun m ρ _ => Cert.ForgetSampleIdeal.Gen.frame m ρ,
  quiescent_ForgetSampleRefIdeal,
  fun m ρ _ => Cert.Mixer.Gen.frame m ρ,
  fun m ρ _ => Cert.MixerIdeal.Gen.frame m ρ,
  quiescent_MixerRefIdeal,
  fun m ρ _ => Cert.MixSample.Gen.frame m ρ,
  fun m ρ _ => Cert.MixSampleIdeal.Gen.frame m ρ,
  quiescent_MixSampleRefIdeal,
  (trivial : preserves_Flash_FlashIdeal),
  algebraic_FlashIdeal_AttentionIdeal_pre_finite,
  (trivial : preserves_OutProj_OutProjIdeal),
  algebraic_OutProjIdeal_OutProjRefIdeal,
  (trivial : preserves_InProj_InProjIdeal),
  algebraic_InProjIdeal_InProjRefIdeal,
  (trivial : preserves_Moe_MoeIdeal),
  algebraic_MoeIdeal_MoeRefIdeal_pre_routed,
  (trivial : preserves_KvProj_KvProjIdeal),
  algebraic_KvProjIdeal_KvProjRefIdeal,
  (trivial : preserves_LogForget_LogForgetIdeal),
  algebraic_LogForgetIdeal_LogForgetRefIdeal,
  (trivial : preserves_QProj_QProjIdeal),
  algebraic_QProjIdeal_QProjRefIdeal,
  (trivial : preserves_OProj_OProjIdeal),
  algebraic_OProjIdeal_OProjRefIdeal,
  (trivial : preserves_KvSample_KvSampleIdeal),
  algebraic_KvSampleIdeal_KvSampleRefIdeal,
  (trivial : preserves_ForgetSample_ForgetSampleIdeal),
  algebraic_ForgetSampleIdeal_ForgetSampleRefIdeal,
  (trivial : preserves_Mixer_MixerIdeal),
  algebraic_MixerIdeal_MixerRefIdeal,
  (trivial : preserves_MixSample_MixSampleIdeal),
  algebraic_MixSampleIdeal_MixSampleRefIdeal⟩

end Cert.Proof

end
